-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_PoolGateKernel (m : (ℓ : Loc Cert.PoolGateKernel.nD Cert.PoolGateKernel.τ Cert.PoolGateKernel.sig) → Buf (Elt Bits) ℓ) : Prop :=
  True

def Pre_PoolGateKernelIdeal (m : (ℓ : Loc Cert.PoolGateKernelIdeal.nD Cert.PoolGateKernelIdeal.τ Cert.PoolGateKernelIdeal.sig) → Buf (Elt Ideal) ℓ) : Prop :=
  True

def Pre_PoolGateKernelIdeal_pgate_finite [hPre_pgate_finite : Cert.Pre_pgate_finite.Facts] (m : (ℓ : Loc Cert.PoolGateKernelIdeal.nD Cert.PoolGateKernelIdeal.τ Cert.PoolGateKernelIdeal.sig) → Buf (Elt Ideal) ℓ) : Prop :=
  ∀ c : Dev Cert.PoolGateKernelIdeal.nD,
    (Cert.Pre_pgate_finite.fn (F := Ideal) (m ((c.tc : Thread Cert.PoolGateKernelIdeal.nD Cert.PoolGateKernelIdeal.τ).loc Cert.PoolGateKernelIdeal.main_arg0)) (m ((c.tc : Thread Cert.PoolGateKernelIdeal.nD Cert.PoolGateKernelIdeal.τ).loc Cert.PoolGateKernelIdeal.main_arg1)) (m ((c.tc : Thread Cert.PoolGateKernelIdeal.nD Cert.PoolGateKernelIdeal.τ).loc Cert.PoolGateKernelIdeal.main_arg2)) (m ((c.tc : Thread Cert.PoolGateKernelIdeal.nD Cert.PoolGateKernelIdeal.τ).loc Cert.PoolGateKernelIdeal.main_arg3)) (m ((c.tc : Thread Cert.PoolGateKernelIdeal.nD Cert.PoolGateKernelIdeal.τ).loc Cert.PoolGateKernelIdeal.main_arg4))) = (fun _ => 1#1)

def Pre_PoolGateReferenceIdeal (m : (ℓ : Loc Cert.PoolGateReferenceIdeal.nD Cert.PoolGateReferenceIdeal.τ Cert.PoolGateReferenceIdeal.sig) → Buf (Elt Ideal) ℓ) : Prop :=
  True

def Pre_PoolGateReferenceIdeal_pgate_finite [hPre_pgate_finite : Cert.Pre_pgate_finite.Facts] (m : (ℓ : Loc Cert.PoolGateReferenceIdeal.nD Cert.PoolGateReferenceIdeal.τ Cert.PoolGateReferenceIdeal.sig) → Buf (Elt Ideal) ℓ) : Prop :=
  ∀ c : Dev Cert.PoolGateReferenceIdeal.nD,
    (Cert.Pre_pgate_finite.fn (F := Ideal) (m ((c.tc : Thread Cert.PoolGateReferenceIdeal.nD Cert.PoolGateReferenceIdeal.τ).loc Cert.PoolGateReferenceIdeal.main_arg0)) (m ((c.tc : Thread Cert.PoolGateReferenceIdeal.nD Cert.PoolGateReferenceIdeal.τ).loc Cert.PoolGateReferenceIdeal.main_arg1)) (m ((c.tc : Thread Cert.PoolGateReferenceIdeal.nD Cert.PoolGateReferenceIdeal.τ).loc Cert.PoolGateReferenceIdeal.main_arg2)) (m ((c.tc : Thread Cert.PoolGateReferenceIdeal.nD Cert.PoolGateReferenceIdeal.τ).loc Cert.PoolGateReferenceIdeal.main_arg3)) (m ((c.tc : Thread Cert.PoolGateReferenceIdeal.nD Cert.PoolGateReferenceIdeal.τ).loc Cert.PoolGateReferenceIdeal.main_arg4))) = (fun _ => 1#1)

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsKernelIdeal_rms_finite [hPre_rms_finite : Cert.Pre_rms_finite.Facts] (m : (ℓ : Loc Cert.RmsKernelIdeal.nD Cert.RmsKernelIdeal.τ Cert.RmsKernelIdeal.sig) → Buf (Elt Ideal) ℓ) : Prop :=
  ∀ c : Dev Cert.RmsKernelIdeal.nD,
    (Cert.Pre_rms_finite.fn (F := Ideal) (m ((c.tc : Thread Cert.RmsKernelIdeal.nD Cert.RmsKernelIdeal.τ).loc Cert.RmsKernelIdeal.main_arg0)) (m ((c.tc : Thread Cert.RmsKernelIdeal.nD Cert.RmsKernelIdeal.τ).loc Cert.RmsKernelIdeal.main_arg1)) (m ((c.tc : Thread Cert.RmsKernelIdeal.nD Cert.RmsKernelIdeal.τ).loc Cert.RmsKernelIdeal.main_arg2)) (m ((c.tc : Thread Cert.RmsKernelIdeal.nD Cert.RmsKernelIdeal.τ).loc Cert.RmsKernelIdeal.main_arg3)) (m ((c.tc : Thread Cert.RmsKernelIdeal.nD Cert.RmsKernelIdeal.τ).loc Cert.RmsKernelIdeal.main_arg4))) = (fun _ => 1#1)

def Pre_RmsReferenceIdeal (m : (ℓ : Loc Cert.RmsReferenceIdeal.nD Cert.RmsReferenceIdeal.τ Cert.RmsReferenceIdeal.sig) → Buf (Elt Ideal) ℓ) : Prop :=
  True

def Pre_RmsReferenceIdeal_rms_finite [hPre_rms_finite : Cert.Pre_rms_finite.Facts] (m : (ℓ : Loc Cert.RmsReferenceIdeal.nD Cert.RmsReferenceIdeal.τ Cert.RmsReferenceIdeal.sig) → Buf (Elt Ideal) ℓ) : Prop :=
  ∀ c : Dev Cert.RmsReferenceIdeal.nD,
    (Cert.Pre_rms_finite.fn (F := Ideal) (m ((c.tc : Thread Cert.RmsReferenceIdeal.nD Cert.RmsReferenceIdeal.τ).loc Cert.RmsReferenceIdeal.main_arg0)) (m ((c.tc : Thread Cert.RmsReferenceIdeal.nD Cert.RmsReferenceIdeal.τ).loc Cert.RmsReferenceIdeal.main_arg1)) (m ((c.tc : Thread Cert.RmsReferenceIdeal.nD Cert.RmsReferenceIdeal.τ).loc Cert.RmsReferenceIdeal.main_arg2)) (m ((c.tc : Thread Cert.RmsReferenceIdeal.nD Cert.RmsReferenceIdeal.τ).loc Cert.RmsReferenceIdeal.main_arg3)) (m ((c.tc : Thread Cert.RmsReferenceIdeal.nD Cert.RmsReferenceIdeal.τ).loc Cert.RmsReferenceIdeal.main_arg4))) = (fun _ => 1#1)

def Pre_WoutKernel (m : (ℓ : Loc Cert.WoutKernel.nD Cert.WoutKernel.τ Cert.WoutKernel.sig) → Buf (Elt Bits) ℓ) : Prop :=
  True

def Pre_WoutKernelIdeal (m : (ℓ : Loc Cert.WoutKernelIdeal.nD Cert.WoutKernelIdeal.τ Cert.WoutKernelIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_SbinKernel (m : (ℓ : Loc Cert.SbinKernel.nD Cert.SbinKernel.τ Cert.SbinKernel.sig) → Buf (Elt Bits) ℓ) : Prop :=
  True

def Pre_SbinKernelIdeal (m : (ℓ : Loc Cert.SbinKernelIdeal.nD Cert.SbinKernelIdeal.τ Cert.SbinKernelIdeal.sig) → Buf (Elt Ideal) ℓ) : Prop :=
  True

def Pre_SbinReferenceIdeal (m : (ℓ : Loc Cert.SbinReferenceIdeal.nD Cert.SbinReferenceIdeal.τ Cert.SbinReferenceIdeal.sig) → Buf (Elt Ideal) ℓ) : Prop :=
  True

def Pre_PinKernel (m : (ℓ : Loc Cert.PinKernel.nD Cert.PinKernel.τ Cert.PinKernel.sig) → Buf (Elt Bits) ℓ) : Prop :=
  True

def Pre_PinKernelIdeal (m : (ℓ : Loc Cert.PinKernelIdeal.nD Cert.PinKernelIdeal.τ Cert.PinKernelIdeal.sig) → Buf (Elt Ideal) ℓ) : Prop :=
  True

def Pre_PinReferenceIdeal (m : (ℓ : Loc Cert.PinReferenceIdeal.nD Cert.PinReferenceIdeal.τ Cert.PinReferenceIdeal.sig) → Buf (Elt Ideal) ℓ) : Prop :=
  True

def Pre_PwKernel (m : (ℓ : Loc Cert.PwKernel.nD Cert.PwKernel.τ Cert.PwKernel.sig) → Buf (Elt Bits) ℓ) : Prop :=
  True

def Pre_PwKernelIdeal (m : (ℓ : Loc Cert.PwKernelIdeal.nD Cert.PwKernelIdeal.τ Cert.PwKernelIdeal.sig) → Buf (Elt Ideal) ℓ) : Prop :=
  True

def Pre_PwReferenceIdeal (m : (ℓ : Loc Cert.PwReferenceIdeal.nD Cert.PwReferenceIdeal.τ Cert.PwReferenceIdeal.sig) → Buf (Elt Ideal) ℓ) : Prop :=
  True

def Pre_ResKernel (m : (ℓ : Loc Cert.ResKernel.nD Cert.ResKernel.τ Cert.ResKernel.sig) → Buf (Elt Bits) ℓ) : Prop :=
  True

def Pre_ResKernelIdeal (m : (ℓ : Loc Cert.ResKernelIdeal.nD Cert.ResKernelIdeal.τ Cert.ResKernelIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_PprojKernel (m : (ℓ : Loc Cert.PprojKernel.nD Cert.PprojKernel.τ Cert.PprojKernel.sig) → Buf (Elt Bits) ℓ) : Prop :=
  True

def Pre_PprojKernelIdeal (m : (ℓ : Loc Cert.PprojKernelIdeal.nD Cert.PprojKernelIdeal.τ Cert.PprojKernelIdeal.sig) → Buf (Elt Ideal) ℓ) : Prop :=
  True

def Pre_PprojReferenceIdeal (m : (ℓ : Loc Cert.PprojReferenceIdeal.nD Cert.PprojReferenceIdeal.τ Cert.PprojReferenceIdeal.sig) → Buf (Elt Ideal) ℓ) : Prop :=
  True

def Pre_SprojKernel (m : (ℓ : Loc Cert.SprojKernel.nD Cert.SprojKernel.τ Cert.SprojKernel.sig) → Buf (Elt Bits) ℓ) : Prop :=
  True

def Pre_SprojKernelIdeal (m : (ℓ : Loc Cert.SprojKernelIdeal.nD Cert.SprojKernelIdeal.τ Cert.SprojKernelIdeal.sig) → Buf (Elt Ideal) ℓ) : Prop :=
  True

def Pre_SprojReferenceIdeal (m : (ℓ : Loc Cert.SprojReferenceIdeal.nD Cert.SprojReferenceIdeal.τ Cert.SprojReferenceIdeal.sig) → Buf (Elt Ideal) ℓ) : Prop :=
  True

def Pre_RmspKernel (m : (ℓ : Loc Cert.RmspKernel.nD Cert.RmspKernel.τ Cert.RmspKernel.sig) → Buf (Elt Bits) ℓ) : Prop :=
  True

def Pre_RmspKernelIdeal (m : (ℓ : Loc Cert.RmspKernelIdeal.nD Cert.RmspKernelIdeal.τ Cert.RmspKernelIdeal.sig) → Buf (Elt Ideal) ℓ) : Prop :=
  True

def Pre_RmspKernelIdeal_rmsp_finite [hPre_rmsp_finite : Cert.Pre_rmsp_finite.Facts] (m : (ℓ : Loc Cert.RmspKernelIdeal.nD Cert.RmspKernelIdeal.τ Cert.RmspKernelIdeal.sig) → Buf (Elt Ideal) ℓ) : Prop :=
  ∀ c : Dev Cert.RmspKernelIdeal.nD,
    (Cert.Pre_rmsp_finite.fn (F := Ideal) (m ((c.tc : Thread Cert.RmspKernelIdeal.nD Cert.RmspKernelIdeal.τ).loc Cert.RmspKernelIdeal.main_arg0)) (m ((c.tc : Thread Cert.RmspKernelIdeal.nD Cert.RmspKernelIdeal.τ).loc Cert.RmspKernelIdeal.main_arg1)) (m ((c.tc : Thread Cert.RmspKernelIdeal.nD Cert.RmspKernelIdeal.τ).loc Cert.RmspKernelIdeal.main_arg2)) (m ((c.tc : Thread Cert.RmspKernelIdeal.nD Cert.RmspKernelIdeal.τ).loc Cert.RmspKernelIdeal.main_arg3)) (m ((c.tc : Thread Cert.RmspKernelIdeal.nD Cert.RmspKernelIdeal.τ).loc Cert.RmspKernelIdeal.main_arg4))) = (fun _ => 1#1)

def Pre_RmspReferenceIdeal (m : (ℓ : Loc Cert.RmspReferenceIdeal.nD Cert.RmspReferenceIdeal.τ Cert.RmspReferenceIdeal.sig) → Buf (Elt Ideal) ℓ) : Prop :=
  True

def Pre_RmspReferenceIdeal_rmsp_finite [hPre_rmsp_finite : Cert.Pre_rmsp_finite.Facts] (m : (ℓ : Loc Cert.RmspReferenceIdeal.nD Cert.RmspReferenceIdeal.τ Cert.RmspReferenceIdeal.sig) → Buf (Elt Ideal) ℓ) : Prop :=
  ∀ c : Dev Cert.RmspReferenceIdeal.nD,
    (Cert.Pre_rmsp_finite.fn (F := Ideal) (m ((c.tc : Thread Cert.RmspReferenceIdeal.nD Cert.RmspReferenceIdeal.τ).loc Cert.RmspReferenceIdeal.main_arg0)) (m ((c.tc : Thread Cert.RmspReferenceIdeal.nD Cert.RmspReferenceIdeal.τ).loc Cert.RmspReferenceIdeal.main_arg1)) (m ((c.tc : Thread Cert.RmspReferenceIdeal.nD Cert.RmspReferenceIdeal.τ).loc Cert.RmspReferenceIdeal.main_arg2)) (m ((c.tc : Thread Cert.RmspReferenceIdeal.nD Cert.RmspReferenceIdeal.τ).loc Cert.RmspReferenceIdeal.main_arg3)) (m ((c.tc : Thread Cert.RmspReferenceIdeal.nD Cert.RmspReferenceIdeal.τ).loc Cert.RmspReferenceIdeal.main_arg4))) = (fun _ => 1#1)

def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadKernelIdeal_head_finite [hPre_head_finite : Cert.Pre_head_finite.Facts] (m : (ℓ : Loc Cert.HeadKernelIdeal.nD Cert.HeadKernelIdeal.τ Cert.HeadKernelIdeal.sig) → Buf (Elt Ideal) ℓ) : Prop :=
  ∀ c : Dev Cert.HeadKernelIdeal.nD,
    (Cert.Pre_head_finite.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2)) (m ((c.tc : Thread Cert.HeadKernelIdeal.nD Cert.HeadKernelIdeal.τ).loc Cert.HeadKernelIdeal.main_arg3)) (m ((c.tc : Thread Cert.HeadKernelIdeal.nD Cert.HeadKernelIdeal.τ).loc Cert.HeadKernelIdeal.main_arg4))) = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_head_finite [hPre_head_finite : Cert.Pre_head_finite.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_head_finite.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4))) = (fun _ => 1#1)

def Pre_PoolFwdKernel (m : (ℓ : Loc Cert.PoolFwdKernel.nD Cert.PoolFwdKernel.τ Cert.PoolFwdKernel.sig) → Buf (Elt Bits) ℓ) : Prop :=
  True

def Pre_PoolFwdKernelIdeal (m : (ℓ : Loc Cert.PoolFwdKernelIdeal.nD Cert.PoolFwdKernelIdeal.τ Cert.PoolFwdKernelIdeal.sig) → Buf (Elt Ideal) ℓ) : Prop :=
  True

def Pre_PoolFwdKernelIdeal_poolf_finite [hPre_poolf_finite : Cert.Pre_poolf_finite.Facts] (m : (ℓ : Loc Cert.PoolFwdKernelIdeal.nD Cert.PoolFwdKernelIdeal.τ Cert.PoolFwdKernelIdeal.sig) → Buf (Elt Ideal) ℓ) : Prop :=
  ∀ c : Dev Cert.PoolFwdKernelIdeal.nD,
    (Cert.Pre_poolf_finite.fn (F := Ideal) (m ((c.tc : Thread Cert.PoolFwdKernelIdeal.nD Cert.PoolFwdKernelIdeal.τ).loc Cert.PoolFwdKernelIdeal.main_arg0)) (m ((c.tc : Thread Cert.PoolFwdKernelIdeal.nD Cert.PoolFwdKernelIdeal.τ).loc Cert.PoolFwdKernelIdeal.main_arg1)) (m ((c.tc : Thread Cert.PoolFwdKernelIdeal.nD Cert.PoolFwdKernelIdeal.τ).loc Cert.PoolFwdKernelIdeal.main_arg2))) = (fun _ => 1#1)

def Pre_PoolFwdReferenceIdeal (m : (ℓ : Loc Cert.PoolFwdReferenceIdeal.nD Cert.PoolFwdReferenceIdeal.τ Cert.PoolFwdReferenceIdeal.sig) → Buf (Elt Ideal) ℓ) : Prop :=
  True

def Pre_PoolFwdReferenceIdeal_poolf_finite [hPre_poolf_finite : Cert.Pre_poolf_finite.Facts] (m : (ℓ : Loc Cert.PoolFwdReferenceIdeal.nD Cert.PoolFwdReferenceIdeal.τ Cert.PoolFwdReferenceIdeal.sig) → Buf (Elt Ideal) ℓ) : Prop :=
  ∀ c : Dev Cert.PoolFwdReferenceIdeal.nD,
    (Cert.Pre_poolf_finite.fn (F := Ideal) (m ((c.tc : Thread Cert.PoolFwdReferenceIdeal.nD Cert.PoolFwdReferenceIdeal.τ).loc Cert.PoolFwdReferenceIdeal.main_arg0)) (m ((c.tc : Thread Cert.PoolFwdReferenceIdeal.nD Cert.PoolFwdReferenceIdeal.τ).loc Cert.PoolFwdReferenceIdeal.main_arg1)) (m ((c.tc : Thread Cert.PoolFwdReferenceIdeal.nD Cert.PoolFwdReferenceIdeal.τ).loc Cert.PoolFwdReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_PoolGateKernel [hPoolGateKernel : Cert.PoolGateKernel.Facts] : Prop :=
  ∀ (m : (ℓ : Loc Cert.PoolGateKernel.nD Cert.PoolGateKernel.τ Cert.PoolGateKernel.sig) → Buf (Elt Bits) ℓ) (g : Dev Cert.PoolGateKernel.nD → PrngReg), Pre_PoolGateKernel m →
    θ_run (Cert.PoolGateKernel.defs (F := Bits)) (onTc (τ := Cert.PoolGateKernel.τ) (Cert.PoolGateKernel.main (F := Bits))) ⟨m, fun _ => 0, g⟩ (fun r => (∀ c : Dev Cert.PoolGateKernel.nD,
      r.2.mem ((c.tc : Thread Cert.PoolGateKernel.nD Cert.PoolGateKernel.τ).loc Cert.PoolGateKernel.main_arg0) = m ((c.tc : Thread Cert.PoolGateKernel.nD Cert.PoolGateKernel.τ).loc Cert.PoolGateKernel.main_arg0)
      ∧ r.2.mem ((c.tc : Thread Cert.PoolGateKernel.nD Cert.PoolGateKernel.τ).loc Cert.PoolGateKernel.main_arg1) = m ((c.tc : Thread Cert.PoolGateKernel.nD Cert.PoolGateKernel.τ).loc Cert.PoolGateKernel.main_arg1)
      ∧ r.2.mem ((c.tc : Thread Cert.PoolGateKernel.nD Cert.PoolGateKernel.τ).loc Cert.PoolGateKernel.main_arg2) = m ((c.tc : Thread Cert.PoolGateKernel.nD Cert.PoolGateKernel.τ).loc Cert.PoolGateKernel.main_arg2)
      ∧ r.2.mem ((c.tc : Thread Cert.PoolGateKernel.nD Cert.PoolGateKernel.τ).loc Cert.PoolGateKernel.main_arg3) = m ((c.tc : Thread Cert.PoolGateKernel.nD Cert.PoolGateKernel.τ).loc Cert.PoolGateKernel.main_arg3)
      ∧ r.2.mem ((c.tc : Thread Cert.PoolGateKernel.nD Cert.PoolGateKernel.τ).loc Cert.PoolGateKernel.main_arg4) = m ((c.tc : Thread Cert.PoolGateKernel.nD Cert.PoolGateKernel.τ).loc Cert.PoolGateKernel.main_arg4))
      ∧ r.2.sem = fun _ => 0)

def quiescent_PoolGateKernelIdeal [hPoolGateKernelIdeal : Cert.PoolGateKernelIdeal.Facts] : Prop :=
  ∀ (m : (ℓ : Loc Cert.PoolGateKernelIdeal.nD Cert.PoolGateKernelIdeal.τ Cert.PoolGateKernelIdeal.sig) → Buf (Elt Ideal) ℓ) (g : Dev Cert.PoolGateKernelIdeal.nD → PrngReg), Pre_PoolGateKernelIdeal m →
    θ_run (Cert.PoolGateKernelIdeal.defs (F := Ideal)) (onTc (τ := Cert.PoolGateKernelIdeal.τ) (Cert.PoolGateKernelIdeal.main (F := Ideal))) ⟨m, fun _ => 0, g⟩ (fun r => (∀ c : Dev Cert.PoolGateKernelIdeal.nD,
      r.2.mem ((c.tc : Thread Cert.PoolGateKernelIdeal.nD Cert.PoolGateKernelIdeal.τ).loc Cert.PoolGateKernelIdeal.main_arg0) = m ((c.tc : Thread Cert.PoolGateKernelIdeal.nD Cert.PoolGateKernelIdeal.τ).loc Cert.PoolGateKernelIdeal.main_arg0)
      ∧ r.2.mem ((c.tc : Thread Cert.PoolGateKernelIdeal.nD Cert.PoolGateKernelIdeal.τ).loc Cert.PoolGateKernelIdeal.main_arg1) = m ((c.tc : Thread Cert.PoolGateKernelIdeal.nD Cert.PoolGateKernelIdeal.τ).loc Cert.PoolGateKernelIdeal.main_arg1)
      ∧ r.2.mem ((c.tc : Thread Cert.PoolGateKernelIdeal.nD Cert.PoolGateKernelIdeal.τ).loc Cert.PoolGateKernelIdeal.main_arg2) = m ((c.tc : Thread Cert.PoolGateKernelIdeal.nD Cert.PoolGateKernelIdeal.τ).loc Cert.PoolGateKernelIdeal.main_arg2)
      ∧ r.2.mem ((c.tc : Thread Cert.PoolGateKernelIdeal.nD Cert.PoolGateKernelIdeal.τ).loc Cert.PoolGateKernelIdeal.main_arg3) = m ((c.tc : Thread Cert.PoolGateKernelIdeal.nD Cert.PoolGateKernelIdeal.τ).loc Cert.PoolGateKernelIdeal.main_arg3)
      ∧ r.2.mem ((c.tc : Thread Cert.PoolGateKernelIdeal.nD Cert.PoolGateKernelIdeal.τ).loc Cert.PoolGateKernelIdeal.main_arg4) = m ((c.tc : Thread Cert.PoolGateKernelIdeal.nD Cert.PoolGateKernelIdeal.τ).loc Cert.PoolGateKernelIdeal.main_arg4))
      ∧ r.2.sem = fun _ => 0)

def quiescent_PoolGateKernelIdeal_pre_pgate_finite [hPoolGateKernelIdeal : Cert.PoolGateKernelIdeal.Facts] [hPre_pgate_finite : Cert.Pre_pgate_finite.Facts] : Prop :=
  ∀ (m : (ℓ : Loc Cert.PoolGateKernelIdeal.nD Cert.PoolGateKernelIdeal.τ Cert.PoolGateKernelIdeal.sig) → Buf (Elt Ideal) ℓ) (g : Dev Cert.PoolGateKernelIdeal.nD → PrngReg), Pre_PoolGateKernelIdeal_pgate_finite m →
    θ_run (Cert.PoolGateKernelIdeal.defs (F := Ideal)) (onTc (τ := Cert.PoolGateKernelIdeal.τ) (Cert.PoolGateKernelIdeal.main (F := Ideal))) ⟨m, fun _ => 0, g⟩ (fun r => (∀ c : Dev Cert.PoolGateKernelIdeal.nD,
      r.2.mem ((c.tc : Thread Cert.PoolGateKernelIdeal.nD Cert.PoolGateKernelIdeal.τ).loc Cert.PoolGateKernelIdeal.main_arg0) = m ((c.tc : Thread Cert.PoolGateKernelIdeal.nD Cert.PoolGateKernelIdeal.τ).loc Cert.PoolGateKernelIdeal.main_arg0)
      ∧ r.2.mem ((c.tc : Thread Cert.PoolGateKernelIdeal.nD Cert.PoolGateKernelIdeal.τ).loc Cert.PoolGateKernelIdeal.main_arg1) = m ((c.tc : Thread Cert.PoolGateKernelIdeal.nD Cert.PoolGateKernelIdeal.τ).loc Cert.PoolGateKernelIdeal.main_arg1)
      ∧ r.2.mem ((c.tc : Thread Cert.PoolGateKernelIdeal.nD Cert.PoolGateKernelIdeal.τ).loc Cert.PoolGateKernelIdeal.main_arg2) = m ((c.tc : Thread Cert.PoolGateKernelIdeal.nD Cert.PoolGateKernelIdeal.τ).loc Cert.PoolGateKernelIdeal.main_arg2)
      ∧ r.2.mem ((c.tc : Thread Cert.PoolGateKernelIdeal.nD Cert.PoolGateKernelIdeal.τ).loc Cert.PoolGateKernelIdeal.main_arg3) = m ((c.tc : Thread Cert.PoolGateKernelIdeal.nD Cert.PoolGateKernelIdeal.τ).loc Cert.PoolGateKernelIdeal.main_arg3)
      ∧ r.2.mem ((c.tc : Thread Cert.PoolGateKernelIdeal.nD Cert.PoolGateKernelIdeal.τ).loc Cert.PoolGateKernelIdeal.main_arg4) = m ((c.tc : Thread Cert.PoolGateKernelIdeal.nD Cert.PoolGateKernelIdeal.τ).loc Cert.PoolGateKernelIdeal.main_arg4))
      ∧ r.2.sem = fun _ => 0)

def quiescent_PoolGateReferenceIdeal [hPoolGateReferenceIdeal : Cert.PoolGateReferenceIdeal.Facts] : Prop :=
  ∀ (m : (ℓ : Loc Cert.PoolGateReferenceIdeal.nD Cert.PoolGateReferenceIdeal.τ Cert.PoolGateReferenceIdeal.sig) → Buf (Elt Ideal) ℓ) (g : Dev Cert.PoolGateReferenceIdeal.nD → PrngReg), Pre_PoolGateReferenceIdeal m →
    θ_run (Cert.PoolGateReferenceIdeal.defs (F := Ideal)) (onTc (τ := Cert.PoolGateReferenceIdeal.τ) (Cert.PoolGateReferenceIdeal.main (F := Ideal))) ⟨m, fun _ => 0, g⟩ (fun r => (∀ c : Dev Cert.PoolGateReferenceIdeal.nD,
      r.2.mem ((c.tc : Thread Cert.PoolGateReferenceIdeal.nD Cert.PoolGateReferenceIdeal.τ).loc Cert.PoolGateReferenceIdeal.main_arg0) = m ((c.tc : Thread Cert.PoolGateReferenceIdeal.nD Cert.PoolGateReferenceIdeal.τ).loc Cert.PoolGateReferenceIdeal.main_arg0)
      ∧ r.2.mem ((c.tc : Thread Cert.PoolGateReferenceIdeal.nD Cert.PoolGateReferenceIdeal.τ).loc Cert.PoolGateReferenceIdeal.main_arg1) = m ((c.tc : Thread Cert.PoolGateReferenceIdeal.nD Cert.PoolGateReferenceIdeal.τ).loc Cert.PoolGateReferenceIdeal.main_arg1)
      ∧ r.2.mem ((c.tc : Thread Cert.PoolGateReferenceIdeal.nD Cert.PoolGateReferenceIdeal.τ).loc Cert.PoolGateReferenceIdeal.main_arg2) = m ((c.tc : Thread Cert.PoolGateReferenceIdeal.nD Cert.PoolGateReferenceIdeal.τ).loc Cert.PoolGateReferenceIdeal.main_arg2)
      ∧ r.2.mem ((c.tc : Thread Cert.PoolGateReferenceIdeal.nD Cert.PoolGateReferenceIdeal.τ).loc Cert.PoolGateReferenceIdeal.main_arg3) = m ((c.tc : Thread Cert.PoolGateReferenceIdeal.nD Cert.PoolGateReferenceIdeal.τ).loc Cert.PoolGateReferenceIdeal.main_arg3)
      ∧ r.2.mem ((c.tc : Thread Cert.PoolGateReferenceIdeal.nD Cert.PoolGateReferenceIdeal.τ).loc Cert.PoolGateReferenceIdeal.main_arg4) = m ((c.tc : Thread Cert.PoolGateReferenceIdeal.nD Cert.PoolGateReferenceIdeal.τ).loc Cert.PoolGateReferenceIdeal.main_arg4))
      ∧ r.2.sem = fun _ => 0)

def quiescent_PoolGateReferenceIdeal_pre_pgate_finite [hPoolGateReferenceIdeal : Cert.PoolGateReferenceIdeal.Facts] [hPre_pgate_finite : Cert.Pre_pgate_finite.Facts] : Prop :=
  ∀ (m : (ℓ : Loc Cert.PoolGateReferenceIdeal.nD Cert.PoolGateReferenceIdeal.τ Cert.PoolGateReferenceIdeal.sig) → Buf (Elt Ideal) ℓ) (g : Dev Cert.PoolGateReferenceIdeal.nD → PrngReg), Pre_PoolGateReferenceIdeal_pgate_finite m →
    θ_run (Cert.PoolGateReferenceIdeal.defs (F := Ideal)) (onTc (τ := Cert.PoolGateReferenceIdeal.τ) (Cert.PoolGateReferenceIdeal.main (F := Ideal))) ⟨m, fun _ => 0, g⟩ (fun r => (∀ c : Dev Cert.PoolGateReferenceIdeal.nD,
      r.2.mem ((c.tc : Thread Cert.PoolGateReferenceIdeal.nD Cert.PoolGateReferenceIdeal.τ).loc Cert.PoolGateReferenceIdeal.main_arg0) = m ((c.tc : Thread Cert.PoolGateReferenceIdeal.nD Cert.PoolGateReferenceIdeal.τ).loc Cert.PoolGateReferenceIdeal.main_arg0)
      ∧ r.2.mem ((c.tc : Thread Cert.PoolGateReferenceIdeal.nD Cert.PoolGateReferenceIdeal.τ).loc Cert.PoolGateReferenceIdeal.main_arg1) = m ((c.tc : Thread Cert.PoolGateReferenceIdeal.nD Cert.PoolGateReferenceIdeal.τ).loc Cert.PoolGateReferenceIdeal.main_arg1)
      ∧ r.2.mem ((c.tc : Thread Cert.PoolGateReferenceIdeal.nD Cert.PoolGateReferenceIdeal.τ).loc Cert.PoolGateReferenceIdeal.main_arg2) = m ((c.tc : Thread Cert.PoolGateReferenceIdeal.nD Cert.PoolGateReferenceIdeal.τ).loc Cert.PoolGateReferenceIdeal.main_arg2)
      ∧ r.2.mem ((c.tc : Thread Cert.PoolGateReferenceIdeal.nD Cert.PoolGateReferenceIdeal.τ).loc Cert.PoolGateReferenceIdeal.main_arg3) = m ((c.tc : Thread Cert.PoolGateReferenceIdeal.nD Cert.PoolGateReferenceIdeal.τ).loc Cert.PoolGateReferenceIdeal.main_arg3)
      ∧ r.2.mem ((c.tc : Thread Cert.PoolGateReferenceIdeal.nD Cert.PoolGateReferenceIdeal.τ).loc Cert.PoolGateReferenceIdeal.main_arg4) = m ((c.tc : Thread Cert.PoolGateReferenceIdeal.nD Cert.PoolGateReferenceIdeal.τ).loc Cert.PoolGateReferenceIdeal.main_arg4))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1)
      ∧ r.2.mem ((c.tc : Thread Cert.RmsKernel.nD Cert.RmsKernel.τ).loc Cert.RmsKernel.main_arg2) = m ((c.tc : Thread Cert.RmsKernel.nD Cert.RmsKernel.τ).loc Cert.RmsKernel.main_arg2)
      ∧ r.2.mem ((c.tc : Thread Cert.RmsKernel.nD Cert.RmsKernel.τ).loc Cert.RmsKernel.main_arg3) = m ((c.tc : Thread Cert.RmsKernel.nD Cert.RmsKernel.τ).loc Cert.RmsKernel.main_arg3)
      ∧ r.2.mem ((c.tc : Thread Cert.RmsKernel.nD Cert.RmsKernel.τ).loc Cert.RmsKernel.main_arg4) = m ((c.tc : Thread Cert.RmsKernel.nD Cert.RmsKernel.τ).loc Cert.RmsKernel.main_arg4))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3)
      ∧ r.2.mem ((c.tc : Thread Cert.RmsKernelIdeal.nD Cert.RmsKernelIdeal.τ).loc Cert.RmsKernelIdeal.main_arg4) = m ((c.tc : Thread Cert.RmsKernelIdeal.nD Cert.RmsKernelIdeal.τ).loc Cert.RmsKernelIdeal.main_arg4))
      ∧ r.2.sem = fun _ => 0)

def quiescent_RmsKernelIdeal_pre_rms_finite [hRmsKernelIdeal : Cert.RmsKernelIdeal.Facts] [hPre_rms_finite : Cert.Pre_rms_finite.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal_rms_finite m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3)
      ∧ r.2.mem ((c.tc : Thread Cert.RmsKernelIdeal.nD Cert.RmsKernelIdeal.τ).loc Cert.RmsKernelIdeal.main_arg4) = m ((c.tc : Thread Cert.RmsKernelIdeal.nD Cert.RmsKernelIdeal.τ).loc Cert.RmsKernelIdeal.main_arg4))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3)
      ∧ r.2.mem ((c.tc : Thread Cert.RmsReferenceIdeal.nD Cert.RmsReferenceIdeal.τ).loc Cert.RmsReferenceIdeal.main_arg4) = m ((c.tc : Thread Cert.RmsReferenceIdeal.nD Cert.RmsReferenceIdeal.τ).loc Cert.RmsReferenceIdeal.main_arg4))
      ∧ r.2.sem = fun _ => 0)

def quiescent_RmsReferenceIdeal_pre_rms_finite [hRmsReferenceIdeal : Cert.RmsReferenceIdeal.Facts] [hPre_rms_finite : Cert.Pre_rms_finite.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal_rms_finite m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3)
      ∧ r.2.mem ((c.tc : Thread Cert.RmsReferenceIdeal.nD Cert.RmsReferenceIdeal.τ).loc Cert.RmsReferenceIdeal.main_arg4) = m ((c.tc : Thread Cert.RmsReferenceIdeal.nD Cert.RmsReferenceIdeal.τ).loc Cert.RmsReferenceIdeal.main_arg4))
      ∧ r.2.sem = fun _ => 0)

def quiescent_WoutKernel [hWoutKernel : Cert.WoutKernel.Facts] : Prop :=
  ∀ (m : (ℓ : Loc Cert.WoutKernel.nD Cert.WoutKernel.τ Cert.WoutKernel.sig) → Buf (Elt Bits) ℓ) (g : Dev Cert.WoutKernel.nD → PrngReg), Pre_WoutKernel m →
    θ_run (Cert.WoutKernel.defs (F := Bits)) (onTc (τ := Cert.WoutKernel.τ) (Cert.WoutKernel.main (F := Bits))) ⟨m, fun _ => 0, g⟩ (fun r => (∀ c : Dev Cert.WoutKernel.nD,
      r.2.mem ((c.tc : Thread Cert.WoutKernel.nD Cert.WoutKernel.τ).loc Cert.WoutKernel.main_arg0) = m ((c.tc : Thread Cert.WoutKernel.nD Cert.WoutKernel.τ).loc Cert.WoutKernel.main_arg0)
      ∧ r.2.mem ((c.tc : Thread Cert.WoutKernel.nD Cert.WoutKernel.τ).loc Cert.WoutKernel.main_arg1) = m ((c.tc : Thread Cert.WoutKernel.nD Cert.WoutKernel.τ).loc Cert.WoutKernel.main_arg1))
      ∧ r.2.sem = fun _ => 0)

def quiescent_WoutKernelIdeal [hWoutKernelIdeal : Cert.WoutKernelIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg), Pre_WoutKernelIdeal m →
    θ_run (Cert.WoutKernelIdeal.defs (F := Ideal)) (onTc (τ := Cert.WoutKernelIdeal.τ) (Cert.WoutKernelIdeal.main (F := Ideal))) ⟨m, fun _ => 0, g⟩ (fun r => (∀ c : Dev Cert.WoutKernelIdeal.nD,
      r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
      ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1))
      ∧ r.2.sem = fun _ => 0)

def quiescent_SbinKernel [hSbinKernel : Cert.SbinKernel.Facts] : Prop :=
  ∀ (m : (ℓ : Loc Cert.SbinKernel.nD Cert.SbinKernel.τ Cert.SbinKernel.sig) → Buf (Elt Bits) ℓ) (g : Dev Cert.SbinKernel.nD → PrngReg), Pre_SbinKernel m →
    θ_run (Cert.SbinKernel.defs (F := Bits)) (onTc (τ := Cert.SbinKernel.τ) (Cert.SbinKernel.main (F := Bits))) ⟨m, fun _ => 0, g⟩ (fun r => (∀ c : Dev Cert.SbinKernel.nD,
      r.2.mem ((c.tc : Thread Cert.SbinKernel.nD Cert.SbinKernel.τ).loc Cert.SbinKernel.main_arg0) = m ((c.tc : Thread Cert.SbinKernel.nD Cert.SbinKernel.τ).loc Cert.SbinKernel.main_arg0)
      ∧ r.2.mem ((c.tc : Thread Cert.SbinKernel.nD Cert.SbinKernel.τ).loc Cert.SbinKernel.main_arg1) = m ((c.tc : Thread Cert.SbinKernel.nD Cert.SbinKernel.τ).loc Cert.SbinKernel.main_arg1))
      ∧ r.2.sem = fun _ => 0)

def quiescent_SbinKernelIdeal [hSbinKernelIdeal : Cert.SbinKernelIdeal.Facts] : Prop :=
  ∀ (m : (ℓ : Loc Cert.SbinKernelIdeal.nD Cert.SbinKernelIdeal.τ Cert.SbinKernelIdeal.sig) → Buf (Elt Ideal) ℓ) (g : Dev Cert.SbinKernelIdeal.nD → PrngReg), Pre_SbinKernelIdeal m →
    θ_run (Cert.SbinKernelIdeal.defs (F := Ideal)) (onTc (τ := Cert.SbinKernelIdeal.τ) (Cert.SbinKernelIdeal.main (F := Ideal))) ⟨m, fun _ => 0, g⟩ (fun r => (∀ c : Dev Cert.SbinKernelIdeal.nD,
      r.2.mem ((c.tc : Thread Cert.SbinKernelIdeal.nD Cert.SbinKernelIdeal.τ).loc Cert.SbinKernelIdeal.main_arg0) = m ((c.tc : Thread Cert.SbinKernelIdeal.nD Cert.SbinKernelIdeal.τ).loc Cert.SbinKernelIdeal.main_arg0)
      ∧ r.2.mem ((c.tc : Thread Cert.SbinKernelIdeal.nD Cert.SbinKernelIdeal.τ).loc Cert.SbinKernelIdeal.main_arg1) = m ((c.tc : Thread Cert.SbinKernelIdeal.nD Cert.SbinKernelIdeal.τ).loc Cert.SbinKernelIdeal.main_arg1))
      ∧ r.2.sem = fun _ => 0)

def quiescent_SbinReferenceIdeal [hSbinReferenceIdeal : Cert.SbinReferenceIdeal.Facts] : Prop :=
  ∀ (m : (ℓ : Loc Cert.SbinReferenceIdeal.nD Cert.SbinReferenceIdeal.τ Cert.SbinReferenceIdeal.sig) → Buf (Elt Ideal) ℓ) (g : Dev Cert.SbinReferenceIdeal.nD → PrngReg), Pre_SbinReferenceIdeal m →
    θ_run (Cert.SbinReferenceIdeal.defs (F := Ideal)) (onTc (τ := Cert.SbinReferenceIdeal.τ) (Cert.SbinReferenceIdeal.main (F := Ideal))) ⟨m, fun _ => 0, g⟩ (fun r => (∀ c : Dev Cert.SbinReferenceIdeal.nD,
      r.2.mem ((c.tc : Thread Cert.SbinReferenceIdeal.nD Cert.SbinReferenceIdeal.τ).loc Cert.SbinReferenceIdeal.main_arg0) = m ((c.tc : Thread Cert.SbinReferenceIdeal.nD Cert.SbinReferenceIdeal.τ).loc Cert.SbinReferenceIdeal.main_arg0)
      ∧ r.2.mem ((c.tc : Thread Cert.SbinReferenceIdeal.nD Cert.SbinReferenceIdeal.τ).loc Cert.SbinReferenceIdeal.main_arg1) = m ((c.tc : Thread Cert.SbinReferenceIdeal.nD Cert.SbinReferenceIdeal.τ).loc Cert.SbinReferenceIdeal.main_arg1))
      ∧ r.2.sem = fun _ => 0)

def quiescent_PinKernel [hPinKernel : Cert.PinKernel.Facts] : Prop :=
  ∀ (m : (ℓ : Loc Cert.PinKernel.nD Cert.PinKernel.τ Cert.PinKernel.sig) → Buf (Elt Bits) ℓ) (g : Dev Cert.PinKernel.nD → PrngReg), Pre_PinKernel m →
    θ_run (Cert.PinKernel.defs (F := Bits)) (onTc (τ := Cert.PinKernel.τ) (Cert.PinKernel.main (F := Bits))) ⟨m, fun _ => 0, g⟩ (fun r => (∀ c : Dev Cert.PinKernel.nD,
      r.2.mem ((c.tc : Thread Cert.PinKernel.nD Cert.PinKernel.τ).loc Cert.PinKernel.main_arg0) = m ((c.tc : Thread Cert.PinKernel.nD Cert.PinKernel.τ).loc Cert.PinKernel.main_arg0)
      ∧ r.2.mem ((c.tc : Thread Cert.PinKernel.nD Cert.PinKernel.τ).loc Cert.PinKernel.main_arg1) = m ((c.tc : Thread Cert.PinKernel.nD Cert.PinKernel.τ).loc Cert.PinKernel.main_arg1))
      ∧ r.2.sem = fun _ => 0)

def quiescent_PinKernelIdeal [hPinKernelIdeal : Cert.PinKernelIdeal.Facts] : Prop :=
  ∀ (m : (ℓ : Loc Cert.PinKernelIdeal.nD Cert.PinKernelIdeal.τ Cert.PinKernelIdeal.sig) → Buf (Elt Ideal) ℓ) (g : Dev Cert.PinKernelIdeal.nD → PrngReg), Pre_PinKernelIdeal m →
    θ_run (Cert.PinKernelIdeal.defs (F := Ideal)) (onTc (τ := Cert.PinKernelIdeal.τ) (Cert.PinKernelIdeal.main (F := Ideal))) ⟨m, fun _ => 0, g⟩ (fun r => (∀ c : Dev Cert.PinKernelIdeal.nD,
      r.2.mem ((c.tc : Thread Cert.PinKernelIdeal.nD Cert.PinKernelIdeal.τ).loc Cert.PinKernelIdeal.main_arg0) = m ((c.tc : Thread Cert.PinKernelIdeal.nD Cert.PinKernelIdeal.τ).loc Cert.PinKernelIdeal.main_arg0)
      ∧ r.2.mem ((c.tc : Thread Cert.PinKernelIdeal.nD Cert.PinKernelIdeal.τ).loc Cert.PinKernelIdeal.main_arg1) = m ((c.tc : Thread Cert.PinKernelIdeal.nD Cert.PinKernelIdeal.τ).loc Cert.PinKernelIdeal.main_arg1))
      ∧ r.2.sem = fun _ => 0)

def quiescent_PinReferenceIdeal [hPinReferenceIdeal : Cert.PinReferenceIdeal.Facts] : Prop :=
  ∀ (m : (ℓ : Loc Cert.PinReferenceIdeal.nD Cert.PinReferenceIdeal.τ Cert.PinReferenceIdeal.sig) → Buf (Elt Ideal) ℓ) (g : Dev Cert.PinReferenceIdeal.nD → PrngReg), Pre_PinReferenceIdeal m →
    θ_run (Cert.PinReferenceIdeal.defs (F := Ideal)) (onTc (τ := Cert.PinReferenceIdeal.τ) (Cert.PinReferenceIdeal.main (F := Ideal))) ⟨m, fun _ => 0, g⟩ (fun r => (∀ c : Dev Cert.PinReferenceIdeal.nD,
      r.2.mem ((c.tc : Thread Cert.PinReferenceIdeal.nD Cert.PinReferenceIdeal.τ).loc Cert.PinReferenceIdeal.main_arg0) = m ((c.tc : Thread Cert.PinReferenceIdeal.nD Cert.PinReferenceIdeal.τ).loc Cert.PinReferenceIdeal.main_arg0)
      ∧ r.2.mem ((c.tc : Thread Cert.PinReferenceIdeal.nD Cert.PinReferenceIdeal.τ).loc Cert.PinReferenceIdeal.main_arg1) = m ((c.tc : Thread Cert.PinReferenceIdeal.nD Cert.PinReferenceIdeal.τ).loc Cert.PinReferenceIdeal.main_arg1))
      ∧ r.2.sem = fun _ => 0)

def quiescent_PwKernel [hPwKernel : Cert.PwKernel.Facts] : Prop :=
  ∀ (m : (ℓ : Loc Cert.PwKernel.nD Cert.PwKernel.τ Cert.PwKernel.sig) → Buf (Elt Bits) ℓ) (g : Dev Cert.PwKernel.nD → PrngReg), Pre_PwKernel m →
    θ_run (Cert.PwKernel.defs (F := Bits)) (onTc (τ := Cert.PwKernel.τ) (Cert.PwKernel.main (F := Bits))) ⟨m, fun _ => 0, g⟩ (fun r => (∀ c : Dev Cert.PwKernel.nD,
      r.2.mem ((c.tc : Thread Cert.PwKernel.nD Cert.PwKernel.τ).loc Cert.PwKernel.main_arg0) = m ((c.tc : Thread Cert.PwKernel.nD Cert.PwKernel.τ).loc Cert.PwKernel.main_arg0)
      ∧ r.2.mem ((c.tc : Thread Cert.PwKernel.nD Cert.PwKernel.τ).loc Cert.PwKernel.main_arg1) = m ((c.tc : Thread Cert.PwKernel.nD Cert.PwKernel.τ).loc Cert.PwKernel.main_arg1))
      ∧ r.2.sem = fun _ => 0)

def quiescent_PwKernelIdeal [hPwKernelIdeal : Cert.PwKernelIdeal.Facts] : Prop :=
  ∀ (m : (ℓ : Loc Cert.PwKernelIdeal.nD Cert.PwKernelIdeal.τ Cert.PwKernelIdeal.sig) → Buf (Elt Ideal) ℓ) (g : Dev Cert.PwKernelIdeal.nD → PrngReg), Pre_PwKernelIdeal m →
    θ_run (Cert.PwKernelIdeal.defs (F := Ideal)) (onTc (τ := Cert.PwKernelIdeal.τ) (Cert.PwKernelIdeal.main (F := Ideal))) ⟨m, fun _ => 0, g⟩ (fun r => (∀ c : Dev Cert.PwKernelIdeal.nD,
      r.2.mem ((c.tc : Thread Cert.PwKernelIdeal.nD Cert.PwKernelIdeal.τ).loc Cert.PwKernelIdeal.main_arg0) = m ((c.tc : Thread Cert.PwKernelIdeal.nD Cert.PwKernelIdeal.τ).loc Cert.PwKernelIdeal.main_arg0)
      ∧ r.2.mem ((c.tc : Thread Cert.PwKernelIdeal.nD Cert.PwKernelIdeal.τ).loc Cert.PwKernelIdeal.main_arg1) = m ((c.tc : Thread Cert.PwKernelIdeal.nD Cert.PwKernelIdeal.τ).loc Cert.PwKernelIdeal.main_arg1))
      ∧ r.2.sem = fun _ => 0)

def quiescent_PwReferenceIdeal [hPwReferenceIdeal : Cert.PwReferenceIdeal.Facts] : Prop :=
  ∀ (m : (ℓ : Loc Cert.PwReferenceIdeal.nD Cert.PwReferenceIdeal.τ Cert.PwReferenceIdeal.sig) → Buf (Elt Ideal) ℓ) (g : Dev Cert.PwReferenceIdeal.nD → PrngReg), Pre_PwReferenceIdeal m →
    θ_run (Cert.PwReferenceIdeal.defs (F := Ideal)) (onTc (τ := Cert.PwReferenceIdeal.τ) (Cert.PwReferenceIdeal.main (F := Ideal))) ⟨m, fun _ => 0, g⟩ (fun r => (∀ c : Dev Cert.PwReferenceIdeal.nD,
      r.2.mem ((c.tc : Thread Cert.PwReferenceIdeal.nD Cert.PwReferenceIdeal.τ).loc Cert.PwReferenceIdeal.main_arg0) = m ((c.tc : Thread Cert.PwReferenceIdeal.nD Cert.PwReferenceIdeal.τ).loc Cert.PwReferenceIdeal.main_arg0)
      ∧ r.2.mem ((c.tc : Thread Cert.PwReferenceIdeal.nD Cert.PwReferenceIdeal.τ).loc Cert.PwReferenceIdeal.main_arg1) = m ((c.tc : Thread Cert.PwReferenceIdeal.nD Cert.PwReferenceIdeal.τ).loc Cert.PwReferenceIdeal.main_arg1))
      ∧ r.2.sem = fun _ => 0)

def quiescent_ResKernel [hResKernel : Cert.ResKernel.Facts] : Prop :=
  ∀ (m : (ℓ : Loc Cert.ResKernel.nD Cert.ResKernel.τ Cert.ResKernel.sig) → Buf (Elt Bits) ℓ) (g : Dev Cert.ResKernel.nD → PrngReg), Pre_ResKernel m →
    θ_run (Cert.ResKernel.defs (F := Bits)) (onTc (τ := Cert.ResKernel.τ) (Cert.ResKernel.main (F := Bits))) ⟨m, fun _ => 0, g⟩ (fun r => (∀ c : Dev Cert.ResKernel.nD,
      r.2.mem ((c.tc : Thread Cert.ResKernel.nD Cert.ResKernel.τ).loc Cert.ResKernel.main_arg0) = m ((c.tc : Thread Cert.ResKernel.nD Cert.ResKernel.τ).loc Cert.ResKernel.main_arg0)
      ∧ r.2.mem ((c.tc : Thread Cert.ResKernel.nD Cert.ResKernel.τ).loc Cert.ResKernel.main_arg1) = m ((c.tc : Thread Cert.ResKernel.nD Cert.ResKernel.τ).loc Cert.ResKernel.main_arg1)
      ∧ r.2.mem ((c.tc : Thread Cert.ResKernel.nD Cert.ResKernel.τ).loc Cert.ResKernel.main_arg2) = m ((c.tc : Thread Cert.ResKernel.nD Cert.ResKernel.τ).loc Cert.ResKernel.main_arg2))
      ∧ r.2.sem = fun _ => 0)

def quiescent_ResKernelIdeal [hResKernelIdeal : Cert.ResKernelIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg), Pre_ResKernelIdeal m →
    θ_run (Cert.ResKernelIdeal.defs (F := Ideal)) (onTc (τ := Cert.ResKernelIdeal.τ) (Cert.ResKernelIdeal.main (F := Ideal))) ⟨m, fun _ => 0, g⟩ (fun r => (∀ c : Dev Cert.ResKernelIdeal.nD,
      r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
      ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
      ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2))
      ∧ r.2.sem = fun _ => 0)

def quiescent_PprojKernel [hPprojKernel : Cert.PprojKernel.Facts] : Prop :=
  ∀ (m : (ℓ : Loc Cert.PprojKernel.nD Cert.PprojKernel.τ Cert.PprojKernel.sig) → Buf (Elt Bits) ℓ) (g : Dev Cert.PprojKernel.nD → PrngReg), Pre_PprojKernel m →
    θ_run (Cert.PprojKernel.defs (F := Bits)) (onTc (τ := Cert.PprojKernel.τ) (Cert.PprojKernel.main (F := Bits))) ⟨m, fun _ => 0, g⟩ (fun r => (∀ c : Dev Cert.PprojKernel.nD,
      r.2.mem ((c.tc : Thread Cert.PprojKernel.nD Cert.PprojKernel.τ).loc Cert.PprojKernel.main_arg0) = m ((c.tc : Thread Cert.PprojKernel.nD Cert.PprojKernel.τ).loc Cert.PprojKernel.main_arg0)
      ∧ r.2.mem ((c.tc : Thread Cert.PprojKernel.nD Cert.PprojKernel.τ).loc Cert.PprojKernel.main_arg1) = m ((c.tc : Thread Cert.PprojKernel.nD Cert.PprojKernel.τ).loc Cert.PprojKernel.main_arg1)
      ∧ r.2.mem ((c.tc : Thread Cert.PprojKernel.nD Cert.PprojKernel.τ).loc Cert.PprojKernel.main_arg2) = m ((c.tc : Thread Cert.PprojKernel.nD Cert.PprojKernel.τ).loc Cert.PprojKernel.main_arg2))
      ∧ r.2.sem = fun _ => 0)

def quiescent_PprojKernelIdeal [hPprojKernelIdeal : Cert.PprojKernelIdeal.Facts] : Prop :=
  ∀ (m : (ℓ : Loc Cert.PprojKernelIdeal.nD Cert.PprojKernelIdeal.τ Cert.PprojKernelIdeal.sig) → Buf (Elt Ideal) ℓ) (g : Dev Cert.PprojKernelIdeal.nD → PrngReg), Pre_PprojKernelIdeal m →
    θ_run (Cert.PprojKernelIdeal.defs (F := Ideal)) (onTc (τ := Cert.PprojKernelIdeal.τ) (Cert.PprojKernelIdeal.main (F := Ideal))) ⟨m, fun _ => 0, g⟩ (fun r => (∀ c : Dev Cert.PprojKernelIdeal.nD,
      r.2.mem ((c.tc : Thread Cert.PprojKernelIdeal.nD Cert.PprojKernelIdeal.τ).loc Cert.PprojKernelIdeal.main_arg0) = m ((c.tc : Thread Cert.PprojKernelIdeal.nD Cert.PprojKernelIdeal.τ).loc Cert.PprojKernelIdeal.main_arg0)
      ∧ r.2.mem ((c.tc : Thread Cert.PprojKernelIdeal.nD Cert.PprojKernelIdeal.τ).loc Cert.PprojKernelIdeal.main_arg1) = m ((c.tc : Thread Cert.PprojKernelIdeal.nD Cert.PprojKernelIdeal.τ).loc Cert.PprojKernelIdeal.main_arg1)
      ∧ r.2.mem ((c.tc : Thread Cert.PprojKernelIdeal.nD Cert.PprojKernelIdeal.τ).loc Cert.PprojKernelIdeal.main_arg2) = m ((c.tc : Thread Cert.PprojKernelIdeal.nD Cert.PprojKernelIdeal.τ).loc Cert.PprojKernelIdeal.main_arg2))
      ∧ r.2.sem = fun _ => 0)

def quiescent_PprojReferenceIdeal [hPprojReferenceIdeal : Cert.PprojReferenceIdeal.Facts] : Prop :=
  ∀ (m : (ℓ : Loc Cert.PprojReferenceIdeal.nD Cert.PprojReferenceIdeal.τ Cert.PprojReferenceIdeal.sig) → Buf (Elt Ideal) ℓ) (g : Dev Cert.PprojReferenceIdeal.nD → PrngReg), Pre_PprojReferenceIdeal m →
    θ_run (Cert.PprojReferenceIdeal.defs (F := Ideal)) (onTc (τ := Cert.PprojReferenceIdeal.τ) (Cert.PprojReferenceIdeal.main (F := Ideal))) ⟨m, fun _ => 0, g⟩ (fun r => (∀ c : Dev Cert.PprojReferenceIdeal.nD,
      r.2.mem ((c.tc : Thread Cert.PprojReferenceIdeal.nD Cert.PprojReferenceIdeal.τ).loc Cert.PprojReferenceIdeal.main_arg0) = m ((c.tc : Thread Cert.PprojReferenceIdeal.nD Cert.PprojReferenceIdeal.τ).loc Cert.PprojReferenceIdeal.main_arg0)
      ∧ r.2.mem ((c.tc : Thread Cert.PprojReferenceIdeal.nD Cert.PprojReferenceIdeal.τ).loc Cert.PprojReferenceIdeal.main_arg1) = m ((c.tc : Thread Cert.PprojReferenceIdeal.nD Cert.PprojReferenceIdeal.τ).loc Cert.PprojReferenceIdeal.main_arg1)
      ∧ r.2.mem ((c.tc : Thread Cert.PprojReferenceIdeal.nD Cert.PprojReferenceIdeal.τ).loc Cert.PprojReferenceIdeal.main_arg2) = m ((c.tc : Thread Cert.PprojReferenceIdeal.nD Cert.PprojReferenceIdeal.τ).loc Cert.PprojReferenceIdeal.main_arg2))
      ∧ r.2.sem = fun _ => 0)

def quiescent_SprojKernel [hSprojKernel : Cert.SprojKernel.Facts] : Prop :=
  ∀ (m : (ℓ : Loc Cert.SprojKernel.nD Cert.SprojKernel.τ Cert.SprojKernel.sig) → Buf (Elt Bits) ℓ) (g : Dev Cert.SprojKernel.nD → PrngReg), Pre_SprojKernel m →
    θ_run (Cert.SprojKernel.defs (F := Bits)) (onTc (τ := Cert.SprojKernel.τ) (Cert.SprojKernel.main (F := Bits))) ⟨m, fun _ => 0, g⟩ (fun r => (∀ c : Dev Cert.SprojKernel.nD,
      r.2.mem ((c.tc : Thread Cert.SprojKernel.nD Cert.SprojKernel.τ).loc Cert.SprojKernel.main_arg0) = m ((c.tc : Thread Cert.SprojKernel.nD Cert.SprojKernel.τ).loc Cert.SprojKernel.main_arg0)
      ∧ r.2.mem ((c.tc : Thread Cert.SprojKernel.nD Cert.SprojKernel.τ).loc Cert.SprojKernel.main_arg1) = m ((c.tc : Thread Cert.SprojKernel.nD Cert.SprojKernel.τ).loc Cert.SprojKernel.main_arg1)
      ∧ r.2.mem ((c.tc : Thread Cert.SprojKernel.nD Cert.SprojKernel.τ).loc Cert.SprojKernel.main_arg2) = m ((c.tc : Thread Cert.SprojKernel.nD Cert.SprojKernel.τ).loc Cert.SprojKernel.main_arg2))
      ∧ r.2.sem = fun _ => 0)

def quiescent_SprojKernelIdeal [hSprojKernelIdeal : Cert.SprojKernelIdeal.Facts] : Prop :=
  ∀ (m : (ℓ : Loc Cert.SprojKernelIdeal.nD Cert.SprojKernelIdeal.τ Cert.SprojKernelIdeal.sig) → Buf (Elt Ideal) ℓ) (g : Dev Cert.SprojKernelIdeal.nD → PrngReg), Pre_SprojKernelIdeal m →
    θ_run (Cert.SprojKernelIdeal.defs (F := Ideal)) (onTc (τ := Cert.SprojKernelIdeal.τ) (Cert.SprojKernelIdeal.main (F := Ideal))) ⟨m, fun _ => 0, g⟩ (fun r => (∀ c : Dev Cert.SprojKernelIdeal.nD,
      r.2.mem ((c.tc : Thread Cert.SprojKernelIdeal.nD Cert.SprojKernelIdeal.τ).loc Cert.SprojKernelIdeal.main_arg0) = m ((c.tc : Thread Cert.SprojKernelIdeal.nD Cert.SprojKernelIdeal.τ).loc Cert.SprojKernelIdeal.main_arg0)
      ∧ r.2.mem ((c.tc : Thread Cert.SprojKernelIdeal.nD Cert.SprojKernelIdeal.τ).loc Cert.SprojKernelIdeal.main_arg1) = m ((c.tc : Thread Cert.SprojKernelIdeal.nD Cert.SprojKernelIdeal.τ).loc Cert.SprojKernelIdeal.main_arg1)
      ∧ r.2.mem ((c.tc : Thread Cert.SprojKernelIdeal.nD Cert.SprojKernelIdeal.τ).loc Cert.SprojKernelIdeal.main_arg2) = m ((c.tc : Thread Cert.SprojKernelIdeal.nD Cert.SprojKernelIdeal.τ).loc Cert.SprojKernelIdeal.main_arg2))
      ∧ r.2.sem = fun _ => 0)

def quiescent_SprojReferenceIdeal [hSprojReferenceIdeal : Cert.SprojReferenceIdeal.Facts] : Prop :=
  ∀ (m : (ℓ : Loc Cert.SprojReferenceIdeal.nD Cert.SprojReferenceIdeal.τ Cert.SprojReferenceIdeal.sig) → Buf (Elt Ideal) ℓ) (g : Dev Cert.SprojReferenceIdeal.nD → PrngReg), Pre_SprojReferenceIdeal m →
    θ_run (Cert.SprojReferenceIdeal.defs (F := Ideal)) (onTc (τ := Cert.SprojReferenceIdeal.τ) (Cert.SprojReferenceIdeal.main (F := Ideal))) ⟨m, fun _ => 0, g⟩ (fun r => (∀ c : Dev Cert.SprojReferenceIdeal.nD,
      r.2.mem ((c.tc : Thread Cert.SprojReferenceIdeal.nD Cert.SprojReferenceIdeal.τ).loc Cert.SprojReferenceIdeal.main_arg0) = m ((c.tc : Thread Cert.SprojReferenceIdeal.nD Cert.SprojReferenceIdeal.τ).loc Cert.SprojReferenceIdeal.main_arg0)
      ∧ r.2.mem ((c.tc : Thread Cert.SprojReferenceIdeal.nD Cert.SprojReferenceIdeal.τ).loc Cert.SprojReferenceIdeal.main_arg1) = m ((c.tc : Thread Cert.SprojReferenceIdeal.nD Cert.SprojReferenceIdeal.τ).loc Cert.SprojReferenceIdeal.main_arg1)
      ∧ r.2.mem ((c.tc : Thread Cert.SprojReferenceIdeal.nD Cert.SprojReferenceIdeal.τ).loc Cert.SprojReferenceIdeal.main_arg2) = m ((c.tc : Thread Cert.SprojReferenceIdeal.nD Cert.SprojReferenceIdeal.τ).loc Cert.SprojReferenceIdeal.main_arg2))
      ∧ r.2.sem = fun _ => 0)

def quiescent_RmspKernel [hRmspKernel : Cert.RmspKernel.Facts] : Prop :=
  ∀ (m : (ℓ : Loc Cert.RmspKernel.nD Cert.RmspKernel.τ Cert.RmspKernel.sig) → Buf (Elt Bits) ℓ) (g : Dev Cert.RmspKernel.nD → PrngReg), Pre_RmspKernel m →
    θ_run (Cert.RmspKernel.defs (F := Bits)) (onTc (τ := Cert.RmspKernel.τ) (Cert.RmspKernel.main (F := Bits))) ⟨m, fun _ => 0, g⟩ (fun r => (∀ c : Dev Cert.RmspKernel.nD,
      r.2.mem ((c.tc : Thread Cert.RmspKernel.nD Cert.RmspKernel.τ).loc Cert.RmspKernel.main_arg0) = m ((c.tc : Thread Cert.RmspKernel.nD Cert.RmspKernel.τ).loc Cert.RmspKernel.main_arg0)
      ∧ r.2.mem ((c.tc : Thread Cert.RmspKernel.nD Cert.RmspKernel.τ).loc Cert.RmspKernel.main_arg1) = m ((c.tc : Thread Cert.RmspKernel.nD Cert.RmspKernel.τ).loc Cert.RmspKernel.main_arg1)
      ∧ r.2.mem ((c.tc : Thread Cert.RmspKernel.nD Cert.RmspKernel.τ).loc Cert.RmspKernel.main_arg2) = m ((c.tc : Thread Cert.RmspKernel.nD Cert.RmspKernel.τ).loc Cert.RmspKernel.main_arg2)
      ∧ r.2.mem ((c.tc : Thread Cert.RmspKernel.nD Cert.RmspKernel.τ).loc Cert.RmspKernel.main_arg3) = m ((c.tc : Thread Cert.RmspKernel.nD Cert.RmspKernel.τ).loc Cert.RmspKernel.main_arg3)
      ∧ r.2.mem ((c.tc : Thread Cert.RmspKernel.nD Cert.RmspKernel.τ).loc Cert.RmspKernel.main_arg4) = m ((c.tc : Thread Cert.RmspKernel.nD Cert.RmspKernel.τ).loc Cert.RmspKernel.main_arg4))
      ∧ r.2.sem = fun _ => 0)

def quiescent_RmspKernelIdeal [hRmspKernelIdeal : Cert.RmspKernelIdeal.Facts] : Prop :=
  ∀ (m : (ℓ : Loc Cert.RmspKernelIdeal.nD Cert.RmspKernelIdeal.τ Cert.RmspKernelIdeal.sig) → Buf (Elt Ideal) ℓ) (g : Dev Cert.RmspKernelIdeal.nD → PrngReg), Pre_RmspKernelIdeal m →
    θ_run (Cert.RmspKernelIdeal.defs (F := Ideal)) (onTc (τ := Cert.RmspKernelIdeal.τ) (Cert.RmspKernelIdeal.main (F := Ideal))) ⟨m, fun _ => 0, g⟩ (fun r => (∀ c : Dev Cert.RmspKernelIdeal.nD,
      r.2.mem ((c.tc : Thread Cert.RmspKernelIdeal.nD Cert.RmspKernelIdeal.τ).loc Cert.RmspKernelIdeal.main_arg0) = m ((c.tc : Thread Cert.RmspKernelIdeal.nD Cert.RmspKernelIdeal.τ).loc Cert.RmspKernelIdeal.main_arg0)
      ∧ r.2.mem ((c.tc : Thread Cert.RmspKernelIdeal.nD Cert.RmspKernelIdeal.τ).loc Cert.RmspKernelIdeal.main_arg1) = m ((c.tc : Thread Cert.RmspKernelIdeal.nD Cert.RmspKernelIdeal.τ).loc Cert.RmspKernelIdeal.main_arg1)
      ∧ r.2.mem ((c.tc : Thread Cert.RmspKernelIdeal.nD Cert.RmspKernelIdeal.τ).loc Cert.RmspKernelIdeal.main_arg2) = m ((c.tc : Thread Cert.RmspKernelIdeal.nD Cert.RmspKernelIdeal.τ).loc Cert.RmspKernelIdeal.main_arg2)
      ∧ r.2.mem ((c.tc : Thread Cert.RmspKernelIdeal.nD Cert.RmspKernelIdeal.τ).loc Cert.RmspKernelIdeal.main_arg3) = m ((c.tc : Thread Cert.RmspKernelIdeal.nD Cert.RmspKernelIdeal.τ).loc Cert.RmspKernelIdeal.main_arg3)
      ∧ r.2.mem ((c.tc : Thread Cert.RmspKernelIdeal.nD Cert.RmspKernelIdeal.τ).loc Cert.RmspKernelIdeal.main_arg4) = m ((c.tc : Thread Cert.RmspKernelIdeal.nD Cert.RmspKernelIdeal.τ).loc Cert.RmspKernelIdeal.main_arg4))
      ∧ r.2.sem = fun _ => 0)

def quiescent_RmspKernelIdeal_pre_rmsp_finite [hRmspKernelIdeal : Cert.RmspKernelIdeal.Facts] [hPre_rmsp_finite : Cert.Pre_rmsp_finite.Facts] : Prop :=
  ∀ (m : (ℓ : Loc Cert.RmspKernelIdeal.nD Cert.RmspKernelIdeal.τ Cert.RmspKernelIdeal.sig) → Buf (Elt Ideal) ℓ) (g : Dev Cert.RmspKernelIdeal.nD → PrngReg), Pre_RmspKernelIdeal_rmsp_finite m →
    θ_run (Cert.RmspKernelIdeal.defs (F := Ideal)) (onTc (τ := Cert.RmspKernelIdeal.τ) (Cert.RmspKernelIdeal.main (F := Ideal))) ⟨m, fun _ => 0, g⟩ (fun r => (∀ c : Dev Cert.RmspKernelIdeal.nD,
      r.2.mem ((c.tc : Thread Cert.RmspKernelIdeal.nD Cert.RmspKernelIdeal.τ).loc Cert.RmspKernelIdeal.main_arg0) = m ((c.tc : Thread Cert.RmspKernelIdeal.nD Cert.RmspKernelIdeal.τ).loc Cert.RmspKernelIdeal.main_arg0)
      ∧ r.2.mem ((c.tc : Thread Cert.RmspKernelIdeal.nD Cert.RmspKernelIdeal.τ).loc Cert.RmspKernelIdeal.main_arg1) = m ((c.tc : Thread Cert.RmspKernelIdeal.nD Cert.RmspKernelIdeal.τ).loc Cert.RmspKernelIdeal.main_arg1)
      ∧ r.2.mem ((c.tc : Thread Cert.RmspKernelIdeal.nD Cert.RmspKernelIdeal.τ).loc Cert.RmspKernelIdeal.main_arg2) = m ((c.tc : Thread Cert.RmspKernelIdeal.nD Cert.RmspKernelIdeal.τ).loc Cert.RmspKernelIdeal.main_arg2)
      ∧ r.2.mem ((c.tc : Thread Cert.RmspKernelIdeal.nD Cert.RmspKernelIdeal.τ).loc Cert.RmspKernelIdeal.main_arg3) = m ((c.tc : Thread Cert.RmspKernelIdeal.nD Cert.RmspKernelIdeal.τ).loc Cert.RmspKernelIdeal.main_arg3)
      ∧ r.2.mem ((c.tc : Thread Cert.RmspKernelIdeal.nD Cert.RmspKernelIdeal.τ).loc Cert.RmspKernelIdeal.main_arg4) = m ((c.tc : Thread Cert.RmspKernelIdeal.nD Cert.RmspKernelIdeal.τ).loc Cert.RmspKernelIdeal.main_arg4))
      ∧ r.2.sem = fun _ => 0)

def quiescent_RmspReferenceIdeal [hRmspReferenceIdeal : Cert.RmspReferenceIdeal.Facts] : Prop :=
  ∀ (m : (ℓ : Loc Cert.RmspReferenceIdeal.nD Cert.RmspReferenceIdeal.τ Cert.RmspReferenceIdeal.sig) → Buf (Elt Ideal) ℓ) (g : Dev Cert.RmspReferenceIdeal.nD → PrngReg), Pre_RmspReferenceIdeal m →
    θ_run (Cert.RmspReferenceIdeal.defs (F := Ideal)) (onTc (τ := Cert.RmspReferenceIdeal.τ) (Cert.RmspReferenceIdeal.main (F := Ideal))) ⟨m, fun _ => 0, g⟩ (fun r => (∀ c : Dev Cert.RmspReferenceIdeal.nD,
      r.2.mem ((c.tc : Thread Cert.RmspReferenceIdeal.nD Cert.RmspReferenceIdeal.τ).loc Cert.RmspReferenceIdeal.main_arg0) = m ((c.tc : Thread Cert.RmspReferenceIdeal.nD Cert.RmspReferenceIdeal.τ).loc Cert.RmspReferenceIdeal.main_arg0)
      ∧ r.2.mem ((c.tc : Thread Cert.RmspReferenceIdeal.nD Cert.RmspReferenceIdeal.τ).loc Cert.RmspReferenceIdeal.main_arg1) = m ((c.tc : Thread Cert.RmspReferenceIdeal.nD Cert.RmspReferenceIdeal.τ).loc Cert.RmspReferenceIdeal.main_arg1)
      ∧ r.2.mem ((c.tc : Thread Cert.RmspReferenceIdeal.nD Cert.RmspReferenceIdeal.τ).loc Cert.RmspReferenceIdeal.main_arg2) = m ((c.tc : Thread Cert.RmspReferenceIdeal.nD Cert.RmspReferenceIdeal.τ).loc Cert.RmspReferenceIdeal.main_arg2)
      ∧ r.2.mem ((c.tc : Thread Cert.RmspReferenceIdeal.nD Cert.RmspReferenceIdeal.τ).loc Cert.RmspReferenceIdeal.main_arg3) = m ((c.tc : Thread Cert.RmspReferenceIdeal.nD Cert.RmspReferenceIdeal.τ).loc Cert.RmspReferenceIdeal.main_arg3)
      ∧ r.2.mem ((c.tc : Thread Cert.RmspReferenceIdeal.nD Cert.RmspReferenceIdeal.τ).loc Cert.RmspReferenceIdeal.main_arg4) = m ((c.tc : Thread Cert.RmspReferenceIdeal.nD Cert.RmspReferenceIdeal.τ).loc Cert.RmspReferenceIdeal.main_arg4))
      ∧ r.2.sem = fun _ => 0)

def quiescent_RmspReferenceIdeal_pre_rmsp_finite [hRmspReferenceIdeal : Cert.RmspReferenceIdeal.Facts] [hPre_rmsp_finite : Cert.Pre_rmsp_finite.Facts] : Prop :=
  ∀ (m : (ℓ : Loc Cert.RmspReferenceIdeal.nD Cert.RmspReferenceIdeal.τ Cert.RmspReferenceIdeal.sig) → Buf (Elt Ideal) ℓ) (g : Dev Cert.RmspReferenceIdeal.nD → PrngReg), Pre_RmspReferenceIdeal_rmsp_finite m →
    θ_run (Cert.RmspReferenceIdeal.defs (F := Ideal)) (onTc (τ := Cert.RmspReferenceIdeal.τ) (Cert.RmspReferenceIdeal.main (F := Ideal))) ⟨m, fun _ => 0, g⟩ (fun r => (∀ c : Dev Cert.RmspReferenceIdeal.nD,
      r.2.mem ((c.tc : Thread Cert.RmspReferenceIdeal.nD Cert.RmspReferenceIdeal.τ).loc Cert.RmspReferenceIdeal.main_arg0) = m ((c.tc : Thread Cert.RmspReferenceIdeal.nD Cert.RmspReferenceIdeal.τ).loc Cert.RmspReferenceIdeal.main_arg0)
      ∧ r.2.mem ((c.tc : Thread Cert.RmspReferenceIdeal.nD Cert.RmspReferenceIdeal.τ).loc Cert.RmspReferenceIdeal.main_arg1) = m ((c.tc : Thread Cert.RmspReferenceIdeal.nD Cert.RmspReferenceIdeal.τ).loc Cert.RmspReferenceIdeal.main_arg1)
      ∧ r.2.mem ((c.tc : Thread Cert.RmspReferenceIdeal.nD Cert.RmspReferenceIdeal.τ).loc Cert.RmspReferenceIdeal.main_arg2) = m ((c.tc : Thread Cert.RmspReferenceIdeal.nD Cert.RmspReferenceIdeal.τ).loc Cert.RmspReferenceIdeal.main_arg2)
      ∧ r.2.mem ((c.tc : Thread Cert.RmspReferenceIdeal.nD Cert.RmspReferenceIdeal.τ).loc Cert.RmspReferenceIdeal.main_arg3) = m ((c.tc : Thread Cert.RmspReferenceIdeal.nD Cert.RmspReferenceIdeal.τ).loc Cert.RmspReferenceIdeal.main_arg3)
      ∧ r.2.mem ((c.tc : Thread Cert.RmspReferenceIdeal.nD Cert.RmspReferenceIdeal.τ).loc Cert.RmspReferenceIdeal.main_arg4) = m ((c.tc : Thread Cert.RmspReferenceIdeal.nD Cert.RmspReferenceIdeal.τ).loc Cert.RmspReferenceIdeal.main_arg4))
      ∧ r.2.sem = fun _ => 0)

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2)
      ∧ r.2.mem ((c.tc : Thread Cert.HeadKernel.nD Cert.HeadKernel.τ).loc Cert.HeadKernel.main_arg3) = m ((c.tc : Thread Cert.HeadKernel.nD Cert.HeadKernel.τ).loc Cert.HeadKernel.main_arg3)
      ∧ r.2.mem ((c.tc : Thread Cert.HeadKernel.nD Cert.HeadKernel.τ).loc Cert.HeadKernel.main_arg4) = m ((c.tc : Thread Cert.HeadKernel.nD Cert.HeadKernel.τ).loc Cert.HeadKernel.main_arg4))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
      ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
      ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4))
      ∧ r.2.sem = fun _ => 0)

def quiescent_HeadKernelIdeal_pre_head_finite [hHeadKernelIdeal : Cert.HeadKernelIdeal.Facts] [hPre_head_finite : Cert.Pre_head_finite.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal_head_finite m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
      ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
      ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def quiescent_HeadReferenceIdeal_pre_head_finite [hHeadReferenceIdeal : Cert.HeadReferenceIdeal.Facts] [hPre_head_finite : Cert.Pre_head_finite.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_head_finite m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def quiescent_PoolFwdKernel [hPoolFwdKernel : Cert.PoolFwdKernel.Facts] : Prop :=
  ∀ (m : (ℓ : Loc Cert.PoolFwdKernel.nD Cert.PoolFwdKernel.τ Cert.PoolFwdKernel.sig) → Buf (Elt Bits) ℓ) (g : Dev Cert.PoolFwdKernel.nD → PrngReg), Pre_PoolFwdKernel m →
    θ_run (Cert.PoolFwdKernel.defs (F := Bits)) (onTc (τ := Cert.PoolFwdKernel.τ) (Cert.PoolFwdKernel.main (F := Bits))) ⟨m, fun _ => 0, g⟩ (fun r => (∀ c : Dev Cert.PoolFwdKernel.nD,
      r.2.mem ((c.tc : Thread Cert.PoolFwdKernel.nD Cert.PoolFwdKernel.τ).loc Cert.PoolFwdKernel.main_arg0) = m ((c.tc : Thread Cert.PoolFwdKernel.nD Cert.PoolFwdKernel.τ).loc Cert.PoolFwdKernel.main_arg0)
      ∧ r.2.mem ((c.tc : Thread Cert.PoolFwdKernel.nD Cert.PoolFwdKernel.τ).loc Cert.PoolFwdKernel.main_arg1) = m ((c.tc : Thread Cert.PoolFwdKernel.nD Cert.PoolFwdKernel.τ).loc Cert.PoolFwdKernel.main_arg1)
      ∧ r.2.mem ((c.tc : Thread Cert.PoolFwdKernel.nD Cert.PoolFwdKernel.τ).loc Cert.PoolFwdKernel.main_arg2) = m ((c.tc : Thread Cert.PoolFwdKernel.nD Cert.PoolFwdKernel.τ).loc Cert.PoolFwdKernel.main_arg2))
      ∧ r.2.sem = fun _ => 0)

def quiescent_PoolFwdKernelIdeal [hPoolFwdKernelIdeal : Cert.PoolFwdKernelIdeal.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ r.2.sem = fun _ => 0)

def quiescent_PoolFwdKernelIdeal_pre_poolf_finite [hPoolFwdKernelIdeal : Cert.PoolFwdKernelIdeal.Facts] [hPre_poolf_finite : Cert.Pre_poolf_finite.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal_poolf_finite m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ r.2.sem = fun _ => 0)

def quiescent_PoolFwdReferenceIdeal [hPoolFwdReferenceIdeal : Cert.PoolFwdReferenceIdeal.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_PoolFwdReferenceIdeal_pre_poolf_finite [hPoolFwdReferenceIdeal : Cert.PoolFwdReferenceIdeal.Facts] [hPre_poolf_finite : Cert.Pre_poolf_finite.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal_poolf_finite m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateKernel_GateKernelIdeal : Prop :=
  True

def algebraic_GateKernelIdeal_GateReferenceIdeal_on_gate_columns_pre_gate_finite [hGateKernelIdeal : Cert.GateKernelIdeal.Facts] [hGateReferenceIdeal : Cert.GateReferenceIdeal.Facts] [hPre_gate_finite : Cert.Pre_gate_finite.Facts] [hOn_gate_columns : Cert.On_gate_columns.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v0_0)) (v1 : (c : Dev Cert.GateKernelIdeal.nD) → Buf (Elt Ideal) ((c.tc : Thread Cert.GateKernelIdeal.nD Cert.GateKernelIdeal.τ).loc Cert.GateKernelIdeal.main_v0_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          (∀ i : (⟨2, ![4096, 2048]⟩ : Shape).Idx, (Cert.On_gate_columns.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).1 i = 1#1 → r.2.mem ((c.tc : Thread Cert.GateKernelIdeal.nD Cert.GateKernelIdeal.τ).loc Cert.GateKernelIdeal.main_v0_0) i = v0 c i)
          ∧ (∀ i : (⟨2, ![4096, 6144]⟩ : Shape).Idx, (Cert.On_gate_columns.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2 i = 1#1 → r.2.mem ((c.tc : Thread Cert.GateKernelIdeal.nD Cert.GateKernelIdeal.τ).loc Cert.GateKernelIdeal.main_v0_1) i = v1 c i)
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          (∀ i : (⟨2, ![4096, 2048]⟩ : Shape).Idx, (Cert.On_gate_columns.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).1 i = 1#1 → r.2.mem ((c.tc : Thread Cert.GateReferenceIdeal.nD Cert.GateReferenceIdeal.τ).loc Cert.GateReferenceIdeal.main_v13) i = v0 c i)
          ∧ (∀ i : (⟨2, ![4096, 6144]⟩ : Shape).Idx, (Cert.On_gate_columns.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2 i = 1#1 → r.2.mem ((c.tc : Thread Cert.GateReferenceIdeal.nD Cert.GateReferenceIdeal.τ).loc Cert.GateReferenceIdeal.main_v15) i = v1 c i)
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_PoolGateKernel_PoolGateKernelIdeal : Prop :=
  True

def algebraic_PoolGateKernelIdeal_PoolGateReferenceIdeal_on_pgate_columns_pre_pgate_finite [hPoolGateKernelIdeal : Cert.PoolGateKernelIdeal.Facts] [hPoolGateReferenceIdeal : Cert.PoolGateReferenceIdeal.Facts] [hPre_pgate_finite : Cert.Pre_pgate_finite.Facts] [hOn_pgate_columns : Cert.On_pgate_columns.Facts] : Prop :=
  ∀ (m : (ℓ : Loc Cert.PoolGateKernelIdeal.nD Cert.PoolGateKernelIdeal.τ Cert.PoolGateKernelIdeal.sig) → Buf (Elt Ideal) ℓ) (g : Dev Cert.PoolGateKernelIdeal.nD → PrngReg)
    (m' : (ℓ : Loc Cert.PoolGateReferenceIdeal.nD Cert.PoolGateReferenceIdeal.τ Cert.PoolGateReferenceIdeal.sig) → Buf (Elt Ideal) ℓ) (g' : Dev Cert.PoolGateReferenceIdeal.nD → PrngReg), Pre_PoolGateKernelIdeal_pgate_finite m →
    (∀ c : Dev Cert.PoolGateKernelIdeal.nD,
      m' ((c.tc : Thread Cert.PoolGateReferenceIdeal.nD Cert.PoolGateReferenceIdeal.τ).loc Cert.PoolGateReferenceIdeal.main_arg0) = m ((c.tc : Thread Cert.PoolGateKernelIdeal.nD Cert.PoolGateKernelIdeal.τ).loc Cert.PoolGateKernelIdeal.main_arg0)
      ∧ m' ((c.tc : Thread Cert.PoolGateReferenceIdeal.nD Cert.PoolGateReferenceIdeal.τ).loc Cert.PoolGateReferenceIdeal.main_arg1) = m ((c.tc : Thread Cert.PoolGateKernelIdeal.nD Cert.PoolGateKernelIdeal.τ).loc Cert.PoolGateKernelIdeal.main_arg1)
      ∧ m' ((c.tc : Thread Cert.PoolGateReferenceIdeal.nD Cert.PoolGateReferenceIdeal.τ).loc Cert.PoolGateReferenceIdeal.main_arg2) = m ((c.tc : Thread Cert.PoolGateKernelIdeal.nD Cert.PoolGateKernelIdeal.τ).loc Cert.PoolGateKernelIdeal.main_arg2)
      ∧ m' ((c.tc : Thread Cert.PoolGateReferenceIdeal.nD Cert.PoolGateReferenceIdeal.τ).loc Cert.PoolGateReferenceIdeal.main_arg3) = m ((c.tc : Thread Cert.PoolGateKernelIdeal.nD Cert.PoolGateKernelIdeal.τ).loc Cert.PoolGateKernelIdeal.main_arg3)
      ∧ m' ((c.tc : Thread Cert.PoolGateReferenceIdeal.nD Cert.PoolGateReferenceIdeal.τ).loc Cert.PoolGateReferenceIdeal.main_arg4) = m ((c.tc : Thread Cert.PoolGateKernelIdeal.nD Cert.PoolGateKernelIdeal.τ).loc Cert.PoolGateKernelIdeal.main_arg4)) →
    ∃ (v0 : (c : Dev Cert.PoolGateKernelIdeal.nD) → Buf (Elt Ideal) ((c.tc : Thread Cert.PoolGateKernelIdeal.nD Cert.PoolGateKernelIdeal.τ).loc Cert.PoolGateKernelIdeal.main_v0_0)) (v1 : (c : Dev Cert.PoolGateKernelIdeal.nD) → Buf (Elt Ideal) ((c.tc : Thread Cert.PoolGateKernelIdeal.nD Cert.PoolGateKernelIdeal.τ).loc Cert.PoolGateKernelIdeal.main_v0_1)) (v2 : (c : Dev Cert.PoolGateKernelIdeal.nD) → Buf (Elt Ideal) ((c.tc : Thread Cert.PoolGateKernelIdeal.nD Cert.PoolGateKernelIdeal.τ).loc Cert.PoolGateKernelIdeal.main_v0_2)),
      θ_run (Cert.PoolGateKernelIdeal.defs (F := Ideal)) (onTc (τ := Cert.PoolGateKernelIdeal.τ) (Cert.PoolGateKernelIdeal.main (F := Ideal))) ⟨m, fun _ => 0, g⟩ (fun r => ∀ c : Dev Cert.PoolGateKernelIdeal.nD,
          (∀ i : (⟨2, ![4096, 2048]⟩ : Shape).Idx, (Cert.On_pgate_columns.fn (F := Ideal) (m ((c.tc : Thread Cert.PoolGateKernelIdeal.nD Cert.PoolGateKernelIdeal.τ).loc Cert.PoolGateKernelIdeal.main_arg0)) (m ((c.tc : Thread Cert.PoolGateKernelIdeal.nD Cert.PoolGateKernelIdeal.τ).loc Cert.PoolGateKernelIdeal.main_arg1)) (m ((c.tc : Thread Cert.PoolGateKernelIdeal.nD Cert.PoolGateKernelIdeal.τ).loc Cert.PoolGateKernelIdeal.main_arg2)) (m ((c.tc : Thread Cert.PoolGateKernelIdeal.nD Cert.PoolGateKernelIdeal.τ).loc Cert.PoolGateKernelIdeal.main_arg3)) (m ((c.tc : Thread Cert.PoolGateKernelIdeal.nD Cert.PoolGateKernelIdeal.τ).loc Cert.PoolGateKernelIdeal.main_arg4))).1 i = 1#1 → r.2.mem ((c.tc : Thread Cert.PoolGateKernelIdeal.nD Cert.PoolGateKernelIdeal.τ).loc Cert.PoolGateKernelIdeal.main_v0_0) i = v0 c i)
          ∧ (∀ i : (⟨2, ![4096, 4096]⟩ : Shape).Idx, (Cert.On_pgate_columns.fn (F := Ideal) (m ((c.tc : Thread Cert.PoolGateKernelIdeal.nD Cert.PoolGateKernelIdeal.τ).loc Cert.PoolGateKernelIdeal.main_arg0)) (m ((c.tc : Thread Cert.PoolGateKernelIdeal.nD Cert.PoolGateKernelIdeal.τ).loc Cert.PoolGateKernelIdeal.main_arg1)) (m ((c.tc : Thread Cert.PoolGateKernelIdeal.nD Cert.PoolGateKernelIdeal.τ).loc Cert.PoolGateKernelIdeal.main_arg2)) (m ((c.tc : Thread Cert.PoolGateKernelIdeal.nD Cert.PoolGateKernelIdeal.τ).loc Cert.PoolGateKernelIdeal.main_arg3)) (m ((c.tc : Thread Cert.PoolGateKernelIdeal.nD Cert.PoolGateKernelIdeal.τ).loc Cert.PoolGateKernelIdeal.main_arg4))).2.1 i = 1#1 → r.2.mem ((c.tc : Thread Cert.PoolGateKernelIdeal.nD Cert.PoolGateKernelIdeal.τ).loc Cert.PoolGateKernelIdeal.main_v0_1) i = v1 c i)
          ∧ (∀ i : (⟨2, ![1, 2048]⟩ : Shape).Idx, (Cert.On_pgate_columns.fn (F := Ideal) (m ((c.tc : Thread Cert.PoolGateKernelIdeal.nD Cert.PoolGateKernelIdeal.τ).loc Cert.PoolGateKernelIdeal.main_arg0)) (m ((c.tc : Thread Cert.PoolGateKernelIdeal.nD Cert.PoolGateKernelIdeal.τ).loc Cert.PoolGateKernelIdeal.main_arg1)) (m ((c.tc : Thread Cert.PoolGateKernelIdeal.nD Cert.PoolGateKernelIdeal.τ).loc Cert.PoolGateKernelIdeal.main_arg2)) (m ((c.tc : Thread Cert.PoolGateKernelIdeal.nD Cert.PoolGateKernelIdeal.τ).loc Cert.PoolGateKernelIdeal.main_arg3)) (m ((c.tc : Thread Cert.PoolGateKernelIdeal.nD Cert.PoolGateKernelIdeal.τ).loc Cert.PoolGateKernelIdeal.main_arg4))).2.2 i = 1#1 → r.2.mem ((c.tc : Thread Cert.PoolGateKernelIdeal.nD Cert.PoolGateKernelIdeal.τ).loc Cert.PoolGateKernelIdeal.main_v0_2) i = v2 c i)
          ∧ r.2.mem ((c.tc : Thread Cert.PoolGateKernelIdeal.nD Cert.PoolGateKernelIdeal.τ).loc Cert.PoolGateKernelIdeal.main_arg0) = m ((c.tc : Thread Cert.PoolGateKernelIdeal.nD Cert.PoolGateKernelIdeal.τ).loc Cert.PoolGateKernelIdeal.main_arg0)
          ∧ r.2.mem ((c.tc : Thread Cert.PoolGateKernelIdeal.nD Cert.PoolGateKernelIdeal.τ).loc Cert.PoolGateKernelIdeal.main_arg1) = m ((c.tc : Thread Cert.PoolGateKernelIdeal.nD Cert.PoolGateKernelIdeal.τ).loc Cert.PoolGateKernelIdeal.main_arg1)
          ∧ r.2.mem ((c.tc : Thread Cert.PoolGateKernelIdeal.nD Cert.PoolGateKernelIdeal.τ).loc Cert.PoolGateKernelIdeal.main_arg2) = m ((c.tc : Thread Cert.PoolGateKernelIdeal.nD Cert.PoolGateKernelIdeal.τ).loc Cert.PoolGateKernelIdeal.main_arg2)
          ∧ r.2.mem ((c.tc : Thread Cert.PoolGateKernelIdeal.nD Cert.PoolGateKernelIdeal.τ).loc Cert.PoolGateKernelIdeal.main_arg3) = m ((c.tc : Thread Cert.PoolGateKernelIdeal.nD Cert.PoolGateKernelIdeal.τ).loc Cert.PoolGateKernelIdeal.main_arg3)
          ∧ r.2.mem ((c.tc : Thread Cert.PoolGateKernelIdeal.nD Cert.PoolGateKernelIdeal.τ).loc Cert.PoolGateKernelIdeal.main_arg4) = m ((c.tc : Thread Cert.PoolGateKernelIdeal.nD Cert.PoolGateKernelIdeal.τ).loc Cert.PoolGateKernelIdeal.main_arg4))
      ∧ θ_run (Cert.PoolGateReferenceIdeal.defs (F := Ideal)) (onTc (τ := Cert.PoolGateReferenceIdeal.τ) (Cert.PoolGateReferenceIdeal.main (F := Ideal))) ⟨m', fun _ => 0, g'⟩ (fun r => ∀ c : Dev Cert.PoolGateReferenceIdeal.nD,
          (∀ i : (⟨2, ![4096, 2048]⟩ : Shape).Idx, (Cert.On_pgate_columns.fn (F := Ideal) (m ((c.tc : Thread Cert.PoolGateKernelIdeal.nD Cert.PoolGateKernelIdeal.τ).loc Cert.PoolGateKernelIdeal.main_arg0)) (m ((c.tc : Thread Cert.PoolGateKernelIdeal.nD Cert.PoolGateKernelIdeal.τ).loc Cert.PoolGateKernelIdeal.main_arg1)) (m ((c.tc : Thread Cert.PoolGateKernelIdeal.nD Cert.PoolGateKernelIdeal.τ).loc Cert.PoolGateKernelIdeal.main_arg2)) (m ((c.tc : Thread Cert.PoolGateKernelIdeal.nD Cert.PoolGateKernelIdeal.τ).loc Cert.PoolGateKernelIdeal.main_arg3)) (m ((c.tc : Thread Cert.PoolGateKernelIdeal.nD Cert.PoolGateKernelIdeal.τ).loc Cert.PoolGateKernelIdeal.main_arg4))).1 i = 1#1 → r.2.mem ((c.tc : Thread Cert.PoolGateReferenceIdeal.nD Cert.PoolGateReferenceIdeal.τ).loc Cert.PoolGateReferenceIdeal.main_v20) i = v0 c i)
          ∧ (∀ i : (⟨2, ![4096, 4096]⟩ : Shape).Idx, (Cert.On_pgate_columns.fn (F := Ideal) (m ((c.tc : Thread Cert.PoolGateKernelIdeal.nD Cert.PoolGateKernelIdeal.τ).loc Cert.PoolGateKernelIdeal.main_arg0)) (m ((c.tc : Thread Cert.PoolGateKernelIdeal.nD Cert.PoolGateKernelIdeal.τ).loc Cert.PoolGateKernelIdeal.main_arg1)) (m ((c.tc : Thread Cert.PoolGateKernelIdeal.nD Cert.PoolGateKernelIdeal.τ).loc Cert.PoolGateKernelIdeal.main_arg2)) (m ((c.tc : Thread Cert.PoolGateKernelIdeal.nD Cert.PoolGateKernelIdeal.τ).loc Cert.PoolGateKernelIdeal.main_arg3)) (m ((c.tc : Thread Cert.PoolGateKernelIdeal.nD Cert.PoolGateKernelIdeal.τ).loc Cert.PoolGateKernelIdeal.main_arg4))).2.1 i = 1#1 → r.2.mem ((c.tc : Thread Cert.PoolGateReferenceIdeal.nD Cert.PoolGateReferenceIdeal.τ).loc Cert.PoolGateReferenceIdeal.main_v22) i = v1 c i)
          ∧ (∀ i : (⟨2, ![1, 2048]⟩ : Shape).Idx, (Cert.On_pgate_columns.fn (F := Ideal) (m ((c.tc : Thread Cert.PoolGateKernelIdeal.nD Cert.PoolGateKernelIdeal.τ).loc Cert.PoolGateKernelIdeal.main_arg0)) (m ((c.tc : Thread Cert.PoolGateKernelIdeal.nD Cert.PoolGateKernelIdeal.τ).loc Cert.PoolGateKernelIdeal.main_arg1)) (m ((c.tc : Thread Cert.PoolGateKernelIdeal.nD Cert.PoolGateKernelIdeal.τ).loc Cert.PoolGateKernelIdeal.main_arg2)) (m ((c.tc : Thread Cert.PoolGateKernelIdeal.nD Cert.PoolGateKernelIdeal.τ).loc Cert.PoolGateKernelIdeal.main_arg3)) (m ((c.tc : Thread Cert.PoolGateKernelIdeal.nD Cert.PoolGateKernelIdeal.τ).loc Cert.PoolGateKernelIdeal.main_arg4))).2.2 i = 1#1 → r.2.mem ((c.tc : Thread Cert.PoolGateReferenceIdeal.nD Cert.PoolGateReferenceIdeal.τ).loc Cert.PoolGateReferenceIdeal.main_v16) i = v2 c i)
          ∧ r.2.mem ((c.tc : Thread Cert.PoolGateReferenceIdeal.nD Cert.PoolGateReferenceIdeal.τ).loc Cert.PoolGateReferenceIdeal.main_arg0) = m' ((c.tc : Thread Cert.PoolGateReferenceIdeal.nD Cert.PoolGateReferenceIdeal.τ).loc Cert.PoolGateReferenceIdeal.main_arg0)
          ∧ r.2.mem ((c.tc : Thread Cert.PoolGateReferenceIdeal.nD Cert.PoolGateReferenceIdeal.τ).loc Cert.PoolGateReferenceIdeal.main_arg1) = m' ((c.tc : Thread Cert.PoolGateReferenceIdeal.nD Cert.PoolGateReferenceIdeal.τ).loc Cert.PoolGateReferenceIdeal.main_arg1)
          ∧ r.2.mem ((c.tc : Thread Cert.PoolGateReferenceIdeal.nD Cert.PoolGateReferenceIdeal.τ).loc Cert.PoolGateReferenceIdeal.main_arg2) = m' ((c.tc : Thread Cert.PoolGateReferenceIdeal.nD Cert.PoolGateReferenceIdeal.τ).loc Cert.PoolGateReferenceIdeal.main_arg2)
          ∧ r.2.mem ((c.tc : Thread Cert.PoolGateReferenceIdeal.nD Cert.PoolGateReferenceIdeal.τ).loc Cert.PoolGateReferenceIdeal.main_arg3) = m' ((c.tc : Thread Cert.PoolGateReferenceIdeal.nD Cert.PoolGateReferenceIdeal.τ).loc Cert.PoolGateReferenceIdeal.main_arg3)
          ∧ r.2.mem ((c.tc : Thread Cert.PoolGateReferenceIdeal.nD Cert.PoolGateReferenceIdeal.τ).loc Cert.PoolGateReferenceIdeal.main_arg4) = m' ((c.tc : Thread Cert.PoolGateReferenceIdeal.nD Cert.PoolGateReferenceIdeal.τ).loc Cert.PoolGateReferenceIdeal.main_arg4))

def preserves_RmsKernel_RmsKernelIdeal : Prop :=
  True

def algebraic_RmsKernelIdeal_RmsReferenceIdeal_pre_rms_finite [hRmsKernelIdeal : Cert.RmsKernelIdeal.Facts] [hRmsReferenceIdeal : Cert.RmsReferenceIdeal.Facts] [hPre_rms_finite : Cert.Pre_rms_finite.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal_rms_finite m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)
      ∧ m' ((c.tc : Thread Cert.RmsReferenceIdeal.nD Cert.RmsReferenceIdeal.τ).loc Cert.RmsReferenceIdeal.main_arg2) = m ((c.tc : Thread Cert.RmsKernelIdeal.nD Cert.RmsKernelIdeal.τ).loc Cert.RmsKernelIdeal.main_arg2)
      ∧ m' ((c.tc : Thread Cert.RmsReferenceIdeal.nD Cert.RmsReferenceIdeal.τ).loc Cert.RmsReferenceIdeal.main_arg3) = m ((c.tc : Thread Cert.RmsKernelIdeal.nD Cert.RmsKernelIdeal.τ).loc Cert.RmsKernelIdeal.main_arg3)
      ∧ m' ((c.tc : Thread Cert.RmsReferenceIdeal.nD Cert.RmsReferenceIdeal.τ).loc Cert.RmsReferenceIdeal.main_arg4) = m ((c.tc : Thread Cert.RmsKernelIdeal.nD Cert.RmsKernelIdeal.τ).loc Cert.RmsKernelIdeal.main_arg4)) →
    ∃ (v0 : (c : Dev Cert.RmsKernelIdeal.nD) → Buf (Elt Ideal) ((c.tc : Thread Cert.RmsKernelIdeal.nD Cert.RmsKernelIdeal.τ).loc Cert.RmsKernelIdeal.main_v2_0)) (v1 : (c : Dev Cert.RmsKernelIdeal.nD) → Buf (Elt Ideal) ((c.tc : Thread Cert.RmsKernelIdeal.nD Cert.RmsKernelIdeal.τ).loc Cert.RmsKernelIdeal.main_v2_1)) (v2 : (c : Dev Cert.RmsKernelIdeal.nD) → Buf (Elt Ideal) ((c.tc : Thread Cert.RmsKernelIdeal.nD Cert.RmsKernelIdeal.τ).loc Cert.RmsKernelIdeal.main_v2_2)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v2_0) = v0 c
          ∧ r.2.mem ((c.tc : Thread Cert.RmsKernelIdeal.nD Cert.RmsKernelIdeal.τ).loc Cert.RmsKernelIdeal.main_v2_1) = v1 c
          ∧ r.2.mem ((c.tc : Thread Cert.RmsKernelIdeal.nD Cert.RmsKernelIdeal.τ).loc Cert.RmsKernelIdeal.main_v2_2) = v2 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
          ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
          ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3)
          ∧ r.2.mem ((c.tc : Thread Cert.RmsKernelIdeal.nD Cert.RmsKernelIdeal.τ).loc Cert.RmsKernelIdeal.main_arg4) = m ((c.tc : Thread Cert.RmsKernelIdeal.nD Cert.RmsKernelIdeal.τ).loc Cert.RmsKernelIdeal.main_arg4))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v38) = v0 c
          ∧ r.2.mem ((c.tc : Thread Cert.RmsReferenceIdeal.nD Cert.RmsReferenceIdeal.τ).loc Cert.RmsReferenceIdeal.main_v21) = v1 c
          ∧ r.2.mem ((c.tc : Thread Cert.RmsReferenceIdeal.nD Cert.RmsReferenceIdeal.τ).loc Cert.RmsReferenceIdeal.main_v39) = v2 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2)
          ∧ r.2.mem ((c.tc : Thread Cert.RmsReferenceIdeal.nD Cert.RmsReferenceIdeal.τ).loc Cert.RmsReferenceIdeal.main_arg3) = m' ((c.tc : Thread Cert.RmsReferenceIdeal.nD Cert.RmsReferenceIdeal.τ).loc Cert.RmsReferenceIdeal.main_arg3)
          ∧ r.2.mem ((c.tc : Thread Cert.RmsReferenceIdeal.nD Cert.RmsReferenceIdeal.τ).loc Cert.RmsReferenceIdeal.main_arg4) = m' ((c.tc : Thread Cert.RmsReferenceIdeal.nD Cert.RmsReferenceIdeal.τ).loc Cert.RmsReferenceIdeal.main_arg4))

def preserves_WoutKernel_WoutKernelIdeal : Prop :=
  True

def algebraic_WoutKernelIdeal_WoutReferenceIdeal [hWoutKernelIdeal : Cert.WoutKernelIdeal.Facts] [hWoutReferenceIdeal : Cert.WoutReferenceIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutKernelIdeal m →
    (∀ c : Dev Cert.WoutKernelIdeal.nD,
      m' ((c.tc : Thread Cert.WoutReferenceIdeal.nD Cert.WoutReferenceIdeal.τ).loc Cert.WoutReferenceIdeal.main_arg0) = m ((c.tc : Thread Cert.WoutKernelIdeal.nD Cert.WoutKernelIdeal.τ).loc Cert.WoutKernelIdeal.main_arg0)
      ∧ m' ((c.tc : Thread Cert.WoutReferenceIdeal.nD Cert.WoutReferenceIdeal.τ).loc Cert.WoutReferenceIdeal.main_arg1) = m ((c.tc : Thread Cert.WoutKernelIdeal.nD Cert.WoutKernelIdeal.τ).loc Cert.WoutKernelIdeal.main_arg1)) →
    ∃ (v0 : (c : Dev Cert.WoutKernelIdeal.nD) → Buf (Elt Ideal) ((c.tc : Thread Cert.WoutKernelIdeal.nD Cert.WoutKernelIdeal.τ).loc Cert.WoutKernelIdeal.main_v0)),
      θ_run (Cert.WoutKernelIdeal.defs (F := Ideal)) (onTc (τ := Cert.WoutKernelIdeal.τ) (Cert.WoutKernelIdeal.main (F := Ideal))) ⟨m, fun _ => 0, g⟩ (fun r => ∀ c : Dev Cert.WoutKernelIdeal.nD,
          r.2.mem ((c.tc : Thread Cert.WoutKernelIdeal.nD Cert.WoutKernelIdeal.τ).loc Cert.WoutKernelIdeal.main_v0) = v0 c
          ∧ r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
          ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v5) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1))

def preserves_SbinKernel_SbinKernelIdeal : Prop :=
  True

def algebraic_SbinKernelIdeal_SbinReferenceIdeal [hSbinKernelIdeal : Cert.SbinKernelIdeal.Facts] [hSbinReferenceIdeal : Cert.SbinReferenceIdeal.Facts] : Prop :=
  ∀ (m : (ℓ : Loc Cert.SbinKernelIdeal.nD Cert.SbinKernelIdeal.τ Cert.SbinKernelIdeal.sig) → Buf (Elt Ideal) ℓ) (g : Dev Cert.SbinKernelIdeal.nD → PrngReg)
    (m' : (ℓ : Loc Cert.SbinReferenceIdeal.nD Cert.SbinReferenceIdeal.τ Cert.SbinReferenceIdeal.sig) → Buf (Elt Ideal) ℓ) (g' : Dev Cert.SbinReferenceIdeal.nD → PrngReg), Pre_SbinKernelIdeal m →
    (∀ c : Dev Cert.SbinKernelIdeal.nD,
      m' ((c.tc : Thread Cert.SbinReferenceIdeal.nD Cert.SbinReferenceIdeal.τ).loc Cert.SbinReferenceIdeal.main_arg0) = m ((c.tc : Thread Cert.SbinKernelIdeal.nD Cert.SbinKernelIdeal.τ).loc Cert.SbinKernelIdeal.main_arg0)
      ∧ m' ((c.tc : Thread Cert.SbinReferenceIdeal.nD Cert.SbinReferenceIdeal.τ).loc Cert.SbinReferenceIdeal.main_arg1) = m ((c.tc : Thread Cert.SbinKernelIdeal.nD Cert.SbinKernelIdeal.τ).loc Cert.SbinKernelIdeal.main_arg1)) →
    ∃ (v0 : (c : Dev Cert.SbinKernelIdeal.nD) → Buf (Elt Ideal) ((c.tc : Thread Cert.SbinKernelIdeal.nD Cert.SbinKernelIdeal.τ).loc Cert.SbinKernelIdeal.main_v0)),
      θ_run (Cert.SbinKernelIdeal.defs (F := Ideal)) (onTc (τ := Cert.SbinKernelIdeal.τ) (Cert.SbinKernelIdeal.main (F := Ideal))) ⟨m, fun _ => 0, g⟩ (fun r => ∀ c : Dev Cert.SbinKernelIdeal.nD,
          r.2.mem ((c.tc : Thread Cert.SbinKernelIdeal.nD Cert.SbinKernelIdeal.τ).loc Cert.SbinKernelIdeal.main_v0) = v0 c
          ∧ r.2.mem ((c.tc : Thread Cert.SbinKernelIdeal.nD Cert.SbinKernelIdeal.τ).loc Cert.SbinKernelIdeal.main_arg0) = m ((c.tc : Thread Cert.SbinKernelIdeal.nD Cert.SbinKernelIdeal.τ).loc Cert.SbinKernelIdeal.main_arg0)
          ∧ r.2.mem ((c.tc : Thread Cert.SbinKernelIdeal.nD Cert.SbinKernelIdeal.τ).loc Cert.SbinKernelIdeal.main_arg1) = m ((c.tc : Thread Cert.SbinKernelIdeal.nD Cert.SbinKernelIdeal.τ).loc Cert.SbinKernelIdeal.main_arg1))
      ∧ θ_run (Cert.SbinReferenceIdeal.defs (F := Ideal)) (onTc (τ := Cert.SbinReferenceIdeal.τ) (Cert.SbinReferenceIdeal.main (F := Ideal))) ⟨m', fun _ => 0, g'⟩ (fun r => ∀ c : Dev Cert.SbinReferenceIdeal.nD,
          r.2.mem ((c.tc : Thread Cert.SbinReferenceIdeal.nD Cert.SbinReferenceIdeal.τ).loc Cert.SbinReferenceIdeal.main_v7) = v0 c
          ∧ r.2.mem ((c.tc : Thread Cert.SbinReferenceIdeal.nD Cert.SbinReferenceIdeal.τ).loc Cert.SbinReferenceIdeal.main_arg0) = m' ((c.tc : Thread Cert.SbinReferenceIdeal.nD Cert.SbinReferenceIdeal.τ).loc Cert.SbinReferenceIdeal.main_arg0)
          ∧ r.2.mem ((c.tc : Thread Cert.SbinReferenceIdeal.nD Cert.SbinReferenceIdeal.τ).loc Cert.SbinReferenceIdeal.main_arg1) = m' ((c.tc : Thread Cert.SbinReferenceIdeal.nD Cert.SbinReferenceIdeal.τ).loc Cert.SbinReferenceIdeal.main_arg1))

def preserves_PinKernel_PinKernelIdeal : Prop :=
  True

def algebraic_PinKernelIdeal_PinReferenceIdeal [hPinKernelIdeal : Cert.PinKernelIdeal.Facts] [hPinReferenceIdeal : Cert.PinReferenceIdeal.Facts] : Prop :=
  ∀ (m : (ℓ : Loc Cert.PinKernelIdeal.nD Cert.PinKernelIdeal.τ Cert.PinKernelIdeal.sig) → Buf (Elt Ideal) ℓ) (g : Dev Cert.PinKernelIdeal.nD → PrngReg)
    (m' : (ℓ : Loc Cert.PinReferenceIdeal.nD Cert.PinReferenceIdeal.τ Cert.PinReferenceIdeal.sig) → Buf (Elt Ideal) ℓ) (g' : Dev Cert.PinReferenceIdeal.nD → PrngReg), Pre_PinKernelIdeal m →
    (∀ c : Dev Cert.PinKernelIdeal.nD,
      m' ((c.tc : Thread Cert.PinReferenceIdeal.nD Cert.PinReferenceIdeal.τ).loc Cert.PinReferenceIdeal.main_arg0) = m ((c.tc : Thread Cert.PinKernelIdeal.nD Cert.PinKernelIdeal.τ).loc Cert.PinKernelIdeal.main_arg0)
      ∧ m' ((c.tc : Thread Cert.PinReferenceIdeal.nD Cert.PinReferenceIdeal.τ).loc Cert.PinReferenceIdeal.main_arg1) = m ((c.tc : Thread Cert.PinKernelIdeal.nD Cert.PinKernelIdeal.τ).loc Cert.PinKernelIdeal.main_arg1)) →
    ∃ (v0 : (c : Dev Cert.PinKernelIdeal.nD) → Buf (Elt Ideal) ((c.tc : Thread Cert.PinKernelIdeal.nD Cert.PinKernelIdeal.τ).loc Cert.PinKernelIdeal.main_v0)),
      θ_run (Cert.PinKernelIdeal.defs (F := Ideal)) (onTc (τ := Cert.PinKernelIdeal.τ) (Cert.PinKernelIdeal.main (F := Ideal))) ⟨m, fun _ => 0, g⟩ (fun r => ∀ c : Dev Cert.PinKernelIdeal.nD,
          r.2.mem ((c.tc : Thread Cert.PinKernelIdeal.nD Cert.PinKernelIdeal.τ).loc Cert.PinKernelIdeal.main_v0) = v0 c
          ∧ r.2.mem ((c.tc : Thread Cert.PinKernelIdeal.nD Cert.PinKernelIdeal.τ).loc Cert.PinKernelIdeal.main_arg0) = m ((c.tc : Thread Cert.PinKernelIdeal.nD Cert.PinKernelIdeal.τ).loc Cert.PinKernelIdeal.main_arg0)
          ∧ r.2.mem ((c.tc : Thread Cert.PinKernelIdeal.nD Cert.PinKernelIdeal.τ).loc Cert.PinKernelIdeal.main_arg1) = m ((c.tc : Thread Cert.PinKernelIdeal.nD Cert.PinKernelIdeal.τ).loc Cert.PinKernelIdeal.main_arg1))
      ∧ θ_run (Cert.PinReferenceIdeal.defs (F := Ideal)) (onTc (τ := Cert.PinReferenceIdeal.τ) (Cert.PinReferenceIdeal.main (F := Ideal))) ⟨m', fun _ => 0, g'⟩ (fun r => ∀ c : Dev Cert.PinReferenceIdeal.nD,
          r.2.mem ((c.tc : Thread Cert.PinReferenceIdeal.nD Cert.PinReferenceIdeal.τ).loc Cert.PinReferenceIdeal.main_v7) = v0 c
          ∧ r.2.mem ((c.tc : Thread Cert.PinReferenceIdeal.nD Cert.PinReferenceIdeal.τ).loc Cert.PinReferenceIdeal.main_arg0) = m' ((c.tc : Thread Cert.PinReferenceIdeal.nD Cert.PinReferenceIdeal.τ).loc Cert.PinReferenceIdeal.main_arg0)
          ∧ r.2.mem ((c.tc : Thread Cert.PinReferenceIdeal.nD Cert.PinReferenceIdeal.τ).loc Cert.PinReferenceIdeal.main_arg1) = m' ((c.tc : Thread Cert.PinReferenceIdeal.nD Cert.PinReferenceIdeal.τ).loc Cert.PinReferenceIdeal.main_arg1))

def preserves_PwKernel_PwKernelIdeal : Prop :=
  True

def algebraic_PwKernelIdeal_PwReferenceIdeal [hPwKernelIdeal : Cert.PwKernelIdeal.Facts] [hPwReferenceIdeal : Cert.PwReferenceIdeal.Facts] : Prop :=
  ∀ (m : (ℓ : Loc Cert.PwKernelIdeal.nD Cert.PwKernelIdeal.τ Cert.PwKernelIdeal.sig) → Buf (Elt Ideal) ℓ) (g : Dev Cert.PwKernelIdeal.nD → PrngReg)
    (m' : (ℓ : Loc Cert.PwReferenceIdeal.nD Cert.PwReferenceIdeal.τ Cert.PwReferenceIdeal.sig) → Buf (Elt Ideal) ℓ) (g' : Dev Cert.PwReferenceIdeal.nD → PrngReg), Pre_PwKernelIdeal m →
    (∀ c : Dev Cert.PwKernelIdeal.nD,
      m' ((c.tc : Thread Cert.PwReferenceIdeal.nD Cert.PwReferenceIdeal.τ).loc Cert.PwReferenceIdeal.main_arg0) = m ((c.tc : Thread Cert.PwKernelIdeal.nD Cert.PwKernelIdeal.τ).loc Cert.PwKernelIdeal.main_arg0)
      ∧ m' ((c.tc : Thread Cert.PwReferenceIdeal.nD Cert.PwReferenceIdeal.τ).loc Cert.PwReferenceIdeal.main_arg1) = m ((c.tc : Thread Cert.PwKernelIdeal.nD Cert.PwKernelIdeal.τ).loc Cert.PwKernelIdeal.main_arg1)) →
    ∃ (v0 : (c : Dev Cert.PwKernelIdeal.nD) → Buf (Elt Ideal) ((c.tc : Thread Cert.PwKernelIdeal.nD Cert.PwKernelIdeal.τ).loc Cert.PwKernelIdeal.main_v0)),
      θ_run (Cert.PwKernelIdeal.defs (F := Ideal)) (onTc (τ := Cert.PwKernelIdeal.τ) (Cert.PwKernelIdeal.main (F := Ideal))) ⟨m, fun _ => 0, g⟩ (fun r => ∀ c : Dev Cert.PwKernelIdeal.nD,
          r.2.mem ((c.tc : Thread Cert.PwKernelIdeal.nD Cert.PwKernelIdeal.τ).loc Cert.PwKernelIdeal.main_v0) = v0 c
          ∧ r.2.mem ((c.tc : Thread Cert.PwKernelIdeal.nD Cert.PwKernelIdeal.τ).loc Cert.PwKernelIdeal.main_arg0) = m ((c.tc : Thread Cert.PwKernelIdeal.nD Cert.PwKernelIdeal.τ).loc Cert.PwKernelIdeal.main_arg0)
          ∧ r.2.mem ((c.tc : Thread Cert.PwKernelIdeal.nD Cert.PwKernelIdeal.τ).loc Cert.PwKernelIdeal.main_arg1) = m ((c.tc : Thread Cert.PwKernelIdeal.nD Cert.PwKernelIdeal.τ).loc Cert.PwKernelIdeal.main_arg1))
      ∧ θ_run (Cert.PwReferenceIdeal.defs (F := Ideal)) (onTc (τ := Cert.PwReferenceIdeal.τ) (Cert.PwReferenceIdeal.main (F := Ideal))) ⟨m', fun _ => 0, g'⟩ (fun r => ∀ c : Dev Cert.PwReferenceIdeal.nD,
          r.2.mem ((c.tc : Thread Cert.PwReferenceIdeal.nD Cert.PwReferenceIdeal.τ).loc Cert.PwReferenceIdeal.main_v12) = v0 c
          ∧ r.2.mem ((c.tc : Thread Cert.PwReferenceIdeal.nD Cert.PwReferenceIdeal.τ).loc Cert.PwReferenceIdeal.main_arg0) = m' ((c.tc : Thread Cert.PwReferenceIdeal.nD Cert.PwReferenceIdeal.τ).loc Cert.PwReferenceIdeal.main_arg0)
          ∧ r.2.mem ((c.tc : Thread Cert.PwReferenceIdeal.nD Cert.PwReferenceIdeal.τ).loc Cert.PwReferenceIdeal.main_arg1) = m' ((c.tc : Thread Cert.PwReferenceIdeal.nD Cert.PwReferenceIdeal.τ).loc Cert.PwReferenceIdeal.main_arg1))

def preserves_ResKernel_ResKernelIdeal : Prop :=
  True

def algebraic_ResKernelIdeal_ResReferenceIdeal [hResKernelIdeal : Cert.ResKernelIdeal.Facts] [hResReferenceIdeal : Cert.ResReferenceIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResKernelIdeal m →
    (∀ c : Dev Cert.ResKernelIdeal.nD,
      m' ((c.tc : Thread Cert.ResReferenceIdeal.nD Cert.ResReferenceIdeal.τ).loc Cert.ResReferenceIdeal.main_arg0) = m ((c.tc : Thread Cert.ResKernelIdeal.nD Cert.ResKernelIdeal.τ).loc Cert.ResKernelIdeal.main_arg0)
      ∧ m' ((c.tc : Thread Cert.ResReferenceIdeal.nD Cert.ResReferenceIdeal.τ).loc Cert.ResReferenceIdeal.main_arg1) = m ((c.tc : Thread Cert.ResKernelIdeal.nD Cert.ResKernelIdeal.τ).loc Cert.ResKernelIdeal.main_arg1)
      ∧ m' ((c.tc : Thread Cert.ResReferenceIdeal.nD Cert.ResReferenceIdeal.τ).loc Cert.ResReferenceIdeal.main_arg2) = m ((c.tc : Thread Cert.ResKernelIdeal.nD Cert.ResKernelIdeal.τ).loc Cert.ResKernelIdeal.main_arg2)) →
    ∃ (v0 : (c : Dev Cert.ResKernelIdeal.nD) → Buf (Elt Ideal) ((c.tc : Thread Cert.ResKernelIdeal.nD Cert.ResKernelIdeal.τ).loc Cert.ResKernelIdeal.main_v0)),
      θ_run (Cert.ResKernelIdeal.defs (F := Ideal)) (onTc (τ := Cert.ResKernelIdeal.τ) (Cert.ResKernelIdeal.main (F := Ideal))) ⟨m, fun _ => 0, g⟩ (fun r => ∀ c : Dev Cert.ResKernelIdeal.nD,
          r.2.mem ((c.tc : Thread Cert.ResKernelIdeal.nD Cert.ResKernelIdeal.τ).loc Cert.ResKernelIdeal.main_v0) = v0 c
          ∧ r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
          ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
          ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v3) = v0 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2))

def preserves_PprojKernel_PprojKernelIdeal : Prop :=
  True

def algebraic_PprojKernelIdeal_PprojReferenceIdeal [hPprojKernelIdeal : Cert.PprojKernelIdeal.Facts] [hPprojReferenceIdeal : Cert.PprojReferenceIdeal.Facts] : Prop :=
  ∀ (m : (ℓ : Loc Cert.PprojKernelIdeal.nD Cert.PprojKernelIdeal.τ Cert.PprojKernelIdeal.sig) → Buf (Elt Ideal) ℓ) (g : Dev Cert.PprojKernelIdeal.nD → PrngReg)
    (m' : (ℓ : Loc Cert.PprojReferenceIdeal.nD Cert.PprojReferenceIdeal.τ Cert.PprojReferenceIdeal.sig) → Buf (Elt Ideal) ℓ) (g' : Dev Cert.PprojReferenceIdeal.nD → PrngReg), Pre_PprojKernelIdeal m →
    (∀ c : Dev Cert.PprojKernelIdeal.nD,
      m' ((c.tc : Thread Cert.PprojReferenceIdeal.nD Cert.PprojReferenceIdeal.τ).loc Cert.PprojReferenceIdeal.main_arg0) = m ((c.tc : Thread Cert.PprojKernelIdeal.nD Cert.PprojKernelIdeal.τ).loc Cert.PprojKernelIdeal.main_arg0)
      ∧ m' ((c.tc : Thread Cert.PprojReferenceIdeal.nD Cert.PprojReferenceIdeal.τ).loc Cert.PprojReferenceIdeal.main_arg1) = m ((c.tc : Thread Cert.PprojKernelIdeal.nD Cert.PprojKernelIdeal.τ).loc Cert.PprojKernelIdeal.main_arg1)
      ∧ m' ((c.tc : Thread Cert.PprojReferenceIdeal.nD Cert.PprojReferenceIdeal.τ).loc Cert.PprojReferenceIdeal.main_arg2) = m ((c.tc : Thread Cert.PprojKernelIdeal.nD Cert.PprojKernelIdeal.τ).loc Cert.PprojKernelIdeal.main_arg2)) →
    ∃ (v0 : (c : Dev Cert.PprojKernelIdeal.nD) → Buf (Elt Ideal) ((c.tc : Thread Cert.PprojKernelIdeal.nD Cert.PprojKernelIdeal.τ).loc Cert.PprojKernelIdeal.main_v2_0)) (v1 : (c : Dev Cert.PprojKernelIdeal.nD) → Buf (Elt Ideal) ((c.tc : Thread Cert.PprojKernelIdeal.nD Cert.PprojKernelIdeal.τ).loc Cert.PprojKernelIdeal.main_v2_1)),
      θ_run (Cert.PprojKernelIdeal.defs (F := Ideal)) (onTc (τ := Cert.PprojKernelIdeal.τ) (Cert.PprojKernelIdeal.main (F := Ideal))) ⟨m, fun _ => 0, g⟩ (fun r => ∀ c : Dev Cert.PprojKernelIdeal.nD,
          r.2.mem ((c.tc : Thread Cert.PprojKernelIdeal.nD Cert.PprojKernelIdeal.τ).loc Cert.PprojKernelIdeal.main_v2_0) = v0 c
          ∧ r.2.mem ((c.tc : Thread Cert.PprojKernelIdeal.nD Cert.PprojKernelIdeal.τ).loc Cert.PprojKernelIdeal.main_v2_1) = v1 c
          ∧ r.2.mem ((c.tc : Thread Cert.PprojKernelIdeal.nD Cert.PprojKernelIdeal.τ).loc Cert.PprojKernelIdeal.main_arg0) = m ((c.tc : Thread Cert.PprojKernelIdeal.nD Cert.PprojKernelIdeal.τ).loc Cert.PprojKernelIdeal.main_arg0)
          ∧ r.2.mem ((c.tc : Thread Cert.PprojKernelIdeal.nD Cert.PprojKernelIdeal.τ).loc Cert.PprojKernelIdeal.main_arg1) = m ((c.tc : Thread Cert.PprojKernelIdeal.nD Cert.PprojKernelIdeal.τ).loc Cert.PprojKernelIdeal.main_arg1)
          ∧ r.2.mem ((c.tc : Thread Cert.PprojKernelIdeal.nD Cert.PprojKernelIdeal.τ).loc Cert.PprojKernelIdeal.main_arg2) = m ((c.tc : Thread Cert.PprojKernelIdeal.nD Cert.PprojKernelIdeal.τ).loc Cert.PprojKernelIdeal.main_arg2))
      ∧ θ_run (Cert.PprojReferenceIdeal.defs (F := Ideal)) (onTc (τ := Cert.PprojReferenceIdeal.τ) (Cert.PprojReferenceIdeal.main (F := Ideal))) ⟨m', fun _ => 0, g'⟩ (fun r => ∀ c : Dev Cert.PprojReferenceIdeal.nD,
          r.2.mem ((c.tc : Thread Cert.PprojReferenceIdeal.nD Cert.PprojReferenceIdeal.τ).loc Cert.PprojReferenceIdeal.main_v14) = v0 c
          ∧ r.2.mem ((c.tc : Thread Cert.PprojReferenceIdeal.nD Cert.PprojReferenceIdeal.τ).loc Cert.PprojReferenceIdeal.main_v15) = v1 c
          ∧ r.2.mem ((c.tc : Thread Cert.PprojReferenceIdeal.nD Cert.PprojReferenceIdeal.τ).loc Cert.PprojReferenceIdeal.main_arg0) = m' ((c.tc : Thread Cert.PprojReferenceIdeal.nD Cert.PprojReferenceIdeal.τ).loc Cert.PprojReferenceIdeal.main_arg0)
          ∧ r.2.mem ((c.tc : Thread Cert.PprojReferenceIdeal.nD Cert.PprojReferenceIdeal.τ).loc Cert.PprojReferenceIdeal.main_arg1) = m' ((c.tc : Thread Cert.PprojReferenceIdeal.nD Cert.PprojReferenceIdeal.τ).loc Cert.PprojReferenceIdeal.main_arg1)
          ∧ r.2.mem ((c.tc : Thread Cert.PprojReferenceIdeal.nD Cert.PprojReferenceIdeal.τ).loc Cert.PprojReferenceIdeal.main_arg2) = m' ((c.tc : Thread Cert.PprojReferenceIdeal.nD Cert.PprojReferenceIdeal.τ).loc Cert.PprojReferenceIdeal.main_arg2))

def preserves_SprojKernel_SprojKernelIdeal : Prop :=
  True

def algebraic_SprojKernelIdeal_SprojReferenceIdeal [hSprojKernelIdeal : Cert.SprojKernelIdeal.Facts] [hSprojReferenceIdeal : Cert.SprojReferenceIdeal.Facts] : Prop :=
  ∀ (m : (ℓ : Loc Cert.SprojKernelIdeal.nD Cert.SprojKernelIdeal.τ Cert.SprojKernelIdeal.sig) → Buf (Elt Ideal) ℓ) (g : Dev Cert.SprojKernelIdeal.nD → PrngReg)
    (m' : (ℓ : Loc Cert.SprojReferenceIdeal.nD Cert.SprojReferenceIdeal.τ Cert.SprojReferenceIdeal.sig) → Buf (Elt Ideal) ℓ) (g' : Dev Cert.SprojReferenceIdeal.nD → PrngReg), Pre_SprojKernelIdeal m →
    (∀ c : Dev Cert.SprojKernelIdeal.nD,
      m' ((c.tc : Thread Cert.SprojReferenceIdeal.nD Cert.SprojReferenceIdeal.τ).loc Cert.SprojReferenceIdeal.main_arg0) = m ((c.tc : Thread Cert.SprojKernelIdeal.nD Cert.SprojKernelIdeal.τ).loc Cert.SprojKernelIdeal.main_arg0)
      ∧ m' ((c.tc : Thread Cert.SprojReferenceIdeal.nD Cert.SprojReferenceIdeal.τ).loc Cert.SprojReferenceIdeal.main_arg1) = m ((c.tc : Thread Cert.SprojKernelIdeal.nD Cert.SprojKernelIdeal.τ).loc Cert.SprojKernelIdeal.main_arg1)
      ∧ m' ((c.tc : Thread Cert.SprojReferenceIdeal.nD Cert.SprojReferenceIdeal.τ).loc Cert.SprojReferenceIdeal.main_arg2) = m ((c.tc : Thread Cert.SprojKernelIdeal.nD Cert.SprojKernelIdeal.τ).loc Cert.SprojKernelIdeal.main_arg2)) →
    ∃ (v0 : (c : Dev Cert.SprojKernelIdeal.nD) → Buf (Elt Ideal) ((c.tc : Thread Cert.SprojKernelIdeal.nD Cert.SprojKernelIdeal.τ).loc Cert.SprojKernelIdeal.main_v2_0)) (v1 : (c : Dev Cert.SprojKernelIdeal.nD) → Buf (Elt Ideal) ((c.tc : Thread Cert.SprojKernelIdeal.nD Cert.SprojKernelIdeal.τ).loc Cert.SprojKernelIdeal.main_v2_1)),
      θ_run (Cert.SprojKernelIdeal.defs (F := Ideal)) (onTc (τ := Cert.SprojKernelIdeal.τ) (Cert.SprojKernelIdeal.main (F := Ideal))) ⟨m, fun _ => 0, g⟩ (fun r => ∀ c : Dev Cert.SprojKernelIdeal.nD,
          r.2.mem ((c.tc : Thread Cert.SprojKernelIdeal.nD Cert.SprojKernelIdeal.τ).loc Cert.SprojKernelIdeal.main_v2_0) = v0 c
          ∧ r.2.mem ((c.tc : Thread Cert.SprojKernelIdeal.nD Cert.SprojKernelIdeal.τ).loc Cert.SprojKernelIdeal.main_v2_1) = v1 c
          ∧ r.2.mem ((c.tc : Thread Cert.SprojKernelIdeal.nD Cert.SprojKernelIdeal.τ).loc Cert.SprojKernelIdeal.main_arg0) = m ((c.tc : Thread Cert.SprojKernelIdeal.nD Cert.SprojKernelIdeal.τ).loc Cert.SprojKernelIdeal.main_arg0)
          ∧ r.2.mem ((c.tc : Thread Cert.SprojKernelIdeal.nD Cert.SprojKernelIdeal.τ).loc Cert.SprojKernelIdeal.main_arg1) = m ((c.tc : Thread Cert.SprojKernelIdeal.nD Cert.SprojKernelIdeal.τ).loc Cert.SprojKernelIdeal.main_arg1)
          ∧ r.2.mem ((c.tc : Thread Cert.SprojKernelIdeal.nD Cert.SprojKernelIdeal.τ).loc Cert.SprojKernelIdeal.main_arg2) = m ((c.tc : Thread Cert.SprojKernelIdeal.nD Cert.SprojKernelIdeal.τ).loc Cert.SprojKernelIdeal.main_arg2))
      ∧ θ_run (Cert.SprojReferenceIdeal.defs (F := Ideal)) (onTc (τ := Cert.SprojReferenceIdeal.τ) (Cert.SprojReferenceIdeal.main (F := Ideal))) ⟨m', fun _ => 0, g'⟩ (fun r => ∀ c : Dev Cert.SprojReferenceIdeal.nD,
          r.2.mem ((c.tc : Thread Cert.SprojReferenceIdeal.nD Cert.SprojReferenceIdeal.τ).loc Cert.SprojReferenceIdeal.main_v14) = v0 c
          ∧ r.2.mem ((c.tc : Thread Cert.SprojReferenceIdeal.nD Cert.SprojReferenceIdeal.τ).loc Cert.SprojReferenceIdeal.main_v15) = v1 c
          ∧ r.2.mem ((c.tc : Thread Cert.SprojReferenceIdeal.nD Cert.SprojReferenceIdeal.τ).loc Cert.SprojReferenceIdeal.main_arg0) = m' ((c.tc : Thread Cert.SprojReferenceIdeal.nD Cert.SprojReferenceIdeal.τ).loc Cert.SprojReferenceIdeal.main_arg0)
          ∧ r.2.mem ((c.tc : Thread Cert.SprojReferenceIdeal.nD Cert.SprojReferenceIdeal.τ).loc Cert.SprojReferenceIdeal.main_arg1) = m' ((c.tc : Thread Cert.SprojReferenceIdeal.nD Cert.SprojReferenceIdeal.τ).loc Cert.SprojReferenceIdeal.main_arg1)
          ∧ r.2.mem ((c.tc : Thread Cert.SprojReferenceIdeal.nD Cert.SprojReferenceIdeal.τ).loc Cert.SprojReferenceIdeal.main_arg2) = m' ((c.tc : Thread Cert.SprojReferenceIdeal.nD Cert.SprojReferenceIdeal.τ).loc Cert.SprojReferenceIdeal.main_arg2))

def preserves_RmspKernel_RmspKernelIdeal : Prop :=
  True

def algebraic_RmspKernelIdeal_RmspReferenceIdeal_pre_rmsp_finite [hRmspKernelIdeal : Cert.RmspKernelIdeal.Facts] [hRmspReferenceIdeal : Cert.RmspReferenceIdeal.Facts] [hPre_rmsp_finite : Cert.Pre_rmsp_finite.Facts] : Prop :=
  ∀ (m : (ℓ : Loc Cert.RmspKernelIdeal.nD Cert.RmspKernelIdeal.τ Cert.RmspKernelIdeal.sig) → Buf (Elt Ideal) ℓ) (g : Dev Cert.RmspKernelIdeal.nD → PrngReg)
    (m' : (ℓ : Loc Cert.RmspReferenceIdeal.nD Cert.RmspReferenceIdeal.τ Cert.RmspReferenceIdeal.sig) → Buf (Elt Ideal) ℓ) (g' : Dev Cert.RmspReferenceIdeal.nD → PrngReg), Pre_RmspKernelIdeal_rmsp_finite m →
    (∀ c : Dev Cert.RmspKernelIdeal.nD,
      m' ((c.tc : Thread Cert.RmspReferenceIdeal.nD Cert.RmspReferenceIdeal.τ).loc Cert.RmspReferenceIdeal.main_arg0) = m ((c.tc : Thread Cert.RmspKernelIdeal.nD Cert.RmspKernelIdeal.τ).loc Cert.RmspKernelIdeal.main_arg0)
      ∧ m' ((c.tc : Thread Cert.RmspReferenceIdeal.nD Cert.RmspReferenceIdeal.τ).loc Cert.RmspReferenceIdeal.main_arg1) = m ((c.tc : Thread Cert.RmspKernelIdeal.nD Cert.RmspKernelIdeal.τ).loc Cert.RmspKernelIdeal.main_arg1)
      ∧ m' ((c.tc : Thread Cert.RmspReferenceIdeal.nD Cert.RmspReferenceIdeal.τ).loc Cert.RmspReferenceIdeal.main_arg2) = m ((c.tc : Thread Cert.RmspKernelIdeal.nD Cert.RmspKernelIdeal.τ).loc Cert.RmspKernelIdeal.main_arg2)
      ∧ m' ((c.tc : Thread Cert.RmspReferenceIdeal.nD Cert.RmspReferenceIdeal.τ).loc Cert.RmspReferenceIdeal.main_arg3) = m ((c.tc : Thread Cert.RmspKernelIdeal.nD Cert.RmspKernelIdeal.τ).loc Cert.RmspKernelIdeal.main_arg3)
      ∧ m' ((c.tc : Thread Cert.RmspReferenceIdeal.nD Cert.RmspReferenceIdeal.τ).loc Cert.RmspReferenceIdeal.main_arg4) = m ((c.tc : Thread Cert.RmspKernelIdeal.nD Cert.RmspKernelIdeal.τ).loc Cert.RmspKernelIdeal.main_arg4)) →
    ∃ (v0 : (c : Dev Cert.RmspKernelIdeal.nD) → Buf (Elt Ideal) ((c.tc : Thread Cert.RmspKernelIdeal.nD Cert.RmspKernelIdeal.τ).loc Cert.RmspKernelIdeal.main_v2_0)) (v1 : (c : Dev Cert.RmspKernelIdeal.nD) → Buf (Elt Ideal) ((c.tc : Thread Cert.RmspKernelIdeal.nD Cert.RmspKernelIdeal.τ).loc Cert.RmspKernelIdeal.main_v2_1)),
      θ_run (Cert.RmspKernelIdeal.defs (F := Ideal)) (onTc (τ := Cert.RmspKernelIdeal.τ) (Cert.RmspKernelIdeal.main (F := Ideal))) ⟨m, fun _ => 0, g⟩ (fun r => ∀ c : Dev Cert.RmspKernelIdeal.nD,
          r.2.mem ((c.tc : Thread Cert.RmspKernelIdeal.nD Cert.RmspKernelIdeal.τ).loc Cert.RmspKernelIdeal.main_v2_0) = v0 c
          ∧ r.2.mem ((c.tc : Thread Cert.RmspKernelIdeal.nD Cert.RmspKernelIdeal.τ).loc Cert.RmspKernelIdeal.main_v2_1) = v1 c
          ∧ r.2.mem ((c.tc : Thread Cert.RmspKernelIdeal.nD Cert.RmspKernelIdeal.τ).loc Cert.RmspKernelIdeal.main_arg0) = m ((c.tc : Thread Cert.RmspKernelIdeal.nD Cert.RmspKernelIdeal.τ).loc Cert.RmspKernelIdeal.main_arg0)
          ∧ r.2.mem ((c.tc : Thread Cert.RmspKernelIdeal.nD Cert.RmspKernelIdeal.τ).loc Cert.RmspKernelIdeal.main_arg1) = m ((c.tc : Thread Cert.RmspKernelIdeal.nD Cert.RmspKernelIdeal.τ).loc Cert.RmspKernelIdeal.main_arg1)
          ∧ r.2.mem ((c.tc : Thread Cert.RmspKernelIdeal.nD Cert.RmspKernelIdeal.τ).loc Cert.RmspKernelIdeal.main_arg2) = m ((c.tc : Thread Cert.RmspKernelIdeal.nD Cert.RmspKernelIdeal.τ).loc Cert.RmspKernelIdeal.main_arg2)
          ∧ r.2.mem ((c.tc : Thread Cert.RmspKernelIdeal.nD Cert.RmspKernelIdeal.τ).loc Cert.RmspKernelIdeal.main_arg3) = m ((c.tc : Thread Cert.RmspKernelIdeal.nD Cert.RmspKernelIdeal.τ).loc Cert.RmspKernelIdeal.main_arg3)
          ∧ r.2.mem ((c.tc : Thread Cert.RmspKernelIdeal.nD Cert.RmspKernelIdeal.τ).loc Cert.RmspKernelIdeal.main_arg4) = m ((c.tc : Thread Cert.RmspKernelIdeal.nD Cert.RmspKernelIdeal.τ).loc Cert.RmspKernelIdeal.main_arg4))
      ∧ θ_run (Cert.RmspReferenceIdeal.defs (F := Ideal)) (onTc (τ := Cert.RmspReferenceIdeal.τ) (Cert.RmspReferenceIdeal.main (F := Ideal))) ⟨m', fun _ => 0, g'⟩ (fun r => ∀ c : Dev Cert.RmspReferenceIdeal.nD,
          r.2.mem ((c.tc : Thread Cert.RmspReferenceIdeal.nD Cert.RmspReferenceIdeal.τ).loc Cert.RmspReferenceIdeal.main_v38) = v0 c
          ∧ r.2.mem ((c.tc : Thread Cert.RmspReferenceIdeal.nD Cert.RmspReferenceIdeal.τ).loc Cert.RmspReferenceIdeal.main_v21) = v1 c
          ∧ r.2.mem ((c.tc : Thread Cert.RmspReferenceIdeal.nD Cert.RmspReferenceIdeal.τ).loc Cert.RmspReferenceIdeal.main_arg0) = m' ((c.tc : Thread Cert.RmspReferenceIdeal.nD Cert.RmspReferenceIdeal.τ).loc Cert.RmspReferenceIdeal.main_arg0)
          ∧ r.2.mem ((c.tc : Thread Cert.RmspReferenceIdeal.nD Cert.RmspReferenceIdeal.τ).loc Cert.RmspReferenceIdeal.main_arg1) = m' ((c.tc : Thread Cert.RmspReferenceIdeal.nD Cert.RmspReferenceIdeal.τ).loc Cert.RmspReferenceIdeal.main_arg1)
          ∧ r.2.mem ((c.tc : Thread Cert.RmspReferenceIdeal.nD Cert.RmspReferenceIdeal.τ).loc Cert.RmspReferenceIdeal.main_arg2) = m' ((c.tc : Thread Cert.RmspReferenceIdeal.nD Cert.RmspReferenceIdeal.τ).loc Cert.RmspReferenceIdeal.main_arg2)
          ∧ r.2.mem ((c.tc : Thread Cert.RmspReferenceIdeal.nD Cert.RmspReferenceIdeal.τ).loc Cert.RmspReferenceIdeal.main_arg3) = m' ((c.tc : Thread Cert.RmspReferenceIdeal.nD Cert.RmspReferenceIdeal.τ).loc Cert.RmspReferenceIdeal.main_arg3)
          ∧ r.2.mem ((c.tc : Thread Cert.RmspReferenceIdeal.nD Cert.RmspReferenceIdeal.τ).loc Cert.RmspReferenceIdeal.main_arg4) = m' ((c.tc : Thread Cert.RmspReferenceIdeal.nD Cert.RmspReferenceIdeal.τ).loc Cert.RmspReferenceIdeal.main_arg4))

def preserves_HeadKernel_HeadKernelIdeal : Prop :=
  True

def algebraic_HeadKernelIdeal_HeadReferenceIdeal_pre_head_finite [hHeadKernelIdeal : Cert.HeadKernelIdeal.Facts] [hHeadReferenceIdeal : Cert.HeadReferenceIdeal.Facts] [hPre_head_finite : Cert.Pre_head_finite.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal_head_finite m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)
      ∧ m' ((c.tc : Thread Cert.HeadReferenceIdeal.nD Cert.HeadReferenceIdeal.τ).loc Cert.HeadReferenceIdeal.main_arg3) = m ((c.tc : Thread Cert.HeadKernelIdeal.nD Cert.HeadKernelIdeal.τ).loc Cert.HeadKernelIdeal.main_arg3)
      ∧ m' ((c.tc : Thread Cert.HeadReferenceIdeal.nD Cert.HeadReferenceIdeal.τ).loc Cert.HeadReferenceIdeal.main_arg4) = m ((c.tc : Thread Cert.HeadKernelIdeal.nD Cert.HeadKernelIdeal.τ).loc Cert.HeadKernelIdeal.main_arg4)) →
    ∃ (v0 : (c : Dev Cert.HeadKernelIdeal.nD) → Buf (Elt Ideal) ((c.tc : Thread Cert.HeadKernelIdeal.nD Cert.HeadKernelIdeal.τ).loc Cert.HeadKernelIdeal.main_v0_0)) (v1 : (c : Dev Cert.HeadKernelIdeal.nD) → Buf (Elt Ideal) ((c.tc : Thread Cert.HeadKernelIdeal.nD Cert.HeadKernelIdeal.τ).loc Cert.HeadKernelIdeal.main_v0_1)) (v2 : (c : Dev Cert.HeadKernelIdeal.nD) → Buf (Elt Ideal) ((c.tc : Thread Cert.HeadKernelIdeal.nD Cert.HeadKernelIdeal.τ).loc Cert.HeadKernelIdeal.main_v0_2)) (v3 : (c : Dev Cert.HeadKernelIdeal.nD) → Buf (Elt Ideal) ((c.tc : Thread Cert.HeadKernelIdeal.nD Cert.HeadKernelIdeal.τ).loc Cert.HeadKernelIdeal.main_v0_3)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v0_0) = v0 c
          ∧ r.2.mem ((c.tc : Thread Cert.HeadKernelIdeal.nD Cert.HeadKernelIdeal.τ).loc Cert.HeadKernelIdeal.main_v0_1) = v1 c
          ∧ r.2.mem ((c.tc : Thread Cert.HeadKernelIdeal.nD Cert.HeadKernelIdeal.τ).loc Cert.HeadKernelIdeal.main_v0_2) = v2 c
          ∧ r.2.mem ((c.tc : Thread Cert.HeadKernelIdeal.nD Cert.HeadKernelIdeal.τ).loc Cert.HeadKernelIdeal.main_v0_3) = v3 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
          ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
          ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v50) = v0 c
          ∧ r.2.mem ((c.tc : Thread Cert.HeadReferenceIdeal.nD Cert.HeadReferenceIdeal.τ).loc Cert.HeadReferenceIdeal.main_v34) = v1 c
          ∧ r.2.mem ((c.tc : Thread Cert.HeadReferenceIdeal.nD Cert.HeadReferenceIdeal.τ).loc Cert.HeadReferenceIdeal.main_v51) = v2 c
          ∧ r.2.mem ((c.tc : Thread Cert.HeadReferenceIdeal.nD Cert.HeadReferenceIdeal.τ).loc Cert.HeadReferenceIdeal.main_v52) = v3 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def preserves_PoolFwdKernel_PoolFwdKernelIdeal : Prop :=
  True

def algebraic_PoolFwdKernelIdeal_PoolFwdReferenceIdeal_pre_poolf_finite [hPoolFwdKernelIdeal : Cert.PoolFwdKernelIdeal.Facts] [hPoolFwdReferenceIdeal : Cert.PoolFwdReferenceIdeal.Facts] [hPre_poolf_finite : Cert.Pre_poolf_finite.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg)
    (m' : (ℓ : Loc Cert.PoolFwdReferenceIdeal.nD Cert.PoolFwdReferenceIdeal.τ Cert.PoolFwdReferenceIdeal.sig) → Buf (Elt Ideal) ℓ) (g' : Dev Cert.PoolFwdReferenceIdeal.nD → PrngReg), Pre_PoolFwdKernelIdeal_poolf_finite m →
    (∀ c : Dev Cert.PoolFwdKernelIdeal.nD,
      m' ((c.tc : Thread Cert.PoolFwdReferenceIdeal.nD Cert.PoolFwdReferenceIdeal.τ).loc Cert.PoolFwdReferenceIdeal.main_arg0) = m ((c.tc : Thread Cert.PoolFwdKernelIdeal.nD Cert.PoolFwdKernelIdeal.τ).loc Cert.PoolFwdKernelIdeal.main_arg0)
      ∧ m' ((c.tc : Thread Cert.PoolFwdReferenceIdeal.nD Cert.PoolFwdReferenceIdeal.τ).loc Cert.PoolFwdReferenceIdeal.main_arg1) = m ((c.tc : Thread Cert.PoolFwdKernelIdeal.nD Cert.PoolFwdKernelIdeal.τ).loc Cert.PoolFwdKernelIdeal.main_arg1)
      ∧ m' ((c.tc : Thread Cert.PoolFwdReferenceIdeal.nD Cert.PoolFwdReferenceIdeal.τ).loc Cert.PoolFwdReferenceIdeal.main_arg2) = m ((c.tc : Thread Cert.PoolFwdKernelIdeal.nD Cert.PoolFwdKernelIdeal.τ).loc Cert.PoolFwdKernelIdeal.main_arg2)) →
    ∃ (v0 : (c : Dev Cert.PoolFwdKernelIdeal.nD) → Buf (Elt Ideal) ((c.tc : Thread Cert.PoolFwdKernelIdeal.nD Cert.PoolFwdKernelIdeal.τ).loc Cert.PoolFwdKernelIdeal.main_v3_0)) (v1 : (c : Dev Cert.PoolFwdKernelIdeal.nD) → Buf (Elt Ideal) ((c.tc : Thread Cert.PoolFwdKernelIdeal.nD Cert.PoolFwdKernelIdeal.τ).loc Cert.PoolFwdKernelIdeal.main_v3_1)) (v2 : (c : Dev Cert.PoolFwdKernelIdeal.nD) → Buf (Elt Ideal) ((c.tc : Thread Cert.PoolFwdKernelIdeal.nD Cert.PoolFwdKernelIdeal.τ).loc Cert.PoolFwdKernelIdeal.main_v3_2)),
      θ_run (Cert.PoolFwdKernelIdeal.defs (F := Ideal)) (onTc (τ := Cert.PoolFwdKernelIdeal.τ) (Cert.PoolFwdKernelIdeal.main (F := Ideal))) ⟨m, fun _ => 0, g⟩ (fun r => ∀ c : Dev Cert.PoolFwdKernelIdeal.nD,
          r.2.mem ((c.tc : Thread Cert.PoolFwdKernelIdeal.nD Cert.PoolFwdKernelIdeal.τ).loc Cert.PoolFwdKernelIdeal.main_v3_0) = v0 c
          ∧ r.2.mem ((c.tc : Thread Cert.PoolFwdKernelIdeal.nD Cert.PoolFwdKernelIdeal.τ).loc Cert.PoolFwdKernelIdeal.main_v3_1) = v1 c
          ∧ r.2.mem ((c.tc : Thread Cert.PoolFwdKernelIdeal.nD Cert.PoolFwdKernelIdeal.τ).loc Cert.PoolFwdKernelIdeal.main_v3_2) = v2 c
          ∧ r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
          ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
          ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ θ_run (Cert.PoolFwdReferenceIdeal.defs (F := Ideal)) (onTc (τ := Cert.PoolFwdReferenceIdeal.τ) (Cert.PoolFwdReferenceIdeal.main (F := Ideal))) ⟨m', fun _ => 0, g'⟩ (fun r => ∀ c : Dev Cert.PoolFwdReferenceIdeal.nD,
          r.2.mem ((c.tc : Thread Cert.PoolFwdReferenceIdeal.nD Cert.PoolFwdReferenceIdeal.τ).loc Cert.PoolFwdReferenceIdeal.main_v92) = v0 c
          ∧ r.2.mem ((c.tc : Thread Cert.PoolFwdReferenceIdeal.nD Cert.PoolFwdReferenceIdeal.τ).loc Cert.PoolFwdReferenceIdeal.main_v94) = v1 c
          ∧ r.2.mem ((c.tc : Thread Cert.PoolFwdReferenceIdeal.nD Cert.PoolFwdReferenceIdeal.τ).loc Cert.PoolFwdReferenceIdeal.main_v95) = v2 c
          ∧ r.2.mem ((c.tc : Thread Cert.PoolFwdReferenceIdeal.nD Cert.PoolFwdReferenceIdeal.τ).loc Cert.PoolFwdReferenceIdeal.main_arg0) = m' ((c.tc : Thread Cert.PoolFwdReferenceIdeal.nD Cert.PoolFwdReferenceIdeal.τ).loc Cert.PoolFwdReferenceIdeal.main_arg0)
          ∧ r.2.mem ((c.tc : Thread Cert.PoolFwdReferenceIdeal.nD Cert.PoolFwdReferenceIdeal.τ).loc Cert.PoolFwdReferenceIdeal.main_arg1) = m' ((c.tc : Thread Cert.PoolFwdReferenceIdeal.nD Cert.PoolFwdReferenceIdeal.τ).loc Cert.PoolFwdReferenceIdeal.main_arg1)
          ∧ r.2.mem ((c.tc : Thread Cert.PoolFwdReferenceIdeal.nD Cert.PoolFwdReferenceIdeal.τ).loc Cert.PoolFwdReferenceIdeal.main_arg2) = m' ((c.tc : Thread Cert.PoolFwdReferenceIdeal.nD Cert.PoolFwdReferenceIdeal.τ).loc Cert.PoolFwdReferenceIdeal.main_arg2))

def Claim : Prop :=
  ∃ (hKernel : Cert.Kernel.Facts) (hKernelIdeal : Cert.KernelIdeal.Facts) (hReferenceIdeal : Cert.ReferenceIdeal.Facts) (hGateKernel : Cert.GateKernel.Facts) (hGateKernelIdeal : Cert.GateKernelIdeal.Facts) (hGateReferenceIdeal : Cert.GateReferenceIdeal.Facts) (hPoolGateKernel : Cert.PoolGateKernel.Facts) (hPoolGateKernelIdeal : Cert.PoolGateKernelIdeal.Facts) (hPoolGateReferenceIdeal : Cert.PoolGateReferenceIdeal.Facts) (hRmsKernel : Cert.RmsKernel.Facts) (hRmsKernelIdeal : Cert.RmsKernelIdeal.Facts) (hRmsReferenceIdeal : Cert.RmsReferenceIdeal.Facts) (hWoutKernel : Cert.WoutKernel.Facts) (hWoutKernelIdeal : Cert.WoutKernelIdeal.Facts) (hWoutReferenceIdeal : Cert.WoutReferenceIdeal.Facts) (hSbinKernel : Cert.SbinKernel.Facts) (hSbinKernelIdeal : Cert.SbinKernelIdeal.Facts) (hSbinReferenceIdeal : Cert.SbinReferenceIdeal.Facts) (hPinKernel : Cert.PinKernel.Facts) (hPinKernelIdeal : Cert.PinKernelIdeal.Facts) (hPinReferenceIdeal : Cert.PinReferenceIdeal.Facts) (hPwKernel : Cert.PwKernel.Facts) (hPwKernelIdeal : Cert.PwKernelIdeal.Facts) (hPwReferenceIdeal : Cert.PwReferenceIdeal.Facts) (hResKernel : Cert.ResKernel.Facts) (hResKernelIdeal : Cert.ResKernelIdeal.Facts) (hResReferenceIdeal : Cert.ResReferenceIdeal.Facts) (hPprojKernel : Cert.PprojKernel.Facts) (hPprojKernelIdeal : Cert.PprojKernelIdeal.Facts) (hPprojReferenceIdeal : Cert.PprojReferenceIdeal.Facts) (hSprojKernel : Cert.SprojKernel.Facts) (hSprojKernelIdeal : Cert.SprojKernelIdeal.Facts) (hSprojReferenceIdeal : Cert.SprojReferenceIdeal.Facts) (hRmspKernel : Cert.RmspKernel.Facts) (hRmspKernelIdeal : Cert.RmspKernelIdeal.Facts) (hRmspReferenceIdeal : Cert.RmspReferenceIdeal.Facts) (hHeadKernel : Cert.HeadKernel.Facts) (hHeadKernelIdeal : Cert.HeadKernelIdeal.Facts) (hHeadReferenceIdeal : Cert.HeadReferenceIdeal.Facts) (hPoolFwdKernel : Cert.PoolFwdKernel.Facts) (hPoolFwdKernelIdeal : Cert.PoolFwdKernelIdeal.Facts) (hPoolFwdReferenceIdeal : Cert.PoolFwdReferenceIdeal.Facts) (hPre_pool_finite : Cert.Pre_pool_finite.Facts) (hPre_gate_finite : Cert.Pre_gate_finite.Facts) (hPre_pgate_finite : Cert.Pre_pgate_finite.Facts) (hPre_rms_finite : Cert.Pre_rms_finite.Facts) (hPre_rmsp_finite : Cert.Pre_rmsp_finite.Facts) (hPre_head_finite : Cert.Pre_head_finite.Facts) (hPre_poolf_finite : Cert.Pre_poolf_finite.Facts) (hOn_gate_columns : Cert.On_gate_columns.Facts) (hOn_pgate_columns : Cert.On_pgate_columns.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_PoolGateKernel (hPoolGateKernel := hPoolGateKernel)
    ∧ quiescent_PoolGateKernelIdeal (hPoolGateKernelIdeal := hPoolGateKernelIdeal)
    ∧ quiescent_PoolGateKernelIdeal_pre_pgate_finite (hPoolGateKernelIdeal := hPoolGateKernelIdeal) (hPre_pgate_finite := hPre_pgate_finite)
    ∧ quiescent_PoolGateReferenceIdeal (hPoolGateReferenceIdeal := hPoolGateReferenceIdeal)
    ∧ quiescent_PoolGateReferenceIdeal_pre_pgate_finite (hPoolGateReferenceIdeal := hPoolGateReferenceIdeal) (hPre_pgate_finite := hPre_pgate_finite)
    ∧ quiescent_RmsKernel (hRmsKernel := hRmsKernel)
    ∧ quiescent_RmsKernelIdeal (hRmsKernelIdeal := hRmsKernelIdeal)
    ∧ quiescent_RmsKernelIdeal_pre_rms_finite (hRmsKernelIdeal := hRmsKernelIdeal) (hPre_rms_finite := hPre_rms_finite)
    ∧ quiescent_RmsReferenceIdeal (hRmsReferenceIdeal := hRmsReferenceIdeal)
    ∧ quiescent_RmsReferenceIdeal_pre_rms_finite (hRmsReferenceIdeal := hRmsReferenceIdeal) (hPre_rms_finite := hPre_rms_finite)
    ∧ quiescent_WoutKernel (hWoutKernel := hWoutKernel)
    ∧ quiescent_WoutKernelIdeal (hWoutKernelIdeal := hWoutKernelIdeal)
    ∧ quiescent_WoutReferenceIdeal (hWoutReferenceIdeal := hWoutReferenceIdeal)
    ∧ quiescent_SbinKernel (hSbinKernel := hSbinKernel)
    ∧ quiescent_SbinKernelIdeal (hSbinKernelIdeal := hSbinKernelIdeal)
    ∧ quiescent_SbinReferenceIdeal (hSbinReferenceIdeal := hSbinReferenceIdeal)
    ∧ quiescent_PinKernel (hPinKernel := hPinKernel)
    ∧ quiescent_PinKernelIdeal (hPinKernelIdeal := hPinKernelIdeal)
    ∧ quiescent_PinReferenceIdeal (hPinReferenceIdeal := hPinReferenceIdeal)
    ∧ quiescent_PwKernel (hPwKernel := hPwKernel)
    ∧ quiescent_PwKernelIdeal (hPwKernelIdeal := hPwKernelIdeal)
    ∧ quiescent_PwReferenceIdeal (hPwReferenceIdeal := hPwReferenceIdeal)
    ∧ quiescent_ResKernel (hResKernel := hResKernel)
    ∧ quiescent_ResKernelIdeal (hResKernelIdeal := hResKernelIdeal)
    ∧ quiescent_ResReferenceIdeal (hResReferenceIdeal := hResReferenceIdeal)
    ∧ quiescent_PprojKernel (hPprojKernel := hPprojKernel)
    ∧ quiescent_PprojKernelIdeal (hPprojKernelIdeal := hPprojKernelIdeal)
    ∧ quiescent_PprojReferenceIdeal (hPprojReferenceIdeal := hPprojReferenceIdeal)
    ∧ quiescent_SprojKernel (hSprojKernel := hSprojKernel)
    ∧ quiescent_SprojKernelIdeal (hSprojKernelIdeal := hSprojKernelIdeal)
    ∧ quiescent_SprojReferenceIdeal (hSprojReferenceIdeal := hSprojReferenceIdeal)
    ∧ quiescent_RmspKernel (hRmspKernel := hRmspKernel)
    ∧ quiescent_RmspKernelIdeal (hRmspKernelIdeal := hRmspKernelIdeal)
    ∧ quiescent_RmspKernelIdeal_pre_rmsp_finite (hRmspKernelIdeal := hRmspKernelIdeal) (hPre_rmsp_finite := hPre_rmsp_finite)
    ∧ quiescent_RmspReferenceIdeal (hRmspReferenceIdeal := hRmspReferenceIdeal)
    ∧ quiescent_RmspReferenceIdeal_pre_rmsp_finite (hRmspReferenceIdeal := hRmspReferenceIdeal) (hPre_rmsp_finite := hPre_rmsp_finite)
    ∧ quiescent_HeadKernel (hHeadKernel := hHeadKernel)
    ∧ quiescent_HeadKernelIdeal (hHeadKernelIdeal := hHeadKernelIdeal)
    ∧ quiescent_HeadKernelIdeal_pre_head_finite (hHeadKernelIdeal := hHeadKernelIdeal) (hPre_head_finite := hPre_head_finite)
    ∧ quiescent_HeadReferenceIdeal (hHeadReferenceIdeal := hHeadReferenceIdeal)
    ∧ quiescent_HeadReferenceIdeal_pre_head_finite (hHeadReferenceIdeal := hHeadReferenceIdeal) (hPre_head_finite := hPre_head_finite)
    ∧ quiescent_PoolFwdKernel (hPoolFwdKernel := hPoolFwdKernel)
    ∧ quiescent_PoolFwdKernelIdeal (hPoolFwdKernelIdeal := hPoolFwdKernelIdeal)
    ∧ quiescent_PoolFwdKernelIdeal_pre_poolf_finite (hPoolFwdKernelIdeal := hPoolFwdKernelIdeal) (hPre_poolf_finite := hPre_poolf_finite)
    ∧ quiescent_PoolFwdReferenceIdeal (hPoolFwdReferenceIdeal := hPoolFwdReferenceIdeal)
    ∧ quiescent_PoolFwdReferenceIdeal_pre_poolf_finite (hPoolFwdReferenceIdeal := hPoolFwdReferenceIdeal) (hPre_poolf_finite := hPre_poolf_finite)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_GateKernel_GateKernelIdeal
    ∧ algebraic_GateKernelIdeal_GateReferenceIdeal_on_gate_columns_pre_gate_finite (hGateKernelIdeal := hGateKernelIdeal) (hGateReferenceIdeal := hGateReferenceIdeal) (hPre_gate_finite := hPre_gate_finite) (hOn_gate_columns := hOn_gate_columns)
    ∧ preserves_PoolGateKernel_PoolGateKernelIdeal
    ∧ algebraic_PoolGateKernelIdeal_PoolGateReferenceIdeal_on_pgate_columns_pre_pgate_finite (hPoolGateKernelIdeal := hPoolGateKernelIdeal) (hPoolGateReferenceIdeal := hPoolGateReferenceIdeal) (hPre_pgate_finite := hPre_pgate_finite) (hOn_pgate_columns := hOn_pgate_columns)
    ∧ preserves_RmsKernel_RmsKernelIdeal
    ∧ algebraic_RmsKernelIdeal_RmsReferenceIdeal_pre_rms_finite (hRmsKernelIdeal := hRmsKernelIdeal) (hRmsReferenceIdeal := hRmsReferenceIdeal) (hPre_rms_finite := hPre_rms_finite)
    ∧ preserves_WoutKernel_WoutKernelIdeal
    ∧ algebraic_WoutKernelIdeal_WoutReferenceIdeal (hWoutKernelIdeal := hWoutKernelIdeal) (hWoutReferenceIdeal := hWoutReferenceIdeal)
    ∧ preserves_SbinKernel_SbinKernelIdeal
    ∧ algebraic_SbinKernelIdeal_SbinReferenceIdeal (hSbinKernelIdeal := hSbinKernelIdeal) (hSbinReferenceIdeal := hSbinReferenceIdeal)
    ∧ preserves_PinKernel_PinKernelIdeal
    ∧ algebraic_PinKernelIdeal_PinReferenceIdeal (hPinKernelIdeal := hPinKernelIdeal) (hPinReferenceIdeal := hPinReferenceIdeal)
    ∧ preserves_PwKernel_PwKernelIdeal
    ∧ algebraic_PwKernelIdeal_PwReferenceIdeal (hPwKernelIdeal := hPwKernelIdeal) (hPwReferenceIdeal := hPwReferenceIdeal)
    ∧ preserves_ResKernel_ResKernelIdeal
    ∧ algebraic_ResKernelIdeal_ResReferenceIdeal (hResKernelIdeal := hResKernelIdeal) (hResReferenceIdeal := hResReferenceIdeal)
    ∧ preserves_PprojKernel_PprojKernelIdeal
    ∧ algebraic_PprojKernelIdeal_PprojReferenceIdeal (hPprojKernelIdeal := hPprojKernelIdeal) (hPprojReferenceIdeal := hPprojReferenceIdeal)
    ∧ preserves_SprojKernel_SprojKernelIdeal
    ∧ algebraic_SprojKernelIdeal_SprojReferenceIdeal (hSprojKernelIdeal := hSprojKernelIdeal) (hSprojReferenceIdeal := hSprojReferenceIdeal)
    ∧ preserves_RmspKernel_RmspKernelIdeal
    ∧ algebraic_RmspKernelIdeal_RmspReferenceIdeal_pre_rmsp_finite (hRmspKernelIdeal := hRmspKernelIdeal) (hRmspReferenceIdeal := hRmspReferenceIdeal) (hPre_rmsp_finite := hPre_rmsp_finite)
    ∧ preserves_HeadKernel_HeadKernelIdeal
    ∧ algebraic_HeadKernelIdeal_HeadReferenceIdeal_pre_head_finite (hHeadKernelIdeal := hHeadKernelIdeal) (hHeadReferenceIdeal := hHeadReferenceIdeal) (hPre_head_finite := hPre_head_finite)
    ∧ preserves_PoolFwdKernel_PoolFwdKernelIdeal
    ∧ algebraic_PoolFwdKernelIdeal_PoolFwdReferenceIdeal_pre_poolf_finite (hPoolFwdKernelIdeal := hPoolFwdKernelIdeal) (hPoolFwdReferenceIdeal := hPoolFwdReferenceIdeal) (hPre_poolf_finite := hPre_poolf_finite)
-- ==== On_gate_columns.lean ====
abbrev S4096x1024 : Shape := ⟨2, ![4096, 1024]⟩
abbrev S2048x1024 : Shape := ⟨2, ![2048, 1024]⟩
abbrev S4096x6144 : Shape := ⟨2, ![4096, 6144]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  bcast_S_S4096x6144 : S_.BroadcastsInDim S4096x6144 (![] : Fin 0 → Fin S4096x6144.rank)

variable [Facts]

def fn {F : FTy → Type} [FloatOps F] (main_arg0 : FVec F S4096x1024 .bf16) (main_arg1 : FVec F S2048x1024 .bf16) (main_arg2 : FVec F S4096x6144 .bf16) (main_arg3 : FVec F S4096x2048 .bf16) : IVec S4096x2048 1 × IVec S4096x6144 1 :=
  let main_v0 : IVec S4096x6144 32 := iotaInDim S4096x6144 32 1
  let main_c : IVec S_ 1 := constantI S_ 1 1#1
  let main_v1 : IVec S4096x2048 1 := broadcastInDim S4096x2048 ![] bcast_S_S4096x2048 main_c
  let main_c_0 : IVec S_ 32 := constantI S_ 32 4096#32
  let main_v2 : IVec S4096x6144 32 := broadcastInDim S4096x6144 ![] bcast_S_S4096x6144 main_c_0
  let main_v3 : IVec S4096x6144 1 := cmpi .sge main_v0 main_v2
  (main_v1, main_v3)
-- ==== On_pgate_columns.lean ====
abbrev S4096x1024 : Shape := ⟨2, ![4096, 1024]⟩
abbrev S2048x1024 : Shape := ⟨2, ![2048, 1024]⟩
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S4096x4096 : S_.BroadcastsInDim S4096x4096 (![] : Fin 0 → Fin S4096x4096.rank)
  bcast_S_S1x2048 : S_.BroadcastsInDim S1x2048 (![] : Fin 0 → Fin S1x2048.rank)

variable [Facts]

def fn {F : FTy → Type} [FloatOps F] (main_arg0 : FVec F S4096x1024 .bf16) (main_arg1 : FVec F S2048x1024 .bf16) (main_arg2 : FVec F S4096x4096 .bf16) (main_arg3 : FVec F S4096x2048 .bf16) (main_arg4 : FVec F S1x2048 .f32) : IVec S4096x2048 1 × IVec S4096x4096 1 × IVec S1x2048 1 :=
  let main_v0 : IVec S4096x4096 32 := iotaInDim S4096x4096 32 1
  let main_c : IVec S_ 1 := constantI S_ 1 1#1
  let main_v1 : IVec S4096x2048 1 := broadcastInDim S4096x2048 ![] bcast_S_S4096x2048 main_c
  let main_c_0 : IVec S_ 32 := constantI S_ 32 2048#32
  let main_v2 : IVec S4096x4096 32 := broadcastInDim S4096x4096 ![] bcast_S_S4096x4096 main_c_0
  let main_v3 : IVec S4096x4096 1 := cmpi .sge main_v0 main_v2
  let main_c_1 : IVec S_ 1 := constantI S_ 1 1#1
  let main_v4 : IVec S1x2048 1 := broadcastInDim S1x2048 ![] bcast_S_S1x2048 main_c_1
  (main_v1, main_v3, main_v4)
-- ==== Pre_gate_finite.lean ====
abbrev S4096x1024 : Shape := ⟨2, ![4096, 1024]⟩
abbrev S2048x1024 : Shape := ⟨2, ![2048, 1024]⟩
abbrev S4096x6144 : Shape := ⟨2, ![4096, 6144]⟩
abbrev S4096x2048 : Shape := ⟨2, ![4096, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4096x6144 : S_.BroadcastsInDim S4096x6144 (![] : Fin 0 → Fin S4096x6144.rank)
  reducesTo_S4096x6144_S_d0_1 : S4096x6144.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  main_v22

def fn {F : FTy → Type} [FloatOps F] (main_arg0 : FVec F S4096x1024 .bf16) (main_arg1 : FVec F S2048x1024 .bf16) (main_arg2 : FVec F S4096x6144 .bf16) (main_arg3 : FVec F S4096x2048 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S4096x6144 .f32 := (extf .f32 · bitsLt_bf16_f32) main_arg2
  let main_v12 : FVec F S4096x6144 .f32 := Host.absf main_v11
  let main_cst_2 : FVec F S_ .f32 := constant S_ .f32 0x7F800000#32
  let main_v13 : FVec F S4096x6144 .f32 := broadcastInDim S4096x6144 ![] bcast_S_S4096x6144 main_cst_2
  let main_v14 : IVec S4096x6144 1 := cmpf .olt main_v12 main_v13
  let main_c_3 : IVec S_ 1 := constantI S_ 1 1#1
  let main_v15 : IVec S_ 1 := (fun x v => Host.reduce IntOp.andi x v reducesTo_S4096x6144_S_d0_1 h_S_) main_v14 main_c_3
  let main_v16 : IVec S_ 1 := andi main_v10 main_v15
  let main_v17 : FVec F S4096x2048 .f32 := (extf .f32 · bitsLt_bf16_f32) main_arg3
  fn_part1 (F := F) main_v16 main_v17
-- ==== Pre_head_finite.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x2048 .bf16) (main_arg1 : FVec F S2048x1024 .bf16) (main_arg2 : FVec F S4096x1024 .f32) (main_arg3 : FVec F S1x1024 .f32) (main_arg4 : FVec F S4096x1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg4 main_v15 main_v16 main_cst_4
-- ==== Pre_pgate_finite.lean ====
abbrev S4096x1024 : Shape := ⟨2, ![4096, 1024]⟩
abbrev S2048x1024 : Shape := ⟨2, ![2048, 1024]⟩
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  let main_v23 : FVec F S1x2048 .f32 := Host.absf main_arg4
  let main_cst_6 : FVec F S_ .f32 := constant S_ .f32 0x7F800000#32
  let main_v24 : FVec F S1x2048 .f32 := broadcastInDim S1x2048 ![] bcast_S_S1x2048 main_cst_6
  let main_v25 : IVec S1x2048 1 := cmpf .olt main_v23 main_v24
  let main_c_7 : IVec S_ 1 := constantI S_ 1 1#1
  let main_v26 : IVec S_ 1 := (fun x v => Host.reduce IntOp.andi x v reducesTo_S1x2048_S_d0_1 h_S_) main_v25 main_c_7
  let main_v27 : IVec S_ 1 := andi main_v22 main_v26
  main_v27

def fn {F : FTy → Type} [FloatOps F] (main_arg0 : FVec F S4096x1024 .bf16) (main_arg1 : FVec F S2048x1024 .bf16) (main_arg2 : FVec F S4096x4096 .bf16) (main_arg3 : FVec F S4096x2048 .bf16) (main_arg4 : FVec F S1x2048 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S4096x4096 .f32 := (extf .f32 · bitsLt_bf16_f32) main_arg2
  let main_v12 : FVec F S4096x4096 .f32 := Host.absf main_v11
  let main_cst_2 : FVec F S_ .f32 := constant S_ .f32 0x7F800000#32
  let main_v13 : FVec F S4096x4096 .f32 := broadcastInDim S4096x4096 ![] bcast_S_S4096x4096 main_cst_2
  let main_v14 : IVec S4096x4096 1 := cmpf .olt main_v12 main_v13
  let main_c_3 : IVec S_ 1 := constantI S_ 1 1#1
  let main_v15 : IVec S_ 1 := (fun x v => Host.reduce IntOp.andi x v reducesTo_S4096x4096_S_d0_1 h_S_) main_v14 main_c_3
  let main_v16 : IVec S_ 1 := andi main_v10 main_v15
  let main_v17 : FVec F S4096x2048 .f32 := (extf .f32 · bitsLt_bf16_f32) main_arg3
  fn_part1 (F := F) main_arg4 main_v16 main_v17
-- ==== Pre_pool_finite.lean ====
abbrev S4096x2048 : Shape := ⟨2, ![4096, 2048]⟩
abbrev S4x512x512 : Shape := ⟨3, ![4, 512, 512]⟩
abbrev S4096x4096 : Shape := ⟨2, ![4096, 4096]⟩
abbrev S1x1 : Shape := ⟨2, ![1, 1]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4096x2048 .bf16) (main_arg1 : FVec F S4x512x512 .bf16) (main_arg2 : FVec F S4096x4096 .bf16) (main_arg3 : FVec F S1x1 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4x512x512 .f32 := (extf .f32 · bitsLt_bf16_f32) main_arg1
  let main_v6 : FVec F S4x512x512 .f32 := Host.absf main_v5
  let main_cst_0 : FVec F S_ .f32 := constant S_ .f32 0x7F800000#32
  let main_v7 : FVec F S4x512x512 .f32 := broadcastInDim S4x512x512 ![] bcast_S_S4x512x512 main_cst_0
  let main_v8 : IVec S4x512x512 1 := cmpf .olt main_v6 main_v7
  let main_c_1 : IVec S_ 1 := constantI S_ 1 1#1
  let main_v9 : IVec S_ 1 := (fun x v => Host.reduce IntOp.andi x v reducesTo_S4x512x512_S_d0_1_2 h_S_) main_v8 main_c_1
  let main_v10 : IVec S_ 1 := andi main_v4 main_v9
  main_v10
-- ==== Pre_poolf_finite.lean ====
abbrev S4096x4096 : Shape := ⟨2, ![4096, 4096]⟩
abbrev S4x512x512 : Shape := ⟨3, ![4, 512, 512]⟩
abbrev S1x2048 : Shape := ⟨2, ![1, 2048]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .bf16) (main_arg1 : FVec F S4x512x512 .bf16) (main_arg2 : FVec F S1x2048 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  main_v4
-- ==== Pre_rms_finite.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S4096x6144 .bf16) (main_arg1 : FVec F S1024x6144 .bf16) (main_arg2 : FVec F S4096x1024 .f32) (main_arg3 : FVec F S1x1024 .f32) (main_arg4 : FVec F S4096x1024 .f32) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S1024x6144 .f32 := (extf .f32 · bitsLt_bf16_f32) main_arg1
  let main_v6 : FVec F S1024x6144 .f32 := Host.absf main_v5
  let main_cst_0 : FVec F S_ .f32 := constant S_ .f32 0x7F800000#32
  let main_v7 : FVec F S1024x6144 .f32 := broadcastInDim S1024x6144 ![] bcast_S_S1024x6144 main_cst_0
  let main_v8 : IVec S1024x6144 1 := cmpf .olt main_v6 main_v7
  let main_c_1 : IVec S_ 1 := constantI S_ 1 1#1
  let main_v9 : IVec S_ 1 := (fun x v => Host.reduce IntOp.andi x v reducesTo_S1024x6144_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_rmsp_finite.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S4096x4096 .bf16) (main_arg1 : FVec F S1024x4096 .bf16) (main_arg2 : FVec F S4096x1024 .f32) (main_arg3 : FVec F S1x1024 .f32) (main_arg4 : FVec F S4096x1024 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Kernel.lean ====
abbrev S4096x2048 : Shape := ⟨2, ![4096, 2048]⟩
abbrev S4x512x512 : Shape := ⟨3, ![4, 512, 512]⟩
abbrev S4096x4096 : Shape := ⟨2, ![4096, 4096]⟩
abbrev S1x1 : Shape := ⟨2, ![1, 1]⟩
abbrev S4x4x128x512 : Shape := ⟨4, ![4, 4, 128, 512]⟩
abbrev S2048x512 : Shape := ⟨2, ![2048, 512]⟩
abbrev S16x512 : Shape := ⟨2, ![16, 512]⟩
abbrev S4x128x512 : Shape := ⟨3, ![4, 128, 512]⟩
abbrev S2064x512 : Shape := ⟨2, ![2064, 512]⟩
abbrev S512x512 : Shape := ⟨2, ![512, 512]⟩
abbrev S2064x1 : Shape := ⟨2, ![2064, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S4096x4096, .bf16⟩
  | .hbm, ⟨3, _⟩ => ⟨S1x1, .f32⟩
  | .hbm, ⟨4, _⟩ => ⟨S4x4x128x512, .bf16⟩
  | .hbm, ⟨5, _⟩ => ⟨S4x4x128x512, .bf16⟩
  | .hbm, ⟨6, _⟩ => ⟨S4x512x512, .bf16⟩
  | .hbm, ⟨7, _⟩ => ⟨S4096x4096, .bf16⟩
  | .local _ .vmem, ⟨0, _⟩ => ⟨S2048x512, .bf16⟩
  | .local _ .vmem, ⟨1, _⟩ => ⟨S2048x512, .bf16⟩
  | .local _ .vmem, ⟨2, _⟩ => ⟨S16x512, .bf16⟩
  | .local _ .vmem, ⟨3, _⟩ => ⟨S16x512, .bf16⟩
  | .local _ .vmem, ⟨4, _⟩ => ⟨S4x128x512, .bf16⟩
  | .local _ .vmem, ⟨5, _⟩ => ⟨S4x128x512, .bf16⟩
  | .local _ .vmem, ⟨6, _⟩ => ⟨S2048x512, .bf16⟩
  | .local _ .vmem, ⟨7, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  ![v2.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4096x2048 : Shape := ⟨2, ![4096, 2048]⟩
abbrev S4x512x512 : Shape := ⟨3, ![4, 512, 512]⟩
abbrev S4096x4096 : Shape := ⟨2, ![4096, 4096]⟩
abbrev S1x1 : Shape := ⟨2, ![1, 1]⟩
abbrev S2x2048x2048 : Shape := ⟨3, ![2, 2048, 2048]⟩
abbrev S_ : Shape := ⟨0, ![]⟩
abbrev S2x2048x4x512 : Shape := ⟨4, ![2, 2048, 4, 512]⟩
abbrev S2x2048x1x512 : Shape := ⟨4, ![2, 2048, 1, 512]⟩
abbrev S2x2048x512 : Shape := ⟨3, ![2, 2048, 512]⟩
abbrev S2x2x512 : Shape := ⟨3, ![2, 2, 512]⟩
abbrev S2x2046x512 : Shape := ⟨3, ![2, 2046, 512]⟩
abbrev S2048 : Shape := ⟨1, ![2048]⟩
abbrev S1x2048x1 : Shape := ⟨3, ![1, 2048, 1]⟩
abbrev S2x4x512 : Shape := ⟨3, ![2, 4, 512]⟩
abbrev S2x2044x512 : Shape := ⟨3, ![2, 2044, 512]⟩
abbrev S2x8x512 : Shape := ⟨3, ![2, 8, 512]⟩
abbrev S2x2040x512 : Shape := ⟨3, ![2, 2040, 512]⟩
abbrev S2x16x512 : Shape := ⟨3, ![2, 16, 512]⟩
abbrev S2x2032x512 : Shape := ⟨3, ![2, 2032, 512]⟩
abbrev S4x512x2x2048 : Shape := ⟨4, ![4, 512, 2, 2048]⟩
abbrev S4x2x2048x512 : Shape := ⟨4, ![4, 2, 2048, 512]⟩

abbrev nBuf : Space → Nat
  | .hbm => 202
  | .vmem => 0
  | .smem => 0
  | _ => 0

abbrev hbmTy0_0 (i : Nat) : BufTy := match i % 128 with
  | 0 => ⟨S4096x2048, .bf16⟩
  | 1 => ⟨S4x512x512, .bf16⟩
  | 2 => ⟨S4096x4096, .bf16⟩
  | 3 => ⟨S1x1, .f32⟩
  | 4 => ⟨S4x512x512, .f32⟩
  | 5 => ⟨S4096x2048, .f32⟩
  | 6 => ⟨S2x2048x2048, .f32⟩
  | 7 => ⟨S_, .f32⟩
  | 8 => ⟨S2x2048x2048, .f32⟩
  | 9 => ⟨S2x2048x4x512, .f32⟩
  | 10 => ⟨S2x2048x1x512, .f32⟩
  | 11 => ⟨S2x2048x512, .f32⟩
  | 12 => ⟨S_, .f32⟩
  | 13 => ⟨S_, .f32⟩
  | 14 => ⟨S2x2048x512, .f32⟩
  | 15 => ⟨S2x2x512, .f32⟩
  | 16 => ⟨S_, .f32⟩
  | 17 => ⟨S2x2x512, .f32⟩
  | 18 => ⟨S2x2046x512, .f32⟩
  | 19 => ⟨S2x2048x512, .f32⟩
  | 20 => ⟨S_, .f32⟩
  | 21 => ⟨S2x2x512, .f32⟩
  | 22 => ⟨S2048, .i32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S2048, .f32⟩
  | 30 => ⟨S2x2048x512, .f32⟩
  | 31 => ⟨S1x2048x1, .f32⟩
  | 32 => ⟨S2x2048x512, .f32⟩
  | 33 => ⟨S2x2048x512, .f32⟩
  | 34 => ⟨S2x2048x512, .f32⟩
  | 35 => ⟨S2x2048x1x512, .f32⟩
  | 36 => ⟨S2x2048x512, .f32⟩
  | 37 => ⟨S_, .f32⟩
  | 38 => ⟨S_, .f32⟩
  | 39 => ⟨S2x2048x512, .f32⟩
  | 40 => ⟨S2x4x512, .f32⟩
  | 41 => ⟨S_, .f32⟩
  | 42 => ⟨S2x4x512, .f32⟩
  | 43 => ⟨S2x2044x512, .f32⟩
  | 44 => ⟨S2x2048x512, .f32⟩
  | 45 => ⟨S_, .f32⟩
  | 46 => ⟨S2x4x512, .f32⟩
  | 47 => ⟨S2048, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S2048, .f32⟩
  | 55 => ⟨S2x2048x512, .f32⟩
  | 56 => ⟨S1x2048x1, .f32⟩
  | 57 => ⟨S2x2048x512, .f32⟩
  | 58 => ⟨S2x2048x512, .f32⟩
  | 59 => ⟨S2x2048x512, .f32⟩
  | 60 => ⟨S2x2048x1x512, .f32⟩
  | 61 => ⟨S2x2048x512, .f32⟩
  | 62 => ⟨S_, .f32⟩
  | 63 => ⟨S_, .f32⟩
  | 64 => ⟨S2x2048x512, .f32⟩
  | 65 => ⟨S2x8x512, .f32⟩
  | 66 => ⟨S_, .f32⟩
  | 67 => ⟨S2x8x512, .f32⟩
  | 68 => ⟨S2x2040x512, .f32⟩
  | 69 => ⟨S2x2048x512, .f32⟩
  | 70 => ⟨S_, .f32⟩
  | 71 => ⟨S2x8x512, .f32⟩
  | 72 => ⟨S2048, .i32⟩
  | 73 => ⟨S_, .i32⟩
  | 74 => ⟨S2048, .i32⟩
  | 75 => ⟨S2048, .i32⟩
  | 76 => ⟨S_, .i32⟩
  | 77 => ⟨S2048, .i32⟩
  | 78 => ⟨S2048, .i32⟩
  | 79 => ⟨S2048, .f32⟩
  | 80 => ⟨S2x2048x512, .f32⟩
  | 81 => ⟨S1x2048x1, .f32⟩
  | 82 => ⟨S2x2048x512, .f32⟩
  | 83 => ⟨S2x2048x512, .f32⟩
  | 84 => ⟨S2x2048x512, .f32⟩
  | 85 => ⟨S2x2048x1x512, .f32⟩
  | 86 => ⟨S2x2048x512, .f32⟩
  | 87 => ⟨S_, .f32⟩
  | 88 => ⟨S_, .f32⟩
  | 89 => ⟨S2x2048x512, .f32⟩
  | 90 => ⟨S2x16x512, .f32⟩
  | 91 => ⟨S_, .f32⟩
  | 92 => ⟨S2x16x512, .f32⟩
  | 93 => ⟨S2x2032x512, .f32⟩
  | 94 => ⟨S2x2048x512, .f32⟩
  | 95 => ⟨S_, .f32⟩
  | 96 => ⟨S2x16x512, .f32⟩
  | 97 => ⟨S2048, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S2048, .f32⟩
  | 105 => ⟨S2x2048x512, .f32⟩
  | 106 => ⟨S1x2048x1, .f32⟩
  | 107 => ⟨S2x2048x512, .f32⟩
  | 108 => ⟨S2x2048x512, .f32⟩
  | 109 => ⟨S2x2048x512, .f32⟩
  | 110 => ⟨S2x2048x1x512, .f32⟩
  | 111 => ⟨S2x2048x1x512, .f32⟩
  | 112 => ⟨S2x2048x1x512, .f32⟩
  | 113 => ⟨S2x2048x1x512, .f32⟩
  | 114 => ⟨S2x2048x4x512, .f32⟩
  | 115 => ⟨S4x512x2x2048, .f32⟩
  | 116 => ⟨S2x2048x4x512, .f32⟩
  | 117 => ⟨S2x2048x2048, .f32⟩
  | 118 => ⟨S2x2048x4x512, .f32⟩
  | 119 => ⟨S4x512x2x2048, .f32⟩
  | 120 => ⟨S4x2x2048x512, .f32⟩
  | 121 => ⟨S2x2048x4x512, .f32⟩
  | 122 => ⟨S2x2048x1x512, .f32⟩
  | 123 => ⟨S2x2048x512, .f32⟩
  | 124 => ⟨S2x2048x1x512, .f32⟩
  | 125 => ⟨S2x2048x512, .f32⟩
  | 126 => ⟨S2x2048x1x512, .f32⟩
  | 127 => ⟨S2x2048x512, .f32⟩
  | _ => ⟨S4096x2048, .bf16⟩

abbrev hbmTy0_1 (i : Nat) : BufTy := match i % 128 with
  | 0 => ⟨S2x2048x1x512, .f32⟩
  | 1 => ⟨S2x2048x512, .f32⟩
  | 2 => ⟨S2x2048x512, .f32⟩
  | 3 => ⟨S2x2048x512, .f32⟩
  | 4 => ⟨S2x2048x512, .f32⟩
  | 5 => ⟨S2x2048x512, .f32⟩
  | 6 => ⟨S2x16x512, .f32⟩
  | 7 => ⟨S2x2032x512, .f32⟩
  | 8 => ⟨S_, .f32⟩
  | 9 => ⟨S2x2048x512, .f32⟩
  | 10 => ⟨S2x2048x512, .f32⟩
  | 11 => ⟨S_, .f32⟩
  | 12 => ⟨S_, .f32⟩
  | 13 => ⟨S2x2048x512, .f32⟩
  | 14 => ⟨S2x2048x512, .f32⟩
  | 15 => ⟨S2x2048x1x512, .f32⟩
  | 16 => ⟨S_, .f32⟩
  | 17 => ⟨S2x2048x4x512, .f32⟩
  | 18 => ⟨S2x2048x512, .f32⟩
  | 19 => ⟨S2x2048x512, .f32⟩
  | 20 => ⟨S2x2048x512, .f32⟩
  | 21 => ⟨S2x2048x512, .f32⟩
  | 22 => ⟨S2x8x512, .f32⟩
  | 23 => ⟨S2x2040x512, .f32⟩
  | 24 => ⟨S_, .f32⟩
  | 25 => ⟨S2x2048x512, .f32⟩
  | 26 => ⟨S2x2048x512, .f32⟩
  | 27 => ⟨S_, .f32⟩
  | 28 => ⟨S_, .f32⟩
  | 29 => ⟨S2x2048x512, .f32⟩
  | 30 => ⟨S2x2048x512, .f32⟩
  | 31 => ⟨S2x2048x1x512, .f32⟩
  | 32 => ⟨S_, .f32⟩
  | 33 => ⟨S2x2048x4x512, .f32⟩
  | 34 => ⟨S2x2048x4x512, .f32⟩
  | 35 => ⟨S2x2048x512, .f32⟩
  | 36 => ⟨S2x2048x512, .f32⟩
  | 37 => ⟨S2x2048x512, .f32⟩
  | 38 => ⟨S2x2048x512, .f32⟩
  | 39 => ⟨S2x4x512, .f32⟩
  | 40 => ⟨S2x2044x512, .f32⟩
  | 41 => ⟨S_, .f32⟩
  | 42 => ⟨S2x2048x512, .f32⟩
  | 43 => ⟨S2x2048x512, .f32⟩
  | 44 => ⟨S_, .f32⟩
  | 45 => ⟨S_, .f32⟩
  | 46 => ⟨S2x2048x512, .f32⟩
  | 47 => ⟨S2x2048x512, .f32⟩
  | 48 => ⟨S2x2048x1x512, .f32⟩
  | 49 => ⟨S_, .f32⟩
  | 50 => ⟨S2x2048x4x512, .f32⟩
  | 51 => ⟨S2x2048x4x512, .f32⟩
  | 52 => ⟨S2x2048x512, .f32⟩
  | 53 => ⟨S2x2048x512, .f32⟩
  | 54 => ⟨S2x2048x512, .f32⟩
  | 55 => ⟨S2x2048x512, .f32⟩
  | 56 => ⟨S2x2x512, .f32⟩
  | 57 => ⟨S2x2046x512, .f32⟩
  | 58 => ⟨S_, .f32⟩
  | 59 => ⟨S2x2048x512, .f32⟩
  | 60 => ⟨S2x2048x512, .f32⟩
  | 61 => ⟨S_, .f32⟩
  | 62 => ⟨S_, .f32⟩
  | 63 => ⟨S2x2048x512, .f32⟩
  | 64 => ⟨S2x2048x512, .f32⟩
  | 65 => ⟨S2x2048x1x512, .f32⟩
  | 66 => ⟨S_, .f32⟩
  | 67 => ⟨S2x2048x4x512, .f32⟩
  | 68 => ⟨S2x2048x4x512, .f32⟩
  | 69 => ⟨S2x2048x2048, .f32⟩
  | 70 => ⟨S4096x2048, .f32⟩
  | 71 => ⟨S4096x2048, .bf16⟩
  | 72 => ⟨S4096x2048, .bf16⟩
  | 73 => ⟨S4096x4096, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call1_call0_cst : Ref sig .tc := ⟨.hbm, 37, rfl⟩
abbrev main_call1_call0_v0 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call2_call0_cst : Ref sig .tc := ⟨.hbm, 62, rfl⟩
abbrev main_call2_call0_v0 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call3_call0_cst : Ref sig .tc := ⟨.hbm, 87, rfl⟩
abbrev main_call3_call0_v0 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_15 : Ref sig .tc := ⟨.hbm, 136, rfl⟩
abbrev main_v107 : Ref sig .tc := ⟨.hbm, 137, rfl⟩
abbrev main_v108 : Ref sig .tc := ⟨.hbm, 138, rfl⟩
abbrev main_call4_call0_cst : Ref sig .tc := ⟨.hbm, 139, rfl⟩
abbrev main_call4_call0_v0 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_16 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_17 : Ref sig .tc := ⟨.hbm, 152, rfl⟩
abbrev main_v119 : Ref sig .tc := ⟨.hbm, 153, rfl⟩
abbrev main_v120 : Ref sig .tc := ⟨.hbm, 154, rfl⟩
abbrev main_call5_call0_cst : Ref sig .tc := ⟨.hbm, 155, rfl⟩
abbrev main_call5_call0_v0 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_18 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_19 : Ref sig .tc := ⟨.hbm, 169, rfl⟩
abbrev main_v132 : Ref sig .tc := ⟨.hbm, 170, rfl⟩
abbrev main_v133 : Ref sig .tc := ⟨.hbm, 171, rfl⟩
abbrev main_call6_call0_cst : Ref sig .tc := ⟨.hbm, 172, rfl⟩
abbrev main_call6_call0_v0 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_20 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_21 : Ref sig .tc := ⟨.hbm, 186, rfl⟩
abbrev main_v145 : Ref sig .tc := ⟨.hbm, 187, rfl⟩
abbrev main_v146 : Ref sig .tc := ⟨.hbm, 188, rfl⟩
abbrev main_call7_call0_cst : Ref sig .tc := ⟨.hbm, 189, rfl⟩
abbrev main_call7_call0_v0 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_22 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩

abbrev nD : Nat := 1
abbrev τ : Topo := Topo.v7x

variable {F : FTy → Type} [FloatOps F]
-- ==== GateKernel.lean ====
abbrev S4096x1024 : Shape := ⟨2, ![4096, 1024]⟩
abbrev S2048x1024 : Shape := ⟨2, ![2048, 1024]⟩
abbrev S4096x6144 : Shape := ⟨2, ![4096, 6144]⟩
abbrev S4096x2048 : Shape := ⟨2, ![4096, 2048]⟩
abbrev S1024x1024 : Shape := ⟨2, ![1024, 1024]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x6144, .bf16⟩
  | .hbm, ⟨3, _⟩ => ⟨S4096x2048, .bf16⟩
  | .hbm, ⟨4, _⟩ => ⟨S4096x2048, .bf16⟩
  | .hbm, ⟨5, _⟩ => ⟨S4096x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateReferenceIdeal.lean ====
abbrev S4096x1024 : Shape := ⟨2, ![4096, 1024]⟩
abbrev S2048x1024 : Shape := ⟨2, ![2048, 1024]⟩
abbrev S4096x6144 : Shape := ⟨2, ![4096, 6144]⟩
abbrev S4096x2048 : Shape := ⟨2, ![4096, 2048]⟩
abbrev S_ : Shape := ⟨0, ![]⟩
abbrev S4096x4096 : Shape := ⟨2, ![4096, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x6144, .bf16⟩
  | .hbm, ⟨3, _⟩ => ⟨S4096x2048, .bf16⟩
  | .hbm, ⟨4, _⟩ => ⟨S2048x1024, .f32⟩
  | .hbm, ⟨5, _⟩ => ⟨S4096x1024, .f32⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x1024, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .bf16⟩
  | .hbm, ⟨32, _⟩ => ⟨S4096x4096, .bf16⟩
  | .hbm, ⟨33, _⟩ => ⟨S4096x2048, .bf16⟩
  | .hbm, ⟨34, _⟩ => ⟨S4096x2048, .bf16⟩
  | .hbm, ⟨35, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== PoolGateKernel.lean ====
abbrev S4096x1024 : Shape := ⟨2, ![4096, 1024]⟩
abbrev S2048x1024 : Shape := ⟨2, ![2048, 1024]⟩
abbrev S4096x4096 : Shape := ⟨2, ![4096, 4096]⟩
abbrev S4096x2048 : Shape := ⟨2, ![4096, 2048]⟩
abbrev S1x2048 : Shape := ⟨2, ![1, 2048]⟩
abbrev S1024x1024 : Shape := ⟨2, ![1024, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x4096, .bf16⟩
  | .hbm, ⟨3, _⟩ => ⟨S4096x2048, .bf16⟩
  | .hbm, ⟨4, _⟩ => ⟨S1x2048, .f32⟩
  | .hbm, ⟨5, _⟩ => ⟨S4096x2048, .bf16⟩
  | .hbm, ⟨6, _⟩ => ⟨S4096x4096, .bf16⟩
  | .hbm, ⟨7, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let c0_3 : Index := 0#32
  let arg1 : BitVec 32 := BitVec.ofNat 32 (i 1).val
  let c1024_i32 : BitVec 32 := 1024#32
  let v5 : BitVec 32 := Scalar.muli arg1 c1024_i32
  let v6 : BitVec 32 := v5
  let v8 : Index := Scalar.indexCast v6
  ![0, v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== PoolGateReferenceIdeal.lean ====
abbrev S4096x1024 : Shape := ⟨2, ![4096, 1024]⟩
abbrev S2048x1024 : Shape := ⟨2, ![2048, 1024]⟩
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x4096, .bf16⟩
  | .hbm, ⟨3, _⟩ => ⟨S4096x2048, .bf16⟩
  | .hbm, ⟨4, _⟩ => ⟨S1x2048, .f32⟩
  | .hbm, ⟨5, _⟩ => ⟨S2048x1024, .f32⟩
  | .hbm, ⟨6, _⟩ => ⟨S4096x1024, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x1024, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S_, .bf16⟩
  | .hbm, ⟨41, _⟩ => ⟨S4096x2048, .bf16⟩
  | .hbm, ⟨42, _⟩ => ⟨S4096x2048, .bf16⟩
  | .hbm, ⟨43, _⟩ => ⟨S4096x2048, .bf16⟩
  | .hbm, ⟨44, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== RmsKernel.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S1024x4x1536 : Shape := ⟨3, ![1024, 4, 1536]⟩
abbrev S4x1024x1536 : Shape := ⟨3, ![4, 1024, 1536]⟩
abbrev S512x1536 : Shape := ⟨2, ![512, 1536]⟩
abbrev S1x1024x1536 : Shape := ⟨3, ![1, 1024, 1536]⟩
abbrev S512x1024 : Shape := ⟨2, ![512, 1024]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1536, .bf16⟩
  | .hbm, ⟨6, _⟩ => ⟨S4x1024x1536, .bf16⟩
  | .hbm, ⟨7, _⟩ => ⟨S4096x1024, .f32⟩
  | .hbm, ⟨8, _⟩ => ⟨S1x1024, .f32⟩
  | .hbm, ⟨9, _⟩ => ⟨S4096x1024, .bf16⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S4096x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  let c0_12 : Index := 0#32
  ![v25.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v10 : Index := Scalar.indexCast v1
  let c0 : Index := 0#32
  ![v10.toNat, 0]
def k0_cond3 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_10 : BitVec 32 := 0#32
  let v23 : BitVec 1 := Scalar.cmpi .ne v22 c0_i32_10
  v23

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v24 : Index := Scalar.indexCast v1
  let c0_11 : Index := 0#32
  ![v24.toNat, 0]
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RmsReferenceIdeal.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x6144, .f32⟩
  | .hbm, ⟨6, _⟩ => ⟨S4096x6144, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x6144, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== WoutKernel.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SbinKernel.lean ====
abbrev S4096x1024 : Shape := ⟨2, ![4096, 1024]⟩
abbrev S4096x6144 : Shape := ⟨2, ![4096, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .f32⟩
  | .local _ .vmem, ⟨5, _⟩ => ⟨S1x1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== SbinReferenceIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S4096x6144, .f32⟩
  | .hbm, ⟨4, _⟩ => ⟨S_, .f32⟩
  | .hbm, ⟨5, _⟩ => ⟨S1024x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PinKernel.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== PinReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PwKernel.lean ====
abbrev S4096x2048 : Shape := ⟨2, ![4096, 2048]⟩
abbrev S4x512x512 : Shape := ⟨3, ![4, 512, 512]⟩
abbrev S2048x512 : Shape := ⟨2, ![2048, 512]⟩
abbrev S4x128x512 : Shape := ⟨3, ![4, 128, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S4x128x512, .f32⟩
  | .local _ .vmem, ⟨5, _⟩ => ⟨S4x128x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== PwReferenceIdeal.lean ====
abbrev S4096x2048 : Shape := ⟨2, ![4096, 2048]⟩
abbrev S4096x4x512 : Shape := ⟨3, ![4096, 4, 512]⟩
abbrev S_ : Shape := ⟨0, ![]⟩
abbrev S4x512x512 : Shape := ⟨3, ![4, 512, 512]⟩
abbrev S4x512x4096 : Shape := ⟨3, ![4, 512, 4096]⟩
abbrev S4x4x128x512 : Shape := ⟨4, ![4, 4, 128, 512]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x4x512, .f32⟩
  | .hbm, ⟨4, _⟩ => ⟨S4096x2048, .f32⟩
  | .hbm, ⟨5, _⟩ => ⟨S4096x4x512, .f32⟩
  | .hbm, ⟨6, _⟩ => ⟨S_, .f32⟩
  | .hbm, ⟨7, _⟩ => ⟨S4x512x512, .f32⟩
  | .hbm, ⟨8, _⟩ => ⟨S4x512x4096, .f32⟩
  | .hbm, ⟨9, _⟩ => ⟨S4096x4x512, .f32⟩
  | .hbm, ⟨10, _⟩ => ⟨S4x512x4096, .f32⟩
  | .hbm, ⟨11, _⟩ => ⟨S4x512x512, .f32⟩
  | .hbm, ⟨12, _⟩ => ⟨S4x512x512, .f32⟩
  | .hbm, ⟨13, _⟩ => ⟨S4x4x128x512, .f32⟩
  | .hbm, ⟨14, _⟩ => ⟨S4x4x128x512, .f32⟩
  | .hbm, ⟨15, _⟩ => ⟨S4x512x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== ResKernel.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ResReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PprojKernel.lean ====
abbrev S4096x1024 : Shape := ⟨2, ![4096, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4096x4096, .bf16⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v27 : Index := Scalar.indexCast v1
  let c0_13 : Index := 0#32
  ![v27.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PprojReferenceIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x4096, .f32⟩
  | .hbm, ⟨19, _⟩ => ⟨S4096x4096, .f32⟩
  | .hbm, ⟨20, _⟩ => ⟨S4096x4096, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SprojKernel.lean ====
abbrev S4096x1024 : Shape := ⟨2, ![4096, 1024]⟩
abbrev S1x1024 : Shape := ⟨2, ![1, 1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S4096x6144 : Shape := ⟨2, ![4096, 6144]⟩
abbrev S1024x1024 : Shape := ⟨2, ![1024, 1024]⟩
abbrev S1x1024x1536 : Shape := ⟨3, ![1, 1024, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S1024x4x1536, .bf16⟩
  | .hbm, ⟨4, _⟩ => ⟨S4x1024x1536, .bf16⟩
  | .hbm, ⟨5, _⟩ => ⟨S4096x6144, .bf16⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1536, .bf16⟩
  | .local _ .vmem, ⟨4, _⟩ => ⟨S1x1024x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1024, .bf16⟩
  | .local _ .vmem, ⟨8, _⟩ => ⟨S1024x1024, .bf16⟩
  | .local _ .vmem, ⟨9, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v27 : Index := Scalar.indexCast v1
  let c0_13 : Index := 0#32
  ![v27.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SprojReferenceIdeal.lean ====
abbrev S4096x1024 : Shape := ⟨2, ![4096, 1024]⟩
abbrev S1x1024 : Shape := ⟨2, ![1, 1024]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x6144, .f32⟩
  | .hbm, ⟨19, _⟩ => ⟨S4096x6144, .f32⟩
  | .hbm, ⟨20, _⟩ => ⟨S4096x6144, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RmspKernel.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1024, .bf16⟩
  | .hbm, ⟨6, _⟩ => ⟨S4x1024x1024, .bf16⟩
  | .hbm, ⟨7, _⟩ => ⟨S4096x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S4096x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  let c0_12 : Index := 0#32
  ![v25.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v10 : Index := Scalar.indexCast v1
  let c0 : Index := 0#32
  ![v10.toNat, 0]
def k0_cond3 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_10 : BitVec 32 := 0#32
  let v23 : BitVec 1 := Scalar.cmpi .ne v22 c0_i32_10
  v23

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v24 : Index := Scalar.indexCast v1
  let c0_11 : Index := 0#32
  ![v24.toNat, 0]
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RmspReferenceIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== HeadKernel.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1x128 : Shape := ⟨2, ![1, 128]⟩
abbrev S512x2048 : Shape := ⟨2, ![512, 2048]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x128, .f32⟩
  | .hbm, ⟨8, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HeadReferenceIdeal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x128, .f32⟩
  | .hbm, ⟨73, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== PoolFwdKernel.lean ====
abbrev S4096x4096 : Shape := ⟨2, ![4096, 4096]⟩
abbrev S4x512x512 : Shape := ⟨3, ![4, 512, 512]⟩
abbrev S1x2048 : Shape := ⟨2, ![1, 2048]⟩
abbrev S4x4x128x512 : Shape := ⟨4, ![4, 4, 128, 512]⟩
abbrev S4096x2048 : Shape := ⟨2, ![4096, 2048]⟩
abbrev S2048x512 : Shape := ⟨2, ![2048, 512]⟩
abbrev S16x512 : Shape := ⟨2, ![16, 512]⟩
abbrev S4x128x512 : Shape := ⟨3, ![4, 128, 512]⟩
abbrev S1x512 : Shape := ⟨2, ![1, 512]⟩
abbrev S2064x512 : Shape := ⟨2, ![2064, 512]⟩
abbrev S2048x1 : Shape := ⟨2, ![2048, 1]⟩
abbrev S512x512 : Shape := ⟨2, ![512, 512]⟩
abbrev S256x512 : Shape := ⟨2, ![256, 512]⟩

abbrev nBuf : Space → Nat
  | .hbm => 9
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .bf16⟩
  | .hbm, ⟨2, _⟩ => ⟨S1x2048, .f32⟩
  | .hbm, ⟨3, _⟩ => ⟨S4x4x128x512, .bf16⟩
  | .hbm, ⟨4, _⟩ => ⟨S4x4x128x512, .bf16⟩
  | .hbm, ⟨5, _⟩ => ⟨S4x512x512, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S2048x512, .bf16⟩
  | .local _ .vmem, ⟨1, _⟩ => ⟨S2048x512, .bf16⟩
  | .local _ .vmem, ⟨2, _⟩ => ⟨S16x512, .bf16⟩
  | .local _ .vmem, ⟨3, _⟩ => ⟨S16x512, .bf16⟩
  | .local _ .vmem, ⟨4, _⟩ => ⟨S2048x512, .bf16⟩
  | .local _ .vmem, ⟨5, _⟩ => ⟨S2048x512, .bf16⟩
  | .local _ .vmem, ⟨6, _⟩ => ⟨S4x128x512, .bf16⟩
  | .local _ .vmem, ⟨7, _⟩ => ⟨S4x128x512, .bf16⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PoolFwdReferenceIdeal.lean ====
abbrev S4096x4096 : Shape := ⟨2, ![4096, 4096]⟩
abbrev S4x512x512 : Shape := ⟨3, ![4, 512, 512]⟩
abbrev S1x2048 : Shape := ⟨2, ![1, 2048]⟩
abbrev S4096x2048 : Shape := ⟨2, ![4096, 2048]⟩
abbrev S2x2048x2048 : Shape := ⟨3, ![2, 2048, 2048]⟩
abbrev S2x2048x4x512 : Shape := ⟨4, ![2, 2048, 4, 512]⟩
abbrev S2x2048x1x512 : Shape := ⟨4, ![2, 2048, 1, 512]⟩
abbrev S2x2048x512 : Shape := ⟨3, ![2, 2048, 512]⟩
abbrev S_ : Shape := ⟨0, ![]⟩
abbrev S2x2x512 : Shape := ⟨3, ![2, 2, 512]⟩
abbrev S2x2046x512 : Shape := ⟨3, ![2, 2046, 512]⟩
abbrev S2048 : Shape := ⟨1, ![2048]⟩
abbrev S1x2048x1 : Shape := ⟨3, ![1, 2048, 1]⟩
abbrev S2x4x512 : Shape := ⟨3, ![2, 4, 512]⟩
abbrev S2x2044x512 : Shape := ⟨3, ![2, 2044, 512]⟩
abbrev S2x8x512 : Shape := ⟨3, ![2, 8, 512]⟩
abbrev S2x2040x512 : Shape := ⟨3, ![2, 2040, 512]⟩
abbrev S2x16x512 : Shape := ⟨3, ![2, 16, 512]⟩
abbrev S2x2032x512 : Shape := ⟨3, ![2, 2032, 512]⟩
abbrev S4x512x2x2048 : Shape := ⟨4, ![4, 512, 2, 2048]⟩

abbrev nBuf : Space → Nat
  | .hbm => 127
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .bf16⟩
  | .hbm, ⟨2, _⟩ => ⟨S1x2048, .f32⟩
  | .hbm, ⟨3, _⟩ => ⟨S4096x2048, .bf16⟩
  | .hbm, ⟨4, _⟩ => ⟨S4096x2048, .f32⟩
  | .hbm, ⟨5, _⟩ => ⟨S2x2048x2048, .f32⟩
  | .hbm, ⟨6, _⟩ => ⟨S2x2048x4x512, .f32⟩
  | .hbm, ⟨7, _⟩ => ⟨S2x2048x1x512, .f32⟩
  | .hbm, ⟨8, _⟩ => ⟨S2x2048x512, .f32⟩
  | .hbm, ⟨9, _⟩ => ⟨S_, .f32⟩
  | .hbm, ⟨10, _⟩ => ⟨S_, .f32⟩
  | .hbm, ⟨11, _⟩ => ⟨S2x2048x512, .f32⟩
  | .hbm, ⟨12, _⟩ => ⟨S2x2x512, .f32⟩
  | .hbm, ⟨13, _⟩ => ⟨S_, .f32⟩
  | .hbm, ⟨14, _⟩ => ⟨S2x2x512, .f32⟩
  | .hbm, ⟨15, _⟩ => ⟨S2x2046x512, .f32⟩
  | .hbm, ⟨16, _⟩ => ⟨S2x2048x512, .f32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .f32⟩
  | .hbm, ⟨25, _⟩ => ⟨S2x2048x512, .f32⟩
  | .hbm, ⟨26, _⟩ => ⟨S1x2048x1, .f32⟩
  | .hbm, ⟨27, _⟩ => ⟨S2x2048x512, .f32⟩
  | .hbm, ⟨28, _⟩ => ⟨S2x2048x512, .f32⟩
  | .hbm, ⟨29, _⟩ => ⟨S2x2048x512, .f32⟩
  | .hbm, ⟨30, _⟩ => ⟨S2x2048x1x512, .f32⟩
  | .hbm, ⟨31, _⟩ => ⟨S2x2048x512, .f32⟩
  | .hbm, ⟨32, _⟩ => ⟨S_, .f32⟩
  | .hbm, ⟨33, _⟩ => ⟨S_, .f32⟩
  | .hbm, ⟨34, _⟩ => ⟨S2x2048x512, .f32⟩
  | .hbm, ⟨35, _⟩ => ⟨S2x4x512, .f32⟩
  | .hbm, ⟨36, _⟩ => ⟨S_, .f32⟩
  | .hbm, ⟨37, _⟩ => ⟨S2x4x512, .f32⟩
  | .hbm, ⟨38, _⟩ => ⟨S2x2044x512, .f32⟩
  | .hbm, ⟨39, _⟩ => ⟨S2x2048x512, .f32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .f32⟩
  | .hbm, ⟨48, _⟩ => ⟨S2x2048x512, .f32⟩
  | .hbm, ⟨49, _⟩ => ⟨S1x2048x1, .f32⟩
  | .hbm, ⟨50, _⟩ => ⟨S2x2048x512, .f32⟩
  | .hbm, ⟨51, _⟩ => ⟨S2x2048x512, .f32⟩
  | .hbm, ⟨52, _⟩ => ⟨S2x2048x512, .f32⟩
  | .hbm, ⟨53, _⟩ => ⟨S2x2048x1x512, .f32⟩
  | .hbm, ⟨54, _⟩ => ⟨S2x2048x512, .f32⟩
  | .hbm, ⟨55, _⟩ => ⟨S_, .f32⟩
  | .hbm, ⟨56, _⟩ => ⟨S_, .f32⟩
  | .hbm, ⟨57, _⟩ => ⟨S2x2048x512, .f32⟩
  | .hbm, ⟨58, _⟩ => ⟨S2x8x512, .f32⟩
  | .hbm, ⟨59, _⟩ => ⟨S_, .f32⟩
  | .hbm, ⟨60, _⟩ => ⟨S2x8x512, .f32⟩
  | .hbm, ⟨61, _⟩ => ⟨S2x2040x512, .f32⟩
  | .hbm, ⟨62, _⟩ => ⟨S2x2048x512, .f32⟩
  | .hbm, ⟨63, _⟩ => ⟨S2048, .i32⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .f32⟩
  | .hbm, ⟨71, _⟩ => ⟨S2x2048x512, .f32⟩
  | .hbm, ⟨72, _⟩ => ⟨S1x2048x1, .f32⟩
  | .hbm, ⟨73, _⟩ => ⟨S2x2048x512, .f32⟩
  | .hbm, ⟨74, _⟩ => ⟨S2x2048x512, .f32⟩
  | .hbm, ⟨75, _⟩ => ⟨S2x2048x512, .f32⟩
  | .hbm, ⟨76, _⟩ => ⟨S2x2048x1x512, .f32⟩
  | .hbm, ⟨77, _⟩ => ⟨S2x2048x512, .f32⟩
  | .hbm, ⟨78, _⟩ => ⟨S_, .f32⟩
  | .hbm, ⟨79, _⟩ => ⟨S_, .f32⟩
  | .hbm, ⟨80, _⟩ => ⟨S2x2048x512, .f32⟩
  | .hbm, ⟨81, _⟩ => ⟨S2x16x512, .f32⟩
  | .hbm, ⟨82, _⟩ => ⟨S_, .f32⟩
  | .hbm, ⟨83, _⟩ => ⟨S2x16x512, .f32⟩
  | .hbm, ⟨84, _⟩ => ⟨S2x2032x512, .f32⟩
  | .hbm, ⟨85, _⟩ => ⟨S2x2048x512, .f32⟩
  | .hbm, ⟨86, _⟩ => ⟨S2048, .i32⟩
  | .hbm, ⟨87, _⟩ => ⟨S_, .i32⟩
  | .hbm, ⟨88, _⟩ => ⟨S2048, .i32⟩
  | .hbm, ⟨89, _⟩ => ⟨S2048, .i32⟩
  | .hbm, ⟨90, _⟩ => ⟨S_, .i32⟩
  | .hbm, ⟨91, _⟩ => ⟨S2048, .i32⟩
  | .hbm, ⟨92, _⟩ => ⟨S2048, .i32⟩
  | .hbm, ⟨93, _⟩ => ⟨S2048, .f32⟩
  | .hbm, ⟨94, _⟩ => ⟨S2x2048x512, .f32⟩
  | .hbm, ⟨95, _⟩ => ⟨S1x2048x1, .f32⟩
  | .hbm, ⟨96, _⟩ => ⟨S2x2048x512, .f32⟩
  | .hbm, ⟨97, _⟩ => ⟨S2x2048x512, .f32⟩
  | .hbm, ⟨98, _⟩ => ⟨S2x2048x512, .f32⟩
  | .hbm, ⟨99, _⟩ => ⟨S2x2048x1x512, .f32⟩
  | .hbm, ⟨100, _⟩ => ⟨S2x2048x1x512, .f32⟩
  | .hbm, ⟨101, _⟩ => ⟨S2x2048x1x512, .f32⟩
  | .hbm, ⟨102, _⟩ => ⟨S2x2048x1x512, .f32⟩
  | .hbm, ⟨103, _⟩ => ⟨S2x2048x4x512, .f32⟩
  | .hbm, ⟨104, _⟩ => ⟨S4x512x512, .f32⟩
  | .hbm, ⟨105, _⟩ => ⟨S4x512x2x2048, .f32⟩
  | .hbm, ⟨106, _⟩ => ⟨S2x2048x4x512, .f32⟩
  | .hbm, ⟨107, _⟩ => ⟨S2x2048x2048, .f32⟩
  | .hbm, ⟨108, _⟩ => ⟨S4096x2048, .f32⟩
  | .hbm, ⟨109, _⟩ => ⟨S4096x2048, .f32⟩
  | .hbm, ⟨110, _⟩ => ⟨S4096x2048, .f32⟩
  | .hbm, ⟨111, _⟩ => ⟨S4096x2048, .bf16⟩
  | .hbm, ⟨112, _⟩ => ⟨S4096x2048, .f32⟩
  | .hbm, ⟨113, _⟩ => ⟨S4096x2048, .f32⟩
  | .hbm, ⟨114, _⟩ => ⟨S4096x2048, .f32⟩
  | .hbm, ⟨115, _⟩ => ⟨S_, .f32⟩
  | .hbm, ⟨116, _⟩ => ⟨S4096x2048, .f32⟩
  | .hbm, ⟨117, _⟩ => ⟨S4096x2048, .f32⟩
  | .hbm, ⟨118, _⟩ => ⟨S_, .f32⟩
  | .hbm, ⟨119, _⟩ => ⟨S4096x2048, .f32⟩
  | .hbm, ⟨120, _⟩ => ⟨S4096x2048, .f32⟩
  | .hbm, ⟨121, _⟩ => ⟨S4096x2048, .f32⟩
  | .hbm, ⟨122, _⟩ => ⟨S4096x2048, .f32⟩
  | .hbm, ⟨123, _⟩ => ⟨S4096x2048, .bf16⟩
  | .hbm, ⟨124, _⟩ => ⟨S4096x2048, .f32⟩
  | .hbm, ⟨125, _⟩ => ⟨S4096x2048, .bf16⟩
  | .hbm, ⟨126, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_cst : Ref sig .tc := ⟨.hbm, 9, rfl⟩
abbrev main_call0_call0_v0 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_call0_cst : Ref sig .tc := ⟨.hbm, 32, rfl⟩
abbrev main_call1_call0_v0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call2_call0_cst : Ref sig .tc := ⟨.hbm, 55, rfl⟩
abbrev main_call2_call0_v0 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_c_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call3_call0_cst : Ref sig .tc := ⟨.hbm, 78, rfl⟩
abbrev main_call3_call0_v0 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_8 : Ref sig .tc := ⟨.hbm, 87, rfl⟩
abbrev main_v66 : Ref sig .tc := ⟨.hbm, 88, rfl⟩
abbrev main_v67 : Ref sig .tc := ⟨.hbm, 89, rfl⟩
abbrev main_c_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call4_v0 : Ref sig .tc := ⟨.hbm, 113, rfl⟩
abbrev main_call4_v1 : Ref sig .tc := ⟨.hbm, 114, rfl⟩
abbrev main_call4_cst : Ref sig .tc := ⟨.hbm, 115, rfl⟩
abbrev main_call4_v2 : Ref sig .tc := ⟨.hbm, 116, rfl⟩
abbrev main_call4_v3 : Ref sig .tc := ⟨.hbm, 117, rfl⟩
abbrev main_call4_cst_0 : Ref sig .tc := ⟨.hbm, 118, rfl⟩
abbrev main_call4_v4 : Ref sig .tc := ⟨.hbm, 119, rfl⟩
abbrev main_call4_v5 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== Proof.Finite.lean ====
/- The finiteness preconditions, read: an array every entry of which is below infinity in absolute value holds reals. -/
module

public import Idealize.ShloMosaic.Lib.ReduceAll
public import Idealize.ShloMosaic.Lib.KernelVsHost
public import Idealize.ShloMosaic.PureOps

@[expose] public section

noncomputable section

namespace Cert.Finite

open Idealize.ShloMosaic

/-- An extended real below infinity in absolute value is a real. -/
theorem real_of_lt (x : Ideal .f32)
    (h : FloatOps.cmpf .olt (FloatOps.hostAbsf x) (FloatOps.ofBits (F := Ideal) .f32 0x7F800000#32) = 1#1) :
    (x : EReal) = ((EReal.toReal x : ℝ) : EReal) := by
  have h' : BitVec.ofBool (decide (max (x : EReal) (-(x : EReal)) < Ideal.ofBits .f32 0x7F800000#32)) = 1#1 := h
  have h2 : max (x : EReal) (-(x : EReal)) < ⊤ := by
    by_contra hc
    have : ¬ (max (x : EReal) (-(x : EReal)) < Ideal.ofBits .f32 0x7F800000#32) := fun hh => hc (hh.trans_le le_top)
    rw [decide_eq_false this] at h'
    exact absurd h' (by decide)
  refine (EReal.coe_toReal ?_ ?_).symm
  · rintro rfl
    simp at h2
  · rintro rfl
    simp at h2

/-- An array whose entries all pass the test holds reals. -/
theorem real_of_all {s t u : Shape} {axes : List (Fin s.rank)} [Subsingleton t.Idx] (x y : FVec Ideal s .f32) (init : u.Idx → BitVec 1) (h : s.ReducesTo axes t)
    (hu : 0 < u.numel) (j : t.Idx) (hy : ∀ i, y i = FloatOps.ofBits (F := Ideal) .f32 0x7F800000#32)
    (e : Host.reduce IntOp.andi (cmpf .olt (Host.absf x) y) init h hu j = 1#1) (i : s.Idx) :
    (x i : EReal) = ((EReal.toReal (x i) : ℝ) : EReal) := by
  have := Host.reduce_andi_all _ init h hu j e i
  refine real_of_lt (x i) ?_
  rw [← hy i]
  exact this

/-- The two bits of a conjunction. -/
theorem and_one {a b : BitVec 1} (h : IntOp.andi a b = 1#1) : a = 1#1 ∧ b = 1#1 := by
  revert a b; decide

end Cert.Finite

end
-- ==== Proof.PoolMath.lean ====
/- The pooling gradient over the real numbers: what one entry of it is, and the telescoping of a suffix sum of differences. -/
module

public import Idealize.ShloMosaic.PureOps
public import Idealize.ShloMosaic.PureOps.Ideal.Laws
public import Idealize.ShloMosaic.Lib.Pointwise
public import Mathlib.Algebra.BigOperators.Fin

@[expose] public section

noncomputable section

namespace Cert.PoolMath

open Idealize.ShloMosaic

/-- A sequence that is zero from `n` on: the sum over the places from `r` of its differences at distance `w` telescopes to the `w` entries from `r`. -/
theorem telescope (f : ℕ → ℝ) (n w r : ℕ) (hf : ∀ k, n ≤ k → f k = 0) :
    ∑ j ∈ Finset.range n, (f (r + j) - f (r + j + w)) = ∑ j ∈ Finset.range w, f (r + j) := by
  have h1 : ∑ j ∈ Finset.range (n + w), f (r + j)
      = ∑ j ∈ Finset.range n, f (r + j) + ∑ j ∈ Finset.range w, f (r + (n + j)) := Finset.sum_range_add _ _ _
  have h2 : ∑ j ∈ Finset.range (w + n), f (r + j)
      = ∑ j ∈ Finset.range w, f (r + j) + ∑ j ∈ Finset.range n, f (r + (w + j)) := Finset.sum_range_add _ _ _
  have h3 : ∑ j ∈ Finset.range w, f (r + (n + j)) = 0 := Finset.sum_eq_zero fun j _ => hf _ (by omega)
  have h4 : ∑ j ∈ Finset.range n, f (r + j + w) = ∑ j ∈ Finset.range n, f (r + (w + j)) :=
    Finset.sum_congr rfl fun j _ => congrArg f (by omega)
  rw [Finset.sum_sub_distrib, h4]
  rw [Nat.add_comm w n] at h2
  linarith

/-- A left fold of additions of real numbers, from zero. -/
theorem foldl_coe {ι : Type} (l : List ι) (g : ι → EReal) (q : ι → ℝ) (h : ∀ n, g n = (q n : EReal)) :
    ∀ a : ℝ, l.foldl (fun r n => r + g n) (a : EReal) = ((a + (l.map q).sum : ℝ) : EReal) := by
  induction l with
  | nil => intro a; simp
  | cons n l ih =>
    intro a
    rw [List.foldl_cons, h n, ← EReal.coe_add, ih]
    simp [add_assoc]

theorem numel_win : (⟨3, ![1, 2048, 1]⟩ : Shape).numel = 2048 := by decide +kernel

theorem win_symm (n : Fin (⟨3, ![1, 2048, 1]⟩ : Shape).numel) :
    (⟨3, ![1, 2048, 1]⟩ : Shape).rowMajor.symm n = ix3 (0 : Fin 1) (n.cast numel_win) (0 : Fin 1) := by
  rw [Equiv.symm_apply_eq]
  apply Fin.ext
  rw [Shape.rowMajor_val_three]
  show n.val = (0 * 2048 + n.val) * 1 + 0
  omega

/-- The window sum of the whole height, padded behind: a suffix sum along the middle axis. -/
theorem suffix_sum (x : FVec Ideal ⟨3, ![2, 2048, 512]⟩ .f32) (init : FVec Ideal ⟨0, ![]⟩ .f32) (hi : ∀ k, init k = 0)
    (h : (⟨3, ![2, 2048, 512]⟩ : Shape).ReduceWindows (![1, 2048, 1] : Fin 3 → Nat) ![1, 1, 1] ![0, 0, 0] ![0, 2047, 0] ⟨3, ![2, 2048, 512]⟩)
    (hu : 0 < (⟨0, ![]⟩ : Shape).numel) (b : Fin 2) (r : Fin 2048) (i : Fin 512) (g : ℕ → ℝ)
    (hx : ∀ k : Fin 2048, x (ix3 b k i) = (g k : EReal)) (hg : ∀ k, 2048 ≤ k → g k = 0) :
    Host.reduceWindowAdd (s := ⟨3, ![2, 2048, 512]⟩) ![1, 2048, 1] ![1, 1, 1] ![0, 0, 0] ![0, 2047, 0] x init h hu (ix3 b r i)
      = ((∑ j ∈ Finset.range 2048, g (r.val + j) : ℝ) : EReal) := by
  unfold Host.reduceWindowAdd
  rw [Ideal.hostReduceWindowAdd_def]
  unfold Ideal.hostReduceWindowAdd Host.reduceWindow
  dsimp only
  rw [hi]
  refine (foldl_coe _ _ (fun n => g (r.val + n.val)) (fun n => ?_) 0).trans ?_
  · have hn : n.val < 2048 := (n.cast numel_win).isLt
    have w0 : ((⟨3, ![1, 2048, 1]⟩ : Shape).rowMajor.symm n 0).val = 0 := by rw [win_symm]; rfl
    have w1 : ((⟨3, ![1, 2048, 1]⟩ : Shape).rowMajor.symm n 1).val = n.val := by rw [win_symm]; rfl
    have w2 : ((⟨3, ![1, 2048, 1]⟩ : Shape).rowMajor.symm n 2).val = 0 := by rw [win_symm]; rfl
    by_cases hk : r.val + n.val < 2048
    · rw [dif_pos]
      · rw [← hx ⟨r.val + n.val, hk⟩]
        refine congrArg x (funext fun a => Fin.ext ?_)
        match a with
        | ⟨0, _⟩ => show b.val * 1 + ((⟨3, ![1, 2048, 1]⟩ : Shape).rowMajor.symm n 0).val - 0 = b.val; omega
        | ⟨1, _⟩ => show r.val * 1 + ((⟨3, ![1, 2048, 1]⟩ : Shape).rowMajor.symm n 1).val - 0 = r.val + n.val; omega
        | ⟨2, _⟩ => show i.val * 1 + ((⟨3, ![1, 2048, 1]⟩ : Shape).rowMajor.symm n 2).val - 0 = i.val; omega
      · intro a
        match a with
        | ⟨0, _⟩ => show 0 ≤ b.val * 1 + ((⟨3, ![1, 2048, 1]⟩ : Shape).rowMajor.symm n 0).val ∧ b.val * 1 + ((⟨3, ![1, 2048, 1]⟩ : Shape).rowMajor.symm n 0).val - 0 < 2; omega
        | ⟨1, _⟩ => show 0 ≤ r.val * 1 + ((⟨3, ![1, 2048, 1]⟩ : Shape).rowMajor.symm n 1).val ∧ r.val * 1 + ((⟨3, ![1, 2048, 1]⟩ : Shape).rowMajor.symm n 1).val - 0 < 2048; omega
        | ⟨2, _⟩ => show 0 ≤ i.val * 1 + ((⟨3, ![1, 2048, 1]⟩ : Shape).rowMajor.symm n 2).val ∧ i.val * 1 + ((⟨3, ![1, 2048, 1]⟩ : Shape).rowMajor.symm n 2).val - 0 < 512; omega
    · rw [dif_neg, hg _ (by omega)]
      · rfl
      · intro hin
        have h1 : 0 ≤ r.val * 1 + ((⟨3, ![1, 2048, 1]⟩ : Shape).rowMajor.symm n 1).val ∧ r.val * 1 + ((⟨3, ![1, 2048, 1]⟩ : Shape).rowMajor.symm n 1).val - 0 < 2048 := hin 1
        omega
  · rw [zero_add, ← Fin.sum_univ_def, EReal.coe_eq_coe_iff, ← Fin.sum_univ_eq_sum_range (fun j => g (r.val + j)) 2048]
    exact Fintype.sum_equiv (finCongr numel_win) _ _ fun n => rfl

/-- The word of the number of positions a window of `w` covers from the front: `min (r + 1) w`. -/
theorem count_word (r w : ℕ) (hr : r < 4096) (hw : w < 4096) :
    FloatOps.sitofp (F := Ideal) FTy.f32 (IntOp.minsi (IntOp.addi (BitVec.ofNat 32 r) 1#32) (BitVec.ofNat 32 w))
      = (((min (r + 1) w : ℕ) : ℝ) : EReal) := by
  have h1 : (IntOp.addi (BitVec.ofNat 32 r) 1#32).toInt = ((r + 1 : ℕ) : Int) := by
    unfold IntOp.addi
    rw [BitVec.toInt_eq_toNat_of_lt] <;> simp [BitVec.toNat_add] <;> omega
  have h2 : (BitVec.ofNat 32 w).toInt = ((w : ℕ) : Int) := by
    rw [BitVec.toInt_eq_toNat_of_lt] <;> simp <;> omega
  have h3 : (IntOp.minsi (IntOp.addi (BitVec.ofNat 32 r) 1#32) (BitVec.ofNat 32 w)).toInt = ((min (r + 1) w : ℕ) : Int) := by
    unfold IntOp.minsi
    split
    · next h => rw [h1]; simp only [BitVec.slt, h1, h2, decide_eq_true_eq] at h; omega
    · next h => rw [h2]; simp only [BitVec.slt, h1, h2, decide_eq_true_eq] at h; omega
  show (((IntOp.minsi (IntOp.addi (BitVec.ofNat 32 r) 1#32) (BitVec.ofNat 32 w)).toInt : ℝ) : EReal) = _
  rw [h3]
  norm_num

variable (d : Fin 4096 → Fin 2048 → ℝ) (w : Fin 4 → Fin 512 → Fin 512 → ℝ)

/-- The cotangent of the pooled values of sequence `b`, group `g`, channel `i`, at row `r` (zero behind the last row): the product with the
    group's transposed weights. -/
def dp (b : Fin 2) (g : Fin 4) (i : Fin 512) (r : ℕ) : ℝ :=
  if h : r < 2048 then ∑ o : Fin 512, d ⟨b.val * 2048 + r, by omega⟩ ⟨g.val * 512 + o.val, by omega⟩ * w g i o else 0

/-- … divided by the number of rows its window covers. -/
def quot (b : Fin 2) (g : Fin 4) (i : Fin 512) (r : ℕ) : ℝ := dp d w b g i r / (min (r + 1) (2 ^ (g.val + 1)) : ℕ)

/-- The gradient of the pooling: the sum of the quotients over the window that starts at row `r`, minus the cotangent of the row itself. -/
def grad (b : Fin 2) (g : Fin 4) (i : Fin 512) (r : ℕ) : ℝ :=
  ∑ j ∈ Finset.range (2 ^ (g.val + 1)), quot d w b g i (r + j) - dp d w b g i r

theorem dp_zero (b : Fin 2) (g : Fin 4) (i : Fin 512) (r : ℕ) (h : 2048 ≤ r) : dp d w b g i r = 0 := dif_neg (by omega)

theorem quot_zero (b : Fin 2) (g : Fin 4) (i : Fin 512) (r : ℕ) (h : 2048 ≤ r) : quot d w b g i r = 0 := by
  unfold quot; rw [dp_zero d w b g i r h, zero_div]

/-- Exact division of a real number by a positive whole number. -/
theorem div_nat (a : ℝ) (n : ℕ) (hn : 0 < n) : Ideal.div (a : EReal) ((n : ℝ) : EReal) = ((a / n : ℝ) : EReal) := by
  rw [Ideal.div_coe (by positivity : (n : ℝ) ≠ 0), ← EReal.coe_mul]
  congr 1
  rw [one_div, div_eq_mul_inv]

/-- A finite sum of real numbers, each seen as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.PoolMath

end
-- ==== Proof.PoolBlock.lean ====
/- What one grid point of the pooling kernel computes, read at an index. -/
module

public import proofs.«01_k».proof.Proof.Gen.KernelIdeal.Value
public import proofs.«01_k».proof.Proof.PoolMath

@[expose] public section

noncomputable section

namespace Cert.PoolBlock

open Cert.KernelIdeal Cert.KernelIdeal.Gen Idealize.ShloMosaic
open Cert.PoolMath

variable (v0 : Vec Ideal S2048x512 .bf16) (v1 : Vec Ideal S16x512 .bf16) (v3 : Vec Ideal S4x128x512 .bf16)

set_option maxRecDepth 16384

/-- The product of the rows with the group's weights, over real blocks. -/
theorem read_pay2 (D : ℕ → Fin 512 → ℝ) (W : Fin 512 → Fin 512 → ℝ) (i : Fin 512)
    (h0 : ∀ (r : Fin 2048) o, v0 (ix2 r o) = (D r.val o : EReal))
    (h3 : ∀ o, v3 (ix3 ⟨i.val / 128, by omega⟩ ⟨i.val % 128, by omega⟩ o) = (W i o : EReal)) (r : Fin 2064) (hr : r.val < 2048) :
    k0_pay2 (F := Ideal) v0 v1 v3 (ix2 r i) = ((∑ o : Fin 512, D r.val o * W i o : ℝ) : EReal) := by
  pointwise [k0_pay2]
  rw [← coe_sum]
  refine Finset.sum_congr rfl fun o _ => ?_
  rw [dif_pos hr, h0, h3, EReal.coe_mul]

/-- One entry before the windows are summed: the quotient by the rows covered where the row is one of the sequence, zero behind it. -/
def cell (P : EReal) (g r : ℕ) : EReal :=
  Scalar.select (IntOp.cmpi CmpIPredicate.slt (IntOp.addi 0#32 (BitVec.ofNat 32 r)) 2048#32)
    (Ideal.div P (FloatOps.sitofp (F := Ideal) FTy.f32
      (IntOp.minsi (IntOp.addi (IntOp.addi 0#32 (BitVec.ofNat 32 r)) 1#32) (Scalar.shli (2#32) (BitVec.ofNat 32 g))))) 0

theorem word_zero_add (r : ℕ) : IntOp.addi 0#32 (BitVec.ofNat 32 r) = BitVec.ofNat 32 r := by
  unfold IntOp.addi; simp

theorem window_word (g : Fin 4) : Scalar.shli (2#32) (BitVec.ofNat 32 g.val) = BitVec.ofNat 32 (2 ^ (g.val + 1)) := by
  revert g; decide

theorem slt_word (r : ℕ) (hr : r < 4096) :
    IntOp.cmpi CmpIPredicate.slt (BitVec.ofNat 32 r) 2048#32 = if r < 2048 then 1#1 else 0#1 := by
  have h1 : (BitVec.ofNat 32 r).toInt = (r : Int) := by
    rw [BitVec.toInt_eq_toNat_of_lt] <;> simp <;> omega
  have h2 : (2048#32 : BitVec 32).toInt = 2048 := by decide
  unfold IntOp.cmpi
  simp only [BitVec.slt, h1, h2]
  by_cases h : r < 2048
  · rw [if_pos h, decide_eq_true (by omega)]; rfl
  · rw [if_neg h, decide_eq_false (by omega)]; rfl

theorem cell_real (p : ℝ) (g : Fin 4) (r : ℕ) (hr : r < 2048) :
    cell (p : EReal) g.val r = ((p / (min (r + 1) (2 ^ (g.val + 1)) : ℕ) : ℝ) : EReal) := by
  have hg : 2 ^ (g.val + 1) ≤ 16 := (Nat.pow_le_pow_right (by omega) (by omega : g.val + 1 ≤ 4)).trans (by norm_num)
  have hp : 0 < 2 ^ (g.val + 1) := Nat.pow_pos (by omega)
  unfold cell
  rw [word_zero_add, window_word, slt_word r (by omega), if_pos hr, count_word r _ (by omega) (by omega), div_nat _ _ (by omega)]
  rfl

theorem cell_pad (P : EReal) (g r : ℕ) (hr : 2048 ≤ r) (hr' : r < 4096) : cell P g r = 0 := by
  unfold cell
  rw [word_zero_add, slt_word r hr', if_neg (by omega)]
  rfl

/-- The word the row positions start from is zero at either sequence. -/
theorem base_word (b : Fin 2) :
    Scalar.muli
      (Scalar.select
        (Scalar.andi
          (Scalar.xori (Scalar.cmpi CmpIPredicate.slt (Scalar.remsi (BitVec.ofNat 32 b.val) 1#32) 0#32)
            (Scalar.cmpi CmpIPredicate.slt 1#32 0#32))
          (Scalar.cmpi CmpIPredicate.ne (Scalar.remsi (BitVec.ofNat 32 b.val) 1#32) 0#32))
        (Scalar.addi (Scalar.remsi (BitVec.ofNat 32 b.val) 1#32) 1#32)
        (Scalar.remsi (BitVec.ofNat 32 b.val) 1#32))
      2048#32 = 0#32 := by
  revert b; decide

/-- The first doubling, before its operands are read. -/
theorem read_pay3 (c : grid0.Coords) (r : Fin 2064) (i : Fin 512) :
    k0_pay3 (F := Ideal) c v0 v1 v3 (ix2 r i)
      = cell (k0_pay2 (F := Ideal) v0 v1 v3 (ix2 r i)) (c 1).val r.val
        + cell (k0_pay2 (F := Ideal) v0 v1 v3 (ix2 ⟨(r.val + 2064 - 2063) % 2064, by omega⟩ i)) (c 1).val ((r.val + 2064 - 2063) % 2064) := by
  have hb := base_word (c 0)
  pointwise [k0_pay3]
  rw [hb]
  rfl

section
variable (c : grid0.Coords) (i : Fin 512) (P Q : ℕ → ℝ)
variable (hP : ∀ r : Fin 2064, r.val < 2048 → k0_pay2 (F := Ideal) v0 v1 v3 (ix2 r i) = (P r.val : EReal))
variable (hQ : ∀ r, r < 2048 → Q r = P r / (min (r + 1) (2 ^ ((c 1).val + 1)) : ℕ)) (hQ' : ∀ r, 2048 ≤ r → Q r = 0)
include hP hQ hQ'

/-- An entry over real blocks. -/
theorem cell_eq (r : Fin 2064) : cell (k0_pay2 (F := Ideal) v0 v1 v3 (ix2 r i)) (c 1).val r.val = (Q r.val : EReal) := by
  by_cases hr : r.val < 2048
  · rw [hP r hr, hQ _ hr]
    exact cell_real (P r.val) (c 1) r.val hr
  · rw [cell_pad _ _ _ (by omega) (by omega), hQ' _ (by omega)]
    rfl

/-- The first doubling over real blocks. -/
theorem real_pay3 (r : Fin 2064) :
    k0_pay3 (F := Ideal) c v0 v1 v3 (ix2 r i) = ((Q r.val + Q ((r.val + 1) % 2064) : ℝ) : EReal) := by
  rw [read_pay3, cell_eq v0 v1 v3 c i P Q hP hQ hQ' r,
    cell_eq v0 v1 v3 c i P Q hP hQ hQ' ⟨(r.val + 2064 - 2063) % 2064, by omega⟩, ← EReal.coe_add]
  show ((Q r.val + Q ((r.val + 2064 - 2063) % 2064) : ℝ) : EReal) = _
  rw [show (r.val + 2064 - 2063) % 2064 = (r.val + 1) % 2064 by omega]

end

set_option maxHeartbeats 2000000 in
/-- The later doublings, over real rows: each branch adds shifted rows, and the row's own cotangent is taken off. -/
theorem read_pay1 (g : BitVec 32) (v6 v36 : FVec Ideal S2064x512 .f32) (v37 : FVec Ideal S2048x512 .f32) (i : Fin 512) (s : ℕ → ℝ)
    (hs : ∀ r : Fin 2064, v36 (ix2 r i) = (s r.val : EReal)) (r : Fin 2048) :
    k0_pay1 (F := Ideal) g v6 v36 v37 (ix2 r i) =
    Scalar.select (Scalar.cmpi CmpIPredicate.sge g 3#32)
        (((s r.val + s (r.val + 2) + (s (r.val + 4) + s (r.val + 6)) + (s (r.val + 8) + s (r.val + 10) + (s (r.val + 12) + s (r.val + 14))) : ℝ) : EReal))
        (Scalar.select (Scalar.cmpi CmpIPredicate.sge g 2#32)
          ((s r.val + s (r.val + 2) + (s (r.val + 4) + s (r.val + 6)) : ℝ) : EReal)
          (Scalar.select (Scalar.cmpi CmpIPredicate.sge g 1#32)
            ((s r.val + s (r.val + 2) : ℝ) : EReal) (v37 (ix2 r i)))) -
      v6 (ix2 ⟨r.val, by omega⟩ i) := by
  have hr := r.isLt
  have e2 : (r.val + 2064 - 2062) % 2064 = r.val + 2 := by omega
  have e4 : (r.val + 2064 - 2060) % 2064 = r.val + 4 := by omega
  have e8 : (r.val + 2064 - 2056) % 2064 = r.val + 8 := by omega
  have e6 : (r.val + 4 + 2064 - 2062) % 2064 = r.val + 6 := by omega
  have e10 : (r.val + 8 + 2064 - 2062) % 2064 = r.val + 10 := by omega
  have e12 : (r.val + 8 + 2064 - 2060) % 2064 = r.val + 12 := by omega
  have e14 : (r.val + 12 + 2064 - 2062) % 2064 = r.val + 14 := by omega
  pointwise [k0_pay1]
  rw [hs, hs, hs, hs, hs, hs, hs, hs]
  simp only [e2, e4, e8, e6, e10, e12, e14, ← EReal.coe_add]

/-- What the point stores, over real blocks: the window's sum of quotients minus the row's own cotangent. -/
theorem real_store (c : grid0.Coords) (i : Fin 512) (P Q : ℕ → ℝ)
    (hP : ∀ r : Fin 2064, r.val < 2048 → k0_pay2 (F := Ideal) v0 v1 v3 (ix2 r i) = (P r.val : EReal))
    (hQ : ∀ r, r < 2048 → Q r = P r / (min (r + 1) (2 ^ ((c 1).val + 1)) : ℕ)) (hQ' : ∀ r, 2048 ≤ r → Q r = 0) (r : Fin 2048) :
    k0_pay1 (F := Ideal) (BitVec.ofNat 32 (c 1).val) (k0_pay2 v0 v1 v3) (k0_pay3 c v0 v1 v3) (k0_pay4 c v0 v1 v3) (ix2 r i)
      = ((∑ j ∈ Finset.range (2 ^ ((c 1).val + 1)), Q (r.val + j) - P r.val : ℝ) : EReal) := by
  have hr := r.isLt
  have h3 := real_pay3 v0 v1 v3 c i P Q hP hQ hQ'
  have h4 : k0_pay4 (F := Ideal) c v0 v1 v3 (ix2 r i) = ((Q r.val + Q (r.val + 1) : ℝ) : EReal) := by
    rw [show Q (r.val + 1) = Q ((r.val + 1) % 2064) by rw [Nat.mod_eq_of_lt (by omega)], ← h3 ⟨r.val, by omega⟩]
    pointwise [k0_pay4]
  rw [read_pay1 _ _ _ _ i (fun n => Q n + Q ((n + 1) % 2064)) h3, h4, hP _ (by exact hr)]
  have m (k : ℕ) (hk : k < 15 := by omega) : (r.val + k + 1) % 2064 = r.val + (k + 1) := by omega
  have m0 : (r.val + 1) % 2064 = r.val + 1 := by omega
  simp only [m0, m 2, m 4, m 6, m 8, m 10, m 12, m 14]
  generalize hg : c 1 = g
  change Fin 4 at g
  match g with
  | ⟨0, _⟩ =>
    show ((Q r.val + Q (r.val + 1) : ℝ) : EReal) - _ = _
    rw [← EReal.coe_sub]
    refine congrArg (fun z : ℝ => (z : EReal)) ?_
    norm_num [Finset.sum_range_succ]
  | ⟨1, _⟩ =>
    show ((Q r.val + Q (r.val + 1) + (Q (r.val + 2) + Q (r.val + 3)) : ℝ) : EReal) - _ = _
    rw [← EReal.coe_sub]
    refine congrArg (fun z : ℝ => (z : EReal)) ?_
    norm_num [Finset.sum_range_succ]
    ring
  | ⟨2, _⟩ =>
    show ((Q r.val + Q (r.val + 1) + (Q (r.val + 2) + Q (r.val + 3)) + (Q (r.val + 4) + Q (r.val + 5) + (Q (r.val + 6) + Q (r.val + 7))) : ℝ) : EReal) - _ = _
    rw [← EReal.coe_sub]
    refine congrArg (fun z : ℝ => (z : EReal)) ?_
    norm_num [Finset.sum_range_succ]
    ring
  | ⟨3, _⟩ =>
    show ((Q r.val + Q (r.val + 1) + (Q (r.val + 2) + Q (r.val + 3)) + (Q (r.val + 4) + Q (r.val + 5) + (Q (r.val + 6) + Q (r.val + 7)))
      + (Q (r.val + 8) + Q (r.val + 9) + (Q (r.val + 10) + Q (r.val + 11)) + (Q (r.val + 12) + Q (r.val + 13) + (Q (r.val + 14) + Q (r.val + 15)))) : ℝ) : EReal) - _ = _
    rw [← EReal.coe_sub]
    refine congrArg (fun z : ℝ => (z : EReal)) ?_
    norm_num [Finset.sum_range_succ]
    ring

/-- What a point leaves in its output block is what it stores. -/
theorem out_eq (c : Dev nD) (i : grid0.Coords) (arg2 : Memref sig .tc .vmem S2048x512 .bf16) (harg2 : arg2.IsWhole) (arg3 : Memref sig .tc .vmem S16x512 .bf16) (harg3 : arg3.IsWhole) (arg4 : Memref sig .tc .vmem S4x128x512 .bf16) (harg4 : arg4.IsWhole) (arg7 : Memref sig .tc .vmem S2048x512 .bf16) (harg7 : arg7.IsWhole) :
    out0_A_3 (F := Ideal) c i arg2 harg2 arg3 harg3 arg4 harg4 arg7 harg7 v0 v1 v3
      = k0_pay1 (F := Ideal) (BitVec.ofNat 32 (i 1).val) (k0_pay2 v0 v1 v3) (k0_pay3 i v0 v1 v3) (k0_pay4 i v0 v1 v3) := by
  have hz : (![0, 0] : Fin 2 → Nat) = fun _ => 0 := by decide
  have hz3 : (![0, 0, 0] : Fin 3 → Nat) = fun _ => 0 := by decide
  unfold out0_A_3
  rw [View.read_writes_eq_canon _ _ _ (cover0_A_3 c i arg2 harg2 arg3 harg3 arg4 harg4 arg7 harg7 v0 v1 v3)]
  unfold kernelRun0_A
  dsimp only
  rw [View.canon_unit_zero hz]
  unfold kernelRun0_A.sl.r kernelRun0_A.sl.r_1 kernelRun0_A.sl.r_2
  simp only [View.readAt_eq_ld, harg2.read_unread, harg3.read_unread, harg4.read_unread, View.ld_unit_zero (S := S2048x512) hz, View.ld_unit_zero (S := S16x512) hz, View.ld_unit_zero (S := S4x128x512) hz3, shapeCast_self]

end Cert.PoolBlock

end
-- ==== Proof.PoolArray.lean ====
/- The pooling kernel's result array: every block at its grid point, the lanes no block covers at the aliased argument. -/
module

public import proofs.«01_k».proof.Proof.PoolBlock

@[expose] public section

noncomputable section

namespace Cert.PoolArray

open Cert.KernelIdeal Cert.KernelIdeal.Gen Idealize.ShloMosaic Idealize.ShloMosaic.Pipeline
open Cert.PoolMath Cert.PoolBlock

set_option maxRecDepth 16384

variable (m : (ℓ : Loc nD τ sig) → Buf (Elt Ideal) ℓ)

/-- The launch contents of the cotangent, the group weights and the aliased array. -/
abbrev arg0 (c : Dev nD) : FVec Ideal S4096x2048 .bf16 := m (c.tc.loc main_arg0)
abbrev arg1 (c : Dev nD) : FVec Ideal S4x512x512 .bf16 := m (c.tc.loc main_arg1)
abbrev arg2 (c : Dev nD) : FVec Ideal S4096x4096 .bf16 := m (c.tc.loc main_arg2)

/-- The gradient on the first 2048 lanes, the aliased array on the others. -/
def target (d : Fin 4096 → Fin 2048 → ℝ) (w : Fin 4 → Fin 512 → Fin 512 → ℝ) (x : FVec Ideal S4096x4096 .bf16) :
    FVec Ideal S4096x4096 .bf16 := fun i =>
  if h : (i 1).val < 2048 then
    ((grad d w ⟨(i 0).val / 2048, by have : (i 0).val < 4096 := (i 0).isLt; omega⟩ ⟨(i 1).val / 512, by omega⟩
      ⟨(i 1).val % 512, by omega⟩ ((i 0).val % 2048) : ℝ) : EReal)
  else x i

theorem coords0 : ∀ t : Fin grid0.N, (grid0.coords t 0).val = t.val / 4 ∧ (grid0.coords t 1).val = t.val % 4 := by decide +kernel

theorem idx0 : ∀ t : Fin grid0.N, win0_0.index t 0 = t.val / 4 ∧ win0_0.index t 1 = t.val % 4 := by decide +kernel
theorem idx2 : ∀ t : Fin grid0.N, win0_2.index t 0 = 0 ∧ win0_2.index t 1 = t.val % 4 ∧ win0_2.index t 2 = 0 := by decide +kernel
theorem idx3 : ∀ t : Fin grid0.N, win0_3.index t 0 = t.val / 4 ∧ win0_3.index t 1 = t.val % 4 := by decide +kernel
theorem xsz3 : ∀ t : Fin grid0.N, win0_3.xsize (grid0.coords t) 0 = 2048 ∧ win0_3.xsize (grid0.coords t) 1 = 512 := by decide +kernel

theorem lt8 (t : Fin grid0.N) : t.val < 8 := t.isLt

/-- The cotangent's block at a point. -/
theorem iblk0 (c : Dev nD) (t : Fin grid0.N) (r : Fin 2048) (o : Fin 512) :
    iblk m c 0 t (ix2 r o) = arg0 m c (ix2 ⟨t.val / 4 * 2048 + r.val, by have := lt8 t; omega⟩ ⟨t.val % 4 * 512 + o.val, by omega⟩) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2048 + 1 * r.val = t.val / 4 * 2048 + r.val; rw [hi.1]; omega
  | ⟨1, _⟩ => show win0_0.index t 1 * 512 + 1 * o.val = t.val % 4 * 512 + o.val; rw [hi.2]; omega

/-- The weights as the launch passes them: the rows regrouped so that a block holds one group. -/
theorem weights (c : Dev nD) (a : Fin 4) (x : Fin 512) (o : Fin 512) :
    V m c main_v2 (ix3 a x o) = arg1 m c (ix3 ⟨x.val / 128, by omega⟩ ⟨a.val * 128 + x.val % 128, by omega⟩ o) := by
  have h : V m c main_v2 = shapeCast S4x512x512 (transpose S4x4x128x512 [1, 0, 2, 3] (shapeCast S4x4x128x512 (arg1 m c) shapeCasts_S4x512x512_S4x4x128x512) transposes_S4x4x128x512_S4x4x128x512_1_0_2_3) shapeCasts_S4x4x128x512_S4x512x512 := by
    unfold V; after_results; rfl
  rw [h]
  pointwise []

/-- The weights' block at a point. -/
theorem iblk2 (c : Dev nD) (t : Fin grid0.N) (a : Fin 4) (e : Fin 128) (o : Fin 512) :
    iblk m c 2 t (ix3 a e o) = arg1 m c (ix3 ⟨t.val % 4, by omega⟩ ⟨a.val * 128 + e.val, by omega⟩ o) := by
  have hi := idx2 t
  unfold iblk
  rw [View.read_apply]
  show V m c main_v2 _ = _
  have he : ∀ i : S4x512x512.Idx, i = ix3 a ⟨t.val % 4 * 128 + e.val, by omega⟩ o → V m c main_v2 i = arg1 m c (ix3 ⟨t.val % 4, by omega⟩ ⟨a.val * 128 + e.val, by omega⟩ o) := by
    rintro i rfl
    rw [weights]
    refine congrArg (arg1 m c) ?_
    funext k
    apply Fin.ext
    match k with
    | ⟨0, _⟩ => show (t.val % 4 * 128 + e.val) / 128 = t.val % 4; omega
    | ⟨1, _⟩ => show a.val * 128 + (t.val % 4 * 128 + e.val) % 128 = a.val * 128 + e.val; omega
    | ⟨2, _⟩ => rfl
  apply he
  funext k
  apply Fin.ext
  match k with
  | ⟨0, _⟩ => show win0_2.index t 0 * 4 + 1 * a.val = a.val; rw [hi.1]; omega
  | ⟨1, _⟩ => show win0_2.index t 1 * 128 + 1 * e.val = t.val % 4 * 128 + e.val; rw [hi.2.1]; omega
  | ⟨2, _⟩ => show win0_2.index t 2 * 512 + 1 * o.val = o.val; rw [hi.2.2]; omega

/-- What a point stores, at real arguments. -/
theorem store (c : Dev nD) (d : Fin 4096 → Fin 2048 → ℝ) (w : Fin 4 → Fin 512 → Fin 512 → ℝ)
    (h0 : ∀ t k, arg0 m c (ix2 t k) = (d t k : EReal)) (h1 : ∀ g i o, arg1 m c (ix3 g i o) = (w g i o : EReal))
    (t : Fin grid0.N) (r : Fin 2048) (i : Fin 512) :
    out0_A_3 c (grid0.coords t) (ms0_0 t) (hs0_0 t) (ms0_1 t) (hs0_1 t) (ms0_2 t) (hs0_2 t) (ms0_3 t) (hs0_3 t) (iblk m c 0 t) (iblk m c 1 t) (iblk m c 2 t) (ix2 r i)
      = ((grad d w ⟨t.val / 4, by have := lt8 t; omega⟩ ⟨t.val % 4, by omega⟩ i r.val : ℝ) : EReal) := by
  have ht := lt8 t
  have hg := (coords0 t).2
  rw [out_eq]
  have hP := read_pay2 (iblk m c 0 t) (iblk m c 1 t) (iblk m c 2 t)
    (fun r o => if hr : r < 2048 then d ⟨t.val / 4 * 2048 + r, by omega⟩ ⟨t.val % 4 * 512 + o.val, by omega⟩ else 0)
    (fun i o => w ⟨t.val % 4, by omega⟩ i o) i
    (fun r o => by rw [iblk0, h0, dif_pos r.isLt])
    (fun o => by
      rw [iblk2, h1]
      refine congrArg (fun z => ((w ⟨t.val % 4, by omega⟩ z o : ℝ) : EReal)) (Fin.ext ?_)
      show i.val / 128 * 128 + i.val % 128 = i.val; omega)
  refine (real_store _ _ _ (grid0.coords t) i (dp d w ⟨t.val / 4, by omega⟩ ⟨t.val % 4, by omega⟩ i) (quot d w ⟨t.val / 4, by omega⟩ ⟨t.val % 4, by omega⟩ i)
    (fun r hr => (hP r hr).trans ?_) (fun r hr => ?_) (fun r hr => quot_zero _ _ _ _ _ _ hr) r).trans ?_
  · unfold dp
    rw [dif_pos hr]
    simp only [dif_pos hr]
  · rw [hg]; rfl
  · rw [hg]; rfl

/-- Where a point's block lies in the result. -/
theorem mem_blk (t : Fin grid0.N) (i : S4096x4096.Idx) :
    i ∈ ((cfg0.win 3).blk t).view.set ↔ (t.val / 4 * 2048 ≤ (i 0).val ∧ (i 0).val < t.val / 4 * 2048 + 2048) ∧ (t.val % 4 * 512 ≤ (i 1).val ∧ (i 1).val < t.val % 4 * 512 + 512) := by
  show i ∈ ((View.whole main_v3).slice (win0_3.rect t)).set ↔ _
  rw [View.set_slice_whole, Rect.mem_set_unit]
  have e := idx3 t
  have x := xsz3 t
  refine ⟨fun h => ⟨?_, ?_⟩, fun h a => ?_⟩
  · have : win0_3.index t 0 * 2048 ≤ (i 0).val ∧ (i 0).val < win0_3.index t 0 * 2048 + win0_3.xsize (grid0.coords t) 0 := h 0
    rwa [e.1, x.1] at this
  · have : win0_3.index t 1 * 512 ≤ (i 1).val ∧ (i 1).val < win0_3.index t 1 * 512 + win0_3.xsize (grid0.coords t) 1 := h 1
    rwa [e.2, x.2] at this
  · match a with
    | ⟨0, _⟩ =>
      show win0_3.index t 0 * 2048 ≤ (i 0).val ∧ (i 0).val < win0_3.index t 0 * 2048 + win0_3.xsize (grid0.coords t) 0
      rw [e.1, x.1]; exact h.1
    | ⟨1, _⟩ =>
      show win0_3.index t 1 * 512 ≤ (i 1).val ∧ (i 1).val < win0_3.index t 1 * 512 + win0_3.xsize (grid0.coords t) 1
      rw [e.2, x.2]; exact h.2

/-- The result array after the run. -/
theorem final (c : Dev nD) (d : Fin 4096 → Fin 2048 → ℝ) (w : Fin 4 → Fin 512 → Fin 512 → ℝ)
    (h0 : ∀ t k, arg0 m c (ix2 t k) = (d t k : EReal)) (h1 : ∀ g i o, arg1 m c (ix3 g i o) = (w g i o : EReal)) :
    (dats m 0 c).arrAt 3 cfg0.N = target d w (arg2 m c) := by
  funext i
  rw [(dats m 0 c).arrAt_eq_piecewise 3 (target d w (arg2 m c)) (fun t _ => ?_) i]
  · change S4096x4096.Idx at i
    have hr : (i 0).val < 4096 := (i 0).isLt
    have hc : (i 1).val < 4096 := (i 1).isLt
    by_cases h : (i 1).val < 2048
    · refine if_pos ⟨(⟨(i 0).val / 2048 * 4 + (i 1).val / 512, by show _ < 8; omega⟩ : Fin grid0.N), Gen.flush0_3 _, ?_⟩
      rw [mem_blk]
      dsimp only
      omega
    · rw [if_neg]
      · unfold target
        rw [dif_neg h]
        rfl
      · rintro ⟨t, -, ht⟩
        rw [mem_blk] at ht
        omega
  · funext j
    rw [View.read_apply, Value.flushed3_A]
    change S2048x512.Idx at j
    have e := idx3 t
    have ht := lt8 t
    have h0' : (j 0).val < 2048 := (j 0).isLt
    have h1' : (j 1).val < 512 := (j 1).isLt
    have hj : j = ix2 (j 0) (j 1) := by
      funext a; match a with
      | ⟨0, _⟩ => rfl
      | ⟨1, _⟩ => rfl
    refine (Eq.trans ?_ (store m c d w h0 h1 t (j 0) (j 1))).trans ?_
    · exact congrArg (out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t)) hj
    have he : ∀ i : S4096x4096.Idx, (i 0).val = t.val / 4 * 2048 + (j 0).val → (i 1).val = t.val % 4 * 512 + (j 1).val →
        ((grad d w ⟨t.val / 4, by omega⟩ ⟨t.val % 4, by omega⟩ (j 1) (j 0).val : ℝ) : EReal) = target d w (arg2 m c) i := by
      intro i a0 a1
      unfold target
      rw [dif_pos (by omega)]
      have b0 : (i 0).val / 2048 = t.val / 4 := by omega
      have b1 : (i 1).val / 512 = t.val % 4 := by omega
      have b2 : (i 1).val % 512 = (j 1).val := by omega
      have b3 : (i 0).val % 2048 = (j 0).val := by omega
      simp only [b0, b1, b2, b3]
      rfl
    apply he
    · show win0_3.index t 0 * 2048 + 1 * (j 0).val = _; rw [e.1]; omega
    · show win0_3.index t 1 * 512 + 1 * (j 1).val = _; rw [e.2]; omega

end Cert.PoolArray

end
-- ==== Proof.PoolRef.lean ====
/- The pooling reference read at an index, over real arguments. -/
module

public import proofs.«01_k».proof.Proof.Gen.ReferenceIdeal.Read
public import proofs.«01_k».proof.Proof.PoolMath

@[expose] public section

noncomputable section

namespace Cert.PoolRef

open Cert.ReferenceIdeal Cert.ReferenceIdeal.Gen Cert.ReferenceIdeal.Read Idealize.ShloMosaic
open Cert.PoolMath

variable (x0 : FVec Ideal S4096x2048 .bf16) (x1 : FVec Ideal S4x512x512 .bf16)
variable (d : Fin 4096 → Fin 2048 → ℝ) (w : Fin 4 → Fin 512 → Fin 512 → ℝ)

set_option maxRecDepth 16384

/-- The product of the cotangent with the transposed group weights. -/
theorem read_v92 (b : Fin 2) (r : Fin 2048) (g : Fin 4) (i : Fin 512) :
    val_main_v92 (F := Ideal) x0 x1 (ix4 b r g i)
      = ∑ o : Fin 512, x0 (ix2 ⟨b.val * 2048 + r.val, by omega⟩ ⟨g.val * 512 + o.val, by omega⟩) * x1 (ix3 g i o) := by
  pointwise [val_main_v92, val_main_v91, val_main_v90, val_main_v89, val_main_v2, val_main_v1, val_main_v0]

/-- … over real arguments. -/
theorem real_v92 (h0 : ∀ t c, x0 (ix2 t c) = (d t c : EReal)) (h1 : ∀ g i o, x1 (ix3 g i o) = (w g i o : EReal))
    (b : Fin 2) (r : Fin 2048) (g : Fin 4) (i : Fin 512) :
    val_main_v92 (F := Ideal) x0 x1 (ix4 b r g i) = (dp d w b g i r.val : EReal) := by
  rw [read_v92, dp, dif_pos r.isLt, ← coe_sum]
  exact Finset.sum_congr rfl fun o _ => by rw [h0, h1, EReal.coe_mul]

/-- Group 0: the number of rows its window of 2 covers. -/
theorem count0 (b : Fin 2) (r : Fin 2048) (i : Fin 512) :
    val_main_v140 (F := Ideal) (ix3 b r i) = (((min (r.val + 1) 2 : ℕ) : ℝ) : EReal) := by
  pointwise [val_main_v140, val_main_v20, val_main_v18, val_main_v17, val_main_v16, val_main_v15, val_main_v14, val_main_v13, val_main_c, val_main_c_2]
  exact count_word r.val 2 (by omega) (by omega)

/-- Group 0: its gradient. -/
theorem grad0 (h0 : ∀ t c, x0 (ix2 t c) = (d t c : EReal)) (h1 : ∀ g i o, x1 (ix3 g i o) = (w g i o : EReal))
    (b : Fin 2) (r : Fin 2048) (i : Fin 512) :
    val_main_v148 (F := Ideal) x0 x1 (ix3 b r i) = (grad d w b 0 i r.val : EReal) := by
  have hd : ∀ k : Fin 2048, val_main_v94 (F := Ideal) x0 x1 (ix3 b k i) = (dp d w b 0 i k.val : EReal) := fun k => by
    rw [← real_v92 x0 x1 d w h0 h1]
    pointwise [val_main_v94, val_main_v93]
  have hq : ∀ k : Fin 2048, val_main_v141 (F := Ideal) x0 x1 (ix3 b k i) = (quot d w b 0 i k.val : EReal) := fun k => by
    show Ideal.div (val_main_v94 (F := Ideal) x0 x1 (ix3 b k i)) (val_main_v140 (F := Ideal) (ix3 b k i)) = _
    rw [hd, count0, div_nat _ _ (by omega)]
    rfl
  have ha : ∀ k : Fin 2048, val_main_v146 (F := Ideal) x0 x1 (ix3 b k i)
      = ((quot d w b 0 i k.val - quot d w b 0 i (k.val + 2) : ℝ) : EReal) := fun k => by
    pointwise [val_main_v146, val_main_v145, val_main_v144, val_main_v142, val_main_cst_21]
    rw [hq]
    split
    · rw [hq, ← EReal.coe_neg, ← EReal.coe_add, sub_eq_add_neg]
      exact congrArg (fun n : ℕ => ((quot d w b 0 i k.val + -quot d w b 0 i n : ℝ) : EReal)) (Nat.add_comm 2 k.val)
    · rw [quot_zero d w b 0 i (k.val + 2) (by omega), sub_zero, add_zero]
  have hr : val_main_v147 (F := Ideal) x0 x1 (ix3 b r i)
      = ((∑ j ∈ Finset.range 2, quot d w b 0 i (r.val + j) : ℝ) : EReal) := by
    unfold val_main_v147
    refine (suffix_sum _ _ (fun k => ?_) _ _ b r i (fun k => quot d w b 0 i k - quot d w b 0 i (k + 2)) ha fun k hk => ?_).trans ?_
    · pointwise [val_main_call7_call0_v0, val_main_call7_call0_cst]
    · show quot d w b 0 i k - quot d w b 0 i (k + 2) = 0
      rw [quot_zero d w b 0 i k hk, quot_zero d w b 0 i (k + 2) (by omega), sub_zero]
    · exact congrArg (fun z : ℝ => (z : EReal)) (telescope (quot d w b 0 i) 2048 2 r.val fun k hk => quot_zero d w b 0 i k hk)
  show (-(val_main_v94 (F := Ideal) x0 x1 (ix3 b r i)) : EReal) + val_main_v147 (F := Ideal) x0 x1 (ix3 b r i) = _
  rw [hd, hr, ← EReal.coe_neg, ← EReal.coe_add]
  refine congrArg (fun z : ℝ => (z : EReal)) ?_
  rw [add_comm, ← sub_eq_add_neg]
  rfl

/-- Group 1: the number of rows its window of 4 covers. -/
theorem count1 (b : Fin 2) (r : Fin 2048) (i : Fin 512) :
    val_main_v127 (F := Ideal) (ix3 b r i) = (((min (r.val + 1) 4 : ℕ) : ℝ) : EReal) := by
  pointwise [val_main_v127, val_main_v39, val_main_v37, val_main_v36, val_main_v35, val_main_v34, val_main_v33, val_main_v32, val_main_c_5, val_main_c_6]
  exact count_word r.val 4 (by omega) (by omega)

/-- Group 1: its gradient. -/
theorem grad1 (h0 : ∀ t c, x0 (ix2 t c) = (d t c : EReal)) (h1 : ∀ g i o, x1 (ix3 g i o) = (w g i o : EReal))
    (b : Fin 2) (r : Fin 2048) (i : Fin 512) :
    val_main_v135 (F := Ideal) x0 x1 (ix3 b r i) = (grad d w b 1 i r.val : EReal) := by
  have hd : ∀ k : Fin 2048, val_main_v96 (F := Ideal) x0 x1 (ix3 b k i) = (dp d w b 1 i k.val : EReal) := fun k => by
    rw [← real_v92 x0 x1 d w h0 h1]
    pointwise [val_main_v96, val_main_v95]
  have hq : ∀ k : Fin 2048, val_main_v128 (F := Ideal) x0 x1 (ix3 b k i) = (quot d w b 1 i k.val : EReal) := fun k => by
    show Ideal.div (val_main_v96 (F := Ideal) x0 x1 (ix3 b k i)) (val_main_v127 (F := Ideal) (ix3 b k i)) = _
    rw [hd, count1, div_nat _ _ (by omega)]
    rfl
  have ha : ∀ k : Fin 2048, val_main_v133 (F := Ideal) x0 x1 (ix3 b k i)
      = ((quot d w b 1 i k.val - quot d w b 1 i (k.val + 4) : ℝ) : EReal) := fun k => by
    pointwise [val_main_v133, val_main_v132, val_main_v131, val_main_v129, val_main_cst_19]
    rw [hq]
    split
    · rw [hq, ← EReal.coe_neg, ← EReal.coe_add, sub_eq_add_neg]
      exact congrArg (fun n : ℕ => ((quot d w b 1 i k.val + -quot d w b 1 i n : ℝ) : EReal)) (Nat.add_comm 4 k.val)
    · rw [quot_zero d w b 1 i (k.val + 4) (by omega), sub_zero, add_zero]
  have hr : val_main_v134 (F := Ideal) x0 x1 (ix3 b r i)
      = ((∑ j ∈ Finset.range 4, quot d w b 1 i (r.val + j) : ℝ) : EReal) := by
    unfold val_main_v134
    refine (suffix_sum _ _ (fun k => ?_) _ _ b r i (fun k => quot d w b 1 i k - quot d w b 1 i (k + 4)) ha fun k hk => ?_).trans ?_
    · pointwise [val_main_call6_call0_v0, val_main_call6_call0_cst]
    · show quot d w b 1 i k - quot d w b 1 i (k + 4) = 0
      rw [quot_zero d w b 1 i k hk, quot_zero d w b 1 i (k + 4) (by omega), sub_zero]
    · exact congrArg (fun z : ℝ => (z : EReal)) (telescope (quot d w b 1 i) 2048 4 r.val fun k hk => quot_zero d w b 1 i k hk)
  show (-(val_main_v96 (F := Ideal) x0 x1 (ix3 b r i)) : EReal) + val_main_v134 (F := Ideal) x0 x1 (ix3 b r i) = _
  rw [hd, hr, ← EReal.coe_neg, ← EReal.coe_add]
  refine congrArg (fun z : ℝ => (z : EReal)) ?_
  rw [add_comm, ← sub_eq_add_neg]
  rfl

/-- Group 2: the number of rows its window of 8 covers. -/
theorem count2 (b : Fin 2) (r : Fin 2048) (i : Fin 512) :
    val_main_v114 (F := Ideal) (ix3 b r i) = (((min (r.val + 1) 8 : ℕ) : ℝ) : EReal) := by
  pointwise [val_main_v114, val_main_v58, val_main_v56, val_main_v55, val_main_v54, val_main_v53, val_main_v52, val_main_v51, val_main_c_10, val_main_c_9]
  exact count_word r.val 8 (by omega) (by omega)

/-- Group 2: its gradient. -/
theorem grad2 (h0 : ∀ t c, x0 (ix2 t c) = (d t c : EReal)) (h1 : ∀ g i o, x1 (ix3 g i o) = (w g i o : EReal))
    (b : Fin 2) (r : Fin 2048) (i : Fin 512) :
    val_main_v122 (F := Ideal) x0 x1 (ix3 b r i) = (grad d w b 2 i r.val : EReal) := by
  have hd : ∀ k : Fin 2048, val_main_v98 (F := Ideal) x0 x1 (ix3 b k i) = (dp d w b 2 i k.val : EReal) := fun k => by
    rw [← real_v92 x0 x1 d w h0 h1]
    pointwise [val_main_v98, val_main_v97]
  have hq : ∀ k : Fin 2048, val_main_v115 (F := Ideal) x0 x1 (ix3 b k i) = (quot d w b 2 i k.val : EReal) := fun k => by
    show Ideal.div (val_main_v98 (F := Ideal) x0 x1 (ix3 b k i)) (val_main_v114 (F := Ideal) (ix3 b k i)) = _
    rw [hd, count2, div_nat _ _ (by omega)]
    rfl
  have ha : ∀ k : Fin 2048, val_main_v120 (F := Ideal) x0 x1 (ix3 b k i)
      = ((quot d w b 2 i k.val - quot d w b 2 i (k.val + 8) : ℝ) : EReal) := fun k => by
    pointwise [val_main_v120, val_main_v119, val_main_v118, val_main_v116, val_main_cst_17]
    rw [hq]
    split
    · rw [hq, ← EReal.coe_neg, ← EReal.coe_add, sub_eq_add_neg]
      exact congrArg (fun n : ℕ => ((quot d w b 2 i k.val + -quot d w b 2 i n : ℝ) : EReal)) (Nat.add_comm 8 k.val)
    · rw [quot_zero d w b 2 i (k.val + 8) (by omega), sub_zero, add_zero]
  have hr : val_main_v121 (F := Ideal) x0 x1 (ix3 b r i)
      = ((∑ j ∈ Finset.range 8, quot d w b 2 i (r.val + j) : ℝ) : EReal) := by
    unfold val_main_v121
    refine (suffix_sum _ _ (fun k => ?_) _ _ b r i (fun k => quot d w b 2 i k - quot d w b 2 i (k + 8)) ha fun k hk => ?_).trans ?_
    · pointwise [val_main_call5_call0_v0, val_main_call5_call0_cst]
    · show quot d w b 2 i k - quot d w b 2 i (k + 8) = 0
      rw [quot_zero d w b 2 i k hk, quot_zero d w b 2 i (k + 8) (by omega), sub_zero]
    · exact congrArg (fun z : ℝ => (z : EReal)) (telescope (quot d w b 2 i) 2048 8 r.val fun k hk => quot_zero d w b 2 i k hk)
  show (-(val_main_v98 (F := Ideal) x0 x1 (ix3 b r i)) : EReal) + val_main_v121 (F := Ideal) x0 x1 (ix3 b r i) = _
  rw [hd, hr, ← EReal.coe_neg, ← EReal.coe_add]
  refine congrArg (fun z : ℝ => (z : EReal)) ?_
  rw [add_comm, ← sub_eq_add_neg]
  rfl

/-- Group 3: the number of rows its window of 16 covers. -/
theorem count3 (b : Fin 2) (r : Fin 2048) (i : Fin 512) :
    val_main_v102 (F := Ideal) (ix3 b r i) = (((min (r.val + 1) 16 : ℕ) : ℝ) : EReal) := by
  pointwise [val_main_v102, val_main_v77, val_main_v75, val_main_v74, val_main_v73, val_main_v72, val_main_v71, val_main_v70, val_main_c_13, val_main_c_14]
  exact count_word r.val 16 (by omega) (by omega)

/-- Group 3: its gradient. -/
theorem grad3 (h0 : ∀ t c, x0 (ix2 t c) = (d t c : EReal)) (h1 : ∀ g i o, x1 (ix3 g i o) = (w g i o : EReal))
    (b : Fin 2) (r : Fin 2048) (i : Fin 512) :
    val_main_v110 (F := Ideal) x0 x1 (ix3 b r i) = (grad d w b 3 i r.val : EReal) := by
  have hd : ∀ k : Fin 2048, val_main_v100 (F := Ideal) x0 x1 (ix3 b k i) = (dp d w b 3 i k.val : EReal) := fun k => by
    rw [← real_v92 x0 x1 d w h0 h1]
    pointwise [val_main_v100, val_main_v99]
  have hq : ∀ k : Fin 2048, val_main_v103 (F := Ideal) x0 x1 (ix3 b k i) = (quot d w b 3 i k.val : EReal) := fun k => by
    show Ideal.div (val_main_v100 (F := Ideal) x0 x1 (ix3 b k i)) (val_main_v102 (F := Ideal) (ix3 b k i)) = _
    rw [hd, count3, div_nat _ _ (by omega)]
    rfl
  have ha : ∀ k : Fin 2048, val_main_v108 (F := Ideal) x0 x1 (ix3 b k i)
      = ((quot d w b 3 i k.val - quot d w b 3 i (k.val + 16) : ℝ) : EReal) := fun k => by
    pointwise [val_main_v108, val_main_v107, val_main_v106, val_main_v104, val_main_cst_15]
    rw [hq]
    split
    · rw [hq, ← EReal.coe_neg, ← EReal.coe_add, sub_eq_add_neg]
      exact congrArg (fun n : ℕ => ((quot d w b 3 i k.val + -quot d w b 3 i n : ℝ) : EReal)) (Nat.add_comm 16 k.val)
    · rw [quot_zero d w b 3 i (k.val + 16) (by omega), sub_zero, add_zero]
  have hr : val_main_v109 (F := Ideal) x0 x1 (ix3 b r i)
      = ((∑ j ∈ Finset.range 16, quot d w b 3 i (r.val + j) : ℝ) : EReal) := by
    unfold val_main_v109
    refine (suffix_sum _ _ (fun k => ?_) _ _ b r i (fun k => quot d w b 3 i k - quot d w b 3 i (k + 16)) ha fun k hk => ?_).trans ?_
    · pointwise [val_main_call4_call0_v0, val_main_call4_call0_cst]
    · show quot d w b 3 i k - quot d w b 3 i (k + 16) = 0
      rw [quot_zero d w b 3 i k hk, quot_zero d w b 3 i (k + 16) (by omega), sub_zero]
    · exact congrArg (fun z : ℝ => (z : EReal)) (telescope (quot d w b 3 i) 2048 16 r.val fun k hk => quot_zero d w b 3 i k hk)
  show (-(val_main_v100 (F := Ideal) x0 x1 (ix3 b r i)) : EReal) + val_main_v109 (F := Ideal) x0 x1 (ix3 b r i) = _
  rw [hd, hr, ← EReal.coe_neg, ← EReal.coe_add]
  refine congrArg (fun z : ℝ => (z : EReal)) ?_
  rw [add_comm, ← sub_eq_add_neg]
  rfl

end Cert.PoolRef

end
-- ==== Proof.PoolRefRows.lean ====
/- The pooling reference's gradient as a matrix of rows by channels, over real arguments. -/
module

public import proofs.«01_k».proof.Proof.PoolRef

@[expose] public section

noncomputable section

namespace Cert.PoolRef

open Cert.ReferenceIdeal Cert.ReferenceIdeal.Gen Cert.ReferenceIdeal.Read Idealize.ShloMosaic
open Cert.PoolMath

variable (x0 : FVec Ideal S4096x2048 .bf16) (x1 : FVec Ideal S4x512x512 .bf16)
variable (d : Fin 4096 → Fin 2048 → ℝ) (w : Fin 4 → Fin 512 → Fin 512 → ℝ)

set_option maxRecDepth 16384

/-- One group's gradient set among the four: its own at its group, zero elsewhere. -/
theorem read_v112 (b : Fin 2) (r : Fin 2048) (g : Fin 4) (i : Fin 512) :
    val_main_v112 (F := Ideal) x0 x1 (ix4 b r g i) = if g.val = 3 then val_main_v110 (F := Ideal) x0 x1 (ix3 b r i) else 0 := by
  pointwise [val_main_v112, val_main_v111, val_main_cst_16]
  by_cases h : g.val = 3
  · rw [dif_pos (by omega), if_pos h]
  · rw [dif_neg (by omega), if_neg h]

theorem read_v124 (b : Fin 2) (r : Fin 2048) (g : Fin 4) (i : Fin 512) :
    val_main_v124 (F := Ideal) x0 x1 (ix4 b r g i) = if g.val = 2 then val_main_v122 (F := Ideal) x0 x1 (ix3 b r i) else 0 := by
  pointwise [val_main_v124, val_main_v123, val_main_cst_18]
  by_cases h : g.val = 2
  · rw [dif_pos (by omega), if_pos h]
  · rw [dif_neg (by omega), if_neg h]

theorem read_v137 (b : Fin 2) (r : Fin 2048) (g : Fin 4) (i : Fin 512) :
    val_main_v137 (F := Ideal) x0 x1 (ix4 b r g i) = if g.val = 1 then val_main_v135 (F := Ideal) x0 x1 (ix3 b r i) else 0 := by
  pointwise [val_main_v137, val_main_v136, val_main_cst_20]
  by_cases h : g.val = 1
  · rw [dif_pos (by omega), if_pos h]
  · rw [dif_neg (by omega), if_neg h]

theorem read_v150 (b : Fin 2) (r : Fin 2048) (g : Fin 4) (i : Fin 512) :
    val_main_v150 (F := Ideal) x0 x1 (ix4 b r g i) = if g.val = 0 then val_main_v148 (F := Ideal) x0 x1 (ix3 b r i) else 0 := by
  pointwise [val_main_v150, val_main_v149, val_main_cst_22]
  by_cases h : g.val = 0
  · rw [dif_pos (by omega), if_pos h]
  · rw [dif_neg (by omega), if_neg h]

/-- The sum of the four is, at each group, that group's gradient. -/
theorem real_v151 (h0 : ∀ t c, x0 (ix2 t c) = (d t c : EReal)) (h1 : ∀ g i o, x1 (ix3 g i o) = (w g i o : EReal))
    (b : Fin 2) (r : Fin 2048) (g : Fin 4) (i : Fin 512) :
    val_main_v151 (F := Ideal) x0 x1 (ix4 b r g i) = (grad d w b g i r.val : EReal) := by
  show ((val_main_v112 (F := Ideal) x0 x1 (ix4 b r g i) + val_main_v124 (F := Ideal) x0 x1 (ix4 b r g i))
    + val_main_v137 (F := Ideal) x0 x1 (ix4 b r g i)) + val_main_v150 (F := Ideal) x0 x1 (ix4 b r g i) = _
  rw [read_v112, read_v124, read_v137, read_v150, grad0 x0 x1 d w h0 h1, grad1 x0 x1 d w h0 h1, grad2 x0 x1 d w h0 h1, grad3 x0 x1 d w h0 h1]
  match g with
  | ⟨0, _⟩ => simp
  | ⟨1, _⟩ => simp
  | ⟨2, _⟩ => simp
  | ⟨3, _⟩ => simp

/-- The gradient as a matrix of rows by channels. -/
theorem real_v153 (h0 : ∀ t c, x0 (ix2 t c) = (d t c : EReal)) (h1 : ∀ g i o, x1 (ix3 g i o) = (w g i o : EReal))
    (t : Fin 4096) (c : Fin 2048) :
    val_main_v153 (F := Ideal) x0 x1 (ix2 t c)
      = (grad d w ⟨t.val / 2048, by omega⟩ ⟨c.val / 512, by omega⟩ ⟨c.val % 512, by omega⟩ (t.val % 2048) : EReal) := by
  refine Eq.trans ?_ (real_v151 x0 x1 d w h0 h1 ⟨t.val / 2048, by omega⟩ ⟨t.val % 2048, by omega⟩ ⟨c.val / 512, by omega⟩ ⟨c.val % 512, by omega⟩)
  pointwise [val_main_v153, val_main_v152]

end Cert.PoolRef

end
-- ==== Proof.PoolClaim.lean ====
/- The pooling gradient: the kernel and the reference end at the same array. -/
module

public import proofs.«01_k».proof.Defs
public import proofs.«01_k».proof.Proof.Finite
public import proofs.«01_k».proof.Proof.PoolArray
public import proofs.«01_k».proof.Proof.PoolRefRows
public import proofs.«01_k».proof.Proof.Gen.Pre_pool_finite

@[expose] public section

noncomputable section

namespace Cert.PoolClaim

open Idealize.ShloMosaic Idealize.SL.Sem Idealize.ShloMosaic.StableHlo
open Cert.PoolMath

set_option maxRecDepth 16384

section
open Cert.ReferenceIdeal Cert.ReferenceIdeal.Gen Cert.ReferenceIdeal.Read

/-- The last concatenation: the gradient's lanes, then the other lanes of the aliased array. -/
theorem read_v156 (x0 : FVec Ideal S4096x2048 .bf16) (x1 : FVec Ideal S4x512x512 .bf16) (x2 : FVec Ideal S4096x4096 .bf16)
    (t : Fin 4096) (k : Fin 4096) :
    val_main_v156 (F := Ideal) x0 x1 x2 (ix2 t k)
      = if h : k.val < 2048 then val_main_v153 (F := Ideal) x0 x1 (ix2 t ⟨k.val, h⟩) else x2 (ix2 t k) := by
  pointwise [val_main_v156, val_main_v154, val_main_v155]
  refine dite_congr rfl (fun h => rfl) fun h => ?_
  exact congrArg (fun n : Fin 4096 => x2 (ix2 t n)) (Fin.ext (by show 2048 + (k.val - 2048) = k.val; omega))

/-- The reference's result at real arguments. -/
theorem reference (x0 : FVec Ideal S4096x2048 .bf16) (x1 : FVec Ideal S4x512x512 .bf16) (x2 : FVec Ideal S4096x4096 .bf16)
    (d : Fin 4096 → Fin 2048 → ℝ) (w : Fin 4 → Fin 512 → Fin 512 → ℝ)
    (h0 : ∀ t k, x0 (ix2 t k) = (d t k : EReal)) (h1 : ∀ g i o, x1 (ix3 g i o) = (w g i o : EReal)) :
    val_main_v156 (F := Ideal) x0 x1 x2 = Cert.PoolArray.target d w x2 := by
  funext i
  change S4096x4096.Idx at i
  idx_vars i
  rw [read_v156]
  unfold Cert.PoolArray.target
  refine dite_congr rfl (fun h => ?_) fun _ => rfl
  exact Cert.PoolRef.real_v153 x0 x1 d w h0 h1 _ _
end

section
open Cert.Pre_pool_finite Cert.Pre_pool_finite.Gen

/-- The precondition says that the cotangent and the weights hold reals. -/
theorem finite (x0 : FVec Ideal S4096x2048 .bf16) (x1 : FVec Ideal S4x512x512 .bf16) (x2 : FVec Ideal S4096x4096 .bf16) (x3 : FVec Ideal S1x1 .f32)
    (h : Cert.Pre_pool_finite.fn (F := Ideal) x0 x1 x2 x3 = fun _ => 1#1) :
    (∀ i, (x0 i : EReal) = ((EReal.toReal (x0 i) : ℝ) : EReal)) ∧ (∀ i, (x1 i : EReal) = ((EReal.toReal (x1 i) : ℝ) : EReal)) := by
  have hs : Subsingleton S_.Idx := ⟨fun a b => funext fun k => k.elim0⟩
  have h' := congrFun h (fun k => k.elim0)
  dsimp only [Cert.Pre_pool_finite.fn] at h'
  obtain ⟨ha, hb⟩ := Cert.Finite.and_one h'
  exact ⟨Cert.Finite.real_of_all _ _ _ _ _ _ (fun _ => rfl) ha, Cert.Finite.real_of_all _ _ _ _ _ _ (fun _ => rfl) hb⟩
end

/-- The equation of the two programs. -/
theorem algebraic : Cert.algebraic_KernelIdeal_ReferenceIdeal_pre_pool_finite := by
  intro m g m' g' hpre hag
  refine ⟨fun c => Cert.ReferenceIdeal.Read.val_main_v156 (F := Ideal) (m (c.tc.loc Cert.KernelIdeal.main_arg0)) (m (c.tc.loc Cert.KernelIdeal.main_arg1)) (m (c.tc.loc Cert.KernelIdeal.main_arg2)), ?_, ?_⟩
  · refine (θ_run _ _ _).mono (fun r h c => ?_) (Cert.KernelIdeal.Value.run_blocks (F := Ideal) m g)
    obtain ⟨f0, f1⟩ := finite _ _ _ _ (hpre c)
    refine ⟨(h c).1.trans ?_, (h c).2⟩
    exact (Cert.PoolArray.final m c _ _ (fun t k => f0 (ix2 t k)) (fun g i o => f1 (ix3 g i o))).trans
      (reference _ _ _ _ _ (fun t k => f0 (ix2 t k)) (fun g i o => f1 (ix3 g i o))).symm
  · refine (θ_run _ _ _).mono (fun r h c => ?_) (Cert.ReferenceIdeal.Value.run (F := Ideal) m' g')
    refine ⟨(h c).1.trans ?_, (h c).2⟩
    obtain ⟨e0, e1, e2, -⟩ := hag c
    exact (Cert.ReferenceIdeal.Read.val_main_v156_eq (F := Ideal) (launchContents m' c)).trans
      (congr (congr (congrArg (Cert.ReferenceIdeal.Read.val_main_v156 (F := Ideal)) ((launchContents_devRef m' c _).trans e0))
        ((launchContents_devRef m' c _).trans e1)) ((launchContents_devRef m' c _).trans e2))

end Cert.PoolClaim

end
-- ==== Proof.SigMath.lean ====
/- The logistic function at a real, and the gate's derivative in its two forms. -/
module

public import Idealize.ShloMosaic.PureOps
public import Idealize.ShloMosaic.PureOps.Ideal

@[expose] public section

namespace Cert.SigMath

open Idealize.ShloMosaic

/-- The logistic function on the reals. -/
noncomputable def sg (z : ℝ) : ℝ := 1 / (1 + Real.exp (-z))

theorem sig_real (z : ℝ) : Ideal.div 1 (1 + Ideal.exp (-(z : EReal))) = ((sg z : ℝ) : EReal) := by
  have h : (1 + Real.exp (-z) : ℝ) ≠ 0 := by positivity
  rw [← EReal.coe_neg, Ideal.exp_coe, ← EReal.coe_one, ← EReal.coe_add, Ideal.div_coe h, ← EReal.coe_mul, one_mul]
  rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A product of real rows is a real. -/
theorem dot_real {n : ℕ} (a b : Fin n → EReal) (x y : Fin n → ℝ) (ha : ∀ p, a p = (x p : EReal)) (hb : ∀ p, b p = (y p : EReal)) :
    ∑ p, a p * b p = ((∑ p, x p * y p : ℝ) : EReal) := by
  rw [← coe_sum]
  refine Finset.sum_congr rfl fun p _ => ?_
  rw [ha, hb, EReal.coe_mul]

/-- The derivative of `z · sg z` times `a · o`, written as the kernel and as the reference write it. -/
theorem gate_eq (a o z : ℝ) :
    ((a : EReal) * (o : EReal)) * (((sg z : ℝ) : EReal) * (1 + (z : EReal) * (1 - ((sg z : ℝ) : EReal))))
      = ((o : EReal) * (a : EReal)) * ((sg z : ℝ) : EReal)
        + (z : EReal) * ((o : EReal) * (a : EReal)) * (((sg z : ℝ) : EReal) * (1 - ((sg z : ℝ) : EReal))) := by
  rw [← EReal.coe_one]
  simp only [← EReal.coe_mul, ← EReal.coe_sub, ← EReal.coe_add]
  refine congrArg _ ?_
  ring

end Cert.SigMath
-- ==== Proof.GateBlock.lean ====
/- What a point of the attention gate's kernel stores, at an index. -/
module

public import proofs.«01_k».proof.Proof.Gen.GateKernelIdeal.Value
public import Idealize.ShloMosaic.Lib.Pointwise

@[expose] public section

noncomputable section

namespace Cert.GateBlock

open Cert.GateKernelIdeal Cert.GateKernelIdeal.Gen Idealize.ShloMosaic

set_option maxRecDepth 16384

/-- The logistic function as the kernel computes it. -/
abbrev sg (z : EReal) : EReal := Ideal.div 1 (1 + Ideal.exp (-z))

/-- The product's gradient times the gate. -/
def doVal (acc z : EReal) : EReal := acc * (z * sg z)

/-- The gradient of the gate's argument. -/
def dzVal (acc o z : EReal) : EReal := (acc * o) * (sg z * (1 + z * (1 - sg z)))

theorem hz : (![0, 0] : Fin 2 → Nat) = fun _ => 0 := by decide

theorem ldW (x : FVec Ideal S1024x1024 .bf16) (a b : Fin 1024) :
    View.ld (Val := Elt Ideal) (e' := .bf16) x r0_1 (ix2 a b) = x (ix2 a b) :=
  congrArg x (show r0_1.emb (ix2 a b) = (ix2 a b : S1024x1024.Idx) from by
    funext k; apply Fin.ext
    match k with
    | ⟨0, _⟩ => show 0 + 1 * a.val = a.val; omega
    | ⟨1, _⟩ => show 0 + 1 * b.val = b.val; omega)

theorem emb0 (a : Fin 256) (b : Fin 1024) : r0_0.emb (ix2 a b) = (ix2 (⟨0 + a.val, by omega⟩ : Fin 1024) b : S1024x1024.Idx) := by
  funext k; apply Fin.ext
  match k with
  | ⟨0, _⟩ => show 0 + 1 * a.val = 0 + a.val; omega
  | ⟨1, _⟩ => show 0 + 1 * b.val = b.val; omega

theorem ld0 (x : FVec Ideal S1024x1024 .bf16) (a : Fin 256) (b : Fin 1024) :
    View.ld (Val := Elt Ideal) (e' := .bf16) x r0_0 (ix2 a b) = x (ix2 ⟨0 + a.val, by omega⟩ b) := congrArg x (emb0 a b)

theorem emb256 (a : Fin 256) (b : Fin 1024) : r0_2.emb (ix2 a b) = (ix2 (⟨256 + a.val, by omega⟩ : Fin 1024) b : S1024x1024.Idx) := by
  funext k; apply Fin.ext
  match k with
  | ⟨0, _⟩ => show 256 + 1 * a.val = 256 + a.val; omega
  | ⟨1, _⟩ => show 0 + 1 * b.val = b.val; omega

theorem ld256 (x : FVec Ideal S1024x1024 .bf16) (a : Fin 256) (b : Fin 1024) :
    View.ld (Val := Elt Ideal) (e' := .bf16) x r0_2 (ix2 a b) = x (ix2 ⟨256 + a.val, by omega⟩ b) := congrArg x (emb256 a b)

theorem emb512 (a : Fin 256) (b : Fin 1024) : r0_3.emb (ix2 a b) = (ix2 (⟨512 + a.val, by omega⟩ : Fin 1024) b : S1024x1024.Idx) := by
  funext k; apply Fin.ext
  match k with
  | ⟨0, _⟩ => show 512 + 1 * a.val = 512 + a.val; omega
  | ⟨1, _⟩ => show 0 + 1 * b.val = b.val; omega

theorem ld512 (x : FVec Ideal S1024x1024 .bf16) (a : Fin 256) (b : Fin 1024) :
    View.ld (Val := Elt Ideal) (e' := .bf16) x r0_3 (ix2 a b) = x (ix2 ⟨512 + a.val, by omega⟩ b) := congrArg x (emb512 a b)

theorem emb768 (a : Fin 256) (b : Fin 1024) : r0_4.emb (ix2 a b) = (ix2 (⟨768 + a.val, by omega⟩ : Fin 1024) b : S1024x1024.Idx) := by
  funext k; apply Fin.ext
  match k with
  | ⟨0, _⟩ => show 768 + 1 * a.val = 768 + a.val; omega
  | ⟨1, _⟩ => show 0 + 1 * b.val = b.val; omega

theorem ld768 (x : FVec Ideal S1024x1024 .bf16) (a : Fin 256) (b : Fin 1024) :
    View.ld (Val := Elt Ideal) (e' := .bf16) x r0_4 (ix2 a b) = x (ix2 ⟨768 + a.val, by omega⟩ b) := congrArg x (emb768 a b)

theorem do0 (v0 v3 : FVec Ideal S256x1024 .bf16) (v1 : FVec Ideal S1024x1024 .bf16) (a : Fin 256) (b : Fin 1024) :
    k0_pay5 (F := Ideal) v0 v1 v3 (ix2 a b) = doVal (∑ p, v0 (ix2 a p) * v1 (ix2 b p)) (v3 (ix2 a b)) := by
  unfold doVal sg
  pointwise [k0_pay2, k0_pay3, k0_pay4, k0_pay5, k0_pay6]
  simp only [zero_sub]

theorem dz0 (v0 v3 v4 : FVec Ideal S256x1024 .bf16) (v1 : FVec Ideal S1024x1024 .bf16) (a : Fin 256) (b : Fin 1024) :
    k0_pay6 (F := Ideal) v0 v1 v3 v4 (ix2 a b) = dzVal (∑ p, v0 (ix2 a p) * v1 (ix2 b p)) (v4 (ix2 a b)) (v3 (ix2 a b)) := by
  unfold dzVal sg
  pointwise [k0_pay2, k0_pay3, k0_pay4, k0_pay5, k0_pay6]
  simp only [zero_sub]

theorem do256 (v0 v3 : FVec Ideal S256x1024 .bf16) (v1 : FVec Ideal S1024x1024 .bf16) (a : Fin 256) (b : Fin 1024) :
    k0_pay10 (F := Ideal) (k0_pay7 v0 v1) v3 (ix2 a b) = doVal (∑ p, v0 (ix2 a p) * v1 (ix2 b p)) (v3 (ix2 a b)) := by
  unfold doVal sg
  pointwise [k0_pay7, k0_pay8, k0_pay9, k0_pay10, k0_pay11]
  simp only [zero_sub]

theorem dz256 (v0 v3 v4 : FVec Ideal S256x1024 .bf16) (v1 : FVec Ideal S1024x1024 .bf16) (a : Fin 256) (b : Fin 1024) :
    k0_pay11 (F := Ideal) (k0_pay7 v0 v1) v3 v4 (ix2 a b) = dzVal (∑ p, v0 (ix2 a p) * v1 (ix2 b p)) (v4 (ix2 a b)) (v3 (ix2 a b)) := by
  unfold dzVal sg
  pointwise [k0_pay7, k0_pay8, k0_pay9, k0_pay10, k0_pay11]
  simp only [zero_sub]

theorem do512 (v0 v3 : FVec Ideal S256x1024 .bf16) (v1 : FVec Ideal S1024x1024 .bf16) (a : Fin 256) (b : Fin 1024) :
    k0_pay15 (F := Ideal) (k0_pay12 v0 v1) (k0_pay13 v3) (k0_pay14 v3) (ix2 a b) = doVal (∑ p, v0 (ix2 a p) * v1 (ix2 b p)) (v3 (ix2 a b)) := by
  unfold doVal sg
  pointwise [k0_pay12, k0_pay13, k0_pay14, k0_pay15, k0_pay16]
  simp only [zero_sub]

theorem dz512 (v0 v3 v4 : FVec Ideal S256x1024 .bf16) (v1 : FVec Ideal S1024x1024 .bf16) (a : Fin 256) (b : Fin 1024) :
    k0_pay16 (F := Ideal) (k0_pay12 v0 v1) (k0_pay13 v3) (k0_pay14 v3) v4 (ix2 a b) = dzVal (∑ p, v0 (ix2 a p) * v1 (ix2 b p)) (v4 (ix2 a b)) (v3 (ix2 a b)) := by
  unfold dzVal sg
  pointwise [k0_pay12, k0_pay13, k0_pay14, k0_pay15, k0_pay16]
  simp only [zero_sub]

theorem do768 (v0 v3 : FVec Ideal S256x1024 .bf16) (v1 : FVec Ideal S1024x1024 .bf16) (a : Fin 256) (b : Fin 1024) :
    k0_pay20 (F := Ideal) v0 v1 v3 (ix2 a b) = doVal (∑ p, v0 (ix2 a p) * v1 (ix2 b p)) (v3 (ix2 a b)) := by
  unfold doVal sg
  pointwise [k0_pay1, k0_pay17, k0_pay18, k0_pay19, k0_pay20, k0_pay21]
  simp only [zero_sub]

theorem dz768 (v0 v3 v4 : FVec Ideal S256x1024 .bf16) (v1 : FVec Ideal S1024x1024 .bf16) (a : Fin 256) (b : Fin 1024) :
    k0_pay1 (F := Ideal) (k0_pay18 v3) (k0_pay19 v3) (k0_pay21 v0 v1 v4) (ix2 a b) = dzVal (∑ p, v0 (ix2 a p) * v1 (ix2 b p)) (v4 (ix2 a b)) (v3 (ix2 a b)) := by
  unfold dzVal sg
  pointwise [k0_pay1, k0_pay17, k0_pay18, k0_pay19, k0_pay20, k0_pay21]
  simp only [zero_sub]

/-- A block of window 4 as one function of the blocks read. -/
def do4 (u0 u1 u2 : FVec Ideal S1024x1024 .bf16) : FVec Ideal S1024x1024 .bf16 := fun i => doVal (∑ p, u0 (ix2 (i 0) p) * u1 (ix2 (i 1) p)) (u2 i)

theorem out4 (u0 u1 u2 u3 : FVec Ideal S1024x1024 .bf16) (y : S1024x1024.Idx) :
    out0_4 (F := Ideal) u0 u1 u2 u3 y = do4 u0 u1 u2 y := by
  unfold out0_4 k0_pay25 k0_pay24 k0_pay23 k0_pay22
  refine View.canon_apply_of_pieces (Val := Elt Ideal) (do4 u0 u1 u2) _ (fun p hp => ?_) y (cover0_4 _ _ _ _ y)
  rcases List.mem_cons.mp hp with rfl | hp
  · intro x
    change S256x1024.Idx at x
    idx_vars x
    refine (do768 _ _ _ _ _).trans ?_
    refine Eq.trans ?_ (congrArg (do4 u0 u1 u2) (emb768 _ _)).symm
    exact congrArg₂ doVal (Finset.sum_congr rfl fun p _ => congrArg₂ (fun a b : EReal => a * b) (ld768 u0 _ p) (ldW u1 _ p)) (ld768 u2 _ _)
  rcases List.mem_cons.mp hp with rfl | hp
  · intro x
    change S256x1024.Idx at x
    idx_vars x
    refine (do512 _ _ _ _ _).trans ?_
    refine Eq.trans ?_ (congrArg (do4 u0 u1 u2) (emb512 _ _)).symm
    exact congrArg₂ doVal (Finset.sum_congr rfl fun p _ => congrArg₂ (fun a b : EReal => a * b) (ld512 u0 _ p) (ldW u1 _ p)) (ld512 u2 _ _)
  rcases List.mem_cons.mp hp with rfl | hp
  · intro x
    change S256x1024.Idx at x
    idx_vars x
    refine (do256 _ _ _ _ _).trans ?_
    refine Eq.trans ?_ (congrArg (do4 u0 u1 u2) (emb256 _ _)).symm
    exact congrArg₂ doVal (Finset.sum_congr rfl fun p _ => congrArg₂ (fun a b : EReal => a * b) (ld256 u0 _ p) (ldW u1 _ p)) (ld256 u2 _ _)
  rcases List.mem_cons.mp hp with rfl | hp
  · intro x
    change S256x1024.Idx at x
    idx_vars x
    refine (do0 _ _ _ _ _).trans ?_
    refine Eq.trans ?_ (congrArg (do4 u0 u1 u2) (emb0 _ _)).symm
    exact congrArg₂ doVal (Finset.sum_congr rfl fun p _ => congrArg₂ (fun a b : EReal => a * b) (ld0 u0 _ p) (ldW u1 _ p)) (ld0 u2 _ _)
  · exact absurd hp List.not_mem_nil

/-- A block of window 5 as one function of the blocks read. -/
def dz5 (u0 u1 u2 u3 : FVec Ideal S1024x1024 .bf16) : FVec Ideal S1024x1024 .bf16 := fun i => dzVal (∑ p, u0 (ix2 (i 0) p) * u1 (ix2 (i 1) p)) (u3 i) (u2 i)

theorem out5 (u0 u1 u2 u3 : FVec Ideal S1024x1024 .bf16) (y : S1024x1024.Idx) :
    out0_5 (F := Ideal) u0 u1 u2 u3 y = dz5 u0 u1 u2 u3 y := by
  unfold out0_5 k0_pay25 k0_pay24 k0_pay23 k0_pay22
  refine View.canon_apply_of_pieces (Val := Elt Ideal) (dz5 u0 u1 u2 u3) _ (fun p hp => ?_) y (cover0_5 _ _ _ _ y)
  rcases List.mem_cons.mp hp with rfl | hp
  · intro x
    change S256x1024.Idx at x
    idx_vars x
    refine (dz768 _ _ _ _ _ _).trans ?_
    refine Eq.trans ?_ (congrArg (dz5 u0 u1 u2 u3) (emb768 _ _)).symm
    exact congr (congrArg₂ dzVal (Finset.sum_congr rfl fun p _ => congrArg₂ (fun a b : EReal => a * b) (ld768 u0 _ p) (ldW u1 _ p)) (ld768 u3 _ _)) (ld768 u2 _ _)
  rcases List.mem_cons.mp hp with rfl | hp
  · intro x
    change S256x1024.Idx at x
    idx_vars x
    refine (dz512 _ _ _ _ _ _).trans ?_
    refine Eq.trans ?_ (congrArg (dz5 u0 u1 u2 u3) (emb512 _ _)).symm
    exact congr (congrArg₂ dzVal (Finset.sum_congr rfl fun p _ => congrArg₂ (fun a b : EReal => a * b) (ld512 u0 _ p) (ldW u1 _ p)) (ld512 u3 _ _)) (ld512 u2 _ _)
  rcases List.mem_cons.mp hp with rfl | hp
  · intro x
    change S256x1024.Idx at x
    idx_vars x
    refine (dz256 _ _ _ _ _ _).trans ?_
    refine Eq.trans ?_ (congrArg (dz5 u0 u1 u2 u3) (emb256 _ _)).symm
    exact congr (congrArg₂ dzVal (Finset.sum_congr rfl fun p _ => congrArg₂ (fun a b : EReal => a * b) (ld256 u0 _ p) (ldW u1 _ p)) (ld256 u3 _ _)) (ld256 u2 _ _)
  rcases List.mem_cons.mp hp with rfl | hp
  · intro x
    change S256x1024.Idx at x
    idx_vars x
    refine (dz0 _ _ _ _ _ _).trans ?_
    refine Eq.trans ?_ (congrArg (dz5 u0 u1 u2 u3) (emb0 _ _)).symm
    exact congr (congrArg₂ dzVal (Finset.sum_congr rfl fun p _ => congrArg₂ (fun a b : EReal => a * b) (ld0 u0 _ p) (ldW u1 _ p)) (ld0 u3 _ _)) (ld0 u2 _ _)
  · exact absurd hp List.not_mem_nil

end Cert.GateBlock

end
-- ==== Proof.GateArray.lean ====
/- The attention gate's two result arrays after the run. -/
module

public import proofs.«01_k».proof.Proof.GateBlock

@[expose] public section

noncomputable section

namespace Cert.GateArray

open Cert.GateKernelIdeal Cert.GateKernelIdeal.Gen Cert.GateKernelIdeal.Value Idealize.ShloMosaic
open Cert.GateBlock

set_option maxRecDepth 16384

variable (m : (ℓ : Loc nD τ sig) → Buf (Elt Ideal) ℓ)

/-- The launch contents of the four arguments. -/
abbrev arg0 (c : Dev nD) : FVec Ideal S4096x1024 .bf16 := m (c.tc.loc main_arg0)
abbrev arg1 (c : Dev nD) : FVec Ideal S2048x1024 .bf16 := m (c.tc.loc main_arg1)
abbrev arg2 (c : Dev nD) : FVec Ideal S4096x6144 .bf16 := m (c.tc.loc main_arg2)
abbrev arg3 (c : Dev nD) : FVec Ideal S4096x2048 .bf16 := m (c.tc.loc main_arg3)

theorem ltN (t : Fin grid0.N) : t.val < 8 := t.isLt

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = (4 + t.val % 2) := by decide +kernel
theorem idx3 : ∀ t : Fin grid0.N, win0_3.index t 0 = t.val / 2 ∧ win0_3.index t 1 = t.val % 2 := by decide +kernel
theorem idx4 : ∀ t : Fin grid0.N, win0_4.index t 0 = t.val / 2 ∧ win0_4.index t 1 = t.val % 2 := by decide +kernel
theorem idx5 : ∀ t : Fin grid0.N, win0_5.index t 0 = t.val / 2 ∧ win0_5.index t 1 = (4 + t.val % 2) := by decide +kernel
theorem xsz4 : ∀ t : Fin grid0.N, win0_4.xsize (grid0.coords t) 0 = 1024 ∧ win0_4.xsize (grid0.coords t) 1 = 1024 := by decide +kernel
theorem xsz5 : ∀ t : Fin grid0.N, win0_5.xsize (grid0.coords t) 0 = 1024 ∧ win0_5.xsize (grid0.coords t) 1 = 1024 := by decide +kernel

theorem iblk0 (c : Dev nD) (t : Fin grid0.N) (r : Fin 1024) (k : Fin 1024) :
    iblk m c 0 t (ix2 r k) = arg0 m c (ix2 ⟨t.val / 2 * 1024 + r.val, by have := ltN t; omega⟩ ⟨0 * 1024 + k.val, by have := ltN t; omega⟩) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 1024 + 1 * r.val = t.val / 2 * 1024 + r.val; rw [hi.1]; omega
  | ⟨1, _⟩ => show win0_0.index t 1 * 1024 + 1 * k.val = 0 * 1024 + k.val; rw [hi.2]; omega

theorem iblk1 (c : Dev nD) (t : Fin grid0.N) (r : Fin 1024) (k : Fin 1024) :
    iblk m c 1 t (ix2 r k) = arg1 m c (ix2 ⟨t.val % 2 * 1024 + r.val, by have := ltN t; omega⟩ ⟨0 * 1024 + k.val, by have := ltN t; omega⟩) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 1024 + 1 * r.val = t.val % 2 * 1024 + r.val; rw [hi.1]; omega
  | ⟨1, _⟩ => show win0_1.index t 1 * 1024 + 1 * k.val = 0 * 1024 + k.val; rw [hi.2]; omega

theorem iblk2 (c : Dev nD) (t : Fin grid0.N) (r : Fin 1024) (k : Fin 1024) :
    iblk m c 2 t (ix2 r k) = arg2 m c (ix2 ⟨t.val / 2 * 1024 + r.val, by have := ltN t; omega⟩ ⟨(4 + t.val % 2) * 1024 + k.val, by have := ltN t; omega⟩) := by
  have hi := idx2 t
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 1024 + 1 * r.val = t.val / 2 * 1024 + r.val; rw [hi.1]; omega
  | ⟨1, _⟩ => show win0_2.index t 1 * 1024 + 1 * k.val = (4 + t.val % 2) * 1024 + k.val; rw [hi.2]; omega

theorem iblk3 (c : Dev nD) (t : Fin grid0.N) (r : Fin 1024) (k : Fin 1024) :
    iblk m c 3 t (ix2 r k) = arg3 m c (ix2 ⟨t.val / 2 * 1024 + r.val, by have := ltN t; omega⟩ ⟨t.val % 2 * 1024 + k.val, by have := ltN t; omega⟩) := by
  have hi := idx3 t
  unfold iblk
  rw [View.read_apply]
  show V m c main_arg3 _ = _
  rw [V_main_arg3]
  refine congrArg (m (c.tc.loc main_arg3)) ?_
  funext a
  apply Fin.ext
  match a with
  | ⟨0, _⟩ => show win0_3.index t 0 * 1024 + 1 * r.val = t.val / 2 * 1024 + r.val; rw [hi.1]; omega
  | ⟨1, _⟩ => show win0_3.index t 1 * 1024 + 1 * k.val = t.val % 2 * 1024 + k.val; rw [hi.2]; omega

/-- Where a point's block of window 4 lies in its array. -/
theorem mem_blk4 (t : Fin grid0.N) (i : S4096x2048.Idx) :
    i ∈ ((cfg0.win 4).blk t).view.set ↔ (t.val / 2 * 1024 ≤ (i 0).val ∧ (i 0).val < t.val / 2 * 1024 + 1024) ∧ (t.val % 2 * 1024 ≤ (i 1).val ∧ (i 1).val < t.val % 2 * 1024 + 1024) := by
  show i ∈ ((View.whole main_v0_0).slice (win0_4.rect t)).set ↔ _
  rw [View.set_slice_whole, Rect.mem_set_unit]
  have e := idx4 t
  have x := xsz4 t
  refine ⟨fun h => ⟨?_, ?_⟩, fun h a => ?_⟩
  · have : win0_4.index t 0 * 1024 ≤ (i 0).val ∧ (i 0).val < win0_4.index t 0 * 1024 + win0_4.xsize (grid0.coords t) 0 := h 0
    rwa [e.1, x.1] at this
  · have : win0_4.index t 1 * 1024 ≤ (i 1).val ∧ (i 1).val < win0_4.index t 1 * 1024 + win0_4.xsize (grid0.coords t) 1 := h 1
    rwa [e.2, x.2] at this
  · match a with
    | ⟨0, _⟩ =>
      show win0_4.index t 0 * 1024 ≤ (i 0).val ∧ (i 0).val < win0_4.index t 0 * 1024 + win0_4.xsize (grid0.coords t) 0
      rw [e.1, x.1]; exact h.1
    | ⟨1, _⟩ =>
      show win0_4.index t 1 * 1024 ≤ (i 1).val ∧ (i 1).val < win0_4.index t 1 * 1024 + win0_4.xsize (grid0.coords t) 1
      rw [e.2, x.2]; exact h.2

/-- What a point writes to window 4. -/
theorem flushed_read4 (c : Dev nD) (t : Fin grid0.N) (G : S4096x2048.Idx → EReal)
    (h : ∀ (r k : Fin 1024), do4 (iblk m c 0 t) (iblk m c 1 t) (iblk m c 2 t) (ix2 r k) = G (ix2 ⟨t.val / 2 * 1024 + r.val, by have := ltN t; omega⟩ ⟨t.val % 2 * 1024 + k.val, by omega⟩)) :
    (dats m 0 c).flushed 4 t = ((cfg0.win 4).blk t).view.read (Elt Ideal) G := by
  rw [flushed4]
  funext y
  have e := idx4 t
  have x := xsz4 t
  have h0 : (y 0).val < 1024 := x.1 ▸ (y 0).isLt
  have h1 : (y 1).val < 1024 := x.2 ▸ (y 1).isLt
  have hj : (cfg0.win 4).xinj (grid0.coords t) y = ix2 (⟨(y 0).val, h0⟩ : Fin 1024) (⟨(y 1).val, h1⟩ : Fin 1024) := by
    funext a; apply Fin.ext
    match a with
    | ⟨0, _⟩ => rfl
    | ⟨1, _⟩ => rfl
  have hi : ((cfg0.win 4).blk t).view.emb y = (ix2 (⟨t.val / 2 * 1024 + (y 0).val, by have := ltN t; omega⟩) (⟨t.val % 2 * 1024 + (y 1).val, by omega⟩) : S4096x2048.Idx) := by
    funext a; apply Fin.ext
    match a with
    | ⟨0, _⟩ => show win0_4.index t 0 * 1024 + 1 * (y 0).val = t.val / 2 * 1024 + (y 0).val; rw [e.1]; omega
    | ⟨1, _⟩ => show win0_4.index t 1 * 1024 + 1 * (y 1).val = t.val % 2 * 1024 + (y 1).val; rw [e.2]; omega
  refine (congrArg (out0_4 (F := Ideal) (iblk m c 0 t) (iblk m c 1 t) (iblk m c 2 t) (iblk m c 3 t)) hj).trans ?_
  refine (out4 _ _ _ _ _).trans ((h _ _).trans ?_)
  exact (congrArg G hi).symm

/-- Where a point's block of window 5 lies in its array. -/
theorem mem_blk5 (t : Fin grid0.N) (i : S4096x6144.Idx) :
    i ∈ ((cfg0.win 5).blk t).view.set ↔ (t.val / 2 * 1024 ≤ (i 0).val ∧ (i 0).val < t.val / 2 * 1024 + 1024) ∧ ((4 + t.val % 2) * 1024 ≤ (i 1).val ∧ (i 1).val < (4 + t.val % 2) * 1024 + 1024) := by
  show i ∈ ((View.whole main_v0_1).slice (win0_5.rect t)).set ↔ _
  rw [View.set_slice_whole, Rect.mem_set_unit]
  have e := idx5 t
  have x := xsz5 t
  refine ⟨fun h => ⟨?_, ?_⟩, fun h a => ?_⟩
  · have : win0_5.index t 0 * 1024 ≤ (i 0).val ∧ (i 0).val < win0_5.index t 0 * 1024 + win0_5.xsize (grid0.coords t) 0 := h 0
    rwa [e.1, x.1] at this
  · have : win0_5.index t 1 * 1024 ≤ (i 1).val ∧ (i 1).val < win0_5.index t 1 * 1024 + win0_5.xsize (grid0.coords t) 1 := h 1
    rwa [e.2, x.2] at this
  · match a with
    | ⟨0, _⟩ =>
      show win0_5.index t 0 * 1024 ≤ (i 0).val ∧ (i 0).val < win0_5.index t 0 * 1024 + win0_5.xsize (grid0.coords t) 0
      rw [e.1, x.1]; exact h.1
    | ⟨1, _⟩ =>
      show win0_5.index t 1 * 1024 ≤ (i 1).val ∧ (i 1).val < win0_5.index t 1 * 1024 + win0_5.xsize (grid0.coords t) 1
      rw [e.2, x.2]; exact h.2

/-- What a point writes to window 5. -/
theorem flushed_read5 (c : Dev nD) (t : Fin grid0.N) (G : S4096x6144.Idx → EReal)
    (h : ∀ (r k : Fin 1024), dz5 (iblk m c 0 t) (iblk m c 1 t) (iblk m c 2 t) (iblk m c 3 t) (ix2 r k) = G (ix2 ⟨t.val / 2 * 1024 + r.val, by have := ltN t; omega⟩ ⟨(4 + t.val % 2) * 1024 + k.val, by omega⟩)) :
    (dats m 0 c).flushed 5 t = ((cfg0.win 5).blk t).view.read (Elt Ideal) G := by
  rw [flushed5]
  funext y
  have e := idx5 t
  have x := xsz5 t
  have h0 : (y 0).val < 1024 := x.1 ▸ (y 0).isLt
  have h1 : (y 1).val < 1024 := x.2 ▸ (y 1).isLt
  have hj : (cfg0.win 5).xinj (grid0.coords t) y = ix2 (⟨(y 0).val, h0⟩ : Fin 1024) (⟨(y 1).val, h1⟩ : Fin 1024) := by
    funext a; apply Fin.ext
    match a with
    | ⟨0, _⟩ => rfl
    | ⟨1, _⟩ => rfl
  have hi : ((cfg0.win 5).blk t).view.emb y = (ix2 (⟨t.val / 2 * 1024 + (y 0).val, by have := ltN t; omega⟩) (⟨(4 + t.val % 2) * 1024 + (y 1).val, by omega⟩) : S4096x6144.Idx) := by
    funext a; apply Fin.ext
    match a with
    | ⟨0, _⟩ => show win0_5.index t 0 * 1024 + 1 * (y 0).val = t.val / 2 * 1024 + (y 0).val; rw [e.1]; omega
    | ⟨1, _⟩ => show win0_5.index t 1 * 1024 + 1 * (y 1).val = (4 + t.val % 2) * 1024 + (y 1).val; rw [e.2]; omega
  refine (congrArg (out0_5 (F := Ideal) (iblk m c 0 t) (iblk m c 1 t) (iblk m c 2 t) (iblk m c 3 t)) hj).trans ?_
  refine (out5 _ _ _ _ _).trans ((h _ _).trans ?_)
  exact (congrArg G hi).symm

/-- The output product's gradient times the gate, over the whole array. -/
def do_target (c : Dev nD) (i : S4096x2048.Idx) : EReal :=
  doVal (∑ p : Fin 1024, arg0 m c (ix2 (i 0) p) * arg1 m c (ix2 (i 1) p))
    (arg2 m c (ix2 (i 0) ⟨4096 + (i 1).val, by have : (i 1).val < 2048 := (i 1).isLt; omega⟩))

/-- The gradient of the gate's argument at a row and a lane of the gate. -/
def dz_at (c : Dev nD) (t : Fin 4096) (k : Fin 2048) : EReal :=
  dzVal (∑ p : Fin 1024, arg0 m c (ix2 t p) * arg1 m c (ix2 k p)) (arg3 m c (ix2 t k)) (arg2 m c (ix2 t ⟨4096 + k.val, by omega⟩))

/-- The second array on the gate's lanes. -/
def dz_target (c : Dev nD) (i : S4096x6144.Idx) : EReal :=
  if h : 4096 ≤ (i 1).val then dz_at m c (i 0) ⟨(i 1).val - 4096, by have : (i 1).val < 6144 := (i 1).isLt; omega⟩ else 0

theorem final4 (c : Dev nD) : (dats m 0 c).arrAt 4 cfg0.N = do_target m c := by
  refine (dats m 0 c).arrAt_eq_of_cover 4 _ (fun t _ => flushed_read4 m c t (do_target m c) fun r k => ?_) fun i => ?_
  · unfold do4 do_target
    refine congrArg₂ doVal (Finset.sum_congr rfl fun p _ => congrArg₂ (fun a b : EReal => a * b) ((iblk0 m c t r p).trans ?_) ((iblk1 m c t k p).trans ?_)) ((iblk2 m c t r k).trans ?_)
    · exact congrArg (arg0 m c) (congrArg (ix2 _) (Fin.ext (by show 0 * 1024 + p.val = p.val; omega)))
    · exact congrArg (arg1 m c) (congrArg (ix2 _) (Fin.ext (by show 0 * 1024 + p.val = p.val; omega)))
    · exact congrArg (arg2 m c) (congrArg (ix2 _) (Fin.ext (by show (4 + t.val % 2) * 1024 + k.val = 4096 + (t.val % 2 * 1024 + k.val); omega)))
  · change S4096x2048.Idx at i
    have hr : (i 0).val < 4096 := (i 0).isLt
    have hc : (i 1).val < 2048 := (i 1).isLt
    refine ⟨(⟨(i 0).val / 1024 * 2 + (i 1).val / 1024, by show _ < 8; omega⟩ : Fin grid0.N), Gen.flush0_4 _, ?_⟩
    rw [mem_blk4]
    dsimp only
    omega

theorem final5 (c : Dev nD) (t : Fin 4096) (k : Fin 2048) :
    (dats m 0 c).arrAt 5 cfg0.N (ix2 t ⟨4096 + k.val, by omega⟩ : S4096x6144.Idx) = dz_at m c t k := by
  rw [(dats m 0 c).arrAt_eq_piecewise 5 (dz_target m c) (fun t _ => flushed_read5 m c t (dz_target m c) fun r k => ?_) _]
  · refine (if_pos ⟨(⟨t.val / 1024 * 2 + k.val / 1024, by show _ < 8; omega⟩ : Fin grid0.N), Gen.flush0_5 _, ?_⟩).trans ?_
    · unfold dz_target
      refine (dif_pos (show 4096 ≤ 4096 + k.val by omega)).trans ?_
      exact congrArg (dz_at m c t) (Fin.ext (by show 4096 + k.val - 4096 = k.val; omega))
    · rw [mem_blk5]
      show (_ ≤ t.val ∧ t.val < _) ∧ (_ ≤ 4096 + k.val ∧ 4096 + k.val < _)
      dsimp only
      omega
  · unfold dz_target
    refine Eq.trans ?_ (dif_pos (show 4096 ≤ (4 + t.val % 2) * 1024 + k.val by omega)).symm
    unfold dz5 dz_at
    refine congr (congrArg₂ dzVal (Finset.sum_congr rfl fun p _ => congrArg₂ (fun a b : EReal => a * b) ((iblk0 m c t r p).trans ?_) ((iblk1 m c t k p).trans ?_)) ((iblk3 m c t r k).trans ?_)) ((iblk2 m c t r k).trans ?_)
    · exact congrArg (arg0 m c) (congrArg (ix2 _) (Fin.ext (by show 0 * 1024 + p.val = p.val; omega)))
    · exact congrArg (arg1 m c) (congrArg₂ ix2 (Fin.ext (by show t.val % 2 * 1024 + k.val = (4 + t.val % 2) * 1024 + k.val - 4096; omega)) (Fin.ext (by show 0 * 1024 + p.val = p.val; omega)))
    · exact congrArg (arg3 m c) (congrArg (ix2 _) (Fin.ext (by show t.val % 2 * 1024 + k.val = (4 + t.val % 2) * 1024 + k.val - 4096; omega)))
    · exact congrArg (arg2 m c) (congrArg (ix2 _) (Fin.ext (by show (4 + t.val % 2) * 1024 + k.val = 4096 + ((4 + t.val % 2) * 1024 + k.val - 4096); omega)))

end Cert.GateArray

end
-- ==== Proof.GateRef.lean ====
/- The gate's reference read at an index. -/
module

public import proofs.«01_k».proof.Proof.Gen.GateReferenceIdeal.Read
public import Idealize.ShloMosaic.Lib.Pointwise

@[expose] public section

noncomputable section

namespace Cert.GateRef

open Cert.GateReferenceIdeal Cert.GateReferenceIdeal.Gen Cert.GateReferenceIdeal.Read Idealize.ShloMosaic

set_option maxRecDepth 16384

/-- The logistic function as the reference computes it. -/
abbrev sg (z : EReal) : EReal := Ideal.div 1 (1 + Ideal.exp (-z))

/-- The first result: the output product's gradient times the gate. -/
theorem read_v13 (x0 : FVec Ideal S4096x1024 .bf16) (x1 : FVec Ideal S2048x1024 .bf16) (x2 : FVec Ideal S4096x6144 .bf16)
    (t : Fin 4096) (k : Fin 2048) :
    val_main_v13 (F := Ideal) x0 x1 x2 (ix2 t k)
      = (∑ p, x0 (ix2 t p) * x1 (ix2 k p)) * (x2 (ix2 t ⟨4096 + k.val, by omega⟩) * sg (x2 (ix2 t ⟨4096 + k.val, by omega⟩))) := by
  unfold sg
  pointwise [val_main_v13, val_main_v10, val_main_v8, val_main_v0, val_main_v1, val_main_v5_0, val_main_v5_1, val_main_v5_2, val_main_call0_v0, val_main_call0_v1, val_main_call0_v2, val_main_call0_v3, val_main_call0_v4, val_main_call0_v6, val_main_call0_v7, val_main_v3, val_main_v2, val_main_call0_cst, val_main_call0_cst_0, val_main_call0_cst_1]

/-- The gradient of the gate's argument. -/
theorem read_v14 (x0 : FVec Ideal S4096x1024 .bf16) (x1 : FVec Ideal S2048x1024 .bf16) (x2 : FVec Ideal S4096x6144 .bf16) (x3 : FVec Ideal S4096x2048 .bf16)
    (t : Fin 4096) (k : Fin 2048) :
    val_main_v14 (F := Ideal) x0 x1 x2 x3 (ix2 t k)
      = (x3 (ix2 t k) * ∑ p, x0 (ix2 t p) * x1 (ix2 k p)) * sg (x2 (ix2 t ⟨4096 + k.val, by omega⟩))
        + x2 (ix2 t ⟨4096 + k.val, by omega⟩) * (x3 (ix2 t k) * ∑ p, x0 (ix2 t p) * x1 (ix2 k p))
          * (sg (x2 (ix2 t ⟨4096 + k.val, by omega⟩)) * (1 - sg (x2 (ix2 t ⟨4096 + k.val, by omega⟩)))) := by
  unfold sg
  pointwise [val_main_v14, val_main_v11, val_main_call1_v0, val_main_call1_v1, val_main_call1_v2, val_main_v9, val_main_v4, val_main_v8, val_main_v0, val_main_v1, val_main_v5_0, val_main_v5_1, val_main_v5_2, val_main_call0_v0, val_main_call0_v1, val_main_call0_v2, val_main_call0_v3, val_main_call0_v4, val_main_call0_v6, val_main_call0_v7, val_main_v3, val_main_v2, val_main_call0_cst, val_main_call0_cst_0, val_main_call0_cst_1]

/-- The second result on the gate's lanes. -/
theorem read_v15 (x0 : FVec Ideal S4096x1024 .bf16) (x1 : FVec Ideal S2048x1024 .bf16) (x2 : FVec Ideal S4096x6144 .bf16) (x3 : FVec Ideal S4096x2048 .bf16)
    (t : Fin 4096) (k : Fin 2048) :
    val_main_v15 (F := Ideal) x0 x1 x2 x3 (ix2 t ⟨4096 + k.val, by omega⟩) = val_main_v14 (F := Ideal) x0 x1 x2 x3 (ix2 t k) := by
  pointwise [val_main_v15]

end Cert.GateRef
-- ==== Proof.GateClaim.lean ====
/- The attention gate's gradient: the kernel and the reference end at the same arrays on the gate's lanes. -/
module

public import proofs.«01_k».proof.Defs
public import proofs.«01_k».proof.Proof.Finite
public import proofs.«01_k».proof.Proof.SigMath
public import proofs.«01_k».proof.Proof.GateArray
public import proofs.«01_k».proof.Proof.GateRef
public import proofs.«01_k».proof.Proof.Gen.Pre_gate_finite
public import proofs.«01_k».proof.Proof.Gen.On_gate_columns

@[expose] public section

noncomputable section

namespace Cert.GateClaim

open Idealize.ShloMosaic Idealize.SL.Sem Idealize.ShloMosaic.StableHlo

set_option maxRecDepth 16384

section
open Cert.Pre_gate_finite Cert.Pre_gate_finite.Gen

/-- The precondition says that the four arguments hold reals. -/
theorem finite (x0 : FVec Ideal S4096x1024 .bf16) (x1 : FVec Ideal S2048x1024 .bf16) (x2 : FVec Ideal S4096x6144 .bf16) (x3 : FVec Ideal S4096x2048 .bf16)
    (h : Cert.Pre_gate_finite.fn (F := Ideal) x0 x1 x2 x3 = fun _ => 1#1) :
    (∀ i, (x0 i : EReal) = ((EReal.toReal (x0 i) : ℝ) : EReal)) ∧ (∀ i, (x1 i : EReal) = ((EReal.toReal (x1 i) : ℝ) : EReal))
      ∧ (∀ i, (x2 i : EReal) = ((EReal.toReal (x2 i) : ℝ) : EReal)) ∧ (∀ i, (x3 i : EReal) = ((EReal.toReal (x3 i) : ℝ) : EReal)) := by
  have hs : Subsingleton S_.Idx := ⟨fun a b => funext fun k => k.elim0⟩
  have h' := congrFun h (fun k => k.elim0)
  dsimp only [Cert.Pre_gate_finite.fn] at h'
  obtain ⟨h', hd⟩ := Cert.Finite.and_one h'
  obtain ⟨h', hc⟩ := Cert.Finite.and_one h'
  obtain ⟨ha, hb⟩ := Cert.Finite.and_one h'
  exact ⟨Cert.Finite.real_of_all _ _ _ _ _ _ (fun _ => rfl) ha, Cert.Finite.real_of_all _ _ _ _ _ _ (fun _ => rfl) hb,
    Cert.Finite.real_of_all _ _ _ _ _ _ (fun _ => rfl) hc, Cert.Finite.real_of_all _ _ _ _ _ _ (fun _ => rfl) hd⟩
end

section
open Cert.On_gate_columns Cert.On_gate_columns.Gen

/-- The mask of the second result is the gate's lanes. -/
theorem mask (x0 : FVec Ideal S4096x1024 .bf16) (x1 : FVec Ideal S2048x1024 .bf16) (x2 : FVec Ideal S4096x6144 .bf16) (x3 : FVec Ideal S4096x2048 .bf16)
    (i : S4096x6144.Idx) (h : (Cert.On_gate_columns.fn (F := Ideal) x0 x1 x2 x3).2 i = 1#1) : 4096 ≤ (i 1).val := by
  by_contra hn
  have hlt : (i 1).val < 6144 := (i 1).isLt
  have h2 : IntOp.cmpi .sge (BitVec.ofNat 32 (i 1).val) 4096#32 = 1#1 := h
  have h3 : IntOp.cmpi .sge (BitVec.ofNat 32 (i 1).val) 4096#32 = 0#1 := by
    have h4 : ∀ n : Fin 4096, IntOp.cmpi .sge (BitVec.ofNat 32 n.val) 4096#32 = 0#1 := by decide +kernel
    exact h4 ⟨(i 1).val, by omega⟩
  rw [h3] at h2
  exact absurd h2 (by decide)
end

open Cert.GateKernelIdeal in
/-- The gate's argument: the two forms of its derivative at real arguments. -/
theorem dz_eq (m : (ℓ : Loc nD τ sig) → Buf (Elt Ideal) ℓ) (c : Dev nD)
    (h0 : ∀ i, (Cert.GateArray.arg0 m c i : EReal) = ((EReal.toReal (Cert.GateArray.arg0 m c i) : ℝ) : EReal))
    (h1 : ∀ i, (Cert.GateArray.arg1 m c i : EReal) = ((EReal.toReal (Cert.GateArray.arg1 m c i) : ℝ) : EReal))
    (h2 : ∀ i, (Cert.GateArray.arg2 m c i : EReal) = ((EReal.toReal (Cert.GateArray.arg2 m c i) : ℝ) : EReal))
    (h3 : ∀ i, (Cert.GateArray.arg3 m c i : EReal) = ((EReal.toReal (Cert.GateArray.arg3 m c i) : ℝ) : EReal))
    (t : Fin 4096) (k : Fin 2048) :
    Cert.GateArray.dz_at m c t k
      = Cert.GateReferenceIdeal.Read.val_main_v15 (F := Ideal) (Cert.GateArray.arg0 m c) (Cert.GateArray.arg1 m c) (Cert.GateArray.arg2 m c) (Cert.GateArray.arg3 m c) (ix2 t ⟨4096 + k.val, by omega⟩) := by
  rw [Cert.GateRef.read_v15, Cert.GateRef.read_v14]
  unfold Cert.GateArray.dz_at Cert.GateBlock.dzVal Cert.GateRef.sg Cert.GateBlock.sg
  rw [Cert.SigMath.dot_real _ _ _ _ (fun p => h0 (ix2 t p)) (fun p => h1 (ix2 k p)), h2, h3, Cert.SigMath.sig_real]
  exact Cert.SigMath.gate_eq _ _ _

/-- The equation of the two programs. -/
theorem algebraic : Cert.algebraic_GateKernelIdeal_GateReferenceIdeal_on_gate_columns_pre_gate_finite := by
  intro m g m' g' hpre hag
  refine ⟨fun c => Cert.GateReferenceIdeal.Read.val_main_v13 (F := Ideal) (m (c.tc.loc Cert.GateKernelIdeal.main_arg0)) (m (c.tc.loc Cert.GateKernelIdeal.main_arg1)) (m (c.tc.loc Cert.GateKernelIdeal.main_arg2)),
    fun c => Cert.GateReferenceIdeal.Read.val_main_v15 (F := Ideal) (m (c.tc.loc Cert.GateKernelIdeal.main_arg0)) (m (c.tc.loc Cert.GateKernelIdeal.main_arg1)) (m (c.tc.loc Cert.GateKernelIdeal.main_arg2)) (m (c.tc.loc Cert.GateKernelIdeal.main_arg3)), ?_, ?_⟩
  · refine (θ_run _ _ _).mono (fun r h c => ?_) (Cert.GateKernelIdeal.Value.run_blocks (F := Ideal) m g)
    obtain ⟨f0, f1, f2, f3⟩ := finite _ _ _ _ (hpre c)
    refine ⟨fun i _ => ?_, fun i hi => ?_, (h c).2.2⟩
    · refine (congrFun ((h c).1.trans (Cert.GateArray.final4 m c)) i).trans ?_
      idx_vars i
      exact (Cert.GateRef.read_v13 _ _ _ _ _).symm
    · refine (congrFun (h c).2.1 i).trans ?_
      have hm := mask _ _ _ _ i hi
      have hlt : (i 1).val < 6144 := (i 1).isLt
      have e : i = (ix2 (i 0) ⟨4096 + ((i 1).val - 4096), by omega⟩ : (⟨2, ![4096, 6144]⟩ : Shape).Idx) := by
        funext a; apply Fin.ext
        match a with
        | ⟨0, _⟩ => rfl
        | ⟨1, _⟩ => show (i 1).val = 4096 + ((i 1).val - 4096); omega
      rw [e]
      exact (Cert.GateArray.final5 m c (i 0) ⟨(i 1).val - 4096, by omega⟩).trans (dz_eq m c f0 f1 f2 f3 _ _)
  · refine (θ_run _ _ _).mono (fun r h c => ?_) (Cert.GateReferenceIdeal.Value.run (F := Ideal) m' g')
    obtain ⟨e0, e1, e2, e3⟩ := hag c
    refine ⟨fun i _ => congrFun ((h c).1.trans ?_) i, fun i _ => congrFun ((h c).2.1.trans ?_) i, (h c).2.2⟩
    · exact (Cert.GateReferenceIdeal.Read.val_main_v13_eq (F := Ideal) _ _ _).trans
        (congr (congr (congrArg (Cert.GateReferenceIdeal.Read.val_main_v13 (F := Ideal)) e0) e1) e2)
    · exact (Cert.GateReferenceIdeal.Read.val_main_v15_eq (F := Ideal) _ _ _ _).trans
        (congr (congr (congr (congrArg (Cert.GateReferenceIdeal.Read.val_main_v15 (F := Ideal)) e0) e1) e2) e3)

end Cert.GateClaim

end
-- ==== Proof.RmsMath.lean ====
/- The gradient of the root-mean-square norm over the reals: the short form and the one by the rules of differentiation agree. -/
module

public import Idealize.ShloMosaic.PureOps
public import Idealize.ShloMosaic.PureOps.Ideal
public import Idealize.ShloMosaic.PureOps.Ideal.Laws
public import proofs.«01_k».proof.Proof.SigMath

@[expose] public section

noncomputable section

namespace Cert.RmsMath

open Idealize.ShloMosaic Cert.SigMath

/-- The mean of the squares of a row, a little raised, -/
def mean (h : Fin 1024 → EReal) : EReal :=
  Ideal.div (∑ p, h p * h p) (Ideal.ofBits .f32 0x44800000#32) + Ideal.ofBits .f32 0x358637BD#32

/-- and the inverse of its root. -/
def rho (h : Fin 1024 → EReal) : EReal := Ideal.rsqrt (mean h)

/-- The gradient of a row in the short form, -/
def short (du h g : Fin 1024 → EReal) (R : EReal) (k : Fin 1024) : EReal :=
  R + rho h * (du k * g k - (h k * rho h) * Ideal.div (∑ q, (du q * g q) * (h q * rho h)) (Ideal.ofBits .f32 0x44800000#32))

/-- the factor of the rows in the other, -/
def factor (du h g : Fin 1024 → EReal) : EReal :=
  Ideal.div ((∑ q, h q * (du q * g q)) * (Ideal.ofBits .f32 0xBF000000#32 * Ideal.div (rho h) (mean h))) (Ideal.ofBits .f32 0x44800000#32)

/-- and the other. -/
def long (du h g : Fin 1024 → EReal) (R : EReal) (k : Fin 1024) : EReal :=
  ((R + (du k * g k) * rho h) + h k * factor du h g) + factor du h g * h k

theorem c1024 : Ideal.ofBits .f32 0x44800000#32 = ((1024 : ℝ) : EReal) := by
  simp [Ideal.ofBits, Ideal.ieee, -EReal.coe_mul]
  norm_num

theorem chalf : Ideal.ofBits .f32 0xBF000000#32 = ((-(1 / 2) : ℝ) : EReal) := by
  simp [Ideal.ofBits, Ideal.ieee, -EReal.coe_mul]
  norm_num

theorem ceps : ∃ e : ℝ, 0 < e ∧ Ideal.ofBits .f32 0x358637BD#32 = ((e : ℝ) : EReal) := by
  refine ⟨(8796093 : ℝ) / 2 ^ 43, by positivity, ?_⟩
  simp [Ideal.ofBits, Ideal.ieee, -EReal.coe_mul]
  norm_num

theorem mean_real (h : Fin 1024 → ℝ) : ∃ a : ℝ, 0 < a ∧ mean (fun p => (h p : EReal)) = (a : EReal) := by
  obtain ⟨e, he, hE⟩ := ceps
  refine ⟨(∑ p, h p * h p) * (1 / 1024) + e, ?_, ?_⟩
  · have : 0 ≤ ∑ p, h p * h p := Finset.sum_nonneg fun p _ => mul_self_nonneg _
    positivity
  · unfold mean
    rw [hE, c1024, Ideal.div_coe (by norm_num), dot_real _ _ h h (fun _ => rfl) (fun _ => rfl), ← EReal.coe_mul, ← EReal.coe_add]

theorem real_eq (d g h r a S T : ℝ) (hr : r * r * a = 1) (ha : a ≠ 0) (hS : S = r * T) :
    r * (d * g - (h * r) * (S * (1 / 1024)))
      = d * g * r + h * ((T * (-(1 / 2) * (r * (1 / a)))) * (1 / 1024)) + (T * (-(1 / 2) * (r * (1 / a)))) * (1 / 1024) * h := by
  have hi : 1 / a = r * r := by field_simp; linarith
  rw [hS, hi]; ring

theorem short_eq_long (du h g : Fin 1024 → ℝ) (R : EReal) (k : Fin 1024) :
    short (fun p => (du p : EReal)) (fun p => (h p : EReal)) (fun p => (g p : EReal)) R k
      = long (fun p => (du p : EReal)) (fun p => (h p : EReal)) (fun p => (g p : EReal)) R k := by
  obtain ⟨a, ha, hA⟩ := mean_real h
  have hs : Real.sqrt a ≠ 0 := (Real.sqrt_pos.mpr ha).ne'
  have hρ : rho (fun p => (h p : EReal)) = (((Real.sqrt a)⁻¹ : ℝ) : EReal) := by
    unfold rho
    rw [hA, Ideal.rsqrt_coe, if_neg ha.le.not_gt, if_neg ha.ne']
  have hr : (Real.sqrt a)⁻¹ * (Real.sqrt a)⁻¹ * a = 1 := by
    rw [← mul_inv, Real.mul_self_sqrt ha.le, inv_mul_cancel₀ ha.ne']
  generalize (Real.sqrt a)⁻¹ = r at hρ hr
  have hT : ∑ q, (h q : EReal) * ((du q : EReal) * (g q : EReal)) = ((∑ q, h q * (du q * g q) : ℝ) : EReal) :=
    dot_real _ _ h (fun q => du q * g q) (fun _ => rfl) (fun _ => (EReal.coe_mul _ _).symm)
  have hS : ∑ q, ((du q : EReal) * (g q : EReal)) * ((h q : EReal) * (r : EReal)) = ((∑ q, (du q * g q) * (h q * r) : ℝ) : EReal) :=
    dot_real _ _ (fun q => du q * g q) (fun q => h q * r) (fun _ => (EReal.coe_mul _ _).symm) (fun _ => (EReal.coe_mul _ _).symm)
  have hST : (∑ q, (du q * g q) * (h q * r) : ℝ) = r * ∑ q, h q * (du q * g q) := by
    rw [Finset.mul_sum]; exact Finset.sum_congr rfl fun q _ => by ring
  unfold short long factor
  rw [hρ, hA, hT, hS, c1024, chalf, Ideal.div_coe (by norm_num), Ideal.div_coe ha.ne', Ideal.div_coe (by norm_num)]
  simp only [← EReal.coe_mul, ← EReal.coe_sub]
  rw [add_assoc, add_assoc, ← EReal.coe_add, ← EReal.coe_add]
  refine congrArg (R + ·) (congrArg Real.toEReal ?_)
  rw [← add_assoc]
  exact real_eq _ _ _ _ _ _ _ hr ha.ne' hST

/-- A function of the first `n` numbers, by nothing beyond. -/
def ext {n : ℕ} (f : Fin n → EReal) (p : ℕ) : EReal := if h : p < n then f ⟨p, h⟩ else 0

theorem ext_of {n : ℕ} (f : Fin n → EReal) (p : ℕ) (h : p < n) : ext f p = f ⟨p, h⟩ := dif_pos h

theorem sum_ext {n : ℕ} (f : Fin n → EReal) : ∑ p ∈ Finset.range n, ext f p = ∑ p, f p := by
  rw [Finset.sum_range]
  exact Finset.sum_congr rfl fun p _ => ext_of f p.val p.isLt

/-- One more block of a sum. -/
theorem sum_block {n b : ℕ} (f : Fin n → EReal) (q : ℕ) (hq : q + b ≤ n) :
    ∑ p ∈ Finset.range (q + b), ext f p = ∑ p ∈ Finset.range q, ext f p + ∑ p : Fin b, f ⟨q + p.val, by omega⟩ := by
  rw [Finset.sum_range_add, Finset.sum_range (fun x => ext f (q + x))]
  exact congrArg _ (Finset.sum_congr rfl fun p _ => ext_of f _ (by omega))

end Cert.RmsMath

end
-- ==== Proof.PoolGateBlock.lean ====
/- What a point of the pooling gate's kernel stores, at an index. -/
module

public import Idealize.ShloMosaic.Lib.Pointwise
public import Idealize.ShloMosaic.Lib.Pipeline.ValueKit.Acc
public import proofs.«01_k».proof.Proof.Gen.PoolGateKernelIdeal.Value
public import proofs.«01_k».proof.Proof.RmsMath

@[expose] public section

noncomputable section

namespace Cert.PoolGateBlock

open Cert.PoolGateKernelIdeal Cert.PoolGateKernelIdeal.Gen Idealize.ShloMosaic

set_option maxRecDepth 16384

/-- The logistic function as the kernel computes it. -/
abbrev sg (z : EReal) : EReal := Ideal.div 1 (1 + Ideal.exp (-z))

/-- The gradient of the mixed lanes, -/
def dmVal (acc z s : EReal) : EReal := acc * s * (z * sg z)

/-- the gradient of the gate's argument, -/
def dzVal (acc o z s : EReal) : EReal := (acc * o * s) * (sg z * (1 + z * (1 - sg z)))

/-- and what a row gives to the gradient of the scale. -/
def dsVal (acc o z : EReal) : EReal := acc * o * (z * sg z)

/-- The rows of the product's gradient. -/
def dot (u0 u1 : FVec Ideal S1024x1024 .bf16) (a b : Fin 1024) : EReal := ∑ p : Fin 1024, u0 (ix2 a p) * u1 (ix2 b p)

def dsRow (u0 u1 u2 u3 : FVec Ideal S1024x1024 .bf16) (b : Fin 1024) (a : Fin 1024) : EReal := dsVal (dot u0 u1 a b) (u3 (ix2 a b)) (u2 (ix2 a b))

/-- The two blocks of the per-row results as functions of the blocks read. -/
def dm5 (u0 u1 u2 : FVec Ideal S1024x1024 .bf16) (u4 : FVec Ideal S1x1024 .f32) : FVec Ideal S1024x1024 .bf16 :=
  fun i => dmVal (dot u0 u1 (i 0) (i 1)) (u2 i) (u4 (ix2 (0 : Fin 1) (i 1)))

def dz6 (u0 u1 u2 u3 : FVec Ideal S1024x1024 .bf16) (u4 : FVec Ideal S1x1024 .f32) : FVec Ideal S1024x1024 .bf16 :=
  fun i => dzVal (dot u0 u1 (i 0) (i 1)) (u3 i) (u2 i) (u4 (ix2 (0 : Fin 1) (i 1)))

/-- The rows from 0 on. -/
abbrev R0 : Rect S1024x1024 := Rect.unit ![0, 0] ![256, 1024] inb_S1024x1024_S256x1024_0_0

theorem emb0 (a : Fin 256) (b : Fin 1024) : R0.emb (ix2 a b) = (ix2 (⟨0 + a.val, by omega⟩ : Fin 1024) b : S1024x1024.Idx) := by
  funext k; apply Fin.ext
  match k with
  | ⟨0, _⟩ => show 0 + 1 * a.val = 0 + a.val; omega
  | ⟨1, _⟩ => show 0 + 1 * b.val = b.val; omega

theorem ld0 (x : FVec Ideal S1024x1024 .bf16) (a : Fin 256) (b : Fin 1024) :
    View.ld (Val := Elt Ideal) (e' := .bf16) x R0 (ix2 a b) = x (ix2 ⟨0 + a.val, by omega⟩ b) := congrArg x (emb0 a b)

/-- The rows from 256 on. -/
abbrev R256 : Rect S1024x1024 := Rect.unit ![256, 0] ![256, 1024] inb_S1024x1024_S256x1024_256_0

theorem emb256 (a : Fin 256) (b : Fin 1024) : R256.emb (ix2 a b) = (ix2 (⟨256 + a.val, by omega⟩ : Fin 1024) b : S1024x1024.Idx) := by
  funext k; apply Fin.ext
  match k with
  | ⟨0, _⟩ => show 256 + 1 * a.val = 256 + a.val; omega
  | ⟨1, _⟩ => show 0 + 1 * b.val = b.val; omega

theorem ld256 (x : FVec Ideal S1024x1024 .bf16) (a : Fin 256) (b : Fin 1024) :
    View.ld (Val := Elt Ideal) (e' := .bf16) x R256 (ix2 a b) = x (ix2 ⟨256 + a.val, by omega⟩ b) := congrArg x (emb256 a b)

/-- The rows from 512 on. -/
abbrev R512 : Rect S1024x1024 := Rect.unit ![512, 0] ![256, 1024] inb_S1024x1024_S256x1024_512_0

theorem emb512 (a : Fin 256) (b : Fin 1024) : R512.emb (ix2 a b) = (ix2 (⟨512 + a.val, by omega⟩ : Fin 1024) b : S1024x1024.Idx) := by
  funext k; apply Fin.ext
  match k with
  | ⟨0, _⟩ => show 512 + 1 * a.val = 512 + a.val; omega
  | ⟨1, _⟩ => show 0 + 1 * b.val = b.val; omega

theorem ld512 (x : FVec Ideal S1024x1024 .bf16) (a : Fin 256) (b : Fin 1024) :
    View.ld (Val := Elt Ideal) (e' := .bf16) x R512 (ix2 a b) = x (ix2 ⟨512 + a.val, by omega⟩ b) := congrArg x (emb512 a b)

/-- The rows from 768 on. -/
abbrev R768 : Rect S1024x1024 := Rect.unit ![768, 0] ![256, 1024] inb_S1024x1024_S256x1024_768_0

theorem emb768 (a : Fin 256) (b : Fin 1024) : R768.emb (ix2 a b) = (ix2 (⟨768 + a.val, by omega⟩ : Fin 1024) b : S1024x1024.Idx) := by
  funext k; apply Fin.ext
  match k with
  | ⟨0, _⟩ => show 768 + 1 * a.val = 768 + a.val; omega
  | ⟨1, _⟩ => show 0 + 1 * b.val = b.val; omega

theorem ld768 (x : FVec Ideal S1024x1024 .bf16) (a : Fin 256) (b : Fin 1024) :
    View.ld (Val := Elt Ideal) (e' := .bf16) x R768 (ix2 a b) = x (ix2 ⟨768 + a.val, by omega⟩ b) := congrArg x (emb768 a b)

theorem dm_0 (s : FVec Ideal S1x1024 .f32) (v0 v3 : FVec Ideal S256x1024 .bf16) (v1 : FVec Ideal S1024x1024 .bf16) (a : Fin 256) (b : Fin 1024) :
    k0_pay10 (F := Ideal) s v0 v1 v3 (ix2 a b) = dmVal (∑ p, v0 (ix2 a p) * v1 (ix2 b p)) (v3 (ix2 a b)) (s (ix2 (0 : Fin 1) b)) := by
  unfold dmVal sg
  pointwise [k0_pay4, k0_pay5, k0_pay6, k0_pay7, k0_pay8, k0_pay9, k0_pay10, k0_pay11, k0_pay12, k0_pay13]
  simp only [zero_sub]

theorem dz_0 (s : FVec Ideal S1x1024 .f32) (v0 v3 v4 : FVec Ideal S256x1024 .bf16) (v1 : FVec Ideal S1024x1024 .bf16) (a : Fin 256) (b : Fin 1024) :
    k0_pay12 (F := Ideal) (k0_pay6 v3) (k0_pay7 v3) (k0_pay11 s v0 v1 v4) (FloatOps.ofBits FTy.f32 1065353216#32) (ix2 a b) = dzVal (∑ p, v0 (ix2 a p) * v1 (ix2 b p)) (v4 (ix2 a b)) (v3 (ix2 a b)) (s (ix2 (0 : Fin 1) b)) := by
  unfold dzVal sg
  pointwise [k0_pay4, k0_pay5, k0_pay6, k0_pay7, k0_pay8, k0_pay9, k0_pay10, k0_pay11, k0_pay12, k0_pay13]
  simp only [zero_sub]

theorem ds_0 (w : FVec Ideal S1x1024 .f32) (v0 v3 v4 : FVec Ideal S256x1024 .bf16) (v1 : FVec Ideal S1024x1024 .bf16) (b : Fin 1024) :
    k0_pay13 (F := Ideal) (k0_pay4 w) (k0_pay5 v0 v1) (k0_pay8 v3) (k0_pay9 v4) (ix2 (0 : Fin 1) b) = w (ix2 (0 : Fin 1) b) + ∑ a : Fin 256, dsVal (∑ p, v0 (ix2 a p) * v1 (ix2 b p)) (v4 (ix2 a b)) (v3 (ix2 a b)) := by
  unfold dsVal sg
  pointwise [k0_pay4, k0_pay5, k0_pay6, k0_pay7, k0_pay8, k0_pay9, k0_pay10, k0_pay11, k0_pay12, k0_pay13]
  simp only [zero_sub]

theorem dm_256 (s : FVec Ideal S1x1024 .f32) (v0 v3 : FVec Ideal S256x1024 .bf16) (v1 : FVec Ideal S1024x1024 .bf16) (a : Fin 256) (b : Fin 1024) :
    k0_pay19 (F := Ideal) s v0 v1 v3 (ix2 a b) = dmVal (∑ p, v0 (ix2 a p) * v1 (ix2 b p)) (v3 (ix2 a b)) (s (ix2 (0 : Fin 1) b)) := by
  unfold dmVal sg
  pointwise [k0_pay14, k0_pay15, k0_pay16, k0_pay17, k0_pay18, k0_pay19, k0_pay20, k0_pay21, k0_pay22, k0_pay23]
  simp only [zero_sub]

theorem dz_256 (s : FVec Ideal S1x1024 .f32) (v0 v3 v4 : FVec Ideal S256x1024 .bf16) (v1 : FVec Ideal S1024x1024 .bf16) (a : Fin 256) (b : Fin 1024) :
    k0_pay22 (F := Ideal) (k0_pay15 v3) (k0_pay16 v3) (k0_pay20 s v0 v1 v4) (k0_pay21 v3) (ix2 a b) = dzVal (∑ p, v0 (ix2 a p) * v1 (ix2 b p)) (v4 (ix2 a b)) (v3 (ix2 a b)) (s (ix2 (0 : Fin 1) b)) := by
  unfold dzVal sg
  pointwise [k0_pay14, k0_pay15, k0_pay16, k0_pay17, k0_pay18, k0_pay19, k0_pay20, k0_pay21, k0_pay22, k0_pay23]
  simp only [zero_sub]

theorem ds_256 (w : FVec Ideal S1x1024 .f32) (v0 v3 v4 : FVec Ideal S256x1024 .bf16) (v1 : FVec Ideal S1024x1024 .bf16) (b : Fin 1024) :
    k0_pay23 (F := Ideal) w (k0_pay14 v0 v1) (k0_pay17 v3) (k0_pay18 v4) (ix2 (0 : Fin 1) b) = w (ix2 (0 : Fin 1) b) + ∑ a : Fin 256, dsVal (∑ p, v0 (ix2 a p) * v1 (ix2 b p)) (v4 (ix2 a b)) (v3 (ix2 a b)) := by
  unfold dsVal sg
  pointwise [k0_pay14, k0_pay15, k0_pay16, k0_pay17, k0_pay18, k0_pay19, k0_pay20, k0_pay21, k0_pay22, k0_pay23]
  simp only [zero_sub]

theorem dm_512 (s : FVec Ideal S1x1024 .f32) (v0 v3 : FVec Ideal S256x1024 .bf16) (v1 : FVec Ideal S1024x1024 .bf16) (a : Fin 256) (b : Fin 1024) :
    k0_pay29 (F := Ideal) s v0 v1 v3 (ix2 a b) = dmVal (∑ p, v0 (ix2 a p) * v1 (ix2 b p)) (v3 (ix2 a b)) (s (ix2 (0 : Fin 1) b)) := by
  unfold dmVal sg
  pointwise [k0_pay24, k0_pay25, k0_pay26, k0_pay27, k0_pay28, k0_pay29, k0_pay30, k0_pay31, k0_pay32, k0_pay33]
  simp only [zero_sub]

theorem dz_512 (s : FVec Ideal S1x1024 .f32) (v0 v3 v4 : FVec Ideal S256x1024 .bf16) (v1 : FVec Ideal S1024x1024 .bf16) (a : Fin 256) (b : Fin 1024) :
    k0_pay32 (F := Ideal) (k0_pay26 v3) (k0_pay30 s v0 v1 v4) (k0_pay31 v3) (FloatOps.ofBits FTy.f32 1065353216#32) (ix2 a b) = dzVal (∑ p, v0 (ix2 a p) * v1 (ix2 b p)) (v4 (ix2 a b)) (v3 (ix2 a b)) (s (ix2 (0 : Fin 1) b)) := by
  unfold dzVal sg
  pointwise [k0_pay24, k0_pay25, k0_pay26, k0_pay27, k0_pay28, k0_pay29, k0_pay30, k0_pay31, k0_pay32, k0_pay33]
  simp only [zero_sub]

theorem ds_512 (w : FVec Ideal S1x1024 .f32) (v0 v3 v4 : FVec Ideal S256x1024 .bf16) (v1 : FVec Ideal S1024x1024 .bf16) (b : Fin 1024) :
    k0_pay33 (F := Ideal) w (k0_pay24 v0 v1) (k0_pay27 v3) (k0_pay28 v4) (ix2 (0 : Fin 1) b) = w (ix2 (0 : Fin 1) b) + ∑ a : Fin 256, dsVal (∑ p, v0 (ix2 a p) * v1 (ix2 b p)) (v4 (ix2 a b)) (v3 (ix2 a b)) := by
  unfold dsVal sg
  pointwise [k0_pay24, k0_pay25, k0_pay26, k0_pay27, k0_pay28, k0_pay29, k0_pay30, k0_pay31, k0_pay32, k0_pay33]
  simp only [zero_sub]

theorem dm_768 (s : FVec Ideal S1x1024 .f32) (v0 v3 : FVec Ideal S256x1024 .bf16) (v1 : FVec Ideal S1024x1024 .bf16) (a : Fin 256) (b : Fin 1024) :
    k0_pay39 (F := Ideal) s v0 v1 v3 (ix2 a b) = dmVal (∑ p, v0 (ix2 a p) * v1 (ix2 b p)) (v3 (ix2 a b)) (s (ix2 (0 : Fin 1) b)) := by
  unfold dmVal sg
  pointwise [k0_pay1, k0_pay2, k0_pay34, k0_pay35, k0_pay36, k0_pay37, k0_pay38, k0_pay39, k0_pay40, k0_pay41]
  simp only [zero_sub]

theorem dz_768 (s : FVec Ideal S1x1024 .f32) (v0 v3 v4 : FVec Ideal S256x1024 .bf16) (v1 : FVec Ideal S1024x1024 .bf16) (a : Fin 256) (b : Fin 1024) :
    k0_pay1 (F := Ideal) (k0_pay36 v3) (k0_pay40 s v0 v1 v4) (k0_pay41 v3) (ix2 a b) = dzVal (∑ p, v0 (ix2 a p) * v1 (ix2 b p)) (v4 (ix2 a b)) (v3 (ix2 a b)) (s (ix2 (0 : Fin 1) b)) := by
  unfold dzVal sg
  pointwise [k0_pay1, k0_pay2, k0_pay34, k0_pay35, k0_pay36, k0_pay37, k0_pay38, k0_pay39, k0_pay40, k0_pay41]
  simp only [zero_sub]

theorem ds_768 (w : FVec Ideal S1x1024 .f32) (v0 v3 v4 : FVec Ideal S256x1024 .bf16) (v1 : FVec Ideal S1024x1024 .bf16) (b : Fin 1024) :
    k0_pay2 (F := Ideal) w (k0_pay34 v0 v1) (k0_pay37 v3) (k0_pay38 v4) (ix2 (0 : Fin 1) b) = w (ix2 (0 : Fin 1) b) + ∑ a : Fin 256, dsVal (∑ p, v0 (ix2 a p) * v1 (ix2 b p)) (v4 (ix2 a b)) (v3 (ix2 a b)) := by
  unfold dsVal sg
  pointwise [k0_pay1, k0_pay2, k0_pay34, k0_pay35, k0_pay36, k0_pay37, k0_pay38, k0_pay39, k0_pay40, k0_pay41]
  simp only [zero_sub]

/-- Four pieces over the four blocks of rows cover the block. -/
theorem cover (p0 : Vec Ideal S256x1024 .bf16) (p1 : Vec Ideal S256x1024 .bf16) (p2 : Vec Ideal S256x1024 .bf16) (p3 : Vec Ideal S256x1024 .bf16) (y : S1024x1024.Idx) :
    ∃ pc ∈ ([⟨R768, p3⟩, ⟨R512, p2⟩, ⟨R256, p1⟩, ⟨R0, p0⟩] : List (View.Piece (Elt Ideal) S1024x1024 .bf16)), y ∈ pc.1.set := by
  have h0 : (y 0).val < 1024 := (y 0).isLt
  have h1 : (y 1).val < 1024 := (y 1).isLt
  have key : ∀ (o : ℕ) (inb : ∀ a, (![o, 0] : Fin 2 → ℕ) a + (![256, 1024] : Fin 2 → ℕ) a ≤ S1024x1024.size a), o ≤ (y 0).val → (y 0).val < o + 256 →
      y ∈ (Rect.unit (s := S1024x1024) ![o, 0] ![256, 1024] inb).set := fun o inb ha hb => by
    rw [Rect.mem_set_unit]
    intro a
    match a with
    | ⟨0, _⟩ => exact ⟨ha, hb⟩
    | ⟨1, _⟩ => exact ⟨Nat.zero_le _, show (y 1).val < 0 + 1024 by omega⟩
  by_cases c3 : 768 ≤ (y 0).val
  · exact ⟨_, .head _, key 768 inb_S1024x1024_S256x1024_768_0 c3 (by omega)⟩
  by_cases c2 : 512 ≤ (y 0).val
  · exact ⟨_, .tail _ (.head _), key 512 inb_S1024x1024_S256x1024_512_0 c2 (by omega)⟩
  by_cases c1 : 256 ≤ (y 0).val
  · exact ⟨_, .tail _ (.tail _ (.head _)), key 256 inb_S1024x1024_S256x1024_256_0 c1 (by omega)⟩
  · exact ⟨_, .tail _ (.tail _ (.tail _ (.head _))), key 0 inb_S1024x1024_S256x1024_0_0 (Nat.zero_le _) (by omega)⟩

theorem out5 (u0 u1 u2 u3 : FVec Ideal S1024x1024 .bf16) (u4 : FVec Ideal S1x1024 .f32) :
    View.canon (Val := Elt Ideal) (s := S1024x1024) (e := .bf16) [⟨R768, k0_pay39 (F := Ideal) u4 (View.ld (Val := Elt Ideal) (e' := .bf16) u0 R768) u1 (View.ld (Val := Elt Ideal) (e' := .bf16) u2 R768)⟩,
      ⟨R512, k0_pay29 (F := Ideal) u4 (View.ld (Val := Elt Ideal) (e' := .bf16) u0 R512) u1 (View.ld (Val := Elt Ideal) (e' := .bf16) u2 R512)⟩,
      ⟨R256, k0_pay19 (F := Ideal) u4 (View.ld (Val := Elt Ideal) (e' := .bf16) u0 R256) u1 (View.ld (Val := Elt Ideal) (e' := .bf16) u2 R256)⟩,
      ⟨R0, k0_pay10 (F := Ideal) u4 (View.ld (Val := Elt Ideal) (e' := .bf16) u0 R0) u1 (View.ld (Val := Elt Ideal) (e' := .bf16) u2 R0)⟩] = dm5 u0 u1 u2 u4 := by
  funext y
  refine View.canon_apply_of_pieces (Val := Elt Ideal) (dm5 u0 u1 u2 u4) _ (fun p hp => ?_) y (cover _ _ _ _ y)
  rcases List.mem_cons.mp hp with rfl | hp
  · intro x
    change S256x1024.Idx at x
    idx_vars x
    refine (dm_768 _ _ _ _ _ _).trans ?_
    refine Eq.trans ?_ (congrArg (dm5 u0 u1 u2 u4) (emb768 _ _)).symm
    exact congr (congrArg₂ dmVal (Finset.sum_congr rfl fun p _ => congrArg (fun q : EReal => q * u1 (ix2 _ p)) (ld768 u0 _ p)) (ld768 u2 _ _)) rfl
  rcases List.mem_cons.mp hp with rfl | hp
  · intro x
    change S256x1024.Idx at x
    idx_vars x
    refine (dm_512 _ _ _ _ _ _).trans ?_
    refine Eq.trans ?_ (congrArg (dm5 u0 u1 u2 u4) (emb512 _ _)).symm
    exact congr (congrArg₂ dmVal (Finset.sum_congr rfl fun p _ => congrArg (fun q : EReal => q * u1 (ix2 _ p)) (ld512 u0 _ p)) (ld512 u2 _ _)) rfl
  rcases List.mem_cons.mp hp with rfl | hp
  · intro x
    change S256x1024.Idx at x
    idx_vars x
    refine (dm_256 _ _ _ _ _ _).trans ?_
    refine Eq.trans ?_ (congrArg (dm5 u0 u1 u2 u4) (emb256 _ _)).symm
    exact congr (congrArg₂ dmVal (Finset.sum_congr rfl fun p _ => congrArg (fun q : EReal => q * u1 (ix2 _ p)) (ld256 u0 _ p)) (ld256 u2 _ _)) rfl
  rcases List.mem_cons.mp hp with rfl | hp
  · intro x
    change S256x1024.Idx at x
    idx_vars x
    refine (dm_0 _ _ _ _ _ _).trans ?_
    refine Eq.trans ?_ (congrArg (dm5 u0 u1 u2 u4) (emb0 _ _)).symm
    exact congr (congrArg₂ dmVal (Finset.sum_congr rfl fun p _ => congrArg (fun q : EReal => q * u1 (ix2 _ p)) (ld0 u0 _ p)) (ld0 u2 _ _)) rfl
  · exact absurd hp List.not_mem_nil

theorem out6 (u0 u1 u2 u3 : FVec Ideal S1024x1024 .bf16) (u4 : FVec Ideal S1x1024 .f32) :
    View.canon (Val := Elt Ideal) (s := S1024x1024) (e := .bf16) [⟨R768, k0_pay1 (F := Ideal) (k0_pay36 (View.ld (Val := Elt Ideal) (e' := .bf16) u2 R768)) (k0_pay40 u4 (View.ld (Val := Elt Ideal) (e' := .bf16) u0 R768) u1 (View.ld (Val := Elt Ideal) (e' := .bf16) u3 R768)) (k0_pay41 (View.ld (Val := Elt Ideal) (e' := .bf16) u2 R768))⟩,
      ⟨R512, k0_pay32 (F := Ideal) (k0_pay26 (View.ld (Val := Elt Ideal) (e' := .bf16) u2 R512)) (k0_pay30 u4 (View.ld (Val := Elt Ideal) (e' := .bf16) u0 R512) u1 (View.ld (Val := Elt Ideal) (e' := .bf16) u3 R512)) (k0_pay31 (View.ld (Val := Elt Ideal) (e' := .bf16) u2 R512)) (FloatOps.ofBits FTy.f32 1065353216#32)⟩,
      ⟨R256, k0_pay22 (F := Ideal) (k0_pay15 (View.ld (Val := Elt Ideal) (e' := .bf16) u2 R256)) (k0_pay16 (View.ld (Val := Elt Ideal) (e' := .bf16) u2 R256)) (k0_pay20 u4 (View.ld (Val := Elt Ideal) (e' := .bf16) u0 R256) u1 (View.ld (Val := Elt Ideal) (e' := .bf16) u3 R256)) (k0_pay21 (View.ld (Val := Elt Ideal) (e' := .bf16) u2 R256))⟩,
      ⟨R0, k0_pay12 (F := Ideal) (k0_pay6 (View.ld (Val := Elt Ideal) (e' := .bf16) u2 R0)) (k0_pay7 (View.ld (Val := Elt Ideal) (e' := .bf16) u2 R0)) (k0_pay11 u4 (View.ld (Val := Elt Ideal) (e' := .bf16) u0 R0) u1 (View.ld (Val := Elt Ideal) (e' := .bf16) u3 R0)) (FloatOps.ofBits FTy.f32 1065353216#32)⟩] = dz6 u0 u1 u2 u3 u4 := by
  funext y
  refine View.canon_apply_of_pieces (Val := Elt Ideal) (dz6 u0 u1 u2 u3 u4) _ (fun p hp => ?_) y (cover _ _ _ _ y)
  rcases List.mem_cons.mp hp with rfl | hp
  · intro x
    change S256x1024.Idx at x
    idx_vars x
    refine (dz_768 _ _ _ _ _ _ _).trans ?_
    refine Eq.trans ?_ (congrArg (dz6 u0 u1 u2 u3 u4) (emb768 _ _)).symm
    exact congr (congr (congrArg₂ dzVal (Finset.sum_congr rfl fun p _ => congrArg (fun q : EReal => q * u1 (ix2 _ p)) (ld768 u0 _ p)) (ld768 u3 _ _)) (ld768 u2 _ _)) rfl
  rcases List.mem_cons.mp hp with rfl | hp
  · intro x
    change S256x1024.Idx at x
    idx_vars x
    refine (dz_512 _ _ _ _ _ _ _).trans ?_
    refine Eq.trans ?_ (congrArg (dz6 u0 u1 u2 u3 u4) (emb512 _ _)).symm
    exact congr (congr (congrArg₂ dzVal (Finset.sum_congr rfl fun p _ => congrArg (fun q : EReal => q * u1 (ix2 _ p)) (ld512 u0 _ p)) (ld512 u3 _ _)) (ld512 u2 _ _)) rfl
  rcases List.mem_cons.mp hp with rfl | hp
  · intro x
    change S256x1024.Idx at x
    idx_vars x
    refine (dz_256 _ _ _ _ _ _ _).trans ?_
    refine Eq.trans ?_ (congrArg (dz6 u0 u1 u2 u3 u4) (emb256 _ _)).symm
    exact congr (congr (congrArg₂ dzVal (Finset.sum_congr rfl fun p _ => congrArg (fun q : EReal => q * u1 (ix2 _ p)) (ld256 u0 _ p)) (ld256 u3 _ _)) (ld256 u2 _ _)) rfl
  rcases List.mem_cons.mp hp with rfl | hp
  · intro x
    change S256x1024.Idx at x
    idx_vars x
    refine (dz_0 _ _ _ _ _ _ _).trans ?_
    refine Eq.trans ?_ (congrArg (dz6 u0 u1 u2 u3 u4) (emb0 _ _)).symm
    exact congr (congr (congrArg₂ dzVal (Finset.sum_congr rfl fun p _ => congrArg (fun q : EReal => q * u1 (ix2 _ p)) (ld0 u0 _ p)) (ld0 u3 _ _)) (ld0 u2 _ _)) rfl
  · exact absurd hp List.not_mem_nil

/-- The lanes' sums of a point, in the order the kernel adds them. -/
def dsChain (w : Vec Ideal S1x1024 .f32) (u0 u1 u2 u3 : FVec Ideal S1024x1024 .bf16) (u4 : FVec Ideal S1x1024 .f32) : FVec Ideal S1x1024 .f32 :=
  k0_pay2 (F := Ideal) (k0_pay33 (F := Ideal) (k0_pay23 (F := Ideal) (k0_pay13 (F := Ideal) (k0_pay4 w) (k0_pay5 (View.ld (Val := Elt Ideal) (e' := .bf16) u0 R0) u1) (k0_pay8 (View.ld (Val := Elt Ideal) (e' := .bf16) u2 R0)) (k0_pay9 (View.ld (Val := Elt Ideal) (e' := .bf16) u3 R0))) (k0_pay14 (View.ld (Val := Elt Ideal) (e' := .bf16) u0 R256) u1) (k0_pay17 (View.ld (Val := Elt Ideal) (e' := .bf16) u2 R256)) (k0_pay18 (View.ld (Val := Elt Ideal) (e' := .bf16) u3 R256))) (k0_pay24 (View.ld (Val := Elt Ideal) (e' := .bf16) u0 R512) u1) (k0_pay27 (View.ld (Val := Elt Ideal) (e' := .bf16) u2 R512)) (k0_pay28 (View.ld (Val := Elt Ideal) (e' := .bf16) u3 R512))) (k0_pay34 (View.ld (Val := Elt Ideal) (e' := .bf16) u0 R768) u1) (k0_pay37 (View.ld (Val := Elt Ideal) (e' := .bf16) u2 R768)) (k0_pay38 (View.ld (Val := Elt Ideal) (e' := .bf16) u3 R768))

/-- They are the rows' terms on top of what was there. -/
theorem dsChain_eq (w : Vec Ideal S1x1024 .f32) (u0 u1 u2 u3 : FVec Ideal S1024x1024 .bf16) (u4 : FVec Ideal S1x1024 .f32) (b : Fin 1024) :
    dsChain w u0 u1 u2 u3 u4 (ix2 (0 : Fin 1) b) = w (ix2 (0 : Fin 1) b) + ∑ a : Fin 1024, dsRow u0 u1 u2 u3 b a := by
  have part : ∀ (o : ℕ) (ho : o + 256 ≤ 1024),
      ∑ p ∈ Finset.range (o + 256), RmsMath.ext (dsRow u0 u1 u2 u3 b) p = ∑ p ∈ Finset.range o, RmsMath.ext (dsRow u0 u1 u2 u3 b) p + ∑ a : Fin 256, dsRow u0 u1 u2 u3 b ⟨o + a.val, by omega⟩ :=
    fun o ho => RmsMath.sum_block _ o ho
  rw [← RmsMath.sum_ext (dsRow u0 u1 u2 u3 b), part 768 (by omega), part 512 (by omega), part 256 (by omega), part 0 (by omega), Finset.sum_range_zero, zero_add]
  simp only [← add_assoc]
  unfold dsChain
  refine (ds_768 _ _ _ _ _ _).trans (congrArg₂ (fun p q : EReal => p + q) ((ds_512 _ _ _ _ _ _).trans (congrArg₂ (fun p q : EReal => p + q) ((ds_256 _ _ _ _ _ _).trans
    (congrArg₂ (fun p q : EReal => p + q) ((ds_0 _ _ _ _ _ _).trans (congrArg (w (ix2 (0 : Fin 1) b) + ·) ?_)) ?_)) ?_)) ?_)
  · exact Finset.sum_congr rfl fun a _ => congr (congrArg₂ dsVal (Finset.sum_congr rfl fun p _ => congrArg (fun q : EReal => q * u1 (ix2 _ p)) (ld0 u0 _ p)) (ld0 u3 _ _)) (ld0 u2 _ _)
  · exact Finset.sum_congr rfl fun a _ => congr (congrArg₂ dsVal (Finset.sum_congr rfl fun p _ => congrArg (fun q : EReal => q * u1 (ix2 _ p)) (ld256 u0 _ p)) (ld256 u3 _ _)) (ld256 u2 _ _)
  · exact Finset.sum_congr rfl fun a _ => congr (congrArg₂ dsVal (Finset.sum_congr rfl fun p _ => congrArg (fun q : EReal => q * u1 (ix2 _ p)) (ld512 u0 _ p)) (ld512 u3 _ _)) (ld512 u2 _ _)
  · exact Finset.sum_congr rfl fun a _ => congr (congrArg₂ dsVal (Finset.sum_congr rfl fun p _ => congrArg (fun q : EReal => q * u1 (ix2 _ p)) (ld768 u0 _ p)) (ld768 u3 _ _)) (ld768 u2 _ _)

end Cert.PoolGateBlock

end
-- ==== Proof.PoolGateArray.lean ====
/- The pooling gate's three result arrays after the run. -/
module

public import proofs.«01_k».proof.Proof.PoolGateBlock
public import Idealize.ShloMosaic.Lib.WritesUnit

@[expose] public section

noncomputable section

namespace Cert.PoolGateArray

open Cert.PoolGateKernelIdeal Cert.PoolGateKernelIdeal.Gen Cert.PoolGateKernelIdeal.Value Idealize.ShloMosaic
open Cert.PoolGateBlock

set_option maxRecDepth 16384

variable (m : (ℓ : Loc nD τ sig) → Buf (Elt Ideal) ℓ)

/-- The launch contents of the five arguments. -/
abbrev arg0 (c : Dev nD) : FVec Ideal S4096x1024 .bf16 := m (c.tc.loc main_arg0)
abbrev arg1 (c : Dev nD) : FVec Ideal S2048x1024 .bf16 := m (c.tc.loc main_arg1)
abbrev arg2 (c : Dev nD) : FVec Ideal S4096x4096 .bf16 := m (c.tc.loc main_arg2)
abbrev arg3 (c : Dev nD) : FVec Ideal S4096x2048 .bf16 := m (c.tc.loc main_arg3)
abbrev arg4 (c : Dev nD) : FVec Ideal S1x2048 .f32 := m (c.tc.loc main_arg4)

theorem ltN (t : Fin grid0.N) : t.val < 8 := t.isLt

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = (2 + t.val % 2) := by decide +kernel
theorem idx3 : ∀ t : Fin grid0.N, win0_3.index t 0 = t.val / 2 ∧ win0_3.index t 1 = t.val % 2 := by decide +kernel
theorem idx4 : ∀ t : Fin grid0.N, win0_4.index t 0 = 0 ∧ win0_4.index t 1 = t.val % 2 := by decide +kernel
theorem idx5 : ∀ t : Fin grid0.N, win0_5.index t 0 = t.val / 2 ∧ win0_5.index t 1 = t.val % 2 := by decide +kernel
theorem idx6 : ∀ t : Fin grid0.N, win0_6.index t 0 = t.val / 2 ∧ win0_6.index t 1 = (2 + t.val % 2) := by decide +kernel
theorem idx7 : ∀ t : Fin grid0.N, win0_7.index t 0 = 0 ∧ win0_7.index t 1 = 0 := by decide +kernel
theorem xsz5 : ∀ t : Fin grid0.N, win0_5.xsize (grid0.coords t) 0 = 1024 ∧ win0_5.xsize (grid0.coords t) 1 = 1024 := by decide +kernel
theorem xsz6 : ∀ t : Fin grid0.N, win0_6.xsize (grid0.coords t) 0 = 1024 ∧ win0_6.xsize (grid0.coords t) 1 = 1024 := by decide +kernel
theorem xsz7 : ∀ t : Fin grid0.N, win0_7.xsize (grid0.coords t) 0 = 1 ∧ win0_7.xsize (grid0.coords t) 1 = 2048 := by decide +kernel
theorem off_eq : ∀ t : Fin grid0.N, k0_off1 (grid0.coords t) = ![0, t.val % 2 * 1024] := by decide +kernel

theorem iblk0 (c : Dev nD) (t : Fin grid0.N) (r : Fin 1024) (k : Fin 1024) :
    iblk m c 0 t (ix2 r k) = arg0 m c (ix2 ⟨t.val / 2 * 1024 + r.val, by have := ltN t; omega⟩ ⟨0 * 1024 + k.val, by have := ltN t; omega⟩) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 1024 + 1 * r.val = t.val / 2 * 1024 + r.val; rw [hi.1]; omega
  | ⟨1, _⟩ => show win0_0.index t 1 * 1024 + 1 * k.val = 0 * 1024 + k.val; rw [hi.2]; omega

theorem iblk1 (c : Dev nD) (t : Fin grid0.N) (r : Fin 1024) (k : Fin 1024) :
    iblk m c 1 t (ix2 r k) = arg1 m c (ix2 ⟨t.val % 2 * 1024 + r.val, by have := ltN t; omega⟩ ⟨0 * 1024 + k.val, by have := ltN t; omega⟩) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 1024 + 1 * r.val = t.val % 2 * 1024 + r.val; rw [hi.1]; omega
  | ⟨1, _⟩ => show win0_1.index t 1 * 1024 + 1 * k.val = 0 * 1024 + k.val; rw [hi.2]; omega

theorem iblk2 (c : Dev nD) (t : Fin grid0.N) (r : Fin 1024) (k : Fin 1024) :
    iblk m c 2 t (ix2 r k) = arg2 m c (ix2 ⟨t.val / 2 * 1024 + r.val, by have := ltN t; omega⟩ ⟨(2 + t.val % 2) * 1024 + k.val, by have := ltN t; omega⟩) := by
  have hi := idx2 t
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 1024 + 1 * r.val = t.val / 2 * 1024 + r.val; rw [hi.1]; omega
  | ⟨1, _⟩ => show win0_2.index t 1 * 1024 + 1 * k.val = (2 + t.val % 2) * 1024 + k.val; rw [hi.2]; omega

theorem iblk3 (c : Dev nD) (t : Fin grid0.N) (r : Fin 1024) (k : Fin 1024) :
    iblk m c 3 t (ix2 r k) = arg3 m c (ix2 ⟨t.val / 2 * 1024 + r.val, by have := ltN t; omega⟩ ⟨t.val % 2 * 1024 + k.val, by have := ltN t; omega⟩) := by
  have hi := idx3 t
  unfold iblk
  rw [View.read_apply]
  show V m c main_arg3 _ = _
  rw [V_main_arg3]
  refine congrArg (m (c.tc.loc main_arg3)) ?_
  funext a
  apply Fin.ext
  match a with
  | ⟨0, _⟩ => show win0_3.index t 0 * 1024 + 1 * r.val = t.val / 2 * 1024 + r.val; rw [hi.1]; omega
  | ⟨1, _⟩ => show win0_3.index t 1 * 1024 + 1 * k.val = t.val % 2 * 1024 + k.val; rw [hi.2]; omega

theorem iblk4 (c : Dev nD) (t : Fin grid0.N) (r : Fin 1) (k : Fin 1024) :
    iblk m c 4 t (ix2 r k) = arg4 m c (ix2 ⟨0 * 1 + r.val, by have := ltN t; omega⟩ ⟨t.val % 2 * 1024 + k.val, by have := ltN t; omega⟩) := by
  have hi := idx4 t
  unfold iblk
  rw [View.read_apply]
  show V m c main_arg4 _ = _
  rw [V_main_arg4]
  refine congrArg (m (c.tc.loc main_arg4)) ?_
  funext a
  apply Fin.ext
  match a with
  | ⟨0, _⟩ => show win0_4.index t 0 * 1 + 1 * r.val = 0 * 1 + r.val; rw [hi.1]; omega
  | ⟨1, _⟩ => show win0_4.index t 1 * 1024 + 1 * k.val = t.val % 2 * 1024 + k.val; rw [hi.2]; omega

/-- What the points store of the two per-row results. -/
theorem after5 (c : Dev nD) (t : Fin cfg0.N) : (outsAt0 m c t.val t.isLt).1 = dm5 (iblk m c 0 t) (iblk m c 1 t) (iblk m c 2 t) (iblk m c 4 t) := by
  by_cases h0 : t.val % 8 = 0
  · rw [outsAt0_A m c t h0]; dsimp only; frame_out; exact out5 _ _ _ (iblk m c 3 t) _
  · rw [outsAt0_B m c t h0]; dsimp only; frame_out; exact out5 _ _ _ (iblk m c 3 t) _

theorem after6 (c : Dev nD) (t : Fin cfg0.N) : (outsAt0 m c t.val t.isLt).2.1 = dz6 (iblk m c 0 t) (iblk m c 1 t) (iblk m c 2 t) (iblk m c 3 t) (iblk m c 4 t) := by
  by_cases h0 : t.val % 8 = 0
  · rw [outsAt0_A m c t h0]; dsimp only; frame_out; exact out6 _ _ _ _ _
  · rw [outsAt0_B m c t h0]; dsimp only; frame_out; exact out6 _ _ _ _ _

/-- Where a point's block of window 5 lies in its array. -/
theorem mem_blk5 (t : Fin grid0.N) (i : S4096x2048.Idx) :
    i ∈ ((cfg0.win 5).blk t).view.set ↔ (t.val / 2 * 1024 ≤ (i 0).val ∧ (i 0).val < t.val / 2 * 1024 + 1024) ∧ (t.val % 2 * 1024 ≤ (i 1).val ∧ (i 1).val < t.val % 2 * 1024 + 1024) := by
  show i ∈ ((View.whole main_v0_0).slice (win0_5.rect t)).set ↔ _
  rw [View.set_slice_whole, Rect.mem_set_unit]
  have e := idx5 t
  have x := xsz5 t
  refine ⟨fun h => ⟨?_, ?_⟩, fun h a => ?_⟩
  · have : win0_5.index t 0 * 1024 ≤ (i 0).val ∧ (i 0).val < win0_5.index t 0 * 1024 + win0_5.xsize (grid0.coords t) 0 := h 0
    rwa [e.1, x.1] at this
  · have : win0_5.index t 1 * 1024 ≤ (i 1).val ∧ (i 1).val < win0_5.index t 1 * 1024 + win0_5.xsize (grid0.coords t) 1 := h 1
    rwa [e.2, x.2] at this
  · match a with
    | ⟨0, _⟩ =>
      show win0_5.index t 0 * 1024 ≤ (i 0).val ∧ (i 0).val < win0_5.index t 0 * 1024 + win0_5.xsize (grid0.coords t) 0
      rw [e.1, x.1]; exact h.1
    | ⟨1, _⟩ =>
      show win0_5.index t 1 * 1024 ≤ (i 1).val ∧ (i 1).val < win0_5.index t 1 * 1024 + win0_5.xsize (grid0.coords t) 1
      rw [e.2, x.2]; exact h.2

/-- What a point writes to window 5. -/
theorem flushed_read5 (c : Dev nD) (t : Fin grid0.N) (G : S4096x2048.Idx → EReal)
    (h : ∀ (r k : Fin 1024), dm5 (iblk m c 0 t) (iblk m c 1 t) (iblk m c 2 t) (iblk m c 4 t) (ix2 r k) = G (ix2 ⟨t.val / 2 * 1024 + r.val, by have := ltN t; omega⟩ ⟨t.val % 2 * 1024 + k.val, by omega⟩)) :
    (dats m 0 c).flushed 5 t = ((cfg0.win 5).blk t).view.read (Elt Ideal) G := by
  rw [flushed5]
  funext y
  have e := idx5 t
  have x := xsz5 t
  have h0 : (y 0).val < 1024 := x.1 ▸ (y 0).isLt
  have h1 : (y 1).val < 1024 := x.2 ▸ (y 1).isLt
  have hj : (cfg0.win 5).xinj (grid0.coords t) y = ix2 (⟨(y 0).val, h0⟩ : Fin 1024) (⟨(y 1).val, h1⟩ : Fin 1024) := by
    funext a; apply Fin.ext
    match a with
    | ⟨0, _⟩ => rfl
    | ⟨1, _⟩ => rfl
  have hi : ((cfg0.win 5).blk t).view.emb y = (ix2 (⟨t.val / 2 * 1024 + (y 0).val, by have := ltN t; omega⟩) (⟨t.val % 2 * 1024 + (y 1).val, by omega⟩) : S4096x2048.Idx) := by
    funext a; apply Fin.ext
    match a with
    | ⟨0, _⟩ => show win0_5.index t 0 * 1024 + 1 * (y 0).val = t.val / 2 * 1024 + (y 0).val; rw [e.1]; omega
    | ⟨1, _⟩ => show win0_5.index t 1 * 1024 + 1 * (y 1).val = t.val % 2 * 1024 + (y 1).val; rw [e.2]; omega
  refine (congrArg (outsAt0 m c t.val t.isLt).1 hj).trans ?_
  refine (congrFun (after5 m c t) _).trans ((h _ _).trans ?_)
  exact (congrArg G hi).symm

/-- Where a point's block of window 6 lies in its array. -/
theorem mem_blk6 (t : Fin grid0.N) (i : S4096x4096.Idx) :
    i ∈ ((cfg0.win 6).blk t).view.set ↔ (t.val / 2 * 1024 ≤ (i 0).val ∧ (i 0).val < t.val / 2 * 1024 + 1024) ∧ ((2 + t.val % 2) * 1024 ≤ (i 1).val ∧ (i 1).val < (2 + t.val % 2) * 1024 + 1024) := by
  show i ∈ ((View.whole main_v0_1).slice (win0_6.rect t)).set ↔ _
  rw [View.set_slice_whole, Rect.mem_set_unit]
  have e := idx6 t
  have x := xsz6 t
  refine ⟨fun h => ⟨?_, ?_⟩, fun h a => ?_⟩
  · have : win0_6.index t 0 * 1024 ≤ (i 0).val ∧ (i 0).val < win0_6.index t 0 * 1024 + win0_6.xsize (grid0.coords t) 0 := h 0
    rwa [e.1, x.1] at this
  · have : win0_6.index t 1 * 1024 ≤ (i 1).val ∧ (i 1).val < win0_6.index t 1 * 1024 + win0_6.xsize (grid0.coords t) 1 := h 1
    rwa [e.2, x.2] at this
  · match a with
    | ⟨0, _⟩ =>
      show win0_6.index t 0 * 1024 ≤ (i 0).val ∧ (i 0).val < win0_6.index t 0 * 1024 + win0_6.xsize (grid0.coords t) 0
      rw [e.1, x.1]; exact h.1
    | ⟨1, _⟩ =>
      show win0_6.index t 1 * 1024 ≤ (i 1).val ∧ (i 1).val < win0_6.index t 1 * 1024 + win0_6.xsize (grid0.coords t) 1
      rw [e.2, x.2]; exact h.2

/-- What a point writes to window 6. -/
theorem flushed_read6 (c : Dev nD) (t : Fin grid0.N) (G : S4096x4096.Idx → EReal)
    (h : ∀ (r k : Fin 1024), dz6 (iblk m c 0 t) (iblk m c 1 t) (iblk m c 2 t) (iblk m c 3 t) (iblk m c 4 t) (ix2 r k) = G (ix2 ⟨t.val / 2 * 1024 + r.val, by have := ltN t; omega⟩ ⟨(2 + t.val % 2) * 1024 + k.val, by omega⟩)) :
    (dats m 0 c).flushed 6 t = ((cfg0.win 6).blk t).view.read (Elt Ideal) G := by
  rw [flushed6]
  funext y
  have e := idx6 t
  have x := xsz6 t
  have h0 : (y 0).val < 1024 := x.1 ▸ (y 0).isLt
  have h1 : (y 1).val < 1024 := x.2 ▸ (y 1).isLt
  have hj : (cfg0.win 6).xinj (grid0.coords t) y = ix2 (⟨(y 0).val, h0⟩ : Fin 1024) (⟨(y 1).val, h1⟩ : Fin 1024) := by
    funext a; apply Fin.ext
    match a with
    | ⟨0, _⟩ => rfl
    | ⟨1, _⟩ => rfl
  have hi : ((cfg0.win 6).blk t).view.emb y = (ix2 (⟨t.val / 2 * 1024 + (y 0).val, by have := ltN t; omega⟩) (⟨(2 + t.val % 2) * 1024 + (y 1).val, by omega⟩) : S4096x4096.Idx) := by
    funext a; apply Fin.ext
    match a with
    | ⟨0, _⟩ => show win0_6.index t 0 * 1024 + 1 * (y 0).val = t.val / 2 * 1024 + (y 0).val; rw [e.1]; omega
    | ⟨1, _⟩ => show win0_6.index t 1 * 1024 + 1 * (y 1).val = (2 + t.val % 2) * 1024 + (y 1).val; rw [e.2]; omega
  refine (congrArg (outsAt0 m c t.val t.isLt).2.1 hj).trans ?_
  refine (congrFun (after6 m c t) _).trans ((h _ _).trans ?_)
  exact (congrArg G hi).symm

/-- The product's gradient at a row and a lane. -/
def dy (c : Dev nD) (t : Fin 4096) (k : Fin 2048) : EReal := ∑ p : Fin 1024, arg0 m c (ix2 t p) * arg1 m c (ix2 k p)

/-- The gate's argument there. -/
def gateArg (c : Dev nD) (t : Fin 4096) (k : Fin 2048) : EReal := arg2 m c (ix2 t ⟨2048 + k.val, by omega⟩)

/-- The first result. -/
def dm_target (c : Dev nD) (i : S4096x2048.Idx) : EReal := dmVal (dy m c (i 0) (i 1)) (gateArg m c (i 0) (i 1)) (arg4 m c (ix2 (0 : Fin 1) (i 1)))

/-- The second result on the gate's lanes. -/
def dz_at (c : Dev nD) (t : Fin 4096) (k : Fin 2048) : EReal := dzVal (dy m c t k) (arg3 m c (ix2 t k)) (gateArg m c t k) (arg4 m c (ix2 (0 : Fin 1) k))

def dz_target (c : Dev nD) (i : S4096x4096.Idx) : EReal :=
  if h : 2048 ≤ (i 1).val then dz_at m c (i 0) ⟨(i 1).val - 2048, by have : (i 1).val < 4096 := (i 1).isLt; omega⟩ else 0

/-- A row's term of the third. -/
def laneAt (c : Dev nD) (k : Fin 2048) (t : Fin 4096) : EReal := dsVal (dy m c t k) (arg3 m c (ix2 t k)) (gateArg m c t k)

/-- A point's product is the arrays' product at its rows and lanes. -/
theorem dot_eq (c : Dev nD) (t : Fin grid0.N) (r k : Fin 1024) (R : Fin 4096) (K : Fin 2048) (hR : R.val = t.val / 2 * 1024 + r.val) (hK : K.val = t.val % 2 * 1024 + k.val) :
    dot (iblk m c 0 t) (iblk m c 1 t) r k = dy m c R K := by
  unfold dot dy
  refine Finset.sum_congr rfl fun p _ => congrArg₂ (fun a b : EReal => a * b) ((iblk0 m c t r p).trans ?_) ((iblk1 m c t k p).trans ?_)
  · exact congrArg (arg0 m c) (congrArg₂ ix2 (Fin.ext hR.symm) (Fin.ext (by show 0 * 1024 + p.val = p.val; omega)))
  · exact congrArg (arg1 m c) (congrArg₂ ix2 (Fin.ext hK.symm) (Fin.ext (by show 0 * 1024 + p.val = p.val; omega)))

theorem z_eq (c : Dev nD) (t : Fin grid0.N) (r k : Fin 1024) (R : Fin 4096) (K : Fin 2048) (hR : R.val = t.val / 2 * 1024 + r.val) (hK : K.val = t.val % 2 * 1024 + k.val) :
    iblk m c 2 t (ix2 r k) = gateArg m c R K := by
  refine (iblk2 m c t r k).trans (congrArg (arg2 m c) (congrArg₂ ix2 (Fin.ext hR.symm) (Fin.ext ?_)))
  show (2 + t.val % 2) * 1024 + k.val = 2048 + K.val
  omega

theorem o_eq (c : Dev nD) (t : Fin grid0.N) (r k : Fin 1024) (R : Fin 4096) (K : Fin 2048) (hR : R.val = t.val / 2 * 1024 + r.val) (hK : K.val = t.val % 2 * 1024 + k.val) :
    iblk m c 3 t (ix2 r k) = arg3 m c (ix2 R K) :=
  (iblk3 m c t r k).trans (congrArg (arg3 m c) (congrArg₂ ix2 (Fin.ext hR.symm) (Fin.ext hK.symm)))

theorem s_eq (c : Dev nD) (t : Fin grid0.N) (k : Fin 1024) (K : Fin 2048) (hK : K.val = t.val % 2 * 1024 + k.val) :
    iblk m c 4 t (ix2 (0 : Fin 1) k) = arg4 m c (ix2 (0 : Fin 1) K) :=
  (iblk4 m c t 0 k).trans (congrArg (arg4 m c) (congrArg₂ ix2 (Fin.ext rfl) (Fin.ext hK.symm)))

theorem final5 (c : Dev nD) : (dats m 0 c).arrAt 5 cfg0.N = dm_target m c := by
  refine (dats m 0 c).arrAt_eq_of_cover 5 _ (fun t _ => flushed_read5 m c t (dm_target m c) fun r k => ?_) fun i => ?_
  · unfold dm5 dm_target
    exact congr (congrArg₂ dmVal (dot_eq m c t r k _ _ rfl rfl) (z_eq m c t r k _ _ rfl rfl)) (s_eq m c t k _ rfl)
  · change S4096x2048.Idx at i
    have hr : (i 0).val < 4096 := (i 0).isLt
    have hc : (i 1).val < 2048 := (i 1).isLt
    refine ⟨(⟨(i 0).val / 1024 * 2 + (i 1).val / 1024, by show _ < 8; omega⟩ : Fin grid0.N), Gen.flush0_5 _, ?_⟩
    rw [mem_blk5]
    dsimp only
    omega

theorem final6 (c : Dev nD) (t : Fin 4096) (k : Fin 2048) :
    (dats m 0 c).arrAt 6 cfg0.N (ix2 t ⟨2048 + k.val, by omega⟩ : S4096x4096.Idx) = dz_at m c t k := by
  rw [(dats m 0 c).arrAt_eq_piecewise 6 (dz_target m c) (fun t _ => flushed_read6 m c t (dz_target m c) fun r k => ?_) _]
  · refine (if_pos ⟨(⟨t.val / 1024 * 2 + k.val / 1024, by show _ < 8; omega⟩ : Fin grid0.N), Gen.flush0_6 _, ?_⟩).trans ?_
    · unfold dz_target
      refine (dif_pos (show 2048 ≤ 2048 + k.val by omega)).trans ?_
      exact congrArg (dz_at m c t) (Fin.ext (by show 2048 + k.val - 2048 = k.val; omega))
    · rw [mem_blk6]
      show (_ ≤ t.val ∧ t.val < _) ∧ (_ ≤ 2048 + k.val ∧ 2048 + k.val < _)
      dsimp only
      omega
  · unfold dz_target
    refine Eq.trans ?_ (dif_pos (show 2048 ≤ (2 + t.val % 2) * 1024 + k.val by omega)).symm
    unfold dz6 dz_at
    have hK : (2 + t.val % 2) * 1024 + k.val - 2048 = t.val % 2 * 1024 + k.val := by omega
    exact congr (congr (congrArg₂ dzVal (dot_eq m c t r k _ _ rfl hK) (o_eq m c t r k _ _ rfl hK)) (z_eq m c t r k _ _ rfl hK)) (s_eq m c t k _ hK)

/-- A point's rows at one of its lanes. -/
theorem rows_eq (c : Dev nD) (t : Fin grid0.N) (b : Fin 1024) (K : Fin 2048) (hK : K.val = t.val % 2 * 1024 + b.val) :
    ∑ a : Fin 1024, dsRow (iblk m c 0 t) (iblk m c 1 t) (iblk m c 2 t) (iblk m c 3 t) b a
      = ∑ a : Fin 1024, laneAt m c K ⟨t.val / 2 * 1024 + a.val, by have := ltN t; omega⟩ := by
  refine Finset.sum_congr rfl fun a _ => ?_
  unfold dsRow laneAt
  exact congr (congrArg₂ dsVal (dot_eq m c t a b _ _ rfl hK) (o_eq m c t a b _ _ rfl hK)) (z_eq m c t a b _ _ rfl hK)

/-- How many blocks of rows a lane has taken in after a point. -/
abbrev count (n : ℕ) (k : ℕ) : ℕ := (n + 2 - k / 1024) / 2

/-- A sum over the rows taken in so far. -/
abbrev taken (c : Dev nD) (k : Fin 2048) (q : ℕ) : EReal := ∑ p ∈ Finset.range q, RmsMath.ext (laneAt m c k) p

/-- One more block of rows. -/
theorem taken_block (c : Dev nD) (t : Fin grid0.N) (b : Fin 1024) (K : Fin 2048) (hK : K.val = t.val % 2 * 1024 + b.val) (w : EReal) (q : ℕ)
    (hw : w = taken m c K q) (hq : q = t.val / 2 * 1024) (q' : ℕ) (hq' : q' = q + 1024) :
    w + ∑ a : Fin 1024, dsRow (iblk m c 0 t) (iblk m c 1 t) (iblk m c 2 t) (iblk m c 3 t) b a = taken m c K q' := by
  have hN := ltN t
  subst hw hq hq'
  rw [rows_eq m c t b K hK]
  exact (RmsMath.sum_block _ _ (by omega)).symm

/-- The piece of the lanes a point stores: what it reads at a lane. -/
theorem ldLane (x : FVec Ideal S1x2048 .f32) (off : Fin 2 → ℕ) (inb : ∀ a, off a + (![1, 1024] : Fin 2 → ℕ) a ≤ S1x2048.size a) (n : ℕ) (b : Fin 1024) (K : Fin 2048)
    (ho : off = ![0, n * 1024]) (hK : K.val = n * 1024 + b.val) :
    View.ld (Val := Elt Ideal) (e' := .f32) x (Rect.unit (s := S1x2048) off ![1, 1024] inb) (ix2 (0 : Fin 1) b) = x (ix2 (0 : Fin 1) K) := by
  subst ho
  refine congrArg x ?_
  funext k; apply Fin.ext
  match k with
  | ⟨0, _⟩ => rfl
  | ⟨1, _⟩ => show n * 1024 + 1 * b.val = K.val; omega

/-- The first point clears the third result. -/
theorem zero3 (i : S1x2048.Idx) : ((k0_pay3 (F := Ideal) i : Elt Ideal .f32) : EReal) = 0 := by
  show Ideal.ofBits .f32 0#32 = 0
  simp [Ideal.ofBits, Ideal.ieee]

/-- After a point a lane of the third result holds its sum over the rows taken in. -/
theorem state7 (c : Dev nD) : ∀ (n : ℕ) (h : n < cfg0.N) (K : Fin 2048), (outsAt0 m c n h).2.2 (ix2 (0 : Fin 1) K) = taken m c K (count n K.val * 1024)
  | 0, h, K => by
    have e : outsAt0 m c 0 h = _ := outsAt0_A m c ⟨0, h⟩ rfl
    rw [e]
    dsimp only
    frame_out
    have ho := off_eq ⟨0, h⟩
    by_cases hK : K.val < 1024
    · have hy : (ix2 (0 : Fin 1) K : S1x2048.Idx) = (Rect.unit (s := S1x2048) (k0_off1 (grid0.coords ⟨0, h⟩)) ![1, 1024] (k0_off1_inb (grid0.coords ⟨0, h⟩))).emb (ix2 (0 : Fin 1) (⟨K.val, hK⟩ : Fin 1024)) := by
        funext a; apply Fin.ext
        match a with
        | ⟨0, _⟩ => show 0 = k0_off1 (grid0.coords ⟨0, h⟩) 0 + 1 * 0; rw [ho]; rfl
        | ⟨1, _⟩ => show K.val = k0_off1 (grid0.coords ⟨0, h⟩) 1 + 1 * K.val; rw [ho]; show K.val = 0 % 2 * 1024 + 1 * K.val; omega
      refine (congrArg _ hy).trans ((View.canon_cons_emb _ _ _ _).trans ?_)
      refine (dsChain_eq _ _ _ _ _ (iblk m c 4 ⟨0, h⟩) _).trans ?_
      refine taken_block m c ⟨0, h⟩ ⟨K.val, hK⟩ K (by show K.val = 0 % 2 * 1024 + K.val; omega) _ 0 ?_ (by show 0 = 0 / 2 * 1024; rfl) _ (by show count 0 K.val * 1024 = 0 + 1024; unfold count; omega)
      refine (ldLane _ _ _ 0 ⟨K.val, hK⟩ K ho (by show K.val = 0 * 1024 + K.val; omega)).trans ?_
      exact (zero3 _).trans (by simp [taken])
    · refine (View.canon_cons_of_not_mem _ _ ?_).trans ?_
      · rw [Rect.mem_set_unit]
        intro hm
        have h1 := (hm 1).2
        rw [ho] at h1
        have : K.val < 0 % 2 * 1024 + 1024 := h1
        omega
      · have hy : (ix2 (0 : Fin 1) K : S1x2048.Idx) = (Rect.unit (s := S1x2048) ![0, 0] ![1, 2048] inb_S1x2048_S1x2048_0_0).emb (ix2 (0 : Fin 1) K) := by
          funext a; apply Fin.ext
          match a with
          | ⟨0, _⟩ => rfl
          | ⟨1, _⟩ => show K.val = 0 + 1 * K.val; omega
        refine (congrArg _ hy).trans ((View.canon_cons_emb _ _ _ _).trans ?_)
        have hc : count 0 K.val = 0 := by unfold count; omega
        rw [hc]
        exact (zero3 _).trans (by simp [taken])
  | n + 1, h, K => by
    have hN : n + 1 < 8 := h
    have e : outsAt0 m c (n + 1) h = _ := outsAt0_B m c ⟨n + 1, h⟩ (by show ¬(n + 1) % 8 = 0; omega)
    have ih := state7 c n (Nat.lt_of_succ_lt h)
    rw [e]
    dsimp only
    frame_out
    have ho := off_eq ⟨n + 1, h⟩
    by_cases hK : K.val / 1024 = (n + 1) % 2
    · have hl : K.val - (n + 1) % 2 * 1024 < 1024 := by omega
      refine (View.read_writes_cons_unit_of_mem _ _ _ _ _ _ (ix2 (0 : Fin 1) (⟨K.val - (n + 1) % 2 * 1024, hl⟩ : Fin 1024)) ho ?_).trans ?_
      · intro a
        match a with
        | ⟨0, _⟩ => rfl
        | ⟨1, _⟩ => show K.val = (n + 1) % 2 * 1024 + (K.val - (n + 1) % 2 * 1024); omega
      · refine (dsChain_eq _ _ _ _ _ (iblk m c 4 ⟨n + 1, h⟩) _).trans ?_
        refine taken_block m c ⟨n + 1, h⟩ ⟨K.val - (n + 1) % 2 * 1024, hl⟩ K (by show K.val = (n + 1) % 2 * 1024 + (K.val - (n + 1) % 2 * 1024); omega) _ (count n K.val * 1024) ?_
          (by show count n K.val * 1024 = (n + 1) / 2 * 1024; unfold count; omega) _ (by unfold count; omega)
        refine (ldLane _ _ _ ((n + 1) % 2) ⟨K.val - (n + 1) % 2 * 1024, hl⟩ K ho (by show K.val = (n + 1) % 2 * 1024 + (K.val - (n + 1) % 2 * 1024); omega)).trans ?_
        exact ih K
    · refine (View.read_writes_cons_unit_of_not_mem _ _ _ _ _ _ ho (1 : Fin 2) ?_).trans ?_
      · show K.val < (n + 1) % 2 * 1024 ∨ (n + 1) % 2 * 1024 + 1024 ≤ K.val
        omega
      · rw [View.writes_nil, Memref.IsWhole.read_unread]
        refine (ih K).trans ?_
        have hc : count n K.val = count (n + 1) K.val := by unfold count; omega
        rw [hc]

theorem mem_blk7 (t : Fin grid0.N) (i : S1x2048.Idx) : i ∈ ((cfg0.win 7).blk t).view.set := by
  show i ∈ ((View.whole main_v0_2).slice (win0_7.rect t)).set
  rw [View.set_slice_whole, Rect.mem_set_unit]
  have e := idx7 t
  have x := xsz7 t
  have h0 : (i 0).val < 1 := (i 0).isLt
  have h1 : (i 1).val < 2048 := (i 1).isLt
  intro a
  match a with
  | ⟨0, _⟩ =>
    show win0_7.index t 0 * 1 ≤ (i 0).val ∧ (i 0).val < win0_7.index t 0 * 1 + win0_7.xsize (grid0.coords t) 0
    rw [e.1, x.1]; omega
  | ⟨1, _⟩ =>
    show win0_7.index t 1 * 2048 ≤ (i 1).val ∧ (i 1).val < win0_7.index t 1 * 2048 + win0_7.xsize (grid0.coords t) 1
    rw [e.2, x.2]; omega

/-- The third result. -/
def ds_target (c : Dev nD) (i : S1x2048.Idx) : EReal := ∑ t : Fin 4096, laneAt m c (i 1) t

theorem final7 (c : Dev nD) : (dats m 0 c).arrAt 7 cfg0.N = ds_target m c := by
  refine (dats m 0 c).arrAt_eq_of_cover 7 _ (fun t ht => ?_) fun i => ⟨(⟨7, by show 7 < 8; omega⟩ : Fin grid0.N), (Gen.flush0_7 _).mpr rfl, mem_blk7 _ i⟩
  have h7 : t.val = 7 := by have := (Gen.flush0_7 t).mp ht; have := ltN t; omega
  rw [flushed7]
  funext y
  have e := idx7 t
  have x := xsz7 t
  have h0 : (y 0).val < 1 := lt_of_lt_of_eq (y 0).isLt x.1
  have h1 : (y 1).val < 2048 := lt_of_lt_of_eq (y 1).isLt x.2
  have hj : (cfg0.win 7).xinj (grid0.coords t) y = ix2 (0 : Fin 1) (⟨(y 1).val, h1⟩ : Fin 2048) := by
    funext a; apply Fin.ext
    match a with
    | ⟨0, _⟩ => show (y 0).val = 0; omega
    | ⟨1, _⟩ => rfl
  have hi : ((cfg0.win 7).blk t).view.emb y = (ix2 (0 : Fin 1) (⟨(y 1).val, h1⟩ : Fin 2048) : S1x2048.Idx) := by
    funext a; apply Fin.ext
    match a with
    | ⟨0, _⟩ => show win0_7.index t 0 * 1 + 1 * (y 0).val = 0; rw [e.1]; omega
    | ⟨1, _⟩ => show win0_7.index t 1 * 2048 + 1 * (y 1).val = (y 1).val; rw [e.2]; omega
  refine (congrArg (outsAt0 m c t.val t.isLt).2.2 hj).trans ((state7 m c _ _ _).trans ?_)
  refine Eq.trans ?_ (congrArg (ds_target m c) hi).symm
  have hc : count t.val (y 1).val * 1024 = 4096 := by unfold count; omega
  show taken m c _ (count t.val (y 1).val * 1024) = _
  rw [hc]
  exact RmsMath.sum_ext _

end Cert.PoolGateArray

end
-- ==== Proof.PoolGateRef.lean ====
/- The pooling gate's reference read at an index. -/
module

public import proofs.«01_k».proof.Proof.Gen.PoolGateReferenceIdeal.Read
public import Idealize.ShloMosaic.Lib.Pointwise

@[expose] public section

noncomputable section

namespace Cert.PoolGateRef

open Cert.PoolGateReferenceIdeal Cert.PoolGateReferenceIdeal.Gen Cert.PoolGateReferenceIdeal.Read Idealize.ShloMosaic

set_option maxRecDepth 16384

/-- The logistic function as the reference computes it. -/
abbrev sg (z : EReal) : EReal := Ideal.div 1 (1 + Ideal.exp (-z))

/-- The product's gradient times the gate. -/
theorem read_v12 (x0 : FVec Ideal S4096x1024 .bf16) (x1 : FVec Ideal S2048x1024 .bf16) (x2 : FVec Ideal S4096x4096 .bf16) (t : Fin 4096) (k : Fin 2048) :
    val_main_v12 (F := Ideal) x0 x1 x2 (ix2 t k) = (∑ p, x0 (ix2 t p) * x1 (ix2 k p)) * (x2 (ix2 t ⟨2048 + k.val, by omega⟩) * sg (x2 (ix2 t ⟨2048 + k.val, by omega⟩))) := by
  unfold sg
  pointwise [val_main_v12, val_main_v10, val_main_v0, val_main_v1, val_main_v7_0, val_main_v7_1, val_main_v7_2, val_main_call0_v0, val_main_call0_v1, val_main_call0_v2, val_main_call0_v3, val_main_call0_v4, val_main_call0_v6, val_main_call0_v7, val_main_v3, val_main_v2, val_main_call0_cst, val_main_call0_cst_0, val_main_call0_cst_1]

/-- The first result. -/
theorem read_v20 (x0 : FVec Ideal S4096x1024 .bf16) (x1 : FVec Ideal S2048x1024 .bf16) (x2 : FVec Ideal S4096x4096 .bf16) (x4 : FVec Ideal S1x2048 .f32) (t : Fin 4096) (k : Fin 2048) :
    val_main_v20 (F := Ideal) x0 x1 x2 x4 (ix2 t k) = (∑ p, x0 (ix2 t p) * x1 (ix2 k p)) * (x2 (ix2 t ⟨2048 + k.val, by omega⟩) * sg (x2 (ix2 t ⟨2048 + k.val, by omega⟩))) * x4 (ix2 (0 : Fin 1) k) := by
  rw [← read_v12]
  pointwise [val_main_v20, val_main_v18, val_main_v17]

/-- The gradient of the gate's argument. -/
theorem read_v13 (x0 : FVec Ideal S4096x1024 .bf16) (x1 : FVec Ideal S2048x1024 .bf16) (x2 : FVec Ideal S4096x4096 .bf16) (x3 : FVec Ideal S4096x2048 .bf16) (x4 : FVec Ideal S1x2048 .f32) (t : Fin 4096) (k : Fin 2048) :
    val_main_v13 (F := Ideal) x0 x1 x2 x3 x4 (ix2 t k)
      = (x3 (ix2 t k) * x4 (ix2 (0 : Fin 1) k) * (∑ p, x0 (ix2 t p) * x1 (ix2 k p))) * sg (x2 (ix2 t ⟨2048 + k.val, by omega⟩))
        + x2 (ix2 t ⟨2048 + k.val, by omega⟩) * (x3 (ix2 t k) * x4 (ix2 (0 : Fin 1) k) * (∑ p, x0 (ix2 t p) * x1 (ix2 k p))) * (sg (x2 (ix2 t ⟨2048 + k.val, by omega⟩)) * (1 - sg (x2 (ix2 t ⟨2048 + k.val, by omega⟩)))) := by
  unfold sg
  pointwise [val_main_v13, val_main_call1_v0, val_main_call1_v1, val_main_call1_v2, val_main_v11, val_main_v10, val_main_v6, val_main_v5, val_main_v4, val_main_v0, val_main_v1, val_main_v7_0, val_main_v7_1, val_main_v7_2, val_main_call0_v0, val_main_call0_v1, val_main_call0_v2, val_main_call0_v3, val_main_call0_v4, val_main_call0_v6, val_main_call0_v7, val_main_v3, val_main_v2, val_main_call0_cst, val_main_call0_cst_0, val_main_call0_cst_1]

/-- The second result on the gate's lanes. -/
theorem read_v22 (x0 : FVec Ideal S4096x1024 .bf16) (x1 : FVec Ideal S2048x1024 .bf16) (x2 : FVec Ideal S4096x4096 .bf16) (x3 : FVec Ideal S4096x2048 .bf16) (x4 : FVec Ideal S1x2048 .f32) (t : Fin 4096) (k : Fin 2048) :
    val_main_v22 (F := Ideal) x0 x1 x2 x3 x4 (ix2 t ⟨2048 + k.val, by omega⟩) = val_main_v13 (F := Ideal) x0 x1 x2 x3 x4 (ix2 t k) := by
  pointwise [val_main_v22, val_main_v21]

/-- The third result. -/
theorem read_v16 (x0 : FVec Ideal S4096x1024 .bf16) (x1 : FVec Ideal S2048x1024 .bf16) (x2 : FVec Ideal S4096x4096 .bf16) (x3 : FVec Ideal S4096x2048 .bf16) (k : Fin 2048) :
    val_main_v16 (F := Ideal) x0 x1 x2 x3 (ix2 (0 : Fin 1) k) = ∑ t : Fin 4096, x3 (ix2 t k) * val_main_v12 (F := Ideal) x0 x1 x2 (ix2 t k) := by
  pointwise [val_main_v16, val_main_v15, val_main_v14, val_main_v4, val_main_cst]

end Cert.PoolGateRef
-- ==== Proof.PoolGateClaim.lean ====
/- The pooling gate's gradient: the kernel and the reference end at the same arrays, of the second one on the gate's lanes. -/
module

public import proofs.«01_k».proof.Defs
public import proofs.«01_k».proof.Proof.Finite
public import proofs.«01_k».proof.Proof.SigMath
public import proofs.«01_k».proof.Proof.PoolGateArray
public import proofs.«01_k».proof.Proof.PoolGateRef
public import proofs.«01_k».proof.Proof.Gen.Pre_pgate_finite
public import proofs.«01_k».proof.Proof.Gen.On_pgate_columns

@[expose] public section

noncomputable section

namespace Cert.PoolGateClaim

open Idealize.ShloMosaic Idealize.SL.Sem Idealize.ShloMosaic.StableHlo

set_option maxRecDepth 16384

section
open Cert.Pre_pgate_finite Cert.Pre_pgate_finite.Gen

/-- The precondition says that the five arguments hold reals. -/
theorem finite (x0 : FVec Ideal S4096x1024 .bf16) (x1 : FVec Ideal S2048x1024 .bf16) (x2 : FVec Ideal S4096x4096 .bf16) (x3 : FVec Ideal S4096x2048 .bf16) (x4 : FVec Ideal S1x2048 .f32)
    (h : Cert.Pre_pgate_finite.fn (F := Ideal) x0 x1 x2 x3 x4 = fun _ => 1#1) :
    (∀ i, (x0 i : EReal) = ((EReal.toReal (x0 i) : ℝ) : EReal)) ∧ (∀ i, (x1 i : EReal) = ((EReal.toReal (x1 i) : ℝ) : EReal)) ∧ (∀ i, (x2 i : EReal) = ((EReal.toReal (x2 i) : ℝ) : EReal)) ∧ (∀ i, (x3 i : EReal) = ((EReal.toReal (x3 i) : ℝ) : EReal)) ∧ (∀ i, (x4 i : EReal) = ((EReal.toReal (x4 i) : ℝ) : EReal)) := by
  have hs : Subsingleton S_.Idx := ⟨fun a b => funext fun k => k.elim0⟩
  have h' := congrFun h (fun k => k.elim0)
  dsimp only [Cert.Pre_pgate_finite.fn] at h'
  obtain ⟨h', he⟩ := Cert.Finite.and_one h'
  obtain ⟨h', hd⟩ := Cert.Finite.and_one h'
  obtain ⟨h', hc⟩ := Cert.Finite.and_one h'
  obtain ⟨ha, hb⟩ := Cert.Finite.and_one h'
  exact ⟨Cert.Finite.real_of_all _ _ _ _ _ _ (fun _ => rfl) ha, Cert.Finite.real_of_all _ _ _ _ _ _ (fun _ => rfl) hb,
    Cert.Finite.real_of_all _ _ _ _ _ _ (fun _ => rfl) hc, Cert.Finite.real_of_all _ _ _ _ _ _ (fun _ => rfl) hd,
    Cert.Finite.real_of_all _ _ _ _ _ _ (fun _ => rfl) he⟩
end

section
open Cert.On_pgate_columns Cert.On_pgate_columns.Gen

/-- The mask of the second result is the gate's lanes. -/
theorem mask (x0 : FVec Ideal S4096x1024 .bf16) (x1 : FVec Ideal S2048x1024 .bf16) (x2 : FVec Ideal S4096x4096 .bf16) (x3 : FVec Ideal S4096x2048 .bf16) (x4 : FVec Ideal S1x2048 .f32)
    (i : S4096x4096.Idx) (h : (Cert.On_pgate_columns.fn (F := Ideal) x0 x1 x2 x3 x4).2.1 i = 1#1) : 2048 ≤ (i 1).val := by
  by_contra hn
  have hlt : (i 1).val < 4096 := (i 1).isLt
  have h2 : IntOp.cmpi .sge (BitVec.ofNat 32 (i 1).val) 2048#32 = 1#1 := h
  have h3 : IntOp.cmpi .sge (BitVec.ofNat 32 (i 1).val) 2048#32 = 0#1 := by
    have h4 : ∀ n : Fin 2048, IntOp.cmpi .sge (BitVec.ofNat 32 n.val) 2048#32 = 0#1 := by decide +kernel
    exact h4 ⟨(i 1).val, by omega⟩
  rw [h3] at h2
  exact absurd h2 (by decide)
end

/-- The derivative of the gate in the kernel's and in the reference's form, with the lane's scale. -/
theorem scaled_eq (a o s z : ℝ) :
    ((a : EReal) * (o : EReal) * (s : EReal)) * (((SigMath.sg z : ℝ) : EReal) * (1 + (z : EReal) * (1 - ((SigMath.sg z : ℝ) : EReal))))
      = ((o : EReal) * (s : EReal) * (a : EReal)) * ((SigMath.sg z : ℝ) : EReal)
        + (z : EReal) * ((o : EReal) * (s : EReal) * (a : EReal)) * (((SigMath.sg z : ℝ) : EReal) * (1 - ((SigMath.sg z : ℝ) : EReal))) := by
  rw [← EReal.coe_one]
  simp only [← EReal.coe_mul, ← EReal.coe_sub, ← EReal.coe_add]
  refine congrArg _ ?_
  ring

section
open Cert.PoolGateKernelIdeal

/-- The first result: a product in another order. -/
theorem dm_eq (m : (ℓ : Loc nD τ sig) → Buf (Elt Ideal) ℓ) (c : Dev nD) (t : Fin 4096) (k : Fin 2048) :
    Cert.PoolGateArray.dm_target m c (ix2 t k)
      = Cert.PoolGateReferenceIdeal.Read.val_main_v20 (F := Ideal) (Cert.PoolGateArray.arg0 m c) (Cert.PoolGateArray.arg1 m c) (Cert.PoolGateArray.arg2 m c) (Cert.PoolGateArray.arg4 m c) (ix2 t k) := by
  rw [Cert.PoolGateRef.read_v20]
  exact mul_right_comm (Cert.PoolGateArray.dy m c t k) (Cert.PoolGateArray.arg4 m c (ix2 (0 : Fin 1) k)) _

/-- The second: the two forms of the derivative at real arguments. -/
theorem dz_eq (m : (ℓ : Loc nD τ sig) → Buf (Elt Ideal) ℓ) (c : Dev nD)
    (h0 : ∀ i, (Cert.PoolGateArray.arg0 m c i : EReal) = ((EReal.toReal (Cert.PoolGateArray.arg0 m c i) : ℝ) : EReal))
    (h1 : ∀ i, (Cert.PoolGateArray.arg1 m c i : EReal) = ((EReal.toReal (Cert.PoolGateArray.arg1 m c i) : ℝ) : EReal))
    (h2 : ∀ i, (Cert.PoolGateArray.arg2 m c i : EReal) = ((EReal.toReal (Cert.PoolGateArray.arg2 m c i) : ℝ) : EReal))
    (h3 : ∀ i, (Cert.PoolGateArray.arg3 m c i : EReal) = ((EReal.toReal (Cert.PoolGateArray.arg3 m c i) : ℝ) : EReal))
    (h4 : ∀ i, (Cert.PoolGateArray.arg4 m c i : EReal) = ((EReal.toReal (Cert.PoolGateArray.arg4 m c i) : ℝ) : EReal))
    (t : Fin 4096) (k : Fin 2048) :
    Cert.PoolGateArray.dz_at m c t k
      = Cert.PoolGateReferenceIdeal.Read.val_main_v22 (F := Ideal) (Cert.PoolGateArray.arg0 m c) (Cert.PoolGateArray.arg1 m c) (Cert.PoolGateArray.arg2 m c) (Cert.PoolGateArray.arg3 m c) (Cert.PoolGateArray.arg4 m c) (ix2 t ⟨2048 + k.val, by omega⟩) := by
  rw [Cert.PoolGateRef.read_v22, Cert.PoolGateRef.read_v13]
  unfold Cert.PoolGateArray.dz_at Cert.PoolGateArray.dy Cert.PoolGateArray.gateArg Cert.PoolGateBlock.dzVal Cert.PoolGateRef.sg Cert.PoolGateBlock.sg
  rw [Cert.SigMath.dot_real _ _ _ _ (fun p => h0 (ix2 t p)) (fun p => h1 (ix2 k p)), h2, h3, h4, Cert.SigMath.sig_real]
  exact scaled_eq _ _ _ _

/-- The third: the rows' terms, each a product in another order. -/
theorem ds_eq (m : (ℓ : Loc nD τ sig) → Buf (Elt Ideal) ℓ) (c : Dev nD) (k : Fin 2048) :
    Cert.PoolGateArray.ds_target m c (ix2 (0 : Fin 1) k)
      = Cert.PoolGateReferenceIdeal.Read.val_main_v16 (F := Ideal) (Cert.PoolGateArray.arg0 m c) (Cert.PoolGateArray.arg1 m c) (Cert.PoolGateArray.arg2 m c) (Cert.PoolGateArray.arg3 m c) (ix2 (0 : Fin 1) k) := by
  rw [Cert.PoolGateRef.read_v16]
  refine Finset.sum_congr rfl fun t _ => ?_
  rw [Cert.PoolGateRef.read_v12]
  refine Eq.trans (congrArg (fun x : EReal => x * _) (mul_comm (Cert.PoolGateArray.dy m c t k) (Cert.PoolGateArray.arg3 m c (ix2 t k)))) ?_
  exact mul_assoc (G := EReal) _ _ _
end

/-- The equation of the two programs. -/
theorem algebraic : Cert.algebraic_PoolGateKernelIdeal_PoolGateReferenceIdeal_on_pgate_columns_pre_pgate_finite := by
  intro m g m' g' hpre hag
  refine ⟨fun c => Cert.PoolGateReferenceIdeal.Read.val_main_v20 (F := Ideal) (m (c.tc.loc Cert.PoolGateKernelIdeal.main_arg0)) (m (c.tc.loc Cert.PoolGateKernelIdeal.main_arg1)) (m (c.tc.loc Cert.PoolGateKernelIdeal.main_arg2)) (m (c.tc.loc Cert.PoolGateKernelIdeal.main_arg4)),
    fun c => Cert.PoolGateReferenceIdeal.Read.val_main_v22 (F := Ideal) (m (c.tc.loc Cert.PoolGateKernelIdeal.main_arg0)) (m (c.tc.loc Cert.PoolGateKernelIdeal.main_arg1)) (m (c.tc.loc Cert.PoolGateKernelIdeal.main_arg2)) (m (c.tc.loc Cert.PoolGateKernelIdeal.main_arg3)) (m (c.tc.loc Cert.PoolGateKernelIdeal.main_arg4)),
    fun c => Cert.PoolGateReferenceIdeal.Read.val_main_v16 (F := Ideal) (m (c.tc.loc Cert.PoolGateKernelIdeal.main_arg0)) (m (c.tc.loc Cert.PoolGateKernelIdeal.main_arg1)) (m (c.tc.loc Cert.PoolGateKernelIdeal.main_arg2)) (m (c.tc.loc Cert.PoolGateKernelIdeal.main_arg3)), ?_, ?_⟩
  · refine (θ_run _ _ _).mono (fun r h c => ?_) (Cert.PoolGateKernelIdeal.Value.run_blocks (F := Ideal) m g)
    obtain ⟨f0, f1, f2, f3, f4⟩ := finite _ _ _ _ _ (hpre c)
    refine ⟨fun i _ => ?_, fun i hi => ?_, fun i _ => ?_, (h c).2.2.2⟩
    · refine (congrFun ((h c).1.trans (Cert.PoolGateArray.final5 m c)) i).trans ?_
      idx_vars i
      exact dm_eq m c _ _
    · refine (congrFun (h c).2.1 i).trans ?_
      have hm := mask _ _ _ _ _ i hi
      have hlt : (i 1).val < 4096 := (i 1).isLt
      have e : i = (ix2 (i 0) ⟨2048 + ((i 1).val - 2048), by omega⟩ : (⟨2, ![4096, 4096]⟩ : Shape).Idx) := by
        funext a; apply Fin.ext
        match a with
        | ⟨0, _⟩ => rfl
        | ⟨1, _⟩ => show (i 1).val = 2048 + ((i 1).val - 2048); omega
      rw [e]
      exact (Cert.PoolGateArray.final6 m c (i 0) ⟨(i 1).val - 2048, by omega⟩).trans (dz_eq m c f0 f1 f2 f3 f4 _ _)
    · refine (congrFun ((h c).2.2.1.trans (Cert.PoolGateArray.final7 m c)) i).trans ?_
      have e : i = (ix2 (0 : Fin 1) (i 1) : (⟨2, ![1, 2048]⟩ : Shape).Idx) := by
        have h0 : (i 0).val < 1 := (i 0).isLt
        funext a; apply Fin.ext
        match a with
        | ⟨0, _⟩ => show (i 0).val = 0; omega
        | ⟨1, _⟩ => rfl
      rw [e]
      exact ds_eq m c _
  · refine (θ_run _ _ _).mono (fun r h c => ?_) (Cert.PoolGateReferenceIdeal.Value.run (F := Ideal) m' g')
    obtain ⟨e0, e1, e2, e3, e4⟩ := hag c
    refine ⟨fun i _ => congrFun ((h c).1.trans ?_) i, fun i _ => congrFun ((h c).2.1.trans ?_) i, fun i _ => congrFun ((h c).2.2.1.trans ?_) i, (h c).2.2.2⟩
    · exact (Cert.PoolGateReferenceIdeal.Read.val_main_v20_eq (F := Ideal) _ _ _ _ ).trans (congr (congr (congr (congrArg (Cert.PoolGateReferenceIdeal.Read.val_main_v20 (F := Ideal)) e0) e1) e2) e4)
    · exact (Cert.PoolGateReferenceIdeal.Read.val_main_v22_eq (F := Ideal) _ _ _ _ _ ).trans (congr (congr (congr (congr (congrArg (Cert.PoolGateReferenceIdeal.Read.val_main_v22 (F := Ideal)) e0) e1) e2) e3) e4)
    · exact (Cert.PoolGateReferenceIdeal.Read.val_main_v16_eq (F := Ideal) _ _ _ _ ).trans (congr (congr (congr (congrArg (Cert.PoolGateReferenceIdeal.Read.val_main_v16 (F := Ideal)) e0) e1) e2) e3)

end Cert.PoolGateClaim

end
-- ==== Proof.RmsIdealFrame.lean ====
/- The gradient of the attention layer's norm and input product: the frame of `RmsKernelIdeal`. A block of rows is
   summed over the shards of the weights in the scratch, a shard a row of grid points; in the last row of points the norm's
   gradient is taken of the whole sum and the gain's gradient is added up. -/
module

public import proofs.«01_k».proof.Proof.Gen.RmsKernelIdeal.Frame
public import proofs.«01_k».proof.Proof.Gen.RmsKernelIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.RmsIdealFrame

open Cert.RmsKernelIdeal Cert.RmsKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model the assertions are over. -/
abbrev 𝕄 (F : FTy → Type) [FloatOps F] := MT nD τ sig Unit (Elt F) ℕ (UR sig nD τ) ℕ

variable (m : (ℓ : Loc nD τ sig) → Buf (Elt F) ℓ) (ρ : Dev nD → PrngReg)

/-! ## The body -/

section
variable (c : Dev nD) (i : grid0.Coords) (arg2 : Memref sig .tc .vmem S512x1536 .bf16) (harg2 : arg2.IsWhole) (arg3 : Memref sig .tc .vmem S1x1024x1536 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S4096x1024 .f32) (harg10 : arg10.IsWhole)

/-- The body at a point. -/
abbrev theBody := cc0_sb_in_bwd (F := F) i arg2 harg2 arg3 harg3 arg4 harg4 arg5 harg5 arg6 harg6 arg7 harg7 arg8 harg8 arg9 harg9 arg10 harg10

/-- Rows written twice hold what was written last. -/
theorem put_twice (X Z : Vec F S4096x1024 .f32) (A B : Vec F S512x1024 .f32) (off : Fin 2 → ℕ)
    (h : Z = VecWindow.put X off S512x1024.size A) : VecWindow.put Z off S512x1024.size B = VecWindow.put X off S512x1024.size B := by
  subst h; exact VecWindow.put_put_same _ _ _ _ _

set_option maxHeartbeats 1000000 in
/-- At the first point: the rows' sum starts, and the gain's gradient. -/
theorem runA0 (h1 : k0_cond1 i = 1#1) (h2 : k0_cond2 i = 1#1) (h3 : ¬ k0_cond3 i = 1#1)
    (x2 : Vec F S512x1536 .bf16) (x3 : Vec F S1x1024x1536 .bf16) (X : Vec F S4096x1024 .f32) (E : Set ℕ) (K : PUnit → sProp (𝕄 F)) :
        iprop(owns (c : Thread nD τ) arg2 fullShare x2 ∗ owns (c : Thread nD τ) arg3 fullShare x3
            ∗ (∃ d, owns (c : Thread nD τ) arg8 fullShare d) ∗ owns (c : Thread nD τ) arg10 fullShare X
            ∗ (iprop(owns (c : Thread nD τ) arg2 fullShare x2 ∗ owns (c : Thread nD τ) arg3 fullShare x3
              ∗ owns (c : Thread nD τ) arg8 fullShare (k0_pay2 (F := F))
              ∗ owns (c : Thread nD τ) arg10 fullShare (VecWindow.put X (k0_off2 i) S512x1024.size (k0_pay3 k0_pay1 x2 x3))) -∗ K ⟨⟩))
          ⊢ wp frame (wpE (defs₀ (F := F)) Variants.none c none) E (theBody (F := F) i arg2 harg2 arg3 harg3 arg4 harg4 arg5 harg5 arg6 harg6 arg7 harg7 arg8 harg8 arg9 harg9 arg10 harg10) K := by
    simp only [theBody, cc0_sb_in_bwd_eq_skeleton]; unfold cc0_sb_in_bwd_skel
    unfold owns
    iintro ⟨⟨%f0, %hf0, H0⟩, ⟨%f1, %hf1, H1⟩, ⟨%d4, %f4, %hf4, H4⟩, ⟨%f5, %hf5, H5⟩, Hk⟩
    obtain rfl := harg2.eq_unread hf0; obtain rfl := harg3.eq_unread hf1; obtain rfl := harg10.eq_unread hf5
    sl_exec (disch := first | sl_exact h1 | sl_exact h2 | sl_exact h3)
    sl_step
    have e2 := (View.readAt_full arg2.view (harg2.unread x2) inb_S512x1536_S512x1536_0_0).trans hf0
    have e3 := (View.readAt_full arg3.view (harg3.unread x3) inb_S1x1024x1536_S1x1024x1536_0_0_0).trans hf1
    iapply Hk
    isplitl [H0]
    · iexists _; isplitr; · ipureintro; exact hf0
      iexact H0
    isplitl [H1]
    · iexists _; isplitr; · ipureintro; exact hf1
      iexact H1
    isplitl [H4]
    · iexists _; isplitr
      swap; · iexact H4
      ipureintro
      exact View.read_writes_full _ _ _ _ _
    iexists _; isplitr
    swap; · iexact H5
    ipureintro
    sl_unfold_words
    refine (View.read_writes_cons_put _ _ _ _ _ rfl).trans ?_
    refine (put_twice X _ (k0_pay1 (F := F)) _ _ ?_).trans ?_
    · refine (View.read_writes_cons_put _ _ _ _ _ rfl).trans ?_
      rw [View.writes_nil, hf5] <;> rfl
    · exact congrArg (VecWindow.put X (k0_off2 i) S512x1024.size)
        (congr (congrArg₂ k0_pay3 (View.readCov_cons_toLoadRect _ _ _ _) e2) e3)

set_option maxHeartbeats 1000000 in
/-- At a later point of the first row: the rows' sum starts. -/
theorem runA (h1 : k0_cond1 i = 1#1) (h2 : ¬ k0_cond2 i = 1#1) (h3 : ¬ k0_cond3 i = 1#1)
    (x2 : Vec F S512x1536 .bf16) (x3 : Vec F S1x1024x1536 .bf16) (X : Vec F S4096x1024 .f32) (E : Set ℕ) (K : PUnit → sProp (𝕄 F)) :
        iprop(owns (c : Thread nD τ) arg2 fullShare x2 ∗ owns (c : Thread nD τ) arg3 fullShare x3
            ∗ owns (c : Thread nD τ) arg10 fullShare X
            ∗ (iprop(owns (c : Thread nD τ) arg2 fullShare x2 ∗ owns (c : Thread nD τ) arg3 fullShare x3
              ∗ owns (c : Thread nD τ) arg10 fullShare (VecWindow.put X (k0_off2 i) S512x1024.size (k0_pay3 k0_pay1 x2 x3))) -∗ K ⟨⟩))
          ⊢ wp frame (wpE (defs₀ (F := F)) Variants.none c none) E (theBody (F := F) i arg2 harg2 arg3 harg3 arg4 harg4 arg5 harg5 arg6 harg6 arg7 harg7 arg8 harg8 arg9 harg9 arg10 harg10) K := by
    simp only [theBody, cc0_sb_in_bwd_eq_skeleton]; unfold cc0_sb_in_bwd_skel
    unfold owns
    iintro ⟨⟨%f0, %hf0, H0⟩, ⟨%f1, %hf1, H1⟩, ⟨%f5, %hf5, H5⟩, Hk⟩
    obtain rfl := harg2.eq_unread hf0; obtain rfl := harg3.eq_unread hf1; obtain rfl := harg10.eq_unread hf5
    sl_exec (disch := first | sl_exact h1 | sl_exact h2 | sl_exact h3)
    sl_step
    have e2 := (View.readAt_full arg2.view (harg2.unread x2) inb_S512x1536_S512x1536_0_0).trans hf0
    have e3 := (View.readAt_full arg3.view (harg3.unread x3) inb_S1x1024x1536_S1x1024x1536_0_0_0).trans hf1
    iapply Hk
    isplitl [H0]
    · iexists _; isplitr; · ipureintro; exact hf0
      iexact H0
    isplitl [H1]
    · iexists _; isplitr; · ipureintro; exact hf1
      iexact H1
    iexists _; isplitr
    swap; · iexact H5
    ipureintro
    sl_unfold_words
    refine (View.read_writes_cons_put _ _ _ _ _ rfl).trans ?_
    refine (put_twice X _ (k0_pay1 (F := F)) _ _ ?_).trans ?_
    · refine (View.read_writes_cons_put _ _ _ _ _ rfl).trans ?_
      rw [View.writes_nil, hf5] <;> rfl
    · exact congrArg (VecWindow.put X (k0_off2 i) S512x1024.size)
        (congr (congrArg₂ k0_pay3 (View.readCov_cons_toLoadRect _ _ _ _) e2) e3)

set_option maxHeartbeats 1000000 in
/-- At a point of a middle row: the rows' sum goes on. -/
theorem runB (h1 : ¬ k0_cond1 i = 1#1) (h2 : ¬ k0_cond2 i = 1#1) (h3 : ¬ k0_cond3 i = 1#1)
    (x2 : Vec F S512x1536 .bf16) (x3 : Vec F S1x1024x1536 .bf16) (X : Vec F S4096x1024 .f32) (E : Set ℕ) (K : PUnit → sProp (𝕄 F)) :
        iprop(owns (c : Thread nD τ) arg2 fullShare x2 ∗ owns (c : Thread nD τ) arg3 fullShare x3
            ∗ owns (c : Thread nD τ) arg10 fullShare X
            ∗ (iprop(owns (c : Thread nD τ) arg2 fullShare x2 ∗ owns (c : Thread nD τ) arg3 fullShare x3
              ∗ owns (c : Thread nD τ) arg10 fullShare (VecWindow.put X (k0_off2 i) S512x1024.size (k0_pay3 (VecWindow.window X (k0_off2 i) S512x1024.size (k0_off2_inb i)) x2 x3))) -∗ K ⟨⟩))
          ⊢ wp frame (wpE (defs₀ (F := F)) Variants.none c none) E (theBody (F := F) i arg2 harg2 arg3 harg3 arg4 harg4 arg5 harg5 arg6 harg6 arg7 harg7 arg8 harg8 arg9 harg9 arg10 harg10) K := by
    simp only [theBody, cc0_sb_in_bwd_eq_skeleton]; unfold cc0_sb_in_bwd_skel
    unfold owns
    iintro ⟨⟨%f0, %hf0, H0⟩, ⟨%f1, %hf1, H1⟩, ⟨%f5, %hf5, H5⟩, Hk⟩
    obtain rfl := harg2.eq_unread hf0; obtain rfl := harg3.eq_unread hf1; obtain rfl := harg10.eq_unread hf5
    sl_exec (disch := first | sl_exact h1 | sl_exact h2 | sl_exact h3)
    sl_step
    have e2 := (View.readAt_full arg2.view (harg2.unread x2) inb_S512x1536_S512x1536_0_0).trans hf0
    have e3 := (View.readAt_full arg3.view (harg3.unread x3) inb_S1x1024x1536_S1x1024x1536_0_0_0).trans hf1
    iapply Hk
    isplitl [H0]
    · iexists _; isplitr; · ipureintro; exact hf0
      iexact H0
    isplitl [H1]
    · iexists _; isplitr; · ipureintro; exact hf1
      iexact H1
    iexists _; isplitr
    swap; · iexact H5
    ipureintro
    sl_unfold_words
    refine (View.read_writes_cons_put _ _ _ _ _ rfl).trans ?_
    rw [View.writes_nil, hf5]
    exact congrArg (VecWindow.put X (k0_off2 i) S512x1024.size)
      (congr (congrArg₂ k0_pay3 ((View.readAt_unit _ _ _ rfl (k0_off2_inb i)).trans (by rw [hf5])) e2) e3)

set_option maxHeartbeats 2000000 in
/-- At a point of the last row: the whole sum, its norm's gradient, and the gain's. -/
theorem runC (h1 : ¬ k0_cond1 i = 1#1) (h2 : ¬ k0_cond2 i = 1#1) (h3 : k0_cond3 i = 1#1)
    (x2 : Vec F S512x1536 .bf16) (x3 : Vec F S1x1024x1536 .bf16) (x4 : Vec F S512x1024 .f32) (x5 : Vec F S1x1024 .f32) (x6 : Vec F S512x1024 .f32)
    (D : Vec F S1x1024 .f32) (X : Vec F S4096x1024 .f32) (W : Vec F S512x1024 .f32)
    (hW : W = k0_pay3 (VecWindow.window X (k0_off2 i) S512x1024.size (k0_off2_inb i)) x2 x3) (E : Set ℕ) (K : PUnit → sProp (𝕄 F)) :
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d) ∗ owns (c : Thread nD τ) arg8 fullShare D ∗ (∃ d, owns (c : Thread nD τ) arg9 fullShare d)
            ∗ owns (c : Thread nD τ) arg10 fullShare X
            ∗ (iprop(owns (c : Thread nD τ) arg2 fullShare x2 ∗ owns (c : Thread nD τ) arg3 fullShare x3 ∗ owns (c : Thread nD τ) arg4 fullShare x4
              ∗ owns (c : Thread nD τ) arg5 fullShare x5 ∗ owns (c : Thread nD τ) arg6 fullShare x6
              ∗ owns (c : Thread nD τ) arg7 fullShare (k0_pay7 W x4 x5 x6) ∗ owns (c : Thread nD τ) arg8 fullShare (k0_pay6 W x4 D) ∗ owns (c : Thread nD τ) arg9 fullShare (k0_pay8 W x4 x5 x6)
              ∗ owns (c : Thread nD τ) arg10 fullShare (VecWindow.put X (k0_off2 i) S512x1024.size W)) -∗ K ⟨⟩))
          ⊢ wp frame (wpE (defs₀ (F := F)) Variants.none c none) E (theBody (F := F) i arg2 harg2 arg3 harg3 arg4 harg4 arg5 harg5 arg6 harg6 arg7 harg7 arg8 harg8 arg9 harg9 arg10 harg10) K := by
    simp only [theBody, cc0_sb_in_bwd_eq_skeleton]; unfold cc0_sb_in_bwd_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, %hf7, H7⟩, ⟨%f8, %hf8, H8⟩, ⟨%d9, %f9, %hf9, H9⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg8.eq_unread hf8; obtain rfl := harg10.eq_unread hf5
    sl_exec (disch := first | sl_exact h1 | sl_exact h2 | sl_exact h3)
    sl_step
    have e2 := (View.readAt_full arg2.view (harg2.unread x2) inb_S512x1536_S512x1536_0_0).trans hf0
    have e3 := (View.readAt_full arg3.view (harg3.unread x3) inb_S1x1024x1536_S1x1024x1536_0_0_0).trans hf1
    have e4 := (View.readAt_full arg4.view (harg4.unread x4) inb_S512x1024_S512x1024_0_0).trans hf2
    have e5 := (View.readAt_full arg5.view (harg5.unread x5) inb_S1x1024_S1x1024_0_0).trans hf3
    have e6 := (View.readAt_full arg6.view (harg6.unread x6) inb_S512x1024_S512x1024_0_0).trans hf4
    have e8 := (View.readAt_full arg8.view (harg8.unread D) inb_S1x1024_S1x1024_0_0).trans hf8
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H7]
    · iexists _; isplitr
      swap; · iexact H7
      ipureintro
      refine (View.read_writes_full _ _ _ _ _).trans ?_
      sl_unfold_words
      exact congr (congr (congr (congrArg k0_pay7 ((View.readCov_cons_toLoadRect _ _ _ _).trans ((congr (congrArg₂ k0_pay3 ((View.readAt_unit _ _ _ rfl (k0_off2_inb i)).trans (by rw [hf5]; rfl)) e2) e3).trans hW.symm))) e4) e5) e6
    isplitl [H8]
    · iexists _; isplitr
      swap; · iexact H8
      ipureintro
      refine (View.read_writes_full _ _ _ _ _).trans ?_
      sl_unfold_words
      exact congr (congr (congrArg k0_pay6 ((View.readCov_cons_toLoadRect _ _ _ _).trans ((congr (congrArg₂ k0_pay3 ((View.readAt_unit _ _ _ rfl (k0_off2_inb i)).trans (by rw [hf5]; rfl)) e2) e3).trans hW.symm))) e4) e8
    isplitl [H9]
    · iexists _; isplitr
      swap; · iexact H9
      ipureintro
      refine (View.read_writes_full _ _ _ _ _).trans ?_
      sl_unfold_words
      exact congr (congr (congr (congrArg k0_pay8 ((View.readCov_cons_toLoadRect _ _ _ _).trans ((congr (congrArg₂ k0_pay3 ((View.readAt_unit _ _ _ rfl (k0_off2_inb i)).trans (by rw [hf5]; rfl)) e2) e3).trans hW.symm))) e4) e5) e6
    iexists _; isplitr
    swap; · iexact H5
    ipureintro
    sl_unfold_words
    refine (View.read_writes_cons_put _ _ _ _ _ rfl).trans ?_
    rw [View.writes_nil, hf5]
    exact congrArg (VecWindow.put X (k0_off2 i) S512x1024.size)
      ((congr (congrArg₂ k0_pay3 ((View.readAt_unit _ _ _ rfl (k0_off2_inb i)).trans (by rw [hf5]; rfl)) e2) e3).trans hW.symm)
end

/-! ## The schedule -/

theorem hc1 : ∀ t : Fin cfg0.N, k0_cond1 (grid0.coords t) = 1#1 ↔ t.val < 8 :=
  (by decide +kernel : ∀ t : Fin grid0.N, k0_cond1 (grid0.coords t) = 1#1 ↔ t.val < 8)
theorem hc2 : ∀ t : Fin cfg0.N, k0_cond2 (grid0.coords t) = 1#1 ↔ t.val = 0 :=
  (by decide +kernel : ∀ t : Fin grid0.N, k0_cond2 (grid0.coords t) = 1#1 ↔ t.val = 0)
theorem hc3 : ∀ t : Fin cfg0.N, k0_cond3 (grid0.coords t) = 1#1 ↔ 24 ≤ t.val :=
  (by decide +kernel : ∀ t : Fin grid0.N, k0_cond3 (grid0.coords t) = 1#1 ↔ 24 ≤ t.val)

/-- The rows of the scratch a point is on. -/
theorem hoff2 : ∀ t : Fin cfg0.N, k0_off2 (grid0.coords t) = ![512 * (t.val % 8), 0] :=
  (by decide +kernel : ∀ t : Fin grid0.N, k0_off2 (grid0.coords t) = ![512 * (t.val % 8), 0])

/-- The rows' results are written back in the last row of points only, the gain's at the last point only. -/
theorem noflush5 : ∀ t : Fin cfg0.N, t.val < 24 → (cfg0.win 5).flush t = false :=
  (by decide +kernel : ∀ t : Fin grid0.N, t.val < 24 → win0_5.flush t = false)
theorem flush5 : ∀ t : Fin cfg0.N, 24 ≤ t.val → (cfg0.win 5).flush t = true :=
  (by decide +kernel : ∀ t : Fin grid0.N, 24 ≤ t.val → win0_5.flush t = true)
theorem flush6 : ∀ t : Fin cfg0.N, (cfg0.win 6).flush t = true ↔ t.val = 31 :=
  (by decide +kernel : ∀ t : Fin grid0.N, win0_6.flush t = true ↔ t.val = 31)
theorem noflush7 : ∀ t : Fin cfg0.N, t.val < 24 → (cfg0.win 7).flush t = false :=
  (by decide +kernel : ∀ t : Fin grid0.N, t.val < 24 → win0_7.flush t = false)
theorem flush7 : ∀ t : Fin cfg0.N, 24 ≤ t.val → (cfg0.win 7).flush t = true :=
  (by decide +kernel : ∀ t : Fin grid0.N, 24 ≤ t.val → win0_7.flush t = true)

theorem idle5 (t : Fin cfg0.N) : cfg0.idle 5 (cfg0.grid.coords t) = true ↔ t.val < 24 := by
  rw [show t.val < 24 ↔ ¬ 24 ≤ t.val from by omega, ← hc3 t]
  show (!(k0_cond3 (grid0.coords t) == 1#1)) = true ↔ _
  simp
theorem idle6 : ∀ t : Fin cfg0.N, cfg0.idle 6 (cfg0.grid.coords t) = true ↔ (t.val ≠ 0 ∧ t.val < 24) :=
  (by decide +kernel : ∀ t : Fin grid0.N, idle0 6 (grid0.coords t) = true ↔ (t.val ≠ 0 ∧ t.val < 24))
theorem idle7 (t : Fin cfg0.N) : cfg0.idle 7 (cfg0.grid.coords t) = true ↔ t.val < 24 := by
  rw [show t.val < 24 ↔ ¬ 24 ≤ t.val from by omega, ← hc3 t]
  show (!(k0_cond3 (grid0.coords t) == 1#1)) = true ↔ _
  simp

/-- The rows `j` of the scratch. -/
abbrev rowsAt (j : Fin 8) : Fin 2 → ℕ := ![512 * j.val, 0]

theorem rowsAt_inb (j : Fin 8) : ∀ a : Fin 2, rowsAt j a + S512x1024.size a ≤ S4096x1024.size a := by
  intro a; have := j.isLt
  fin_cases a
  · show 512 * j.val + 512 ≤ 4096; omega
  · show 0 + 1024 ≤ 1024; omega

/-! ## What the buffers hold -/

/-- The point on shard `k` and rows `j`. -/
abbrev pt (k : ℕ) (j : Fin 8) : Fin cfg0.N := ⟨(8 * k + j.val) % 32, Nat.mod_lt _ (by decide)⟩

/-- The rows `j` summed over the shards up to `k`. -/
def acc (c : Dev nD) (j : Fin 8) : ℕ → Vec F S512x1024 .f32
  | 0 => k0_pay3 k0_pay1 (iblk m c 0 (pt 0 j)) (iblk m c 1 (pt 0 j))
  | k + 1 => k0_pay3 (acc c j k) (iblk m c 0 (pt (k + 1) j)) (iblk m c 1 (pt (k + 1) j))

/-- The gain's gradient over the first `n` blocks of rows. -/
def dgAt (c : Dev nD) : ℕ → Vec F S1x1024 .f32
  | 0 => k0_pay2
  | n + 1 => k0_pay6 (acc m c ⟨n % 8, Nat.mod_lt _ (by decide)⟩ 3) (iblk m c 2 (pt 3 ⟨n % 8, Nat.mod_lt _ (by decide)⟩)) (dgAt c n)

/-- The rows a point is on. -/
abbrev row (t : Fin cfg0.N) : Fin 8 := ⟨t.val % 8, Nat.mod_lt _ (by decide)⟩

/-- The scratch before point `n`: the rows hold their sums over the shards gone by. -/
def Kept (c : Dev nD) (n : ℕ) (X : Vec F S4096x1024 .f32) : Prop :=
  ∀ (j : Fin 8) (k : ℕ), (n + 7 - j.val) / 8 = k + 1 → VecWindow.window X (rowsAt j) S512x1024.size (rowsAt_inb j) = acc m c j k

theorem kept_step (c : Dev nD) (t : Fin cfg0.N) (X : Vec F S4096x1024 .f32) (h : Kept m c t.val X) (W : Vec F S512x1024 .f32)
    (hW : W = acc m c (row t) (t.val / 8)) (off : Fin 2 → ℕ) (ho : off = ![512 * (t.val % 8), 0]) :
    Kept m c (t.val + 1) (VecWindow.put X off S512x1024.size W) := by
  subst hW ho
  intro j k hk
  by_cases e : j = row t
  · subst e
    have hk' : (t.val + 1 + 7 - t.val % 8) / 8 = k + 1 := hk
    obtain rfl : k = t.val / 8 := by omega
    exact VecWindow.window_put_same _ _ _ _ _
  · have hne : j.val ≠ t.val % 8 := fun h => e (Fin.ext h)
    have hj := j.isLt
    refine (VecWindow.window_put_of_disjoint _ _ _ _ _ (rowsAt_inb j) _ (0 : Fin 2) ?_).trans (h j k (by omega))
    show 512 * j.val + 512 ≤ 512 * (t.val % 8) ∨ 512 * (t.val % 8) + 512 ≤ 512 * j.val
    omega

theorem window_congr (X : Vec F S4096x1024 .f32) (off off' : Fin 2 → ℕ) (h) (h') (e : off = off') :
    VecWindow.window X off S512x1024.size h = VecWindow.window X off' S512x1024.size h' := by
  subst e; rfl

theorem ltN (t : Fin cfg0.N) : t.val < 32 := lt_of_lt_of_eq t.isLt (show cfg0.N = 32 from N_0)

theorem pt_self (t : Fin cfg0.N) : pt (t.val / 8) (row t) = t := Fin.ext (by
  have := ltN t
  show (8 * (t.val / 8) + t.val % 8) % 32 = t.val
  omega)

/-- A point's sum where it starts, -/
theorem acc_start (c : Dev nD) (t : Fin cfg0.N) (ht : t.val < 8) :
    k0_pay3 k0_pay1 (iblk m c 0 t) (iblk m c 1 t) = acc m c (row t) (t.val / 8) := by
  have e := pt_self t
  rw [show t.val / 8 = 0 by omega] at e ⊢
  show _ = k0_pay3 k0_pay1 (iblk m c 0 (pt 0 (row t))) (iblk m c 1 (pt 0 (row t)))
  rw [e]

/-- and where it goes on. -/
theorem acc_next (c : Dev nD) (t : Fin cfg0.N) (ht : ¬ t.val < 8) (X : Vec F S4096x1024 .f32) (hX : Kept m c t.val X) :
    k0_pay3 (VecWindow.window X (k0_off2 (grid0.coords t)) S512x1024.size (k0_off2_inb (grid0.coords t))) (iblk m c 0 t) (iblk m c 1 t)
      = acc m c (row t) (t.val / 8) := by
  have e := pt_self t
  obtain ⟨k, hk⟩ : ∃ k, t.val / 8 = k + 1 := ⟨t.val / 8 - 1, by omega⟩
  rw [hk] at e ⊢
  show _ = k0_pay3 (acc m c (row t) k) (iblk m c 0 (pt (k + 1) (row t))) (iblk m c 1 (pt (k + 1) (row t)))
  rw [e, ← hX (row t) k (by show (t.val + 7 - t.val % 8) / 8 = k + 1; omega)]
  exact congrArg (fun z => k0_pay3 z (iblk m c 0 t) (iblk m c 1 t)) (window_congr X _ _ _ _ (hoff2 t))

/-- The proof data: the inputs at their blocks, the gradient of the rows a point is on, the gain's gradient so far; the
    scratch in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay7 (acc m c (row t) 3) (iblk m c 2 t) (iblk m c 3 t) (iblk m c 4 t)
    | ⟨6, _⟩ => dgAt m c (t.val - 23)
    | ⟨7, _⟩ => k0_pay8 (acc m c (row t) 3) (iblk m c 2 t) (iblk m c 3 t) (iblk m c 4 t)
  Φ t := iprop((∃ X, owns (c : Thread nD τ) (Memref.whole cc0_scratch0) fullShare X ∗ ⌜Kept m c t.val X⌝) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay7 (acc m c (row t) 3) (iblk m c 2 t) (iblk m c 3 t) (iblk m c 4 t) := by dsimp only [dats]
theorem after0_6 (c : Dev nD) (t : Fin cfg0.N) : (dats m 0 c).after 6 t = dgAt m c (t.val - 23) := by dsimp only [dats]
theorem after0_7 (c : Dev nD) (t : Fin cfg0.N) : (dats m 0 c).after 7 t = k0_pay8 (acc m c (row t) 3) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The gain's buffer holds its gradient so far. -/
theorem fresh6 : ∀ t : Fin cfg0.N, ¬ t.val = 0 → cfg0.fresh 6 t.val = false :=
  (by decide +kernel : ∀ t : Fin grid0.N, ¬ t.val = 0 → cfg0.fresh 6 t.val = false)

theorem before0_6 (c : Dev nD) (t : Fin cfg0.N) (ht : ¬ t.val = 0) (d) : (dats m 0 c).before 6 t d = dgAt m c (t.val - 1 - 23) := by
  rw [(dats m 0 c).before_out_traj 6 rfl (fun _ _ => rfl) (fun t _ hi _ => by
    have := (idle6 t).mp hi
    rw [after0_6, after0_6]
    exact congrArg (dgAt m c) (by show t.val - 23 = t.val - 1 - 23; omega)) t.val t rfl d,
    if_neg (by rw [fresh6 t ht]; exact Bool.false_ne_true), after0_6]

/-! ## The body obligation -/

/-- What the body is called with at point `t`, -/
def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- what it leaves in the results' buffers, as the obligation asks it, -/
def leave5 (c : Dev nD) (t : Fin cfg0.N) : sProp (𝕄 F) :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)
def leave6 (c : Dev nD) (t : Fin cfg0.N) : sProp (𝕄 F) :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)
def leave7 (c : Dev nD) (t : Fin cfg0.N) : sProp (𝕄 F) :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

/-- and what it returns. -/
def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leave5 m c t ∗ leave6 m c t ∗ leave7 m c t)

theorem leave5_idle (c : Dev nD) (t : Fin cfg0.N) (ht : t.val < 24) :
    iprop(∃ d, owns (c : Thread nD τ) (st0_5 t) fullShare ((dats m 0 c).before 5 t d)) ⊢ (leave5 m c t : sProp (𝕄 F)) := by
  unfold leave5
  rw [(idle5 t).mpr ht, noflush5 t ht]
theorem leave5_last (c : Dev nD) (t : Fin cfg0.N) (ht : ¬ t.val < 24) :
    owns (c : Thread nD τ) (st0_5 t) fullShare ((dats m 0 c).after 5 t) ⊢ (leave5 m c t : sProp (𝕄 F)) := by
  unfold leave5
  rw [Bool.eq_false_iff.mpr (fun h => ht ((idle5 t).mp h))]
theorem leave6_of (c : Dev nD) (t : Fin cfg0.N) (d₀ : Vec F S1x1024 .f32) :
    owns (c : Thread nD τ) (st0_6 t) fullShare (dgAt m c (t.val - 23)) ⊢ (leave6 m c t : sProp (𝕄 F)) := by
  unfold leave6
  rcases hi : cfg0.idle 6 (cfg0.grid.coords t) with _ | _
  · dsimp only; rw [after0_6]
  · dsimp only
    rcases hf : (cfg0.win 6).flush t with _ | _
    · dsimp only
      iintro H
      iexists d₀
      have hh := (idle6 t).mp hi
      rw [before0_6 m c t hh.1, show t.val - 1 - 23 = t.val - 23 by omega]
      iexact H
    · dsimp only; rw [after0_6]
theorem leave7_idle (c : Dev nD) (t : Fin cfg0.N) (ht : t.val < 24) :
    iprop(∃ d, owns (c : Thread nD τ) (st0_7 t) fullShare ((dats m 0 c).before 7 t d)) ⊢ (leave7 m c t : sProp (𝕄 F)) := by
  unfold leave7
  rw [(idle7 t).mpr ht, noflush7 t ht]
theorem leave7_last (c : Dev nD) (t : Fin cfg0.N) (ht : ¬ t.val < 24) :
    owns (c : Thread nD τ) (st0_7 t) fullShare ((dats m 0 c).after 7 t) ⊢ (leave7 m c t : sProp (𝕄 F)) := by
  unfold leave7
  rw [Bool.eq_false_iff.mpr (fun h => ht ((idle7 t).mp h))]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4,
    show (dats m 0 c).Φ t.castSucc = iprop((∃ X, owns (c : Thread nD τ) (Memref.whole cc0_scratch0) fullShare X ∗ ⌜Kept m c t.val X⌝) ∗ ∃ r, prngReg c r) from rfl,
    show (dats m 0 c).Φ t.succ = iprop((∃ X, owns (c : Thread nD τ) (Memref.whole cc0_scratch0) fullShare X ∗ ⌜Kept m c (t.val + 1) X⌝) ∗ ∃ r, prngReg c r) from rfl]
  have hN := ltN t
  iintro ⟨⟨⟨%X, HX, %hX⟩, Hr⟩, Ho, ⟨%d0, H0⟩, ⟨%d1, H1⟩, ⟨%d2, H2⟩, ⟨%d3, H3⟩, ⟨%d4, H4⟩, H5, ⟨%d6, H6⟩, H7⟩
  by_cases h0 : t.val = 0
  · have hs := kept_step m c t X hX _ (acc_start m c t (by omega)) _ (hoff2 t)
    iapply (runA0 c (grid0.coords t) _ _ _ _ _ _ _ _ _ _ _ _ _ _ _ _ _ _ ((hc1 t).mpr (by omega)) ((hc2 t).mpr h0) (fun h => absurd ((hc3 t).mp h) (by omega)) (iblk m c 0 t) (iblk m c 1 t) X Set.univ _)
    isplitl [H0]; · iexact H0
    isplitl [H1]; · iexact H1
    isplitl [H6]; · iexists _; iexact H6
    isplitl [HX]; · iexact HX
    iintro ⟨H0, H1, H6, HX⟩
    isplitl [HX Hr]
    · isplitl [HX]
      · iexists _; isplitl [HX]; · iexact HX
        ipureintro
        exact hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (leave5_idle m c t (by omega)); iexact H5
    isplitr [H7]; swap; · iapply (leave7_idle m c t (by omega)); iexact H7
    iapply (leave6_of m c t d6)
    rw [show t.val - 23 = 0 by omega]; iexact H6
  by_cases h1 : t.val < 8
  · have hs := kept_step m c t X hX _ (acc_start m c t h1) _ (hoff2 t)
    iapply (runA c (grid0.coords t) _ _ _ _ _ _ _ _ _ _ _ _ _ _ _ _ _ _ ((hc1 t).mpr h1) (fun h => h0 ((hc2 t).mp h)) (fun h => absurd ((hc3 t).mp h) (by omega)) (iblk m c 0 t) (iblk m c 1 t) X Set.univ _)
    isplitl [H0]; · iexact H0
    isplitl [H1]; · iexact H1
    isplitl [HX]; · iexact HX
    iintro ⟨H0, H1, HX⟩
    isplitl [HX Hr]
    · isplitl [HX]
      · iexists _; isplitl [HX]; · iexact HX
        ipureintro
        exact hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (leave5_idle m c t (by omega)); iexact H5
    isplitr [H7]; swap; · iapply (leave7_idle m c t (by omega)); iexact H7
    iapply (leave6_of m c t d6)
    rw [before0_6 m c t h0, show t.val - 1 - 23 = t.val - 23 by omega]; iexact H6
  have hs := kept_step m c t X hX _ (acc_next m c t h1 X hX) _ (hoff2 t)
  by_cases h2 : t.val < 24
  · iapply (runB c (grid0.coords t) _ _ _ _ _ _ _ _ _ _ _ _ _ _ _ _ _ _ (fun h => h1 ((hc1 t).mp h)) (fun h => h0 ((hc2 t).mp h)) (fun h => absurd ((hc3 t).mp h) (by omega)) (iblk m c 0 t) (iblk m c 1 t) X Set.univ _)
    isplitl [H0]; · iexact H0
    isplitl [H1]; · iexact H1
    isplitl [HX]; · iexact HX
    iintro ⟨H0, H1, HX⟩
    isplitl [HX Hr]
    · isplitl [HX]
      · iexists _; isplitl [HX]; · iexact HX
        ipureintro
        exact hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (leave5_idle m c t h2); iexact H5
    isplitr [H7]; swap; · iapply (leave7_idle m c t h2); iexact H7
    iapply (leave6_of m c t d6)
    rw [before0_6 m c t h0, show t.val - 1 - 23 = t.val - 23 by omega]; iexact H6
  · have hW : acc m c (row t) 3 = k0_pay3 (VecWindow.window X (k0_off2 (grid0.coords t)) S512x1024.size (k0_off2_inb (grid0.coords t))) (iblk m c 0 t) (iblk m c 1 t) :=
      (acc_next m c t h1 X hX).symm ▸ congrArg (acc m c (row t)) (by omega)
    rw [← hW] at hs
    rw [before0_6 m c t h0]
    iapply (runC c (grid0.coords t) _ _ _ _ _ _ _ _ _ _ _ _ _ _ _ _ _ _ (fun h => h1 ((hc1 t).mp h)) (fun h => h0 ((hc2 t).mp h)) ((hc3 t).mpr (by omega)) (iblk m c 0 t) (iblk m c 1 t) (iblk m c 2 t) (iblk m c 3 t) (iblk m c 4 t) (dgAt m c (t.val - 1 - 23)) X (acc m c (row t) 3) hW Set.univ _)
    isplitl [H0]; · iexact H0
    isplitl [H1]; · iexact H1
    isplitl [H2]; · iexact H2
    isplitl [H3]; · iexact H3
    isplitl [H4]; · iexact H4
    isplitl [H5]; · icases H5 with ⟨%d5, H5⟩; iexists _; iexact H5
    isplitl [H6]; · iexact H6
    isplitl [H7]; · icases H7 with ⟨%d7, H7⟩; iexists _; iexact H7
    isplitl [HX]; · iexact HX
    iintro ⟨H0, H1, H2, H3, H4, H5, H6, H7, HX⟩
    isplitl [HX Hr]
    · isplitl [HX]
      · iexists _; isplitl [HX]; · iexact HX
        ipureintro
        exact hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (leave5_last m c t h2); rw [after0_5]; iexact H5
    isplitr [H7]; swap; · iapply (leave7_last m c t h2); rw [after0_7]; iexact H7
    iapply (leave6_of m c t d6)
    have e : dgAt m c (t.val - 23) = k0_pay6 (acc m c (row t) 3) (iblk m c 2 t) (dgAt m c (t.val - 1 - 23)) := by
      have er : (⟨(t.val - 1 - 23) % 8, Nat.mod_lt _ (by decide)⟩ : Fin 8) = row t := Fin.ext (by show (t.val - 1 - 23) % 8 = t.val % 8; omega)
      have ep := pt_self t
      rw [show t.val / 8 = 3 by omega] at ep
      rw [show t.val - 23 = t.val - 1 - 23 + 1 by omega]
      show k0_pay6 (acc m c ⟨(t.val - 1 - 23) % 8, _⟩ 3) (iblk m c 2 (pt 3 ⟨(t.val - 1 - 23) % 8, _⟩)) (dgAt m c (t.val - 1 - 23)) = _
      rw [er, ep]
    rw [e]; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats (F := F) m 0 c).Φ 0 := by
  rw [show (dats m 0 c).Φ 0 = iprop((∃ X, owns (c : Thread nD τ) (Memref.whole cc0_scratch0) fullShare X ∗ ⌜Kept m c 0 X⌝) ∗ ∃ r, prngReg c r) from rfl]
  unfold Pipeline.ΦA
  rw [scopedRest0_eq]
  iintro ⟨⟨%f, Hf⟩, Hr⟩
  isplitl [Hf]
  · iexists f
    isplitl [Hf]
    · rw [owns_whole]; iexact Hf
    · ipureintro; exact fun j k hk => absurd hk (by omega)
  · iexact Hr

theorem hout (c : Dev nD) : (dats (F := F) m 0 c).Φ (Fin.last cfg0.N) ⊢ Pipeline.ΦA spec0 c := by
  rw [show (dats m 0 c).Φ (Fin.last cfg0.N) = iprop((∃ X, owns (c : Thread nD τ) (Memref.whole cc0_scratch0) fullShare X ∗ ⌜Kept m c cfg0.N X⌝) ∗ ∃ r, prngReg c r) from rfl]
  unfold Pipeline.ΦA
  rw [scopedRest0_eq]
  iintro ⟨⟨%X, HX, %hX⟩, Hr⟩
  isplitl [HX]
  · iexists X; rw [← owns_whole]; iexact HX
  · iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments are as they were, no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.RmsIdealFrame

end
-- ==== Proof.RmsClaim.lean ====
/- The gradient of the attention layer's norm and input product: the kernel and the reference end at the same arrays. -/
module

public import proofs.«01_k».proof.Defs
public import proofs.«01_k».proof.Proof.RmsIdealFrame
public import proofs.«01_k».proof.Proof.Finite
public import proofs.«01_k».proof.Proof.RmsMath
public import proofs.«01_k».proof.Proof.Gen.RmsReferenceIdeal.Run
public import proofs.«01_k».proof.Proof.Gen.RmsReferenceIdeal.Read
public import proofs.«01_k».proof.Proof.Gen.Pre_rms_finite
public import Idealize.ShloMosaic.Lib.Pointwise

@[expose] public section

noncomputable section

namespace Cert.RmsClaim

open Idealize.ShloMosaic Idealize.SL.Sem Idealize.ShloMosaic.StableHlo Cert.RmsMath

set_option maxRecDepth 16384

section
open Cert.Pre_rms_finite Cert.Pre_rms_finite.Gen

/-- The precondition says that the first four arguments hold reals. -/
theorem finite (x0 : FVec Ideal S4096x6144 .bf16) (x1 : FVec Ideal S1024x6144 .bf16) (x2 : FVec Ideal S4096x1024 .f32) (x3 : FVec Ideal S1x1024 .f32) (x4 : FVec Ideal S4096x1024 .f32)
    (h : Cert.Pre_rms_finite.fn (F := Ideal) x0 x1 x2 x3 x4 = fun _ => 1#1) :
    (∀ i, (x0 i : EReal) = ((EReal.toReal (x0 i) : ℝ) : EReal)) ∧ (∀ i, (x1 i : EReal) = ((EReal.toReal (x1 i) : ℝ) : EReal))
      ∧ (∀ i, (x2 i : EReal) = ((EReal.toReal (x2 i) : ℝ) : EReal)) ∧ (∀ i, (x3 i : EReal) = ((EReal.toReal (x3 i) : ℝ) : EReal)) := by
  have hs : Subsingleton S_.Idx := ⟨fun a b => funext fun k => k.elim0⟩
  have h' := congrFun h (fun k => k.elim0)
  dsimp only [Cert.Pre_rms_finite.fn] at h'
  obtain ⟨h', hd⟩ := Cert.Finite.and_one h'
  obtain ⟨h', hc⟩ := Cert.Finite.and_one h'
  obtain ⟨ha, hb⟩ := Cert.Finite.and_one h'
  exact ⟨Cert.Finite.real_of_all _ _ _ _ _ _ (fun _ => rfl) ha, Cert.Finite.real_of_all _ _ _ _ _ _ (fun _ => rfl) hb,
    Cert.Finite.real_of_all _ _ _ _ _ _ (fun _ => rfl) hc, Cert.Finite.real_of_all _ _ _ _ _ _ (fun _ => rfl) hd⟩
end

section
open Cert.RmsKernelIdeal Cert.RmsKernelIdeal.Gen Cert.RmsIdealFrame

variable (m : (ℓ : Loc nD τ sig) → Buf (Elt Ideal) ℓ)

/-- The launch contents of the arguments: the product's gradient, the weights, the rows, the norm's gain, the gradient that
    passes by. -/
abbrev arg0 (c : Dev nD) : FVec Ideal S4096x6144 .bf16 := m (c.tc.loc main_arg0)
abbrev arg1 (c : Dev nD) : FVec Ideal S1024x6144 .bf16 := m (c.tc.loc main_arg1)
abbrev arg2 (c : Dev nD) : FVec Ideal S4096x1024 .f32 := m (c.tc.loc main_arg2)
abbrev arg3 (c : Dev nD) : FVec Ideal S1x1024 .f32 := m (c.tc.loc main_arg3)
abbrev arg4 (c : Dev nD) : FVec Ideal S4096x1024 .f32 := m (c.tc.loc main_arg4)

theorem idx0 : ∀ t : Fin grid0.N, win0_0.index t 0 = t.val % 8 ∧ win0_0.index t 1 = t.val / 8 := by decide +kernel
theorem idx1 : ∀ t : Fin grid0.N, win0_1.index t 0 = t.val / 8 ∧ win0_1.index t 1 = 0 ∧ win0_1.index t 2 = 0 := by decide +kernel
theorem idx2 : ∀ t : Fin grid0.N, 24 ≤ t.val → win0_2.index t 0 = t.val % 8 ∧ win0_2.index t 1 = 0 := by decide +kernel
theorem idx3 : ∀ t : Fin grid0.N, win0_3.index t 0 = 0 ∧ win0_3.index t 1 = 0 := by decide +kernel
theorem idx4 : ∀ t : Fin grid0.N, 24 ≤ t.val → win0_4.index t 0 = t.val % 8 ∧ win0_4.index t 1 = 0 := by decide +kernel
theorem idx5 : ∀ t : Fin grid0.N, 24 ≤ t.val → win0_5.index t 0 = t.val % 8 ∧ win0_5.index t 1 = 0 := by decide +kernel
theorem idx6 : ∀ t : Fin grid0.N, win0_6.index t 0 = 0 ∧ win0_6.index t 1 = 0 := by decide +kernel
theorem xsz5 : ∀ t : Fin grid0.N, win0_5.xsize (grid0.coords t) 0 = 512 ∧ win0_5.xsize (grid0.coords t) 1 = 1024 := by decide +kernel
theorem xsz6 : ∀ t : Fin grid0.N, win0_6.xsize (grid0.coords t) 0 = 1 ∧ win0_6.xsize (grid0.coords t) 1 = 1024 := by decide +kernel
theorem idx7 : ∀ t : Fin grid0.N, 24 ≤ t.val → win0_7.index t 0 = t.val % 8 ∧ win0_7.index t 1 = 0 := by decide +kernel
theorem xsz7 : ∀ t : Fin grid0.N, win0_7.xsize (grid0.coords t) 0 = 512 ∧ win0_7.xsize (grid0.coords t) 1 = 1024 := by decide +kernel

/-- The shards of the weights, as the region finds them. -/
theorem V_main_v1 (c : Dev nD) (n : Fin 4) (x : Fin 1024) (j : Fin 1536) :
    (V m c main_v1 : FVec Ideal S4x1024x1536 .bf16) (ix3 n x j) = arg1 m c (ix2 x ⟨n.val * 1536 + j.val, by omega⟩) := by
  have e : V m c main_v1 = transpose S4x1024x1536 [1, 0, 2] (shapeCast S1024x4x1536 (arg1 m c) shapeCasts_S1024x6144_S1024x4x1536) transposes_S1024x4x1536_S4x1024x1536_1_0_2 := by
    show StableHlo.after hostOps0 _ (Proc.devRef .tc main_v1) = _
    simp only [hostOps0, StableHlo.after_cons, StableHlo.after_nil]
    rw [StableHlo.unary_result, StableHlo.reshape_result]
    rfl
  rw [e]
  pointwise []

theorem iblk0 (c : Dev nD) (n : Fin 4) (j : Fin 8) (r : Fin 512) (p : Fin 1536) :
    iblk m c 0 (pt n.val j) (ix2 r p) = arg0 m c (ix2 ⟨512 * j.val + r.val, by omega⟩ ⟨1536 * n.val + p.val, by omega⟩) := by
  have hi := idx0 (pt n.val j)
  have hv : (8 * n.val + j.val) % 32 = 8 * n.val + j.val := Nat.mod_eq_of_lt (by omega)
  dsimp only at hi
  unfold iblk
  rw [View.read_apply]
  show V m c main_arg0 _ = _
  rw [V_main_arg0]
  refine congrArg (m (c.tc.loc main_arg0)) ?_
  funext a
  apply Fin.ext
  match a with
  | ⟨0, _⟩ => show win0_0.index (pt n.val j) 0 * 512 + 1 * r.val = 512 * j.val + r.val; rw [hi.1, hv]; omega
  | ⟨1, _⟩ => show win0_0.index (pt n.val j) 1 * 1536 + 1 * p.val = 1536 * n.val + p.val; rw [hi.2, hv]; omega

theorem iblk1 (c : Dev nD) (n : Fin 4) (j : Fin 8) (x : Fin 1024) (p : Fin 1536) :
    iblk m c 1 (pt n.val j) (ix3 0 x p) = arg1 m c (ix2 x ⟨1536 * n.val + p.val, by omega⟩) := by
  have hi := idx1 (pt n.val j)
  have hv : (8 * n.val + j.val) % 32 = 8 * n.val + j.val := Nat.mod_eq_of_lt (by omega)
  dsimp only at hi
  refine Eq.trans ?_ ((V_main_v1 m c n x p).trans (congrArg (fun q => arg1 m c (ix2 x q)) (Fin.ext (by dsimp only; omega))))
  unfold iblk
  rw [View.read_apply]
  show V m c main_v1 _ = _
  refine congrArg (V m c main_v1) ?_
  funext a
  apply Fin.ext
  match a with
  | ⟨0, _⟩ => show win0_1.index (pt n.val j) 0 * 1 + 1 * 0 = n.val; rw [hi.1, hv]; omega
  | ⟨1, _⟩ => show win0_1.index (pt n.val j) 1 * 1024 + 1 * x.val = x.val; rw [hi.2.1]; omega
  | ⟨2, _⟩ => show win0_1.index (pt n.val j) 2 * 1536 + 1 * p.val = p.val; rw [hi.2.2]; omega

theorem iblk2 (c : Dev nD) (t : Fin grid0.N) (ht : 24 ≤ t.val) (r : Fin 512) (k : Fin 1024) :
    iblk m c 2 t (ix2 r k) = arg2 m c (ix2 ⟨512 * (t.val % 8) + r.val, by omega⟩ k) := by
  have hi := idx2 t ht
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 512 + 1 * r.val = 512 * (t.val % 8) + r.val; rw [hi.1]; omega
  | ⟨1, _⟩ => show win0_2.index t 1 * 1024 + 1 * k.val = k.val; rw [hi.2]; omega

theorem iblk3 (c : Dev nD) (t : Fin grid0.N) (r : Fin 1) (k : Fin 1024) :
    iblk m c 3 t (ix2 r k) = arg3 m c (ix2 r k) := by
  have hi := idx3 t
  unfold iblk
  rw [View.read_apply]
  show V m c main_arg3 _ = _
  rw [V_main_arg3]
  refine congrArg (m (c.tc.loc main_arg3)) ?_
  funext a
  apply Fin.ext
  match a with
  | ⟨0, _⟩ => show win0_3.index t 0 * 1 + 1 * r.val = r.val; rw [hi.1]; omega
  | ⟨1, _⟩ => show win0_3.index t 1 * 1024 + 1 * k.val = k.val; rw [hi.2]; omega

theorem iblk4 (c : Dev nD) (t : Fin grid0.N) (ht : 24 ≤ t.val) (r : Fin 512) (k : Fin 1024) :
    iblk m c 4 t (ix2 r k) = arg4 m c (ix2 ⟨512 * (t.val % 8) + r.val, by omega⟩ k) := by
  have hi := idx4 t ht
  unfold iblk
  rw [View.read_apply]
  show V m c main_arg4 _ = _
  rw [V_main_arg4]
  refine congrArg (m (c.tc.loc main_arg4)) ?_
  funext a
  apply Fin.ext
  match a with
  | ⟨0, _⟩ => show win0_4.index t 0 * 512 + 1 * r.val = 512 * (t.val % 8) + r.val; rw [hi.1]; omega
  | ⟨1, _⟩ => show win0_4.index t 1 * 1024 + 1 * k.val = k.val; rw [hi.2]; omega

/-! ## The payloads at an index -/

theorem read_pay1 (r : Fin 512) (k : Fin 1024) : k0_pay1 (F := Ideal) (ix2 r k) = 0 := by
  refine Eq.trans (b := Ideal.ofBits .f32 0x00000000#32) ?_ Ideal.ofBits_zero_f32
  pointwise [k0_pay1]

theorem read_pay2 (k : Fin 1024) : k0_pay2 (F := Ideal) (ix2 0 k) = 0 := by
  refine Eq.trans (b := Ideal.ofBits .f32 0x00000000#32) ?_ Ideal.ofBits_zero_f32
  pointwise [k0_pay2]

/-- A shard's part of the product at an index. -/
def part (x : FVec Ideal S512x1536 .bf16) (y : FVec Ideal S1x1024x1536 .bf16) (r : Fin 512) (k : Fin 1024) : EReal :=
  ∑ p, x (ix2 r p) * y (ix3 0 k p)

theorem read_pay3 (a : FVec Ideal S512x1024 .f32) (x : FVec Ideal S512x1536 .bf16) (y : FVec Ideal S1x1024x1536 .bf16) (r : Fin 512) (k : Fin 1024) :
    k0_pay3 (F := Ideal) a x y (ix2 r k) = a (ix2 r k) + part x y r k := by
  unfold part
  pointwise [k0_pay3]

theorem read_pay6 (W h : FVec Ideal S512x1024 .f32) (D : FVec Ideal S1x1024 .f32) (k : Fin 1024) :
    k0_pay6 (F := Ideal) W h D (ix2 0 k) = D (ix2 0 k) + ∑ r : Fin 512, W (ix2 r k) * (h (ix2 r k) * rho (fun q => h (ix2 r q))) := by
  unfold rho mean
  pointwise [k0_pay6, k0_pay5, k0_pay4]

theorem read_pay7 (W h : FVec Ideal S512x1024 .f32) (g : FVec Ideal S1x1024 .f32) (R : FVec Ideal S512x1024 .f32) (r : Fin 512) (k : Fin 1024) :
    k0_pay7 (F := Ideal) W h g R (ix2 r k) = short (fun q => W (ix2 r q)) (fun q => h (ix2 r q)) (fun q => g (ix2 0 q)) (R (ix2 r k)) k := by
  unfold short rho mean
  pointwise [k0_pay7, k0_pay5, k0_pay4]

/-! ## The sums -/

/-- The products whose sum is the normed rows' gradient, -/
def duf (c : Dev nD) (t : Fin 4096) (k : Fin 1024) (p : Fin 6144) : EReal := arg0 m c (ix2 t p) * arg1 m c (ix2 k p)

/-- it, -/
def duAt (c : Dev nD) (t : Fin 4096) (k : Fin 1024) : EReal := ∑ p, duf m c t k p

/-- and the products whose sum is the gain's gradient. -/
def dgf (c : Dev nD) (k : Fin 1024) (t : Fin 4096) : EReal :=
  duAt m c t k * (arg2 m c (ix2 t k) * rho (fun q => arg2 m c (ix2 t q)))

theorem dot_read (c : Dev nD) (n : ℕ) (hn : n < 4) (j : Fin 8) (r : Fin 512) (k : Fin 1024) :
    part (iblk m c 0 (pt n j)) (iblk m c 1 (pt n j)) r k
      = ∑ p : Fin 1536, duf m c ⟨512 * j.val + r.val, by omega⟩ k ⟨1536 * n + p.val, by omega⟩ :=
  Finset.sum_congr rfl fun p _ => congrArg₂ (fun a b : EReal => a * b) (iblk0 m c ⟨n, hn⟩ j r p) (iblk1 m c ⟨n, hn⟩ j k p)

theorem acc_read (c : Dev nD) (j : Fin 8) (r : Fin 512) (k : Fin 1024) : ∀ n : ℕ, n < 4 →
    acc m c j n (ix2 r k) = ∑ p ∈ Finset.range (1536 * n + 1536), ext (duf m c ⟨512 * j.val + r.val, by omega⟩ k) p
  | 0, _ => by
    refine (read_pay3 _ _ _ _ _).trans ?_
    rw [read_pay1, dot_read m c 0 (by omega) j r k, sum_block _ _ (by omega)]
    exact congrArg₂ (fun a b : EReal => a + b) (by rw [Nat.mul_zero, Finset.range_zero, Finset.sum_empty]) rfl
  | n + 1, h => by
    refine (read_pay3 _ _ _ _ _).trans ?_
    rw [acc_read c j r k n (by omega), dot_read m c (n + 1) h j r k, sum_block (b := 1536) _ (1536 * (n + 1)) (by omega)]
    exact congrArg₂ (fun a b : EReal => a + b) (by rw [Nat.mul_succ]) rfl

theorem acc_last (c : Dev nD) (j : Fin 8) (r : Fin 512) (k : Fin 1024) :
    acc m c j 3 (ix2 r k) = duAt m c ⟨512 * j.val + r.val, by omega⟩ k :=
  (acc_read m c j r k 3 (by omega)).trans (sum_ext _)

theorem dg_read (c : Dev nD) (k : Fin 1024) : ∀ n : ℕ, n ≤ 8 →
    dgAt m c n (ix2 0 k) = ∑ t ∈ Finset.range (512 * n), ext (dgf m c k) t
  | 0, _ => read_pay2 k
  | n + 1, h => by
    show k0_pay6 (F := Ideal) (acc m c ⟨n % 8, _⟩ 3) (iblk m c 2 (pt 3 ⟨n % 8, _⟩)) (dgAt m c n) (ix2 0 k) = _
    rw [read_pay6, dg_read c k n (by omega), Nat.mul_succ, sum_block _ _ (by omega)]
    refine congrArg₂ (fun a b : EReal => a + b) rfl (Finset.sum_congr rfl fun r _ => ?_)
    have e : ∀ q : Fin 1024, iblk m c 2 (pt 3 ⟨n % 8, Nat.mod_lt _ (by decide)⟩) (ix2 r q) = arg2 m c (ix2 ⟨512 * n + r.val, by omega⟩ q) := fun q =>
      (iblk2 m c _ (by show 24 ≤ (8 * 3 + n % 8) % 32; omega) r q).trans
        (congrArg (fun x => arg2 m c (ix2 x q)) (Fin.ext (by show 512 * ((8 * 3 + n % 8) % 32 % 8) + r.val = 512 * n + r.val; omega)))
    have ea : acc m c ⟨n % 8, Nat.mod_lt _ (by decide)⟩ 3 (ix2 r k) = duAt m c ⟨512 * n + r.val, by omega⟩ k :=
      (acc_last m c _ r k).trans (congrArg (fun x => duAt m c x k) (Fin.ext (by show 512 * (n % 8) + r.val = 512 * n + r.val; omega)))
    unfold dgf
    exact congrArg₂ (fun a b : EReal => a * b) ea (congrArg₂ (fun a b : EReal => a * b) (e k) (congrArg rho (funext e)))

/-! ## The arrays -/

/-- The results, over the whole arrays. -/
def target5 (c : Dev nD) (i : S4096x1024.Idx) : EReal :=
  short (duAt m c (i 0)) (fun q => arg2 m c (ix2 (i 0) q)) (fun q => arg3 m c (ix2 0 q)) (arg4 m c i) (i 1)
def target6 (c : Dev nD) (i : S1x1024.Idx) : EReal := ∑ t, dgf m c (i 1) t

theorem dx_read (c : Dev nD) (t : Fin grid0.N) (ht : 24 ≤ t.val) (r : Fin 512) (k : Fin 1024) :
    k0_pay7 (F := Ideal) (acc m c (row t) 3) (iblk m c 2 t) (iblk m c 3 t) (iblk m c 4 t) (ix2 r k)
      = target5 m c (ix2 ⟨512 * (t.val % 8) + r.val, by omega⟩ k) := by
  rw [read_pay7]
  unfold target5
  rw [show (fun q => acc m c (row t) 3 (ix2 r q)) = duAt m c ⟨512 * (t.val % 8) + r.val, by omega⟩ from funext fun q => acc_last m c (row t) r q,
    show (fun q => iblk m c 2 t (ix2 r q)) = fun q => arg2 m c (ix2 ⟨512 * (t.val % 8) + r.val, by omega⟩ q) from funext fun q => iblk2 m c t ht r q,
    show (fun q => iblk m c 3 t (ix2 0 q)) = fun q => arg3 m c (ix2 0 q) from funext fun q => iblk3 m c t 0 q,
    iblk4 m c t ht r k]
  rfl

/-- Where a point's block of window 5 lies in its array. -/
theorem mem_blk5 (t : Fin grid0.N) (ht : 24 ≤ t.val) (i : S4096x1024.Idx) :
    i ∈ ((cfg0.win 5).blk t).view.set ↔ (t.val % 8 * 512 ≤ (i 0).val ∧ (i 0).val < t.val % 8 * 512 + 512) ∧ (0 * 1024 ≤ (i 1).val ∧ (i 1).val < 0 * 1024 + 1024) := by
  show i ∈ ((View.whole main_v2_0).slice (win0_5.rect t)).set ↔ _
  rw [View.set_slice_whole, Rect.mem_set_unit]
  have e := idx5 t ht
  have x := xsz5 t
  refine ⟨fun h => ⟨?_, ?_⟩, fun h a => ?_⟩
  · have : win0_5.index t 0 * 512 ≤ (i 0).val ∧ (i 0).val < win0_5.index t 0 * 512 + win0_5.xsize (grid0.coords t) 0 := h 0
    rwa [e.1, x.1] at this
  · have : win0_5.index t 1 * 1024 ≤ (i 1).val ∧ (i 1).val < win0_5.index t 1 * 1024 + win0_5.xsize (grid0.coords t) 1 := h 1
    rwa [e.2, x.2] at this
  · match a with
    | ⟨0, _⟩ =>
      show win0_5.index t 0 * 512 ≤ (i 0).val ∧ (i 0).val < win0_5.index t 0 * 512 + win0_5.xsize (grid0.coords t) 0
      rw [e.1, x.1]; exact h.1
    | ⟨1, _⟩ =>
      show win0_5.index t 1 * 1024 ≤ (i 1).val ∧ (i 1).val < win0_5.index t 1 * 1024 + win0_5.xsize (grid0.coords t) 1
      rw [e.2, x.2]; exact h.2

/-- What a point writes to window 5. -/
theorem flushed_read5 (c : Dev nD) (t : Fin grid0.N) (ht : 24 ≤ t.val) :
    (dats m 0 c).flushed 5 t = ((cfg0.win 5).blk t).view.read (Elt Ideal) (target5 m c) := by
  funext y
  have e := idx5 t ht
  have x := xsz5 t
  have h0 : (y 0).val < 512 := x.1 ▸ (y 0).isLt
  have h1 : (y 1).val < 1024 := x.2 ▸ (y 1).isLt
  have hj : (cfg0.win 5).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  have hi : ((cfg0.win 5).blk t).view.emb y = (ix2 (⟨512 * (t.val % 8) + (y 0).val, by omega⟩) (⟨(y 1).val, h1⟩) : S4096x1024.Idx) := by
    funext a; apply Fin.ext
    match a with
    | ⟨0, _⟩ => show win0_5.index t 0 * 512 + 1 * (y 0).val = 512 * (t.val % 8) + (y 0).val; rw [e.1]; omega
    | ⟨1, _⟩ => show win0_5.index t 1 * 1024 + 1 * (y 1).val = (y 1).val; rw [e.2]; omega
  show (dats m 0 c).after 5 t ((cfg0.win 5).xinj (grid0.coords t) y) = _
  rw [after0_5]
  refine (congrArg (k0_pay7 (F := Ideal) (acc m c (row t) 3) (iblk m c 2 t) (iblk m c 3 t) (iblk m c 4 t)) hj).trans ?_
  exact (dx_read m c t ht _ _).trans (congrArg (target5 m c) hi).symm

theorem final5 (c : Dev nD) : (dats m 0 c).arrAt 5 cfg0.N = target5 m c := by
  refine (dats m 0 c).arrAt_eq_of_cover 5 _ (fun t hf => flushed_read5 m c t ?_) fun i => ?_
  · by_contra hlt
    exact absurd (noflush5 t (by omega)) (by rw [hf]; exact Bool.noConfusion)
  · change S4096x1024.Idx at i
    have hr : (i 0).val < 4096 := (i 0).isLt
    have hc : (i 1).val < 1024 := (i 1).isLt
    refine ⟨(⟨24 + (i 0).val / 512, by show _ < 32; omega⟩ : Fin grid0.N), flush5 _ (by show 24 ≤ 24 + _; omega), ?_⟩
    rw [mem_blk5 _ (by show 24 ≤ 24 + _; omega)]
    dsimp only
    omega

/-- Where a point's block of window 7 lies in its array. -/
theorem mem_blk7 (t : Fin grid0.N) (ht : 24 ≤ t.val) (i : S4096x1024.Idx) :
    i ∈ ((cfg0.win 7).blk t).view.set ↔ (t.val % 8 * 512 ≤ (i 0).val ∧ (i 0).val < t.val % 8 * 512 + 512) ∧ (0 * 1024 ≤ (i 1).val ∧ (i 1).val < 0 * 1024 + 1024) := by
  show i ∈ ((View.whole main_v2_2).slice (win0_7.rect t)).set ↔ _
  rw [View.set_slice_whole, Rect.mem_set_unit]
  have e := idx7 t ht
  have x := xsz7 t
  refine ⟨fun h => ⟨?_, ?_⟩, fun h a => ?_⟩
  · have : win0_7.index t 0 * 512 ≤ (i 0).val ∧ (i 0).val < win0_7.index t 0 * 512 + win0_7.xsize (grid0.coords t) 0 := h 0
    rwa [e.1, x.1] at this
  · have : win0_7.index t 1 * 1024 ≤ (i 1).val ∧ (i 1).val < win0_7.index t 1 * 1024 + win0_7.xsize (grid0.coords t) 1 := h 1
    rwa [e.2, x.2] at this
  · match a with
    | ⟨0, _⟩ =>
      show win0_7.index t 0 * 512 ≤ (i 0).val ∧ (i 0).val < win0_7.index t 0 * 512 + win0_7.xsize (grid0.coords t) 0
      rw [e.1, x.1]; exact h.1
    | ⟨1, _⟩ =>
      show win0_7.index t 1 * 1024 ≤ (i 1).val ∧ (i 1).val < win0_7.index t 1 * 1024 + win0_7.xsize (grid0.coords t) 1
      rw [e.2, x.2]; exact h.2

/-- What a point writes to window 7. -/
theorem flushed_read7 (c : Dev nD) (t : Fin grid0.N) (ht : 24 ≤ t.val) :
    (dats m 0 c).flushed 7 t = ((cfg0.win 7).blk t).view.read (Elt Ideal) (target5 m c) := by
  funext y
  have e := idx7 t ht
  have x := xsz7 t
  have h0 : (y 0).val < 512 := x.1 ▸ (y 0).isLt
  have h1 : (y 1).val < 1024 := x.2 ▸ (y 1).isLt
  have hj : (cfg0.win 7).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  have hi : ((cfg0.win 7).blk t).view.emb y = (ix2 (⟨512 * (t.val % 8) + (y 0).val, by omega⟩) (⟨(y 1).val, h1⟩) : S4096x1024.Idx) := by
    funext a; apply Fin.ext
    match a with
    | ⟨0, _⟩ => show win0_7.index t 0 * 512 + 1 * (y 0).val = 512 * (t.val % 8) + (y 0).val; rw [e.1]; omega
    | ⟨1, _⟩ => show win0_7.index t 1 * 1024 + 1 * (y 1).val = (y 1).val; rw [e.2]; omega
  show (dats m 0 c).after 7 t ((cfg0.win 7).xinj (grid0.coords t) y) = _
  rw [after0_7]
  refine (congrArg (k0_pay7 (F := Ideal) (acc m c (row t) 3) (iblk m c 2 t) (iblk m c 3 t) (iblk m c 4 t)) hj).trans ?_
  exact (dx_read m c t ht _ _).trans (congrArg (target5 m c) hi).symm

theorem final7 (c : Dev nD) : (dats m 0 c).arrAt 7 cfg0.N = target5 m c := by
  refine (dats m 0 c).arrAt_eq_of_cover 7 _ (fun t hf => flushed_read7 m c t ?_) fun i => ?_
  · by_contra hlt
    exact absurd (noflush7 t (by omega)) (by rw [hf]; exact Bool.noConfusion)
  · change S4096x1024.Idx at i
    have hr : (i 0).val < 4096 := (i 0).isLt
    have hc : (i 1).val < 1024 := (i 1).isLt
    refine ⟨(⟨24 + (i 0).val / 512, by show _ < 32; omega⟩ : Fin grid0.N), flush7 _ (by show 24 ≤ 24 + _; omega), ?_⟩
    rw [mem_blk7 _ (by show 24 ≤ 24 + _; omega)]
    dsimp only
    omega

/-- Where a point's block of window 6 lies in its array: all over it. -/
theorem mem_blk6 (t : Fin grid0.N) (i : S1x1024.Idx) : i ∈ ((cfg0.win 6).blk t).view.set := by
  show i ∈ ((View.whole main_v2_1).slice (win0_6.rect t)).set
  rw [View.set_slice_whole, Rect.mem_set_unit]
  have e := idx6 t
  have x := xsz6 t
  have hr : (i 0).val < 1 := (i 0).isLt
  have hc : (i 1).val < 1024 := (i 1).isLt
  intro a
  match a with
  | ⟨0, _⟩ =>
    show win0_6.index t 0 * 1 ≤ (i 0).val ∧ (i 0).val < win0_6.index t 0 * 1 + win0_6.xsize (grid0.coords t) 0
    rw [e.1, x.1]; omega
  | ⟨1, _⟩ =>
    show win0_6.index t 1 * 1024 ≤ (i 1).val ∧ (i 1).val < win0_6.index t 1 * 1024 + win0_6.xsize (grid0.coords t) 1
    rw [e.2, x.2]; omega

/-- What the last point writes to window 6. -/
theorem flushed_read6 (c : Dev nD) (t : Fin grid0.N) (ht : t.val = 31) :
    (dats m 0 c).flushed 6 t = ((cfg0.win 6).blk t).view.read (Elt Ideal) (target6 m c) := by
  funext y
  have e := idx6 t
  have x := xsz6 t
  have h0 : (y 0).val < 1 := lt_of_lt_of_eq (y 0).isLt x.1
  have h1 : (y 1).val < 1024 := x.2 ▸ (y 1).isLt
  have hj : (cfg0.win 6).xinj (grid0.coords t) y = ix2 (0 : Fin 1) (⟨(y 1).val, h1⟩ : Fin 1024) := by
    funext a; apply Fin.ext
    match a with
    | ⟨0, _⟩ => show (y 0).val = 0; omega
    | ⟨1, _⟩ => rfl
  have hi : ((cfg0.win 6).blk t).view.emb y = (ix2 (0 : Fin 1) (⟨(y 1).val, h1⟩ : Fin 1024) : S1x1024.Idx) := by
    funext a; apply Fin.ext
    match a with
    | ⟨0, _⟩ => show win0_6.index t 0 * 1 + 1 * (y 0).val = 0; rw [e.1]; omega
    | ⟨1, _⟩ => show win0_6.index t 1 * 1024 + 1 * (y 1).val = (y 1).val; rw [e.2]; omega
  show (dats m 0 c).after 6 t ((cfg0.win 6).xinj (grid0.coords t) y) = _
  rw [after0_6, ht]
  refine (congrArg (dgAt m c 8) hj).trans ?_
  refine (dg_read m c _ 8 le_rfl).trans (Eq.trans ?_ (congrArg (target6 m c) hi).symm)
  exact sum_ext (dgf m c ⟨(y 1).val, h1⟩)

theorem final6 (c : Dev nD) : (dats m 0 c).arrAt 6 cfg0.N = target6 m c :=
  (dats m 0 c).arrAt_eq_of_cover 6 _ (fun t hf => flushed_read6 m c t ((flush6 t).mp hf)) fun i =>
    ⟨(⟨31, by show 31 < 32; omega⟩ : Fin grid0.N), (flush6 _).mpr rfl, mem_blk6 _ i⟩
end

section
open Cert.RmsReferenceIdeal Cert.RmsReferenceIdeal.Gen Cert.RmsReferenceIdeal.Read

/-- The reference's product at an index, -/
theorem reference_du (x0 : FVec Ideal S4096x6144 .bf16) (x1 : FVec Ideal S1024x6144 .bf16) (t : Fin 4096) (k : Fin 1024) :
    val_main_v18 (F := Ideal) x0 x1 (ix2 t k) = ∑ p, x0 (ix2 t p) * x1 (ix2 k p) := by
  pointwise [val_main_v18, val_main_v0, val_main_v1]

/-- its mean of the squares, -/
theorem reference_mean (x2 : FVec Ideal S4096x1024 .f32) (t : Fin 4096) :
    val_main_v8 (F := Ideal) x2 (ix2 t 0) = mean (fun q => x2 (ix2 t q)) := by
  unfold mean
  pointwise [val_main_v8, val_main_v7, val_main_v6, val_main_v5, val_main_v4, val_main_v3, val_main_v2, val_main_cst, val_main_cst_0, val_main_cst_1]

/-- the inverse of its root, -/
theorem reference_rho (x2 : FVec Ideal S4096x1024 .f32) (t : Fin 4096) :
    val_main_v9 (F := Ideal) x2 (ix2 t 0) = rho (fun q => x2 (ix2 t q)) :=
  congrArg Ideal.rsqrt (reference_mean x2 t)

/-- the gain's gradient, -/
theorem reference6 (x0 : FVec Ideal S4096x6144 .bf16) (x1 : FVec Ideal S1024x6144 .bf16) (x2 : FVec Ideal S4096x1024 .f32) (k : Fin 1024) :
    val_main_v21 (F := Ideal) x0 x1 x2 (ix2 0 k)
      = ∑ t : Fin 4096, x2 (ix2 t k) * rho (fun q => x2 (ix2 t q)) * ∑ p, x0 (ix2 t p) * x1 (ix2 k p) := by
  refine Eq.trans (b := ∑ t : Fin 4096, x2 (ix2 t k) * val_main_v9 (F := Ideal) x2 (ix2 t 0) * val_main_v18 (F := Ideal) x0 x1 (ix2 t k)) ?_
    (Finset.sum_congr rfl fun t _ => by rw [reference_rho, reference_du])
  simp only [val_main_v21, val_main_v20, val_main_v19, val_main_v14, val_main_v13, val_main_cst_3]
  generalize val_main_v9 (F := Ideal) x2 = y
  generalize val_main_v18 (F := Ideal) x0 x1 = z
  pointwise []

/-- the factor of the rows, -/
theorem reference_factor (x0 : FVec Ideal S4096x6144 .bf16) (x1 : FVec Ideal S1024x6144 .bf16) (x2 : FVec Ideal S4096x1024 .f32) (x3 : FVec Ideal S1x1024 .f32) (t : Fin 4096) :
    val_main_v33 (F := Ideal) x0 x1 x2 x3 (ix1 t)
      = factor (fun q => ∑ p, x0 (ix2 t p) * x1 (ix2 q p)) (fun q => x2 (ix2 t q)) (fun q => x3 (ix2 0 q)) := by
  unfold factor
  refine Eq.trans (b := Ideal.div ((∑ q, x2 (ix2 t q) * (val_main_v18 (F := Ideal) x0 x1 (ix2 t q) * x3 (ix2 0 q)))
    * (Ideal.ofBits .f32 0xBF000000#32 * Ideal.div (val_main_v9 (F := Ideal) x2 (ix2 t 0)) (val_main_v8 (F := Ideal) x2 (ix2 t 0)))) (Ideal.ofBits .f32 0x44800000#32)) ?_
    (by rw [reference_rho, reference_mean]; simp only [reference_du])
  simp only [val_main_v33, val_main_v32, val_main_v31, val_main_v30, val_main_v26, val_main_v25, val_main_v24, val_main_v23, val_main_v22, val_main_v12, val_main_v11, val_main_v10, val_main_cst_2, val_main_cst_4, val_main_cst_5, val_main_cst_6]
  generalize val_main_v9 (F := Ideal) x2 = y
  generalize val_main_v8 (F := Ideal) x2 = w
  generalize val_main_v18 (F := Ideal) x0 x1 = z
  pointwise []
  exact Fin.sum_univ_one _

/-- and the rows' gradient. -/
theorem reference5 (x0 : FVec Ideal S4096x6144 .bf16) (x1 : FVec Ideal S1024x6144 .bf16) (x2 : FVec Ideal S4096x1024 .f32) (x3 : FVec Ideal S1x1024 .f32) (x4 : FVec Ideal S4096x1024 .f32) (t : Fin 4096) (k : Fin 1024) :
    val_main_v38 (F := Ideal) x0 x1 x2 x3 x4 (ix2 t k)
      = long (fun q => ∑ p, x0 (ix2 t p) * x1 (ix2 q p)) (fun q => x2 (ix2 t q)) (fun q => x3 (ix2 0 q)) (x4 (ix2 t k)) k := by
  unfold long
  refine Eq.trans (b := ((x4 (ix2 t k) + (val_main_v18 (F := Ideal) x0 x1 (ix2 t k) * x3 (ix2 0 k)) * val_main_v9 (F := Ideal) x2 (ix2 t 0))
    + x2 (ix2 t k) * val_main_v33 (F := Ideal) x0 x1 x2 x3 (ix1 t)) + val_main_v33 (F := Ideal) x0 x1 x2 x3 (ix1 t) * x2 (ix2 t k)) ?_
    (by rw [reference_rho, reference_factor, reference_du])
  simp only [val_main_v38, val_main_v37, val_main_v36, val_main_v35, val_main_v34, val_main_v29, val_main_v28, val_main_v27, val_main_v23, val_main_v22]
  generalize val_main_v9 (F := Ideal) x2 = y
  generalize val_main_v33 (F := Ideal) x0 x1 x2 x3 = w
  generalize val_main_v18 (F := Ideal) x0 x1 = z
  pointwise []
end

section
open Cert.RmsKernelIdeal Cert.RmsKernelIdeal.Gen

variable (m : (ℓ : Loc nD τ sig) → Buf (Elt Ideal) ℓ)

theorem meet5 (c : Dev nD) (h0 : ∀ i, (arg0 m c i : EReal) = ((EReal.toReal (arg0 m c i) : ℝ) : EReal))
    (h1 : ∀ i, (arg1 m c i : EReal) = ((EReal.toReal (arg1 m c i) : ℝ) : EReal)) (h2 : ∀ i, (arg2 m c i : EReal) = ((EReal.toReal (arg2 m c i) : ℝ) : EReal))
    (h3 : ∀ i, (arg3 m c i : EReal) = ((EReal.toReal (arg3 m c i) : ℝ) : EReal)) :
    target5 m c = Cert.RmsReferenceIdeal.Read.val_main_v38 (F := Ideal) (arg0 m c) (arg1 m c) (arg2 m c) (arg3 m c) (arg4 m c) := by
  have key : ∀ (a : Fin 4096) (b : Fin 1024), target5 m c (ix2 a b) = Cert.RmsReferenceIdeal.Read.val_main_v38 (F := Ideal) (arg0 m c) (arg1 m c) (arg2 m c) (arg3 m c) (arg4 m c) (ix2 a b) := by
    intro a b
    refine Eq.trans ?_ (reference5 _ _ _ _ _ a b).symm
    show short (duAt m c a) (fun q => arg2 m c (ix2 a q)) (fun q => arg3 m c (ix2 0 q)) (arg4 m c (ix2 a b)) b = _
    have e1 : duAt m c a = fun q => ((∑ p, EReal.toReal (arg0 m c (ix2 a p)) * EReal.toReal (arg1 m c (ix2 q p)) : ℝ) : EReal) :=
      funext fun q => Cert.SigMath.dot_real _ _ _ _ (fun p => h0 (ix2 a p)) (fun p => h1 (ix2 q p))
    have e1' : (fun q => ∑ p, arg0 m c (ix2 a p) * arg1 m c (ix2 q p)) = fun q => ((∑ p, EReal.toReal (arg0 m c (ix2 a p)) * EReal.toReal (arg1 m c (ix2 q p)) : ℝ) : EReal) := e1
    have e2 : (fun q => (arg2 m c (ix2 a q) : EReal)) = fun q => ((EReal.toReal (arg2 m c (ix2 a q)) : ℝ) : EReal) := funext fun q => h2 _
    have e3 : (fun q => (arg3 m c (ix2 0 q) : EReal)) = fun q => ((EReal.toReal (arg3 m c (ix2 0 q)) : ℝ) : EReal) := funext fun q => h3 _
    rw [e1, e1', e2, e3]
    exact short_eq_long _ _ _ _ _
  funext i
  change Cert.RmsKernelIdeal.S4096x1024.Idx at i
  idx_vars i
  exact key _ _

theorem meet6 (c : Dev nD) :
    target6 m c = Cert.RmsReferenceIdeal.Read.val_main_v21 (F := Ideal) (arg0 m c) (arg1 m c) (arg2 m c) := by
  have key : ∀ (b : Fin 1024), target6 m c (ix2 0 b) = Cert.RmsReferenceIdeal.Read.val_main_v21 (F := Ideal) (arg0 m c) (arg1 m c) (arg2 m c) (ix2 0 b) := by
    intro b
    refine Eq.trans ?_ (reference6 _ _ _ b).symm
    exact Finset.sum_congr rfl fun t _ => mul_comm _ _
  have key' : ∀ (a : Fin 1) (b : Fin 1024), target6 m c (ix2 a b) = Cert.RmsReferenceIdeal.Read.val_main_v21 (F := Ideal) (arg0 m c) (arg1 m c) (arg2 m c) (ix2 a b) := by
    intro a b
    rw [Subsingleton.elim a 0]
    exact key b
  funext i
  change Cert.RmsKernelIdeal.S1x1024.Idx at i
  idx_vars i
  exact key' _ _

/-- The equation of the two programs. -/
theorem algebraic : Cert.algebraic_RmsKernelIdeal_RmsReferenceIdeal_pre_rms_finite := by
  intro m g m' g' hpre hag
  refine ⟨fun c => Cert.RmsReferenceIdeal.Read.val_main_v38 (F := Ideal) (arg0 m c) (arg1 m c) (arg2 m c) (arg3 m c) (arg4 m c),
    fun c => Cert.RmsReferenceIdeal.Read.val_main_v21 (F := Ideal) (arg0 m c) (arg1 m c) (arg2 m c),
    fun c => Cert.RmsReferenceIdeal.Read.val_main_v39 (F := Ideal) (arg0 m c) (arg1 m c) (arg2 m c) (arg3 m c) (arg4 m c), ?_, ?_⟩
  · refine (θ_run _ _ _).mono (fun r h c => ?_) (θ_run_and (Cert.RmsIdealFrame.run_main (F := Ideal) m g) (Cert.RmsIdealFrame.frame (F := Ideal) m g))
    obtain ⟨h0, h1, h2, h3⟩ := finite _ _ _ _ _ (hpre c)
    refine ⟨((h.1 c).1 5).trans ((final5 m c).trans (meet5 m c h0 h1 h2 h3)), ((h.1 c).1 6).trans ((final6 m c).trans (meet6 m c)),
      ((h.1 c).1 7).trans ((final7 m c).trans (meet5 m c h0 h1 h2 h3)), h.2.1 c⟩
  · refine (θ_run _ _ _).mono (fun r h c => ?_) (Cert.RmsReferenceIdeal.Value.run (F := Ideal) m' g')
    obtain ⟨e0, e1, e2, e3, e4⟩ := hag c
    refine ⟨(h c).1.trans ?_, (h c).2.1.trans ?_, (h c).2.2.1.trans ?_, (h c).2.2.2⟩
    · exact (Cert.RmsReferenceIdeal.Read.val_main_v38_eq (F := Ideal) _ _).trans
        (congr (congr (congr (congr (congrArg (Cert.RmsReferenceIdeal.Read.val_main_v38 (F := Ideal)) e0) e1) e2) e3) e4)
    · exact (Cert.RmsReferenceIdeal.Read.val_main_v21_eq (F := Ideal) _ _ _).trans
        (congr (congr (congrArg (Cert.RmsReferenceIdeal.Read.val_main_v21 (F := Ideal)) e0) e1) e2)
    · exact (Cert.RmsReferenceIdeal.Read.val_main_v39_eq (F := Ideal) _ _).trans
        (congr (congr (congr (congr (congrArg (Cert.RmsReferenceIdeal.Read.val_main_v39 (F := Ideal)) e0) e1) e2) e3) e4)
end

end Cert.RmsClaim

end
-- ==== Proof.Halves.lean ====
/- A sum over 4096 rows as the sum of its two halves. -/
module

public import Idealize.ShloMosaic.PureOps
public import Idealize.ShloMosaic.PureOps.Ideal

@[expose] public section

namespace Cert.Halves

theorem sum_halves (f : Fin 4096 → EReal) :
    ∑ x, f x = (∑ x : Fin 2048, f ⟨x.val, by omega⟩) + ∑ x : Fin 2048, f ⟨2048 + x.val, by omega⟩ :=
  Fin.sum_univ_add (a := 2048) (b := 2048) f

end Cert.Halves
-- ==== Proof.WoutClaim.lean ====
/- The gradient of an output product's weights: the kernel and the reference end at the same array. -/
module

public import proofs.«01_k».proof.Defs
public import proofs.«01_k».proof.Proof.Halves
public import proofs.«01_k».proof.Proof.Gen.WoutKernelIdeal.Value
public import proofs.«01_k».proof.Proof.Gen.WoutReferenceIdeal.Run
public import proofs.«01_k».proof.Proof.Gen.WoutReferenceIdeal.Read
public import Idealize.ShloMosaic.Lib.Pointwise

@[expose] public section

noncomputable section

namespace Cert.WoutClaim

open Idealize.ShloMosaic Idealize.SL.Sem Idealize.ShloMosaic.StableHlo

set_option maxRecDepth 16384

section
open Cert.WoutKernelIdeal Cert.WoutKernelIdeal.Gen Cert.WoutKernelIdeal.Value

variable (m : (ℓ : Loc nD τ sig) → Buf (Elt Ideal) ℓ)

/-- The launch contents of the two operands. -/
abbrev arg0 (c : Dev nD) : FVec Ideal S4096x2048 .bf16 := m (c.tc.loc main_arg0)
abbrev arg1 (c : Dev nD) : FVec Ideal S4096x1024 .bf16 := m (c.tc.loc main_arg1)

theorem ltN (t : Fin grid0.N) : t.val < 4 := t.isLt

theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = 0 := by decide +kernel

/-- A block of operand 0 at a point. -/
theorem iblk0 (c : Dev nD) (t : Fin grid0.N) (x : Fin 2048) (k : Fin 1024) :
    iblk m c 0 t (ix2 x k) = arg0 m c (ix2 ⟨t.val % 2 * 2048 + x.val, by omega⟩ ⟨t.val / 2 * 1024 + k.val, by have := ltN t; omega⟩) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2048 + 1 * x.val = t.val % 2 * 2048 + x.val; rw [hi.1]; omega
  | ⟨1, _⟩ => show win0_0.index t 1 * 1024 + 1 * k.val = t.val / 2 * 1024 + k.val; rw [hi.2]; omega

/-- A block of operand 1 at a point. -/
theorem iblk1 (c : Dev nD) (t : Fin grid0.N) (x : Fin 2048) (k : Fin 1024) :
    iblk m c 1 t (ix2 x k) = arg1 m c (ix2 ⟨t.val % 2 * 2048 + x.val, by omega⟩ ⟨0 * 1024 + k.val, by have := ltN t; omega⟩) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 2048 + 1 * x.val = t.val % 2 * 2048 + x.val; rw [hi.1]; omega
  | ⟨1, _⟩ => show win0_1.index t 1 * 1024 + 1 * k.val = 0 * 1024 + k.val; rw [hi.2]; omega

/-- One step adds the product of the point's blocks to what the buffer holds. -/
theorem read_step (x : FVec Ideal S2048x1024 .bf16) (y : FVec Ideal S2048x1024 .bf16) (acc : FVec Ideal S1024x1024 .f32) (r : Fin 1024) (j : Fin 1024) :
    k0_pay2 (F := Ideal) x y acc (ix2 r j) = acc (ix2 r j) + ∑ p, x (ix2 p r) * y (ix2 p j) := by
  pointwise [k0_pay2]

/-- The first step of a run starts from zero. -/
theorem read_zero (r : Fin 1024) (j : Fin 1024) : k0_pay1 (F := Ideal) (ix2 r j) = 0 := by
  pointwise [k0_pay1]

/-- The array after the run: at each index the two steps of the run whose block holds it. -/
theorem final_steps (c : Dev nD) (i : S2048x1024.Idx) (q : ℕ) (hq : q < 2) (hi : run2Of i = q) :
    G2 m c i = k0_pay2 (F := Ideal) (iblk m c 0 ⟨2 * q + 1, by show _ < 4; omega⟩) (iblk m c 1 ⟨2 * q + 1, by show _ < 4; omega⟩)
      (k0_pay2 (F := Ideal) (iblk m c 0 ⟨2 * q, by show _ < 4; omega⟩) (iblk m c 1 ⟨2 * q, by show _ < 4; omega⟩) (k0_pay1 (F := Ideal))) (loc2Of i) := by
  subst hi
  unfold G2
  rw [dif_pos (show 2 * run2Of i + 1 < cfg0.N by show _ < 4; omega)]
  rfl

/-- The array after the run at an index: the whole sum over the rows. -/
theorem final_read (c : Dev nD) (r : Fin 2048) (j : Fin 1024) :
    G2 m c (ix2 r j) = ∑ p : Fin 4096, arg0 m c (ix2 p r) * arg1 m c (ix2 p j) := by
  rw [final_steps m c (ix2 r j) (r.val / 1024) (by omega) (by show 1 * (r.val / 1024 - 0) + 1 * (j.val / 1024 - 0) = r.val / 1024; omega),
    show loc2Of (ix2 r j) = (ix2 (⟨r.val % 1024, by omega⟩ : Fin 1024) (⟨j.val % 1024, by omega⟩ : Fin 1024)) from by
      funext z; apply Fin.ext
      match z with
      | ⟨0, _⟩ => rfl
      | ⟨1, _⟩ => rfl,
    read_step, read_step, read_zero, zero_add, Cert.Halves.sum_halves]
  refine congr (congrArg _ ?_) ?_
  · refine Finset.sum_congr rfl fun p _ => ?_
    rw [iblk0, iblk1]
    exact congr (congrArg _ (congrArg (arg0 m c) (congr (congrArg _ (Fin.ext (by show 2 * (r.val / 1024) % 2 * 2048 + p.val = p.val; omega))) (Fin.ext (by show 2 * (r.val / 1024) / 2 * 1024 + r.val % 1024 = r.val; omega)))))
      (congrArg (arg1 m c) (congr (congrArg _ (Fin.ext (by show 2 * (r.val / 1024) % 2 * 2048 + p.val = p.val; omega))) (Fin.ext (by show 0 * 1024 + j.val % 1024 = j.val; omega))))
  · refine Finset.sum_congr rfl fun p _ => ?_
    rw [iblk0, iblk1]
    exact congr (congrArg _ (congrArg (arg0 m c) (congr (congrArg _ (Fin.ext (by show (2 * (r.val / 1024) + 1) % 2 * 2048 + p.val = 2048 + p.val; omega))) (Fin.ext (by show (2 * (r.val / 1024) + 1) / 2 * 1024 + r.val % 1024 = r.val; omega)))))
      (congrArg (arg1 m c) (congr (congrArg _ (Fin.ext (by show (2 * (r.val / 1024) + 1) % 2 * 2048 + p.val = 2048 + p.val; omega))) (Fin.ext (by show 0 * 1024 + j.val % 1024 = j.val; omega))))
end

section
open Cert.WoutReferenceIdeal Cert.WoutReferenceIdeal.Gen Cert.WoutReferenceIdeal.Read

/-- The reference at an index. -/
theorem reference (x0 : FVec Ideal S4096x2048 .bf16) (x1 : FVec Ideal S4096x1024 .bf16) (r : Fin 2048) (j : Fin 1024) :
    val_main_v5 (F := Ideal) x0 x1 (ix2 r j) = ∑ p : Fin 4096, x0 (ix2 p r) * x1 (ix2 p j) := by
  pointwise [val_main_v5, val_main_v4, val_main_v0, val_main_v1]
  exact Finset.sum_congr rfl fun p _ => mul_comm _ _
end

/-- The equation of the two programs. -/
theorem algebraic : Cert.algebraic_WoutKernelIdeal_WoutReferenceIdeal := by
  intro m g m' g' _ hag
  refine ⟨fun c => Cert.WoutReferenceIdeal.Read.val_main_v5 (F := Ideal) (m (c.tc.loc Cert.WoutKernelIdeal.main_arg0)) (m (c.tc.loc Cert.WoutKernelIdeal.main_arg1)), ?_, ?_⟩
  · refine (θ_run _ _ _).mono (fun r h c => ?_) (Cert.WoutKernelIdeal.Value.run (F := Ideal) m g)
    refine ⟨(h c).1.trans ?_, (h c).2⟩
    funext i
    change Cert.WoutKernelIdeal.S2048x1024.Idx at i
    idx_vars i
    exact (final_read m c _ _).trans (reference _ _ _ _).symm
  · refine (θ_run _ _ _).mono (fun r h c => ?_) (Cert.WoutReferenceIdeal.Value.run (F := Ideal) m' g')
    refine ⟨(h c).1.trans ?_, (h c).2⟩
    obtain ⟨e0, e1⟩ := hag c
    exact (Cert.WoutReferenceIdeal.Read.val_main_v5_eq (F := Ideal) _ _).trans
      (congr (congrArg (Cert.WoutReferenceIdeal.Read.val_main_v5 (F := Ideal)) e0) e1)

end Cert.WoutClaim

end
-- ==== Proof.SbinClaim.lean ====
/- The gradient of the attention layer's input weights: the kernel and the reference end at the same array. -/
module

public import proofs.«01_k».proof.Defs
public import proofs.«01_k».proof.Proof.Halves
public import proofs.«01_k».proof.Proof.Gen.SbinKernelIdeal.Value
public import proofs.«01_k».proof.Proof.Gen.SbinReferenceIdeal.Run
public import proofs.«01_k».proof.Proof.Gen.SbinReferenceIdeal.Read
public import Idealize.ShloMosaic.Lib.Pointwise

@[expose] public section

noncomputable section

namespace Cert.SbinClaim

open Idealize.ShloMosaic Idealize.SL.Sem Idealize.ShloMosaic.StableHlo

set_option maxRecDepth 16384

section
open Cert.SbinKernelIdeal Cert.SbinKernelIdeal.Gen Cert.SbinKernelIdeal.Value

variable (m : (ℓ : Loc nD τ sig) → Buf (Elt Ideal) ℓ)

/-- The launch contents of the two operands. -/
abbrev arg0 (c : Dev nD) : FVec Ideal S4096x1024 .bf16 := m (c.tc.loc main_arg0)
abbrev arg1 (c : Dev nD) : FVec Ideal S4096x6144 .bf16 := m (c.tc.loc main_arg1)

theorem ltN (t : Fin grid0.N) : t.val < 8 := t.isLt

theorem idx0 : ∀ t : Fin grid0.N, win0_0.index t 0 = t.val % 2 ∧ win0_0.index t 1 = 0 := by decide +kernel
theorem idx1 : ∀ t : Fin grid0.N, win0_1.index t 0 = t.val % 2 ∧ win0_1.index t 1 = t.val / 2 := by decide +kernel

/-- A block of operand 0 at a point. -/
theorem iblk0 (c : Dev nD) (t : Fin grid0.N) (x : Fin 2048) (k : Fin 1024) :
    iblk m c 0 t (ix2 x k) = arg0 m c (ix2 ⟨t.val % 2 * 2048 + x.val, by omega⟩ ⟨0 * 1024 + k.val, by have := ltN t; omega⟩) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2048 + 1 * x.val = t.val % 2 * 2048 + x.val; rw [hi.1]; omega
  | ⟨1, _⟩ => show win0_0.index t 1 * 1024 + 1 * k.val = 0 * 1024 + k.val; rw [hi.2]; omega

/-- A block of operand 1 at a point. -/
theorem iblk1 (c : Dev nD) (t : Fin grid0.N) (x : Fin 2048) (k : Fin 1536) :
    iblk m c 1 t (ix2 x k) = arg1 m c (ix2 ⟨t.val % 2 * 2048 + x.val, by omega⟩ ⟨t.val / 2 * 1536 + k.val, by have := ltN t; omega⟩) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 2048 + 1 * x.val = t.val % 2 * 2048 + x.val; rw [hi.1]; omega
  | ⟨1, _⟩ => show win0_1.index t 1 * 1536 + 1 * k.val = t.val / 2 * 1536 + k.val; rw [hi.2]; omega

/-- One step adds the product of the point's blocks to what the buffer holds. -/
theorem read_step (x : FVec Ideal S2048x1024 .bf16) (y : FVec Ideal S2048x1536 .bf16) (acc : FVec Ideal S1x1024x1536 .f32) (r : Fin 1024) (j : Fin 1536) :
    k0_pay2 (F := Ideal) x y acc (ix3 0 r j) = acc (ix3 0 r j) + ∑ p, x (ix2 p r) * y (ix2 p j) := by
  pointwise [k0_pay2]

/-- The first step of a run starts from zero. -/
theorem read_zero (r : Fin 1024) (j : Fin 1536) : k0_pay1 (F := Ideal) (ix3 0 r j) = 0 := by
  pointwise [k0_pay1]

/-- The array after the run: at each index the two steps of the run whose block holds it. -/
theorem final_steps (c : Dev nD) (i : S4x1024x1536.Idx) (q : ℕ) (hq : q < 4) (hi : run2Of i = q) :
    G2 m c i = k0_pay2 (F := Ideal) (iblk m c 0 ⟨2 * q + 1, by show _ < 8; omega⟩) (iblk m c 1 ⟨2 * q + 1, by show _ < 8; omega⟩)
      (k0_pay2 (F := Ideal) (iblk m c 0 ⟨2 * q, by show _ < 8; omega⟩) (iblk m c 1 ⟨2 * q, by show _ < 8; omega⟩) (k0_pay1 (F := Ideal))) (loc2Of i) := by
  subst hi
  unfold G2
  rw [dif_pos (show 2 * run2Of i + 1 < cfg0.N by show _ < 8; omega)]
  rfl

/-- The array after the run at an index: the whole sum over the rows. -/
theorem final_read (c : Dev nD) (a : Fin 4) (r : Fin 1024) (j : Fin 1536) :
    G2 m c (ix3 a r j) = ∑ p : Fin 4096, arg0 m c (ix2 p r) * arg1 m c (ix2 p ⟨a.val * 1536 + j.val, by omega⟩) := by
  rw [final_steps m c (ix3 a r j) (a.val) (by omega) (by show 1 * (a.val / 1 - 0) + 1 * (r.val / 1024 - 0) + 1 * (j.val / 1536 - 0) = a.val; omega),
    show loc2Of (ix3 a r j) = (ix3 (0 : Fin 1) (⟨r.val % 1024, by omega⟩ : Fin 1024) (⟨j.val % 1536, by omega⟩ : Fin 1536)) from by
      funext z; apply Fin.ext
      match z with
      | ⟨0, _⟩ => show a.val % 1 = 0; omega
      | ⟨1, _⟩ => rfl
      | ⟨2, _⟩ => rfl,
    read_step, read_step, read_zero, zero_add, Cert.Halves.sum_halves]
  refine congr (congrArg _ ?_) ?_
  · refine Finset.sum_congr rfl fun p _ => ?_
    rw [iblk0, iblk1]
    exact congr (congrArg _ (congrArg (arg0 m c) (congr (congrArg _ (Fin.ext (by show 2 * (a.val) % 2 * 2048 + p.val = p.val; omega))) (Fin.ext (by show 0 * 1024 + r.val % 1024 = r.val; omega)))))
      (congrArg (arg1 m c) (congr (congrArg _ (Fin.ext (by show 2 * (a.val) % 2 * 2048 + p.val = p.val; omega))) (Fin.ext (by show 2 * (a.val) / 2 * 1536 + j.val % 1536 = a.val * 1536 + j.val; omega))))
  · refine Finset.sum_congr rfl fun p _ => ?_
    rw [iblk0, iblk1]
    exact congr (congrArg _ (congrArg (arg0 m c) (congr (congrArg _ (Fin.ext (by show (2 * (a.val) + 1) % 2 * 2048 + p.val = 2048 + p.val; omega))) (Fin.ext (by show 0 * 1024 + r.val % 1024 = r.val; omega)))))
      (congrArg (arg1 m c) (congr (congrArg _ (Fin.ext (by show (2 * (a.val) + 1) % 2 * 2048 + p.val = 2048 + p.val; omega))) (Fin.ext (by show (2 * (a.val) + 1) / 2 * 1536 + j.val % 1536 = a.val * 1536 + j.val; omega))))
end

section
open Cert.SbinReferenceIdeal Cert.SbinReferenceIdeal.Gen Cert.SbinReferenceIdeal.Read

/-- The reference at an index. -/
theorem reference (x0 : FVec Ideal S4096x1024 .bf16) (x1 : FVec Ideal S4096x6144 .bf16) (a : Fin 4) (r : Fin 1024) (j : Fin 1536) :
    val_main_v7 (F := Ideal) x0 x1 (ix3 a r j) = ∑ p : Fin 4096, x0 (ix2 p r) * x1 (ix2 p ⟨a.val * 1536 + j.val, by omega⟩) := by
  pointwise [val_main_v7, val_main_v6, val_main_v5, val_main_v4, val_main_v0, val_main_v1]
  exact Finset.sum_congr rfl fun p _ => mul_comm _ _
end

/-- The equation of the two programs. -/
theorem algebraic : Cert.algebraic_SbinKernelIdeal_SbinReferenceIdeal := by
  intro m g m' g' _ hag
  refine ⟨fun c => Cert.SbinReferenceIdeal.Read.val_main_v7 (F := Ideal) (m (c.tc.loc Cert.SbinKernelIdeal.main_arg0)) (m (c.tc.loc Cert.SbinKernelIdeal.main_arg1)), ?_, ?_⟩
  · refine (θ_run _ _ _).mono (fun r h c => ?_) (Cert.SbinKernelIdeal.Value.run (F := Ideal) m g)
    refine ⟨(h c).1.trans ?_, (h c).2⟩
    funext i
    change Cert.SbinKernelIdeal.S4x1024x1536.Idx at i
    idx_vars i
    exact (final_read m c _ _ _).trans (reference _ _ _ _ _).symm
  · refine (θ_run _ _ _).mono (fun r h c => ?_) (Cert.SbinReferenceIdeal.Value.run (F := Ideal) m' g')
    refine ⟨(h c).1.trans ?_, (h c).2⟩
    obtain ⟨e0, e1⟩ := hag c
    exact (Cert.SbinReferenceIdeal.Read.val_main_v7_eq (F := Ideal) _ _).trans
      (congr (congrArg (Cert.SbinReferenceIdeal.Read.val_main_v7 (F := Ideal)) e0) e1)

end Cert.SbinClaim

end
-- ==== Proof.PinClaim.lean ====
/- The gradient of the pooling layer's input weights: the kernel and the reference end at the same array. -/
module

public import proofs.«01_k».proof.Defs
public import proofs.«01_k».proof.Proof.Halves
public import proofs.«01_k».proof.Proof.Gen.PinKernelIdeal.Value
public import proofs.«01_k».proof.Proof.Gen.PinReferenceIdeal.Run
public import proofs.«01_k».proof.Proof.Gen.PinReferenceIdeal.Read
public import Idealize.ShloMosaic.Lib.Pointwise

@[expose] public section

noncomputable section

namespace Cert.PinClaim

open Idealize.ShloMosaic Idealize.SL.Sem Idealize.ShloMosaic.StableHlo

set_option maxRecDepth 16384

section
open Cert.PinKernelIdeal Cert.PinKernelIdeal.Gen Cert.PinKernelIdeal.Value

variable (m : (ℓ : Loc nD τ sig) → Buf (Elt Ideal) ℓ)

/-- The launch contents of the two operands. -/
abbrev arg0 (c : Dev nD) : FVec Ideal S4096x1024 .bf16 := m (c.tc.loc main_arg0)
abbrev arg1 (c : Dev nD) : FVec Ideal S4096x4096 .bf16 := m (c.tc.loc main_arg1)

theorem ltN (t : Fin grid0.N) : t.val < 8 := t.isLt

theorem idx0 : ∀ t : Fin grid0.N, win0_0.index t 0 = t.val % 2 ∧ win0_0.index t 1 = 0 := by decide +kernel
theorem idx1 : ∀ t : Fin grid0.N, win0_1.index t 0 = t.val % 2 ∧ win0_1.index t 1 = t.val / 2 := by decide +kernel

/-- A block of operand 0 at a point. -/
theorem iblk0 (c : Dev nD) (t : Fin grid0.N) (x : Fin 2048) (k : Fin 1024) :
    iblk m c 0 t (ix2 x k) = arg0 m c (ix2 ⟨t.val % 2 * 2048 + x.val, by omega⟩ ⟨0 * 1024 + k.val, by have := ltN t; omega⟩) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2048 + 1 * x.val = t.val % 2 * 2048 + x.val; rw [hi.1]; omega
  | ⟨1, _⟩ => show win0_0.index t 1 * 1024 + 1 * k.val = 0 * 1024 + k.val; rw [hi.2]; omega

/-- A block of operand 1 at a point. -/
theorem iblk1 (c : Dev nD) (t : Fin grid0.N) (x : Fin 2048) (k : Fin 1024) :
    iblk m c 1 t (ix2 x k) = arg1 m c (ix2 ⟨t.val % 2 * 2048 + x.val, by omega⟩ ⟨t.val / 2 * 1024 + k.val, by have := ltN t; omega⟩) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 2048 + 1 * x.val = t.val % 2 * 2048 + x.val; rw [hi.1]; omega
  | ⟨1, _⟩ => show win0_1.index t 1 * 1024 + 1 * k.val = t.val / 2 * 1024 + k.val; rw [hi.2]; omega

/-- One step adds the product of the point's blocks to what the buffer holds. -/
theorem read_step (x : FVec Ideal S2048x1024 .bf16) (y : FVec Ideal S2048x1024 .bf16) (acc : FVec Ideal S1x1024x1024 .f32) (r : Fin 1024) (j : Fin 1024) :
    k0_pay2 (F := Ideal) x y acc (ix3 0 r j) = acc (ix3 0 r j) + ∑ p, x (ix2 p r) * y (ix2 p j) := by
  pointwise [k0_pay2]

/-- The first step of a run starts from zero. -/
theorem read_zero (r : Fin 1024) (j : Fin 1024) : k0_pay1 (F := Ideal) (ix3 0 r j) = 0 := by
  pointwise [k0_pay1]

/-- The array after the run: at each index the two steps of the run whose block holds it. -/
theorem final_steps (c : Dev nD) (i : S4x1024x1024.Idx) (q : ℕ) (hq : q < 4) (hi : run2Of i = q) :
    G2 m c i = k0_pay2 (F := Ideal) (iblk m c 0 ⟨2 * q + 1, by show _ < 8; omega⟩) (iblk m c 1 ⟨2 * q + 1, by show _ < 8; omega⟩)
      (k0_pay2 (F := Ideal) (iblk m c 0 ⟨2 * q, by show _ < 8; omega⟩) (iblk m c 1 ⟨2 * q, by show _ < 8; omega⟩) (k0_pay1 (F := Ideal))) (loc2Of i) := by
  subst hi
  unfold G2
  rw [dif_pos (show 2 * run2Of i + 1 < cfg0.N by show _ < 8; omega)]
  rfl

/-- The array after the run at an index: the whole sum over the rows. -/
theorem final_read (c : Dev nD) (a : Fin 4) (r : Fin 1024) (j : Fin 1024) :
    G2 m c (ix3 a r j) = ∑ p : Fin 4096, arg0 m c (ix2 p r) * arg1 m c (ix2 p ⟨a.val * 1024 + j.val, by omega⟩) := by
  rw [final_steps m c (ix3 a r j) (a.val) (by omega) (by show 1 * (a.val / 1 - 0) + 1 * (r.val / 1024 - 0) + 1 * (j.val / 1024 - 0) = a.val; omega),
    show loc2Of (ix3 a r j) = (ix3 (0 : Fin 1) (⟨r.val % 1024, by omega⟩ : Fin 1024) (⟨j.val % 1024, by omega⟩ : Fin 1024)) from by
      funext z; apply Fin.ext
      match z with
      | ⟨0, _⟩ => show a.val % 1 = 0; omega
      | ⟨1, _⟩ => rfl
      | ⟨2, _⟩ => rfl,
    read_step, read_step, read_zero, zero_add, Cert.Halves.sum_halves]
  refine congr (congrArg _ ?_) ?_
  · refine Finset.sum_congr rfl fun p _ => ?_
    rw [iblk0, iblk1]
    exact congr (congrArg _ (congrArg (arg0 m c) (congr (congrArg _ (Fin.ext (by show 2 * (a.val) % 2 * 2048 + p.val = p.val; omega))) (Fin.ext (by show 0 * 1024 + r.val % 1024 = r.val; omega)))))
      (congrArg (arg1 m c) (congr (congrArg _ (Fin.ext (by show 2 * (a.val) % 2 * 2048 + p.val = p.val; omega))) (Fin.ext (by show 2 * (a.val) / 2 * 1024 + j.val % 1024 = a.val * 1024 + j.val; omega))))
  · refine Finset.sum_congr rfl fun p _ => ?_
    rw [iblk0, iblk1]
    exact congr (congrArg _ (congrArg (arg0 m c) (congr (congrArg _ (Fin.ext (by show (2 * (a.val) + 1) % 2 * 2048 + p.val = 2048 + p.val; omega))) (Fin.ext (by show 0 * 1024 + r.val % 1024 = r.val; omega)))))
      (congrArg (arg1 m c) (congr (congrArg _ (Fin.ext (by show (2 * (a.val) + 1) % 2 * 2048 + p.val = 2048 + p.val; omega))) (Fin.ext (by show (2 * (a.val) + 1) / 2 * 1024 + j.val % 1024 = a.val * 1024 + j.val; omega))))
end

section
open Cert.PinReferenceIdeal Cert.PinReferenceIdeal.Gen Cert.PinReferenceIdeal.Read

/-- The reference at an index. -/
theorem reference (x0 : FVec Ideal S4096x1024 .bf16) (x1 : FVec Ideal S4096x4096 .bf16) (a : Fin 4) (r : Fin 1024) (j : Fin 1024) :
    val_main_v7 (F := Ideal) x0 x1 (ix3 a r j) = ∑ p : Fin 4096, x0 (ix2 p r) * x1 (ix2 p ⟨a.val * 1024 + j.val, by omega⟩) := by
  pointwise [val_main_v7, val_main_v6, val_main_v5, val_main_v4, val_main_v0, val_main_v1]
  exact Finset.sum_congr rfl fun p _ => mul_comm _ _
end

/-- The equation of the two programs. -/
theorem algebraic : Cert.algebraic_PinKernelIdeal_PinReferenceIdeal := by
  intro m g m' g' _ hag
  refine ⟨fun c => Cert.PinReferenceIdeal.Read.val_main_v7 (F := Ideal) (m (c.tc.loc Cert.PinKernelIdeal.main_arg0)) (m (c.tc.loc Cert.PinKernelIdeal.main_arg1)), ?_, ?_⟩
  · refine (θ_run _ _ _).mono (fun r h c => ?_) (Cert.PinKernelIdeal.Value.run (F := Ideal) m g)
    refine ⟨(h c).1.trans ?_, (h c).2⟩
    funext i
    change Cert.PinKernelIdeal.S4x1024x1024.Idx at i
    idx_vars i
    exact (final_read m c _ _ _).trans (reference _ _ _ _ _).symm
  · refine (θ_run _ _ _).mono (fun r h c => ?_) (Cert.PinReferenceIdeal.Value.run (F := Ideal) m' g')
    refine ⟨(h c).1.trans ?_, (h c).2⟩
    obtain ⟨e0, e1⟩ := hag c
    exact (Cert.PinReferenceIdeal.Read.val_main_v7_eq (F := Ideal) _ _).trans
      (congr (congrArg (Cert.PinReferenceIdeal.Read.val_main_v7 (F := Ideal)) e0) e1)

end Cert.PinClaim

end
-- ==== Proof.PwClaim.lean ====
/- The gradient of the pooling groups' weights: the kernel and the reference end at the same array. -/
module

public import proofs.«01_k».proof.Defs
public import proofs.«01_k».proof.Proof.Halves
public import proofs.«01_k».proof.Proof.Gen.PwKernelIdeal.Value
public import proofs.«01_k».proof.Proof.Gen.PwReferenceIdeal.Run
public import proofs.«01_k».proof.Proof.Gen.PwReferenceIdeal.Read
public import Idealize.ShloMosaic.Lib.Pointwise

@[expose] public section

noncomputable section

namespace Cert.PwClaim

open Idealize.ShloMosaic Idealize.SL.Sem Idealize.ShloMosaic.StableHlo

set_option maxRecDepth 16384

section
open Cert.PwKernelIdeal Cert.PwKernelIdeal.Gen Cert.PwKernelIdeal.Value

variable (m : (ℓ : Loc nD τ sig) → Buf (Elt Ideal) ℓ)

/-- The launch contents of the two operands. -/
abbrev arg0 (c : Dev nD) : FVec Ideal S4096x2048 .bf16 := m (c.tc.loc main_arg0)
abbrev arg1 (c : Dev nD) : FVec Ideal S4096x2048 .bf16 := m (c.tc.loc main_arg1)

theorem ltN (t : Fin grid0.N) : t.val < 8 := t.isLt

theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = t.val / 2 := by decide +kernel

/-- A block of operand 0 at a point. -/
theorem iblk0 (c : Dev nD) (t : Fin grid0.N) (x : Fin 2048) (k : Fin 512) :
    iblk m c 0 t (ix2 x k) = arg0 m c (ix2 ⟨t.val % 2 * 2048 + x.val, by omega⟩ ⟨t.val / 2 * 512 + k.val, by have := ltN t; omega⟩) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2048 + 1 * x.val = t.val % 2 * 2048 + x.val; rw [hi.1]; omega
  | ⟨1, _⟩ => show win0_0.index t 1 * 512 + 1 * k.val = t.val / 2 * 512 + k.val; rw [hi.2]; omega

/-- A block of operand 1 at a point. -/
theorem iblk1 (c : Dev nD) (t : Fin grid0.N) (x : Fin 2048) (k : Fin 512) :
    iblk m c 1 t (ix2 x k) = arg1 m c (ix2 ⟨t.val % 2 * 2048 + x.val, by omega⟩ ⟨t.val / 2 * 512 + k.val, by have := ltN t; omega⟩) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 2048 + 1 * x.val = t.val % 2 * 2048 + x.val; rw [hi.1]; omega
  | ⟨1, _⟩ => show win0_1.index t 1 * 512 + 1 * k.val = t.val / 2 * 512 + k.val; rw [hi.2]; omega

/-- One step adds the product of the point's blocks to what the buffer holds. -/
theorem read_step (x : FVec Ideal S2048x512 .bf16) (y : FVec Ideal S2048x512 .bf16) (acc : FVec Ideal S4x128x512 .f32) (a : Fin 4) (e : Fin 128) (j : Fin 512) :
    k0_pay2 (F := Ideal) x y acc (ix3 a e j) = acc (ix3 a e j) + ∑ p, x (ix2 p (⟨a.val * 128 + e.val, by omega⟩ : Fin 512)) * y (ix2 p j) := by
  pointwise [k0_pay2]

/-- The first step of a run starts from zero. -/
theorem read_zero (a : Fin 4) (e : Fin 128) (j : Fin 512) : k0_pay1 (F := Ideal) (ix3 a e j) = 0 := by
  pointwise [k0_pay1]

/-- The array after the run: at each index the two steps of the run whose block holds it. -/
theorem final_steps (c : Dev nD) (i : S4x512x512.Idx) (q : ℕ) (hq : q < 4) (hi : run2Of i = q) :
    G2 m c i = k0_pay2 (F := Ideal) (iblk m c 0 ⟨2 * q + 1, by show _ < 8; omega⟩) (iblk m c 1 ⟨2 * q + 1, by show _ < 8; omega⟩)
      (k0_pay2 (F := Ideal) (iblk m c 0 ⟨2 * q, by show _ < 8; omega⟩) (iblk m c 1 ⟨2 * q, by show _ < 8; omega⟩) (k0_pay1 (F := Ideal))) (loc2Of i) := by
  subst hi
  unfold G2
  rw [dif_pos (show 2 * run2Of i + 1 < cfg0.N by show _ < 8; omega)]
  rfl

/-- The array after the run at an index: the whole sum over the rows. -/
theorem final_read (c : Dev nD) (a : Fin 4) (e : Fin 512) (j : Fin 512) :
    G2 m c (ix3 a e j) = ∑ p : Fin 4096, arg0 m c (ix2 p ⟨e.val / 128 * 512 + (a.val * 128 + e.val % 128), by omega⟩) * arg1 m c (ix2 p ⟨e.val / 128 * 512 + j.val, by omega⟩) := by
  rw [final_steps m c (ix3 a e j) (e.val / 128) (by omega) (by show 4 * (a.val / 4 - 0) + 1 * (e.val / 128 - 0) + 1 * (j.val / 512 - 0) = e.val / 128; omega),
    show loc2Of (ix3 a e j) = (ix3 (⟨a.val % 4, by omega⟩ : Fin 4) (⟨e.val % 128, by omega⟩ : Fin 128) (⟨j.val % 512, by omega⟩ : Fin 512)) from by
      funext z; apply Fin.ext
      match z with
      | ⟨0, _⟩ => rfl
      | ⟨1, _⟩ => rfl
      | ⟨2, _⟩ => rfl,
    read_step, read_step, read_zero, zero_add, Cert.Halves.sum_halves]
  refine congr (congrArg _ ?_) ?_
  · refine Finset.sum_congr rfl fun p _ => ?_
    rw [iblk0, iblk1]
    exact congr (congrArg _ (congrArg (arg0 m c) (congr (congrArg _ (Fin.ext (by show 2 * (e.val / 128) % 2 * 2048 + p.val = p.val; omega))) (Fin.ext (by show 2 * (e.val / 128) / 2 * 512 + (a.val % 4 * 128 + e.val % 128) = e.val / 128 * 512 + (a.val * 128 + e.val % 128); omega)))))
      (congrArg (arg1 m c) (congr (congrArg _ (Fin.ext (by show 2 * (e.val / 128) % 2 * 2048 + p.val = p.val; omega))) (Fin.ext (by show 2 * (e.val / 128) / 2 * 512 + j.val % 512 = e.val / 128 * 512 + j.val; omega))))
  · refine Finset.sum_congr rfl fun p _ => ?_
    rw [iblk0, iblk1]
    exact congr (congrArg _ (congrArg (arg0 m c) (congr (congrArg _ (Fin.ext (by show (2 * (e.val / 128) + 1) % 2 * 2048 + p.val = 2048 + p.val; omega))) (Fin.ext (by show (2 * (e.val / 128) + 1) / 2 * 512 + (a.val % 4 * 128 + e.val % 128) = e.val / 128 * 512 + (a.val * 128 + e.val % 128); omega)))))
      (congrArg (arg1 m c) (congr (congrArg _ (Fin.ext (by show (2 * (e.val / 128) + 1) % 2 * 2048 + p.val = 2048 + p.val; omega))) (Fin.ext (by show (2 * (e.val / 128) + 1) / 2 * 512 + j.val % 512 = e.val / 128 * 512 + j.val; omega))))
end

section
open Cert.PwReferenceIdeal Cert.PwReferenceIdeal.Gen Cert.PwReferenceIdeal.Read

/-- The reference at an index. -/
theorem reference (x0 : FVec Ideal S4096x2048 .bf16) (x1 : FVec Ideal S4096x2048 .bf16) (a : Fin 4) (e : Fin 512) (j : Fin 512) :
    val_main_v12 (F := Ideal) x0 x1 (ix3 a e j) = ∑ p : Fin 4096, x0 (ix2 p ⟨e.val / 128 * 512 + (a.val * 128 + e.val % 128), by omega⟩) * x1 (ix2 p ⟨e.val / 128 * 512 + j.val, by omega⟩) := by
  pointwise [val_main_v12, val_main_v11, val_main_v10, val_main_v9, val_main_v8, val_main_v7, val_main_v6, val_main_v5, val_main_v0, val_main_v1, val_main_v2, val_main_v3]
  exact Finset.sum_congr rfl fun p _ => mul_comm _ _
end

/-- The equation of the two programs. -/
theorem algebraic : Cert.algebraic_PwKernelIdeal_PwReferenceIdeal := by
  intro m g m' g' _ hag
  refine ⟨fun c => Cert.PwReferenceIdeal.Read.val_main_v12 (F := Ideal) (m (c.tc.loc Cert.PwKernelIdeal.main_arg0)) (m (c.tc.loc Cert.PwKernelIdeal.main_arg1)), ?_, ?_⟩
  · refine (θ_run _ _ _).mono (fun r h c => ?_) (Cert.PwKernelIdeal.Value.run (F := Ideal) m g)
    refine ⟨(h c).1.trans ?_, (h c).2⟩
    funext i
    change Cert.PwKernelIdeal.S4x512x512.Idx at i
    idx_vars i
    exact (final_read m c _ _ _).trans (reference _ _ _ _ _).symm
  · refine (θ_run _ _ _).mono (fun r h c => ?_) (Cert.PwReferenceIdeal.Value.run (F := Ideal) m' g')
    refine ⟨(h c).1.trans ?_, (h c).2⟩
    obtain ⟨e0, e1⟩ := hag c
    exact (Cert.PwReferenceIdeal.Read.val_main_v12_eq (F := Ideal) _ _).trans
      (congr (congrArg (Cert.PwReferenceIdeal.Read.val_main_v12 (F := Ideal)) e0) e1)

end Cert.PwClaim

end
-- ==== Proof.ResClaim.lean ====
/- An output product with its residual: the kernel and the reference end at the same array. -/
module

public import proofs.«01_k».proof.Defs
public import proofs.«01_k».proof.Proof.Gen.ResKernelIdeal.Value
public import proofs.«01_k».proof.Proof.Gen.ResReferenceIdeal.Run
public import proofs.«01_k».proof.Proof.Gen.ResReferenceIdeal.Read
public import Idealize.ShloMosaic.Lib.Pointwise

@[expose] public section

noncomputable section

namespace Cert.ResClaim

open Idealize.ShloMosaic Idealize.SL.Sem Idealize.ShloMosaic.StableHlo

set_option maxRecDepth 16384

section
open Cert.ResKernelIdeal Cert.ResKernelIdeal.Gen Cert.ResKernelIdeal.Value

variable (m : (ℓ : Loc nD τ sig) → Buf (Elt Ideal) ℓ)

/-- The launch contents of the activations, the weights and the residual. -/
abbrev arg0 (c : Dev nD) : FVec Ideal S4096x2048 .bf16 := m (c.tc.loc main_arg0)
abbrev arg1 (c : Dev nD) : FVec Ideal S2048x1024 .bf16 := m (c.tc.loc main_arg1)
abbrev arg2 (c : Dev nD) : FVec Ideal S4096x1024 .f32 := m (c.tc.loc main_arg2)

theorem ltN (t : Fin grid0.N) : t.val < 4 := t.isLt

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem xsz3 : ∀ t : Fin grid0.N, win0_3.xsize (grid0.coords t) 0 = 1024 ∧ win0_3.xsize (grid0.coords t) 1 = 1024 := by decide +kernel

/-- The activations' block at a point. -/
theorem iblk0 (c : Dev nD) (t : Fin grid0.N) (r : Fin 1024) (k : Fin 2048) :
    iblk m c 0 t (ix2 r k) = arg0 m c (ix2 ⟨t.val * 1024 + r.val, by have := ltN t; omega⟩ k) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 1024 + 1 * r.val = t.val * 1024 + r.val; rw [hi.1]; omega
  | ⟨1, _⟩ => show win0_0.index t 1 * 2048 + 1 * k.val = k.val; rw [hi.2]; omega

/-- The weights' block at a point is the whole array. -/
theorem iblk1 (c : Dev nD) (t : Fin grid0.N) (k : Fin 2048) (j : Fin 1024) :
    iblk m c 1 t (ix2 k j) = arg1 m c (ix2 k j) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 2048 + 1 * k.val = k.val; rw [hi.1]; omega
  | ⟨1, _⟩ => show win0_1.index t 1 * 1024 + 1 * j.val = j.val; rw [hi.2]; omega

/-- The residual's block at a point. -/
theorem iblk2 (c : Dev nD) (t : Fin grid0.N) (r : Fin 1024) (j : Fin 1024) :
    iblk m c 2 t (ix2 r j) = arg2 m c (ix2 ⟨t.val * 1024 + r.val, by have := ltN t; omega⟩ j) := by
  have hi := idx2 t
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

theorem hz : (![0, 0] : Fin 2 → Nat) = fun _ => 0 := by decide

/-- What a point stores: the residual's rows plus the product of the two blocks. -/
theorem store (x0 : FVec Ideal S1024x2048 .bf16) (x1 : FVec Ideal S2048x1024 .bf16) (x2 : FVec Ideal S1024x1024 .f32)
    (r : Fin 1024) (j : Fin 1024) :
    out0_3 (F := Ideal) x0 x1 x2 (ix2 r j) = x2 (ix2 r j) + ∑ p, x0 (ix2 r p) * x1 (ix2 p j) := by
  unfold out0_3
  rw [View.canon_unit_zero hz, View.ld_unit_zero (S := S1024x1024) hz, View.ld_unit_zero (S := S1024x2048) hz, View.ld_unit_zero (S := S2048x1024) hz]
  pointwise [k0_pay1]

/-- Where a point's block lies in the result. -/
theorem mem_blk (t : Fin grid0.N) (i : S4096x1024.Idx) :
    i ∈ ((cfg0.win 3).blk t).view.set ↔ (t.val * 1024 ≤ (i 0).val ∧ (i 0).val < t.val * 1024 + 1024) ∧ (0 ≤ (i 1).val ∧ (i 1).val < 1024) := by
  show i ∈ ((View.whole main_v0).slice (win0_3.rect t)).set ↔ _
  rw [View.set_slice_whole, Rect.mem_set_unit]
  have e := idx3 t
  have x := xsz3 t
  refine ⟨fun h => ⟨?_, ?_⟩, fun h a => ?_⟩
  · have : win0_3.index t 0 * 1024 ≤ (i 0).val ∧ (i 0).val < win0_3.index t 0 * 1024 + win0_3.xsize (grid0.coords t) 0 := h 0
    rwa [e.1, x.1] at this
  · have : win0_3.index t 1 * 1024 ≤ (i 1).val ∧ (i 1).val < win0_3.index t 1 * 1024 + win0_3.xsize (grid0.coords t) 1 := h 1
    rw [e.2, x.2] at this; omega
  · match a with
    | ⟨0, _⟩ =>
      show win0_3.index t 0 * 1024 ≤ (i 0).val ∧ (i 0).val < win0_3.index t 0 * 1024 + win0_3.xsize (grid0.coords t) 0
      rw [e.1, x.1]; exact h.1
    | ⟨1, _⟩ =>
      show win0_3.index t 1 * 1024 ≤ (i 1).val ∧ (i 1).val < win0_3.index t 1 * 1024 + win0_3.xsize (grid0.coords t) 1
      rw [e.2, x.2]; omega

/-- The residual plus the whole product. -/
def target (x0 : FVec Ideal S4096x2048 .bf16) (x1 : FVec Ideal S2048x1024 .bf16) (x2 : FVec Ideal S4096x1024 .f32) :
    FVec Ideal S4096x1024 .f32 := fun i =>
  x2 i + ∑ p : Fin 2048, x0 (ix2 (i 0) p) * x1 (ix2 p (i 1))

/-- The array after the run. -/
theorem final (c : Dev nD) : (dats m 0 c).arrAt 3 cfg0.N = target (arg0 m c) (arg1 m c) (arg2 m c) := by
  funext i
  rw [(dats m 0 c).arrAt_eq_piecewise 3 (target (arg0 m c) (arg1 m c) (arg2 m c)) (fun t _ => ?_) i]
  · change S4096x1024.Idx at i
    have hr : (i 0).val < 4096 := (i 0).isLt
    have hc : (i 1).val < 1024 := (i 1).isLt
    refine if_pos ⟨(⟨(i 0).val / 1024, by show _ < 4; omega⟩ : Fin grid0.N), Gen.flush0_3 _, ?_⟩
    rw [mem_blk]
    dsimp only
    omega
  · rw [flushed3]
    funext y
    have e := idx3 t
    have x := xsz3 t
    have h0 : (y 0).val < 1024 := x.1 ▸ (y 0).isLt
    have h1 : (y 1).val < 1024 := x.2 ▸ (y 1).isLt
    have hj : (cfg0.win 3).xinj (grid0.coords t) y = ix2 (⟨(y 0).val, h0⟩ : Fin 1024) (⟨(y 1).val, h1⟩ : Fin 1024) := by
      funext a; apply Fin.ext
      match a with
      | ⟨0, _⟩ => rfl
      | ⟨1, _⟩ => rfl
    have hi : ((cfg0.win 3).blk t).view.emb y = (ix2 (⟨t.val * 1024 + (y 0).val, by have := ltN t; omega⟩ : Fin 4096) (⟨(y 1).val, h1⟩ : Fin 1024) : S4096x1024.Idx) := by
      funext a; apply Fin.ext
      match a with
      | ⟨0, _⟩ => show win0_3.index t 0 * 1024 + 1 * (y 0).val = t.val * 1024 + (y 0).val; rw [e.1]; omega
      | ⟨1, _⟩ => show win0_3.index t 1 * 1024 + 1 * (y 1).val = (y 1).val; rw [e.2]; omega
    refine (congrArg (out0_3 (F := Ideal) (iblk m c 0 t) (iblk m c 1 t) (iblk m c 2 t)) hj).trans ?_
    rw [store]
    refine Eq.trans ?_ (congrArg (target (arg0 m c) (arg1 m c) (arg2 m c)) hi).symm
    unfold target
    refine congr (congrArg _ (iblk2 m c t _ _)) (Finset.sum_congr rfl fun p _ => ?_)
    rw [iblk0, iblk1]
    rfl
end

section
open Cert.ResReferenceIdeal Cert.ResReferenceIdeal.Gen Cert.ResReferenceIdeal.Read

/-- The reference as the same function. -/
theorem reference (x0 : FVec Ideal S4096x2048 .bf16) (x1 : FVec Ideal S2048x1024 .bf16) (x2 : FVec Ideal S4096x1024 .f32) :
    val_main_v3 (F := Ideal) x0 x1 x2 = target x0 x1 x2 := by
  have h : ∀ (a : Fin 4096) (b : Fin 1024), val_main_v3 (F := Ideal) x0 x1 x2 (ix2 a b) = x2 (ix2 a b) + ∑ p : Fin 2048, x0 (ix2 a p) * x1 (ix2 p b) := by
    intro a b
    pointwise [val_main_v3, val_main_v2, val_main_v0, val_main_v1]
  funext i
  change S4096x1024.Idx at i
  idx_vars i
  exact h _ _
end

/-- The equation of the two programs. -/
theorem algebraic : Cert.algebraic_ResKernelIdeal_ResReferenceIdeal := by
  intro m g m' g' _ hag
  refine ⟨fun c => Cert.ResReferenceIdeal.Read.val_main_v3 (F := Ideal) (m (c.tc.loc Cert.ResKernelIdeal.main_arg0)) (m (c.tc.loc Cert.ResKernelIdeal.main_arg1)) (m (c.tc.loc Cert.ResKernelIdeal.main_arg2)), ?_, ?_⟩
  · refine (θ_run _ _ _).mono (fun r h c => ?_) (Cert.ResKernelIdeal.Value.run_blocks (F := Ideal) m g)
    refine ⟨(h c).1.trans ?_, (h c).2⟩
    exact (final m c).trans (reference _ _ _).symm
  · refine (θ_run _ _ _).mono (fun r h c => ?_) (Cert.ResReferenceIdeal.Value.run (F := Ideal) m' g')
    refine ⟨(h c).1.trans ?_, (h c).2⟩
    obtain ⟨e0, e1, e2⟩ := hag c
    exact (Cert.ResReferenceIdeal.Read.val_main_v3_eq (F := Ideal) _ _ _).trans
      (congr (congr (congrArg (Cert.ResReferenceIdeal.Read.val_main_v3 (F := Ideal)) e0) e1) e2)

end Cert.ResClaim

end
-- ==== Proof.PprojIdealFrame.lean ====
/- The pooling layer's norm and input product: the frame of `PprojKernelIdeal`. In the first row of the grid's points the body
   norms a block of rows, keeps it in the scratch and writes it out; at every point it multiplies the kept block with a shard
   of the weights. -/
module

public import proofs.«01_k».proof.Proof.Gen.PprojKernelIdeal.Frame
public import proofs.«01_k».proof.Proof.Gen.PprojKernelIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.PprojIdealFrame

open Cert.PprojKernelIdeal Cert.PprojKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model the assertions are over. -/
abbrev 𝕄 (F : FTy → Type) [FloatOps F] := MT nD τ sig Unit (Elt F) ℕ (UR sig nD τ) ℕ

variable (m : (ℓ : Loc nD τ sig) → Buf (Elt F) ℓ) (ρ : Dev nD → PrngReg)

/-! ## The body -/

set_option maxHeartbeats 1000000 in
/-- In the first row of points: the normed rows go to the scratch and to the second result, the product to the first. -/
theorem runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S4096x1024 .bf16) (harg7 : arg7.IsWhole)
    (hc : k0_cond1 i = 1#1)
    (x2 : Vec F S1024x1024 .f32) (x3 : Vec F S1x1024 .f32) (x4 : Vec F S1x1024x1024 .bf16) (X : Vec F S4096x1024 .bf16) (E : Set ℕ) (K : PUnit → sProp (𝕄 F)) :
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ owns (c : Thread nD τ) arg7 fullShare X
            ∗ (iprop(owns (c : Thread nD τ) arg2 fullShare x2 ∗ owns (c : Thread nD τ) arg3 fullShare x3 ∗ owns (c : Thread nD τ) arg4 fullShare x4
              ∗ owns (c : Thread nD τ) arg5 fullShare (k0_pay3 (k0_pay2 x2 x3) x4) ∗ owns (c : Thread nD τ) arg6 fullShare (k0_pay1 x2 x3)
              ∗ owns (c : Thread nD τ) arg7 fullShare (VecWindow.put X (k0_off1 i) S1024x1024.size (k0_pay2 x2 x3))) -∗ K ⟨⟩))
          ⊢ wp frame (wpE (defs₀ (F := F)) Variants.none c none) E (cc0_pool_in_proj i arg2 harg2 arg3 harg3 arg4 harg4 arg5 harg5 arg6 harg6 arg7 harg7) K := by
    simp only [cc0_pool_in_proj_eq_skeleton]; unfold cc0_pool_in_proj_skel
    unfold owns
    iintro ⟨⟨%f0, %hf0, H0⟩, ⟨%f1, %hf1, H1⟩, ⟨%f2, %hf2, H2⟩, ⟨%d3, %f3, %hf3, H3⟩, ⟨%d4, %f4, %hf4, H4⟩, ⟨%f5, %hf5, H5⟩, Hk⟩
    obtain rfl := harg2.eq_unread hf0; obtain rfl := harg3.eq_unread hf1; obtain rfl := harg4.eq_unread hf2; obtain rfl := harg7.eq_unread hf5
    sl_exec (disch := first | sl_exact hc)
    sl_step
    have e2 := (View.readAt_full arg2.view (harg2.unread x2) inb_S1024x1024_S1024x1024_0_0).trans hf0
    have e3 := (View.readAt_full arg3.view (harg3.unread x3) inb_S1x1024_S1x1024_0_0).trans hf1
    have e4 := (View.readAt_full arg4.view (harg4.unread x4) inb_S1x1024x1024_S1x1024x1024_0_0_0).trans hf2
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      refine (View.read_writes_full _ _ _ _ _).trans ?_
      sl_unfold_words
      refine congrArg₂ k0_pay3 ((View.readCov_cons_toLoadRect _ _ _ _).trans ?_) e4
      exact congrArg₂ k0_pay2 e2 e3
    isplitl [H4]
    · iexists _; isplitr
      swap; · iexact H4
      ipureintro
      exact (View.read_writes_full _ _ _ _ _).trans (congrArg₂ k0_pay1 e2 e3)
    iexists _; isplitr
    swap; · iexact H5
    ipureintro
    sl_unfold_words
    refine (View.read_writes_cons_put _ _ _ _ _ rfl).trans ?_
    rw [View.writes_nil, hf5]
    exact congrArg (VecWindow.put X (k0_off1 i) S1024x1024.size) (congrArg₂ k0_pay2 e2 e3)

set_option maxHeartbeats 1000000 in
/-- At a later point: the product of the kept rows. -/
theorem runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S4096x1024 .bf16) (harg7 : arg7.IsWhole)
    (hc : ¬ k0_cond1 i = 1#1)
    (x4 : Vec F S1x1024x1024 .bf16) (X : Vec F S4096x1024 .bf16) (E : Set ℕ) (K : PUnit → sProp (𝕄 F)) :
        iprop(owns (c : Thread nD τ) arg4 fullShare x4
            ∗ (∃ d, owns (c : Thread nD τ) arg5 fullShare d) ∗ owns (c : Thread nD τ) arg7 fullShare X
            ∗ (iprop(owns (c : Thread nD τ) arg4 fullShare x4
              ∗ owns (c : Thread nD τ) arg5 fullShare (k0_pay3 (VecWindow.window X (k0_off2 i) S1024x1024.size (k0_off2_inb i)) x4)
              ∗ owns (c : Thread nD τ) arg7 fullShare X) -∗ K ⟨⟩))
          ⊢ wp frame (wpE (defs₀ (F := F)) Variants.none c none) E (cc0_pool_in_proj i arg2 harg2 arg3 harg3 arg4 harg4 arg5 harg5 arg6 harg6 arg7 harg7) K := by
    simp only [cc0_pool_in_proj_eq_skeleton]; unfold cc0_pool_in_proj_skel
    unfold owns
    iintro ⟨⟨%f2, %hf2, H2⟩, ⟨%d3, %f3, %hf3, H3⟩, ⟨%f5, %hf5, H5⟩, Hk⟩
    obtain rfl := harg4.eq_unread hf2; obtain rfl := harg7.eq_unread hf5
    sl_exec (disch := first | sl_exact hc)
    sl_step
    have e4 := (View.readAt_full arg4.view (harg4.unread x4) inb_S1x1024x1024_S1x1024x1024_0_0_0).trans hf2
    iapply Hk
    isplitl [H2]
    · iexists _; isplitr; · ipureintro; exact hf2
      iexact H2
    isplitl [H3]
    · iexists _; isplitr
      swap; · iexact H3
      ipureintro
      refine (View.read_writes_full _ _ _ _ _).trans ?_
      refine congrArg₂ k0_pay3 ?_ e4
      exact (View.readAt_unit _ _ _ rfl (k0_off2_inb i)).trans (by rw [hf5])
    iexists _; isplitr
    swap; · iexact H5
    ipureintro
    exact hf5

/-! ## The schedule -/

/-- The first row of points. -/
theorem hcond : ∀ t : Fin cfg0.N, k0_cond1 (grid0.coords t) = 1#1 ↔ t.val < 4 :=
  (by decide +kernel : ∀ t : Fin grid0.N, k0_cond1 (grid0.coords t) = 1#1 ↔ t.val < 4)

/-- The rows of the scratch a point is on. -/
theorem hoff1 : ∀ t : Fin cfg0.N, k0_off1 (grid0.coords t) = ![1024 * (t.val % 4), 0] :=
  (by decide +kernel : ∀ t : Fin grid0.N, k0_off1 (grid0.coords t) = ![1024 * (t.val % 4), 0])

theorem hoff2 : ∀ t : Fin cfg0.N, k0_off2 (grid0.coords t) = ![1024 * (t.val % 4), 0] := hoff1

/-- The second result's block is written back at the first three points and at the last. -/
theorem hflush4 : ∀ t : Fin cfg0.N, (cfg0.win 4).flush t = true ↔ (t.val < 3 ∨ t.val = 15) :=
  (by decide +kernel : ∀ t : Fin grid0.N, win0_4.flush t = true ↔ (t.val < 3 ∨ t.val = 15))

theorem hidle4 (t : Fin cfg0.N) : cfg0.idle 4 (cfg0.grid.coords t) = true ↔ ¬ t.val < 4 := by
  rw [← hcond t]
  show (!(k0_cond1 (grid0.coords t) == 1#1)) = true ↔ _
  simp

/-- The rows `j` of the scratch. -/
abbrev rowsAt (j : Fin 4) : Fin 2 → ℕ := ![1024 * j.val, 0]

theorem rowsAt_inb (j : Fin 4) : ∀ a : Fin 2, rowsAt j a + S1024x1024.size a ≤ S4096x1024.size a := by
  intro a; have := j.isLt
  fin_cases a
  · show 1024 * j.val + 1024 ≤ 4096; omega
  · show 0 + 1024 ≤ 1024; omega

/-! ## What the buffers hold -/

/-- The point of the first row that norms the rows `j`. -/
abbrev pt (j : Fin 4) : Fin cfg0.N := ⟨j.val, by have := j.isLt; have : cfg0.N = 16 := N_0; omega⟩

/-- The normed rows `j`, as kept and as written out. -/
def uS (c : Dev nD) (j : Fin 4) : Vec F S1024x1024 .bf16 := k0_pay2 (iblk m c 0 (pt j)) (iblk m c 1 (pt j))
def uO (c : Dev nD) (j : Fin 4) : Vec F S1024x1024 .bf16 := k0_pay1 (iblk m c 0 (pt j)) (iblk m c 1 (pt j))

/-- The rows a point is on. -/
abbrev row (t : Fin cfg0.N) : Fin 4 := ⟨t.val % 4, Nat.mod_lt _ (by decide)⟩

/-- The last rows normed so far. -/
abbrev lastRow (t : Fin cfg0.N) : Fin 4 := ⟨min t.val 3, by omega⟩

/-- The scratch before point `n`: the rows of the points gone by are kept. -/
def Kept (c : Dev nD) (n : ℕ) (X : Vec F S4096x1024 .bf16) : Prop :=
  ∀ j : Fin 4, j.val < n → VecWindow.window X (rowsAt j) S1024x1024.size (rowsAt_inb j) = uS m c j

theorem kept_step (c : Dev nD) (t : Fin 4) (n : ℕ) (hn : n = t.val) (X : Vec F S4096x1024 .bf16) (h : Kept m c n X) :
    Kept m c (n + 1) (VecWindow.put X (rowsAt t) S1024x1024.size (uS m c t)) := by
  subst hn
  intro j hj
  by_cases e : j = t
  · subst e; exact VecWindow.window_put_same _ _ _ _ _
  · have hne : j.val ≠ t.val := fun h => e (Fin.ext h)
    refine (VecWindow.window_put_of_disjoint _ _ _ _ _ (rowsAt_inb j) _ (0 : Fin 2) ?_).trans (h j (by omega))
    show 1024 * j.val + 1024 ≤ 1024 * t.val ∨ 1024 * t.val + 1024 ≤ 1024 * j.val
    omega

theorem window_congr (X : Vec F S4096x1024 .bf16) (off off' : Fin 2 → ℕ) (h) (h') (e : off = off') :
    VecWindow.window X off S1024x1024.size h = VecWindow.window X off' S1024x1024.size h' := by
  subst e; rfl

/-- The proof data: the inputs at their blocks, the product of the rows a point is on, the last rows normed; the scratch in
    the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (uS m c (row t)) (iblk m c 2 t)
    | ⟨4, _⟩ => uO m c (lastRow t)
  Φ t := iprop((∃ X, owns (c : Thread nD τ) (Memref.whole cc0_scratch0) fullShare X ∗ ⌜Kept m c t.val X⌝) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (uS m c (row t)) (iblk m c 2 t) := by dsimp only [dats]
theorem after0_4 (c : Dev nD) (t : Fin cfg0.N) : (dats m 0 c).after 4 t = uO m c (lastRow t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- From the fourth point on the second result's buffer holds what was stored last. -/
theorem fresh4 : ∀ t : Fin cfg0.N, ¬ t.val < 4 → cfg0.fresh 4 t.val = false :=
  (by decide +kernel : ∀ t : Fin grid0.N, ¬ t.val < 4 → cfg0.fresh 4 t.val = false)

theorem before0_4 (c : Dev nD) (t : Fin cfg0.N) (ht : ¬ t.val < 4) (d) : (dats m 0 c).before 4 t d = uO m c (lastRow t) := by
  rw [(dats m 0 c).before_out_traj 4 rfl (fun _ _ => rfl) (fun t _ hi _ => by
    have := (hidle4 t).mp hi
    rw [after0_4, after0_4]
    exact congrArg (uO m c) (Fin.ext (by show min t.val 3 = min (t.val - 1) 3; omega))) t.val t rfl d,
    if_neg (by rw [fresh4 t ht]; exact Bool.false_ne_true), after0_4]
  exact congrArg (uO m c) (Fin.ext (by show min (t.val - 1) 3 = min t.val 3; omega))

/-! ## The body obligation -/

/-- What the body is called with at point `t`, -/
def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- what it leaves in the second result's buffer, as the obligation asks it, -/
def leave4 (c : Dev nD) (t : Fin cfg0.N) : sProp (𝕄 F) :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- and what it returns. -/
def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ leave4 m c t)

theorem leave4_of (c : Dev nD) (t : Fin cfg0.N) (d₀ : Vec F S1024x1024 .bf16) :
    owns (c : Thread nD τ) (st0_4 t) fullShare (uO m c (lastRow t)) ⊢ (leave4 m c t : sProp (𝕄 F)) := by
  unfold leave4
  rcases hi : cfg0.idle 4 (cfg0.grid.coords t) with _ | _
  · dsimp only; rw [after0_4]
  · dsimp only
    rcases hf : (cfg0.win 4).flush t with _ | _
    · dsimp only
      iintro H
      iexists d₀
      rw [before0_4 m c t ((hidle4 t).mp hi)]
      iexact H
    · dsimp only; rw [after0_4]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3,
    show (dats m 0 c).Φ t.castSucc = iprop((∃ X, owns (c : Thread nD τ) (Memref.whole cc0_scratch0) fullShare X ∗ ⌜Kept m c t.val X⌝) ∗ ∃ r, prngReg c r) from rfl,
    show (dats m 0 c).Φ t.succ = iprop((∃ X, owns (c : Thread nD τ) (Memref.whole cc0_scratch0) fullShare X ∗ ⌜Kept m c (t.val + 1) X⌝) ∗ ∃ r, prngReg c r) from rfl]
  have hN : t.val < 16 := lt_of_lt_of_eq t.isLt (show cfg0.N = 16 from N_0)
  by_cases h0 : t.val < 4
  · iintro ⟨⟨⟨%X, HX, %hX⟩, Hr⟩, Ho, ⟨%d0, H0⟩, ⟨%d1, H1⟩, ⟨%d2, H2⟩, ⟨%d3, H3⟩, ⟨%d4, H4⟩⟩
    have er : row t = ⟨t.val, h0⟩ := Fin.ext (Nat.mod_eq_of_lt h0)
    have el : lastRow t = ⟨t.val, h0⟩ := Fin.ext (by show min t.val 3 = t.val; omega)
    iapply (runA c (grid0.coords t) _ _ _ _ _ _ _ _ _ _ _ _ ((hcond t).mpr h0) (iblk m c 0 t) (iblk m c 1 t) (iblk m c 2 t) X Set.univ _)
    isplitl [H0]; · iexact H0
    isplitl [H1]; · iexact H1
    isplitl [H2]; · iexact H2
    isplitl [H3]; · iexists _; iexact H3
    isplitl [H4]; · iexists _; iexact H4
    isplitl [HX]; · iexact HX
    iintro ⟨H0, H1, H2, H3, H4, HX⟩
    isplitl [HX Hr]
    · isplitl [HX]
      · iexists _; isplitl [HX]; · iexact HX
        ipureintro
        have hs := kept_step m c ⟨t.val, h0⟩ t.val rfl X hX
        have eo : k0_off1 (grid0.coords t) = rowsAt ⟨t.val, h0⟩ := (hoff1 t).trans (by rw [Nat.mod_eq_of_lt h0])
        rw [eo]
        exact hs
      · iexact Hr
    isplitl [Ho]; · iexact Ho
    isplitl [H0]; · iexact H0
    isplitl [H1]; · iexact H1
    isplitl [H2]; · iexact H2
    isplitl [H3]
    · rw [er]; iexact H3
    · iapply (leave4_of m c t d4)
      rw [el]; iexact H4
  · iintro ⟨⟨⟨%X, HX, %hX⟩, Hr⟩, Ho, ⟨%d0, H0⟩, ⟨%d1, H1⟩, ⟨%d2, H2⟩, ⟨%d3, H3⟩, ⟨%d4, H4⟩⟩
    iapply (runB c (grid0.coords t) _ _ _ _ _ _ _ _ _ _ _ _ (fun h => h0 ((hcond t).mp h)) (iblk m c 2 t) X Set.univ _)
    isplitl [H2]; · iexact H2
    isplitl [H3]; · iexists _; iexact H3
    isplitl [HX]; · iexact HX
    iintro ⟨H2, H3, HX⟩
    isplitl [HX Hr]
    · isplitl [HX]
      · iexists _; isplitl [HX]; · iexact HX
        ipureintro
        exact fun j hj => hX j (by have := j.isLt; omega)
      · iexact Hr
    isplitl [Ho]; · iexact Ho
    isplitl [H0]; · iexact H0
    isplitl [H1]; · iexact H1
    isplitl [H2]; · iexact H2
    isplitl [H3]
    · rw [show uS m c (row t) = VecWindow.window X (k0_off2 (grid0.coords t)) S1024x1024.size (k0_off2_inb (grid0.coords t)) from
        (hX (row t) (by show t.val % 4 < t.val; omega)).symm.trans (window_congr X _ _ _ _ (hoff2 t).symm)]
      iexact H3
    · iapply (leave4_of m c t d4)
      rw [before0_4 m c t h0]
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats (F := F) m 0 c).Φ 0 := by
  rw [show (dats m 0 c).Φ 0 = iprop((∃ X, owns (c : Thread nD τ) (Memref.whole cc0_scratch0) fullShare X ∗ ⌜Kept m c 0 X⌝) ∗ ∃ r, prngReg c r) from rfl]
  unfold Pipeline.ΦA
  rw [scopedRest0_eq]
  iintro ⟨⟨%f, Hf⟩, Hr⟩
  isplitl [Hf]
  · iexists f
    isplitl [Hf]
    · rw [owns_whole]; iexact Hf
    · ipureintro; exact fun j hj => absurd hj (Nat.not_lt_zero _)
  · iexact Hr

theorem hout (c : Dev nD) : (dats (F := F) m 0 c).Φ (Fin.last cfg0.N) ⊢ Pipeline.ΦA spec0 c := by
  rw [show (dats m 0 c).Φ (Fin.last cfg0.N) = iprop((∃ X, owns (c : Thread nD τ) (Memref.whole cc0_scratch0) fullShare X ∗ ⌜Kept m c cfg0.N X⌝) ∗ ∃ r, prngReg c r) from rfl]
  unfold Pipeline.ΦA
  rw [scopedRest0_eq]
  iintro ⟨⟨%X, HX, %hX⟩, Hr⟩
  isplitl [HX]
  · iexists X; rw [← owns_whole]; iexact HX
  · iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments are as they were, no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.PprojIdealFrame

end
-- ==== Proof.PprojClaim.lean ====
/- The pooling layer's norm and input product: the kernel and the reference end at the same two arrays. -/
module

public import proofs.«01_k».proof.Defs
public import proofs.«01_k».proof.Proof.PprojIdealFrame
public import proofs.«01_k».proof.Proof.Gen.PprojReferenceIdeal.Run
public import proofs.«01_k».proof.Proof.Gen.PprojReferenceIdeal.Read
public import Idealize.ShloMosaic.Lib.Pointwise

@[expose] public section

noncomputable section

namespace Cert.PprojClaim

open Idealize.ShloMosaic Idealize.SL.Sem Idealize.ShloMosaic.StableHlo

set_option maxRecDepth 16384

section
open Cert.PprojKernelIdeal Cert.PprojKernelIdeal.Gen Cert.PprojIdealFrame

variable (m : (ℓ : Loc nD τ sig) → Buf (Elt Ideal) ℓ)

/-- The launch contents of the three arguments: the rows, the norm's gain, the weights. -/
abbrev arg0 (c : Dev nD) : FVec Ideal S4096x1024 .f32 := m (c.tc.loc main_arg0)
abbrev arg1 (c : Dev nD) : FVec Ideal S1x1024 .f32 := m (c.tc.loc main_arg1)
abbrev arg2 (c : Dev nD) : FVec Ideal S1024x4096 .bf16 := m (c.tc.loc main_arg2)

theorem ltN (t : Fin grid0.N) : t.val < 16 := t.isLt

theorem idx0 : ∀ j : Fin 4, win0_0.index (pt j) 0 = j.val ∧ win0_0.index (pt j) 1 = 0 := by decide +kernel
theorem idx1 : ∀ t : Fin grid0.N, win0_1.index t 0 = 0 ∧ win0_1.index t 1 = 0 := by decide +kernel
theorem idx2 : ∀ t : Fin grid0.N, win0_2.index t 0 = t.val / 4 ∧ win0_2.index t 1 = 0 ∧ win0_2.index t 2 = 0 := by decide +kernel
theorem idx3 : ∀ t : Fin grid0.N, win0_3.index t 0 = t.val % 4 ∧ win0_3.index t 1 = t.val / 4 := by decide +kernel
theorem idx4 : ∀ t : Fin grid0.N, win0_4.index t 0 = min t.val 3 ∧ win0_4.index t 1 = 0 := by decide +kernel
theorem xsz3 : ∀ t : Fin grid0.N, win0_3.xsize (grid0.coords t) 0 = 1024 ∧ win0_3.xsize (grid0.coords t) 1 = 1024 := by decide +kernel
theorem xsz4 : ∀ t : Fin grid0.N, win0_4.xsize (grid0.coords t) 0 = 1024 ∧ win0_4.xsize (grid0.coords t) 1 = 1024 := by decide +kernel
theorem flush3 : ∀ t : Fin cfg0.N, (cfg0.win 3).flush t = true :=
  (by decide +kernel : ∀ t : Fin grid0.N, win0_3.flush t = true)

/-- The shards of the weights, as the region finds them. -/
theorem V_main_v1 (c : Dev nD) (n : Fin 4) (x : Fin 1024) (j : Fin 1024) :
    (V m c main_v1 : FVec Ideal S4x1024x1024 .bf16) (ix3 n x j) = arg2 m c (ix2 x ⟨n.val * 1024 + j.val, by omega⟩) := by
  have e : V m c main_v1 = transpose S4x1024x1024 [1, 0, 2] (shapeCast S1024x4x1024 (arg2 m c) shapeCasts_S1024x4096_S1024x4x1024) transposes_S1024x4x1024_S4x1024x1024_1_0_2 := by
    show StableHlo.after hostOps0 _ (Proc.devRef .tc main_v1) = _
    simp only [hostOps0, StableHlo.after_cons, StableHlo.after_nil]
    rw [StableHlo.unary_result, StableHlo.reshape_result]
    rfl
  rw [e]
  pointwise []

theorem iblk0 (c : Dev nD) (j : Fin 4) (r : Fin 1024) (k : Fin 1024) :
    iblk m c 0 (pt j) (ix2 r k) = arg0 m c (ix2 ⟨j.val * 1024 + r.val, by omega⟩ k) := by
  have hi := idx0 j
  unfold iblk
  rw [View.read_apply]
  show V m c main_arg0 _ = _
  rw [V_main_arg0]
  refine congrArg (m (c.tc.loc main_arg0)) ?_
  funext a
  apply Fin.ext
  match a with
  | ⟨0, _⟩ => show win0_0.index (pt j) 0 * 1024 + 1 * r.val = j.val * 1024 + r.val; rw [hi.1]; omega
  | ⟨1, _⟩ => show win0_0.index (pt j) 1 * 1024 + 1 * k.val = k.val; rw [hi.2]; omega

theorem iblk1 (c : Dev nD) (t : Fin grid0.N) (r : Fin 1) (k : Fin 1024) :
    iblk m c 1 t (ix2 r k) = arg1 m c (ix2 r k) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 1 + 1 * r.val = r.val; rw [hi.1]; omega
  | ⟨1, _⟩ => show win0_1.index t 1 * 1024 + 1 * k.val = k.val; rw [hi.2]; omega

theorem iblk2 (c : Dev nD) (t : Fin grid0.N) (x : Fin 1024) (k : Fin 1024) :
    iblk m c 2 t (ix3 0 x k) = arg2 m c (ix2 x ⟨t.val / 4 * 1024 + k.val, by have := ltN t; omega⟩) := by
  have hi := idx2 t
  refine Eq.trans ?_ (V_main_v1 m c ⟨t.val / 4, by have := ltN t; omega⟩ x k)
  unfold iblk
  rw [View.read_apply]
  show V m c main_v1 _ = _
  refine congrArg (V m c main_v1) ?_
  funext a
  apply Fin.ext
  match a with
  | ⟨0, _⟩ => show win0_2.index t 0 * 1 + 1 * 0 = t.val / 4; rw [hi.1]; omega
  | ⟨1, _⟩ => show win0_2.index t 1 * 1024 + 1 * x.val = x.val; rw [hi.2.1]; omega
  | ⟨2, _⟩ => show win0_2.index t 2 * 1024 + 1 * k.val = k.val; rw [hi.2.2]; omega

/-- A normed entry, from a row and the gain. -/
def normed (h g : Fin 1024 → EReal) (k : Fin 1024) : EReal :=
  h k * Ideal.rsqrt (Ideal.div (∑ p, h p * h p) (Ideal.ofBits .f32 0x44800000#32) + Ideal.ofBits .f32 0x358637BD#32) * g k

/-- The two payloads of the norm at an index. -/
theorem read_pay1 (x : FVec Ideal S1024x1024 .f32) (y : FVec Ideal S1x1024 .f32) (r k : Fin 1024) :
    k0_pay1 (F := Ideal) x y (ix2 r k) = normed (fun p => x (ix2 r p)) (fun p => y (ix2 0 p)) k := by
  unfold normed
  pointwise [k0_pay1]

theorem read_pay2 (x : FVec Ideal S1024x1024 .f32) (y : FVec Ideal S1x1024 .f32) (r k : Fin 1024) :
    k0_pay2 (F := Ideal) x y (ix2 r k) = normed (fun p => x (ix2 r p)) (fun p => y (ix2 0 p)) k := by
  refine Eq.trans ?_ (read_pay1 x y r k)
  pointwise [k0_pay2]

/-- The product of a block at an index. -/
theorem read_pay3 (x : FVec Ideal S1024x1024 .bf16) (y : FVec Ideal S1x1024x1024 .bf16) (r : Fin 1024) (k : Fin 1024) :
    k0_pay3 (F := Ideal) x y (ix2 r k) = ∑ p, x (ix2 r p) * y (ix3 0 p k) := by
  pointwise [k0_pay3]

/-- The normed rows, over the whole array. -/
def uAt (c : Dev nD) (t : Fin 4096) (k : Fin 1024) : EReal :=
  normed (fun p => arg0 m c (ix2 t p)) (fun p => arg1 m c (ix2 0 p)) k

/-- The two results, over the whole arrays. -/
def target3 (c : Dev nD) (i : S4096x4096.Idx) : EReal := ∑ p : Fin 1024, uAt m c (i 0) p * arg2 m c (ix2 p (i 1))
def target4 (c : Dev nD) (i : S4096x1024.Idx) : EReal := uAt m c (i 0) (i 1)

theorem uS_read (c : Dev nD) (j : Fin 4) (r k : Fin 1024) : uS m c j (ix2 r k) = uAt m c ⟨j.val * 1024 + r.val, by omega⟩ k := by
  unfold uS uAt
  refine (read_pay2 _ _ _ _).trans ?_
  exact congrArg₂ (fun a b => normed a b k) (funext fun p => iblk0 m c j r p) (funext fun p => iblk1 m c (pt j) 0 p)

theorem uO_read (c : Dev nD) (j : Fin 4) (r k : Fin 1024) : uO m c j (ix2 r k) = uAt m c ⟨j.val * 1024 + r.val, by omega⟩ k := by
  unfold uO uAt
  refine (read_pay1 _ _ _ _).trans ?_
  exact congrArg₂ (fun a b => normed a b k) (funext fun p => iblk0 m c j r p) (funext fun p => iblk1 m c (pt j) 0 p)

/-- Where a point's block of window 3 lies in its array. -/
theorem mem_blk3 (t : Fin grid0.N) (i : S4096x4096.Idx) :
    i ∈ ((cfg0.win 3).blk t).view.set ↔ (t.val % 4 * 1024 ≤ (i 0).val ∧ (i 0).val < t.val % 4 * 1024 + 1024) ∧ (t.val / 4 * 1024 ≤ (i 1).val ∧ (i 1).val < t.val / 4 * 1024 + 1024) := by
  show i ∈ ((View.whole main_v2_0).slice (win0_3.rect t)).set ↔ _
  rw [View.set_slice_whole, Rect.mem_set_unit]
  have e := idx3 t
  have x := xsz3 t
  refine ⟨fun h => ⟨?_, ?_⟩, fun h a => ?_⟩
  · have : win0_3.index t 0 * 1024 ≤ (i 0).val ∧ (i 0).val < win0_3.index t 0 * 1024 + win0_3.xsize (grid0.coords t) 0 := h 0
    rwa [e.1, x.1] at this
  · have : win0_3.index t 1 * 1024 ≤ (i 1).val ∧ (i 1).val < win0_3.index t 1 * 1024 + win0_3.xsize (grid0.coords t) 1 := h 1
    rwa [e.2, x.2] at this
  · match a with
    | ⟨0, _⟩ =>
      show win0_3.index t 0 * 1024 ≤ (i 0).val ∧ (i 0).val < win0_3.index t 0 * 1024 + win0_3.xsize (grid0.coords t) 0
      rw [e.1, x.1]; exact h.1
    | ⟨1, _⟩ =>
      show win0_3.index t 1 * 1024 ≤ (i 1).val ∧ (i 1).val < win0_3.index t 1 * 1024 + win0_3.xsize (grid0.coords t) 1
      rw [e.2, x.2]; exact h.2

/-- What a point writes to window 3. -/
theorem flushed_read3 (c : Dev nD) (t : Fin grid0.N) :
    (dats m 0 c).flushed 3 t = ((cfg0.win 3).blk t).view.read (Elt Ideal) (target3 m c) := by
  funext y
  have e := idx3 t
  have x := xsz3 t
  have ht := ltN t
  have h0 : (y 0).val < 1024 := x.1 ▸ (y 0).isLt
  have h1 : (y 1).val < 1024 := x.2 ▸ (y 1).isLt
  have hj : (cfg0.win 3).xinj (grid0.coords t) y = ix2 (⟨(y 0).val, h0⟩ : Fin 1024) (⟨(y 1).val, h1⟩ : Fin 1024) := by
    funext a; apply Fin.ext
    match a with
    | ⟨0, _⟩ => rfl
    | ⟨1, _⟩ => rfl
  have hi : ((cfg0.win 3).blk t).view.emb y = (ix2 (⟨t.val % 4 * 1024 + (y 0).val, by omega⟩) (⟨t.val / 4 * 1024 + (y 1).val, by omega⟩) : S4096x4096.Idx) := by
    funext a; apply Fin.ext
    match a with
    | ⟨0, _⟩ => show win0_3.index t 0 * 1024 + 1 * (y 0).val = t.val % 4 * 1024 + (y 0).val; rw [e.1]; omega
    | ⟨1, _⟩ => show win0_3.index t 1 * 1024 + 1 * (y 1).val = t.val / 4 * 1024 + (y 1).val; rw [e.2]; omega
  show (dats m 0 c).after 3 t ((cfg0.win 3).xinj (grid0.coords t) y) = _
  rw [after0_3]
  refine (congrArg (k0_pay3 (F := Ideal) (uS m c (row t)) (iblk m c 2 t)) hj).trans ?_
  refine (read_pay3 _ _ _ _).trans (Eq.trans ?_ (congrArg (target3 m c) hi).symm)
  unfold target3
  exact Finset.sum_congr rfl fun p _ => congrArg₂ (fun a b : EReal => a * b) (uS_read m c (row t) _ p) (iblk2 m c t p _)

theorem final3 (c : Dev nD) : (dats m 0 c).arrAt 3 cfg0.N = target3 m c := by
  refine (dats m 0 c).arrAt_eq_of_cover 3 _ (fun t _ => flushed_read3 m c t) fun i => ?_
  change S4096x4096.Idx at i
  have hr : (i 0).val < 4096 := (i 0).isLt
  have hc : (i 1).val < 4096 := (i 1).isLt
  refine ⟨(⟨(i 1).val / 1024 * 4 + (i 0).val / 1024, by show _ < 16; omega⟩ : Fin grid0.N), flush3 _, ?_⟩
  rw [mem_blk3]
  dsimp only
  omega

/-- Where a point's block of window 4 lies in its array. -/
theorem mem_blk4 (t : Fin grid0.N) (i : S4096x1024.Idx) :
    i ∈ ((cfg0.win 4).blk t).view.set ↔ (min t.val 3 * 1024 ≤ (i 0).val ∧ (i 0).val < min t.val 3 * 1024 + 1024) ∧ (0 * 1024 ≤ (i 1).val ∧ (i 1).val < 0 * 1024 + 1024) := by
  show i ∈ ((View.whole main_v2_1).slice (win0_4.rect t)).set ↔ _
  rw [View.set_slice_whole, Rect.mem_set_unit]
  have e := idx4 t
  have x := xsz4 t
  refine ⟨fun h => ⟨?_, ?_⟩, fun h a => ?_⟩
  · have : win0_4.index t 0 * 1024 ≤ (i 0).val ∧ (i 0).val < win0_4.index t 0 * 1024 + win0_4.xsize (grid0.coords t) 0 := h 0
    rwa [e.1, x.1] at this
  · have : win0_4.index t 1 * 1024 ≤ (i 1).val ∧ (i 1).val < win0_4.index t 1 * 1024 + win0_4.xsize (grid0.coords t) 1 := h 1
    rwa [e.2, x.2] at this
  · match a with
    | ⟨0, _⟩ =>
      show win0_4.index t 0 * 1024 ≤ (i 0).val ∧ (i 0).val < win0_4.index t 0 * 1024 + win0_4.xsize (grid0.coords t) 0
      rw [e.1, x.1]; exact h.1
    | ⟨1, _⟩ =>
      show win0_4.index t 1 * 1024 ≤ (i 1).val ∧ (i 1).val < win0_4.index t 1 * 1024 + win0_4.xsize (grid0.coords t) 1
      rw [e.2, x.2]; exact h.2

/-- What a point writes to window 4. -/
theorem flushed_read4 (c : Dev nD) (t : Fin grid0.N) :
    (dats m 0 c).flushed 4 t = ((cfg0.win 4).blk t).view.read (Elt Ideal) (target4 m c) := by
  funext y
  have e := idx4 t
  have x := xsz4 t
  have ht := ltN t
  have h0 : (y 0).val < 1024 := x.1 ▸ (y 0).isLt
  have h1 : (y 1).val < 1024 := x.2 ▸ (y 1).isLt
  have hj : (cfg0.win 4).xinj (grid0.coords t) y = ix2 (⟨(y 0).val, h0⟩ : Fin 1024) (⟨(y 1).val, h1⟩ : Fin 1024) := by
    funext a; apply Fin.ext
    match a with
    | ⟨0, _⟩ => rfl
    | ⟨1, _⟩ => rfl
  have hi : ((cfg0.win 4).blk t).view.emb y = (ix2 (⟨min t.val 3 * 1024 + (y 0).val, by omega⟩) (⟨(y 1).val, h1⟩) : S4096x1024.Idx) := by
    funext a; apply Fin.ext
    match a with
    | ⟨0, _⟩ => show win0_4.index t 0 * 1024 + 1 * (y 0).val = min t.val 3 * 1024 + (y 0).val; rw [e.1]; omega
    | ⟨1, _⟩ => show win0_4.index t 1 * 1024 + 1 * (y 1).val = (y 1).val; rw [e.2]; omega
  show (dats m 0 c).after 4 t ((cfg0.win 4).xinj (grid0.coords t) y) = _
  rw [after0_4]
  refine (congrArg (uO m c (lastRow t)) hj).trans ?_
  exact (uO_read m c (lastRow t) _ _).trans (congrArg (target4 m c) hi).symm

theorem final4 (c : Dev nD) : (dats m 0 c).arrAt 4 cfg0.N = target4 m c := by
  refine (dats m 0 c).arrAt_eq_of_cover 4 _ (fun t _ => flushed_read4 m c t) fun i => ?_
  change S4096x1024.Idx at i
  have hr : (i 0).val < 4096 := (i 0).isLt
  have hc : (i 1).val < 1024 := (i 1).isLt
  by_cases h : (i 0).val < 3072
  · refine ⟨(⟨(i 0).val / 1024, by show _ < 16; omega⟩ : Fin grid0.N), (hflush4 _).mpr (Or.inl (by show (i 0).val / 1024 < 3; omega)), ?_⟩
    rw [mem_blk4]
    dsimp only
    omega
  · refine ⟨(⟨15, by show _ < 16; omega⟩ : Fin grid0.N), (hflush4 _).mpr (Or.inr rfl), ?_⟩
    rw [mem_blk4]
    dsimp only
    omega
end

section
open Cert.PprojReferenceIdeal Cert.PprojReferenceIdeal.Gen Cert.PprojReferenceIdeal.Read

/-- The reference's normed rows at an index, -/
theorem reference4 (x0 : FVec Ideal S4096x1024 .f32) (x1 : FVec Ideal S1x1024 .f32) (t : Fin 4096) (k : Fin 1024) :
    val_main_v15 (F := Ideal) x0 x1 (ix2 t k) = normed (fun p => x0 (ix2 t p)) (fun p => x1 (ix2 0 p)) k := by
  unfold normed
  pointwise [val_main_v15, val_main_v11, val_main_v10, val_main_v9, val_main_v8, val_main_v7, val_main_v6, val_main_v5, val_main_v4, val_main_v3, val_main_v2, val_main_v1, val_main_v0, val_main_cst, val_main_cst_0, val_main_cst_1]

/-- and their product with the weights. -/
theorem reference3 (x0 : FVec Ideal S4096x1024 .f32) (x1 : FVec Ideal S1x1024 .f32) (x2 : FVec Ideal S1024x4096 .bf16) (t : Fin 4096) (k : Fin 4096) :
    val_main_v14 (F := Ideal) x0 x1 x2 (ix2 t k) = ∑ p : Fin 1024, normed (fun p => x0 (ix2 t p)) (fun p => x1 (ix2 0 p)) p * x2 (ix2 p k) := by
  refine Eq.trans ?_ (Finset.sum_congr rfl fun p _ => congrArg (· * (x2 (ix2 p k) : EReal)) (reference4 x0 x1 t p))
  pointwise [val_main_v15, val_main_v14, val_main_v13, val_main_v12]
end

open Cert.PprojKernelIdeal Cert.PprojKernelIdeal.Gen in
/-- The equation of the two programs. -/
theorem algebraic : Cert.algebraic_PprojKernelIdeal_PprojReferenceIdeal := by
  intro m g m' g' _ hag
  refine ⟨fun c => Cert.PprojReferenceIdeal.Read.val_main_v14 (F := Ideal) (arg0 m c) (arg1 m c) (arg2 m c),
    fun c => Cert.PprojReferenceIdeal.Read.val_main_v15 (F := Ideal) (arg0 m c) (arg1 m c), ?_, ?_⟩
  · refine (θ_run _ _ _).mono (fun r h c => ?_) (θ_run_and (Cert.PprojIdealFrame.run_main (F := Ideal) m g) (Cert.PprojIdealFrame.frame (F := Ideal) m g))
    refine ⟨((h.1 c).1 3).trans ((final3 m c).trans ?_), ((h.1 c).1 4).trans ((final4 m c).trans ?_), h.2.1 c⟩
    · have key : ∀ (a : Fin 4096) (b : Fin 4096), target3 m c (ix2 a b) = Cert.PprojReferenceIdeal.Read.val_main_v14 (F := Ideal) (arg0 m c) (arg1 m c) (arg2 m c) (ix2 a b) :=
        fun a b => (reference3 _ _ _ a b).symm
      funext i
      change Cert.PprojKernelIdeal.S4096x4096.Idx at i
      idx_vars i
      exact key _ _
    · have key : ∀ (a : Fin 4096) (b : Fin 1024), target4 m c (ix2 a b) = Cert.PprojReferenceIdeal.Read.val_main_v15 (F := Ideal) (arg0 m c) (arg1 m c) (ix2 a b) :=
        fun a b => (reference4 _ _ a b).symm
      funext i
      change Cert.PprojKernelIdeal.S4096x1024.Idx at i
      idx_vars i
      exact key _ _
  · refine (θ_run _ _ _).mono (fun r h c => ?_) (Cert.PprojReferenceIdeal.Value.run (F := Ideal) m' g')
    obtain ⟨e0, e1, e2⟩ := hag c
    refine ⟨(h c).1.trans ?_, (h c).2.1.trans ?_, (h c).2.2⟩
    · exact (Cert.PprojReferenceIdeal.Read.val_main_v14_eq (F := Ideal) _ _ _).trans
        (congr (congr (congrArg (Cert.PprojReferenceIdeal.Read.val_main_v14 (F := Ideal)) e0) e1) e2)
    · exact (Cert.PprojReferenceIdeal.Read.val_main_v15_eq (F := Ideal) _ _).trans
        (congr (congrArg (Cert.PprojReferenceIdeal.Read.val_main_v15 (F := Ideal)) e0) e1)

end Cert.PprojClaim

end
-- ==== Proof.SprojIdealFrame.lean ====
/- The attention layer's norm and input product: the frame of `SprojKernelIdeal`. In the first row of the grid's points the body
   norms a block of rows, keeps it in the scratch and writes it out; at every point it multiplies the kept block with a shard
   of the weights. -/
module

public import proofs.«01_k».proof.Proof.Gen.SprojKernelIdeal.Frame
public import proofs.«01_k».proof.Proof.Gen.SprojKernelIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.SprojIdealFrame

open Cert.SprojKernelIdeal Cert.SprojKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model the assertions are over. -/
abbrev 𝕄 (F : FTy → Type) [FloatOps F] := MT nD τ sig Unit (Elt F) ℕ (UR sig nD τ) ℕ

variable (m : (ℓ : Loc nD τ sig) → Buf (Elt F) ℓ) (ρ : Dev nD → PrngReg)

/-! ## The body -/

set_option maxHeartbeats 1000000 in
/-- In the first row of points: the normed rows go to the scratch and to the second result, the product to the first. -/
theorem runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1536 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S4096x1024 .bf16) (harg7 : arg7.IsWhole)
    (hc : k0_cond1 i = 1#1)
    (x2 : Vec F S1024x1024 .f32) (x3 : Vec F S1x1024 .f32) (x4 : Vec F S1x1024x1536 .bf16) (X : Vec F S4096x1024 .bf16) (E : Set ℕ) (K : PUnit → sProp (𝕄 F)) :
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ owns (c : Thread nD τ) arg7 fullShare X
            ∗ (iprop(owns (c : Thread nD τ) arg2 fullShare x2 ∗ owns (c : Thread nD τ) arg3 fullShare x3 ∗ owns (c : Thread nD τ) arg4 fullShare x4
              ∗ owns (c : Thread nD τ) arg5 fullShare (k0_pay3 (k0_pay2 x2 x3) x4) ∗ owns (c : Thread nD τ) arg6 fullShare (k0_pay1 x2 x3)
              ∗ owns (c : Thread nD τ) arg7 fullShare (VecWindow.put X (k0_off1 i) S1024x1024.size (k0_pay2 x2 x3))) -∗ K ⟨⟩))
          ⊢ wp frame (wpE (defs₀ (F := F)) Variants.none c none) E (cc0_sb_in_proj i arg2 harg2 arg3 harg3 arg4 harg4 arg5 harg5 arg6 harg6 arg7 harg7) K := by
    simp only [cc0_sb_in_proj_eq_skeleton]; unfold cc0_sb_in_proj_skel
    unfold owns
    iintro ⟨⟨%f0, %hf0, H0⟩, ⟨%f1, %hf1, H1⟩, ⟨%f2, %hf2, H2⟩, ⟨%d3, %f3, %hf3, H3⟩, ⟨%d4, %f4, %hf4, H4⟩, ⟨%f5, %hf5, H5⟩, Hk⟩
    obtain rfl := harg2.eq_unread hf0; obtain rfl := harg3.eq_unread hf1; obtain rfl := harg4.eq_unread hf2; obtain rfl := harg7.eq_unread hf5
    sl_exec (disch := first | sl_exact hc)
    sl_step
    have e2 := (View.readAt_full arg2.view (harg2.unread x2) inb_S1024x1024_S1024x1024_0_0).trans hf0
    have e3 := (View.readAt_full arg3.view (harg3.unread x3) inb_S1x1024_S1x1024_0_0).trans hf1
    have e4 := (View.readAt_full arg4.view (harg4.unread x4) inb_S1x1024x1536_S1x1024x1536_0_0_0).trans hf2
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      refine (View.read_writes_full _ _ _ _ _).trans ?_
      sl_unfold_words
      refine congrArg₂ k0_pay3 ((View.readCov_cons_toLoadRect _ _ _ _).trans ?_) e4
      exact congrArg₂ k0_pay2 e2 e3
    isplitl [H4]
    · iexists _; isplitr
      swap; · iexact H4
      ipureintro
      exact (View.read_writes_full _ _ _ _ _).trans (congrArg₂ k0_pay1 e2 e3)
    iexists _; isplitr
    swap; · iexact H5
    ipureintro
    sl_unfold_words
    refine (View.read_writes_cons_put _ _ _ _ _ rfl).trans ?_
    rw [View.writes_nil, hf5]
    exact congrArg (VecWindow.put X (k0_off1 i) S1024x1024.size) (congrArg₂ k0_pay2 e2 e3)

set_option maxHeartbeats 1000000 in
/-- At a later point: the product of the kept rows. -/
theorem runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1536 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S4096x1024 .bf16) (harg7 : arg7.IsWhole)
    (hc : ¬ k0_cond1 i = 1#1)
    (x4 : Vec F S1x1024x1536 .bf16) (X : Vec F S4096x1024 .bf16) (E : Set ℕ) (K : PUnit → sProp (𝕄 F)) :
        iprop(owns (c : Thread nD τ) arg4 fullShare x4
            ∗ (∃ d, owns (c : Thread nD τ) arg5 fullShare d) ∗ owns (c : Thread nD τ) arg7 fullShare X
            ∗ (iprop(owns (c : Thread nD τ) arg4 fullShare x4
              ∗ owns (c : Thread nD τ) arg5 fullShare (k0_pay3 (VecWindow.window X (k0_off2 i) S1024x1024.size (k0_off2_inb i)) x4)
              ∗ owns (c : Thread nD τ) arg7 fullShare X) -∗ K ⟨⟩))
          ⊢ wp frame (wpE (defs₀ (F := F)) Variants.none c none) E (cc0_sb_in_proj i arg2 harg2 arg3 harg3 arg4 harg4 arg5 harg5 arg6 harg6 arg7 harg7) K := by
    simp only [cc0_sb_in_proj_eq_skeleton]; unfold cc0_sb_in_proj_skel
    unfold owns
    iintro ⟨⟨%f2, %hf2, H2⟩, ⟨%d3, %f3, %hf3, H3⟩, ⟨%f5, %hf5, H5⟩, Hk⟩
    obtain rfl := harg4.eq_unread hf2; obtain rfl := harg7.eq_unread hf5
    sl_exec (disch := first | sl_exact hc)
    sl_step
    have e4 := (View.readAt_full arg4.view (harg4.unread x4) inb_S1x1024x1536_S1x1024x1536_0_0_0).trans hf2
    iapply Hk
    isplitl [H2]
    · iexists _; isplitr; · ipureintro; exact hf2
      iexact H2
    isplitl [H3]
    · iexists _; isplitr
      swap; · iexact H3
      ipureintro
      refine (View.read_writes_full _ _ _ _ _).trans ?_
      refine congrArg₂ k0_pay3 ?_ e4
      exact (View.readAt_unit _ _ _ rfl (k0_off2_inb i)).trans (by rw [hf5])
    iexists _; isplitr
    swap; · iexact H5
    ipureintro
    exact hf5

/-! ## The schedule -/

/-- The first row of points. -/
theorem hcond : ∀ t : Fin cfg0.N, k0_cond1 (grid0.coords t) = 1#1 ↔ t.val < 4 :=
  (by decide +kernel : ∀ t : Fin grid0.N, k0_cond1 (grid0.coords t) = 1#1 ↔ t.val < 4)

/-- The rows of the scratch a point is on. -/
theorem hoff1 : ∀ t : Fin cfg0.N, k0_off1 (grid0.coords t) = ![1024 * (t.val % 4), 0] :=
  (by decide +kernel : ∀ t : Fin grid0.N, k0_off1 (grid0.coords t) = ![1024 * (t.val % 4), 0])

theorem hoff2 : ∀ t : Fin cfg0.N, k0_off2 (grid0.coords t) = ![1024 * (t.val % 4), 0] := hoff1

/-- The second result's block is written back at the first three points and at the last. -/
theorem hflush4 : ∀ t : Fin cfg0.N, (cfg0.win 4).flush t = true ↔ (t.val < 3 ∨ t.val = 15) :=
  (by decide +kernel : ∀ t : Fin grid0.N, win0_4.flush t = true ↔ (t.val < 3 ∨ t.val = 15))

theorem hidle4 (t : Fin cfg0.N) : cfg0.idle 4 (cfg0.grid.coords t) = true ↔ ¬ t.val < 4 := by
  rw [← hcond t]
  show (!(k0_cond1 (grid0.coords t) == 1#1)) = true ↔ _
  simp

/-- The rows `j` of the scratch. -/
abbrev rowsAt (j : Fin 4) : Fin 2 → ℕ := ![1024 * j.val, 0]

theorem rowsAt_inb (j : Fin 4) : ∀ a : Fin 2, rowsAt j a + S1024x1024.size a ≤ S4096x1024.size a := by
  intro a; have := j.isLt
  fin_cases a
  · show 1024 * j.val + 1024 ≤ 4096; omega
  · show 0 + 1024 ≤ 1024; omega

/-! ## What the buffers hold -/

/-- The point of the first row that norms the rows `j`. -/
abbrev pt (j : Fin 4) : Fin cfg0.N := ⟨j.val, by have := j.isLt; have : cfg0.N = 16 := N_0; omega⟩

/-- The normed rows `j`, as kept and as written out. -/
def uS (c : Dev nD) (j : Fin 4) : Vec F S1024x1024 .bf16 := k0_pay2 (iblk m c 0 (pt j)) (iblk m c 1 (pt j))
def uO (c : Dev nD) (j : Fin 4) : Vec F S1024x1024 .bf16 := k0_pay1 (iblk m c 0 (pt j)) (iblk m c 1 (pt j))

/-- The rows a point is on. -/
abbrev row (t : Fin cfg0.N) : Fin 4 := ⟨t.val % 4, Nat.mod_lt _ (by decide)⟩

/-- The last rows normed so far. -/
abbrev lastRow (t : Fin cfg0.N) : Fin 4 := ⟨min t.val 3, by omega⟩

/-- The scratch before point `n`: the rows of the points gone by are kept. -/
def Kept (c : Dev nD) (n : ℕ) (X : Vec F S4096x1024 .bf16) : Prop :=
  ∀ j : Fin 4, j.val < n → VecWindow.window X (rowsAt j) S1024x1024.size (rowsAt_inb j) = uS m c j

theorem kept_step (c : Dev nD) (t : Fin 4) (n : ℕ) (hn : n = t.val) (X : Vec F S4096x1024 .bf16) (h : Kept m c n X) :
    Kept m c (n + 1) (VecWindow.put X (rowsAt t) S1024x1024.size (uS m c t)) := by
  subst hn
  intro j hj
  by_cases e : j = t
  · subst e; exact VecWindow.window_put_same _ _ _ _ _
  · have hne : j.val ≠ t.val := fun h => e (Fin.ext h)
    refine (VecWindow.window_put_of_disjoint _ _ _ _ _ (rowsAt_inb j) _ (0 : Fin 2) ?_).trans (h j (by omega))
    show 1024 * j.val + 1024 ≤ 1024 * t.val ∨ 1024 * t.val + 1024 ≤ 1024 * j.val
    omega

theorem window_congr (X : Vec F S4096x1024 .bf16) (off off' : Fin 2 → ℕ) (h) (h') (e : off = off') :
    VecWindow.window X off S1024x1024.size h = VecWindow.window X off' S1024x1024.size h' := by
  subst e; rfl

/-- The proof data: the inputs at their blocks, the product of the rows a point is on, the last rows normed; the scratch in
    the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (uS m c (row t)) (iblk m c 2 t)
    | ⟨4, _⟩ => uO m c (lastRow t)
  Φ t := iprop((∃ X, owns (c : Thread nD τ) (Memref.whole cc0_scratch0) fullShare X ∗ ⌜Kept m c t.val X⌝) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (uS m c (row t)) (iblk m c 2 t) := by dsimp only [dats]
theorem after0_4 (c : Dev nD) (t : Fin cfg0.N) : (dats m 0 c).after 4 t = uO m c (lastRow t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- From the fourth point on the second result's buffer holds what was stored last. -/
theorem fresh4 : ∀ t : Fin cfg0.N, ¬ t.val < 4 → cfg0.fresh 4 t.val = false :=
  (by decide +kernel : ∀ t : Fin grid0.N, ¬ t.val < 4 → cfg0.fresh 4 t.val = false)

theorem before0_4 (c : Dev nD) (t : Fin cfg0.N) (ht : ¬ t.val < 4) (d) : (dats m 0 c).before 4 t d = uO m c (lastRow t) := by
  rw [(dats m 0 c).before_out_traj 4 rfl (fun _ _ => rfl) (fun t _ hi _ => by
    have := (hidle4 t).mp hi
    rw [after0_4, after0_4]
    exact congrArg (uO m c) (Fin.ext (by show min t.val 3 = min (t.val - 1) 3; omega))) t.val t rfl d,
    if_neg (by rw [fresh4 t ht]; exact Bool.false_ne_true), after0_4]
  exact congrArg (uO m c) (Fin.ext (by show min (t.val - 1) 3 = min t.val 3; omega))

/-! ## The body obligation -/

/-- What the body is called with at point `t`, -/
def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- what it leaves in the second result's buffer, as the obligation asks it, -/
def leave4 (c : Dev nD) (t : Fin cfg0.N) : sProp (𝕄 F) :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- and what it returns. -/
def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ leave4 m c t)

theorem leave4_of (c : Dev nD) (t : Fin cfg0.N) (d₀ : Vec F S1024x1024 .bf16) :
    owns (c : Thread nD τ) (st0_4 t) fullShare (uO m c (lastRow t)) ⊢ (leave4 m c t : sProp (𝕄 F)) := by
  unfold leave4
  rcases hi : cfg0.idle 4 (cfg0.grid.coords t) with _ | _
  · dsimp only; rw [after0_4]
  · dsimp only
    rcases hf : (cfg0.win 4).flush t with _ | _
    · dsimp only
      iintro H
      iexists d₀
      rw [before0_4 m c t ((hidle4 t).mp hi)]
      iexact H
    · dsimp only; rw [after0_4]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3,
    show (dats m 0 c).Φ t.castSucc = iprop((∃ X, owns (c : Thread nD τ) (Memref.whole cc0_scratch0) fullShare X ∗ ⌜Kept m c t.val X⌝) ∗ ∃ r, prngReg c r) from rfl,
    show (dats m 0 c).Φ t.succ = iprop((∃ X, owns (c : Thread nD τ) (Memref.whole cc0_scratch0) fullShare X ∗ ⌜Kept m c (t.val + 1) X⌝) ∗ ∃ r, prngReg c r) from rfl]
  have hN : t.val < 16 := lt_of_lt_of_eq t.isLt (show cfg0.N = 16 from N_0)
  by_cases h0 : t.val < 4
  · iintro ⟨⟨⟨%X, HX, %hX⟩, Hr⟩, Ho, ⟨%d0, H0⟩, ⟨%d1, H1⟩, ⟨%d2, H2⟩, ⟨%d3, H3⟩, ⟨%d4, H4⟩⟩
    have er : row t = ⟨t.val, h0⟩ := Fin.ext (Nat.mod_eq_of_lt h0)
    have el : lastRow t = ⟨t.val, h0⟩ := Fin.ext (by show min t.val 3 = t.val; omega)
    iapply (runA c (grid0.coords t) _ _ _ _ _ _ _ _ _ _ _ _ ((hcond t).mpr h0) (iblk m c 0 t) (iblk m c 1 t) (iblk m c 2 t) X Set.univ _)
    isplitl [H0]; · iexact H0
    isplitl [H1]; · iexact H1
    isplitl [H2]; · iexact H2
    isplitl [H3]; · iexists _; iexact H3
    isplitl [H4]; · iexists _; iexact H4
    isplitl [HX]; · iexact HX
    iintro ⟨H0, H1, H2, H3, H4, HX⟩
    isplitl [HX Hr]
    · isplitl [HX]
      · iexists _; isplitl [HX]; · iexact HX
        ipureintro
        have hs := kept_step m c ⟨t.val, h0⟩ t.val rfl X hX
        have eo : k0_off1 (grid0.coords t) = rowsAt ⟨t.val, h0⟩ := (hoff1 t).trans (by rw [Nat.mod_eq_of_lt h0])
        rw [eo]
        exact hs
      · iexact Hr
    isplitl [Ho]; · iexact Ho
    isplitl [H0]; · iexact H0
    isplitl [H1]; · iexact H1
    isplitl [H2]; · iexact H2
    isplitl [H3]
    · rw [er]; iexact H3
    · iapply (leave4_of m c t d4)
      rw [el]; iexact H4
  · iintro ⟨⟨⟨%X, HX, %hX⟩, Hr⟩, Ho, ⟨%d0, H0⟩, ⟨%d1, H1⟩, ⟨%d2, H2⟩, ⟨%d3, H3⟩, ⟨%d4, H4⟩⟩
    iapply (runB c (grid0.coords t) _ _ _ _ _ _ _ _ _ _ _ _ (fun h => h0 ((hcond t).mp h)) (iblk m c 2 t) X Set.univ _)
    isplitl [H2]; · iexact H2
    isplitl [H3]; · iexists _; iexact H3
    isplitl [HX]; · iexact HX
    iintro ⟨H2, H3, HX⟩
    isplitl [HX Hr]
    · isplitl [HX]
      · iexists _; isplitl [HX]; · iexact HX
        ipureintro
        exact fun j hj => hX j (by have := j.isLt; omega)
      · iexact Hr
    isplitl [Ho]; · iexact Ho
    isplitl [H0]; · iexact H0
    isplitl [H1]; · iexact H1
    isplitl [H2]; · iexact H2
    isplitl [H3]
    · rw [show uS m c (row t) = VecWindow.window X (k0_off2 (grid0.coords t)) S1024x1024.size (k0_off2_inb (grid0.coords t)) from
        (hX (row t) (by show t.val % 4 < t.val; omega)).symm.trans (window_congr X _ _ _ _ (hoff2 t).symm)]
      iexact H3
    · iapply (leave4_of m c t d4)
      rw [before0_4 m c t h0]
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats (F := F) m 0 c).Φ 0 := by
  rw [show (dats m 0 c).Φ 0 = iprop((∃ X, owns (c : Thread nD τ) (Memref.whole cc0_scratch0) fullShare X ∗ ⌜Kept m c 0 X⌝) ∗ ∃ r, prngReg c r) from rfl]
  unfold Pipeline.ΦA
  rw [scopedRest0_eq]
  iintro ⟨⟨%f, Hf⟩, Hr⟩
  isplitl [Hf]
  · iexists f
    isplitl [Hf]
    · rw [owns_whole]; iexact Hf
    · ipureintro; exact fun j hj => absurd hj (Nat.not_lt_zero _)
  · iexact Hr

theorem hout (c : Dev nD) : (dats (F := F) m 0 c).Φ (Fin.last cfg0.N) ⊢ Pipeline.ΦA spec0 c := by
  rw [show (dats m 0 c).Φ (Fin.last cfg0.N) = iprop((∃ X, owns (c : Thread nD τ) (Memref.whole cc0_scratch0) fullShare X ∗ ⌜Kept m c cfg0.N X⌝) ∗ ∃ r, prngReg c r) from rfl]
  unfold Pipeline.ΦA
  rw [scopedRest0_eq]
  iintro ⟨⟨%X, HX, %hX⟩, Hr⟩
  isplitl [HX]
  · iexists X; rw [← owns_whole]; iexact HX
  · iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments are as they were, no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.SprojIdealFrame

end
-- ==== Proof.RmspIdealFrame.lean ====
/- The gradient of the pooling layer's norm and input product: the frame of `RmspKernelIdeal`. A block of rows is
   summed over the shards of the weights in the scratch, a shard a row of grid points; in the last row of points the norm's
   gradient is taken of the whole sum and the gain's gradient is added up. -/
module

public import proofs.«01_k».proof.Proof.Gen.RmspKernelIdeal.Frame
public import proofs.«01_k».proof.Proof.Gen.RmspKernelIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.RmspIdealFrame

open Cert.RmspKernelIdeal Cert.RmspKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model the assertions are over. -/
abbrev 𝕄 (F : FTy → Type) [FloatOps F] := MT nD τ sig Unit (Elt F) ℕ (UR sig nD τ) ℕ

variable (m : (ℓ : Loc nD τ sig) → Buf (Elt F) ℓ) (ρ : Dev nD → PrngReg)

/-! ## The body -/

section
variable (c : Dev nD) (i : grid0.Coords) (arg2 : Memref sig .tc .vmem S512x1024 .bf16) (harg2 : arg2.IsWhole) (arg3 : Memref sig .tc .vmem S1x1024x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S4096x1024 .f32) (harg9 : arg9.IsWhole)

/-- The body at a point. -/
abbrev theBody := cc0_pool_in_bwd (F := F) i arg2 harg2 arg3 harg3 arg4 harg4 arg5 harg5 arg6 harg6 arg7 harg7 arg8 harg8 arg9 harg9

/-- Rows written twice hold what was written last. -/
theorem put_twice (X Z : Vec F S4096x1024 .f32) (A B : Vec F S512x1024 .f32) (off : Fin 2 → ℕ)
    (h : Z = VecWindow.put X off S512x1024.size A) : VecWindow.put Z off S512x1024.size B = VecWindow.put X off S512x1024.size B := by
  subst h; exact VecWindow.put_put_same _ _ _ _ _

set_option maxHeartbeats 1000000 in
/-- At the first point: the rows' sum starts, and the gain's gradient. -/
theorem runA0 (h1 : k0_cond1 i = 1#1) (h2 : k0_cond2 i = 1#1) (h3 : ¬ k0_cond3 i = 1#1)
    (x2 : Vec F S512x1024 .bf16) (x3 : Vec F S1x1024x1024 .bf16) (X : Vec F S4096x1024 .f32) (E : Set ℕ) (K : PUnit → sProp (𝕄 F)) :
        iprop(owns (c : Thread nD τ) arg2 fullShare x2 ∗ owns (c : Thread nD τ) arg3 fullShare x3
            ∗ (∃ d, owns (c : Thread nD τ) arg8 fullShare d) ∗ owns (c : Thread nD τ) arg9 fullShare X
            ∗ (iprop(owns (c : Thread nD τ) arg2 fullShare x2 ∗ owns (c : Thread nD τ) arg3 fullShare x3
              ∗ owns (c : Thread nD τ) arg8 fullShare (k0_pay2 (F := F))
              ∗ owns (c : Thread nD τ) arg9 fullShare (VecWindow.put X (k0_off2 i) S512x1024.size (k0_pay3 k0_pay1 x2 x3))) -∗ K ⟨⟩))
          ⊢ wp frame (wpE (defs₀ (F := F)) Variants.none c none) E (theBody (F := F) i arg2 harg2 arg3 harg3 arg4 harg4 arg5 harg5 arg6 harg6 arg7 harg7 arg8 harg8 arg9 harg9) K := by
    simp only [theBody, cc0_pool_in_bwd_eq_skeleton]; unfold cc0_pool_in_bwd_skel
    unfold owns
    iintro ⟨⟨%f0, %hf0, H0⟩, ⟨%f1, %hf1, H1⟩, ⟨%d4, %f4, %hf4, H4⟩, ⟨%f5, %hf5, H5⟩, Hk⟩
    obtain rfl := harg2.eq_unread hf0; obtain rfl := harg3.eq_unread hf1; obtain rfl := harg9.eq_unread hf5
    sl_exec (disch := first | sl_exact h1 | sl_exact h2 | sl_exact h3)
    sl_step
    have e2 := (View.readAt_full arg2.view (harg2.unread x2) inb_S512x1024_S512x1024_0_0).trans hf0
    have e3 := (View.readAt_full arg3.view (harg3.unread x3) inb_S1x1024x1024_S1x1024x1024_0_0_0).trans hf1
    iapply Hk
    isplitl [H0]
    · iexists _; isplitr; · ipureintro; exact hf0
      iexact H0
    isplitl [H1]
    · iexists _; isplitr; · ipureintro; exact hf1
      iexact H1
    isplitl [H4]
    · iexists _; isplitr
      swap; · iexact H4
      ipureintro
      exact View.read_writes_full _ _ _ _ _
    iexists _; isplitr
    swap; · iexact H5
    ipureintro
    sl_unfold_words
    refine (View.read_writes_cons_put _ _ _ _ _ rfl).trans ?_
    refine (put_twice X _ (k0_pay1 (F := F)) _ _ ?_).trans ?_
    · refine (View.read_writes_cons_put _ _ _ _ _ rfl).trans ?_
      rw [View.writes_nil, hf5] <;> rfl
    · exact congrArg (VecWindow.put X (k0_off2 i) S512x1024.size)
        (congr (congrArg₂ k0_pay3 (View.readCov_cons_toLoadRect _ _ _ _) e2) e3)

set_option maxHeartbeats 1000000 in
/-- At a later point of the first row: the rows' sum starts. -/
theorem runA (h1 : k0_cond1 i = 1#1) (h2 : ¬ k0_cond2 i = 1#1) (h3 : ¬ k0_cond3 i = 1#1)
    (x2 : Vec F S512x1024 .bf16) (x3 : Vec F S1x1024x1024 .bf16) (X : Vec F S4096x1024 .f32) (E : Set ℕ) (K : PUnit → sProp (𝕄 F)) :
        iprop(owns (c : Thread nD τ) arg2 fullShare x2 ∗ owns (c : Thread nD τ) arg3 fullShare x3
            ∗ owns (c : Thread nD τ) arg9 fullShare X
            ∗ (iprop(owns (c : Thread nD τ) arg2 fullShare x2 ∗ owns (c : Thread nD τ) arg3 fullShare x3
              ∗ owns (c : Thread nD τ) arg9 fullShare (VecWindow.put X (k0_off2 i) S512x1024.size (k0_pay3 k0_pay1 x2 x3))) -∗ K ⟨⟩))
          ⊢ wp frame (wpE (defs₀ (F := F)) Variants.none c none) E (theBody (F := F) i arg2 harg2 arg3 harg3 arg4 harg4 arg5 harg5 arg6 harg6 arg7 harg7 arg8 harg8 arg9 harg9) K := by
    simp only [theBody, cc0_pool_in_bwd_eq_skeleton]; unfold cc0_pool_in_bwd_skel
    unfold owns
    iintro ⟨⟨%f0, %hf0, H0⟩, ⟨%f1, %hf1, H1⟩, ⟨%f5, %hf5, H5⟩, Hk⟩
    obtain rfl := harg2.eq_unread hf0; obtain rfl := harg3.eq_unread hf1; obtain rfl := harg9.eq_unread hf5
    sl_exec (disch := first | sl_exact h1 | sl_exact h2 | sl_exact h3)
    sl_step
    have e2 := (View.readAt_full arg2.view (harg2.unread x2) inb_S512x1024_S512x1024_0_0).trans hf0
    have e3 := (View.readAt_full arg3.view (harg3.unread x3) inb_S1x1024x1024_S1x1024x1024_0_0_0).trans hf1
    iapply Hk
    isplitl [H0]
    · iexists _; isplitr; · ipureintro; exact hf0
      iexact H0
    isplitl [H1]
    · iexists _; isplitr; · ipureintro; exact hf1
      iexact H1
    iexists _; isplitr
    swap; · iexact H5
    ipureintro
    sl_unfold_words
    refine (View.read_writes_cons_put _ _ _ _ _ rfl).trans ?_
    refine (put_twice X _ (k0_pay1 (F := F)) _ _ ?_).trans ?_
    · refine (View.read_writes_cons_put _ _ _ _ _ rfl).trans ?_
      rw [View.writes_nil, hf5] <;> rfl
    · exact congrArg (VecWindow.put X (k0_off2 i) S512x1024.size)
        (congr (congrArg₂ k0_pay3 (View.readCov_cons_toLoadRect _ _ _ _) e2) e3)

set_option maxHeartbeats 1000000 in
/-- At a point of a middle row: the rows' sum goes on. -/
theorem runB (h1 : ¬ k0_cond1 i = 1#1) (h2 : ¬ k0_cond2 i = 1#1) (h3 : ¬ k0_cond3 i = 1#1)
    (x2 : Vec F S512x1024 .bf16) (x3 : Vec F S1x1024x1024 .bf16) (X : Vec F S4096x1024 .f32) (E : Set ℕ) (K : PUnit → sProp (𝕄 F)) :
        iprop(owns (c : Thread nD τ) arg2 fullShare x2 ∗ owns (c : Thread nD τ) arg3 fullShare x3
            ∗ owns (c : Thread nD τ) arg9 fullShare X
            ∗ (iprop(owns (c : Thread nD τ) arg2 fullShare x2 ∗ owns (c : Thread nD τ) arg3 fullShare x3
              ∗ owns (c : Thread nD τ) arg9 fullShare (VecWindow.put X (k0_off2 i) S512x1024.size (k0_pay3 (VecWindow.window X (k0_off2 i) S512x1024.size (k0_off2_inb i)) x2 x3))) -∗ K ⟨⟩))
          ⊢ wp frame (wpE (defs₀ (F := F)) Variants.none c none) E (theBody (F := F) i arg2 harg2 arg3 harg3 arg4 harg4 arg5 harg5 arg6 harg6 arg7 harg7 arg8 harg8 arg9 harg9) K := by
    simp only [theBody, cc0_pool_in_bwd_eq_skeleton]; unfold cc0_pool_in_bwd_skel
    unfold owns
    iintro ⟨⟨%f0, %hf0, H0⟩, ⟨%f1, %hf1, H1⟩, ⟨%f5, %hf5, H5⟩, Hk⟩
    obtain rfl := harg2.eq_unread hf0; obtain rfl := harg3.eq_unread hf1; obtain rfl := harg9.eq_unread hf5
    sl_exec (disch := first | sl_exact h1 | sl_exact h2 | sl_exact h3)
    sl_step
    have e2 := (View.readAt_full arg2.view (harg2.unread x2) inb_S512x1024_S512x1024_0_0).trans hf0
    have e3 := (View.readAt_full arg3.view (harg3.unread x3) inb_S1x1024x1024_S1x1024x1024_0_0_0).trans hf1
    iapply Hk
    isplitl [H0]
    · iexists _; isplitr; · ipureintro; exact hf0
      iexact H0
    isplitl [H1]
    · iexists _; isplitr; · ipureintro; exact hf1
      iexact H1
    iexists _; isplitr
    swap; · iexact H5
    ipureintro
    sl_unfold_words
    refine (View.read_writes_cons_put _ _ _ _ _ rfl).trans ?_
    rw [View.writes_nil, hf5]
    exact congrArg (VecWindow.put X (k0_off2 i) S512x1024.size)
      (congr (congrArg₂ k0_pay3 ((View.readAt_unit _ _ _ rfl (k0_off2_inb i)).trans (by rw [hf5])) e2) e3)

set_option maxHeartbeats 2000000 in
/-- At a point of the last row: the whole sum, its norm's gradient, and the gain's. -/
theorem runC (h1 : ¬ k0_cond1 i = 1#1) (h2 : ¬ k0_cond2 i = 1#1) (h3 : k0_cond3 i = 1#1)
    (x2 : Vec F S512x1024 .bf16) (x3 : Vec F S1x1024x1024 .bf16) (x4 : Vec F S512x1024 .f32) (x5 : Vec F S1x1024 .f32) (x6 : Vec F S512x1024 .f32)
    (D : Vec F S1x1024 .f32) (X : Vec F S4096x1024 .f32) (W : Vec F S512x1024 .f32)
    (hW : W = k0_pay3 (VecWindow.window X (k0_off2 i) S512x1024.size (k0_off2_inb i)) x2 x3) (E : Set ℕ) (K : PUnit → sProp (𝕄 F)) :
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ (∃ d, owns (c : Thread nD τ) arg7 fullShare d) ∗ owns (c : Thread nD τ) arg8 fullShare D
            ∗ owns (c : Thread nD τ) arg9 fullShare X
            ∗ (iprop(owns (c : Thread nD τ) arg2 fullShare x2 ∗ owns (c : Thread nD τ) arg3 fullShare x3 ∗ owns (c : Thread nD τ) arg4 fullShare x4
              ∗ owns (c : Thread nD τ) arg5 fullShare x5 ∗ owns (c : Thread nD τ) arg6 fullShare x6
              ∗ owns (c : Thread nD τ) arg7 fullShare (k0_pay7 W x4 x5 x6) ∗ owns (c : Thread nD τ) arg8 fullShare (k0_pay6 W x4 D)
              ∗ owns (c : Thread nD τ) arg9 fullShare (VecWindow.put X (k0_off2 i) S512x1024.size W)) -∗ K ⟨⟩))
          ⊢ wp frame (wpE (defs₀ (F := F)) Variants.none c none) E (theBody (F := F) i arg2 harg2 arg3 harg3 arg4 harg4 arg5 harg5 arg6 harg6 arg7 harg7 arg8 harg8 arg9 harg9) K := by
    simp only [theBody, cc0_pool_in_bwd_eq_skeleton]; unfold cc0_pool_in_bwd_skel

    unfold owns
    iintro ⟨⟨%f0, %hf0, H0⟩, ⟨%f1, %hf1, H1⟩, ⟨%f2, %hf2, H2⟩, ⟨%f3, %hf3, H3⟩, ⟨%f4, %hf4, H4⟩, ⟨%d7, %f7, %hf7, H7⟩, ⟨%f8, %hf8, H8⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg8.eq_unread hf8; obtain rfl := harg9.eq_unread hf5
    sl_exec (disch := first | sl_exact h1 | sl_exact h2 | sl_exact h3)
    sl_step
    have e2 := (View.readAt_full arg2.view (harg2.unread x2) inb_S512x1024_S512x1024_0_0).trans hf0
    have e3 := (View.readAt_full arg3.view (harg3.unread x3) inb_S1x1024x1024_S1x1024x1024_0_0_0).trans hf1
    have e4 := (View.readAt_full arg4.view (harg4.unread x4) inb_S512x1024_S512x1024_0_0).trans hf2
    have e5 := (View.readAt_full arg5.view (harg5.unread x5) inb_S1x1024_S1x1024_0_0).trans hf3
    have e6 := (View.readAt_full arg6.view (harg6.unread x6) inb_S512x1024_S512x1024_0_0).trans hf4
    have e8 := (View.readAt_full arg8.view (harg8.unread D) inb_S1x1024_S1x1024_0_0).trans hf8
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H7]
    · iexists _; isplitr
      swap; · iexact H7
      ipureintro
      refine (View.read_writes_full _ _ _ _ _).trans ?_
      sl_unfold_words
      exact congr (congr (congr (congrArg k0_pay7 ((View.readCov_cons_toLoadRect _ _ _ _).trans ((congr (congrArg₂ k0_pay3 ((View.readAt_unit _ _ _ rfl (k0_off2_inb i)).trans (by rw [hf5]; rfl)) e2) e3).trans hW.symm))) e4) e5) e6
    isplitl [H8]
    · iexists _; isplitr
      swap; · iexact H8
      ipureintro
      refine (View.read_writes_full _ _ _ _ _).trans ?_
      sl_unfold_words
      exact congr (congr (congrArg k0_pay6 ((View.readCov_cons_toLoadRect _ _ _ _).trans ((congr (congrArg₂ k0_pay3 ((View.readAt_unit _ _ _ rfl (k0_off2_inb i)).trans (by rw [hf5]; rfl)) e2) e3).trans hW.symm))) e4) e8

    iexists _; isplitr
    swap; · iexact H5
    ipureintro
    sl_unfold_words
    refine (View.read_writes_cons_put _ _ _ _ _ rfl).trans ?_
    rw [View.writes_nil, hf5]
    exact congrArg (VecWindow.put X (k0_off2 i) S512x1024.size)
      ((congr (congrArg₂ k0_pay3 ((View.readAt_unit _ _ _ rfl (k0_off2_inb i)).trans (by rw [hf5]; rfl)) e2) e3).trans hW.symm)
end

/-! ## The schedule -/

theorem hc1 : ∀ t : Fin cfg0.N, k0_cond1 (grid0.coords t) = 1#1 ↔ t.val < 8 :=
  (by decide +kernel : ∀ t : Fin grid0.N, k0_cond1 (grid0.coords t) = 1#1 ↔ t.val < 8)
theorem hc2 : ∀ t : Fin cfg0.N, k0_cond2 (grid0.coords t) = 1#1 ↔ t.val = 0 :=
  (by decide +kernel : ∀ t : Fin grid0.N, k0_cond2 (grid0.coords t) = 1#1 ↔ t.val = 0)
theorem hc3 : ∀ t : Fin cfg0.N, k0_cond3 (grid0.coords t) = 1#1 ↔ 24 ≤ t.val :=
  (by decide +kernel : ∀ t : Fin grid0.N, k0_cond3 (grid0.coords t) = 1#1 ↔ 24 ≤ t.val)

/-- The rows of the scratch a point is on. -/
theorem hoff2 : ∀ t : Fin cfg0.N, k0_off2 (grid0.coords t) = ![512 * (t.val % 8), 0] :=
  (by decide +kernel : ∀ t : Fin grid0.N, k0_off2 (grid0.coords t) = ![512 * (t.val % 8), 0])

/-- The rows' results are written back in the last row of points only, the gain's at the last point only. -/
theorem noflush5 : ∀ t : Fin cfg0.N, t.val < 24 → (cfg0.win 5).flush t = false :=
  (by decide +kernel : ∀ t : Fin grid0.N, t.val < 24 → win0_5.flush t = false)
theorem flush5 : ∀ t : Fin cfg0.N, 24 ≤ t.val → (cfg0.win 5).flush t = true :=
  (by decide +kernel : ∀ t : Fin grid0.N, 24 ≤ t.val → win0_5.flush t = true)
theorem flush6 : ∀ t : Fin cfg0.N, (cfg0.win 6).flush t = true ↔ t.val = 31 :=
  (by decide +kernel : ∀ t : Fin grid0.N, win0_6.flush t = true ↔ t.val = 31)

theorem idle5 (t : Fin cfg0.N) : cfg0.idle 5 (cfg0.grid.coords t) = true ↔ t.val < 24 := by
  rw [show t.val < 24 ↔ ¬ 24 ≤ t.val from by omega, ← hc3 t]
  show (!(k0_cond3 (grid0.coords t) == 1#1)) = true ↔ _
  simp
theorem idle6 : ∀ t : Fin cfg0.N, cfg0.idle 6 (cfg0.grid.coords t) = true ↔ (t.val ≠ 0 ∧ t.val < 24) :=
  (by decide +kernel : ∀ t : Fin grid0.N, idle0 6 (grid0.coords t) = true ↔ (t.val ≠ 0 ∧ t.val < 24))

/-- The rows `j` of the scratch. -/
abbrev rowsAt (j : Fin 8) : Fin 2 → ℕ := ![512 * j.val, 0]

theorem rowsAt_inb (j : Fin 8) : ∀ a : Fin 2, rowsAt j a + S512x1024.size a ≤ S4096x1024.size a := by
  intro a; have := j.isLt
  fin_cases a
  · show 512 * j.val + 512 ≤ 4096; omega
  · show 0 + 1024 ≤ 1024; omega

/-! ## What the buffers hold -/

/-- The point on shard `k` and rows `j`. -/
abbrev pt (k : ℕ) (j : Fin 8) : Fin cfg0.N := ⟨(8 * k + j.val) % 32, Nat.mod_lt _ (by decide)⟩

/-- The rows `j` summed over the shards up to `k`. -/
def acc (c : Dev nD) (j : Fin 8) : ℕ → Vec F S512x1024 .f32
  | 0 => k0_pay3 k0_pay1 (iblk m c 0 (pt 0 j)) (iblk m c 1 (pt 0 j))
  | k + 1 => k0_pay3 (acc c j k) (iblk m c 0 (pt (k + 1) j)) (iblk m c 1 (pt (k + 1) j))

/-- The gain's gradient over the first `n` blocks of rows. -/
def dgAt (c : Dev nD) : ℕ → Vec F S1x1024 .f32
  | 0 => k0_pay2
  | n + 1 => k0_pay6 (acc m c ⟨n % 8, Nat.mod_lt _ (by decide)⟩ 3) (iblk m c 2 (pt 3 ⟨n % 8, Nat.mod_lt _ (by decide)⟩)) (dgAt c n)

/-- The rows a point is on. -/
abbrev row (t : Fin cfg0.N) : Fin 8 := ⟨t.val % 8, Nat.mod_lt _ (by decide)⟩

/-- The scratch before point `n`: the rows hold their sums over the shards gone by. -/
def Kept (c : Dev nD) (n : ℕ) (X : Vec F S4096x1024 .f32) : Prop :=
  ∀ (j : Fin 8) (k : ℕ), (n + 7 - j.val) / 8 = k + 1 → VecWindow.window X (rowsAt j) S512x1024.size (rowsAt_inb j) = acc m c j k

theorem kept_step (c : Dev nD) (t : Fin cfg0.N) (X : Vec F S4096x1024 .f32) (h : Kept m c t.val X) (W : Vec F S512x1024 .f32)
    (hW : W = acc m c (row t) (t.val / 8)) (off : Fin 2 → ℕ) (ho : off = ![512 * (t.val % 8), 0]) :
    Kept m c (t.val + 1) (VecWindow.put X off S512x1024.size W) := by
  subst hW ho
  intro j k hk
  by_cases e : j = row t
  · subst e
    have hk' : (t.val + 1 + 7 - t.val % 8) / 8 = k + 1 := hk
    obtain rfl : k = t.val / 8 := by omega
    exact VecWindow.window_put_same _ _ _ _ _
  · have hne : j.val ≠ t.val % 8 := fun h => e (Fin.ext h)
    have hj := j.isLt
    refine (VecWindow.window_put_of_disjoint _ _ _ _ _ (rowsAt_inb j) _ (0 : Fin 2) ?_).trans (h j k (by omega))
    show 512 * j.val + 512 ≤ 512 * (t.val % 8) ∨ 512 * (t.val % 8) + 512 ≤ 512 * j.val
    omega

theorem window_congr (X : Vec F S4096x1024 .f32) (off off' : Fin 2 → ℕ) (h) (h') (e : off = off') :
    VecWindow.window X off S512x1024.size h = VecWindow.window X off' S512x1024.size h' := by
  subst e; rfl

theorem ltN (t : Fin cfg0.N) : t.val < 32 := lt_of_lt_of_eq t.isLt (show cfg0.N = 32 from N_0)

theorem pt_self (t : Fin cfg0.N) : pt (t.val / 8) (row t) = t := Fin.ext (by
  have := ltN t
  show (8 * (t.val / 8) + t.val % 8) % 32 = t.val
  omega)

/-- A point's sum where it starts, -/
theorem acc_start (c : Dev nD) (t : Fin cfg0.N) (ht : t.val < 8) :
    k0_pay3 k0_pay1 (iblk m c 0 t) (iblk m c 1 t) = acc m c (row t) (t.val / 8) := by
  have e := pt_self t
  rw [show t.val / 8 = 0 by omega] at e ⊢
  show _ = k0_pay3 k0_pay1 (iblk m c 0 (pt 0 (row t))) (iblk m c 1 (pt 0 (row t)))
  rw [e]

/-- and where it goes on. -/
theorem acc_next (c : Dev nD) (t : Fin cfg0.N) (ht : ¬ t.val < 8) (X : Vec F S4096x1024 .f32) (hX : Kept m c t.val X) :
    k0_pay3 (VecWindow.window X (k0_off2 (grid0.coords t)) S512x1024.size (k0_off2_inb (grid0.coords t))) (iblk m c 0 t) (iblk m c 1 t)
      = acc m c (row t) (t.val / 8) := by
  have e := pt_self t
  obtain ⟨k, hk⟩ : ∃ k, t.val / 8 = k + 1 := ⟨t.val / 8 - 1, by omega⟩
  rw [hk] at e ⊢
  show _ = k0_pay3 (acc m c (row t) k) (iblk m c 0 (pt (k + 1) (row t))) (iblk m c 1 (pt (k + 1) (row t)))
  rw [e, ← hX (row t) k (by show (t.val + 7 - t.val % 8) / 8 = k + 1; omega)]
  exact congrArg (fun z => k0_pay3 z (iblk m c 0 t) (iblk m c 1 t)) (window_congr X _ _ _ _ (hoff2 t))

/-- The proof data: the inputs at their blocks, the gradient of the rows a point is on, the gain's gradient so far; the
    scratch in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay7 (acc m c (row t) 3) (iblk m c 2 t) (iblk m c 3 t) (iblk m c 4 t)
    | ⟨6, _⟩ => dgAt m c (t.val - 23)
  Φ t := iprop((∃ X, owns (c : Thread nD τ) (Memref.whole cc0_scratch0) fullShare X ∗ ⌜Kept m c t.val X⌝) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay7 (acc m c (row t) 3) (iblk m c 2 t) (iblk m c 3 t) (iblk m c 4 t) := by dsimp only [dats]
theorem after0_6 (c : Dev nD) (t : Fin cfg0.N) : (dats m 0 c).after 6 t = dgAt m c (t.val - 23) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The gain's buffer holds its gradient so far. -/
theorem fresh6 : ∀ t : Fin cfg0.N, ¬ t.val = 0 → cfg0.fresh 6 t.val = false :=
  (by decide +kernel : ∀ t : Fin grid0.N, ¬ t.val = 0 → cfg0.fresh 6 t.val = false)

theorem before0_6 (c : Dev nD) (t : Fin cfg0.N) (ht : ¬ t.val = 0) (d) : (dats m 0 c).before 6 t d = dgAt m c (t.val - 1 - 23) := by
  rw [(dats m 0 c).before_out_traj 6 rfl (fun _ _ => rfl) (fun t _ hi _ => by
    have := (idle6 t).mp hi
    rw [after0_6, after0_6]
    exact congrArg (dgAt m c) (by show t.val - 23 = t.val - 1 - 23; omega)) t.val t rfl d,
    if_neg (by rw [fresh6 t ht]; exact Bool.false_ne_true), after0_6]

/-! ## The body obligation -/

/-- What the body is called with at point `t`, -/
def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- what it leaves in the results' buffers, as the obligation asks it, -/
def leave5 (c : Dev nD) (t : Fin cfg0.N) : sProp (𝕄 F) :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)
def leave6 (c : Dev nD) (t : Fin cfg0.N) : sProp (𝕄 F) :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

/-- and what it returns. -/
def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leave5 m c t ∗ leave6 m c t)

theorem leave5_idle (c : Dev nD) (t : Fin cfg0.N) (ht : t.val < 24) :
    iprop(∃ d, owns (c : Thread nD τ) (st0_5 t) fullShare ((dats m 0 c).before 5 t d)) ⊢ (leave5 m c t : sProp (𝕄 F)) := by
  unfold leave5
  rw [(idle5 t).mpr ht, noflush5 t ht]
theorem leave5_last (c : Dev nD) (t : Fin cfg0.N) (ht : ¬ t.val < 24) :
    owns (c : Thread nD τ) (st0_5 t) fullShare ((dats m 0 c).after 5 t) ⊢ (leave5 m c t : sProp (𝕄 F)) := by
  unfold leave5
  rw [Bool.eq_false_iff.mpr (fun h => ht ((idle5 t).mp h))]
theorem leave6_of (c : Dev nD) (t : Fin cfg0.N) (d₀ : Vec F S1x1024 .f32) :
    owns (c : Thread nD τ) (st0_6 t) fullShare (dgAt m c (t.val - 23)) ⊢ (leave6 m c t : sProp (𝕄 F)) := by
  unfold leave6
  rcases hi : cfg0.idle 6 (cfg0.grid.coords t) with _ | _
  · dsimp only; rw [after0_6]
  · dsimp only
    rcases hf : (cfg0.win 6).flush t with _ | _
    · dsimp only
      iintro H
      iexists d₀
      have hh := (idle6 t).mp hi
      rw [before0_6 m c t hh.1, show t.val - 1 - 23 = t.val - 23 by omega]
      iexact H
    · dsimp only; rw [after0_6]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4,
    show (dats m 0 c).Φ t.castSucc = iprop((∃ X, owns (c : Thread nD τ) (Memref.whole cc0_scratch0) fullShare X ∗ ⌜Kept m c t.val X⌝) ∗ ∃ r, prngReg c r) from rfl,
    show (dats m 0 c).Φ t.succ = iprop((∃ X, owns (c : Thread nD τ) (Memref.whole cc0_scratch0) fullShare X ∗ ⌜Kept m c (t.val + 1) X⌝) ∗ ∃ r, prngReg c r) from rfl]
  have hN := ltN t
  iintro ⟨⟨⟨%X, HX, %hX⟩, Hr⟩, Ho, ⟨%d0, H0⟩, ⟨%d1, H1⟩, ⟨%d2, H2⟩, ⟨%d3, H3⟩, ⟨%d4, H4⟩, H5, ⟨%d6, H6⟩⟩
  by_cases h0 : t.val = 0
  · have hs := kept_step m c t X hX _ (acc_start m c t (by omega)) _ (hoff2 t)
    iapply (runA0 c (grid0.coords t) _ _ _ _ _ _ _ _ _ _ _ _ _ _ _ _ ((hc1 t).mpr (by omega)) ((hc2 t).mpr h0) (fun h => absurd ((hc3 t).mp h) (by omega)) (iblk m c 0 t) (iblk m c 1 t) X Set.univ _)
    isplitl [H0]; · iexact H0
    isplitl [H1]; · iexact H1
    isplitl [H6]; · iexists _; iexact H6
    isplitl [HX]; · iexact HX
    iintro ⟨H0, H1, H6, HX⟩
    isplitl [HX Hr]
    · isplitl [HX]
      · iexists _; isplitl [HX]; · iexact HX
        ipureintro
        exact hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (leave5_idle m c t (by omega)); iexact H5

    iapply (leave6_of m c t d6)
    rw [show t.val - 23 = 0 by omega]; iexact H6
  by_cases h1 : t.val < 8
  · have hs := kept_step m c t X hX _ (acc_start m c t h1) _ (hoff2 t)
    iapply (runA c (grid0.coords t) _ _ _ _ _ _ _ _ _ _ _ _ _ _ _ _ ((hc1 t).mpr h1) (fun h => h0 ((hc2 t).mp h)) (fun h => absurd ((hc3 t).mp h) (by omega)) (iblk m c 0 t) (iblk m c 1 t) X Set.univ _)
    isplitl [H0]; · iexact H0
    isplitl [H1]; · iexact H1
    isplitl [HX]; · iexact HX
    iintro ⟨H0, H1, HX⟩
    isplitl [HX Hr]
    · isplitl [HX]
      · iexists _; isplitl [HX]; · iexact HX
        ipureintro
        exact hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (leave5_idle m c t (by omega)); iexact H5

    iapply (leave6_of m c t d6)
    rw [before0_6 m c t h0, show t.val - 1 - 23 = t.val - 23 by omega]; iexact H6
  have hs := kept_step m c t X hX _ (acc_next m c t h1 X hX) _ (hoff2 t)
  by_cases h2 : t.val < 24
  · iapply (runB c (grid0.coords t) _ _ _ _ _ _ _ _ _ _ _ _ _ _ _ _ (fun h => h1 ((hc1 t).mp h)) (fun h => h0 ((hc2 t).mp h)) (fun h => absurd ((hc3 t).mp h) (by omega)) (iblk m c 0 t) (iblk m c 1 t) X Set.univ _)
    isplitl [H0]; · iexact H0
    isplitl [H1]; · iexact H1
    isplitl [HX]; · iexact HX
    iintro ⟨H0, H1, HX⟩
    isplitl [HX Hr]
    · isplitl [HX]
      · iexists _; isplitl [HX]; · iexact HX
        ipureintro
        exact hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (leave5_idle m c t h2); iexact H5

    iapply (leave6_of m c t d6)
    rw [before0_6 m c t h0, show t.val - 1 - 23 = t.val - 23 by omega]; iexact H6
  · have hW : acc m c (row t) 3 = k0_pay3 (VecWindow.window X (k0_off2 (grid0.coords t)) S512x1024.size (k0_off2_inb (grid0.coords t))) (iblk m c 0 t) (iblk m c 1 t) :=
      (acc_next m c t h1 X hX).symm ▸ congrArg (acc m c (row t)) (by omega)
    rw [← hW] at hs
    rw [before0_6 m c t h0]
    iapply (runC c (grid0.coords t) _ _ _ _ _ _ _ _ _ _ _ _ _ _ _ _ (fun h => h1 ((hc1 t).mp h)) (fun h => h0 ((hc2 t).mp h)) ((hc3 t).mpr (by omega)) (iblk m c 0 t) (iblk m c 1 t) (iblk m c 2 t) (iblk m c 3 t) (iblk m c 4 t) (dgAt m c (t.val - 1 - 23)) X (acc m c (row t) 3) hW Set.univ _)
    isplitl [H0]; · iexact H0
    isplitl [H1]; · iexact H1
    isplitl [H2]; · iexact H2
    isplitl [H3]; · iexact H3
    isplitl [H4]; · iexact H4
    isplitl [H5]; · icases H5 with ⟨%d5, H5⟩; iexists _; iexact H5
    isplitl [H6]; · iexact H6

    isplitl [HX]; · iexact HX
    iintro ⟨H0, H1, H2, H3, H4, H5, H6, HX⟩
    isplitl [HX Hr]
    · isplitl [HX]
      · iexists _; isplitl [HX]; · iexact HX
        ipureintro
        exact hs
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iapply (leave5_last m c t h2); rw [after0_5]; iexact H5

    iapply (leave6_of m c t d6)
    have e : dgAt m c (t.val - 23) = k0_pay6 (acc m c (row t) 3) (iblk m c 2 t) (dgAt m c (t.val - 1 - 23)) := by
      have er : (⟨(t.val - 1 - 23) % 8, Nat.mod_lt _ (by decide)⟩ : Fin 8) = row t := Fin.ext (by show (t.val - 1 - 23) % 8 = t.val % 8; omega)
      have ep := pt_self t
      rw [show t.val / 8 = 3 by omega] at ep
      rw [show t.val - 23 = t.val - 1 - 23 + 1 by omega]
      show k0_pay6 (acc m c ⟨(t.val - 1 - 23) % 8, _⟩ 3) (iblk m c 2 (pt 3 ⟨(t.val - 1 - 23) % 8, _⟩)) (dgAt m c (t.val - 1 - 23)) = _
      rw [er, ep]
    rw [e]; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats (F := F) m 0 c).Φ 0 := by
  rw [show (dats m 0 c).Φ 0 = iprop((∃ X, owns (c : Thread nD τ) (Memref.whole cc0_scratch0) fullShare X ∗ ⌜Kept m c 0 X⌝) ∗ ∃ r, prngReg c r) from rfl]
  unfold Pipeline.ΦA
  rw [scopedRest0_eq]
  iintro ⟨⟨%f, Hf⟩, Hr⟩
  isplitl [Hf]
  · iexists f
    isplitl [Hf]
    · rw [owns_whole]; iexact Hf
    · ipureintro; exact fun j k hk => absurd hk (by omega)
  · iexact Hr

theorem hout (c : Dev nD) : (dats (F := F) m 0 c).Φ (Fin.last cfg0.N) ⊢ Pipeline.ΦA spec0 c := by
  rw [show (dats m 0 c).Φ (Fin.last cfg0.N) = iprop((∃ X, owns (c : Thread nD τ) (Memref.whole cc0_scratch0) fullShare X ∗ ⌜Kept m c cfg0.N X⌝) ∗ ∃ r, prngReg c r) from rfl]
  unfold Pipeline.ΦA
  rw [scopedRest0_eq]
  iintro ⟨⟨%X, HX, %hX⟩, Hr⟩
  isplitl [HX]
  · iexists X; rw [← owns_whole]; iexact HX
  · iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments are as they were, no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.RmspIdealFrame

end
-- ==== Proof.SameFrames.lean ====
/- The frames of four kernels from the frames of their idealizations. No rule is applied to them, so the two programs of a
   pair are the same text, and the idealization's frame holds whatever the floats are. -/
module

public import proofs.«01_k».proof.Defs
public import proofs.«01_k».proof.Proof.Gen.SprojKernel
public import proofs.«01_k».proof.Proof.SprojIdealFrame
public import proofs.«01_k».proof.Proof.Gen.PprojKernel
public import proofs.«01_k».proof.Proof.PprojIdealFrame
public import proofs.«01_k».proof.Proof.Gen.RmsKernel
public import proofs.«01_k».proof.Proof.RmsIdealFrame
public import proofs.«01_k».proof.Proof.Gen.RmspKernel
public import proofs.«01_k».proof.Proof.RmspIdealFrame

@[expose] public section

noncomputable section

namespace Cert.SameFrames

open Idealize.ShloMosaic

set_option backward.isDefEq.respectTransparency false
set_option backward.isDefEq.respectTransparency.types false

variable {F : FTy → Type} [FloatOps F]

/-- The attention layer's norm and input product: the tables of bodies are equal, -/
theorem sproj_body : Cert.SprojKernel.defs₀ (F := F) = Cert.SprojKernelIdeal.defs₀ (F := F) := by
  refine congrArg Defs.onTc (funext fun l => funext fun x => ?_)
  match l with
  | 0 => rfl

theorem sproj_table : Cert.SprojKernel.defs (F := F) = Cert.SprojKernelIdeal.defs (F := F) := congrArg (Pipeline.defs Cert.SprojKernel.pcfgs) sproj_body

/-- so the frame is the same. -/
theorem sproj : Cert.quiescent_SprojKernel (hSprojKernel := Cert.SprojKernel.Gen.facts) := fun m ρ _ => by
  rw [sproj_table]
  exact Cert.SprojIdealFrame.frame m ρ

/-- The pooling layer's norm and input product: the tables of bodies are equal, -/
theorem pproj_body : Cert.PprojKernel.defs₀ (F := F) = Cert.PprojKernelIdeal.defs₀ (F := F) := by
  refine congrArg Defs.onTc (funext fun l => funext fun x => ?_)
  match l with
  | 0 => rfl

theorem pproj_table : Cert.PprojKernel.defs (F := F) = Cert.PprojKernelIdeal.defs (F := F) := congrArg (Pipeline.defs Cert.PprojKernel.pcfgs) pproj_body

/-- so the frame is the same. -/
theorem pproj : Cert.quiescent_PprojKernel (hPprojKernel := Cert.PprojKernel.Gen.facts) := fun m ρ _ => by
  rw [pproj_table]
  exact Cert.PprojIdealFrame.frame m ρ

/-- The attention layer's norm and input product, gradient: the tables of bodies are equal, -/
theorem rms_body : Cert.RmsKernel.defs₀ (F := F) = Cert.RmsKernelIdeal.defs₀ (F := F) := by
  refine congrArg Defs.onTc (funext fun l => funext fun x => ?_)
  match l with
  | 0 => rfl

theorem rms_table : Cert.RmsKernel.defs (F := F) = Cert.RmsKernelIdeal.defs (F := F) := congrArg (Pipeline.defs Cert.RmsKernel.pcfgs) rms_body

/-- so the frame is the same. -/
theorem rms : Cert.quiescent_RmsKernel (hRmsKernel := Cert.RmsKernel.Gen.facts) := fun m ρ _ => by
  rw [rms_table]
  exact Cert.RmsIdealFrame.frame m ρ

/-- The pooling layer's norm and input product, gradient: the tables of bodies are equal, -/
theorem rmsp_body : Cert.RmspKernel.defs₀ (F := F) = Cert.RmspKernelIdeal.defs₀ (F := F) := by
  refine congrArg Defs.onTc (funext fun l => funext fun x => ?_)
  match l with
  | 0 => rfl

theorem rmsp_table : Cert.RmspKernel.defs (F := F) = Cert.RmspKernelIdeal.defs (F := F) := congrArg (Pipeline.defs Cert.RmspKernel.pcfgs) rmsp_body

/-- so the frame is the same. -/
theorem rmsp : Cert.quiescent_RmspKernel (hRmspKernel := Cert.RmspKernel.Gen.facts) := fun m ρ _ => by
  rw [rmsp_table]
  exact Cert.RmspIdealFrame.frame m ρ

end Cert.SameFrames

end
-- ==== Proof.SprojClaim.lean ====
/- The attention layer's norm and input product: the kernel and the reference end at the same two arrays. -/
module

public import proofs.«01_k».proof.Defs
public import proofs.«01_k».proof.Proof.SprojIdealFrame
public import proofs.«01_k».proof.Proof.Gen.SprojReferenceIdeal.Run
public import proofs.«01_k».proof.Proof.Gen.SprojReferenceIdeal.Read
public import Idealize.ShloMosaic.Lib.Pointwise

@[expose] public section

noncomputable section

namespace Cert.SprojClaim

open Idealize.ShloMosaic Idealize.SL.Sem Idealize.ShloMosaic.StableHlo

set_option maxRecDepth 16384

section
open Cert.SprojKernelIdeal Cert.SprojKernelIdeal.Gen Cert.SprojIdealFrame

variable (m : (ℓ : Loc nD τ sig) → Buf (Elt Ideal) ℓ)

/-- The launch contents of the three arguments: the rows, the norm's gain, the weights. -/
abbrev arg0 (c : Dev nD) : FVec Ideal S4096x1024 .f32 := m (c.tc.loc main_arg0)
abbrev arg1 (c : Dev nD) : FVec Ideal S1x1024 .f32 := m (c.tc.loc main_arg1)
abbrev arg2 (c : Dev nD) : FVec Ideal S1024x6144 .bf16 := m (c.tc.loc main_arg2)

theorem ltN (t : Fin grid0.N) : t.val < 16 := t.isLt

theorem idx0 : ∀ j : Fin 4, win0_0.index (pt j) 0 = j.val ∧ win0_0.index (pt j) 1 = 0 := by decide +kernel
theorem idx1 : ∀ t : Fin grid0.N, win0_1.index t 0 = 0 ∧ win0_1.index t 1 = 0 := by decide +kernel
theorem idx2 : ∀ t : Fin grid0.N, win0_2.index t 0 = t.val / 4 ∧ win0_2.index t 1 = 0 ∧ win0_2.index t 2 = 0 := by decide +kernel
theorem idx3 : ∀ t : Fin grid0.N, win0_3.index t 0 = t.val % 4 ∧ win0_3.index t 1 = t.val / 4 := by decide +kernel
theorem idx4 : ∀ t : Fin grid0.N, win0_4.index t 0 = min t.val 3 ∧ win0_4.index t 1 = 0 := by decide +kernel
theorem xsz3 : ∀ t : Fin grid0.N, win0_3.xsize (grid0.coords t) 0 = 1024 ∧ win0_3.xsize (grid0.coords t) 1 = 1536 := by decide +kernel
theorem xsz4 : ∀ t : Fin grid0.N, win0_4.xsize (grid0.coords t) 0 = 1024 ∧ win0_4.xsize (grid0.coords t) 1 = 1024 := by decide +kernel
theorem flush3 : ∀ t : Fin cfg0.N, (cfg0.win 3).flush t = true :=
  (by decide +kernel : ∀ t : Fin grid0.N, win0_3.flush t = true)

/-- The shards of the weights, as the region finds them. -/
theorem V_main_v1 (c : Dev nD) (n : Fin 4) (x : Fin 1024) (j : Fin 1536) :
    (V m c main_v1 : FVec Ideal S4x1024x1536 .bf16) (ix3 n x j) = arg2 m c (ix2 x ⟨n.val * 1536 + j.val, by omega⟩) := by
  have e : V m c main_v1 = transpose S4x1024x1536 [1, 0, 2] (shapeCast S1024x4x1536 (arg2 m c) shapeCasts_S1024x6144_S1024x4x1536) transposes_S1024x4x1536_S4x1024x1536_1_0_2 := by
    show StableHlo.after hostOps0 _ (Proc.devRef .tc main_v1) = _
    simp only [hostOps0, StableHlo.after_cons, StableHlo.after_nil]
    rw [StableHlo.unary_result, StableHlo.reshape_result]
    rfl
  rw [e]
  pointwise []

theorem iblk0 (c : Dev nD) (j : Fin 4) (r : Fin 1024) (k : Fin 1024) :
    iblk m c 0 (pt j) (ix2 r k) = arg0 m c (ix2 ⟨j.val * 1024 + r.val, by omega⟩ k) := by
  have hi := idx0 j
  unfold iblk
  rw [View.read_apply]
  show V m c main_arg0 _ = _
  rw [V_main_arg0]
  refine congrArg (m (c.tc.loc main_arg0)) ?_
  funext a
  apply Fin.ext
  match a with
  | ⟨0, _⟩ => show win0_0.index (pt j) 0 * 1024 + 1 * r.val = j.val * 1024 + r.val; rw [hi.1]; omega
  | ⟨1, _⟩ => show win0_0.index (pt j) 1 * 1024 + 1 * k.val = k.val; rw [hi.2]; omega

theorem iblk1 (c : Dev nD) (t : Fin grid0.N) (r : Fin 1) (k : Fin 1024) :
    iblk m c 1 t (ix2 r k) = arg1 m c (ix2 r k) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 1 + 1 * r.val = r.val; rw [hi.1]; omega
  | ⟨1, _⟩ => show win0_1.index t 1 * 1024 + 1 * k.val = k.val; rw [hi.2]; omega

theorem iblk2 (c : Dev nD) (t : Fin grid0.N) (x : Fin 1024) (k : Fin 1536) :
    iblk m c 2 t (ix3 0 x k) = arg2 m c (ix2 x ⟨t.val / 4 * 1536 + k.val, by have := ltN t; omega⟩) := by
  have hi := idx2 t
  refine Eq.trans ?_ (V_main_v1 m c ⟨t.val / 4, by have := ltN t; omega⟩ x k)
  unfold iblk
  rw [View.read_apply]
  show V m c main_v1 _ = _
  refine congrArg (V m c main_v1) ?_
  funext a
  apply Fin.ext
  match a with
  | ⟨0, _⟩ => show win0_2.index t 0 * 1 + 1 * 0 = t.val / 4; rw [hi.1]; omega
  | ⟨1, _⟩ => show win0_2.index t 1 * 1024 + 1 * x.val = x.val; rw [hi.2.1]; omega
  | ⟨2, _⟩ => show win0_2.index t 2 * 1536 + 1 * k.val = k.val; rw [hi.2.2]; omega

/-- A normed entry, from a row and the gain. -/
def normed (h g : Fin 1024 → EReal) (k : Fin 1024) : EReal :=
  h k * Ideal.rsqrt (Ideal.div (∑ p, h p * h p) (Ideal.ofBits .f32 0x44800000#32) + Ideal.ofBits .f32 0x358637BD#32) * g k

/-- The two payloads of the norm at an index. -/
theorem read_pay1 (x : FVec Ideal S1024x1024 .f32) (y : FVec Ideal S1x1024 .f32) (r k : Fin 1024) :
    k0_pay1 (F := Ideal) x y (ix2 r k) = normed (fun p => x (ix2 r p)) (fun p => y (ix2 0 p)) k := by
  unfold normed
  pointwise [k0_pay1]

theorem read_pay2 (x : FVec Ideal S1024x1024 .f32) (y : FVec Ideal S1x1024 .f32) (r k : Fin 1024) :
    k0_pay2 (F := Ideal) x y (ix2 r k) = normed (fun p => x (ix2 r p)) (fun p => y (ix2 0 p)) k := by
  refine Eq.trans ?_ (read_pay1 x y r k)
  pointwise [k0_pay2]

/-- The product of a block at an index. -/
theorem read_pay3 (x : FVec Ideal S1024x1024 .bf16) (y : FVec Ideal S1x1024x1536 .bf16) (r : Fin 1024) (k : Fin 1536) :
    k0_pay3 (F := Ideal) x y (ix2 r k) = ∑ p, x (ix2 r p) * y (ix3 0 p k) := by
  pointwise [k0_pay3]

/-- The normed rows, over the whole array. -/
def uAt (c : Dev nD) (t : Fin 4096) (k : Fin 1024) : EReal :=
  normed (fun p => arg0 m c (ix2 t p)) (fun p => arg1 m c (ix2 0 p)) k

/-- The two results, over the whole arrays. -/
def target3 (c : Dev nD) (i : S4096x6144.Idx) : EReal := ∑ p : Fin 1024, uAt m c (i 0) p * arg2 m c (ix2 p (i 1))
def target4 (c : Dev nD) (i : S4096x1024.Idx) : EReal := uAt m c (i 0) (i 1)

theorem uS_read (c : Dev nD) (j : Fin 4) (r k : Fin 1024) : uS m c j (ix2 r k) = uAt m c ⟨j.val * 1024 + r.val, by omega⟩ k := by
  unfold uS uAt
  refine (read_pay2 _ _ _ _).trans ?_
  exact congrArg₂ (fun a b => normed a b k) (funext fun p => iblk0 m c j r p) (funext fun p => iblk1 m c (pt j) 0 p)

theorem uO_read (c : Dev nD) (j : Fin 4) (r k : Fin 1024) : uO m c j (ix2 r k) = uAt m c ⟨j.val * 1024 + r.val, by omega⟩ k := by
  unfold uO uAt
  refine (read_pay1 _ _ _ _).trans ?_
  exact congrArg₂ (fun a b => normed a b k) (funext fun p => iblk0 m c j r p) (funext fun p => iblk1 m c (pt j) 0 p)

/-- Where a point's block of window 3 lies in its array. -/
theorem mem_blk3 (t : Fin grid0.N) (i : S4096x6144.Idx) :
    i ∈ ((cfg0.win 3).blk t).view.set ↔ (t.val % 4 * 1024 ≤ (i 0).val ∧ (i 0).val < t.val % 4 * 1024 + 1024) ∧ (t.val / 4 * 1536 ≤ (i 1).val ∧ (i 1).val < t.val / 4 * 1536 + 1536) := by
  show i ∈ ((View.whole main_v2_0).slice (win0_3.rect t)).set ↔ _
  rw [View.set_slice_whole, Rect.mem_set_unit]
  have e := idx3 t
  have x := xsz3 t
  refine ⟨fun h => ⟨?_, ?_⟩, fun h a => ?_⟩
  · have : win0_3.index t 0 * 1024 ≤ (i 0).val ∧ (i 0).val < win0_3.index t 0 * 1024 + win0_3.xsize (grid0.coords t) 0 := h 0
    rwa [e.1, x.1] at this
  · have : win0_3.index t 1 * 1536 ≤ (i 1).val ∧ (i 1).val < win0_3.index t 1 * 1536 + win0_3.xsize (grid0.coords t) 1 := h 1
    rwa [e.2, x.2] at this
  · match a with
    | ⟨0, _⟩ =>
      show win0_3.index t 0 * 1024 ≤ (i 0).val ∧ (i 0).val < win0_3.index t 0 * 1024 + win0_3.xsize (grid0.coords t) 0
      rw [e.1, x.1]; exact h.1
    | ⟨1, _⟩ =>
      show win0_3.index t 1 * 1536 ≤ (i 1).val ∧ (i 1).val < win0_3.index t 1 * 1536 + win0_3.xsize (grid0.coords t) 1
      rw [e.2, x.2]; exact h.2

/-- What a point writes to window 3. -/
theorem flushed_read3 (c : Dev nD) (t : Fin grid0.N) :
    (dats m 0 c).flushed 3 t = ((cfg0.win 3).blk t).view.read (Elt Ideal) (target3 m c) := by
  funext y
  have e := idx3 t
  have x := xsz3 t
  have ht := ltN t
  have h0 : (y 0).val < 1024 := x.1 ▸ (y 0).isLt
  have h1 : (y 1).val < 1536 := x.2 ▸ (y 1).isLt
  have hj : (cfg0.win 3).xinj (grid0.coords t) y = ix2 (⟨(y 0).val, h0⟩ : Fin 1024) (⟨(y 1).val, h1⟩ : Fin 1536) := by
    funext a; apply Fin.ext
    match a with
    | ⟨0, _⟩ => rfl
    | ⟨1, _⟩ => rfl
  have hi : ((cfg0.win 3).blk t).view.emb y = (ix2 (⟨t.val % 4 * 1024 + (y 0).val, by omega⟩) (⟨t.val / 4 * 1536 + (y 1).val, by omega⟩) : S4096x6144.Idx) := by
    funext a; apply Fin.ext
    match a with
    | ⟨0, _⟩ => show win0_3.index t 0 * 1024 + 1 * (y 0).val = t.val % 4 * 1024 + (y 0).val; rw [e.1]; omega
    | ⟨1, _⟩ => show win0_3.index t 1 * 1536 + 1 * (y 1).val = t.val / 4 * 1536 + (y 1).val; rw [e.2]; omega
  show (dats m 0 c).after 3 t ((cfg0.win 3).xinj (grid0.coords t) y) = _
  rw [after0_3]
  refine (congrArg (k0_pay3 (F := Ideal) (uS m c (row t)) (iblk m c 2 t)) hj).trans ?_
  refine (read_pay3 _ _ _ _).trans (Eq.trans ?_ (congrArg (target3 m c) hi).symm)
  unfold target3
  exact Finset.sum_congr rfl fun p _ => congrArg₂ (fun a b : EReal => a * b) (uS_read m c (row t) _ p) (iblk2 m c t p _)

theorem final3 (c : Dev nD) : (dats m 0 c).arrAt 3 cfg0.N = target3 m c := by
  refine (dats m 0 c).arrAt_eq_of_cover 3 _ (fun t _ => flushed_read3 m c t) fun i => ?_
  change S4096x6144.Idx at i
  have hr : (i 0).val < 4096 := (i 0).isLt
  have hc : (i 1).val < 6144 := (i 1).isLt
  refine ⟨(⟨(i 1).val / 1536 * 4 + (i 0).val / 1024, by show _ < 16; omega⟩ : Fin grid0.N), flush3 _, ?_⟩
  rw [mem_blk3]
  dsimp only
  omega

/-- Where a point's block of window 4 lies in its array. -/
theorem mem_blk4 (t : Fin grid0.N) (i : S4096x1024.Idx) :
    i ∈ ((cfg0.win 4).blk t).view.set ↔ (min t.val 3 * 1024 ≤ (i 0).val ∧ (i 0).val < min t.val 3 * 1024 + 1024) ∧ (0 * 1024 ≤ (i 1).val ∧ (i 1).val < 0 * 1024 + 1024) := by
  show i ∈ ((View.whole main_v2_1).slice (win0_4.rect t)).set ↔ _
  rw [View.set_slice_whole, Rect.mem_set_unit]
  have e := idx4 t
  have x := xsz4 t
  refine ⟨fun h => ⟨?_, ?_⟩, fun h a => ?_⟩
  · have : win0_4.index t 0 * 1024 ≤ (i 0).val ∧ (i 0).val < win0_4.index t 0 * 1024 + win0_4.xsize (grid0.coords t) 0 := h 0
    rwa [e.1, x.1] at this
  · have : win0_4.index t 1 * 1024 ≤ (i 1).val ∧ (i 1).val < win0_4.index t 1 * 1024 + win0_4.xsize (grid0.coords t) 1 := h 1
    rwa [e.2, x.2] at this
  · match a with
    | ⟨0, _⟩ =>
      show win0_4.index t 0 * 1024 ≤ (i 0).val ∧ (i 0).val < win0_4.index t 0 * 1024 + win0_4.xsize (grid0.coords t) 0
      rw [e.1, x.1]; exact h.1
    | ⟨1, _⟩ =>
      show win0_4.index t 1 * 1024 ≤ (i 1).val ∧ (i 1).val < win0_4.index t 1 * 1024 + win0_4.xsize (grid0.coords t) 1
      rw [e.2, x.2]; exact h.2

/-- What a point writes to window 4. -/
theorem flushed_read4 (c : Dev nD) (t : Fin grid0.N) :
    (dats m 0 c).flushed 4 t = ((cfg0.win 4).blk t).view.read (Elt Ideal) (target4 m c) := by
  funext y
  have e := idx4 t
  have x := xsz4 t
  have ht := ltN t
  have h0 : (y 0).val < 1024 := x.1 ▸ (y 0).isLt
  have h1 : (y 1).val < 1024 := x.2 ▸ (y 1).isLt
  have hj : (cfg0.win 4).xinj (grid0.coords t) y = ix2 (⟨(y 0).val, h0⟩ : Fin 1024) (⟨(y 1).val, h1⟩ : Fin 1024) := by
    funext a; apply Fin.ext
    match a with
    | ⟨0, _⟩ => rfl
    | ⟨1, _⟩ => rfl
  have hi : ((cfg0.win 4).blk t).view.emb y = (ix2 (⟨min t.val 3 * 1024 + (y 0).val, by omega⟩) (⟨(y 1).val, h1⟩) : S4096x1024.Idx) := by
    funext a; apply Fin.ext
    match a with
    | ⟨0, _⟩ => show win0_4.index t 0 * 1024 + 1 * (y 0).val = min t.val 3 * 1024 + (y 0).val; rw [e.1]; omega
    | ⟨1, _⟩ => show win0_4.index t 1 * 1024 + 1 * (y 1).val = (y 1).val; rw [e.2]; omega
  show (dats m 0 c).after 4 t ((cfg0.win 4).xinj (grid0.coords t) y) = _
  rw [after0_4]
  refine (congrArg (uO m c (lastRow t)) hj).trans ?_
  exact (uO_read m c (lastRow t) _ _).trans (congrArg (target4 m c) hi).symm

theorem final4 (c : Dev nD) : (dats m 0 c).arrAt 4 cfg0.N = target4 m c := by
  refine (dats m 0 c).arrAt_eq_of_cover 4 _ (fun t _ => flushed_read4 m c t) fun i => ?_
  change S4096x1024.Idx at i
  have hr : (i 0).val < 4096 := (i 0).isLt
  have hc : (i 1).val < 1024 := (i 1).isLt
  by_cases h : (i 0).val < 3072
  · refine ⟨(⟨(i 0).val / 1024, by show _ < 16; omega⟩ : Fin grid0.N), (hflush4 _).mpr (Or.inl (by show (i 0).val / 1024 < 3; omega)), ?_⟩
    rw [mem_blk4]
    dsimp only
    omega
  · refine ⟨(⟨15, by show _ < 16; omega⟩ : Fin grid0.N), (hflush4 _).mpr (Or.inr rfl), ?_⟩
    rw [mem_blk4]
    dsimp only
    omega
end

section
open Cert.SprojReferenceIdeal Cert.SprojReferenceIdeal.Gen Cert.SprojReferenceIdeal.Read

/-- The reference's normed rows at an index, -/
theorem reference4 (x0 : FVec Ideal S4096x1024 .f32) (x1 : FVec Ideal S1x1024 .f32) (t : Fin 4096) (k : Fin 1024) :
    val_main_v15 (F := Ideal) x0 x1 (ix2 t k) = normed (fun p => x0 (ix2 t p)) (fun p => x1 (ix2 0 p)) k := by
  unfold normed
  pointwise [val_main_v15, val_main_v11, val_main_v10, val_main_v9, val_main_v8, val_main_v7, val_main_v6, val_main_v5, val_main_v4, val_main_v3, val_main_v2, val_main_v1, val_main_v0, val_main_cst, val_main_cst_0, val_main_cst_1]

/-- and their product with the weights. -/
theorem reference3 (x0 : FVec Ideal S4096x1024 .f32) (x1 : FVec Ideal S1x1024 .f32) (x2 : FVec Ideal S1024x6144 .bf16) (t : Fin 4096) (k : Fin 6144) :
    val_main_v14 (F := Ideal) x0 x1 x2 (ix2 t k) = ∑ p : Fin 1024, normed (fun p => x0 (ix2 t p)) (fun p => x1 (ix2 0 p)) p * x2 (ix2 p k) := by
  refine Eq.trans ?_ (Finset.sum_congr rfl fun p _ => congrArg (· * (x2 (ix2 p k) : EReal)) (reference4 x0 x1 t p))
  pointwise [val_main_v15, val_main_v14, val_main_v13, val_main_v12]
end

open Cert.SprojKernelIdeal Cert.SprojKernelIdeal.Gen in
/-- The equation of the two programs. -/
theorem algebraic : Cert.algebraic_SprojKernelIdeal_SprojReferenceIdeal := by
  intro m g m' g' _ hag
  refine ⟨fun c => Cert.SprojReferenceIdeal.Read.val_main_v14 (F := Ideal) (arg0 m c) (arg1 m c) (arg2 m c),
    fun c => Cert.SprojReferenceIdeal.Read.val_main_v15 (F := Ideal) (arg0 m c) (arg1 m c), ?_, ?_⟩
  · refine (θ_run _ _ _).mono (fun r h c => ?_) (θ_run_and (Cert.SprojIdealFrame.run_main (F := Ideal) m g) (Cert.SprojIdealFrame.frame (F := Ideal) m g))
    refine ⟨((h.1 c).1 3).trans ((final3 m c).trans ?_), ((h.1 c).1 4).trans ((final4 m c).trans ?_), h.2.1 c⟩
    · have key : ∀ (a : Fin 4096) (b : Fin 6144), target3 m c (ix2 a b) = Cert.SprojReferenceIdeal.Read.val_main_v14 (F := Ideal) (arg0 m c) (arg1 m c) (arg2 m c) (ix2 a b) :=
        fun a b => (reference3 _ _ _ a b).symm
      funext i
      change Cert.SprojKernelIdeal.S4096x6144.Idx at i
      idx_vars i
      exact key _ _
    · have key : ∀ (a : Fin 4096) (b : Fin 1024), target4 m c (ix2 a b) = Cert.SprojReferenceIdeal.Read.val_main_v15 (F := Ideal) (arg0 m c) (arg1 m c) (ix2 a b) :=
        fun a b => (reference4 _ _ a b).symm
      funext i
      change Cert.SprojKernelIdeal.S4096x1024.Idx at i
      idx_vars i
      exact key _ _
  · refine (θ_run _ _ _).mono (fun r h c => ?_) (Cert.SprojReferenceIdeal.Value.run (F := Ideal) m' g')
    obtain ⟨e0, e1, e2⟩ := hag c
    refine ⟨(h c).1.trans ?_, (h c).2.1.trans ?_, (h c).2.2⟩
    · exact (Cert.SprojReferenceIdeal.Read.val_main_v14_eq (F := Ideal) _ _ _).trans
        (congr (congr (congrArg (Cert.SprojReferenceIdeal.Read.val_main_v14 (F := Ideal)) e0) e1) e2)
    · exact (Cert.SprojReferenceIdeal.Read.val_main_v15_eq (F := Ideal) _ _).trans
        (congr (congrArg (Cert.SprojReferenceIdeal.Read.val_main_v15 (F := Ideal)) e0) e1)

end Cert.SprojClaim

end
-- ==== Proof.RmspClaim.lean ====
/- The gradient of the pooling layer's norm and input product: the kernel and the reference end at the same arrays. -/
module

public import proofs.«01_k».proof.Defs
public import proofs.«01_k».proof.Proof.RmspIdealFrame
public import proofs.«01_k».proof.Proof.Finite
public import proofs.«01_k».proof.Proof.RmsMath
public import proofs.«01_k».proof.Proof.Gen.RmspReferenceIdeal.Run
public import proofs.«01_k».proof.Proof.Gen.RmspReferenceIdeal.Read
public import proofs.«01_k».proof.Proof.Gen.Pre_rmsp_finite
public import Idealize.ShloMosaic.Lib.Pointwise

@[expose] public section

noncomputable section

namespace Cert.RmspClaim

open Idealize.ShloMosaic Idealize.SL.Sem Idealize.ShloMosaic.StableHlo Cert.RmsMath

set_option maxRecDepth 16384

section
open Cert.Pre_rmsp_finite Cert.Pre_rmsp_finite.Gen

/-- The precondition says that the first four arguments hold reals. -/
theorem finite (x0 : FVec Ideal S4096x4096 .bf16) (x1 : FVec Ideal S1024x4096 .bf16) (x2 : FVec Ideal S4096x1024 .f32) (x3 : FVec Ideal S1x1024 .f32) (x4 : FVec Ideal S4096x1024 .f32)
    (h : Cert.Pre_rmsp_finite.fn (F := Ideal) x0 x1 x2 x3 x4 = fun _ => 1#1) :
    (∀ i, (x0 i : EReal) = ((EReal.toReal (x0 i) : ℝ) : EReal)) ∧ (∀ i, (x1 i : EReal) = ((EReal.toReal (x1 i) : ℝ) : EReal))
      ∧ (∀ i, (x2 i : EReal) = ((EReal.toReal (x2 i) : ℝ) : EReal)) ∧ (∀ i, (x3 i : EReal) = ((EReal.toReal (x3 i) : ℝ) : EReal)) := by
  have hs : Subsingleton S_.Idx := ⟨fun a b => funext fun k => k.elim0⟩
  have h' := congrFun h (fun k => k.elim0)
  dsimp only [Cert.Pre_rmsp_finite.fn] at h'
  obtain ⟨h', hd⟩ := Cert.Finite.and_one h'
  obtain ⟨h', hc⟩ := Cert.Finite.and_one h'
  obtain ⟨ha, hb⟩ := Cert.Finite.and_one h'
  exact ⟨Cert.Finite.real_of_all _ _ _ _ _ _ (fun _ => rfl) ha, Cert.Finite.real_of_all _ _ _ _ _ _ (fun _ => rfl) hb,
    Cert.Finite.real_of_all _ _ _ _ _ _ (fun _ => rfl) hc, Cert.Finite.real_of_all _ _ _ _ _ _ (fun _ => rfl) hd⟩
end

section
open Cert.RmspKernelIdeal Cert.RmspKernelIdeal.Gen Cert.RmspIdealFrame

variable (m : (ℓ : Loc nD τ sig) → Buf (Elt Ideal) ℓ)

/-- The launch contents of the arguments: the product's gradient, the weights, the rows, the norm's gain, the gradient that
    passes by. -/
abbrev arg0 (c : Dev nD) : FVec Ideal S4096x4096 .bf16 := m (c.tc.loc main_arg0)
abbrev arg1 (c : Dev nD) : FVec Ideal S1024x4096 .bf16 := m (c.tc.loc main_arg1)
abbrev arg2 (c : Dev nD) : FVec Ideal S4096x1024 .f32 := m (c.tc.loc main_arg2)
abbrev arg3 (c : Dev nD) : FVec Ideal S1x1024 .f32 := m (c.tc.loc main_arg3)
abbrev arg4 (c : Dev nD) : FVec Ideal S4096x1024 .f32 := m (c.tc.loc main_arg4)

theorem idx0 : ∀ t : Fin grid0.N, win0_0.index t 0 = t.val % 8 ∧ win0_0.index t 1 = t.val / 8 := by decide +kernel
theorem idx1 : ∀ t : Fin grid0.N, win0_1.index t 0 = t.val / 8 ∧ win0_1.index t 1 = 0 ∧ win0_1.index t 2 = 0 := by decide +kernel
theorem idx2 : ∀ t : Fin grid0.N, 24 ≤ t.val → win0_2.index t 0 = t.val % 8 ∧ win0_2.index t 1 = 0 := by decide +kernel
theorem idx3 : ∀ t : Fin grid0.N, win0_3.index t 0 = 0 ∧ win0_3.index t 1 = 0 := by decide +kernel
theorem idx4 : ∀ t : Fin grid0.N, 24 ≤ t.val → win0_4.index t 0 = t.val % 8 ∧ win0_4.index t 1 = 0 := by decide +kernel
theorem idx5 : ∀ t : Fin grid0.N, 24 ≤ t.val → win0_5.index t 0 = t.val % 8 ∧ win0_5.index t 1 = 0 := by decide +kernel
theorem idx6 : ∀ t : Fin grid0.N, win0_6.index t 0 = 0 ∧ win0_6.index t 1 = 0 := by decide +kernel
theorem xsz5 : ∀ t : Fin grid0.N, win0_5.xsize (grid0.coords t) 0 = 512 ∧ win0_5.xsize (grid0.coords t) 1 = 1024 := by decide +kernel
theorem xsz6 : ∀ t : Fin grid0.N, win0_6.xsize (grid0.coords t) 0 = 1 ∧ win0_6.xsize (grid0.coords t) 1 = 1024 := by decide +kernel

/-- The shards of the weights, as the region finds them. -/
theorem V_main_v1 (c : Dev nD) (n : Fin 4) (x : Fin 1024) (j : Fin 1024) :
    (V m c main_v1 : FVec Ideal S4x1024x1024 .bf16) (ix3 n x j) = arg1 m c (ix2 x ⟨n.val * 1024 + j.val, by omega⟩) := by
  have e : V m c main_v1 = transpose S4x1024x1024 [1, 0, 2] (shapeCast S1024x4x1024 (arg1 m c) shapeCasts_S1024x4096_S1024x4x1024) transposes_S1024x4x1024_S4x1024x1024_1_0_2 := by
    show StableHlo.after hostOps0 _ (Proc.devRef .tc main_v1) = _
    simp only [hostOps0, StableHlo.after_cons, StableHlo.after_nil]
    rw [StableHlo.unary_result, StableHlo.reshape_result]
    rfl
  rw [e]
  pointwise []

theorem iblk0 (c : Dev nD) (n : Fin 4) (j : Fin 8) (r : Fin 512) (p : Fin 1024) :
    iblk m c 0 (pt n.val j) (ix2 r p) = arg0 m c (ix2 ⟨512 * j.val + r.val, by omega⟩ ⟨1024 * n.val + p.val, by omega⟩) := by
  have hi := idx0 (pt n.val j)
  have hv : (8 * n.val + j.val) % 32 = 8 * n.val + j.val := Nat.mod_eq_of_lt (by omega)
  dsimp only at hi
  unfold iblk
  rw [View.read_apply]
  show V m c main_arg0 _ = _
  rw [V_main_arg0]
  refine congrArg (m (c.tc.loc main_arg0)) ?_
  funext a
  apply Fin.ext
  match a with
  | ⟨0, _⟩ => show win0_0.index (pt n.val j) 0 * 512 + 1 * r.val = 512 * j.val + r.val; rw [hi.1, hv]; omega
  | ⟨1, _⟩ => show win0_0.index (pt n.val j) 1 * 1024 + 1 * p.val = 1024 * n.val + p.val; rw [hi.2, hv]; omega

theorem iblk1 (c : Dev nD) (n : Fin 4) (j : Fin 8) (x : Fin 1024) (p : Fin 1024) :
    iblk m c 1 (pt n.val j) (ix3 0 x p) = arg1 m c (ix2 x ⟨1024 * n.val + p.val, by omega⟩) := by
  have hi := idx1 (pt n.val j)
  have hv : (8 * n.val + j.val) % 32 = 8 * n.val + j.val := Nat.mod_eq_of_lt (by omega)
  dsimp only at hi
  refine Eq.trans ?_ ((V_main_v1 m c n x p).trans (congrArg (fun q => arg1 m c (ix2 x q)) (Fin.ext (by dsimp only; omega))))
  unfold iblk
  rw [View.read_apply]
  show V m c main_v1 _ = _
  refine congrArg (V m c main_v1) ?_
  funext a
  apply Fin.ext
  match a with
  | ⟨0, _⟩ => show win0_1.index (pt n.val j) 0 * 1 + 1 * 0 = n.val; rw [hi.1, hv]; omega
  | ⟨1, _⟩ => show win0_1.index (pt n.val j) 1 * 1024 + 1 * x.val = x.val; rw [hi.2.1]; omega
  | ⟨2, _⟩ => show win0_1.index (pt n.val j) 2 * 1024 + 1 * p.val = p.val; rw [hi.2.2]; omega

theorem iblk2 (c : Dev nD) (t : Fin grid0.N) (ht : 24 ≤ t.val) (r : Fin 512) (k : Fin 1024) :
    iblk m c 2 t (ix2 r k) = arg2 m c (ix2 ⟨512 * (t.val % 8) + r.val, by omega⟩ k) := by
  have hi := idx2 t ht
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 512 + 1 * r.val = 512 * (t.val % 8) + r.val; rw [hi.1]; omega
  | ⟨1, _⟩ => show win0_2.index t 1 * 1024 + 1 * k.val = k.val; rw [hi.2]; omega

theorem iblk3 (c : Dev nD) (t : Fin grid0.N) (r : Fin 1) (k : Fin 1024) :
    iblk m c 3 t (ix2 r k) = arg3 m c (ix2 r k) := by
  have hi := idx3 t
  unfold iblk
  rw [View.read_apply]
  show V m c main_arg3 _ = _
  rw [V_main_arg3]
  refine congrArg (m (c.tc.loc main_arg3)) ?_
  funext a
  apply Fin.ext
  match a with
  | ⟨0, _⟩ => show win0_3.index t 0 * 1 + 1 * r.val = r.val; rw [hi.1]; omega
  | ⟨1, _⟩ => show win0_3.index t 1 * 1024 + 1 * k.val = k.val; rw [hi.2]; omega

theorem iblk4 (c : Dev nD) (t : Fin grid0.N) (ht : 24 ≤ t.val) (r : Fin 512) (k : Fin 1024) :
    iblk m c 4 t (ix2 r k) = arg4 m c (ix2 ⟨512 * (t.val % 8) + r.val, by omega⟩ k) := by
  have hi := idx4 t ht
  unfold iblk
  rw [View.read_apply]
  show V m c main_arg4 _ = _
  rw [V_main_arg4]
  refine congrArg (m (c.tc.loc main_arg4)) ?_
  funext a
  apply Fin.ext
  match a with
  | ⟨0, _⟩ => show win0_4.index t 0 * 512 + 1 * r.val = 512 * (t.val % 8) + r.val; rw [hi.1]; omega
  | ⟨1, _⟩ => show win0_4.index t 1 * 1024 + 1 * k.val = k.val; rw [hi.2]; omega

/-! ## The payloads at an index -/

theorem read_pay1 (r : Fin 512) (k : Fin 1024) : k0_pay1 (F := Ideal) (ix2 r k) = 0 := by
  refine Eq.trans (b := Ideal.ofBits .f32 0x00000000#32) ?_ Ideal.ofBits_zero_f32
  pointwise [k0_pay1]

theorem read_pay2 (k : Fin 1024) : k0_pay2 (F := Ideal) (ix2 0 k) = 0 := by
  refine Eq.trans (b := Ideal.ofBits .f32 0x00000000#32) ?_ Ideal.ofBits_zero_f32
  pointwise [k0_pay2]

/-- A shard's part of the product at an index. -/
def part (x : FVec Ideal S512x1024 .bf16) (y : FVec Ideal S1x1024x1024 .bf16) (r : Fin 512) (k : Fin 1024) : EReal :=
  ∑ p, x (ix2 r p) * y (ix3 0 k p)

theorem read_pay3 (a : FVec Ideal S512x1024 .f32) (x : FVec Ideal S512x1024 .bf16) (y : FVec Ideal S1x1024x1024 .bf16) (r : Fin 512) (k : Fin 1024) :
    k0_pay3 (F := Ideal) a x y (ix2 r k) = a (ix2 r k) + part x y r k := by
  unfold part
  pointwise [k0_pay3]

theorem read_pay6 (W h : FVec Ideal S512x1024 .f32) (D : FVec Ideal S1x1024 .f32) (k : Fin 1024) :
    k0_pay6 (F := Ideal) W h D (ix2 0 k) = D (ix2 0 k) + ∑ r : Fin 512, W (ix2 r k) * (h (ix2 r k) * rho (fun q => h (ix2 r q))) := by
  unfold rho mean
  pointwise [k0_pay6, k0_pay5, k0_pay4]

theorem read_pay7 (W h : FVec Ideal S512x1024 .f32) (g : FVec Ideal S1x1024 .f32) (R : FVec Ideal S512x1024 .f32) (r : Fin 512) (k : Fin 1024) :
    k0_pay7 (F := Ideal) W h g R (ix2 r k) = short (fun q => W (ix2 r q)) (fun q => h (ix2 r q)) (fun q => g (ix2 0 q)) (R (ix2 r k)) k := by
  unfold short rho mean
  pointwise [k0_pay7, k0_pay5, k0_pay4]

/-! ## The sums -/

/-- The products whose sum is the normed rows' gradient, -/
def duf (c : Dev nD) (t : Fin 4096) (k : Fin 1024) (p : Fin 4096) : EReal := arg0 m c (ix2 t p) * arg1 m c (ix2 k p)

/-- it, -/
def duAt (c : Dev nD) (t : Fin 4096) (k : Fin 1024) : EReal := ∑ p, duf m c t k p

/-- and the products whose sum is the gain's gradient. -/
def dgf (c : Dev nD) (k : Fin 1024) (t : Fin 4096) : EReal :=
  duAt m c t k * (arg2 m c (ix2 t k) * rho (fun q => arg2 m c (ix2 t q)))

theorem dot_read (c : Dev nD) (n : ℕ) (hn : n < 4) (j : Fin 8) (r : Fin 512) (k : Fin 1024) :
    part (iblk m c 0 (pt n j)) (iblk m c 1 (pt n j)) r k
      = ∑ p : Fin 1024, duf m c ⟨512 * j.val + r.val, by omega⟩ k ⟨1024 * n + p.val, by omega⟩ :=
  Finset.sum_congr rfl fun p _ => congrArg₂ (fun a b : EReal => a * b) (iblk0 m c ⟨n, hn⟩ j r p) (iblk1 m c ⟨n, hn⟩ j k p)

theorem acc_read (c : Dev nD) (j : Fin 8) (r : Fin 512) (k : Fin 1024) : ∀ n : ℕ, n < 4 →
    acc m c j n (ix2 r k) = ∑ p ∈ Finset.range (1024 * n + 1024), ext (duf m c ⟨512 * j.val + r.val, by omega⟩ k) p
  | 0, _ => by
    refine (read_pay3 _ _ _ _ _).trans ?_
    rw [read_pay1, dot_read m c 0 (by omega) j r k, sum_block _ _ (by omega)]
    exact congrArg₂ (fun a b : EReal => a + b) (by rw [Nat.mul_zero, Finset.range_zero, Finset.sum_empty]) rfl
  | n + 1, h => by
    refine (read_pay3 _ _ _ _ _).trans ?_
    rw [acc_read c j r k n (by omega), dot_read m c (n + 1) h j r k, sum_block (b := 1024) _ (1024 * (n + 1)) (by omega)]
    exact congrArg₂ (fun a b : EReal => a + b) (by rw [Nat.mul_succ]) rfl

theorem acc_last (c : Dev nD) (j : Fin 8) (r : Fin 512) (k : Fin 1024) :
    acc m c j 3 (ix2 r k) = duAt m c ⟨512 * j.val + r.val, by omega⟩ k :=
  (acc_read m c j r k 3 (by omega)).trans (sum_ext _)

theorem dg_read (c : Dev nD) (k : Fin 1024) : ∀ n : ℕ, n ≤ 8 →
    dgAt m c n (ix2 0 k) = ∑ t ∈ Finset.range (512 * n), ext (dgf m c k) t
  | 0, _ => read_pay2 k
  | n + 1, h => by
    show k0_pay6 (F := Ideal) (acc m c ⟨n % 8, _⟩ 3) (iblk m c 2 (pt 3 ⟨n % 8, _⟩)) (dgAt m c n) (ix2 0 k) = _
    rw [read_pay6, dg_read c k n (by omega), Nat.mul_succ, sum_block _ _ (by omega)]
    refine congrArg₂ (fun a b : EReal => a + b) rfl (Finset.sum_congr rfl fun r _ => ?_)
    have e : ∀ q : Fin 1024, iblk m c 2 (pt 3 ⟨n % 8, Nat.mod_lt _ (by decide)⟩) (ix2 r q) = arg2 m c (ix2 ⟨512 * n + r.val, by omega⟩ q) := fun q =>
      (iblk2 m c _ (by show 24 ≤ (8 * 3 + n % 8) % 32; omega) r q).trans
        (congrArg (fun x => arg2 m c (ix2 x q)) (Fin.ext (by show 512 * ((8 * 3 + n % 8) % 32 % 8) + r.val = 512 * n + r.val; omega)))
    have ea : acc m c ⟨n % 8, Nat.mod_lt _ (by decide)⟩ 3 (ix2 r k) = duAt m c ⟨512 * n + r.val, by omega⟩ k :=
      (acc_last m c _ r k).trans (congrArg (fun x => duAt m c x k) (Fin.ext (by show 512 * (n % 8) + r.val = 512 * n + r.val; omega)))
    unfold dgf
    exact congrArg₂ (fun a b : EReal => a * b) ea (congrArg₂ (fun a b : EReal => a * b) (e k) (congrArg rho (funext e)))

/-! ## The arrays -/

/-- The results, over the whole arrays. -/
def target5 (c : Dev nD) (i : S4096x1024.Idx) : EReal :=
  short (duAt m c (i 0)) (fun q => arg2 m c (ix2 (i 0) q)) (fun q => arg3 m c (ix2 0 q)) (arg4 m c i) (i 1)
def target6 (c : Dev nD) (i : S1x1024.Idx) : EReal := ∑ t, dgf m c (i 1) t

theorem dx_read (c : Dev nD) (t : Fin grid0.N) (ht : 24 ≤ t.val) (r : Fin 512) (k : Fin 1024) :
    k0_pay7 (F := Ideal) (acc m c (row t) 3) (iblk m c 2 t) (iblk m c 3 t) (iblk m c 4 t) (ix2 r k)
      = target5 m c (ix2 ⟨512 * (t.val % 8) + r.val, by omega⟩ k) := by
  rw [read_pay7]
  unfold target5
  rw [show (fun q => acc m c (row t) 3 (ix2 r q)) = duAt m c ⟨512 * (t.val % 8) + r.val, by omega⟩ from funext fun q => acc_last m c (row t) r q,
    show (fun q => iblk m c 2 t (ix2 r q)) = fun q => arg2 m c (ix2 ⟨512 * (t.val % 8) + r.val, by omega⟩ q) from funext fun q => iblk2 m c t ht r q,
    show (fun q => iblk m c 3 t (ix2 0 q)) = fun q => arg3 m c (ix2 0 q) from funext fun q => iblk3 m c t 0 q,
    iblk4 m c t ht r k]
  rfl

/-- Where a point's block of window 5 lies in its array. -/
theorem mem_blk5 (t : Fin grid0.N) (ht : 24 ≤ t.val) (i : S4096x1024.Idx) :
    i ∈ ((cfg0.win 5).blk t).view.set ↔ (t.val % 8 * 512 ≤ (i 0).val ∧ (i 0).val < t.val % 8 * 512 + 512) ∧ (0 * 1024 ≤ (i 1).val ∧ (i 1).val < 0 * 1024 + 1024) := by
  show i ∈ ((View.whole main_v2_0).slice (win0_5.rect t)).set ↔ _
  rw [View.set_slice_whole, Rect.mem_set_unit]
  have e := idx5 t ht
  have x := xsz5 t
  refine ⟨fun h => ⟨?_, ?_⟩, fun h a => ?_⟩
  · have : win0_5.index t 0 * 512 ≤ (i 0).val ∧ (i 0).val < win0_5.index t 0 * 512 + win0_5.xsize (grid0.coords t) 0 := h 0
    rwa [e.1, x.1] at this
  · have : win0_5.index t 1 * 1024 ≤ (i 1).val ∧ (i 1).val < win0_5.index t 1 * 1024 + win0_5.xsize (grid0.coords t) 1 := h 1
    rwa [e.2, x.2] at this
  · match a with
    | ⟨0, _⟩ =>
      show win0_5.index t 0 * 512 ≤ (i 0).val ∧ (i 0).val < win0_5.index t 0 * 512 + win0_5.xsize (grid0.coords t) 0
      rw [e.1, x.1]; exact h.1
    | ⟨1, _⟩ =>
      show win0_5.index t 1 * 1024 ≤ (i 1).val ∧ (i 1).val < win0_5.index t 1 * 1024 + win0_5.xsize (grid0.coords t) 1
      rw [e.2, x.2]; exact h.2

/-- What a point writes to window 5. -/
theorem flushed_read5 (c : Dev nD) (t : Fin grid0.N) (ht : 24 ≤ t.val) :
    (dats m 0 c).flushed 5 t = ((cfg0.win 5).blk t).view.read (Elt Ideal) (target5 m c) := by
  funext y
  have e := idx5 t ht
  have x := xsz5 t
  have h0 : (y 0).val < 512 := x.1 ▸ (y 0).isLt
  have h1 : (y 1).val < 1024 := x.2 ▸ (y 1).isLt
  have hj : (cfg0.win 5).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  have hi : ((cfg0.win 5).blk t).view.emb y = (ix2 (⟨512 * (t.val % 8) + (y 0).val, by omega⟩) (⟨(y 1).val, h1⟩) : S4096x1024.Idx) := by
    funext a; apply Fin.ext
    match a with
    | ⟨0, _⟩ => show win0_5.index t 0 * 512 + 1 * (y 0).val = 512 * (t.val % 8) + (y 0).val; rw [e.1]; omega
    | ⟨1, _⟩ => show win0_5.index t 1 * 1024 + 1 * (y 1).val = (y 1).val; rw [e.2]; omega
  show (dats m 0 c).after 5 t ((cfg0.win 5).xinj (grid0.coords t) y) = _
  rw [after0_5]
  refine (congrArg (k0_pay7 (F := Ideal) (acc m c (row t) 3) (iblk m c 2 t) (iblk m c 3 t) (iblk m c 4 t)) hj).trans ?_
  exact (dx_read m c t ht _ _).trans (congrArg (target5 m c) hi).symm

theorem final5 (c : Dev nD) : (dats m 0 c).arrAt 5 cfg0.N = target5 m c := by
  refine (dats m 0 c).arrAt_eq_of_cover 5 _ (fun t hf => flushed_read5 m c t ?_) fun i => ?_
  · by_contra hlt
    exact absurd (noflush5 t (by omega)) (by rw [hf]; exact Bool.noConfusion)
  · change S4096x1024.Idx at i
    have hr : (i 0).val < 4096 := (i 0).isLt
    have hc : (i 1).val < 1024 := (i 1).isLt
    refine ⟨(⟨24 + (i 0).val / 512, by show _ < 32; omega⟩ : Fin grid0.N), flush5 _ (by show 24 ≤ 24 + _; omega), ?_⟩
    rw [mem_blk5 _ (by show 24 ≤ 24 + _; omega)]
    dsimp only
    omega

/-- Where a point's block of window 6 lies in its array: all over it. -/
theorem mem_blk6 (t : Fin grid0.N) (i : S1x1024.Idx) : i ∈ ((cfg0.win 6).blk t).view.set := by
  show i ∈ ((View.whole main_v2_1).slice (win0_6.rect t)).set
  rw [View.set_slice_whole, Rect.mem_set_unit]
  have e := idx6 t
  have x := xsz6 t
  have hr : (i 0).val < 1 := (i 0).isLt
  have hc : (i 1).val < 1024 := (i 1).isLt
  intro a
  match a with
  | ⟨0, _⟩ =>
    show win0_6.index t 0 * 1 ≤ (i 0).val ∧ (i 0).val < win0_6.index t 0 * 1 + win0_6.xsize (grid0.coords t) 0
    rw [e.1, x.1]; omega
  | ⟨1, _⟩ =>
    show win0_6.index t 1 * 1024 ≤ (i 1).val ∧ (i 1).val < win0_6.index t 1 * 1024 + win0_6.xsize (grid0.coords t) 1
    rw [e.2, x.2]; omega

/-- What the last point writes to window 6. -/
theorem flushed_read6 (c : Dev nD) (t : Fin grid0.N) (ht : t.val = 31) :
    (dats m 0 c).flushed 6 t = ((cfg0.win 6).blk t).view.read (Elt Ideal) (target6 m c) := by
  funext y
  have e := idx6 t
  have x := xsz6 t
  have h0 : (y 0).val < 1 := lt_of_lt_of_eq (y 0).isLt x.1
  have h1 : (y 1).val < 1024 := x.2 ▸ (y 1).isLt
  have hj : (cfg0.win 6).xinj (grid0.coords t) y = ix2 (0 : Fin 1) (⟨(y 1).val, h1⟩ : Fin 1024) := by
    funext a; apply Fin.ext
    match a with
    | ⟨0, _⟩ => show (y 0).val = 0; omega
    | ⟨1, _⟩ => rfl
  have hi : ((cfg0.win 6).blk t).view.emb y = (ix2 (0 : Fin 1) (⟨(y 1).val, h1⟩ : Fin 1024) : S1x1024.Idx) := by
    funext a; apply Fin.ext
    match a with
    | ⟨0, _⟩ => show win0_6.index t 0 * 1 + 1 * (y 0).val = 0; rw [e.1]; omega
    | ⟨1, _⟩ => show win0_6.index t 1 * 1024 + 1 * (y 1).val = (y 1).val; rw [e.2]; omega
  show (dats m 0 c).after 6 t ((cfg0.win 6).xinj (grid0.coords t) y) = _
  rw [after0_6, ht]
  refine (congrArg (dgAt m c 8) hj).trans ?_
  refine (dg_read m c _ 8 le_rfl).trans (Eq.trans ?_ (congrArg (target6 m c) hi).symm)
  exact sum_ext (dgf m c ⟨(y 1).val, h1⟩)

theorem final6 (c : Dev nD) : (dats m 0 c).arrAt 6 cfg0.N = target6 m c :=
  (dats m 0 c).arrAt_eq_of_cover 6 _ (fun t hf => flushed_read6 m c t ((flush6 t).mp hf)) fun i =>
    ⟨(⟨31, by show 31 < 32; omega⟩ : Fin grid0.N), (flush6 _).mpr rfl, mem_blk6 _ i⟩
end

section
open Cert.RmspReferenceIdeal Cert.RmspReferenceIdeal.Gen Cert.RmspReferenceIdeal.Read

/-- The reference's product at an index, -/
theorem reference_du (x0 : FVec Ideal S4096x4096 .bf16) (x1 : FVec Ideal S1024x4096 .bf16) (t : Fin 4096) (k : Fin 1024) :
    val_main_v18 (F := Ideal) x0 x1 (ix2 t k) = ∑ p, x0 (ix2 t p) * x1 (ix2 k p) := by
  pointwise [val_main_v18, val_main_v0, val_main_v1]

/-- its mean of the squares, -/
theorem reference_mean (x2 : FVec Ideal S4096x1024 .f32) (t : Fin 4096) :
    val_main_v8 (F := Ideal) x2 (ix2 t 0) = mean (fun q => x2 (ix2 t q)) := by
  unfold mean
  pointwise [val_main_v8, val_main_v7, val_main_v6, val_main_v5, val_main_v4, val_main_v3, val_main_v2, val_main_cst, val_main_cst_0, val_main_cst_1]

/-- the inverse of its root, -/
theorem reference_rho (x2 : FVec Ideal S4096x1024 .f32) (t : Fin 4096) :
    val_main_v9 (F := Ideal) x2 (ix2 t 0) = rho (fun q => x2 (ix2 t q)) :=
  congrArg Ideal.rsqrt (reference_mean x2 t)

/-- the gain's gradient, -/
theorem reference6 (x0 : FVec Ideal S4096x4096 .bf16) (x1 : FVec Ideal S1024x4096 .bf16) (x2 : FVec Ideal S4096x1024 .f32) (k : Fin 1024) :
    val_main_v21 (F := Ideal) x0 x1 x2 (ix2 0 k)
      = ∑ t : Fin 4096, x2 (ix2 t k) * rho (fun q => x2 (ix2 t q)) * ∑ p, x0 (ix2 t p) * x1 (ix2 k p) := by
  refine Eq.trans (b := ∑ t : Fin 4096, x2 (ix2 t k) * val_main_v9 (F := Ideal) x2 (ix2 t 0) * val_main_v18 (F := Ideal) x0 x1 (ix2 t k)) ?_
    (Finset.sum_congr rfl fun t _ => by rw [reference_rho, reference_du])
  simp only [val_main_v21, val_main_v20, val_main_v19, val_main_v14, val_main_v13, val_main_cst_3]
  generalize val_main_v9 (F := Ideal) x2 = y
  generalize val_main_v18 (F := Ideal) x0 x1 = z
  pointwise []

/-- the factor of the rows, -/
theorem reference_factor (x0 : FVec Ideal S4096x4096 .bf16) (x1 : FVec Ideal S1024x4096 .bf16) (x2 : FVec Ideal S4096x1024 .f32) (x3 : FVec Ideal S1x1024 .f32) (t : Fin 4096) :
    val_main_v33 (F := Ideal) x0 x1 x2 x3 (ix1 t)
      = factor (fun q => ∑ p, x0 (ix2 t p) * x1 (ix2 q p)) (fun q => x2 (ix2 t q)) (fun q => x3 (ix2 0 q)) := by
  unfold factor
  refine Eq.trans (b := Ideal.div ((∑ q, x2 (ix2 t q) * (val_main_v18 (F := Ideal) x0 x1 (ix2 t q) * x3 (ix2 0 q)))
    * (Ideal.ofBits .f32 0xBF000000#32 * Ideal.div (val_main_v9 (F := Ideal) x2 (ix2 t 0)) (val_main_v8 (F := Ideal) x2 (ix2 t 0)))) (Ideal.ofBits .f32 0x44800000#32)) ?_
    (by rw [reference_rho, reference_mean]; simp only [reference_du])
  simp only [val_main_v33, val_main_v32, val_main_v31, val_main_v30, val_main_v26, val_main_v25, val_main_v24, val_main_v23, val_main_v22, val_main_v12, val_main_v11, val_main_v10, val_main_cst_2, val_main_cst_4, val_main_cst_5, val_main_cst_6]
  generalize val_main_v9 (F := Ideal) x2 = y
  generalize val_main_v8 (F := Ideal) x2 = w
  generalize val_main_v18 (F := Ideal) x0 x1 = z
  pointwise []
  exact Fin.sum_univ_one _

/-- and the rows' gradient. -/
theorem reference5 (x0 : FVec Ideal S4096x4096 .bf16) (x1 : FVec Ideal S1024x4096 .bf16) (x2 : FVec Ideal S4096x1024 .f32) (x3 : FVec Ideal S1x1024 .f32) (x4 : FVec Ideal S4096x1024 .f32) (t : Fin 4096) (k : Fin 1024) :
    val_main_v38 (F := Ideal) x0 x1 x2 x3 x4 (ix2 t k)
      = long (fun q => ∑ p, x0 (ix2 t p) * x1 (ix2 q p)) (fun q => x2 (ix2 t q)) (fun q => x3 (ix2 0 q)) (x4 (ix2 t k)) k := by
  unfold long
  refine Eq.trans (b := ((x4 (ix2 t k) + (val_main_v18 (F := Ideal) x0 x1 (ix2 t k) * x3 (ix2 0 k)) * val_main_v9 (F := Ideal) x2 (ix2 t 0))
    + x2 (ix2 t k) * val_main_v33 (F := Ideal) x0 x1 x2 x3 (ix1 t)) + val_main_v33 (F := Ideal) x0 x1 x2 x3 (ix1 t) * x2 (ix2 t k)) ?_
    (by rw [reference_rho, reference_factor, reference_du])
  simp only [val_main_v38, val_main_v37, val_main_v36, val_main_v35, val_main_v34, val_main_v29, val_main_v28, val_main_v27, val_main_v23, val_main_v22]
  generalize val_main_v9 (F := Ideal) x2 = y
  generalize val_main_v33 (F := Ideal) x0 x1 x2 x3 = w
  generalize val_main_v18 (F := Ideal) x0 x1 = z
  pointwise []
end

section
open Cert.RmspKernelIdeal Cert.RmspKernelIdeal.Gen

variable (m : (ℓ : Loc nD τ sig) → Buf (Elt Ideal) ℓ)

theorem meet5 (c : Dev nD) (h0 : ∀ i, (arg0 m c i : EReal) = ((EReal.toReal (arg0 m c i) : ℝ) : EReal))
    (h1 : ∀ i, (arg1 m c i : EReal) = ((EReal.toReal (arg1 m c i) : ℝ) : EReal)) (h2 : ∀ i, (arg2 m c i : EReal) = ((EReal.toReal (arg2 m c i) : ℝ) : EReal))
    (h3 : ∀ i, (arg3 m c i : EReal) = ((EReal.toReal (arg3 m c i) : ℝ) : EReal)) :
    target5 m c = Cert.RmspReferenceIdeal.Read.val_main_v38 (F := Ideal) (arg0 m c) (arg1 m c) (arg2 m c) (arg3 m c) (arg4 m c) := by
  have key : ∀ (a : Fin 4096) (b : Fin 1024), target5 m c (ix2 a b) = Cert.RmspReferenceIdeal.Read.val_main_v38 (F := Ideal) (arg0 m c) (arg1 m c) (arg2 m c) (arg3 m c) (arg4 m c) (ix2 a b) := by
    intro a b
    refine Eq.trans ?_ (reference5 _ _ _ _ _ a b).symm
    show short (duAt m c a) (fun q => arg2 m c (ix2 a q)) (fun q => arg3 m c (ix2 0 q)) (arg4 m c (ix2 a b)) b = _
    have e1 : duAt m c a = fun q => ((∑ p, EReal.toReal (arg0 m c (ix2 a p)) * EReal.toReal (arg1 m c (ix2 q p)) : ℝ) : EReal) :=
      funext fun q => Cert.SigMath.dot_real _ _ _ _ (fun p => h0 (ix2 a p)) (fun p => h1 (ix2 q p))
    have e1' : (fun q => ∑ p, arg0 m c (ix2 a p) * arg1 m c (ix2 q p)) = fun q => ((∑ p, EReal.toReal (arg0 m c (ix2 a p)) * EReal.toReal (arg1 m c (ix2 q p)) : ℝ) : EReal) := e1
    have e2 : (fun q => (arg2 m c (ix2 a q) : EReal)) = fun q => ((EReal.toReal (arg2 m c (ix2 a q)) : ℝ) : EReal) := funext fun q => h2 _
    have e3 : (fun q => (arg3 m c (ix2 0 q) : EReal)) = fun q => ((EReal.toReal (arg3 m c (ix2 0 q)) : ℝ) : EReal) := funext fun q => h3 _
    rw [e1, e1', e2, e3]
    exact short_eq_long _ _ _ _ _
  funext i
  change Cert.RmspKernelIdeal.S4096x1024.Idx at i
  idx_vars i
  exact key _ _

theorem meet6 (c : Dev nD) :
    target6 m c = Cert.RmspReferenceIdeal.Read.val_main_v21 (F := Ideal) (arg0 m c) (arg1 m c) (arg2 m c) := by
  have key : ∀ (b : Fin 1024), target6 m c (ix2 0 b) = Cert.RmspReferenceIdeal.Read.val_main_v21 (F := Ideal) (arg0 m c) (arg1 m c) (arg2 m c) (ix2 0 b) := by
    intro b
    refine Eq.trans ?_ (reference6 _ _ _ b).symm
    exact Finset.sum_congr rfl fun t _ => mul_comm _ _
  have key' : ∀ (a : Fin 1) (b : Fin 1024), target6 m c (ix2 a b) = Cert.RmspReferenceIdeal.Read.val_main_v21 (F := Ideal) (arg0 m c) (arg1 m c) (arg2 m c) (ix2 a b) := by
    intro a b
    rw [Subsingleton.elim a 0]
    exact key b
  funext i
  change Cert.RmspKernelIdeal.S1x1024.Idx at i
  idx_vars i
  exact key' _ _

/-- The equation of the two programs. -/
theorem algebraic : Cert.algebraic_RmspKernelIdeal_RmspReferenceIdeal_pre_rmsp_finite := by
  intro m g m' g' hpre hag
  refine ⟨fun c => Cert.RmspReferenceIdeal.Read.val_main_v38 (F := Ideal) (arg0 m c) (arg1 m c) (arg2 m c) (arg3 m c) (arg4 m c),
    fun c => Cert.RmspReferenceIdeal.Read.val_main_v21 (F := Ideal) (arg0 m c) (arg1 m c) (arg2 m c), ?_, ?_⟩
  · refine (θ_run _ _ _).mono (fun r h c => ?_) (θ_run_and (Cert.RmspIdealFrame.run_main (F := Ideal) m g) (Cert.RmspIdealFrame.frame (F := Ideal) m g))
    obtain ⟨h0, h1, h2, h3⟩ := finite _ _ _ _ _ (hpre c)
    refine ⟨((h.1 c).1 5).trans ((final5 m c).trans (meet5 m c h0 h1 h2 h3)), ((h.1 c).1 6).trans ((final6 m c).trans (meet6 m c)), h.2.1 c⟩
  · refine (θ_run _ _ _).mono (fun r h c => ?_) (Cert.RmspReferenceIdeal.Value.run (F := Ideal) m' g')
    obtain ⟨e0, e1, e2, e3, e4⟩ := hag c
    refine ⟨(h c).1.trans ?_, (h c).2.1.trans ?_, (h c).2.2⟩
    · exact (Cert.RmspReferenceIdeal.Read.val_main_v38_eq (F := Ideal) _ _).trans
        (congr (congr (congr (congr (congrArg (Cert.RmspReferenceIdeal.Read.val_main_v38 (F := Ideal)) e0) e1) e2) e3) e4)
    · exact (Cert.RmspReferenceIdeal.Read.val_main_v21_eq (F := Ideal) _ _ _).trans
        (congr (congr (congrArg (Cert.RmspReferenceIdeal.Read.val_main_v21 (F := Ideal)) e0) e1) e2)
end

end Cert.RmspClaim

end
-- ==== Proof.HeadMath.lean ====
/- The loss head of a row: its error, its loss and the gradients, and the constants in them. -/
module

public import proofs.«01_k».proof.Proof.RmsMath

@[expose] public section

noncomputable section

namespace Cert.HeadMath

open Idealize.ShloMosaic Cert.SigMath Cert.RmsMath

/-- The error of a normed row `x` with the gain `g` against its target, -/
def dl (x g w : Fin 1024 → EReal) (k : Fin 1024) : EReal := x k * rho x * g k - w k

/-- the mean of its squares, -/
def rloss (x g w : Fin 1024 → EReal) : EReal := Ideal.div (∑ k, dl x g w k * dl x g w k) (Ideal.ofBits .f32 0x44800000#32)

/-- the gradient of half of that mean, -/
def du (x g w : Fin 1024 → EReal) (k : Fin 1024) : EReal := dl x g w k * Ideal.ofBits .f32 0x3A800000#32

/-- and what the row gives to the gain's gradient. -/
def gterm (x g w : Fin 1024 → EReal) (k : Fin 1024) : EReal := du x g w k * (x k * rho x)

/-- One half. -/
def halfc : EReal := Ideal.ofBits .f32 0x3F000000#32

theorem halfc_eq : halfc = ((1 / 2 : ℝ) : EReal) := by
  unfold halfc
  simp [Ideal.ofBits, Ideal.ieee, -EReal.coe_mul]
  norm_num

theorem cinv : Ideal.ofBits .f32 0x3A800000#32 = ((1 / 1024 : ℝ) : EReal) := by
  simp [Ideal.ofBits, Ideal.ieee, -EReal.coe_mul]
  norm_num

theorem ctwo : Ideal.ofBits .f32 0x40000000#32 = ((2 : ℝ) : EReal) := by
  simp [Ideal.ofBits, Ideal.ieee, -EReal.coe_mul]
  norm_num

theorem cone : Ideal.ofBits .f32 0x3F800000#32 = ((1 : ℝ) : EReal) := by
  simp [Ideal.ofBits, Ideal.ieee, -EReal.coe_mul]
  norm_num

/-- One half times a sum. -/
theorem half_sum {ι : Type} (s : Finset ι) (f : ι → EReal) : halfc * ∑ i ∈ s, f i = ∑ i ∈ s, halfc * f i := by
  classical
  have h0 : (0 : EReal) ≤ halfc := by rw [halfc_eq]; exact EReal.coe_nonneg.mpr (by norm_num)
  have h1 : halfc ≠ ⊤ := by rw [halfc_eq]; exact EReal.coe_ne_top _
  induction s using Finset.induction_on with
  | empty => simp
  | insert a s ha ih => rw [Finset.sum_insert ha, Finset.sum_insert ha, EReal.left_distrib_of_nonneg_of_ne_top h0 h1, ih]

/-- The gradient as the rules of differentiation give it. -/
theorem du_ref (v : EReal) :
    Ideal.div (halfc * Ideal.ofBits .f32 0x3F800000#32) (Ideal.ofBits .f32 0x44800000#32) * (Ideal.ofBits .f32 0x40000000#32 * v)
      = v * Ideal.ofBits .f32 0x3A800000#32 := by
  rw [halfc_eq, cone, c1024, ctwo, cinv, Ideal.div_coe (by norm_num), ← mul_assoc, mul_comm v]
  simp only [← EReal.coe_mul]
  refine congrArg (fun x : ℝ => (x : EReal) * v) ?_
  norm_num

theorem rho_real (h : Fin 1024 → ℝ) : ∃ r : ℝ, rho (fun p => (h p : EReal)) = (r : EReal) := by
  obtain ⟨a, ha, hA⟩ := mean_real h
  refine ⟨(Real.sqrt a)⁻¹, ?_⟩
  unfold rho
  rw [hA, Ideal.rsqrt_coe, if_neg ha.le.not_gt, if_neg ha.ne']

theorem du_real (x g w : Fin 1024 → ℝ) :
    ∃ d : Fin 1024 → ℝ, du (fun k => (x k : EReal)) (fun k => (g k : EReal)) (fun k => (w k : EReal)) = fun k => (d k : EReal) := by
  obtain ⟨r, hr⟩ := rho_real x
  refine ⟨fun k => (x k * r * g k - w k) * (1 / 1024), funext fun k => ?_⟩
  unfold du dl
  rw [hr, cinv]
  simp only [← EReal.coe_mul, ← EReal.coe_sub]

/-- The rows' gradient in its two forms. -/
theorem meet (x g w : Fin 1024 → EReal) (hx : ∃ a : Fin 1024 → ℝ, x = fun k => (a k : EReal)) (hg : ∃ a : Fin 1024 → ℝ, g = fun k => (a k : EReal))
    (hw : ∃ a : Fin 1024 → ℝ, w = fun k => (a k : EReal)) (k : Fin 1024) : short (du x g w) x g 0 k = long (du x g w) x g 0 k := by
  obtain ⟨a, rfl⟩ := hx
  obtain ⟨b, rfl⟩ := hg
  obtain ⟨d, rfl⟩ := hw
  obtain ⟨e, he⟩ := du_real a b d
  rw [he]
  exact short_eq_long e a b 0 k

end Cert.HeadMath

end
-- ==== Proof.HeadBlock.lean ====
/- What a point of the loss head's kernel stores, at an index. -/
module

public import Idealize.ShloMosaic.Lib.Pointwise
public import Idealize.ShloMosaic.Lib.Pipeline.ValueKit.Acc
public import proofs.«01_k».proof.Proof.Gen.HeadKernelIdeal.Value
public import proofs.«01_k».proof.Proof.HeadMath

@[expose] public section

noncomputable section

namespace Cert.HeadBlock

open Cert.HeadKernelIdeal Cert.HeadKernelIdeal.Gen Idealize.ShloMosaic Cert.RmsMath Cert.HeadMath

set_option maxRecDepth 16384

/-! ## 256 rows -/

/-- A row of the product with the residual added. -/
def rowOf (v8 : FVec Ideal S256x1024 .f32) (v9 : FVec Ideal S256x2048 .bf16) (v10 : FVec Ideal S2048x1024 .bf16) (a : Fin 256) (k : Fin 1024) : EReal :=
  v8 (ix2 a k) + ∑ q : Fin 2048, v9 (ix2 a q) * v10 (ix2 q k)

section
variable (v3 : FVec Ideal S1x1024 .f32) (v8 v25 : FVec Ideal S256x1024 .f32) (v9 : FVec Ideal S256x2048 .bf16) (v10 : FVec Ideal S2048x1024 .bf16)

theorem pay5_at (a : Fin 256) (k : Fin 1024) : k0_pay5 (F := Ideal) v8 v9 v10 (ix2 a k) = rowOf v8 v9 v10 a k := by
  unfold rowOf
  pointwise [k0_pay5]

theorem pay6_at (a : Fin 256) : k0_pay6 (F := Ideal) v8 v9 v10 (ix2 a (0 : Fin 1)) = rho (rowOf v8 v9 v10 a) := by
  have e : rowOf v8 v9 v10 a = fun k => k0_pay5 (F := Ideal) v8 v9 v10 (ix2 a k) := funext fun k => (pay5_at v8 v9 v10 a k).symm
  rw [e]
  unfold rho mean
  pointwise [k0_pay6]

theorem pay7_at (a : Fin 256) (k : Fin 1024) : k0_pay7 (F := Ideal) v8 v9 v10 (ix2 a k) = rowOf v8 v9 v10 a k * rho (rowOf v8 v9 v10 a) := by
  rw [← pay6_at, ← pay5_at]
  pointwise [k0_pay7]

/-- The gain and the target's row. -/
abbrev gain (v3 : FVec Ideal S1x1024 .f32) : Fin 1024 → EReal := fun q => v3 (ix2 (0 : Fin 1) q)
abbrev goal (v25 : FVec Ideal S256x1024 .f32) (a : Fin 256) : Fin 1024 → EReal := fun q => v25 (ix2 a q)

theorem pay8_at (a : Fin 256) (k : Fin 1024) :
    k0_pay8 (F := Ideal) v3 v8 v9 v10 v25 (ix2 a k) = dl (rowOf v8 v9 v10 a) (gain v3) (goal v25 a) k := by
  unfold dl
  rw [← pay7_at]
  pointwise [k0_pay8]

theorem pay9_at : k0_pay9 (F := Ideal) v3 v8 v9 v10 v25 (ix2 (0 : Fin 1) (0 : Fin 1)) = ∑ a : Fin 256, rloss (rowOf v8 v9 v10 a) (gain v3) (goal v25 a) := by
  refine Eq.trans (b := ∑ a : Fin 256, Ideal.div (∑ k : Fin 1024, k0_pay8 (F := Ideal) v3 v8 v9 v10 v25 (ix2 a k) * k0_pay8 (F := Ideal) v3 v8 v9 v10 v25 (ix2 a k)) (Ideal.ofBits .f32 0x44800000#32))
    (by pointwise [k0_pay9]) (Finset.sum_congr rfl fun a _ => ?_)
  unfold rloss
  simp only [pay8_at]

theorem pay10_at (v7 : FVec Ideal S1x128 .f32) (v33 : FVec Ideal S1x1 .f32) (l : Fin 128) :
    k0_pay10 (F := Ideal) v7 v33 (FloatOps.ofBits FTy.f32 1056964608#32) (ix2 (0 : Fin 1) l) = v7 (ix2 (0 : Fin 1) l) + halfc * v33 (ix2 (0 : Fin 1) (0 : Fin 1)) := by
  unfold halfc
  pointwise [k0_pay10]

theorem pay12_at (v5 : FVec Ideal S1x1024 .f32) (v22 v26 : FVec Ideal S256x1024 .f32) (k : Fin 1024) :
    k0_pay12 (F := Ideal) v5 v22 v26 (ix2 (0 : Fin 1) k) = v5 (ix2 (0 : Fin 1) k) + ∑ a : Fin 256, (v26 (ix2 a k) * Ideal.ofBits .f32 0x3A800000#32) * v22 (ix2 a k) := by
  pointwise [k0_pay12, k0_pay11]

theorem pay13_at (v20 : FVec Ideal S256x1 .f32) (v22 v26 : FVec Ideal S256x1024 .f32) (a : Fin 256) (k : Fin 1024) :
    k0_pay13 (F := Ideal) v3 v20 v22 v26 (ix2 a k)
      = v20 (ix2 a (0 : Fin 1)) * ((v26 (ix2 a k) * Ideal.ofBits .f32 0x3A800000#32) * v3 (ix2 (0 : Fin 1) k)
        - v22 (ix2 a k) * Ideal.div (∑ q : Fin 1024, ((v26 (ix2 a q) * Ideal.ofBits .f32 0x3A800000#32) * v3 (ix2 (0 : Fin 1) q)) * v22 (ix2 a q)) (Ideal.ofBits .f32 0x44800000#32)) := by
  pointwise [k0_pay13, k0_pay11]

/-- The rows' gradient, -/
theorem dh_at (a : Fin 256) (k : Fin 1024) :
    k0_pay13 (F := Ideal) v3 (k0_pay6 v8 v9 v10) (k0_pay7 v8 v9 v10) (k0_pay8 v3 v8 v9 v10 v25) (ix2 a k)
      = short (du (rowOf v8 v9 v10 a) (gain v3) (goal v25 a)) (rowOf v8 v9 v10 a) (gain v3) 0 k := by
  refine (pay13_at _ _ _ _ _ _).trans ?_
  simp only [pay6_at, pay7_at, pay8_at]
  unfold short du
  rw [zero_add]

/-- what the rows add to the gain's gradient, -/
theorem dg_at (w : FVec Ideal S1x1024 .f32) (k : Fin 1024) :
    k0_pay12 (F := Ideal) w (k0_pay7 v8 v9 v10) (k0_pay8 v3 v8 v9 v10 v25) (ix2 (0 : Fin 1) k)
      = w (ix2 (0 : Fin 1) k) + ∑ a : Fin 256, gterm (rowOf v8 v9 v10 a) (gain v3) (goal v25 a) k := by
  refine (pay12_at _ _ _ _).trans (congrArg (w (ix2 (0 : Fin 1) k) + ·) (Finset.sum_congr rfl fun a _ => ?_))
  rw [pay7_at, pay8_at]
  rfl

/-- and to the loss. -/
theorem ls_at (w : FVec Ideal S1x128 .f32) (l : Fin 128) :
    k0_pay10 (F := Ideal) w (k0_pay9 v3 v8 v9 v10 v25) (FloatOps.ofBits FTy.f32 1056964608#32) (ix2 (0 : Fin 1) l)
      = w (ix2 (0 : Fin 1) l) + ∑ a : Fin 256, halfc * rloss (rowOf v8 v9 v10 a) (gain v3) (goal v25 a) := by
  refine (pay10_at _ _ _).trans (congrArg (w (ix2 (0 : Fin 1) l) + ·) ?_)
  rw [pay9_at, half_sum]
end

/-! ## A point's 512 rows -/

/-- A row of the product with the residual added, and the target's row. -/
def hrow (u0 : FVec Ideal S512x2048 .bf16) (u1 : FVec Ideal S2048x1024 .bf16) (u2 : FVec Ideal S512x1024 .f32) (a : Fin 512) (k : Fin 1024) : EReal :=
  u2 (ix2 a k) + ∑ q : Fin 2048, u0 (ix2 a q) * u1 (ix2 q k)

abbrev trow (u4 : FVec Ideal S512x1024 .f32) (a : Fin 512) : Fin 1024 → EReal := fun q => u4 (ix2 a q)

/-- The rows from 0 on. -/
abbrev R0 : Rect S512x1024 := Rect.unit ![0, 0] ![256, 1024] inb_S512x1024_S256x1024_0_0
abbrev Q0 : Rect S512x2048 := Rect.unit ![0, 0] ![256, 2048] inb_S512x2048_S256x2048_0_0

theorem emb0 (a : Fin 256) (b : Fin 1024) : R0.emb (ix2 a b) = (ix2 (⟨0 + a.val, by omega⟩ : Fin 512) b : S512x1024.Idx) := by
  funext k; apply Fin.ext
  match k with
  | ⟨0, _⟩ => show 0 + 1 * a.val = 0 + a.val; omega
  | ⟨1, _⟩ => show 0 + 1 * b.val = b.val; omega

theorem embq0 (a : Fin 256) (b : Fin 2048) : Q0.emb (ix2 a b) = (ix2 (⟨0 + a.val, by omega⟩ : Fin 512) b : S512x2048.Idx) := by
  funext k; apply Fin.ext
  match k with
  | ⟨0, _⟩ => show 0 + 1 * a.val = 0 + a.val; omega
  | ⟨1, _⟩ => show 0 + 1 * b.val = b.val; omega

theorem ld0 (x : FVec Ideal S512x1024 .f32) (a : Fin 256) (b : Fin 1024) :
    View.ld (Val := Elt Ideal) (e' := .f32) x R0 (ix2 a b) = x (ix2 ⟨0 + a.val, by omega⟩ b) := congrArg x (emb0 a b)

theorem ldq0 (x : FVec Ideal S512x2048 .bf16) (a : Fin 256) (b : Fin 2048) :
    View.ld (Val := Elt Ideal) (e' := .bf16) x Q0 (ix2 a b) = x (ix2 ⟨0 + a.val, by omega⟩ b) := congrArg x (embq0 a b)

theorem row0 (u0 : FVec Ideal S512x2048 .bf16) (u1 : FVec Ideal S2048x1024 .bf16) (u2 : FVec Ideal S512x1024 .f32) (a : Fin 256) :
    rowOf (View.ld (Val := Elt Ideal) (e' := .f32) u2 R0) (View.ld (Val := Elt Ideal) (e' := .bf16) u0 Q0) u1 a = hrow u0 u1 u2 ⟨0 + a.val, by omega⟩ := by
  funext k
  exact congrArg₂ (fun p q : EReal => p + q) (ld0 u2 a k) (Finset.sum_congr rfl fun q _ => congrArg (fun x : EReal => x * u1 (ix2 q k)) (ldq0 u0 a q))

theorem goal0 (u4 : FVec Ideal S512x1024 .f32) (a : Fin 256) :
    goal (View.ld (Val := Elt Ideal) (e' := .f32) u4 R0) a = trow u4 ⟨0 + a.val, by omega⟩ := funext fun k => ld0 u4 a k

/-- The rows from 256 on. -/
abbrev R256 : Rect S512x1024 := Rect.unit ![256, 0] ![256, 1024] inb_S512x1024_S256x1024_256_0
abbrev Q256 : Rect S512x2048 := Rect.unit ![256, 0] ![256, 2048] inb_S512x2048_S256x2048_256_0

theorem emb256 (a : Fin 256) (b : Fin 1024) : R256.emb (ix2 a b) = (ix2 (⟨256 + a.val, by omega⟩ : Fin 512) b : S512x1024.Idx) := by
  funext k; apply Fin.ext
  match k with
  | ⟨0, _⟩ => show 256 + 1 * a.val = 256 + a.val; omega
  | ⟨1, _⟩ => show 0 + 1 * b.val = b.val; omega

theorem embq256 (a : Fin 256) (b : Fin 2048) : Q256.emb (ix2 a b) = (ix2 (⟨256 + a.val, by omega⟩ : Fin 512) b : S512x2048.Idx) := by
  funext k; apply Fin.ext
  match k with
  | ⟨0, _⟩ => show 256 + 1 * a.val = 256 + a.val; omega
  | ⟨1, _⟩ => show 0 + 1 * b.val = b.val; omega

theorem ld256 (x : FVec Ideal S512x1024 .f32) (a : Fin 256) (b : Fin 1024) :
    View.ld (Val := Elt Ideal) (e' := .f32) x R256 (ix2 a b) = x (ix2 ⟨256 + a.val, by omega⟩ b) := congrArg x (emb256 a b)

theorem ldq256 (x : FVec Ideal S512x2048 .bf16) (a : Fin 256) (b : Fin 2048) :
    View.ld (Val := Elt Ideal) (e' := .bf16) x Q256 (ix2 a b) = x (ix2 ⟨256 + a.val, by omega⟩ b) := congrArg x (embq256 a b)

theorem row256 (u0 : FVec Ideal S512x2048 .bf16) (u1 : FVec Ideal S2048x1024 .bf16) (u2 : FVec Ideal S512x1024 .f32) (a : Fin 256) :
    rowOf (View.ld (Val := Elt Ideal) (e' := .f32) u2 R256) (View.ld (Val := Elt Ideal) (e' := .bf16) u0 Q256) u1 a = hrow u0 u1 u2 ⟨256 + a.val, by omega⟩ := by
  funext k
  exact congrArg₂ (fun p q : EReal => p + q) (ld256 u2 a k) (Finset.sum_congr rfl fun q _ => congrArg (fun x : EReal => x * u1 (ix2 q k)) (ldq256 u0 a q))

theorem goal256 (u4 : FVec Ideal S512x1024 .f32) (a : Fin 256) :
    goal (View.ld (Val := Elt Ideal) (e' := .f32) u4 R256) a = trow u4 ⟨256 + a.val, by omega⟩ := funext fun k => ld256 u4 a k

/-- The block of the rows' gradient. -/
def dhAt (u0 : FVec Ideal S512x2048 .bf16) (u1 : FVec Ideal S2048x1024 .bf16) (u2 : FVec Ideal S512x1024 .f32) (u3 : FVec Ideal S1x1024 .f32) (u4 : FVec Ideal S512x1024 .f32) (a : Fin 512) (k : Fin 1024) : EReal :=
  short (du (hrow u0 u1 u2 a) (gain u3) (trow u4 a)) (hrow u0 u1 u2 a) (gain u3) 0 k

def dh5 (u0 : FVec Ideal S512x2048 .bf16) (u1 : FVec Ideal S2048x1024 .bf16) (u2 : FVec Ideal S512x1024 .f32) (u3 : FVec Ideal S1x1024 .f32) (u4 : FVec Ideal S512x1024 .f32) : FVec Ideal S512x1024 .f32 := fun i => dhAt u0 u1 u2 u3 u4 (i 0) (i 1)

def dh8 (u0 : FVec Ideal S512x2048 .bf16) (u1 : FVec Ideal S2048x1024 .bf16) (u2 : FVec Ideal S512x1024 .f32) (u3 : FVec Ideal S1x1024 .f32) (u4 : FVec Ideal S512x1024 .f32) : FVec Ideal S512x1024 .bf16 := fun i => dhAt u0 u1 u2 u3 u4 (i 0) (i 1)

theorem dhb0 (u0 : FVec Ideal S512x2048 .bf16) (u1 : FVec Ideal S2048x1024 .bf16) (u2 : FVec Ideal S512x1024 .f32) (u3 : FVec Ideal S1x1024 .f32) (u4 : FVec Ideal S512x1024 .f32) (a : Fin 256) (k : Fin 1024) :
    k0_pay13 (F := Ideal) u3 (k0_pay6 (View.ld (Val := Elt Ideal) (e' := .f32) u2 R0) (View.ld (Val := Elt Ideal) (e' := .bf16) u0 Q0) u1) (k0_pay7 (View.ld (Val := Elt Ideal) (e' := .f32) u2 R0) (View.ld (Val := Elt Ideal) (e' := .bf16) u0 Q0) u1) (k0_pay8 u3 (View.ld (Val := Elt Ideal) (e' := .f32) u2 R0) (View.ld (Val := Elt Ideal) (e' := .bf16) u0 Q0) u1 (View.ld (Val := Elt Ideal) (e' := .f32) u4 R0)) (ix2 a k) = dhAt u0 u1 u2 u3 u4 ⟨0 + a.val, by omega⟩ k := by
  refine (dh_at u3 (View.ld (Val := Elt Ideal) (e' := .f32) u2 R0) (View.ld (Val := Elt Ideal) (e' := .f32) u4 R0) (View.ld (Val := Elt Ideal) (e' := .bf16) u0 Q0) u1 a k).trans ?_
  unfold dhAt
  rw [row0, goal0]

theorem dhb256 (u0 : FVec Ideal S512x2048 .bf16) (u1 : FVec Ideal S2048x1024 .bf16) (u2 : FVec Ideal S512x1024 .f32) (u3 : FVec Ideal S1x1024 .f32) (u4 : FVec Ideal S512x1024 .f32) (a : Fin 256) (k : Fin 1024) :
    k0_pay22 (F := Ideal) u3 (k0_pay16 (View.ld (Val := Elt Ideal) (e' := .f32) u2 R256) (View.ld (Val := Elt Ideal) (e' := .bf16) u0 Q256) u1) (k0_pay17 (View.ld (Val := Elt Ideal) (e' := .f32) u2 R256) (View.ld (Val := Elt Ideal) (e' := .bf16) u0 Q256) u1) (View.ld (Val := Elt Ideal) (e' := .f32) u4 R256) (ix2 a k) = dhAt u0 u1 u2 u3 u4 ⟨256 + a.val, by omega⟩ k := by
  refine (dh_at u3 (View.ld (Val := Elt Ideal) (e' := .f32) u2 R256) (View.ld (Val := Elt Ideal) (e' := .f32) u4 R256) (View.ld (Val := Elt Ideal) (e' := .bf16) u0 Q256) u1 a k).trans ?_
  unfold dhAt
  rw [row256, goal256]

theorem out5 (u0 : FVec Ideal S512x2048 .bf16) (u1 : FVec Ideal S2048x1024 .bf16) (u2 : FVec Ideal S512x1024 .f32) (u3 : FVec Ideal S1x1024 .f32) (u4 : FVec Ideal S512x1024 .f32) :
    View.canon (Val := Elt Ideal) (s := S512x1024) (e := .f32) [⟨R256, k0_pay22 (F := Ideal) u3 (k0_pay16 (View.ld (Val := Elt Ideal) (e' := .f32) u2 R256) (View.ld (Val := Elt Ideal) (e' := .bf16) u0 Q256) u1) (k0_pay17 (View.ld (Val := Elt Ideal) (e' := .f32) u2 R256) (View.ld (Val := Elt Ideal) (e' := .bf16) u0 Q256) u1) (View.ld (Val := Elt Ideal) (e' := .f32) u4 R256)⟩,
      ⟨R0, k0_pay13 (F := Ideal) u3 (k0_pay6 (View.ld (Val := Elt Ideal) (e' := .f32) u2 R0) (View.ld (Val := Elt Ideal) (e' := .bf16) u0 Q0) u1) (k0_pay7 (View.ld (Val := Elt Ideal) (e' := .f32) u2 R0) (View.ld (Val := Elt Ideal) (e' := .bf16) u0 Q0) u1) (k0_pay8 u3 (View.ld (Val := Elt Ideal) (e' := .f32) u2 R0) (View.ld (Val := Elt Ideal) (e' := .bf16) u0 Q0) u1 (View.ld (Val := Elt Ideal) (e' := .f32) u4 R0))⟩] = dh5 u0 u1 u2 u3 u4 := by
  funext y
  refine View.canon_apply_of_pieces (Val := Elt Ideal) (e := .f32) (dh5 u0 u1 u2 u3 u4) _ (fun p hp => ?_) y ?_
  · rcases List.mem_cons.mp hp with rfl | hp
    · intro x
      change S256x1024.Idx at x
      idx_vars x
      exact (dhb256 u0 u1 u2 u3 u4 _ _).trans (congrArg (dh5 u0 u1 u2 u3 u4) (emb256 _ _)).symm
    rcases List.mem_cons.mp hp with rfl | hp
    · intro x
      change S256x1024.Idx at x
      idx_vars x
      exact (dhb0 u0 u1 u2 u3 u4 _ _).trans (congrArg (dh5 u0 u1 u2 u3 u4) (emb0 _ _)).symm
    · exact absurd hp List.not_mem_nil
  · have h0 : (y 0).val < 512 := (y 0).isLt
    have h1 : (y 1).val < 1024 := (y 1).isLt
    by_cases hy : (y 0).val < 256
    · refine ⟨_, List.mem_cons_of_mem _ (List.mem_cons_self ..), ?_⟩
      show y ∈ R0.set
      rw [Rect.mem_set_unit]
      intro a
      match a with
      | ⟨0, _⟩ => exact ⟨Nat.zero_le _, hy⟩
      | ⟨1, _⟩ => exact ⟨Nat.zero_le _, h1⟩
    · refine ⟨_, List.mem_cons_self .., ?_⟩
      show y ∈ R256.set
      rw [Rect.mem_set_unit]
      intro a
      match a with
      | ⟨0, _⟩ => exact ⟨by show 256 ≤ (y 0).val; omega, h0⟩
      | ⟨1, _⟩ => exact ⟨Nat.zero_le _, h1⟩

theorem out8 (u0 : FVec Ideal S512x2048 .bf16) (u1 : FVec Ideal S2048x1024 .bf16) (u2 : FVec Ideal S512x1024 .f32) (u3 : FVec Ideal S1x1024 .f32) (u4 : FVec Ideal S512x1024 .f32) :
    View.canon (Val := Elt Ideal) (s := S512x1024) (e := .bf16) [⟨R256, k0_pay23 (F := Ideal) u3 (k0_pay16 (View.ld (Val := Elt Ideal) (e' := .f32) u2 R256) (View.ld (Val := Elt Ideal) (e' := .bf16) u0 Q256) u1) (k0_pay17 (View.ld (Val := Elt Ideal) (e' := .f32) u2 R256) (View.ld (Val := Elt Ideal) (e' := .bf16) u0 Q256) u1) (View.ld (Val := Elt Ideal) (e' := .f32) u4 R256)⟩,
      ⟨R0, k0_pay14 (F := Ideal) u3 (k0_pay6 (View.ld (Val := Elt Ideal) (e' := .f32) u2 R0) (View.ld (Val := Elt Ideal) (e' := .bf16) u0 Q0) u1) (k0_pay7 (View.ld (Val := Elt Ideal) (e' := .f32) u2 R0) (View.ld (Val := Elt Ideal) (e' := .bf16) u0 Q0) u1) (k0_pay8 u3 (View.ld (Val := Elt Ideal) (e' := .f32) u2 R0) (View.ld (Val := Elt Ideal) (e' := .bf16) u0 Q0) u1 (View.ld (Val := Elt Ideal) (e' := .f32) u4 R0))⟩] = dh8 u0 u1 u2 u3 u4 := by
  funext y
  refine View.canon_apply_of_pieces (Val := Elt Ideal) (e := .bf16) (dh8 u0 u1 u2 u3 u4) _ (fun p hp => ?_) y ?_
  · rcases List.mem_cons.mp hp with rfl | hp
    · intro x
      change S256x1024.Idx at x
      idx_vars x
      exact (dhb256 u0 u1 u2 u3 u4 _ _).trans (congrArg (dh8 u0 u1 u2 u3 u4) (emb256 _ _)).symm
    rcases List.mem_cons.mp hp with rfl | hp
    · intro x
      change S256x1024.Idx at x
      idx_vars x
      exact (dhb0 u0 u1 u2 u3 u4 _ _).trans (congrArg (dh8 u0 u1 u2 u3 u4) (emb0 _ _)).symm
    · exact absurd hp List.not_mem_nil
  · have h0 : (y 0).val < 512 := (y 0).isLt
    have h1 : (y 1).val < 1024 := (y 1).isLt
    by_cases hy : (y 0).val < 256
    · refine ⟨_, List.mem_cons_of_mem _ (List.mem_cons_self ..), ?_⟩
      show y ∈ R0.set
      rw [Rect.mem_set_unit]
      intro a
      match a with
      | ⟨0, _⟩ => exact ⟨Nat.zero_le _, hy⟩
      | ⟨1, _⟩ => exact ⟨Nat.zero_le _, h1⟩
    · refine ⟨_, List.mem_cons_self .., ?_⟩
      show y ∈ R256.set
      rw [Rect.mem_set_unit]
      intro a
      match a with
      | ⟨0, _⟩ => exact ⟨by show 256 ≤ (y 0).val; omega, h0⟩
      | ⟨1, _⟩ => exact ⟨Nat.zero_le _, h1⟩

/-- A sum over 512 rows, in two halves. -/
theorem halves (f : Fin 512 → EReal) : ∑ r, f r = ∑ a : Fin 256, f ⟨0 + a.val, by omega⟩ + ∑ a : Fin 256, f ⟨256 + a.val, by omega⟩ := by
  have part : ∀ (o : ℕ) (ho : o + 256 ≤ 512),
      ∑ p ∈ Finset.range (o + 256), ext f p = ∑ p ∈ Finset.range o, ext f p + ∑ a : Fin 256, f ⟨o + a.val, by omega⟩ :=
    fun o ho => sum_block _ o ho
  rw [← sum_ext f, part 256 (by omega), part 0 (by omega), Finset.sum_range_zero, zero_add]

/-- The gain's gradient after a point, on top of what was there, -/
def dgChain (w : FVec Ideal S1x1024 .f32) (u0 : FVec Ideal S512x2048 .bf16) (u1 : FVec Ideal S2048x1024 .bf16) (u2 : FVec Ideal S512x1024 .f32) (u3 : FVec Ideal S1x1024 .f32) (u4 : FVec Ideal S512x1024 .f32) : FVec Ideal S1x1024 .f32 :=
  k0_pay21 (F := Ideal) u3 (k0_pay12 (k0_pay3 w) (k0_pay7 (View.ld (Val := Elt Ideal) (e' := .f32) u2 R0) (View.ld (Val := Elt Ideal) (e' := .bf16) u0 Q0) u1) (k0_pay8 u3 (View.ld (Val := Elt Ideal) (e' := .f32) u2 R0) (View.ld (Val := Elt Ideal) (e' := .bf16) u0 Q0) u1 (View.ld (Val := Elt Ideal) (e' := .f32) u4 R0))) (k0_pay17 (View.ld (Val := Elt Ideal) (e' := .f32) u2 R256) (View.ld (Val := Elt Ideal) (e' := .bf16) u0 Q256) u1) (View.ld (Val := Elt Ideal) (e' := .f32) u4 R256)

theorem dgChain_eq (w : FVec Ideal S1x1024 .f32) (u0 : FVec Ideal S512x2048 .bf16) (u1 : FVec Ideal S2048x1024 .bf16) (u2 : FVec Ideal S512x1024 .f32) (u3 : FVec Ideal S1x1024 .f32) (u4 : FVec Ideal S512x1024 .f32) (k : Fin 1024) :
    dgChain w u0 u1 u2 u3 u4 (ix2 (0 : Fin 1) k) = w (ix2 (0 : Fin 1) k) + ∑ r : Fin 512, gterm (hrow u0 u1 u2 r) (gain u3) (trow u4 r) k := by
  rw [halves, ← add_assoc]
  refine (dg_at u3 (View.ld (Val := Elt Ideal) (e' := .f32) u2 R256) (View.ld (Val := Elt Ideal) (e' := .f32) u4 R256) (View.ld (Val := Elt Ideal) (e' := .bf16) u0 Q256) u1 _ k).trans (congrArg₂ (fun p q : EReal => p + q) ((dg_at u3 (View.ld (Val := Elt Ideal) (e' := .f32) u2 R0) (View.ld (Val := Elt Ideal) (e' := .f32) u4 R0) (View.ld (Val := Elt Ideal) (e' := .bf16) u0 Q0) u1 _ k).trans
    (congrArg₂ (fun p q : EReal => p + q) ?_ ?_)) ?_)
  · pointwise [k0_pay3]
  · exact Finset.sum_congr rfl fun a _ => by rw [row0, goal0]
  · exact Finset.sum_congr rfl fun a _ => by rw [row256, goal256]

/-- and the loss. -/
def lsChain (w : FVec Ideal S1x128 .f32) (u0 : FVec Ideal S512x2048 .bf16) (u1 : FVec Ideal S2048x1024 .bf16) (u2 : FVec Ideal S512x1024 .f32) (u3 : FVec Ideal S1x1024 .f32) (u4 : FVec Ideal S512x1024 .f32) : FVec Ideal S1x128 .f32 :=
  k0_pay19 (F := Ideal) u3 (k0_pay10 (k0_pay4 w) (k0_pay9 u3 (View.ld (Val := Elt Ideal) (e' := .f32) u2 R0) (View.ld (Val := Elt Ideal) (e' := .bf16) u0 Q0) u1 (View.ld (Val := Elt Ideal) (e' := .f32) u4 R0)) (FloatOps.ofBits FTy.f32 1056964608#32)) (k0_pay17 (View.ld (Val := Elt Ideal) (e' := .f32) u2 R256) (View.ld (Val := Elt Ideal) (e' := .bf16) u0 Q256) u1) (View.ld (Val := Elt Ideal) (e' := .f32) u4 R256)

theorem lsChain_eq (w : FVec Ideal S1x128 .f32) (u0 : FVec Ideal S512x2048 .bf16) (u1 : FVec Ideal S2048x1024 .bf16) (u2 : FVec Ideal S512x1024 .f32) (u3 : FVec Ideal S1x1024 .f32) (u4 : FVec Ideal S512x1024 .f32) (l : Fin 128) :
    lsChain w u0 u1 u2 u3 u4 (ix2 (0 : Fin 1) l) = w (ix2 (0 : Fin 1) l) + ∑ r : Fin 512, halfc * rloss (hrow u0 u1 u2 r) (gain u3) (trow u4 r) := by
  rw [halves, ← add_assoc]
  refine (ls_at u3 (View.ld (Val := Elt Ideal) (e' := .f32) u2 R256) (View.ld (Val := Elt Ideal) (e' := .f32) u4 R256) (View.ld (Val := Elt Ideal) (e' := .bf16) u0 Q256) u1 _ l).trans (congrArg₂ (fun p q : EReal => p + q) ((ls_at u3 (View.ld (Val := Elt Ideal) (e' := .f32) u2 R0) (View.ld (Val := Elt Ideal) (e' := .f32) u4 R0) (View.ld (Val := Elt Ideal) (e' := .bf16) u0 Q0) u1 _ l).trans
    (congrArg₂ (fun p q : EReal => p + q) ?_ ?_)) ?_)
  · pointwise [k0_pay4]
  · exact Finset.sum_congr rfl fun a _ => by rw [row0, goal0]
  · exact Finset.sum_congr rfl fun a _ => by rw [row256, goal256]

/-- The first point clears both. -/
theorem zero1 (i : S1x1024.Idx) : ((k0_pay1 (F := Ideal) i : Elt Ideal .f32) : EReal) = 0 := by
  show Ideal.ofBits .f32 0#32 = 0
  simp [Ideal.ofBits, Ideal.ieee]

theorem zero2 (i : S1x128.Idx) : ((k0_pay2 (F := Ideal) i : Elt Ideal .f32) : EReal) = 0 := by
  show Ideal.ofBits .f32 0#32 = 0
  simp [Ideal.ofBits, Ideal.ieee]

end Cert.HeadBlock

end
-- ==== Proof.HeadArray.lean ====
/- The loss head's four result arrays after the run. -/
module

public import proofs.«01_k».proof.Proof.HeadBlock

@[expose] public section

noncomputable section

namespace Cert.HeadArray

open Cert.HeadKernelIdeal Cert.HeadKernelIdeal.Gen Cert.HeadKernelIdeal.Value Idealize.ShloMosaic
open Cert.HeadBlock Cert.RmsMath Cert.HeadMath

set_option maxRecDepth 16384

variable (m : (ℓ : Loc nD τ sig) → Buf (Elt Ideal) ℓ)

/-- The launch contents of the five arguments. -/
abbrev arg0 (c : Dev nD) : FVec Ideal S4096x2048 .bf16 := m (c.tc.loc main_arg0)
abbrev arg1 (c : Dev nD) : FVec Ideal S2048x1024 .bf16 := m (c.tc.loc main_arg1)
abbrev arg2 (c : Dev nD) : FVec Ideal S4096x1024 .f32 := m (c.tc.loc main_arg2)
abbrev arg3 (c : Dev nD) : FVec Ideal S1x1024 .f32 := m (c.tc.loc main_arg3)
abbrev arg4 (c : Dev nD) : FVec Ideal S4096x1024 .f32 := m (c.tc.loc main_arg4)

theorem ltN (t : Fin grid0.N) : t.val < 8 := t.isLt

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val ∧ win0_8.index t 1 = 0 := by decide +kernel
theorem xsz5 : ∀ t : Fin grid0.N, win0_5.xsize (grid0.coords t) 0 = 512 ∧ win0_5.xsize (grid0.coords t) 1 = 1024 := by decide +kernel
theorem xsz6 : ∀ t : Fin grid0.N, win0_6.xsize (grid0.coords t) 0 = 1 ∧ win0_6.xsize (grid0.coords t) 1 = 1024 := by decide +kernel
theorem xsz7 : ∀ t : Fin grid0.N, win0_7.xsize (grid0.coords t) 0 = 1 ∧ win0_7.xsize (grid0.coords t) 1 = 128 := by decide +kernel
theorem xsz8 : ∀ t : Fin grid0.N, win0_8.xsize (grid0.coords t) 0 = 512 ∧ win0_8.xsize (grid0.coords t) 1 = 1024 := by decide +kernel

theorem iblk0 (c : Dev nD) (t : Fin grid0.N) (r : Fin 512) (k : Fin 2048) :
    iblk m c 0 t (ix2 r k) = arg0 m c (ix2 ⟨t.val * 512 + r.val, by have := ltN t; omega⟩ k) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 512 + 1 * r.val = t.val * 512 + r.val; rw [hi.1]; omega
  | ⟨1, _⟩ => show win0_0.index t 1 * 2048 + 1 * k.val = k.val; rw [hi.2]; omega

theorem iblk1 (c : Dev nD) (t : Fin grid0.N) (r : Fin 2048) (k : Fin 1024) :
    iblk m c 1 t (ix2 r k) = arg1 m c (ix2 r k) := by
  have hi := idx1 t
  unfold iblk
  rw [View.read_apply]
  show V m c main_arg1 _ = _
  rw [V_main_arg1]
  refine congrArg (m (c.tc.loc main_arg1)) ?_
  funext a
  apply Fin.ext
  match a with
  | ⟨0, _⟩ => show win0_1.index t 0 * 2048 + 1 * r.val = r.val; rw [hi.1]; omega
  | ⟨1, _⟩ => show win0_1.index t 1 * 1024 + 1 * k.val = k.val; rw [hi.2]; omega

theorem iblk2 (c : Dev nD) (t : Fin grid0.N) (r : Fin 512) (k : Fin 1024) :
    iblk m c 2 t (ix2 r k) = arg2 m c (ix2 ⟨t.val * 512 + r.val, by have := ltN t; omega⟩ k) := by
  have hi := idx2 t
  unfold iblk
  rw [View.read_apply]
  show V m c main_arg2 _ = _
  rw [V_main_arg2]
  refine congrArg (m (c.tc.loc main_arg2)) ?_
  funext a
  apply Fin.ext
  match a with
  | ⟨0, _⟩ => show win0_2.index t 0 * 512 + 1 * r.val = t.val * 512 + r.val; rw [hi.1]; omega
  | ⟨1, _⟩ => show win0_2.index t 1 * 1024 + 1 * k.val = k.val; rw [hi.2]; omega

theorem iblk3 (c : Dev nD) (t : Fin grid0.N) (r : Fin 1) (k : Fin 1024) :
    iblk m c 3 t (ix2 r k) = arg3 m c (ix2 r k) := by
  have hi := idx3 t
  unfold iblk
  rw [View.read_apply]
  show V m c main_arg3 _ = _
  rw [V_main_arg3]
  refine congrArg (m (c.tc.loc main_arg3)) ?_
  funext a
  apply Fin.ext
  match a with
  | ⟨0, _⟩ => show win0_3.index t 0 * 1 + 1 * r.val = r.val; rw [hi.1]; omega
  | ⟨1, _⟩ => show win0_3.index t 1 * 1024 + 1 * k.val = k.val; rw [hi.2]; omega

theorem iblk4 (c : Dev nD) (t : Fin grid0.N) (r : Fin 512) (k : Fin 1024) :
    iblk m c 4 t (ix2 r k) = arg4 m c (ix2 ⟨t.val * 512 + r.val, by have := ltN t; omega⟩ k) := by
  have hi := idx4 t
  unfold iblk
  rw [View.read_apply]
  show V m c main_arg4 _ = _
  rw [V_main_arg4]
  refine congrArg (m (c.tc.loc main_arg4)) ?_
  funext a
  apply Fin.ext
  match a with
  | ⟨0, _⟩ => show win0_4.index t 0 * 512 + 1 * r.val = t.val * 512 + r.val; rw [hi.1]; omega
  | ⟨1, _⟩ => show win0_4.index t 1 * 1024 + 1 * k.val = k.val; rw [hi.2]; omega

/-- What the points store through window 5. -/
theorem after5 (c : Dev nD) (t : Fin cfg0.N) : (outsAt0 m c t.val t.isLt).1 = dh5 (iblk m c 0 t) (iblk m c 1 t) (iblk m c 2 t) (iblk m c 3 t) (iblk m c 4 t) := by
  by_cases h0 : t.val % 8 = 0
  · rw [outsAt0_A m c t h0]; dsimp only; frame_out; exact out5 _ _ _ _ _
  · rw [outsAt0_B m c t h0]; dsimp only; frame_out; exact out5 _ _ _ _ _

/-- What the points store through window 8. -/
theorem after8 (c : Dev nD) (t : Fin cfg0.N) : (outsAt0 m c t.val t.isLt).2.2.2 = dh8 (iblk m c 0 t) (iblk m c 1 t) (iblk m c 2 t) (iblk m c 3 t) (iblk m c 4 t) := by
  by_cases h0 : t.val % 8 = 0
  · rw [outsAt0_A m c t h0]; dsimp only; frame_out; exact out8 _ _ _ _ _
  · rw [outsAt0_B m c t h0]; dsimp only; frame_out; exact out8 _ _ _ _ _

/-- A row of the product with the residual added, the gain, and the target's row. -/
def hid (c : Dev nD) (t : Fin 4096) (k : Fin 1024) : EReal := arg2 m c (ix2 t k) + ∑ q : Fin 2048, arg0 m c (ix2 t q) * arg1 m c (ix2 q k)

abbrev gainA (c : Dev nD) : Fin 1024 → EReal := fun q => arg3 m c (ix2 (0 : Fin 1) q)

abbrev goalA (c : Dev nD) (t : Fin 4096) : Fin 1024 → EReal := fun q => arg4 m c (ix2 t q)

theorem hrow_eq (c : Dev nD) (t : Fin grid0.N) (r : Fin 512) :
    hrow (iblk m c 0 t) (iblk m c 1 t) (iblk m c 2 t) r = hid m c ⟨t.val * 512 + r.val, by have := ltN t; omega⟩ := by
  funext k
  exact congrArg₂ (fun p q : EReal => p + q) (iblk2 m c t r k)
    (Finset.sum_congr rfl fun q _ => congrArg₂ (fun a b : EReal => a * b) (iblk0 m c t r q) (iblk1 m c t q k))

theorem gain_eq (c : Dev nD) (t : Fin grid0.N) : gain (iblk m c 3 t) = gainA m c := funext fun k => iblk3 m c t 0 k

theorem trow_eq (c : Dev nD) (t : Fin grid0.N) (r : Fin 512) : trow (iblk m c 4 t) r = goalA m c ⟨t.val * 512 + r.val, by have := ltN t; omega⟩ :=
  funext fun k => iblk4 m c t r k

/-- The rows' gradient. -/
def dh_at (c : Dev nD) (t : Fin 4096) (k : Fin 1024) : EReal :=
  short (du (hid m c t) (gainA m c) (goalA m c t)) (hid m c t) (gainA m c) 0 k

def dh_target (c : Dev nD) (i : S4096x1024.Idx) : EReal := dh_at m c (i 0) (i 1)

theorem block_eq (c : Dev nD) (t : Fin grid0.N) (r : Fin 512) (k : Fin 1024) :
    dhAt (iblk m c 0 t) (iblk m c 1 t) (iblk m c 2 t) (iblk m c 3 t) (iblk m c 4 t) r k = dh_at m c ⟨t.val * 512 + r.val, by have := ltN t; omega⟩ k := by
  unfold dhAt dh_at
  rw [hrow_eq, gain_eq, trow_eq]

theorem mem_blk5 (t : Fin grid0.N) (i : S4096x1024.Idx) : i ∈ ((cfg0.win 5).blk t).view.set ↔ t.val * 512 ≤ (i 0).val ∧ (i 0).val < t.val * 512 + 512 := by
  show i ∈ ((View.whole main_v0_0).slice (win0_5.rect t)).set ↔ _
  rw [View.set_slice_whole, Rect.mem_set_unit]
  have e := idx5 t
  have x := xsz5 t
  have h1 : (i 1).val < 1024 := (i 1).isLt
  constructor
  · intro h
    have h0 := h 0
    change win0_5.index t 0 * 512 ≤ (i 0).val ∧ (i 0).val < win0_5.index t 0 * 512 + win0_5.xsize (grid0.coords t) 0 at h0
    rw [e.1, x.1] at h0
    exact h0
  · intro h a
    match a with
    | ⟨0, _⟩ =>
      show win0_5.index t 0 * 512 ≤ (i 0).val ∧ (i 0).val < win0_5.index t 0 * 512 + win0_5.xsize (grid0.coords t) 0
      rw [e.1, x.1]; exact h
    | ⟨1, _⟩ =>
      show win0_5.index t 1 * 1024 ≤ (i 1).val ∧ (i 1).val < win0_5.index t 1 * 1024 + win0_5.xsize (grid0.coords t) 1
      rw [e.2, x.2, Nat.zero_mul, Nat.zero_add]; exact ⟨Nat.zero_le _, h1⟩

theorem final5 (c : Dev nD) : (dats m 0 c).arrAt 5 cfg0.N = dh_target m c := by
  refine (dats m 0 c).arrAt_eq_of_cover 5 _ (fun t _ => ?_) fun i => ?_
  · rw [flushed5]
    funext y
    have e := idx5 t
    have x := xsz5 t
    have hN := ltN t
    have h0 : (y 0).val < 512 := lt_of_lt_of_eq (y 0).isLt x.1
    have h1 : (y 1).val < 1024 := lt_of_lt_of_eq (y 1).isLt x.2
    have hj : (cfg0.win 5).xinj (grid0.coords t) y = ix2 (⟨(y 0).val, h0⟩ : Fin 512) (⟨(y 1).val, h1⟩ : Fin 1024) := by
      funext a; apply Fin.ext
      match a with
      | ⟨0, _⟩ => rfl
      | ⟨1, _⟩ => rfl
    have hi : ((cfg0.win 5).blk t).view.emb y = (ix2 (⟨t.val * 512 + (y 0).val, by omega⟩ : Fin 4096) (⟨(y 1).val, h1⟩ : Fin 1024) : S4096x1024.Idx) := by
      funext a; apply Fin.ext
      match a with
      | ⟨0, _⟩ => show win0_5.index t 0 * 512 + 1 * (y 0).val = t.val * 512 + (y 0).val; rw [e.1]; omega
      | ⟨1, _⟩ => show win0_5.index t 1 * 1024 + 1 * (y 1).val = (y 1).val; rw [e.2]; omega
    refine (congrArg (outsAt0 m c t.val t.isLt).1 hj).trans ((congrFun (after5 m c t) _).trans ?_)
    refine Eq.trans ?_ (congrArg (dh_target m c) hi).symm
    exact block_eq m c t _ _
  · change S4096x1024.Idx at i
    have hr : (i 0).val < 4096 := (i 0).isLt
    refine ⟨(⟨(i 0).val / 512, by show _ < 8; omega⟩ : Fin grid0.N), Gen.flush0_5 _, ?_⟩
    rw [mem_blk5]
    dsimp only
    omega

theorem mem_blk8 (t : Fin grid0.N) (i : S4096x1024.Idx) : i ∈ ((cfg0.win 8).blk t).view.set ↔ t.val * 512 ≤ (i 0).val ∧ (i 0).val < t.val * 512 + 512 := by
  show i ∈ ((View.whole main_v0_3).slice (win0_8.rect t)).set ↔ _
  rw [View.set_slice_whole, Rect.mem_set_unit]
  have e := idx8 t
  have x := xsz8 t
  have h1 : (i 1).val < 1024 := (i 1).isLt
  constructor
  · intro h
    have h0 := h 0
    change win0_8.index t 0 * 512 ≤ (i 0).val ∧ (i 0).val < win0_8.index t 0 * 512 + win0_8.xsize (grid0.coords t) 0 at h0
    rw [e.1, x.1] at h0
    exact h0
  · intro h a
    match a with
    | ⟨0, _⟩ =>
      show win0_8.index t 0 * 512 ≤ (i 0).val ∧ (i 0).val < win0_8.index t 0 * 512 + win0_8.xsize (grid0.coords t) 0
      rw [e.1, x.1]; exact h
    | ⟨1, _⟩ =>
      show win0_8.index t 1 * 1024 ≤ (i 1).val ∧ (i 1).val < win0_8.index t 1 * 1024 + win0_8.xsize (grid0.coords t) 1
      rw [e.2, x.2, Nat.zero_mul, Nat.zero_add]; exact ⟨Nat.zero_le _, h1⟩

theorem final8 (c : Dev nD) : (dats m 0 c).arrAt 8 cfg0.N = dh_target m c := by
  refine (dats m 0 c).arrAt_eq_of_cover 8 _ (fun t _ => ?_) fun i => ?_
  · rw [flushed8]
    funext y
    have e := idx8 t
    have x := xsz8 t
    have hN := ltN t
    have h0 : (y 0).val < 512 := lt_of_lt_of_eq (y 0).isLt x.1
    have h1 : (y 1).val < 1024 := lt_of_lt_of_eq (y 1).isLt x.2
    have hj : (cfg0.win 8).xinj (grid0.coords t) y = ix2 (⟨(y 0).val, h0⟩ : Fin 512) (⟨(y 1).val, h1⟩ : Fin 1024) := by
      funext a; apply Fin.ext
      match a with
      | ⟨0, _⟩ => rfl
      | ⟨1, _⟩ => rfl
    have hi : ((cfg0.win 8).blk t).view.emb y = (ix2 (⟨t.val * 512 + (y 0).val, by omega⟩ : Fin 4096) (⟨(y 1).val, h1⟩ : Fin 1024) : S4096x1024.Idx) := by
      funext a; apply Fin.ext
      match a with
      | ⟨0, _⟩ => show win0_8.index t 0 * 512 + 1 * (y 0).val = t.val * 512 + (y 0).val; rw [e.1]; omega
      | ⟨1, _⟩ => show win0_8.index t 1 * 1024 + 1 * (y 1).val = (y 1).val; rw [e.2]; omega
    refine (congrArg (outsAt0 m c t.val t.isLt).2.2.2 hj).trans ((congrFun (after8 m c t) _).trans ?_)
    refine Eq.trans ?_ (congrArg (dh_target m c) hi).symm
    exact block_eq m c t _ _
  · change S4096x1024.Idx at i
    have hr : (i 0).val < 4096 := (i 0).isLt
    refine ⟨(⟨(i 0).val / 512, by show _ < 8; omega⟩ : Fin grid0.N), Gen.flush0_8 _, ?_⟩
    rw [mem_blk8]
    dsimp only
    omega

/-- A row's terms of the gain's gradient and of the loss. -/
def gAt (c : Dev nD) (k : Fin 1024) (t : Fin 4096) : EReal := gterm (hid m c t) (gainA m c) (goalA m c t) k

def lAt (c : Dev nD) (t : Fin 4096) : EReal := halfc * rloss (hid m c t) (gainA m c) (goalA m c t)

/-- One more point's rows. -/
theorem more (c : Dev nD) (f : Fin 4096 → EReal) (g : Fin 512 → EReal) (n : ℕ) (hn : n < 8) (hg : ∀ r : Fin 512, g r = f ⟨n * 512 + r.val, by omega⟩)
    (w : EReal) (hw : w = ∑ p ∈ Finset.range (n * 512), ext f p) : w + ∑ r, g r = ∑ p ∈ Finset.range ((n + 1) * 512), ext f p := by
  have e : (n + 1) * 512 = n * 512 + 512 := by omega
  rw [e, sum_block f (n * 512) (by omega), hw]
  exact congrArg _ (Finset.sum_congr rfl fun r _ => hg r)

theorem g_rows (c : Dev nD) (t : Fin grid0.N) (k : Fin 1024) (r : Fin 512) :
    gterm (hrow (iblk m c 0 t) (iblk m c 1 t) (iblk m c 2 t) r) (gain (iblk m c 3 t)) (trow (iblk m c 4 t) r) k = gAt m c k ⟨t.val * 512 + r.val, by have := ltN t; omega⟩ := by
  rw [hrow_eq, gain_eq, trow_eq]; rfl

theorem l_rows (c : Dev nD) (t : Fin grid0.N) (r : Fin 512) :
    halfc * rloss (hrow (iblk m c 0 t) (iblk m c 1 t) (iblk m c 2 t) r) (gain (iblk m c 3 t)) (trow (iblk m c 4 t) r) = lAt m c ⟨t.val * 512 + r.val, by have := ltN t; omega⟩ := by
  rw [hrow_eq, gain_eq, trow_eq]; rfl

/-- What is summed through window 6 after a point. -/
theorem state6 (c : Dev nD) : ∀ (n : ℕ) (h : n < cfg0.N) (k : Fin 1024), (outsAt0 m c n h).2.1 (ix2 (0 : Fin 1) k) = ∑ p ∈ Finset.range ((n + 1) * 512), ext (gAt m c k) p
  | 0, h, k => by
    have e : outsAt0 m c 0 h = _ := outsAt0_A m c ⟨0, h⟩ rfl
    rw [e]
    dsimp only
    frame_out
    refine (dgChain_eq (k0_pay1 (F := Ideal)) (iblk m c 0 ⟨0, h⟩) (iblk m c 1 ⟨0, h⟩) (iblk m c 2 ⟨0, h⟩) (iblk m c 3 ⟨0, h⟩) (iblk m c 4 ⟨0, h⟩) k).trans ?_
    exact more c (gAt m c k) _ 0 (by omega) (g_rows m c ⟨0, h⟩ k) _ ((zero1 _).trans (by simp))
  | n + 1, h, k => by
    have hN : n + 1 < 8 := h
    have e : outsAt0 m c (n + 1) h = _ := outsAt0_B m c ⟨n + 1, h⟩ (by show ¬(n + 1) % 8 = 0; omega)
    have ih := state6 c n (Nat.lt_of_succ_lt h) k
    rw [e]
    dsimp only
    frame_out
    refine (dgChain_eq (outsAt0 m c n (Nat.lt_of_succ_lt h)).2.1 (iblk m c 0 ⟨n + 1, h⟩) (iblk m c 1 ⟨n + 1, h⟩) (iblk m c 2 ⟨n + 1, h⟩) (iblk m c 3 ⟨n + 1, h⟩) (iblk m c 4 ⟨n + 1, h⟩) k).trans ?_
    exact more c (gAt m c k) _ (n + 1) (by omega) (g_rows m c ⟨n + 1, h⟩ k) _ ih

theorem mem_blk6 (t : Fin grid0.N) (i : S1x1024.Idx) : i ∈ ((cfg0.win 6).blk t).view.set := by
  show i ∈ ((View.whole main_v0_1).slice (win0_6.rect t)).set
  rw [View.set_slice_whole, Rect.mem_set_unit]
  have e := idx6 t
  have x := xsz6 t
  have h0 : (i 0).val < 1 := (i 0).isLt
  have h1 : (i 1).val < 1024 := (i 1).isLt
  intro a
  match a with
  | ⟨0, _⟩ =>
    show win0_6.index t 0 * 1 ≤ (i 0).val ∧ (i 0).val < win0_6.index t 0 * 1 + win0_6.xsize (grid0.coords t) 0
    rw [e.1, x.1]; omega
  | ⟨1, _⟩ =>
    show win0_6.index t 1 * 1024 ≤ (i 1).val ∧ (i 1).val < win0_6.index t 1 * 1024 + win0_6.xsize (grid0.coords t) 1
    rw [e.2, x.2, Nat.zero_mul, Nat.zero_add]; exact ⟨Nat.zero_le _, h1⟩

def dg_target (c : Dev nD) (i : S1x1024.Idx) : EReal := ∑ t : Fin 4096, (gAt m c (i 1)) t

theorem final6 (c : Dev nD) : (dats m 0 c).arrAt 6 cfg0.N = dg_target m c := by
  refine (dats m 0 c).arrAt_eq_of_cover 6 _ (fun t ht => ?_) fun i => ⟨(⟨7, by show 7 < 8; omega⟩ : Fin grid0.N), (Gen.flush0_6 _).mpr rfl, mem_blk6 _ i⟩
  have h7 : t.val = 7 := by have := (Gen.flush0_6 t).mp ht; have := ltN t; omega
  rw [flushed6]
  funext y
  have e := idx6 t
  have x := xsz6 t
  have h0 : (y 0).val < 1 := lt_of_lt_of_eq (y 0).isLt x.1
  have h1 : (y 1).val < 1024 := lt_of_lt_of_eq (y 1).isLt x.2
  have hj : (cfg0.win 6).xinj (grid0.coords t) y = ix2 (0 : Fin 1) (⟨(y 1).val, h1⟩ : Fin 1024) := by
    funext a; apply Fin.ext
    match a with
    | ⟨0, _⟩ => show (y 0).val = 0; omega
    | ⟨1, _⟩ => rfl
  have hi : ((cfg0.win 6).blk t).view.emb y = (ix2 (0 : Fin 1) (⟨(y 1).val, h1⟩ : Fin 1024) : S1x1024.Idx) := by
    funext a; apply Fin.ext
    match a with
    | ⟨0, _⟩ => show win0_6.index t 0 * 1 + 1 * (y 0).val = 0; rw [e.1]; omega
    | ⟨1, _⟩ => show win0_6.index t 1 * 1024 + 1 * (y 1).val = (y 1).val; rw [e.2]; omega
  refine (congrArg (outsAt0 m c t.val t.isLt).2.1 hj).trans ((state6 m c _ _ _).trans ?_)
  refine Eq.trans ?_ (congrArg (dg_target m c) hi).symm
  rw [h7]
  exact sum_ext _

/-- What is summed through window 7 after a point. -/
theorem state7 (c : Dev nD) : ∀ (n : ℕ) (h : n < cfg0.N) (k : Fin 128), (outsAt0 m c n h).2.2.1 (ix2 (0 : Fin 1) k) = ∑ p ∈ Finset.range ((n + 1) * 512), ext (lAt m c) p
  | 0, h, k => by
    have e : outsAt0 m c 0 h = _ := outsAt0_A m c ⟨0, h⟩ rfl
    rw [e]
    dsimp only
    frame_out
    refine (lsChain_eq (k0_pay2 (F := Ideal)) (iblk m c 0 ⟨0, h⟩) (iblk m c 1 ⟨0, h⟩) (iblk m c 2 ⟨0, h⟩) (iblk m c 3 ⟨0, h⟩) (iblk m c 4 ⟨0, h⟩) k).trans ?_
    exact more c (lAt m c) _ 0 (by omega) (l_rows m c ⟨0, h⟩) _ ((zero2 _).trans (by simp))
  | n + 1, h, k => by
    have hN : n + 1 < 8 := h
    have e : outsAt0 m c (n + 1) h = _ := outsAt0_B m c ⟨n + 1, h⟩ (by show ¬(n + 1) % 8 = 0; omega)
    have ih := state7 c n (Nat.lt_of_succ_lt h) k
    rw [e]
    dsimp only
    frame_out
    refine (lsChain_eq (outsAt0 m c n (Nat.lt_of_succ_lt h)).2.2.1 (iblk m c 0 ⟨n + 1, h⟩) (iblk m c 1 ⟨n + 1, h⟩) (iblk m c 2 ⟨n + 1, h⟩) (iblk m c 3 ⟨n + 1, h⟩) (iblk m c 4 ⟨n + 1, h⟩) k).trans ?_
    exact more c (lAt m c) _ (n + 1) (by omega) (l_rows m c ⟨n + 1, h⟩) _ ih

theorem mem_blk7 (t : Fin grid0.N) (i : S1x128.Idx) : i ∈ ((cfg0.win 7).blk t).view.set := by
  show i ∈ ((View.whole main_v0_2).slice (win0_7.rect t)).set
  rw [View.set_slice_whole, Rect.mem_set_unit]
  have e := idx7 t
  have x := xsz7 t
  have h0 : (i 0).val < 1 := (i 0).isLt
  have h1 : (i 1).val < 128 := (i 1).isLt
  intro a
  match a with
  | ⟨0, _⟩ =>
    show win0_7.index t 0 * 1 ≤ (i 0).val ∧ (i 0).val < win0_7.index t 0 * 1 + win0_7.xsize (grid0.coords t) 0
    rw [e.1, x.1]; omega
  | ⟨1, _⟩ =>
    show win0_7.index t 1 * 128 ≤ (i 1).val ∧ (i 1).val < win0_7.index t 1 * 128 + win0_7.xsize (grid0.coords t) 1
    rw [e.2, x.2, Nat.zero_mul, Nat.zero_add]; exact ⟨Nat.zero_le _, h1⟩

def ls_target (c : Dev nD) (i : S1x128.Idx) : EReal := ∑ t : Fin 4096, (lAt m c) t

theorem final7 (c : Dev nD) : (dats m 0 c).arrAt 7 cfg0.N = ls_target m c := by
  refine (dats m 0 c).arrAt_eq_of_cover 7 _ (fun t ht => ?_) fun i => ⟨(⟨7, by show 7 < 8; omega⟩ : Fin grid0.N), (Gen.flush0_7 _).mpr rfl, mem_blk7 _ i⟩
  have h7 : t.val = 7 := by have := (Gen.flush0_7 t).mp ht; have := ltN t; omega
  rw [flushed7]
  funext y
  have e := idx7 t
  have x := xsz7 t
  have h0 : (y 0).val < 1 := lt_of_lt_of_eq (y 0).isLt x.1
  have h1 : (y 1).val < 128 := lt_of_lt_of_eq (y 1).isLt x.2
  have hj : (cfg0.win 7).xinj (grid0.coords t) y = ix2 (0 : Fin 1) (⟨(y 1).val, h1⟩ : Fin 128) := by
    funext a; apply Fin.ext
    match a with
    | ⟨0, _⟩ => show (y 0).val = 0; omega
    | ⟨1, _⟩ => rfl
  have hi : ((cfg0.win 7).blk t).view.emb y = (ix2 (0 : Fin 1) (⟨(y 1).val, h1⟩ : Fin 128) : S1x128.Idx) := by
    funext a; apply Fin.ext
    match a with
    | ⟨0, _⟩ => show win0_7.index t 0 * 1 + 1 * (y 0).val = 0; rw [e.1]; omega
    | ⟨1, _⟩ => show win0_7.index t 1 * 128 + 1 * (y 1).val = (y 1).val; rw [e.2]; omega
  refine (congrArg (outsAt0 m c t.val t.isLt).2.2.1 hj).trans ((state7 m c _ _ _).trans ?_)
  refine Eq.trans ?_ (congrArg (ls_target m c) hi).symm
  rw [h7]
  exact sum_ext _

end Cert.HeadArray

end
-- ==== Proof.HeadRef.lean ====
/- The loss head's reference read at an index. -/
module

public import proofs.«01_k».proof.Proof.Gen.HeadReferenceIdeal.Read
public import Idealize.ShloMosaic.Lib.Pointwise
public import proofs.«01_k».proof.Proof.HeadMath

@[expose] public section

noncomputable section

namespace Cert.HeadRef

open Cert.HeadReferenceIdeal Cert.HeadReferenceIdeal.Gen Cert.HeadReferenceIdeal.Read Idealize.ShloMosaic Cert.RmsMath Cert.HeadMath

set_option maxRecDepth 16384

variable (x0 : FVec Ideal S4096x2048 .bf16) (x1 : FVec Ideal S2048x1024 .bf16) (x2 : FVec Ideal S4096x1024 .f32) (x3 : FVec Ideal S1x1024 .f32) (x4 : FVec Ideal S4096x1024 .f32)

/-- A row of the product with the residual added, the gain, and the target's row. -/
def hid (t : Fin 4096) (k : Fin 1024) : EReal := x2 (ix2 t k) + ∑ q : Fin 2048, x0 (ix2 t q) * x1 (ix2 q k)

abbrev gain (x3 : FVec Ideal S1x1024 .f32) : Fin 1024 → EReal := fun q => x3 (ix2 (0 : Fin 1) q)

abbrev goal (x4 : FVec Ideal S4096x1024 .f32) (t : Fin 4096) : Fin 1024 → EReal := fun q => x4 (ix2 t q)

theorem read_v1 (t : Fin 4096) (k : Fin 1024) : val_main_v1 (F := Ideal) x0 x1 x2 (ix2 t k) = hid x0 x1 x2 t k := by
  unfold hid
  pointwise [val_main_v1, val_main_v0]

/-- The mean of the row's squares, -/
theorem read_v8 (t : Fin 4096) : val_main_v8 (F := Ideal) x0 x1 x2 (ix2 t (0 : Fin 1)) = mean (hid x0 x1 x2 t) := by
  have e : hid x0 x1 x2 t = fun k => val_main_v1 (F := Ideal) x0 x1 x2 (ix2 t k) := funext fun k => (read_v1 x0 x1 x2 t k).symm
  rw [e]
  unfold mean
  pointwise [val_main_v8, val_main_v7, val_main_v6, val_main_v5, val_main_v4, val_main_v3, val_main_v2, val_main_cst, val_main_cst_0, val_main_cst_1]

/-- the inverse of its root, -/
theorem read_v9 (t : Fin 4096) : val_main_v9 (F := Ideal) x0 x1 x2 (ix2 t (0 : Fin 1)) = rho (hid x0 x1 x2 t) := congrArg Ideal.rsqrt (read_v8 x0 x1 x2 t)

/-- the normed row, -/
theorem read_v14 (t : Fin 4096) (k : Fin 1024) : val_main_v14 (F := Ideal) x0 x1 x2 (ix2 t k) = hid x0 x1 x2 t k * rho (hid x0 x1 x2 t) := by
  rw [← read_v9, ← read_v1]
  pointwise [val_main_v14, val_main_v13]

/-- the error, -/
theorem read_v17 (t : Fin 4096) (k : Fin 1024) : val_main_v17 (F := Ideal) x0 x1 x2 x3 x4 (ix2 t k) = dl (hid x0 x1 x2 t) (gain x3) (goal x4 t) k := by
  unfold dl
  rw [← read_v14]
  pointwise [val_main_v17, val_main_v16, val_main_v15]

/-- its gradient, -/
theorem read_v31 (t : Fin 4096) (k : Fin 1024) : val_main_v31 (F := Ideal) x0 x1 x2 x3 x4 (ix2 t k) = du (hid x0 x1 x2 t) (gain x3) (goal x4 t) k := by
  unfold du
  rw [← du_ref, ← read_v17]
  unfold halfc
  pointwise [val_main_v31, val_main_v30, val_main_v29, val_main_v28, val_main_v27, val_main_v26, val_main_v20, val_main_v19, val_main_cst_3, val_main_cst_8, val_main_cst_9, val_main_cst_10]

/-- the loss, -/
theorem read_v51 (l : Fin 128) : val_main_v51 (F := Ideal) x0 x1 x2 x3 x4 (ix2 (0 : Fin 1) l) = halfc * ∑ t : Fin 4096, rloss (hid x0 x1 x2 t) (gain x3) (goal x4 t) := by
  refine Eq.trans (b := halfc * ∑ t : Fin 4096, Ideal.div (∑ k : Fin 1024, val_main_v17 (F := Ideal) x0 x1 x2 x3 x4 (ix2 t k) * val_main_v17 (F := Ideal) x0 x1 x2 x3 x4 (ix2 t k)) (Ideal.ofBits .f32 0x44800000#32)) ?_
    (congrArg (halfc * ·) (Finset.sum_congr rfl fun t _ => by unfold rloss; simp only [read_v17]))
  unfold halfc
  pointwise [val_main_v51, val_main_v25, val_main_v24, val_main_v23, val_main_v22, val_main_v21, val_main_v18, val_main_cst_4, val_main_cst_5, val_main_cst_6, val_main_cst_7]

/-- the gain's gradient, -/
theorem read_v34 (k : Fin 1024) : val_main_v34 (F := Ideal) x0 x1 x2 x3 x4 (ix2 (0 : Fin 1) k) = ∑ t : Fin 4096, hid x0 x1 x2 t k * rho (hid x0 x1 x2 t) * du (hid x0 x1 x2 t) (gain x3) (goal x4 t) k := by
  refine Eq.trans (b := ∑ t : Fin 4096, val_main_v14 (F := Ideal) x0 x1 x2 (ix2 t k) * val_main_v31 (F := Ideal) x0 x1 x2 x3 x4 (ix2 t k)) ?_
    (Finset.sum_congr rfl fun t _ => by rw [read_v14, read_v31])
  pointwise [val_main_v34, val_main_v33, val_main_v32, val_main_cst_11]

/-- the factor of the rows, -/
theorem read_v45 (t : Fin 4096) : val_main_v45 (F := Ideal) x0 x1 x2 x3 x4 (ix1 t) = factor (du (hid x0 x1 x2 t) (gain x3) (goal x4 t)) (hid x0 x1 x2 t) (gain x3) := by
  unfold factor
  refine Eq.trans (b := Ideal.div ((∑ q, val_main_v1 (F := Ideal) x0 x1 x2 (ix2 t q) * (val_main_v31 (F := Ideal) x0 x1 x2 x3 x4 (ix2 t q) * x3 (ix2 (0 : Fin 1) q)))
    * (Ideal.ofBits .f32 0xBF000000#32 * Ideal.div (val_main_v9 (F := Ideal) x0 x1 x2 (ix2 t (0 : Fin 1))) (val_main_v8 (F := Ideal) x0 x1 x2 (ix2 t (0 : Fin 1))))) (Ideal.ofBits .f32 0x44800000#32)) ?_
    (by rw [read_v9, read_v8]; simp only [read_v1, read_v31])
  simp only [val_main_v45, val_main_v44, val_main_v43, val_main_v42, val_main_v39, val_main_v38, val_main_v37, val_main_v36, val_main_v35, val_main_v12, val_main_v11, val_main_v10, val_main_cst_2, val_main_cst_12, val_main_cst_13, val_main_cst_14]
  generalize val_main_v9 (F := Ideal) x0 x1 x2 = y
  generalize val_main_v8 (F := Ideal) x0 x1 x2 = w
  generalize val_main_v31 (F := Ideal) x0 x1 x2 x3 x4 = z
  generalize val_main_v1 (F := Ideal) x0 x1 x2 = u
  pointwise []
  exact Fin.sum_univ_one _

/-- and the rows' gradient. -/
theorem read_v50 (t : Fin 4096) (k : Fin 1024) : val_main_v50 (F := Ideal) x0 x1 x2 x3 x4 (ix2 t k) = long (du (hid x0 x1 x2 t) (gain x3) (goal x4 t)) (hid x0 x1 x2 t) (gain x3) 0 k := by
  unfold long
  refine Eq.trans (b := ((val_main_v31 (F := Ideal) x0 x1 x2 x3 x4 (ix2 t k) * x3 (ix2 (0 : Fin 1) k)) * val_main_v9 (F := Ideal) x0 x1 x2 (ix2 t (0 : Fin 1))
    + val_main_v1 (F := Ideal) x0 x1 x2 (ix2 t k) * val_main_v45 (F := Ideal) x0 x1 x2 x3 x4 (ix1 t)) + val_main_v45 (F := Ideal) x0 x1 x2 x3 x4 (ix1 t) * val_main_v1 (F := Ideal) x0 x1 x2 (ix2 t k)) ?_
    (by rw [read_v9, read_v45, read_v31, read_v1, zero_add])
  simp only [val_main_v50, val_main_v49, val_main_v48, val_main_v47, val_main_v46, val_main_v41, val_main_v40, val_main_v36, val_main_v35]
  generalize val_main_v9 (F := Ideal) x0 x1 x2 = y
  generalize val_main_v45 (F := Ideal) x0 x1 x2 x3 x4 = w
  generalize val_main_v31 (F := Ideal) x0 x1 x2 x3 x4 = z
  generalize val_main_v1 (F := Ideal) x0 x1 x2 = u
  pointwise []

theorem read_v52 (t : Fin 4096) (k : Fin 1024) : val_main_v52 (F := Ideal) x0 x1 x2 x3 x4 (ix2 t k) = long (du (hid x0 x1 x2 t) (gain x3) (goal x4 t)) (hid x0 x1 x2 t) (gain x3) 0 k := by
  rw [← read_v50]
  pointwise [val_main_v52]

end Cert.HeadRef

end
-- ==== Proof.HeadClaim.lean ====
/- The loss head: the kernel and the reference end at the same arrays. -/
module

public import proofs.«01_k».proof.Defs
public import proofs.«01_k».proof.Proof.Finite
public import proofs.«01_k».proof.Proof.HeadArray
public import proofs.«01_k».proof.Proof.HeadRef
public import proofs.«01_k».proof.Proof.Gen.HeadReferenceIdeal.Run
public import proofs.«01_k».proof.Proof.Gen.Pre_head_finite

@[expose] public section

noncomputable section

namespace Cert.HeadClaim

open Idealize.ShloMosaic Idealize.SL.Sem Idealize.ShloMosaic.StableHlo Cert.RmsMath Cert.HeadMath

set_option maxRecDepth 16384

section
open Cert.Pre_head_finite Cert.Pre_head_finite.Gen

/-- The precondition says that the five arguments hold reals. -/
theorem finite (x0 : FVec Ideal S4096x2048 .bf16) (x1 : FVec Ideal S2048x1024 .bf16) (x2 : FVec Ideal S4096x1024 .f32) (x3 : FVec Ideal S1x1024 .f32) (x4 : FVec Ideal S4096x1024 .f32)
    (h : Cert.Pre_head_finite.fn (F := Ideal) x0 x1 x2 x3 x4 = fun _ => 1#1) :
    (∀ i, (x0 i : EReal) = ((EReal.toReal (x0 i) : ℝ) : EReal)) ∧ (∀ i, (x1 i : EReal) = ((EReal.toReal (x1 i) : ℝ) : EReal)) ∧ (∀ i, (x2 i : EReal) = ((EReal.toReal (x2 i) : ℝ) : EReal)) ∧ (∀ i, (x3 i : EReal) = ((EReal.toReal (x3 i) : ℝ) : EReal)) ∧ (∀ i, (x4 i : EReal) = ((EReal.toReal (x4 i) : ℝ) : EReal)) := by
  have hs : Subsingleton S_.Idx := ⟨fun a b => funext fun k => k.elim0⟩
  have h' := congrFun h (fun k => k.elim0)
  dsimp only [Cert.Pre_head_finite.fn] at h'
  obtain ⟨h', he⟩ := Cert.Finite.and_one h'
  obtain ⟨h', hd⟩ := Cert.Finite.and_one h'
  obtain ⟨h', hc⟩ := Cert.Finite.and_one h'
  obtain ⟨ha, hb⟩ := Cert.Finite.and_one h'
  exact ⟨Cert.Finite.real_of_all _ _ _ _ _ _ (fun _ => rfl) ha, Cert.Finite.real_of_all _ _ _ _ _ _ (fun _ => rfl) hb,
    Cert.Finite.real_of_all _ _ _ _ _ _ (fun _ => rfl) hc, Cert.Finite.real_of_all _ _ _ _ _ _ (fun _ => rfl) hd,
    Cert.Finite.real_of_all _ _ _ _ _ _ (fun _ => rfl) he⟩
end

section
open Cert.HeadKernelIdeal Cert.HeadArray

variable (m : (ℓ : Loc nD τ sig) → Buf (Elt Ideal) ℓ)

/-- The rows' gradient: both forms at real arguments. -/
theorem dh_eq (c : Dev nD) (h0 : ∀ i, (arg0 m c i : EReal) = ((EReal.toReal (arg0 m c i) : ℝ) : EReal)) (h1 : ∀ i, (arg1 m c i : EReal) = ((EReal.toReal (arg1 m c i) : ℝ) : EReal)) (h2 : ∀ i, (arg2 m c i : EReal) = ((EReal.toReal (arg2 m c i) : ℝ) : EReal)) (h3 : ∀ i, (arg3 m c i : EReal) = ((EReal.toReal (arg3 m c i) : ℝ) : EReal)) (h4 : ∀ i, (arg4 m c i : EReal) = ((EReal.toReal (arg4 m c i) : ℝ) : EReal))
    (t : Fin 4096) (k : Fin 1024) :
    dh_at m c t k = long (du (Cert.HeadRef.hid (arg0 m c) (arg1 m c) (arg2 m c) t) (gainA m c) (goalA m c t)) (Cert.HeadRef.hid (arg0 m c) (arg1 m c) (arg2 m c) t) (gainA m c) 0 k :=
  meet (hid m c t) (gainA m c) (goalA m c t)
    ⟨fun q => EReal.toReal (arg2 m c (ix2 t q)) + ∑ p : Fin 2048, EReal.toReal (arg0 m c (ix2 t p)) * EReal.toReal (arg1 m c (ix2 p q)), funext fun q =>
      (congrArg₂ (fun a b : EReal => a + b) (h2 (ix2 t q)) (Cert.SigMath.dot_real _ _ _ _ (fun p => h0 (ix2 t p)) (fun p => h1 (ix2 p q)))).trans (EReal.coe_add _ _).symm⟩
    ⟨fun q => EReal.toReal (arg3 m c (ix2 (0 : Fin 1) q)), funext fun q => h3 _⟩ ⟨fun q => EReal.toReal (arg4 m c (ix2 t q)), funext fun q => h4 _⟩ k

/-- The gain's gradient, its terms' factors exchanged, -/
theorem dg_eq (c : Dev nD) (k : Fin 1024) : dg_target m c (ix2 (0 : Fin 1) k) = Cert.HeadReferenceIdeal.Read.val_main_v34 (F := Ideal) (arg0 m c) (arg1 m c) (arg2 m c) (arg3 m c) (arg4 m c) (ix2 (0 : Fin 1) k) := by
  refine Eq.trans ?_ (Cert.HeadRef.read_v34 _ _ _ _ _ k).symm
  exact Finset.sum_congr rfl fun t _ => mul_comm (du (hid m c t) (gainA m c) (goalA m c t) k) (hid m c t k * rho (hid m c t))

/-- and the loss, the half taken out. -/
theorem ls_eq (c : Dev nD) (l : Fin 128) : ls_target m c (ix2 (0 : Fin 1) l) = Cert.HeadReferenceIdeal.Read.val_main_v51 (F := Ideal) (arg0 m c) (arg1 m c) (arg2 m c) (arg3 m c) (arg4 m c) (ix2 (0 : Fin 1) l) := by
  refine Eq.trans ?_ (Cert.HeadRef.read_v51 _ _ _ _ _ l).symm
  exact (half_sum Finset.univ fun t => rloss (hid m c t) (gainA m c) (goalA m c t)).symm

/-- The equation of the two programs. -/
theorem algebraic : Cert.algebraic_HeadKernelIdeal_HeadReferenceIdeal_pre_head_finite := by
  intro m g m' g' hpre hag
  refine ⟨fun c => Cert.HeadReferenceIdeal.Read.val_main_v50 (F := Ideal) (arg0 m c) (arg1 m c) (arg2 m c) (arg3 m c) (arg4 m c),
    fun c => Cert.HeadReferenceIdeal.Read.val_main_v34 (F := Ideal) (arg0 m c) (arg1 m c) (arg2 m c) (arg3 m c) (arg4 m c),
    fun c => Cert.HeadReferenceIdeal.Read.val_main_v51 (F := Ideal) (arg0 m c) (arg1 m c) (arg2 m c) (arg3 m c) (arg4 m c),
    fun c => Cert.HeadReferenceIdeal.Read.val_main_v52 (F := Ideal) (arg0 m c) (arg1 m c) (arg2 m c) (arg3 m c) (arg4 m c), ?_, ?_⟩
  · refine (θ_run _ _ _).mono (fun r h c => ?_) (Cert.HeadKernelIdeal.Value.run_blocks (F := Ideal) m g)
    obtain ⟨h0, h1, h2, h3, h4⟩ := finite _ _ _ _ _ (hpre c)
    refine ⟨(h c).1.trans ((final5 m c).trans ?_), (h c).2.1.trans ((final6 m c).trans ?_), (h c).2.2.1.trans ((final7 m c).trans ?_), (h c).2.2.2.1.trans ((final8 m c).trans ?_), (h c).2.2.2.2⟩
    · funext i
      change S4096x1024.Idx at i
      idx_vars i
      exact (dh_eq m c h0 h1 h2 h3 h4 _ _).trans (Cert.HeadRef.read_v50 _ _ _ _ _ _ _).symm
    · funext i
      change S1x1024.Idx at i
      have e : i = (ix2 (0 : Fin 1) (i 1) : S1x1024.Idx) := by
        have h0 : (i 0).val < 1 := (i 0).isLt
        funext a; apply Fin.ext
        match a with
        | ⟨0, _⟩ => show (i 0).val = 0; omega
        | ⟨1, _⟩ => rfl
      rw [e]
      exact dg_eq m c _
    · funext i
      change S1x128.Idx at i
      have e : i = (ix2 (0 : Fin 1) (i 1) : S1x128.Idx) := by
        have h0 : (i 0).val < 1 := (i 0).isLt
        funext a; apply Fin.ext
        match a with
        | ⟨0, _⟩ => show (i 0).val = 0; omega
        | ⟨1, _⟩ => rfl
      rw [e]
      exact ls_eq m c _
    · funext i
      change S4096x1024.Idx at i
      idx_vars i
      exact (dh_eq m c h0 h1 h2 h3 h4 _ _).trans (Cert.HeadRef.read_v52 _ _ _ _ _ _ _).symm
  · refine (θ_run _ _ _).mono (fun r h c => ?_) (Cert.HeadReferenceIdeal.Value.run (F := Ideal) m' g')
    obtain ⟨e0, e1, e2, e3, e4⟩ := hag c
    refine ⟨(h c).1.trans ?_, (h c).2.1.trans ?_, (h c).2.2.1.trans ?_, (h c).2.2.2.1.trans ?_, (h c).2.2.2.2⟩
    · exact (Cert.HeadReferenceIdeal.Read.val_main_v50_eq (F := Ideal) _ _ ).trans
        (congr (congr (congr (congr (congrArg (Cert.HeadReferenceIdeal.Read.val_main_v50 (F := Ideal)) e0) e1) e2) e3) e4)
    · exact (Cert.HeadReferenceIdeal.Read.val_main_v34_eq (F := Ideal) _ _ _ _ _ ).trans
        (congr (congr (congr (congr (congrArg (Cert.HeadReferenceIdeal.Read.val_main_v34 (F := Ideal)) e0) e1) e2) e3) e4)
    · exact (Cert.HeadReferenceIdeal.Read.val_main_v51_eq (F := Ideal) _ _ _ _ _ ).trans
        (congr (congr (congr (congr (congrArg (Cert.HeadReferenceIdeal.Read.val_main_v51 (F := Ideal)) e0) e1) e2) e3) e4)
    · exact (Cert.HeadReferenceIdeal.Read.val_main_v52_eq (F := Ideal) _ _ ).trans
        (congr (congr (congr (congr (congrArg (Cert.HeadReferenceIdeal.Read.val_main_v52 (F := Ideal)) e0) e1) e2) e3) e4)
end

end Cert.HeadClaim

end
-- ==== Proof.PoolFwdMath.lean ====
/- The causal pooling over the real numbers: the sum over a window as a difference of two prefix sums. -/
module

public import proofs.«01_k».proof.Proof.PoolMath

@[expose] public section

noncomputable section

namespace Cert.PoolFwdMath

open Idealize.ShloMosaic
open Cert.PoolMath

/-- The sum of the first `n` rows. -/
def pre (X : ℕ → ℝ) (n : ℕ) : ℝ := ∑ k ∈ Finset.range n, X k

/-- The sum of the rows that a window of `w` covers up to row `r`. -/
def win (X : ℕ → ℝ) (w r : ℕ) : ℝ := ∑ j ∈ Finset.range w, if j ≤ r then X (r - j) else 0

/-- The mean of the rows covered, minus the row itself. -/
def pooled (X : ℕ → ℝ) (w r : ℕ) : ℝ := win X w r / (min (r + 1) w : ℕ) - X r

/-- A window is the difference of two prefix sums. -/
theorem pre_sub (X : ℕ → ℝ) (w r : ℕ) : pre X (r + 1) - pre X (r + 1 - w) = win X w r := by
  induction w with
  | zero => simp [win]
  | succ w ih =>
    unfold win at ih ⊢
    rw [Finset.sum_range_succ, ← ih]
    by_cases h : w ≤ r
    · have e : r + 1 - w = (r - w) + 1 := by omega
      have e' : r + 1 - (w + 1) = r - w := by omega
      rw [if_pos h, e, e']
      unfold pre
      rw [Finset.sum_range_succ _ (r - w)]
      ring
    · have e : r + 1 - w = 0 := by omega
      have e' : r + 1 - (w + 1) = 0 := by omega
      rw [if_neg h, e, e', add_zero]

/-- The window sum of the whole height, padded in front: a prefix sum along the middle axis. -/
theorem prefix_sum (x : FVec Ideal ⟨3, ![2, 2048, 512]⟩ .f32) (init : FVec Ideal ⟨0, ![]⟩ .f32) (hi : ∀ k, init k = 0)
    (h : (⟨3, ![2, 2048, 512]⟩ : Shape).ReduceWindows (![1, 2048, 1] : Fin 3 → Nat) ![1, 1, 1] ![0, 2047, 0] ![0, 0, 0] ⟨3, ![2, 2048, 512]⟩)
    (hu : 0 < (⟨0, ![]⟩ : Shape).numel) (b : Fin 2) (r : Fin 2048) (i : Fin 512) (X : ℕ → ℝ)
    (hx : ∀ k : Fin 2048, x (ix3 b k i) = (X k : EReal)) :
    Host.reduceWindowAdd (s := ⟨3, ![2, 2048, 512]⟩) ![1, 2048, 1] ![1, 1, 1] ![0, 2047, 0] ![0, 0, 0] x init h hu (ix3 b r i)
      = (pre X (r.val + 1) : EReal) := by
  unfold Host.reduceWindowAdd
  rw [Ideal.hostReduceWindowAdd_def]
  unfold Ideal.hostReduceWindowAdd Host.reduceWindow
  dsimp only
  rw [hi]
  refine (foldl_coe _ _ (fun n => if 2047 ≤ r.val + n.val then X (r.val + n.val - 2047) else 0) (fun n => ?_) 0).trans ?_
  · have hn : n.val < 2048 := (n.cast numel_win).isLt
    have w0 : ((⟨3, ![1, 2048, 1]⟩ : Shape).rowMajor.symm n 0).val = 0 := by rw [win_symm]; rfl
    have w1 : ((⟨3, ![1, 2048, 1]⟩ : Shape).rowMajor.symm n 1).val = n.val := by rw [win_symm]; rfl
    have w2 : ((⟨3, ![1, 2048, 1]⟩ : Shape).rowMajor.symm n 2).val = 0 := by rw [win_symm]; rfl
    have hr := r.isLt
    by_cases hk : 2047 ≤ r.val + n.val
    · rw [dif_pos, if_pos hk]
      · rw [← hx ⟨r.val + n.val - 2047, by omega⟩]
        refine congrArg x (funext fun a => Fin.ext ?_)
        match a with
        | ⟨0, _⟩ => show b.val * 1 + ((⟨3, ![1, 2048, 1]⟩ : Shape).rowMajor.symm n 0).val - 0 = b.val; omega
        | ⟨1, _⟩ => show r.val * 1 + ((⟨3, ![1, 2048, 1]⟩ : Shape).rowMajor.symm n 1).val - 2047 = r.val + n.val - 2047; omega
        | ⟨2, _⟩ => show i.val * 1 + ((⟨3, ![1, 2048, 1]⟩ : Shape).rowMajor.symm n 2).val - 0 = i.val; omega
      · intro a
        match a with
        | ⟨0, _⟩ => show 0 ≤ b.val * 1 + ((⟨3, ![1, 2048, 1]⟩ : Shape).rowMajor.symm n 0).val ∧ b.val * 1 + ((⟨3, ![1, 2048, 1]⟩ : Shape).rowMajor.symm n 0).val - 0 < 2; omega
        | ⟨1, _⟩ => show 2047 ≤ r.val * 1 + ((⟨3, ![1, 2048, 1]⟩ : Shape).rowMajor.symm n 1).val ∧ r.val * 1 + ((⟨3, ![1, 2048, 1]⟩ : Shape).rowMajor.symm n 1).val - 2047 < 2048; omega
        | ⟨2, _⟩ => show 0 ≤ i.val * 1 + ((⟨3, ![1, 2048, 1]⟩ : Shape).rowMajor.symm n 2).val ∧ i.val * 1 + ((⟨3, ![1, 2048, 1]⟩ : Shape).rowMajor.symm n 2).val - 0 < 512; omega
    · rw [dif_neg, if_neg hk]
      · rfl
      · intro hin
        have h1 : 2047 ≤ r.val * 1 + ((⟨3, ![1, 2048, 1]⟩ : Shape).rowMajor.symm n 1).val ∧ r.val * 1 + ((⟨3, ![1, 2048, 1]⟩ : Shape).rowMajor.symm n 1).val - 2047 < 2048 := hin 1
        omega
  · have hr := r.isLt
    rw [zero_add, ← Fin.sum_univ_def, EReal.coe_eq_coe_iff]
    refine (Fintype.sum_equiv (finCongr numel_win) _ (fun n : Fin 2048 => (fun k => if 2047 ≤ r.val + k then X (r.val + k - 2047) else 0) n.val) fun n => rfl).trans ?_
    have e : Finset.range 2048 = Finset.range ((2047 - r.val) + (r.val + 1)) := congrArg Finset.range (by omega)
    rw [Fin.sum_univ_eq_sum_range (fun k => if 2047 ≤ r.val + k then X (r.val + k - 2047) else 0) 2048, e, Finset.sum_range_add]
    rw [Finset.sum_eq_zero fun k hk => ?_, zero_add]
    · exact Finset.sum_congr rfl fun k hk => by
        rw [Finset.mem_range] at hk
        rw [if_pos (by omega)]; exact congrArg X (by omega)
    · rw [Finset.mem_range] at hk
      exact if_neg (by omega)

/-- The rows with sixteen zero rows in front. -/
def ext (X : ℕ → ℝ) (n : ℕ) : ℝ := if n < 16 then 0 else X (n - 16)

theorem win_ext (X : ℕ → ℝ) (w r : ℕ) (hw : w ≤ 16) : ∑ j ∈ Finset.range w, ext X (r + 16 - j) = win X w r := by
  refine Finset.sum_congr rfl fun j hj => ?_
  rw [Finset.mem_range] at hj
  unfold ext
  by_cases h : j ≤ r
  · rw [if_neg (by omega), if_pos h]; exact congrArg X (by omega)
  · rw [if_pos (by omega), if_neg h]

/-- The rows of sequence `b`, group `g`, channel `i`. -/
def rows (d : Fin 4096 → Fin 4096 → ℝ) (b : Fin 2) (g : Fin 4) (i : Fin 512) (r : ℕ) : ℝ :=
  if h : r < 2048 then d ⟨b.val * 2048 + r, by omega⟩ ⟨g.val * 512 + i.val, by omega⟩ else 0

/-- The pooled value at row `r` of sequence `b`, group `g`, channel `i`. -/
def pool (d : Fin 4096 → Fin 4096 → ℝ) (b : Fin 2) (g : Fin 4) (i : Fin 512) (r : ℕ) : ℝ :=
  pooled (rows d b g i) (2 ^ (g.val + 1)) r

/-- The group product behind it. -/
def mixed (d : Fin 4096 → Fin 4096 → ℝ) (w : Fin 4 → Fin 512 → Fin 512 → EReal) (b : Fin 2) (g : Fin 4) (o : Fin 512) (r : ℕ) : EReal :=
  ∑ i : Fin 512, (pool d b g i r : EReal) * w g i o

end Cert.PoolFwdMath

end
-- ==== Proof.PoolFwdBlock.lean ====
/- What a point of the forward pooling kernel stores, at an index. -/
module

public import Idealize.ShloMosaic.Lib.Pointwise
public import Idealize.ShloMosaic.Lib.Pipeline.ValueKit.Acc
public import proofs.«01_k».proof.Proof.Gen.PoolFwdKernelIdeal.Value
public import proofs.«01_k».proof.Proof.PoolFwdMath
public import proofs.«01_k».proof.Proof.PoolBlock

@[expose] public section

noncomputable section

namespace Cert.PoolFwdBlock

open Cert.PoolFwdKernelIdeal Cert.PoolFwdKernelIdeal.Gen Idealize.ShloMosaic
open Cert.PoolMath Cert.PoolFwdMath

set_option maxRecDepth 16384

/-- The sum of the `w` entries that end at row `e`. -/
def back (E : ℕ → ℝ) (w e : ℕ) : ℝ := ∑ j ∈ Finset.range w, E (e - j)

theorem back_double (E : ℕ → ℝ) (w e : ℕ) : back E w e + back E w (e - w) = back E (w + w) e := by
  unfold back
  rw [Finset.sum_range_add]
  exact congrArg _ (Finset.sum_congr rfl fun j _ => congrArg E (by omega))

/-- The rows with those 1 above added. -/
def st1 (v : FVec Ideal S2064x512 .f32) : FVec Ideal S2064x512 .f32 := addf v (dynamicRotate 0 1#32 none v rotates_S2064x512_d0)

theorem st1_at (v : FVec Ideal S2064x512 .f32) (E : ℕ → ℝ) (i : Fin 512)
    (h : ∀ e : Fin 2064, 1 ≤ e.val + 1 → v (ix2 e i) = (back E 1 e.val : EReal)) (e : Fin 2064) (he : 2 ≤ e.val + 1) :
    st1 v (ix2 e i) = (back E 2 e.val : EReal) := by
  have hm : (e.val + 2064 - 1) % 2064 = e.val - 1 := by omega
  have hv : st1 v (ix2 e i) = v (ix2 e i) + v (ix2 ⟨(e.val + 2064 - 1) % 2064, by omega⟩ i) := by
    pointwise [st1]
  rw [hv, h e (by omega), h _ (by dsimp only; omega), ← EReal.coe_add]
  dsimp only
  rw [hm, back_double]

/-- The rows with those 2 above added. -/
def st2 (v : FVec Ideal S2064x512 .f32) : FVec Ideal S2064x512 .f32 := addf v (dynamicRotate 0 2#32 none v rotates_S2064x512_d0)

theorem st2_at (v : FVec Ideal S2064x512 .f32) (E : ℕ → ℝ) (i : Fin 512)
    (h : ∀ e : Fin 2064, 2 ≤ e.val + 1 → v (ix2 e i) = (back E 2 e.val : EReal)) (e : Fin 2064) (he : 4 ≤ e.val + 1) :
    st2 v (ix2 e i) = (back E 4 e.val : EReal) := by
  have hm : (e.val + 2064 - 2) % 2064 = e.val - 2 := by omega
  have hv : st2 v (ix2 e i) = v (ix2 e i) + v (ix2 ⟨(e.val + 2064 - 2) % 2064, by omega⟩ i) := by
    pointwise [st2]
  rw [hv, h e (by omega), h _ (by dsimp only; omega), ← EReal.coe_add]
  dsimp only
  rw [hm, back_double]

/-- The rows with those 4 above added. -/
def st4 (v : FVec Ideal S2064x512 .f32) : FVec Ideal S2064x512 .f32 := addf v (dynamicRotate 0 4#32 none v rotates_S2064x512_d0)

theorem st4_at (v : FVec Ideal S2064x512 .f32) (E : ℕ → ℝ) (i : Fin 512)
    (h : ∀ e : Fin 2064, 4 ≤ e.val + 1 → v (ix2 e i) = (back E 4 e.val : EReal)) (e : Fin 2064) (he : 8 ≤ e.val + 1) :
    st4 v (ix2 e i) = (back E 8 e.val : EReal) := by
  have hm : (e.val + 2064 - 4) % 2064 = e.val - 4 := by omega
  have hv : st4 v (ix2 e i) = v (ix2 e i) + v (ix2 ⟨(e.val + 2064 - 4) % 2064, by omega⟩ i) := by
    pointwise [st4]
  rw [hv, h e (by omega), h _ (by dsimp only; omega), ← EReal.coe_add]
  dsimp only
  rw [hm, back_double]

/-- The rows with those 8 above added. -/
def st8 (v : FVec Ideal S2064x512 .f32) : FVec Ideal S2064x512 .f32 := addf v (dynamicRotate 0 8#32 none v rotates_S2064x512_d0)

theorem st8_at (v : FVec Ideal S2064x512 .f32) (E : ℕ → ℝ) (i : Fin 512)
    (h : ∀ e : Fin 2064, 8 ≤ e.val + 1 → v (ix2 e i) = (back E 8 e.val : EReal)) (e : Fin 2064) (he : 16 ≤ e.val + 1) :
    st8 v (ix2 e i) = (back E 16 e.val : EReal) := by
  have hm : (e.val + 2064 - 8) % 2064 = e.val - 8 := by omega
  have hv : st8 v (ix2 e i) = v (ix2 e i) + v (ix2 ⟨(e.val + 2064 - 8) % 2064, by omega⟩ i) := by
    pointwise [st8]
  rw [hv, h e (by omega), h _ (by dsimp only; omega), ← EReal.coe_add]
  dsimp only
  rw [hm, back_double]

/-- The block's rows below sixteen zero rows. -/
def cat (i : grid0.Coords) (x1 : FVec Ideal S16x512 .bf16) (x0 : FVec Ideal S2048x512 .bf16) : FVec Ideal S2064x512 .f32 :=
  concatenate S2064x512 0 [⟨S16x512, Scalar.select (Scalar.cmpi .eq
      (Scalar.select
        (Scalar.andi (Scalar.xori (Scalar.cmpi .slt (Scalar.remsi (BitVec.ofNat 32 (i 0).val) (Scalar.select (Scalar.cmpi .eq 1#32 0#32) 1#32 1#32)) 0#32)
            (Scalar.cmpi .slt (Scalar.select (Scalar.cmpi .eq 1#32 0#32) 1#32 1#32) 0#32))
          (Scalar.cmpi .ne (Scalar.remsi (BitVec.ofNat 32 (i 0).val) (Scalar.select (Scalar.cmpi .eq 1#32 0#32) 1#32 1#32)) 0#32))
        (Scalar.addi (Scalar.remsi (BitVec.ofNat 32 (i 0).val) (Scalar.select (Scalar.cmpi .eq 1#32 0#32) 1#32 1#32)) (Scalar.select (Scalar.cmpi .eq 1#32 0#32) 1#32 1#32))
        (Scalar.remsi (BitVec.ofNat 32 (i 0).val) (Scalar.select (Scalar.cmpi .eq 1#32 0#32) 1#32 1#32))) 0#32)
      (broadcast S16x512 (Scalar.ofBits (F := Ideal) .f32 0x00000000#32)) (extf .f32 x1 bitsLt_bf16_f32)⟩,
    ⟨S2048x512, k0_pay4 (F := Ideal) x0⟩] concatenates_S16x512_S2048x512_S2064x512_d0

/-- Every point starts a sequence. -/
theorem first_word (b : Fin 2) :
    Scalar.cmpi .eq
      (Scalar.select
        (Scalar.andi (Scalar.xori (Scalar.cmpi .slt (Scalar.remsi (BitVec.ofNat 32 b.val) (Scalar.select (Scalar.cmpi .eq 1#32 0#32) 1#32 1#32)) 0#32)
            (Scalar.cmpi .slt (Scalar.select (Scalar.cmpi .eq 1#32 0#32) 1#32 1#32) 0#32))
          (Scalar.cmpi .ne (Scalar.remsi (BitVec.ofNat 32 b.val) (Scalar.select (Scalar.cmpi .eq 1#32 0#32) 1#32 1#32)) 0#32))
        (Scalar.addi (Scalar.remsi (BitVec.ofNat 32 b.val) (Scalar.select (Scalar.cmpi .eq 1#32 0#32) 1#32 1#32)) (Scalar.select (Scalar.cmpi .eq 1#32 0#32) 1#32 1#32))
        (Scalar.remsi (BitVec.ofNat 32 b.val) (Scalar.select (Scalar.cmpi .eq 1#32 0#32) 1#32 1#32))) 0#32 = 1#1 := by
  revert b; decide

theorem cat_at (i : grid0.Coords) (x1 : FVec Ideal S16x512 .bf16) (x0 : FVec Ideal S2048x512 .bf16) (X : ℕ → ℝ) (k : Fin 512)
    (h0 : ∀ r : Fin 2048, x0 (ix2 r k) = (X r.val : EReal)) (e : Fin 2064) : cat i x1 x0 (ix2 e k) = (back (ext X) 1 e.val : EReal) := by
  unfold cat
  rw [first_word (i 0)]
  have h : (concatenate S2064x512 0 [⟨S16x512, Scalar.select 1#1 (broadcast S16x512 (Scalar.ofBits (F := Ideal) .f32 0x00000000#32)) (extf .f32 x1 bitsLt_bf16_f32)⟩,
      ⟨S2048x512, k0_pay4 (F := Ideal) x0⟩] concatenates_S16x512_S2048x512_S2064x512_d0 : FVec Ideal S2064x512 .f32) (ix2 e k)
      = if h : e.val < 16 then 0 else x0 (ix2 ⟨e.val - 16, by omega⟩ k) := by
    pointwise [k0_pay4]
  rw [h]
  unfold back ext
  rw [Finset.sum_range_one, Nat.sub_zero]
  split
  · rfl
  · rw [h0]

/-- The window sum of the point's group. -/
def pick (g : BitVec 32) (a b c d : FVec Ideal S2064x512 .f32) : FVec Ideal S2048x512 .f32 :=
  Scalar.select (Scalar.cmpi .sge g 3#32) (extractStridedSlice S2048x512 ![16, 0] d slices_S2064x512_o16_0_S2048x512)
    (Scalar.select (Scalar.cmpi .sge g 2#32) (extractStridedSlice S2048x512 ![16, 0] c slices_S2064x512_o16_0_S2048x512)
      (Scalar.select (Scalar.cmpi .sge g 1#32) (extractStridedSlice S2048x512 ![16, 0] b slices_S2064x512_o16_0_S2048x512)
        (extractStridedSlice S2048x512 ![16, 0] a slices_S2064x512_o16_0_S2048x512)))

theorem pay5_eq (i : grid0.Coords) (x1 : FVec Ideal S16x512 .bf16) (x0 : FVec Ideal S2048x512 .bf16) :
    k0_pay5 (F := Ideal) i x1 x0 = pick (BitVec.ofNat 32 (i 1).val) (st1 (cat i x1 x0)) (st2 (st1 (cat i x1 x0))) (st4 (st2 (st1 (cat i x1 x0))))
      (st8 (st4 (st2 (st1 (cat i x1 x0))))) := rfl

theorem pick_at (g : BitVec 32) (a b c d : FVec Ideal S2064x512 .f32) (r : Fin 2048) (k : Fin 512) :
    pick g a b c d (ix2 r k) = Scalar.select (Scalar.cmpi .sge g 3#32) (d (ix2 ⟨16 + r.val, by omega⟩ k))
      (Scalar.select (Scalar.cmpi .sge g 2#32) (c (ix2 ⟨16 + r.val, by omega⟩ k))
        (Scalar.select (Scalar.cmpi .sge g 1#32) (b (ix2 ⟨16 + r.val, by omega⟩ k)) (a (ix2 ⟨16 + r.val, by omega⟩ k)))) := by
  pointwise [pick]

theorem real_pay5 (i : grid0.Coords) (x1 : FVec Ideal S16x512 .bf16) (x0 : FVec Ideal S2048x512 .bf16) (X : ℕ → ℝ) (k : Fin 512)
    (h0 : ∀ r : Fin 2048, x0 (ix2 r k) = (X r.val : EReal)) (r : Fin 2048) :
    k0_pay5 (F := Ideal) i x1 x0 (ix2 r k) = (win X (2 ^ ((i 1).val + 1)) r.val : EReal) := by
  have a0 : ∀ e : Fin 2064, 1 ≤ e.val + 1 → cat i x1 x0 (ix2 e k) = (back (ext X) 1 e.val : EReal) := fun e _ => cat_at i x1 x0 X k h0 e
  have a1 := st1_at _ _ k a0
  have a2 := st2_at _ _ k a1
  have a3 := st4_at _ _ k a2
  have a4 := st8_at _ _ k a3
  have fin : ∀ w, w ≤ 16 → back (ext X) w (16 + r.val) = win X w r.val := fun w hw => by
    rw [← win_ext X w r.val hw, Nat.add_comm 16]; rfl
  rw [pay5_eq, pick_at, a1 _ (by dsimp only; omega), a2 _ (by dsimp only; omega), a3 _ (by dsimp only; omega), a4 _ (by dsimp only; omega)]
  dsimp only
  rw [fin 2 (by omega), fin 4 (by omega), fin 8 (by omega), fin 16 (by omega)]
  generalize i 1 = g
  change Fin 4 at g
  match g with
  | ⟨0, _⟩ => rfl
  | ⟨1, _⟩ => rfl
  | ⟨2, _⟩ => rfl
  | ⟨3, _⟩ => rfl

/-- The pooled rows a point stores. -/
def store (i : grid0.Coords) (x1 : FVec Ideal S16x512 .bf16) (x0 : FVec Ideal S2048x512 .bf16) : FVec Ideal S2048x512 .bf16 :=
  k0_pay6 (F := Ideal) (BitVec.ofNat 32 (i 0).val) (BitVec.ofNat 32 (i 1).val) (k0_pay4 x0) (k0_pay5 i x1 x0) 1#32 0#1

theorem store_at (i : grid0.Coords) (x1 : FVec Ideal S16x512 .bf16) (x0 : FVec Ideal S2048x512 .bf16) (X : ℕ → ℝ) (k : Fin 512)
    (h0 : ∀ r : Fin 2048, x0 (ix2 r k) = (X r.val : EReal)) (r : Fin 2048) :
    store i x1 x0 (ix2 r k) = (pooled X (2 ^ ((i 1).val + 1)) r.val : EReal) := by
  have hr := r.isLt
  have hg : 2 ^ ((i 1).val + 1) ≤ 16 := (Nat.pow_le_pow_right (by omega) (by have : (i 1).val < 4 := (i 1).isLt; omega : (i 1).val + 1 ≤ 4)).trans (by norm_num)
  have hp : 0 < 2 ^ ((i 1).val + 1) := Nat.pow_pos (by omega)
  have hb := PoolBlock.base_word (i 0)
  have h : store i x1 x0 (ix2 r k) = Ideal.div (k0_pay5 (F := Ideal) i x1 x0 (ix2 r k)) (FloatOps.sitofp (F := Ideal) FTy.f32
      (IntOp.minsi (IntOp.addi (IntOp.addi 0#32 (BitVec.ofNat 32 r.val)) 1#32) (Scalar.shli (2#32) (BitVec.ofNat 32 (i 1).val)))) - x0 (ix2 r k) := by
    unfold store
    pointwise [k0_pay6, k0_pay4]
    rw [hb]
  rw [h, real_pay5 i x1 x0 X k h0 r, h0, PoolBlock.word_zero_add, PoolBlock.window_word (i 1), count_word r.val _ (by omega) (by omega),
    div_nat _ _ (by omega), ← EReal.coe_sub]
  rfl

/-- The logistic function as the kernel computes it. -/
abbrev sg (z : EReal) : EReal := Ideal.div 1 (1 + Ideal.exp (-z))

/-- A mixed value, scaled and gated. -/
def yVal (x z s : EReal) : EReal := x * s * (z * sg z)

/-- The product of the pooled rows with the group's weights. -/
def mixVal (P : FVec Ideal S2048x512 .bf16) (w : FVec Ideal S4x128x512 .bf16) (r : Fin 2048) (b : Fin 512) : EReal :=
  ∑ q : Fin 512, P (ix2 r q) * w (ix3 ⟨q.val / 128, by omega⟩ ⟨q.val % 128, by omega⟩ b)

def mix7 (P : FVec Ideal S2048x512 .bf16) (w : FVec Ideal S4x128x512 .bf16) : FVec Ideal S2048x512 .bf16 := fun i => mixVal P w (i 0) (i 1)

def y5 (P z : FVec Ideal S2048x512 .bf16) (w : FVec Ideal S4x128x512 .bf16) (s : FVec Ideal S1x512 .f32) : FVec Ideal S2048x512 .bf16 :=
  fun i => yVal (mixVal P w (i 0) (i 1)) (z i) (s (ix2 (0 : Fin 1) (i 1)))

/-- The 256 rows from `o` on. -/
abbrev R (o : ℕ) (h : ∀ a, (![o, 0] : Fin 2 → ℕ) a + (![256, 512] : Fin 2 → ℕ) a ≤ S2048x512.size a) : Rect S2048x512 := Rect.unit ![o, 0] ![256, 512] h

section
variable (o : ℕ) (h : ∀ a, (![o, 0] : Fin 2 → ℕ) a + (![256, 512] : Fin 2 → ℕ) a ≤ S2048x512.size a)
include h

theorem bound : o + 256 ≤ 2048 := h 0

theorem emb (a : Fin 256) (b : Fin 512) : (R o h).emb (ix2 a b) = (ix2 (⟨o + a.val, by have := bound o h; omega⟩ : Fin 2048) b : S2048x512.Idx) := by
  funext k; apply Fin.ext
  match k with
  | ⟨0, _⟩ => show o + 1 * a.val = o + a.val; omega
  | ⟨1, _⟩ => show 0 + 1 * b.val = b.val; omega

theorem ld_at (x : FVec Ideal S2048x512 .bf16) (a : Fin 256) (b : Fin 512) :
    View.ld (Val := Elt Ideal) (e' := .bf16) x (R o h) (ix2 a b) = x (ix2 ⟨o + a.val, by have := bound o h; omega⟩ b) := congrArg x (emb o h a b)

/-- A read of rows of what one store of the whole block left. -/
theorem read_back {κ : Kind} {sp : Space} (v : View sig κ sp S2048x512 .bf16) (P : FVec Ideal S2048x512 .bf16)
    (h0 : ∀ a, (![0, 0] : Fin 2 → ℕ) a + S2048x512.size a ≤ S2048x512.size a) :
    v.readCov (Val := Elt Ideal) [⟨Rect.unit (s := S2048x512) ![0, 0] S2048x512.size h0, P⟩] (R o h).toLoadRect = View.ld (Val := Elt Ideal) (e' := .bf16) P (R o h) := by
  have hz : (![0, 0] : Fin 2 → Nat) = fun _ => 0 := by decide
  rw [View.readCov_eq_canon', View.canon_unit_zero (S := S2048x512) hz]

/-- A piece of the products, -/
theorem mix_piece (P : FVec Ideal S2048x512 .bf16) (w : FVec Ideal S4x128x512 .bf16) (f : FVec Ideal S256x512 .bf16)
    (hf : ∀ a b, f (ix2 a b) = ∑ q : Fin 512, View.ld (Val := Elt Ideal) (e' := .bf16) P (R o h) (ix2 a q) * w (ix3 ⟨q.val / 128, by omega⟩ ⟨q.val % 128, by omega⟩ b))
    (x : S256x512.Idx) : f x = mix7 P w ((R o h).emb x) := by
  idx_vars x
  rw [hf, emb o h]
  exact Finset.sum_congr rfl fun q _ => congrArg (fun p : EReal => p * w (ix3 _ _ _)) (ld_at o h P _ q)

/-- and of the gated ones. -/
theorem y_piece (P z : FVec Ideal S2048x512 .bf16) (w : FVec Ideal S4x128x512 .bf16) (s : FVec Ideal S1x512 .f32) (f : FVec Ideal S256x512 .bf16)
    (hf : ∀ a b, f (ix2 a b) = yVal (∑ q : Fin 512, View.ld (Val := Elt Ideal) (e' := .bf16) P (R o h) (ix2 a q) * w (ix3 ⟨q.val / 128, by omega⟩ ⟨q.val % 128, by omega⟩ b))
      (View.ld (Val := Elt Ideal) (e' := .bf16) z (R o h) (ix2 a b)) (s (ix2 (0 : Fin 1) b)))
    (x : S256x512.Idx) : f x = y5 P z w s ((R o h).emb x) := by
  idx_vars x
  rw [hf, emb o h]
  exact congr (congrArg₂ yVal (Finset.sum_congr rfl fun q _ => congrArg (fun p : EReal => p * w (ix3 _ _ _)) (ld_at o h P _ q)) (ld_at o h z _ _)) rfl

end

section
variable (w : FVec Ideal S4x128x512 .bf16) (p z : FVec Ideal S256x512 .bf16) (s : FVec Ideal S1x512 .f32) (a : Fin 256) (b : Fin 512)

theorem mix_0 : k0_pay13 (F := Ideal) (k0_pay8 w p) (ix2 a b) = ∑ q : Fin 512, p (ix2 a q) * w (ix3 ⟨q.val / 128, by omega⟩ ⟨q.val % 128, by omega⟩ b) := by
  pointwise [k0_pay7, k0_pay8, k0_pay9, k0_pay10, k0_pay11, k0_pay12, k0_pay13]

theorem y_0 : k0_pay12 (F := Ideal) (k0_pay9 z) (k0_pay10 w p s) (k0_pay11 z) (FloatOps.ofBits FTy.f32 1065353216#32) (ix2 a b) = yVal (∑ q : Fin 512, p (ix2 a q) * w (ix3 ⟨q.val / 128, by omega⟩ ⟨q.val % 128, by omega⟩ b)) (z (ix2 a b)) (s (ix2 (0 : Fin 1) b)) := by
  unfold yVal sg
  pointwise [k0_pay7, k0_pay8, k0_pay9, k0_pay10, k0_pay11, k0_pay12, k0_pay13]
  simp only [zero_sub]

theorem mix_1 : k0_pay16 (F := Ideal) (k0_pay7 w) p (ix2 a b) = ∑ q : Fin 512, p (ix2 a q) * w (ix3 ⟨q.val / 128, by omega⟩ ⟨q.val % 128, by omega⟩ b) := by
  pointwise [k0_pay7, k0_pay14, k0_pay15, k0_pay16]

theorem y_1 : k0_pay15 (F := Ideal) (k0_pay7 w) p z s (ix2 a b) = yVal (∑ q : Fin 512, p (ix2 a q) * w (ix3 ⟨q.val / 128, by omega⟩ ⟨q.val % 128, by omega⟩ b)) (z (ix2 a b)) (s (ix2 (0 : Fin 1) b)) := by
  unfold yVal sg
  pointwise [k0_pay7, k0_pay14, k0_pay15, k0_pay16]
  simp only [zero_sub]

theorem mix_2 : k0_pay19 (F := Ideal) (k0_pay17 (k0_pay7 w) p) (ix2 a b) = ∑ q : Fin 512, p (ix2 a q) * w (ix3 ⟨q.val / 128, by omega⟩ ⟨q.val % 128, by omega⟩ b) := by
  pointwise [k0_pay7, k0_pay17, k0_pay18, k0_pay19]

theorem y_2 : k0_pay18 (F := Ideal) (k0_pay17 (k0_pay7 w) p) z s (ix2 a b) = yVal (∑ q : Fin 512, p (ix2 a q) * w (ix3 ⟨q.val / 128, by omega⟩ ⟨q.val % 128, by omega⟩ b)) (z (ix2 a b)) (s (ix2 (0 : Fin 1) b)) := by
  unfold yVal sg
  pointwise [k0_pay7, k0_pay17, k0_pay18, k0_pay19]
  simp only [zero_sub]

theorem mix_3 : k0_pay22 (F := Ideal) (k0_pay20 (k0_pay7 w) p) (ix2 a b) = ∑ q : Fin 512, p (ix2 a q) * w (ix3 ⟨q.val / 128, by omega⟩ ⟨q.val % 128, by omega⟩ b) := by
  pointwise [k0_pay7, k0_pay20, k0_pay21, k0_pay22]

theorem y_3 : k0_pay21 (F := Ideal) (k0_pay7 w) p z s (ix2 a b) = yVal (∑ q : Fin 512, p (ix2 a q) * w (ix3 ⟨q.val / 128, by omega⟩ ⟨q.val % 128, by omega⟩ b)) (z (ix2 a b)) (s (ix2 (0 : Fin 1) b)) := by
  unfold yVal sg
  pointwise [k0_pay7, k0_pay20, k0_pay21, k0_pay22]
  simp only [zero_sub]

theorem mix_4 : k0_pay25 (F := Ideal) (k0_pay7 w) p (ix2 a b) = ∑ q : Fin 512, p (ix2 a q) * w (ix3 ⟨q.val / 128, by omega⟩ ⟨q.val % 128, by omega⟩ b) := by
  pointwise [k0_pay7, k0_pay23, k0_pay24, k0_pay25]

theorem y_4 : k0_pay24 (F := Ideal) (k0_pay7 w) p z s (ix2 a b) = yVal (∑ q : Fin 512, p (ix2 a q) * w (ix3 ⟨q.val / 128, by omega⟩ ⟨q.val % 128, by omega⟩ b)) (z (ix2 a b)) (s (ix2 (0 : Fin 1) b)) := by
  unfold yVal sg
  pointwise [k0_pay7, k0_pay23, k0_pay24, k0_pay25]
  simp only [zero_sub]

theorem mix_5 : k0_pay30 (F := Ideal) (k0_pay26 (k0_pay7 w) p) (ix2 a b) = ∑ q : Fin 512, p (ix2 a q) * w (ix3 ⟨q.val / 128, by omega⟩ ⟨q.val % 128, by omega⟩ b) := by
  pointwise [k0_pay7, k0_pay26, k0_pay27, k0_pay28, k0_pay29, k0_pay30]

theorem y_5 : k0_pay29 (F := Ideal) (k0_pay27 z) (k0_pay28 (k0_pay7 w) p s) (ix2 a b) = yVal (∑ q : Fin 512, p (ix2 a q) * w (ix3 ⟨q.val / 128, by omega⟩ ⟨q.val % 128, by omega⟩ b)) (z (ix2 a b)) (s (ix2 (0 : Fin 1) b)) := by
  unfold yVal sg
  pointwise [k0_pay7, k0_pay26, k0_pay27, k0_pay28, k0_pay29, k0_pay30]
  simp only [zero_sub]

theorem mix_6 : k0_pay33 (F := Ideal) (k0_pay7 w) p (ix2 a b) = ∑ q : Fin 512, p (ix2 a q) * w (ix3 ⟨q.val / 128, by omega⟩ ⟨q.val % 128, by omega⟩ b) := by
  pointwise [k0_pay7, k0_pay31, k0_pay32, k0_pay33]

theorem y_6 : k0_pay32 (F := Ideal) (k0_pay7 w) p z s (ix2 a b) = yVal (∑ q : Fin 512, p (ix2 a q) * w (ix3 ⟨q.val / 128, by omega⟩ ⟨q.val % 128, by omega⟩ b)) (z (ix2 a b)) (s (ix2 (0 : Fin 1) b)) := by
  unfold yVal sg
  pointwise [k0_pay7, k0_pay31, k0_pay32, k0_pay33]
  simp only [zero_sub]

theorem mix_7 : k0_pay3 (F := Ideal) (k0_pay7 w) p (ix2 a b) = ∑ q : Fin 512, p (ix2 a q) * w (ix3 ⟨q.val / 128, by omega⟩ ⟨q.val % 128, by omega⟩ b) := by
  pointwise [k0_pay7, k0_pay1, k0_pay2, k0_pay3]

theorem y_7 : k0_pay2 (F := Ideal) (k0_pay7 w) p z s (ix2 a b) = yVal (∑ q : Fin 512, p (ix2 a q) * w (ix3 ⟨q.val / 128, by omega⟩ ⟨q.val % 128, by omega⟩ b)) (z (ix2 a b)) (s (ix2 (0 : Fin 1) b)) := by
  unfold yVal sg
  pointwise [k0_pay7, k0_pay1, k0_pay2, k0_pay3]
  simp only [zero_sub]

end

/-- Eight pieces over the eight blocks of rows cover the block. -/
theorem cover (p : Fin 8 → FVec Ideal S256x512 .bf16) (y : S2048x512.Idx) :
    ∃ pc ∈ ([⟨R 1792 inb_S2048x512_S256x512_1792_0, p 7⟩,
      ⟨R 1536 inb_S2048x512_S256x512_1536_0, p 6⟩,
      ⟨R 1280 inb_S2048x512_S256x512_1280_0, p 5⟩,
      ⟨R 1024 inb_S2048x512_S256x512_1024_0, p 4⟩,
      ⟨R 768 inb_S2048x512_S256x512_768_0, p 3⟩,
      ⟨R 512 inb_S2048x512_S256x512_512_0, p 2⟩,
      ⟨R 256 inb_S2048x512_S256x512_256_0, p 1⟩,
      ⟨R 0 inb_S2048x512_S256x512_0_0, p 0⟩] : List (View.Piece (Elt Ideal) S2048x512 .bf16)), y ∈ pc.1.set := by
  have h0 : (y 0).val < 2048 := (y 0).isLt
  have h1 : (y 1).val < 512 := (y 1).isLt
  have key : ∀ (o : ℕ) (inb : ∀ a, (![o, 0] : Fin 2 → ℕ) a + (![256, 512] : Fin 2 → ℕ) a ≤ S2048x512.size a), o ≤ (y 0).val → (y 0).val < o + 256 →
      y ∈ (R o inb).set := fun o inb ha hb => by
    rw [Rect.mem_set_unit]
    intro a
    match a with
    | ⟨0, _⟩ => exact ⟨ha, hb⟩
    | ⟨1, _⟩ => exact ⟨Nat.zero_le _, show (y 1).val < 0 + 512 by omega⟩
  by_cases c7 : 1792 ≤ (y 0).val
  · exact ⟨_, .head _, key 1792 inb_S2048x512_S256x512_1792_0 c7 (by omega)⟩
  by_cases c6 : 1536 ≤ (y 0).val
  · exact ⟨_, .tail _ (.head _), key 1536 inb_S2048x512_S256x512_1536_0 c6 (by omega)⟩
  by_cases c5 : 1280 ≤ (y 0).val
  · exact ⟨_, .tail _ (.tail _ (.head _)), key 1280 inb_S2048x512_S256x512_1280_0 c5 (by omega)⟩
  by_cases c4 : 1024 ≤ (y 0).val
  · exact ⟨_, .tail _ (.tail _ (.tail _ (.head _))), key 1024 inb_S2048x512_S256x512_1024_0 c4 (by omega)⟩
  by_cases c3 : 768 ≤ (y 0).val
  · exact ⟨_, .tail _ (.tail _ (.tail _ (.tail _ (.head _)))), key 768 inb_S2048x512_S256x512_768_0 c3 (by omega)⟩
  by_cases c2 : 512 ≤ (y 0).val
  · exact ⟨_, .tail _ (.tail _ (.tail _ (.tail _ (.tail _ (.head _))))), key 512 inb_S2048x512_S256x512_512_0 c2 (by omega)⟩
  by_cases c1 : 256 ≤ (y 0).val
  · exact ⟨_, .tail _ (.tail _ (.tail _ (.tail _ (.tail _ (.tail _ (.head _)))))), key 256 inb_S2048x512_S256x512_256_0 c1 (by omega)⟩
  · exact ⟨_, .tail _ (.tail _ (.tail _ (.tail _ (.tail _ (.tail _ (.tail _ (.head _))))))), key 0 inb_S2048x512_S256x512_0_0 (Nat.zero_le _) (by omega)⟩

theorem out7 (P z : FVec Ideal S2048x512 .bf16) (w : FVec Ideal S4x128x512 .bf16) (s : FVec Ideal S1x512 .f32) :
    View.canon (Val := Elt Ideal) (s := S2048x512) (e := .bf16) [⟨R 1792 inb_S2048x512_S256x512_1792_0, k0_pay3 (F := Ideal) (k0_pay7 w) (View.ld (Val := Elt Ideal) (e' := .bf16) P (R 1792 inb_S2048x512_S256x512_1792_0))⟩,
      ⟨R 1536 inb_S2048x512_S256x512_1536_0, k0_pay33 (F := Ideal) (k0_pay7 w) (View.ld (Val := Elt Ideal) (e' := .bf16) P (R 1536 inb_S2048x512_S256x512_1536_0))⟩,
      ⟨R 1280 inb_S2048x512_S256x512_1280_0, k0_pay30 (F := Ideal) (k0_pay26 (k0_pay7 w) (View.ld (Val := Elt Ideal) (e' := .bf16) P (R 1280 inb_S2048x512_S256x512_1280_0)))⟩,
      ⟨R 1024 inb_S2048x512_S256x512_1024_0, k0_pay25 (F := Ideal) (k0_pay7 w) (View.ld (Val := Elt Ideal) (e' := .bf16) P (R 1024 inb_S2048x512_S256x512_1024_0))⟩,
      ⟨R 768 inb_S2048x512_S256x512_768_0, k0_pay22 (F := Ideal) (k0_pay20 (k0_pay7 w) (View.ld (Val := Elt Ideal) (e' := .bf16) P (R 768 inb_S2048x512_S256x512_768_0)))⟩,
      ⟨R 512 inb_S2048x512_S256x512_512_0, k0_pay19 (F := Ideal) (k0_pay17 (k0_pay7 w) (View.ld (Val := Elt Ideal) (e' := .bf16) P (R 512 inb_S2048x512_S256x512_512_0)))⟩,
      ⟨R 256 inb_S2048x512_S256x512_256_0, k0_pay16 (F := Ideal) (k0_pay7 w) (View.ld (Val := Elt Ideal) (e' := .bf16) P (R 256 inb_S2048x512_S256x512_256_0))⟩,
      ⟨R 0 inb_S2048x512_S256x512_0_0, k0_pay13 (F := Ideal) (k0_pay8 w (View.ld (Val := Elt Ideal) (e' := .bf16) P (R 0 inb_S2048x512_S256x512_0_0)))⟩] = mix7 P w := by
  funext y
  refine View.canon_apply_of_pieces (Val := Elt Ideal) (e := .bf16) (mix7 P w) _ (fun p hp => ?_) y
    (cover ![k0_pay13 (F := Ideal) (k0_pay8 w (View.ld (Val := Elt Ideal) (e' := .bf16) P (R 0 inb_S2048x512_S256x512_0_0))), k0_pay16 (F := Ideal) (k0_pay7 w) (View.ld (Val := Elt Ideal) (e' := .bf16) P (R 256 inb_S2048x512_S256x512_256_0)), k0_pay19 (F := Ideal) (k0_pay17 (k0_pay7 w) (View.ld (Val := Elt Ideal) (e' := .bf16) P (R 512 inb_S2048x512_S256x512_512_0))), k0_pay22 (F := Ideal) (k0_pay20 (k0_pay7 w) (View.ld (Val := Elt Ideal) (e' := .bf16) P (R 768 inb_S2048x512_S256x512_768_0))), k0_pay25 (F := Ideal) (k0_pay7 w) (View.ld (Val := Elt Ideal) (e' := .bf16) P (R 1024 inb_S2048x512_S256x512_1024_0)), k0_pay30 (F := Ideal) (k0_pay26 (k0_pay7 w) (View.ld (Val := Elt Ideal) (e' := .bf16) P (R 1280 inb_S2048x512_S256x512_1280_0))), k0_pay33 (F := Ideal) (k0_pay7 w) (View.ld (Val := Elt Ideal) (e' := .bf16) P (R 1536 inb_S2048x512_S256x512_1536_0)), k0_pay3 (F := Ideal) (k0_pay7 w) (View.ld (Val := Elt Ideal) (e' := .bf16) P (R 1792 inb_S2048x512_S256x512_1792_0))] y)
  rcases List.mem_cons.mp hp with rfl | hp
  · exact mix_piece 1792 inb_S2048x512_S256x512_1792_0 P w _ fun a b => mix_7 w (View.ld (Val := Elt Ideal) (e' := .bf16) P (R 1792 inb_S2048x512_S256x512_1792_0)) a b
  rcases List.mem_cons.mp hp with rfl | hp
  · exact mix_piece 1536 inb_S2048x512_S256x512_1536_0 P w _ fun a b => mix_6 w (View.ld (Val := Elt Ideal) (e' := .bf16) P (R 1536 inb_S2048x512_S256x512_1536_0)) a b
  rcases List.mem_cons.mp hp with rfl | hp
  · exact mix_piece 1280 inb_S2048x512_S256x512_1280_0 P w _ fun a b => mix_5 w (View.ld (Val := Elt Ideal) (e' := .bf16) P (R 1280 inb_S2048x512_S256x512_1280_0)) a b
  rcases List.mem_cons.mp hp with rfl | hp
  · exact mix_piece 1024 inb_S2048x512_S256x512_1024_0 P w _ fun a b => mix_4 w (View.ld (Val := Elt Ideal) (e' := .bf16) P (R 1024 inb_S2048x512_S256x512_1024_0)) a b
  rcases List.mem_cons.mp hp with rfl | hp
  · exact mix_piece 768 inb_S2048x512_S256x512_768_0 P w _ fun a b => mix_3 w (View.ld (Val := Elt Ideal) (e' := .bf16) P (R 768 inb_S2048x512_S256x512_768_0)) a b
  rcases List.mem_cons.mp hp with rfl | hp
  · exact mix_piece 512 inb_S2048x512_S256x512_512_0 P w _ fun a b => mix_2 w (View.ld (Val := Elt Ideal) (e' := .bf16) P (R 512 inb_S2048x512_S256x512_512_0)) a b
  rcases List.mem_cons.mp hp with rfl | hp
  · exact mix_piece 256 inb_S2048x512_S256x512_256_0 P w _ fun a b => mix_1 w (View.ld (Val := Elt Ideal) (e' := .bf16) P (R 256 inb_S2048x512_S256x512_256_0)) a b
  rcases List.mem_cons.mp hp with rfl | hp
  · exact mix_piece 0 inb_S2048x512_S256x512_0_0 P w _ fun a b => mix_0 w (View.ld (Val := Elt Ideal) (e' := .bf16) P (R 0 inb_S2048x512_S256x512_0_0)) a b
  · exact absurd hp List.not_mem_nil

theorem out5 (P z : FVec Ideal S2048x512 .bf16) (w : FVec Ideal S4x128x512 .bf16) (s : FVec Ideal S1x512 .f32) :
    View.canon (Val := Elt Ideal) (s := S2048x512) (e := .bf16) [⟨R 1792 inb_S2048x512_S256x512_1792_0, k0_pay2 (F := Ideal) (k0_pay7 w) (View.ld (Val := Elt Ideal) (e' := .bf16) P (R 1792 inb_S2048x512_S256x512_1792_0)) (View.ld (Val := Elt Ideal) (e' := .bf16) z (R 1792 inb_S2048x512_S256x512_1792_0)) s⟩,
      ⟨R 1536 inb_S2048x512_S256x512_1536_0, k0_pay32 (F := Ideal) (k0_pay7 w) (View.ld (Val := Elt Ideal) (e' := .bf16) P (R 1536 inb_S2048x512_S256x512_1536_0)) (View.ld (Val := Elt Ideal) (e' := .bf16) z (R 1536 inb_S2048x512_S256x512_1536_0)) s⟩,
      ⟨R 1280 inb_S2048x512_S256x512_1280_0, k0_pay29 (F := Ideal) (k0_pay27 (View.ld (Val := Elt Ideal) (e' := .bf16) z (R 1280 inb_S2048x512_S256x512_1280_0))) (k0_pay28 (k0_pay7 w) (View.ld (Val := Elt Ideal) (e' := .bf16) P (R 1280 inb_S2048x512_S256x512_1280_0)) s)⟩,
      ⟨R 1024 inb_S2048x512_S256x512_1024_0, k0_pay24 (F := Ideal) (k0_pay7 w) (View.ld (Val := Elt Ideal) (e' := .bf16) P (R 1024 inb_S2048x512_S256x512_1024_0)) (View.ld (Val := Elt Ideal) (e' := .bf16) z (R 1024 inb_S2048x512_S256x512_1024_0)) s⟩,
      ⟨R 768 inb_S2048x512_S256x512_768_0, k0_pay21 (F := Ideal) (k0_pay7 w) (View.ld (Val := Elt Ideal) (e' := .bf16) P (R 768 inb_S2048x512_S256x512_768_0)) (View.ld (Val := Elt Ideal) (e' := .bf16) z (R 768 inb_S2048x512_S256x512_768_0)) s⟩,
      ⟨R 512 inb_S2048x512_S256x512_512_0, k0_pay18 (F := Ideal) (k0_pay17 (k0_pay7 w) (View.ld (Val := Elt Ideal) (e' := .bf16) P (R 512 inb_S2048x512_S256x512_512_0))) (View.ld (Val := Elt Ideal) (e' := .bf16) z (R 512 inb_S2048x512_S256x512_512_0)) s⟩,
      ⟨R 256 inb_S2048x512_S256x512_256_0, k0_pay15 (F := Ideal) (k0_pay7 w) (View.ld (Val := Elt Ideal) (e' := .bf16) P (R 256 inb_S2048x512_S256x512_256_0)) (View.ld (Val := Elt Ideal) (e' := .bf16) z (R 256 inb_S2048x512_S256x512_256_0)) s⟩,
      ⟨R 0 inb_S2048x512_S256x512_0_0, k0_pay12 (F := Ideal) (k0_pay9 (View.ld (Val := Elt Ideal) (e' := .bf16) z (R 0 inb_S2048x512_S256x512_0_0))) (k0_pay10 w (View.ld (Val := Elt Ideal) (e' := .bf16) P (R 0 inb_S2048x512_S256x512_0_0)) s) (k0_pay11 (View.ld (Val := Elt Ideal) (e' := .bf16) z (R 0 inb_S2048x512_S256x512_0_0))) (FloatOps.ofBits FTy.f32 1065353216#32)⟩] = y5 P z w s := by
  funext y
  refine View.canon_apply_of_pieces (Val := Elt Ideal) (e := .bf16) (y5 P z w s) _ (fun p hp => ?_) y
    (cover ![k0_pay12 (F := Ideal) (k0_pay9 (View.ld (Val := Elt Ideal) (e' := .bf16) z (R 0 inb_S2048x512_S256x512_0_0))) (k0_pay10 w (View.ld (Val := Elt Ideal) (e' := .bf16) P (R 0 inb_S2048x512_S256x512_0_0)) s) (k0_pay11 (View.ld (Val := Elt Ideal) (e' := .bf16) z (R 0 inb_S2048x512_S256x512_0_0))) (FloatOps.ofBits FTy.f32 1065353216#32), k0_pay15 (F := Ideal) (k0_pay7 w) (View.ld (Val := Elt Ideal) (e' := .bf16) P (R 256 inb_S2048x512_S256x512_256_0)) (View.ld (Val := Elt Ideal) (e' := .bf16) z (R 256 inb_S2048x512_S256x512_256_0)) s, k0_pay18 (F := Ideal) (k0_pay17 (k0_pay7 w) (View.ld (Val := Elt Ideal) (e' := .bf16) P (R 512 inb_S2048x512_S256x512_512_0))) (View.ld (Val := Elt Ideal) (e' := .bf16) z (R 512 inb_S2048x512_S256x512_512_0)) s, k0_pay21 (F := Ideal) (k0_pay7 w) (View.ld (Val := Elt Ideal) (e' := .bf16) P (R 768 inb_S2048x512_S256x512_768_0)) (View.ld (Val := Elt Ideal) (e' := .bf16) z (R 768 inb_S2048x512_S256x512_768_0)) s, k0_pay24 (F := Ideal) (k0_pay7 w) (View.ld (Val := Elt Ideal) (e' := .bf16) P (R 1024 inb_S2048x512_S256x512_1024_0)) (View.ld (Val := Elt Ideal) (e' := .bf16) z (R 1024 inb_S2048x512_S256x512_1024_0)) s, k0_pay29 (F := Ideal) (k0_pay27 (View.ld (Val := Elt Ideal) (e' := .bf16) z (R 1280 inb_S2048x512_S256x512_1280_0))) (k0_pay28 (k0_pay7 w) (View.ld (Val := Elt Ideal) (e' := .bf16) P (R 1280 inb_S2048x512_S256x512_1280_0)) s), k0_pay32 (F := Ideal) (k0_pay7 w) (View.ld (Val := Elt Ideal) (e' := .bf16) P (R 1536 inb_S2048x512_S256x512_1536_0)) (View.ld (Val := Elt Ideal) (e' := .bf16) z (R 1536 inb_S2048x512_S256x512_1536_0)) s, k0_pay2 (F := Ideal) (k0_pay7 w) (View.ld (Val := Elt Ideal) (e' := .bf16) P (R 1792 inb_S2048x512_S256x512_1792_0)) (View.ld (Val := Elt Ideal) (e' := .bf16) z (R 1792 inb_S2048x512_S256x512_1792_0)) s] y)
  rcases List.mem_cons.mp hp with rfl | hp
  · exact y_piece 1792 inb_S2048x512_S256x512_1792_0 P z w s _ fun a b => y_7 w (View.ld (Val := Elt Ideal) (e' := .bf16) P (R 1792 inb_S2048x512_S256x512_1792_0)) (View.ld (Val := Elt Ideal) (e' := .bf16) z (R 1792 inb_S2048x512_S256x512_1792_0)) s a b
  rcases List.mem_cons.mp hp with rfl | hp
  · exact y_piece 1536 inb_S2048x512_S256x512_1536_0 P z w s _ fun a b => y_6 w (View.ld (Val := Elt Ideal) (e' := .bf16) P (R 1536 inb_S2048x512_S256x512_1536_0)) (View.ld (Val := Elt Ideal) (e' := .bf16) z (R 1536 inb_S2048x512_S256x512_1536_0)) s a b
  rcases List.mem_cons.mp hp with rfl | hp
  · exact y_piece 1280 inb_S2048x512_S256x512_1280_0 P z w s _ fun a b => y_5 w (View.ld (Val := Elt Ideal) (e' := .bf16) P (R 1280 inb_S2048x512_S256x512_1280_0)) (View.ld (Val := Elt Ideal) (e' := .bf16) z (R 1280 inb_S2048x512_S256x512_1280_0)) s a b
  rcases List.mem_cons.mp hp with rfl | hp
  · exact y_piece 1024 inb_S2048x512_S256x512_1024_0 P z w s _ fun a b => y_4 w (View.ld (Val := Elt Ideal) (e' := .bf16) P (R 1024 inb_S2048x512_S256x512_1024_0)) (View.ld (Val := Elt Ideal) (e' := .bf16) z (R 1024 inb_S2048x512_S256x512_1024_0)) s a b
  rcases List.mem_cons.mp hp with rfl | hp
  · exact y_piece 768 inb_S2048x512_S256x512_768_0 P z w s _ fun a b => y_3 w (View.ld (Val := Elt Ideal) (e' := .bf16) P (R 768 inb_S2048x512_S256x512_768_0)) (View.ld (Val := Elt Ideal) (e' := .bf16) z (R 768 inb_S2048x512_S256x512_768_0)) s a b
  rcases List.mem_cons.mp hp with rfl | hp
  · exact y_piece 512 inb_S2048x512_S256x512_512_0 P z w s _ fun a b => y_2 w (View.ld (Val := Elt Ideal) (e' := .bf16) P (R 512 inb_S2048x512_S256x512_512_0)) (View.ld (Val := Elt Ideal) (e' := .bf16) z (R 512 inb_S2048x512_S256x512_512_0)) s a b
  rcases List.mem_cons.mp hp with rfl | hp
  · exact y_piece 256 inb_S2048x512_S256x512_256_0 P z w s _ fun a b => y_1 w (View.ld (Val := Elt Ideal) (e' := .bf16) P (R 256 inb_S2048x512_S256x512_256_0)) (View.ld (Val := Elt Ideal) (e' := .bf16) z (R 256 inb_S2048x512_S256x512_256_0)) s a b
  rcases List.mem_cons.mp hp with rfl | hp
  · exact y_piece 0 inb_S2048x512_S256x512_0_0 P z w s _ fun a b => y_0 w (View.ld (Val := Elt Ideal) (e' := .bf16) P (R 0 inb_S2048x512_S256x512_0_0)) (View.ld (Val := Elt Ideal) (e' := .bf16) z (R 0 inb_S2048x512_S256x512_0_0)) s a b
  · exact absurd hp List.not_mem_nil

end Cert.PoolFwdBlock

end
-- ==== Proof.PoolFwdArray.lean ====
/- The pooling layer's three result arrays after the run. -/
module

public import proofs.«01_k».proof.Proof.PoolFwdBlock
public import Idealize.ShloMosaic.Lib.WritesUnit

@[expose] public section

noncomputable section

namespace Cert.PoolFwdArray

open Cert.PoolFwdKernelIdeal Cert.PoolFwdKernelIdeal.Gen Cert.PoolFwdKernelIdeal.Value Idealize.ShloMosaic Idealize.ShloMosaic.Pipeline
open Cert.PoolFwdMath Cert.PoolFwdBlock

set_option maxRecDepth 16384

variable (m : (ℓ : Loc nD τ sig) → Buf (Elt Ideal) ℓ)

/-- The launch contents of the three arguments. -/
abbrev arg0 (c : Dev nD) : FVec Ideal S4096x4096 .bf16 := m (c.tc.loc main_arg0)
abbrev arg1 (c : Dev nD) : FVec Ideal S4x512x512 .bf16 := m (c.tc.loc main_arg1)
abbrev arg2 (c : Dev nD) : FVec Ideal S1x2048 .f32 := m (c.tc.loc main_arg2)

theorem ltN (t : Fin grid0.N) : t.val < 8 := t.isLt

theorem coords0 : ∀ t : Fin grid0.N, (grid0.coords t 0).val = t.val / 4 ∧ (grid0.coords t 1).val = t.val % 4 := by decide +kernel
theorem idx0 : ∀ t : Fin grid0.N, win0_0.index t 0 = t.val / 4 ∧ win0_0.index t 1 = t.val % 4 := by decide +kernel
theorem idx2 : ∀ t : Fin grid0.N, win0_2.index t 0 = t.val / 4 ∧ win0_2.index t 1 = (4 + t.val % 4) := by decide +kernel
theorem idx3 : ∀ t : Fin grid0.N, win0_3.index t 0 = 0 ∧ win0_3.index t 1 = t.val % 4 ∧ win0_3.index t 2 = 0 := by decide +kernel
theorem idx4 : ∀ t : Fin grid0.N, win0_4.index t 0 = 0 ∧ win0_4.index t 1 = t.val % 4 := by decide +kernel
theorem idx5 : ∀ t : Fin grid0.N, win0_5.index t 0 = t.val / 4 ∧ win0_5.index t 1 = t.val % 4 := by decide +kernel
theorem xsz5 : ∀ t : Fin grid0.N, win0_5.xsize (grid0.coords t) 0 = 2048 ∧ win0_5.xsize (grid0.coords t) 1 = 512 := by decide +kernel
theorem idx6 : ∀ t : Fin grid0.N, win0_6.index t 0 = t.val / 4 ∧ win0_6.index t 1 = t.val % 4 := by decide +kernel
theorem xsz6 : ∀ t : Fin grid0.N, win0_6.xsize (grid0.coords t) 0 = 2048 ∧ win0_6.xsize (grid0.coords t) 1 = 512 := by decide +kernel
theorem idx7 : ∀ t : Fin grid0.N, win0_7.index t 0 = t.val / 4 ∧ win0_7.index t 1 = t.val % 4 := by decide +kernel
theorem xsz7 : ∀ t : Fin grid0.N, win0_7.xsize (grid0.coords t) 0 = 2048 ∧ win0_7.xsize (grid0.coords t) 1 = 512 := by decide +kernel

theorem iblk0 (c : Dev nD) (t : Fin grid0.N) (r : Fin 2048) (k : Fin 512) :
    iblk m c 0 t (ix2 r k) = arg0 m c (ix2 ⟨t.val / 4 * 2048 + r.val, by have := ltN t; omega⟩ ⟨t.val % 4 * 512 + k.val, by omega⟩) := by
  have hi := idx0 t
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 2048 + 1 * r.val = t.val / 4 * 2048 + r.val; rw [hi.1]; omega
  | ⟨1, _⟩ => show win0_0.index t 1 * 512 + 1 * k.val = t.val % 4 * 512 + k.val; rw [hi.2]; omega

theorem iblk2 (c : Dev nD) (t : Fin grid0.N) (r : Fin 2048) (k : Fin 512) :
    iblk m c 2 t (ix2 r k) = arg0 m c (ix2 ⟨t.val / 4 * 2048 + r.val, by have := ltN t; omega⟩ ⟨(4 + t.val % 4) * 512 + k.val, by omega⟩) := by
  have hi := idx2 t
  unfold iblk
  rw [View.read_apply]
  show V m c main_arg0 _ = _
  rw [V_main_arg0]
  refine congrArg (m (c.tc.loc main_arg0)) ?_
  funext a
  apply Fin.ext
  match a with
  | ⟨0, _⟩ => show win0_2.index t 0 * 2048 + 1 * r.val = t.val / 4 * 2048 + r.val; rw [hi.1]; omega
  | ⟨1, _⟩ => show win0_2.index t 1 * 512 + 1 * k.val = (4 + t.val % 4) * 512 + k.val; rw [hi.2]; omega

theorem iblk4 (c : Dev nD) (t : Fin grid0.N) (r : Fin 1) (k : Fin 512) :
    iblk m c 4 t (ix2 r k) = arg2 m c (ix2 ⟨0 * 1 + r.val, by have := ltN t; omega⟩ ⟨t.val % 4 * 512 + k.val, by omega⟩) := by
  have hi := idx4 t
  unfold iblk
  rw [View.read_apply]
  show V m c main_arg2 _ = _
  rw [V_main_arg2]
  refine congrArg (m (c.tc.loc main_arg2)) ?_
  funext a
  apply Fin.ext
  match a with
  | ⟨0, _⟩ => show win0_4.index t 0 * 1 + 1 * r.val = 0 * 1 + r.val; rw [hi.1]; omega
  | ⟨1, _⟩ => show win0_4.index t 1 * 512 + 1 * k.val = t.val % 4 * 512 + k.val; rw [hi.2]; omega

/-- The weights as the launch passes them: the rows regrouped so that a block holds one group. -/
theorem weights (c : Dev nD) (a : Fin 4) (x : Fin 512) (o : Fin 512) :
    V m c main_v2 (ix3 a x o) = arg1 m c (ix3 ⟨x.val / 128, by omega⟩ ⟨a.val * 128 + x.val % 128, by omega⟩ o) := by
  have h : V m c main_v2 = shapeCast S4x512x512 (transpose S4x4x128x512 [1, 0, 2, 3] (shapeCast S4x4x128x512 (arg1 m c) shapeCasts_S4x512x512_S4x4x128x512) transposes_S4x4x128x512_S4x4x128x512_1_0_2_3) shapeCasts_S4x4x128x512_S4x512x512 := by
    unfold V; after_results; rfl
  rw [h]
  pointwise []

/-- The weights' block at a point. -/
theorem iblk3 (c : Dev nD) (t : Fin grid0.N) (a : Fin 4) (e : Fin 128) (o : Fin 512) :
    iblk m c 3 t (ix3 a e o) = arg1 m c (ix3 ⟨t.val % 4, by omega⟩ ⟨a.val * 128 + e.val, by omega⟩ o) := by
  have hi := idx3 t
  unfold iblk
  rw [View.read_apply]
  show V m c main_v2 _ = _
  have he : ∀ i : S4x512x512.Idx, i = ix3 a ⟨t.val % 4 * 128 + e.val, by omega⟩ o → V m c main_v2 i = arg1 m c (ix3 ⟨t.val % 4, by omega⟩ ⟨a.val * 128 + e.val, by omega⟩ o) := by
    rintro i rfl
    rw [weights]
    refine congrArg (arg1 m c) ?_
    funext k
    apply Fin.ext
    match k with
    | ⟨0, _⟩ => show (t.val % 4 * 128 + e.val) / 128 = t.val % 4; omega
    | ⟨1, _⟩ => show a.val * 128 + (t.val % 4 * 128 + e.val) % 128 = a.val * 128 + e.val; omega
    | ⟨2, _⟩ => rfl
  apply he
  funext k
  apply Fin.ext
  match k with
  | ⟨0, _⟩ => show win0_3.index t 0 * 4 + 1 * a.val = a.val; rw [hi.1]; omega
  | ⟨1, _⟩ => show win0_3.index t 1 * 128 + 1 * e.val = t.val % 4 * 128 + e.val; rw [hi.2.1]; omega
  | ⟨2, _⟩ => show win0_3.index t 2 * 512 + 1 * o.val = o.val; rw [hi.2.2]; omega

/-- The pooled rows a point stores. -/
abbrev P (c : Dev nD) (t : Fin cfg0.N) : FVec Ideal S2048x512 .bf16 := store (grid0.coords t) (iblk m c 1 t) (iblk m c 0 t)

/-- What the points store of the three results. -/
theorem after5 (c : Dev nD) (t : Fin cfg0.N) : (outsAt0 m c t).1 = y5 (P m c t) (iblk m c 2 t) (iblk m c 3 t) (iblk m c 4 t) := by
  unfold outsAt0; dsimp only; frame_out
  rw [read_back, read_back, read_back, read_back, read_back, read_back, read_back, read_back]
  exact out5 (P m c t) _ _ _

theorem after6 (c : Dev nD) (t : Fin cfg0.N) : (outsAt0 m c t).2.1 = P m c t := by
  unfold outsAt0; dsimp only; frame_out
  rfl

theorem after7 (c : Dev nD) (t : Fin cfg0.N) : (outsAt0 m c t).2.2 = mix7 (P m c t) (iblk m c 3 t) := by
  unfold outsAt0; dsimp only; frame_out
  rw [read_back, read_back, read_back, read_back, read_back, read_back, read_back, read_back]
  exact out7 (P m c t) (iblk m c 2 t) _ (iblk m c 4 t)

/-- Where a point's block of window 5 lies in its array. -/
theorem mem_blk5 (t : Fin grid0.N) (i : S4096x2048.Idx) :
    i ∈ ((cfg0.win 5).blk t).view.set ↔ (t.val / 4 * 2048 ≤ (i 0).val ∧ (i 0).val < t.val / 4 * 2048 + 2048) ∧ (t.val % 4 * 512 ≤ (i 1).val ∧ (i 1).val < t.val % 4 * 512 + 512) := by
  show i ∈ ((View.whole main_v3_0).slice (win0_5.rect t)).set ↔ _
  rw [View.set_slice_whole, Rect.mem_set_unit]
  have e := idx5 t
  have x := xsz5 t
  refine ⟨fun h => ⟨?_, ?_⟩, fun h a => ?_⟩
  · have : win0_5.index t 0 * 2048 ≤ (i 0).val ∧ (i 0).val < win0_5.index t 0 * 2048 + win0_5.xsize (grid0.coords t) 0 := h 0
    rwa [e.1, x.1] at this
  · have : win0_5.index t 1 * 512 ≤ (i 1).val ∧ (i 1).val < win0_5.index t 1 * 512 + win0_5.xsize (grid0.coords t) 1 := h 1
    rwa [e.2, x.2] at this
  · match a with
    | ⟨0, _⟩ =>
      show win0_5.index t 0 * 2048 ≤ (i 0).val ∧ (i 0).val < win0_5.index t 0 * 2048 + win0_5.xsize (grid0.coords t) 0
      rw [e.1, x.1]; exact h.1
    | ⟨1, _⟩ =>
      show win0_5.index t 1 * 512 ≤ (i 1).val ∧ (i 1).val < win0_5.index t 1 * 512 + win0_5.xsize (grid0.coords t) 1
      rw [e.2, x.2]; exact h.2

/-- What a point writes to window 5. -/
theorem flushed_read5 (c : Dev nD) (t : Fin grid0.N) (G : S4096x2048.Idx → EReal)
    (h : ∀ (r : Fin 2048) (k : Fin 512), (y5 (P m c t) (iblk m c 2 t) (iblk m c 3 t) (iblk m c 4 t)) (ix2 r k) = G (ix2 ⟨t.val / 4 * 2048 + r.val, by have := ltN t; omega⟩ ⟨t.val % 4 * 512 + k.val, by omega⟩)) :
    (dats m 0 c).flushed 5 t = ((cfg0.win 5).blk t).view.read (Elt Ideal) G := by
  rw [flushed5]
  funext y
  have e := idx5 t
  have x := xsz5 t
  have h0 : (y 0).val < 2048 := x.1 ▸ (y 0).isLt
  have h1 : (y 1).val < 512 := x.2 ▸ (y 1).isLt
  have hj : (cfg0.win 5).xinj (grid0.coords t) y = ix2 (⟨(y 0).val, h0⟩ : Fin 2048) (⟨(y 1).val, h1⟩ : Fin 512) := by
    funext a; apply Fin.ext
    match a with
    | ⟨0, _⟩ => rfl
    | ⟨1, _⟩ => rfl
  have hi : ((cfg0.win 5).blk t).view.emb y = (ix2 (⟨t.val / 4 * 2048 + (y 0).val, by have := ltN t; omega⟩) (⟨t.val % 4 * 512 + (y 1).val, by omega⟩) : S4096x2048.Idx) := by
    funext a; apply Fin.ext
    match a with
    | ⟨0, _⟩ => show win0_5.index t 0 * 2048 + 1 * (y 0).val = t.val / 4 * 2048 + (y 0).val; rw [e.1]; omega
    | ⟨1, _⟩ => show win0_5.index t 1 * 512 + 1 * (y 1).val = t.val % 4 * 512 + (y 1).val; rw [e.2]; omega
  refine (congrArg (outsAt0 m c t).1 hj).trans ?_
  refine (congrFun (after5 m c t) _).trans ((h _ _).trans ?_)
  exact (congrArg G hi).symm

/-- Where a point's block of window 6 lies in its array. -/
theorem mem_blk6 (t : Fin grid0.N) (i : S4096x2048.Idx) :
    i ∈ ((cfg0.win 6).blk t).view.set ↔ (t.val / 4 * 2048 ≤ (i 0).val ∧ (i 0).val < t.val / 4 * 2048 + 2048) ∧ (t.val % 4 * 512 ≤ (i 1).val ∧ (i 1).val < t.val % 4 * 512 + 512) := by
  show i ∈ ((View.whole main_v3_1).slice (win0_6.rect t)).set ↔ _
  rw [View.set_slice_whole, Rect.mem_set_unit]
  have e := idx6 t
  have x := xsz6 t
  refine ⟨fun h => ⟨?_, ?_⟩, fun h a => ?_⟩
  · have : win0_6.index t 0 * 2048 ≤ (i 0).val ∧ (i 0).val < win0_6.index t 0 * 2048 + win0_6.xsize (grid0.coords t) 0 := h 0
    rwa [e.1, x.1] at this
  · have : win0_6.index t 1 * 512 ≤ (i 1).val ∧ (i 1).val < win0_6.index t 1 * 512 + win0_6.xsize (grid0.coords t) 1 := h 1
    rwa [e.2, x.2] at this
  · match a with
    | ⟨0, _⟩ =>
      show win0_6.index t 0 * 2048 ≤ (i 0).val ∧ (i 0).val < win0_6.index t 0 * 2048 + win0_6.xsize (grid0.coords t) 0
      rw [e.1, x.1]; exact h.1
    | ⟨1, _⟩ =>
      show win0_6.index t 1 * 512 ≤ (i 1).val ∧ (i 1).val < win0_6.index t 1 * 512 + win0_6.xsize (grid0.coords t) 1
      rw [e.2, x.2]; exact h.2

/-- What a point writes to window 6. -/
theorem flushed_read6 (c : Dev nD) (t : Fin grid0.N) (G : S4096x2048.Idx → EReal)
    (h : ∀ (r : Fin 2048) (k : Fin 512), (P m c t) (ix2 r k) = G (ix2 ⟨t.val / 4 * 2048 + r.val, by have := ltN t; omega⟩ ⟨t.val % 4 * 512 + k.val, by omega⟩)) :
    (dats m 0 c).flushed 6 t = ((cfg0.win 6).blk t).view.read (Elt Ideal) G := by
  rw [flushed6]
  funext y
  have e := idx6 t
  have x := xsz6 t
  have h0 : (y 0).val < 2048 := x.1 ▸ (y 0).isLt
  have h1 : (y 1).val < 512 := x.2 ▸ (y 1).isLt
  have hj : (cfg0.win 6).xinj (grid0.coords t) y = ix2 (⟨(y 0).val, h0⟩ : Fin 2048) (⟨(y 1).val, h1⟩ : Fin 512) := by
    funext a; apply Fin.ext
    match a with
    | ⟨0, _⟩ => rfl
    | ⟨1, _⟩ => rfl
  have hi : ((cfg0.win 6).blk t).view.emb y = (ix2 (⟨t.val / 4 * 2048 + (y 0).val, by have := ltN t; omega⟩) (⟨t.val % 4 * 512 + (y 1).val, by omega⟩) : S4096x2048.Idx) := by
    funext a; apply Fin.ext
    match a with
    | ⟨0, _⟩ => show win0_6.index t 0 * 2048 + 1 * (y 0).val = t.val / 4 * 2048 + (y 0).val; rw [e.1]; omega
    | ⟨1, _⟩ => show win0_6.index t 1 * 512 + 1 * (y 1).val = t.val % 4 * 512 + (y 1).val; rw [e.2]; omega
  refine (congrArg (outsAt0 m c t).2.1 hj).trans ?_
  refine (congrFun (after6 m c t) _).trans ((h _ _).trans ?_)
  exact (congrArg G hi).symm

/-- Where a point's block of window 7 lies in its array. -/
theorem mem_blk7 (t : Fin grid0.N) (i : S4096x2048.Idx) :
    i ∈ ((cfg0.win 7).blk t).view.set ↔ (t.val / 4 * 2048 ≤ (i 0).val ∧ (i 0).val < t.val / 4 * 2048 + 2048) ∧ (t.val % 4 * 512 ≤ (i 1).val ∧ (i 1).val < t.val % 4 * 512 + 512) := by
  show i ∈ ((View.whole main_v3_2).slice (win0_7.rect t)).set ↔ _
  rw [View.set_slice_whole, Rect.mem_set_unit]
  have e := idx7 t
  have x := xsz7 t
  refine ⟨fun h => ⟨?_, ?_⟩, fun h a => ?_⟩
  · have : win0_7.index t 0 * 2048 ≤ (i 0).val ∧ (i 0).val < win0_7.index t 0 * 2048 + win0_7.xsize (grid0.coords t) 0 := h 0
    rwa [e.1, x.1] at this
  · have : win0_7.index t 1 * 512 ≤ (i 1).val ∧ (i 1).val < win0_7.index t 1 * 512 + win0_7.xsize (grid0.coords t) 1 := h 1
    rwa [e.2, x.2] at this
  · match a with
    | ⟨0, _⟩ =>
      show win0_7.index t 0 * 2048 ≤ (i 0).val ∧ (i 0).val < win0_7.index t 0 * 2048 + win0_7.xsize (grid0.coords t) 0
      rw [e.1, x.1]; exact h.1
    | ⟨1, _⟩ =>
      show win0_7.index t 1 * 512 ≤ (i 1).val ∧ (i 1).val < win0_7.index t 1 * 512 + win0_7.xsize (grid0.coords t) 1
      rw [e.2, x.2]; exact h.2

/-- What a point writes to window 7. -/
theorem flushed_read7 (c : Dev nD) (t : Fin grid0.N) (G : S4096x2048.Idx → EReal)
    (h : ∀ (r : Fin 2048) (k : Fin 512), (mix7 (P m c t) (iblk m c 3 t)) (ix2 r k) = G (ix2 ⟨t.val / 4 * 2048 + r.val, by have := ltN t; omega⟩ ⟨t.val % 4 * 512 + k.val, by omega⟩)) :
    (dats m 0 c).flushed 7 t = ((cfg0.win 7).blk t).view.read (Elt Ideal) G := by
  rw [flushed7]
  funext y
  have e := idx7 t
  have x := xsz7 t
  have h0 : (y 0).val < 2048 := x.1 ▸ (y 0).isLt
  have h1 : (y 1).val < 512 := x.2 ▸ (y 1).isLt
  have hj : (cfg0.win 7).xinj (grid0.coords t) y = ix2 (⟨(y 0).val, h0⟩ : Fin 2048) (⟨(y 1).val, h1⟩ : Fin 512) := by
    funext a; apply Fin.ext
    match a with
    | ⟨0, _⟩ => rfl
    | ⟨1, _⟩ => rfl
  have hi : ((cfg0.win 7).blk t).view.emb y = (ix2 (⟨t.val / 4 * 2048 + (y 0).val, by have := ltN t; omega⟩) (⟨t.val % 4 * 512 + (y 1).val, by omega⟩) : S4096x2048.Idx) := by
    funext a; apply Fin.ext
    match a with
    | ⟨0, _⟩ => show win0_7.index t 0 * 2048 + 1 * (y 0).val = t.val / 4 * 2048 + (y 0).val; rw [e.1]; omega
    | ⟨1, _⟩ => show win0_7.index t 1 * 512 + 1 * (y 1).val = t.val % 4 * 512 + (y 1).val; rw [e.2]; omega
  refine (congrArg (outsAt0 m c t).2.2 hj).trans ?_
  refine (congrFun (after7 m c t) _).trans ((h _ _).trans ?_)
  exact (congrArg G hi).symm

/-- A function of sequence, group, channel and row, at a row and a lane of the array. -/
def at2 {α : Type} (f : Fin 2 → Fin 4 → Fin 512 → ℕ → α) (i : S4096x2048.Idx) : α :=
  f ⟨(i 0).val / 2048, by have : (i 0).val < 4096 := (i 0).isLt; omega⟩ ⟨(i 1).val / 512, by have : (i 1).val < 2048 := (i 1).isLt; omega⟩
    ⟨(i 1).val % 512, by omega⟩ ((i 0).val % 2048)

theorem at2_block {α : Type} (f : Fin 2 → Fin 4 → Fin 512 → ℕ → α) (t : Fin grid0.N) (r : Fin 2048) (k : Fin 512) :
    at2 f (ix2 ⟨t.val / 4 * 2048 + r.val, by have := ltN t; omega⟩ ⟨t.val % 4 * 512 + k.val, by omega⟩)
      = f ⟨t.val / 4, by have := ltN t; omega⟩ ⟨t.val % 4, by omega⟩ k r.val := by
  have ht := ltN t
  have b0 : (t.val / 4 * 2048 + r.val) / 2048 = t.val / 4 := by omega
  have b1 : (t.val % 4 * 512 + k.val) / 512 = t.val % 4 := by omega
  have b2 : (t.val % 4 * 512 + k.val) % 512 = k.val := by omega
  have b3 : (t.val / 4 * 2048 + r.val) % 2048 = r.val := by omega
  show f ⟨(t.val / 4 * 2048 + r.val) / 2048, _⟩ ⟨(t.val % 4 * 512 + k.val) / 512, _⟩ ⟨(t.val % 4 * 512 + k.val) % 512, _⟩ ((t.val / 4 * 2048 + r.val) % 2048) = _
  simp only [b0, b1, b2, b3, Fin.eta]

/-- The pooled values, the group product and the gated one. -/
def pool_target (d : Fin 4096 → Fin 4096 → ℝ) (i : S4096x2048.Idx) : EReal := at2 (fun b g k r => (pool d b g k r : EReal)) i

def mix_target (d : Fin 4096 → Fin 4096 → ℝ) (c : Dev nD) (i : S4096x2048.Idx) : EReal := at2 (mixed d fun g k o => arg1 m c (ix3 g k o)) i

def y_target (d : Fin 4096 → Fin 4096 → ℝ) (c : Dev nD) (i : S4096x2048.Idx) : EReal :=
  yVal (mix_target m d c i) (arg0 m c (ix2 (i 0) ⟨2048 + (i 1).val, by have : (i 1).val < 2048 := (i 1).isLt; omega⟩)) (arg2 m c (ix2 (0 : Fin 1) (i 1)))

section
variable (d : Fin 4096 → Fin 4096 → ℝ) (c : Dev nD) (h0 : ∀ t k, arg0 m c (ix2 t k) = (d t k : EReal))
include h0

theorem P_at (t : Fin grid0.N) (r : Fin 2048) (k : Fin 512) :
    P m c t (ix2 r k) = (pool d ⟨t.val / 4, by have := ltN t; omega⟩ ⟨t.val % 4, by omega⟩ k r.val : EReal) := by
  refine (store_at (grid0.coords t) (iblk m c 1 t) (iblk m c 0 t) (rows d ⟨t.val / 4, by have := ltN t; omega⟩ ⟨t.val % 4, by omega⟩ k) k (fun q => ?_) r).trans ?_
  · unfold rows
    rw [iblk0, h0, dif_pos q.isLt]
  · rw [(coords0 t).2]; rfl

theorem mix_at (t : Fin grid0.N) (r : Fin 2048) (k : Fin 512) :
    mixVal (P m c t) (iblk m c 3 t) r k
      = mixed d (fun g k o => arg1 m c (ix3 g k o)) ⟨t.val / 4, by have := ltN t; omega⟩ ⟨t.val % 4, by omega⟩ k r.val := by
  unfold mixVal mixed
  refine Finset.sum_congr rfl fun q _ => congrArg₂ (fun a b : EReal => a * b) (P_at m d c h0 t r q) ((iblk3 m c t _ _ k).trans ?_)
  refine congrArg (fun x : Fin 512 => arg1 m c (ix3 (⟨t.val % 4, by omega⟩ : Fin 4) x k)) (Fin.ext ?_)
  show q.val / 128 * 128 + q.val % 128 = q.val
  omega

theorem mix_block (t : Fin grid0.N) (r : Fin 2048) (k : Fin 512) :
    mixVal (P m c t) (iblk m c 3 t) r k = mix_target m d c (ix2 ⟨t.val / 4 * 2048 + r.val, by have := ltN t; omega⟩ ⟨t.val % 4 * 512 + k.val, by omega⟩) :=
  (mix_at m d c h0 t r k).trans (at2_block _ t r k).symm

theorem final5 : (dats m 0 c).arrAt 5 cfg0.N = y_target m d c := by
  refine (dats m 0 c).arrAt_eq_of_cover 5 _ (fun t _ => flushed_read5 m c t (y_target m d c) fun r k => ?_) fun i => ?_
  · refine congr (congrArg₂ yVal (mix_block m d c h0 t r k) ((iblk2 m c t r k).trans ?_)) ((iblk4 m c t 0 k).trans ?_)
    · exact congrArg (arg0 m c) (congrArg₂ ix2 rfl (Fin.ext (by show (4 + t.val % 4) * 512 + k.val = 2048 + (t.val % 4 * 512 + k.val); omega)))
    · rfl
  · change S4096x2048.Idx at i
    have hr : (i 0).val < 4096 := (i 0).isLt
    have hc : (i 1).val < 2048 := (i 1).isLt
    refine ⟨(⟨(i 0).val / 2048 * 4 + (i 1).val / 512, by show _ < 8; omega⟩ : Fin grid0.N), Gen.flush0_5 _, ?_⟩
    rw [mem_blk5]
    dsimp only
    omega

theorem final6 : (dats m 0 c).arrAt 6 cfg0.N = pool_target d := by
  refine (dats m 0 c).arrAt_eq_of_cover 6 _ (fun t _ => flushed_read6 m c t (pool_target d) fun r k => ?_) fun i => ?_
  · exact (P_at m d c h0 t r k).trans (at2_block (fun b g k r => (pool d b g k r : EReal)) t r k).symm
  · change S4096x2048.Idx at i
    have hr : (i 0).val < 4096 := (i 0).isLt
    have hc : (i 1).val < 2048 := (i 1).isLt
    refine ⟨(⟨(i 0).val / 2048 * 4 + (i 1).val / 512, by show _ < 8; omega⟩ : Fin grid0.N), Gen.flush0_6 _, ?_⟩
    rw [mem_blk6]
    dsimp only
    omega

theorem final7 : (dats m 0 c).arrAt 7 cfg0.N = mix_target m d c := by
  refine (dats m 0 c).arrAt_eq_of_cover 7 _ (fun t _ => flushed_read7 m c t (mix_target m d c) fun r k => ?_) fun i => ?_
  · exact mix_block m d c h0 t r k
  · change S4096x2048.Idx at i
    have hr : (i 0).val < 4096 := (i 0).isLt
    have hc : (i 1).val < 2048 := (i 1).isLt
    refine ⟨(⟨(i 0).val / 2048 * 4 + (i 1).val / 512, by show _ < 8; omega⟩ : Fin grid0.N), Gen.flush0_7 _, ?_⟩
    rw [mem_blk7]
    dsimp only
    omega

end

end Cert.PoolFwdArray

end
-- ==== Proof.PoolFwdRef.lean ====
/- The pooling layer's forward reference read at an index, over real rows. -/
module

public import proofs.«01_k».proof.Proof.Gen.PoolFwdReferenceIdeal.Read
public import proofs.«01_k».proof.Proof.PoolFwdMath

@[expose] public section

noncomputable section

namespace Cert.PoolFwdRef

open Cert.PoolFwdReferenceIdeal Cert.PoolFwdReferenceIdeal.Gen Cert.PoolFwdReferenceIdeal.Read Idealize.ShloMosaic
open Cert.PoolMath Cert.PoolFwdMath

variable (x0 : FVec Ideal S4096x4096 .bf16) (x1 : FVec Ideal S4x512x512 .bf16) (x2 : FVec Ideal S1x2048 .f32)
variable (d : Fin 4096 → Fin 4096 → ℝ)

set_option maxRecDepth 16384

/-- Group 0: the number of rows its window of 2 covers. -/
theorem count0 (b : Fin 2) (r : Fin 2048) (i : Fin 512) :
    val_main_v19 (F := Ideal) (ix3 b r i) = (((min (r.val + 1) 2 : ℕ) : ℝ) : EReal) := by
  pointwise [val_main_v19, val_main_v18, val_main_v16, val_main_v15, val_main_v14, val_main_v13, val_main_v12, val_main_v11, val_main_c, val_main_c_0]
  exact count_word r.val 2 (by omega) (by omega)

/-- Group 0: its pooled values. -/
theorem group0 (h0 : ∀ t k, x0 (ix2 t k) = (d t k : EReal)) (b : Fin 2) (r : Fin 2048) (i : Fin 512) :
    val_main_v21 (F := Ideal) x0 (ix3 b r i) = (pool d b 0 i r.val : EReal) := by
  have hx : ∀ q : Fin 2048, val_main_v5 (F := Ideal) x0 (ix3 b q i) = (rows d b 0 i q.val : EReal) := fun q => by
    unfold rows
    rw [dif_pos q.isLt, ← h0]
    pointwise [val_main_v5, val_main_v4, val_main_v3, val_main_v2, val_main_v1, val_main_v0]
  have hc : ∀ q : Fin 2048, val_main_v6 (F := Ideal) x0 (ix3 b q i) = (pre (rows d b 0 i) (q.val + 1) : EReal) := fun q => by
    unfold val_main_v6
    exact prefix_sum _ _ (fun k => by pointwise [val_main_call0_call0_v0, val_main_call0_call0_cst]) _ _ b q i _ hx
  have hs : val_main_v10 (F := Ideal) x0 (ix3 b r i) = (pre (rows d b 0 i) (r.val + 1 - 2) : EReal) := by
    pointwise [val_main_v10, val_main_v9, val_main_v8, val_main_cst]
    split
    · rw [show r.val + 1 - 2 = 0 by omega]; rfl
    · rw [hc]
      exact congrArg (fun n : ℕ => ((pre (rows d b 0 i) n : ℝ) : EReal)) (by show r.val - 2 + 1 = r.val + 1 - 2; omega)
  show Ideal.div (val_main_v6 (F := Ideal) x0 (ix3 b r i) - val_main_v10 (F := Ideal) x0 (ix3 b r i)) (val_main_v19 (F := Ideal) (ix3 b r i))
    - val_main_v5 (F := Ideal) x0 (ix3 b r i) = _
  rw [hc, hs, count0, ← EReal.coe_sub, pre_sub, div_nat _ _ (by omega), hx, ← EReal.coe_sub]
  rfl

/-- Group 1: the number of rows its window of 4 covers. -/
theorem count1 (b : Fin 2) (r : Fin 2048) (i : Fin 512) :
    val_main_v37 (F := Ideal) (ix3 b r i) = (((min (r.val + 1) 4 : ℕ) : ℝ) : EReal) := by
  pointwise [val_main_v37, val_main_v36, val_main_v34, val_main_v33, val_main_v32, val_main_v31, val_main_v30, val_main_v29, val_main_c_2, val_main_c_3]
  exact count_word r.val 4 (by omega) (by omega)

/-- Group 1: its pooled values. -/
theorem group1 (h0 : ∀ t k, x0 (ix2 t k) = (d t k : EReal)) (b : Fin 2) (r : Fin 2048) (i : Fin 512) :
    val_main_v39 (F := Ideal) x0 (ix3 b r i) = (pool d b 1 i r.val : EReal) := by
  have hx : ∀ q : Fin 2048, val_main_v23 (F := Ideal) x0 (ix3 b q i) = (rows d b 1 i q.val : EReal) := fun q => by
    unfold rows
    rw [dif_pos q.isLt, ← h0]
    pointwise [val_main_v23, val_main_v22, val_main_v3, val_main_v2, val_main_v1, val_main_v0]
  have hc : ∀ q : Fin 2048, val_main_v24 (F := Ideal) x0 (ix3 b q i) = (pre (rows d b 1 i) (q.val + 1) : EReal) := fun q => by
    unfold val_main_v24
    exact prefix_sum _ _ (fun k => by pointwise [val_main_call1_call0_v0, val_main_call1_call0_cst]) _ _ b q i _ hx
  have hs : val_main_v28 (F := Ideal) x0 (ix3 b r i) = (pre (rows d b 1 i) (r.val + 1 - 4) : EReal) := by
    pointwise [val_main_v28, val_main_v27, val_main_v26, val_main_cst_1]
    split
    · rw [show r.val + 1 - 4 = 0 by omega]; rfl
    · rw [hc]
      exact congrArg (fun n : ℕ => ((pre (rows d b 1 i) n : ℝ) : EReal)) (by show r.val - 4 + 1 = r.val + 1 - 4; omega)
  show Ideal.div (val_main_v24 (F := Ideal) x0 (ix3 b r i) - val_main_v28 (F := Ideal) x0 (ix3 b r i)) (val_main_v37 (F := Ideal) (ix3 b r i))
    - val_main_v23 (F := Ideal) x0 (ix3 b r i) = _
  rw [hc, hs, count1, ← EReal.coe_sub, pre_sub, div_nat _ _ (by omega), hx, ← EReal.coe_sub]
  rfl

/-- Group 2: the number of rows its window of 8 covers. -/
theorem count2 (b : Fin 2) (r : Fin 2048) (i : Fin 512) :
    val_main_v55 (F := Ideal) (ix3 b r i) = (((min (r.val + 1) 8 : ℕ) : ℝ) : EReal) := by
  pointwise [val_main_v55, val_main_v54, val_main_v52, val_main_v51, val_main_v50, val_main_v49, val_main_v48, val_main_v47, val_main_c_5, val_main_c_6]
  exact count_word r.val 8 (by omega) (by omega)

/-- Group 2: its pooled values. -/
theorem group2 (h0 : ∀ t k, x0 (ix2 t k) = (d t k : EReal)) (b : Fin 2) (r : Fin 2048) (i : Fin 512) :
    val_main_v57 (F := Ideal) x0 (ix3 b r i) = (pool d b 2 i r.val : EReal) := by
  have hx : ∀ q : Fin 2048, val_main_v41 (F := Ideal) x0 (ix3 b q i) = (rows d b 2 i q.val : EReal) := fun q => by
    unfold rows
    rw [dif_pos q.isLt, ← h0]
    pointwise [val_main_v41, val_main_v40, val_main_v3, val_main_v2, val_main_v1, val_main_v0]
  have hc : ∀ q : Fin 2048, val_main_v42 (F := Ideal) x0 (ix3 b q i) = (pre (rows d b 2 i) (q.val + 1) : EReal) := fun q => by
    unfold val_main_v42
    exact prefix_sum _ _ (fun k => by pointwise [val_main_call2_call0_v0, val_main_call2_call0_cst]) _ _ b q i _ hx
  have hs : val_main_v46 (F := Ideal) x0 (ix3 b r i) = (pre (rows d b 2 i) (r.val + 1 - 8) : EReal) := by
    pointwise [val_main_v46, val_main_v45, val_main_v44, val_main_cst_4]
    split
    · rw [show r.val + 1 - 8 = 0 by omega]; rfl
    · rw [hc]
      exact congrArg (fun n : ℕ => ((pre (rows d b 2 i) n : ℝ) : EReal)) (by show r.val - 8 + 1 = r.val + 1 - 8; omega)
  show Ideal.div (val_main_v42 (F := Ideal) x0 (ix3 b r i) - val_main_v46 (F := Ideal) x0 (ix3 b r i)) (val_main_v55 (F := Ideal) (ix3 b r i))
    - val_main_v41 (F := Ideal) x0 (ix3 b r i) = _
  rw [hc, hs, count2, ← EReal.coe_sub, pre_sub, div_nat _ _ (by omega), hx, ← EReal.coe_sub]
  rfl

/-- Group 3: the number of rows its window of 16 covers. -/
theorem count3 (b : Fin 2) (r : Fin 2048) (i : Fin 512) :
    val_main_v73 (F := Ideal) (ix3 b r i) = (((min (r.val + 1) 16 : ℕ) : ℝ) : EReal) := by
  pointwise [val_main_v73, val_main_v72, val_main_v70, val_main_v69, val_main_v68, val_main_v67, val_main_v66, val_main_v65, val_main_c_8, val_main_c_9]
  exact count_word r.val 16 (by omega) (by omega)

/-- Group 3: its pooled values. -/
theorem group3 (h0 : ∀ t k, x0 (ix2 t k) = (d t k : EReal)) (b : Fin 2) (r : Fin 2048) (i : Fin 512) :
    val_main_v75 (F := Ideal) x0 (ix3 b r i) = (pool d b 3 i r.val : EReal) := by
  have hx : ∀ q : Fin 2048, val_main_v59 (F := Ideal) x0 (ix3 b q i) = (rows d b 3 i q.val : EReal) := fun q => by
    unfold rows
    rw [dif_pos q.isLt, ← h0]
    pointwise [val_main_v59, val_main_v58, val_main_v3, val_main_v2, val_main_v1, val_main_v0]
  have hc : ∀ q : Fin 2048, val_main_v60 (F := Ideal) x0 (ix3 b q i) = (pre (rows d b 3 i) (q.val + 1) : EReal) := fun q => by
    unfold val_main_v60
    exact prefix_sum _ _ (fun k => by pointwise [val_main_call3_call0_v0, val_main_call3_call0_cst]) _ _ b q i _ hx
  have hs : val_main_v64 (F := Ideal) x0 (ix3 b r i) = (pre (rows d b 3 i) (r.val + 1 - 16) : EReal) := by
    pointwise [val_main_v64, val_main_v63, val_main_v62, val_main_cst_7]
    split
    · rw [show r.val + 1 - 16 = 0 by omega]; rfl
    · rw [hc]
      exact congrArg (fun n : ℕ => ((pre (rows d b 3 i) n : ℝ) : EReal)) (by show r.val - 16 + 1 = r.val + 1 - 16; omega)
  show Ideal.div (val_main_v60 (F := Ideal) x0 (ix3 b r i) - val_main_v64 (F := Ideal) x0 (ix3 b r i)) (val_main_v73 (F := Ideal) (ix3 b r i))
    - val_main_v59 (F := Ideal) x0 (ix3 b r i) = _
  rw [hc, hs, count3, ← EReal.coe_sub, pre_sub, div_nat _ _ (by omega), hx, ← EReal.coe_sub]
  rfl

/-- The four groups side by side. -/
theorem real_v80 (h0 : ∀ t k, x0 (ix2 t k) = (d t k : EReal)) (b : Fin 2) (r : Fin 2048) (g : Fin 4) (i : Fin 512) :
    val_main_v80 (F := Ideal) x0 (ix4 b r g i) = (pool d b g i r.val : EReal) := by
  have h : val_main_v80 (F := Ideal) x0 (ix4 b r g i)
      = if _h : g.val < 1 then val_main_v21 (F := Ideal) x0 (ix3 b r i) else if _h : g.val - 1 < 1 then val_main_v39 (F := Ideal) x0 (ix3 b r i)
        else if _h : g.val - 1 - 1 < 1 then val_main_v57 (F := Ideal) x0 (ix3 b r i) else val_main_v75 (F := Ideal) x0 (ix3 b r i) := by
    pointwise [val_main_v80, val_main_v76, val_main_v77, val_main_v78, val_main_v79]
  rw [h, group0 x0 d h0, group1 x0 d h0, group2 x0 d h0, group3 x0 d h0]
  match g with
  | ⟨0, _⟩ => simp
  | ⟨1, _⟩ => simp
  | ⟨2, _⟩ => simp
  | ⟨3, _⟩ => simp

/-- The group product. -/
theorem real_v85 (h0 : ∀ t k, x0 (ix2 t k) = (d t k : EReal)) (t : Fin 4096) (k : Fin 2048) :
    val_main_v85 (F := Ideal) x0 x1 (ix2 t k)
      = mixed d (fun g i o => x1 (ix3 g i o)) ⟨t.val / 2048, by omega⟩ ⟨k.val / 512, by omega⟩ ⟨k.val % 512, by omega⟩ (t.val % 2048) := by
  have h : val_main_v85 (F := Ideal) x0 x1 (ix2 t k)
      = ∑ i : Fin 512, x1 (ix3 ⟨k.val / 512, by omega⟩ i ⟨k.val % 512, by omega⟩)
        * val_main_v80 (F := Ideal) x0 (ix4 ⟨t.val / 2048, by omega⟩ ⟨t.val % 2048, by omega⟩ ⟨k.val / 512, by omega⟩ i) := by
    pointwise [val_main_v85, val_main_v84, val_main_v83, val_main_v82, val_main_v81]
  rw [h]
  exact Finset.sum_congr rfl fun i _ => by rw [real_v80 x0 d h0, mul_comm]

/-- The second result: the pooled values. -/
theorem real_v94 (h0 : ∀ t k, x0 (ix2 t k) = (d t k : EReal)) (t : Fin 4096) (k : Fin 2048) :
    val_main_v94 (F := Ideal) x0 (ix2 t k)
      = (pool d ⟨t.val / 2048, by omega⟩ ⟨k.val / 512, by omega⟩ ⟨k.val % 512, by omega⟩ (t.val % 2048) : EReal) := by
  refine Eq.trans ?_ (real_v80 x0 d h0 ⟨t.val / 2048, by omega⟩ ⟨t.val % 2048, by omega⟩ ⟨k.val / 512, by omega⟩ ⟨k.val % 512, by omega⟩)
  pointwise [val_main_v94, val_main_v93]

/-- The first result: the mixed values, scaled and gated. -/
theorem read_v92 (t : Fin 4096) (k : Fin 2048) :
    val_main_v92 (F := Ideal) x0 x1 x2 (ix2 t k)
      = val_main_v85 (F := Ideal) x0 x1 (ix2 t k) * x2 (ix2 (0 : Fin 1) k)
        * (x0 (ix2 t ⟨2048 + k.val, by omega⟩) * Ideal.div 1 (1 + Ideal.exp (-x0 (ix2 t ⟨2048 + k.val, by omega⟩)))) := by
  pointwise [val_main_v92, val_main_v91, val_main_v90, val_main_call4_v5, val_main_call4_v4, val_main_call4_cst_0, val_main_call4_v3, val_main_call4_cst,
    val_main_call4_v2, val_main_call4_v1, val_main_call4_v0, val_main_v89, val_main_v88, val_main_v87, val_main_v86]

end Cert.PoolFwdRef

end
-- ==== Proof.PoolFwdClaim.lean ====
/- The pooling layer's forward pass: the kernel and the reference end at the same arrays. -/
module

public import proofs.«01_k».proof.Defs
public import proofs.«01_k».proof.Proof.Finite
public import proofs.«01_k».proof.Proof.PoolFwdArray
public import proofs.«01_k».proof.Proof.PoolFwdRef
public import proofs.«01_k».proof.Proof.Gen.PoolFwdReferenceIdeal.Run
public import proofs.«01_k».proof.Proof.Gen.Pre_poolf_finite

@[expose] public section

noncomputable section

namespace Cert.PoolFwdClaim

open Idealize.ShloMosaic Idealize.SL.Sem Idealize.ShloMosaic.StableHlo

set_option maxRecDepth 16384

section
open Cert.Pre_poolf_finite Cert.Pre_poolf_finite.Gen

/-- The precondition says that the projection holds reals. -/
theorem finite (x0 : FVec Ideal S4096x4096 .bf16) (x1 : FVec Ideal S4x512x512 .bf16) (x2 : FVec Ideal S1x2048 .f32)
    (h : Cert.Pre_poolf_finite.fn (F := Ideal) x0 x1 x2 = fun _ => 1#1) : ∀ i, (x0 i : EReal) = ((EReal.toReal (x0 i) : ℝ) : EReal) := by
  have hs : Subsingleton S_.Idx := ⟨fun a b => funext fun k => k.elim0⟩
  have h' := congrFun h (fun k => k.elim0)
  dsimp only [Cert.Pre_poolf_finite.fn] at h'
  exact Cert.Finite.real_of_all _ _ _ _ _ _ (fun _ => rfl) h'
end

section
open Cert.PoolFwdKernelIdeal
variable (m : (ℓ : Loc nD τ sig) → Buf (Elt Ideal) ℓ) (c : Dev nD) (d : Fin 4096 → Fin 4096 → ℝ)
  (h0 : ∀ t k, Cert.PoolFwdArray.arg0 m c (ix2 t k) = (d t k : EReal))
include h0

/-- The gated result, -/
theorem y_eq : Cert.PoolFwdArray.y_target m d c
    = Cert.PoolFwdReferenceIdeal.Read.val_main_v92 (F := Ideal) (Cert.PoolFwdArray.arg0 m c) (Cert.PoolFwdArray.arg1 m c) (Cert.PoolFwdArray.arg2 m c) := by
  funext i
  idx_vars i
  rw [Cert.PoolFwdRef.read_v92, Cert.PoolFwdRef.real_v85 _ _ d h0]
  rfl

/-- the pooled values, -/
theorem pool_eq : Cert.PoolFwdArray.pool_target d = Cert.PoolFwdReferenceIdeal.Read.val_main_v94 (F := Ideal) (Cert.PoolFwdArray.arg0 m c) := by
  funext i
  idx_vars i
  rw [Cert.PoolFwdRef.real_v94 _ d h0]
  rfl

/-- and the group product. -/
theorem mix_eq : Cert.PoolFwdArray.mix_target m d c
    = Cert.PoolFwdReferenceIdeal.Read.val_main_v95 (F := Ideal) (Cert.PoolFwdArray.arg0 m c) (Cert.PoolFwdArray.arg1 m c) := by
  funext i
  idx_vars i
  refine Eq.trans ?_ (Cert.PoolFwdRef.real_v85 (Cert.PoolFwdArray.arg0 m c) (Cert.PoolFwdArray.arg1 m c) d h0 _ _).symm
  rfl
end

/-- The equation of the two programs. -/
theorem algebraic : Cert.algebraic_PoolFwdKernelIdeal_PoolFwdReferenceIdeal_pre_poolf_finite := by
  intro m g m' g' hpre hag
  refine ⟨fun c => Cert.PoolFwdReferenceIdeal.Read.val_main_v92 (F := Ideal) (m (c.tc.loc Cert.PoolFwdKernelIdeal.main_arg0)) (m (c.tc.loc Cert.PoolFwdKernelIdeal.main_arg1)) (m (c.tc.loc Cert.PoolFwdKernelIdeal.main_arg2)),
    fun c => Cert.PoolFwdReferenceIdeal.Read.val_main_v94 (F := Ideal) (m (c.tc.loc Cert.PoolFwdKernelIdeal.main_arg0)),
    fun c => Cert.PoolFwdReferenceIdeal.Read.val_main_v95 (F := Ideal) (m (c.tc.loc Cert.PoolFwdKernelIdeal.main_arg0)) (m (c.tc.loc Cert.PoolFwdKernelIdeal.main_arg1)), ?_, ?_⟩
  · refine (θ_run _ _ _).mono (fun r h c => ?_) (Cert.PoolFwdKernelIdeal.Value.run_blocks (F := Ideal) m g)
    have f0 := finite _ _ _ (hpre c)
    refine ⟨(h c).1.trans ?_, (h c).2.1.trans ?_, (h c).2.2.1.trans ?_, (h c).2.2.2⟩
    · exact (Cert.PoolFwdArray.final5 m _ c (fun t k => f0 (ix2 t k))).trans (y_eq m c _ fun t k => f0 (ix2 t k))
    · exact (Cert.PoolFwdArray.final6 m _ c (fun t k => f0 (ix2 t k))).trans (pool_eq m c _ fun t k => f0 (ix2 t k))
    · exact (Cert.PoolFwdArray.final7 m _ c (fun t k => f0 (ix2 t k))).trans (mix_eq m c _ fun t k => f0 (ix2 t k))
  · refine (θ_run _ _ _).mono (fun r h c => ?_) (Cert.PoolFwdReferenceIdeal.Value.run (F := Ideal) m' g')
    obtain ⟨e0, e1, e2⟩ := hag c
    refine ⟨(h c).1.trans ?_, (h c).2.1.trans ?_, (h c).2.2.1.trans ?_, (h c).2.2.2⟩
    · exact (Cert.PoolFwdReferenceIdeal.Read.val_main_v92_eq (F := Ideal) m' c).trans (congr (congr (congrArg (Cert.PoolFwdReferenceIdeal.Read.val_main_v92 (F := Ideal)) e0) e1) e2)
    · exact (Cert.PoolFwdReferenceIdeal.Read.val_main_v94_eq (F := Ideal) m' c).trans (congrArg (Cert.PoolFwdReferenceIdeal.Read.val_main_v94 (F := Ideal)) e0)
    · exact (Cert.PoolFwdReferenceIdeal.Read.val_main_v95_eq (F := Ideal) m' c).trans (congr (congrArg (Cert.PoolFwdReferenceIdeal.Read.val_main_v95 (F := Ideal)) e0) e1)

end Cert.PoolFwdClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_pool_finite
public import proofs.«01_k».proof.Proof.PoolClaim
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Pre_gate_finite
public import proofs.«01_k».proof.Proof.Gen.On_gate_columns
public import proofs.«01_k».proof.Proof.GateClaim
public import proofs.«01_k».proof.Proof.Gen.PoolGateKernel
public import proofs.«01_k».proof.Proof.Gen.PoolGateKernel.Skeleton
public import proofs.«01_k».proof.Proof.Gen.PoolGateKernel.Launch
public import proofs.«01_k».proof.Proof.Gen.PoolGateKernel.Points
public import proofs.«01_k».proof.Proof.Gen.PoolGateKernel.Frame
public import proofs.«01_k».proof.Proof.Gen.PoolGateKernelIdeal
public import proofs.«01_k».proof.Proof.Gen.PoolGateKernelIdeal.Skeleton
public import proofs.«01_k».proof.Proof.Gen.PoolGateKernelIdeal.Launch
public import proofs.«01_k».proof.Proof.Gen.PoolGateKernelIdeal.Points
public import proofs.«01_k».proof.Proof.Gen.PoolGateKernelIdeal.Frame
public import proofs.«01_k».proof.Proof.Gen.PoolGateKernelIdeal.Value
public import proofs.«01_k».proof.Proof.Gen.PoolGateReferenceIdeal
public import proofs.«01_k».proof.Proof.Gen.PoolGateReferenceIdeal.Run
public import proofs.«01_k».proof.Proof.Gen.PoolGateReferenceIdeal.Read
public import proofs.«01_k».proof.Proof.Gen.Pre_pgate_finite
public import proofs.«01_k».proof.Proof.Gen.On_pgate_columns
public import proofs.«01_k».proof.Proof.PoolGateClaim
public import proofs.«01_k».proof.Proof.Gen.RmsKernel
public import proofs.«01_k».proof.Proof.Gen.RmsKernelIdeal
public import proofs.«01_k».proof.Proof.Gen.RmsKernelIdeal.Skeleton
public import proofs.«01_k».proof.Proof.Gen.RmsKernelIdeal.Launch
public import proofs.«01_k».proof.Proof.Gen.RmsKernelIdeal.Points
public import proofs.«01_k».proof.Proof.RmsIdealFrame
public import proofs.«01_k».proof.Proof.Gen.RmsReferenceIdeal
public import proofs.«01_k».proof.Proof.Gen.RmsReferenceIdeal.Run
public import proofs.«01_k».proof.Proof.Gen.RmsReferenceIdeal.Read
public import proofs.«01_k».proof.Proof.Gen.Pre_rms_finite
public import proofs.«01_k».proof.Proof.RmsClaim
public import proofs.«01_k».proof.Proof.Gen.WoutKernel
public import proofs.«01_k».proof.Proof.Gen.WoutKernel.Skeleton
public import proofs.«01_k».proof.Proof.Gen.WoutKernel.Launch
public import proofs.«01_k».proof.Proof.Gen.WoutKernel.Points
public import proofs.«01_k».proof.Proof.Gen.WoutKernel.Frame
public import proofs.«01_k».proof.Proof.Gen.WoutKernelIdeal
public import proofs.«01_k».proof.Proof.Gen.WoutKernelIdeal.Skeleton
public import proofs.«01_k».proof.Proof.Gen.WoutKernelIdeal.Launch
public import proofs.«01_k».proof.Proof.Gen.WoutKernelIdeal.Points
public import proofs.«01_k».proof.Proof.Gen.WoutKernelIdeal.Frame
public import proofs.«01_k».proof.Proof.Gen.WoutKernelIdeal.Value
public import proofs.«01_k».proof.Proof.Gen.WoutReferenceIdeal
public import proofs.«01_k».proof.Proof.Gen.WoutReferenceIdeal.Run
public import proofs.«01_k».proof.Proof.Gen.WoutReferenceIdeal.Read
public import proofs.«01_k».proof.Proof.WoutClaim
public import proofs.«01_k».proof.Proof.Gen.SbinKernel
public import proofs.«01_k».proof.Proof.Gen.SbinKernel.Skeleton
public import proofs.«01_k».proof.Proof.Gen.SbinKernel.Launch
public import proofs.«01_k».proof.Proof.Gen.SbinKernel.Points
public import proofs.«01_k».proof.Proof.Gen.SbinKernel.Frame
public import proofs.«01_k».proof.Proof.Gen.SbinKernelIdeal
public import proofs.«01_k».proof.Proof.Gen.SbinKernelIdeal.Skeleton
public import proofs.«01_k».proof.Proof.Gen.SbinKernelIdeal.Launch
public import proofs.«01_k».proof.Proof.Gen.SbinKernelIdeal.Points
public import proofs.«01_k».proof.Proof.Gen.SbinKernelIdeal.Frame
public import proofs.«01_k».proof.Proof.Gen.SbinKernelIdeal.Value
public import proofs.«01_k».proof.Proof.Gen.SbinReferenceIdeal
public import proofs.«01_k».proof.Proof.Gen.SbinReferenceIdeal.Run
public import proofs.«01_k».proof.Proof.Gen.SbinReferenceIdeal.Read
public import proofs.«01_k».proof.Proof.SbinClaim
public import proofs.«01_k».proof.Proof.Gen.PinKernel
public import proofs.«01_k».proof.Proof.Gen.PinKernel.Skeleton
public import proofs.«01_k».proof.Proof.Gen.PinKernel.Launch
public import proofs.«01_k».proof.Proof.Gen.PinKernel.Points
public import proofs.«01_k».proof.Proof.Gen.PinKernel.Frame
public import proofs.«01_k».proof.Proof.Gen.PinKernelIdeal
public import proofs.«01_k».proof.Proof.Gen.PinKernelIdeal.Skeleton
public import proofs.«01_k».proof.Proof.Gen.PinKernelIdeal.Launch
public import proofs.«01_k».proof.Proof.Gen.PinKernelIdeal.Points
public import proofs.«01_k».proof.Proof.Gen.PinKernelIdeal.Frame
public import proofs.«01_k».proof.Proof.Gen.PinKernelIdeal.Value
public import proofs.«01_k».proof.Proof.Gen.PinReferenceIdeal
public import proofs.«01_k».proof.Proof.Gen.PinReferenceIdeal.Run
public import proofs.«01_k».proof.Proof.Gen.PinReferenceIdeal.Read
public import proofs.«01_k».proof.Proof.PinClaim
public import proofs.«01_k».proof.Proof.Gen.PwKernel
public import proofs.«01_k».proof.Proof.Gen.PwKernel.Skeleton
public import proofs.«01_k».proof.Proof.Gen.PwKernel.Launch
public import proofs.«01_k».proof.Proof.Gen.PwKernel.Points
public import proofs.«01_k».proof.Proof.Gen.PwKernel.Frame
public import proofs.«01_k».proof.Proof.Gen.PwKernelIdeal
public import proofs.«01_k».proof.Proof.Gen.PwKernelIdeal.Skeleton
public import proofs.«01_k».proof.Proof.Gen.PwKernelIdeal.Launch
public import proofs.«01_k».proof.Proof.Gen.PwKernelIdeal.Points
public import proofs.«01_k».proof.Proof.Gen.PwKernelIdeal.Frame
public import proofs.«01_k».proof.Proof.Gen.PwKernelIdeal.Value
public import proofs.«01_k».proof.Proof.Gen.PwReferenceIdeal
public import proofs.«01_k».proof.Proof.Gen.PwReferenceIdeal.Run
public import proofs.«01_k».proof.Proof.Gen.PwReferenceIdeal.Read
public import proofs.«01_k».proof.Proof.PwClaim
public import proofs.«01_k».proof.Proof.Gen.ResKernel
public import proofs.«01_k».proof.Proof.Gen.ResKernel.Skeleton
public import proofs.«01_k».proof.Proof.Gen.ResKernel.Launch
public import proofs.«01_k».proof.Proof.Gen.ResKernel.Points
public import proofs.«01_k».proof.Proof.Gen.ResKernel.Frame
public import proofs.«01_k».proof.Proof.Gen.ResKernelIdeal
public import proofs.«01_k».proof.Proof.Gen.ResKernelIdeal.Skeleton
public import proofs.«01_k».proof.Proof.Gen.ResKernelIdeal.Launch
public import proofs.«01_k».proof.Proof.Gen.ResKernelIdeal.Points
public import proofs.«01_k».proof.Proof.Gen.ResKernelIdeal.Frame
public import proofs.«01_k».proof.Proof.Gen.ResKernelIdeal.Value
public import proofs.«01_k».proof.Proof.Gen.ResReferenceIdeal
public import proofs.«01_k».proof.Proof.Gen.ResReferenceIdeal.Run
public import proofs.«01_k».proof.Proof.Gen.ResReferenceIdeal.Read
public import proofs.«01_k».proof.Proof.ResClaim
public import proofs.«01_k».proof.Proof.Gen.PprojKernel
public import proofs.«01_k».proof.Proof.Gen.PprojKernelIdeal
public import proofs.«01_k».proof.Proof.Gen.PprojKernelIdeal.Skeleton
public import proofs.«01_k».proof.Proof.Gen.PprojKernelIdeal.Launch
public import proofs.«01_k».proof.Proof.Gen.PprojKernelIdeal.Points
public import proofs.«01_k».proof.Proof.PprojIdealFrame
public import proofs.«01_k».proof.Proof.Gen.PprojReferenceIdeal
public import proofs.«01_k».proof.Proof.Gen.PprojReferenceIdeal.Run
public import proofs.«01_k».proof.Proof.Gen.PprojReferenceIdeal.Read
public import proofs.«01_k».proof.Proof.PprojClaim
public import proofs.«01_k».proof.Proof.Gen.SprojKernel
public import proofs.«01_k».proof.Proof.Gen.SprojKernelIdeal
public import proofs.«01_k».proof.Proof.Gen.SprojKernelIdeal.Skeleton
public import proofs.«01_k».proof.Proof.Gen.SprojKernelIdeal.Launch
public import proofs.«01_k».proof.Proof.Gen.SprojKernelIdeal.Points
public import proofs.«01_k».proof.Proof.SprojIdealFrame
public import proofs.«01_k».proof.Proof.SameFrames
public import proofs.«01_k».proof.Proof.Gen.SprojReferenceIdeal
public import proofs.«01_k».proof.Proof.Gen.SprojReferenceIdeal.Run
public import proofs.«01_k».proof.Proof.Gen.SprojReferenceIdeal.Read
public import proofs.«01_k».proof.Proof.SprojClaim
public import proofs.«01_k».proof.Proof.Gen.RmspKernel
public import proofs.«01_k».proof.Proof.Gen.RmspKernelIdeal
public import proofs.«01_k».proof.Proof.Gen.RmspKernelIdeal.Skeleton
public import proofs.«01_k».proof.Proof.Gen.RmspKernelIdeal.Launch
public import proofs.«01_k».proof.Proof.Gen.RmspKernelIdeal.Points
public import proofs.«01_k».proof.Proof.RmspIdealFrame
public import proofs.«01_k».proof.Proof.Gen.RmspReferenceIdeal
public import proofs.«01_k».proof.Proof.Gen.RmspReferenceIdeal.Run
public import proofs.«01_k».proof.Proof.Gen.RmspReferenceIdeal.Read
public import proofs.«01_k».proof.Proof.Gen.Pre_rmsp_finite
public import proofs.«01_k».proof.Proof.RmspClaim
public import proofs.«01_k».proof.Proof.Gen.HeadKernel
public import proofs.«01_k».proof.Proof.Gen.HeadKernel.Skeleton
public import proofs.«01_k».proof.Proof.Gen.HeadKernel.Launch
public import proofs.«01_k».proof.Proof.Gen.HeadKernel.Points
public import proofs.«01_k».proof.Proof.Gen.HeadKernel.Frame
public import proofs.«01_k».proof.Proof.Gen.HeadKernelIdeal
public import proofs.«01_k».proof.Proof.Gen.HeadKernelIdeal.Skeleton
public import proofs.«01_k».proof.Proof.Gen.HeadKernelIdeal.Launch
public import proofs.«01_k».proof.Proof.Gen.HeadKernelIdeal.Points
public import proofs.«01_k».proof.Proof.Gen.HeadKernelIdeal.Frame
public import proofs.«01_k».proof.Proof.Gen.HeadKernelIdeal.Value
public import proofs.«01_k».proof.Proof.Gen.HeadReferenceIdeal
public import proofs.«01_k».proof.Proof.Gen.HeadReferenceIdeal.Run
public import proofs.«01_k».proof.Proof.Gen.HeadReferenceIdeal.Read
public import proofs.«01_k».proof.Proof.Gen.Pre_head_finite
public import proofs.«01_k».proof.Proof.HeadClaim
public import proofs.«01_k».proof.Proof.Gen.PoolFwdKernel
public import proofs.«01_k».proof.Proof.Gen.PoolFwdKernel.Skeleton
public import proofs.«01_k».proof.Proof.Gen.PoolFwdKernel.Launch
public import proofs.«01_k».proof.Proof.Gen.PoolFwdKernel.Points
public import proofs.«01_k».proof.Proof.Gen.PoolFwdKernel.Frame
public import proofs.«01_k».proof.Proof.Gen.PoolFwdKernelIdeal
public import proofs.«01_k».proof.Proof.Gen.PoolFwdKernelIdeal.Skeleton
public import proofs.«01_k».proof.Proof.Gen.PoolFwdKernelIdeal.Launch
public import proofs.«01_k».proof.Proof.Gen.PoolFwdKernelIdeal.Points
public import proofs.«01_k».proof.Proof.Gen.PoolFwdKernelIdeal.Frame
public import proofs.«01_k».proof.Proof.Gen.PoolFwdKernelIdeal.Value
public import proofs.«01_k».proof.Proof.Gen.PoolFwdReferenceIdeal
public import proofs.«01_k».proof.Proof.Gen.PoolFwdReferenceIdeal.Run
public import proofs.«01_k».proof.Proof.Gen.PoolFwdReferenceIdeal.Read
public import proofs.«01_k».proof.Proof.Gen.Pre_poolf_finite
public import proofs.«01_k».proof.Proof.PoolFwdClaim
public import Idealize.ShloMosaic.Adequacy
public import Idealize.ShloMosaic.Init

@[expose] public section

noncomputable section

namespace Cert.Proof

open Idealize.ShloMosaic Idealize.SL.Sem

/-- The host reference's run keeps its arguments, and it declares no semaphore. -/
theorem frame_Reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The host reference's run keeps its arguments, and it declares no semaphore. -/
theorem frame_GateReference : Cert.quiescent_GateReferenceIdeal := fun m ρ _ =>
  (θ_run Cert.GateReferenceIdeal.defs _ _).mono (fun r h => ⟨fun c => (h c).2.2, sem_eq_zero_of_no_sems (by decide) r.2⟩)
    (Cert.GateReferenceIdeal.Value.run (F := Ideal) m ρ)

/-- The host reference's run keeps its arguments, and it declares no semaphore. -/
theorem frame_PoolGateReference : Cert.quiescent_PoolGateReferenceIdeal := fun m ρ _ =>
  (θ_run Cert.PoolGateReferenceIdeal.defs _ _).mono (fun r h => ⟨fun c => (h c).2.2.2, sem_eq_zero_of_no_sems (by decide) r.2⟩)
    (Cert.PoolGateReferenceIdeal.Value.run (F := Ideal) m ρ)

/-- The host reference's run keeps its arguments, and it declares no semaphore. -/
theorem frame_RmsReference : Cert.quiescent_RmsReferenceIdeal := fun m ρ _ =>
  (θ_run Cert.RmsReferenceIdeal.defs _ _).mono (fun r h => ⟨fun c => (h c).2.2.2, sem_eq_zero_of_no_sems (by decide) r.2⟩)
    (Cert.RmsReferenceIdeal.Value.run (F := Ideal) m ρ)

/-- The host reference's run keeps its arguments, and it declares no semaphore. -/
theorem frame_WoutReference : Cert.quiescent_WoutReferenceIdeal := fun m ρ _ =>
  (θ_run Cert.WoutReferenceIdeal.defs _ _).mono (fun r h => ⟨fun c => (h c).2, sem_eq_zero_of_no_sems (by decide) r.2⟩)
    (Cert.WoutReferenceIdeal.Value.run (F := Ideal) m ρ)

/-- The host reference's run keeps its arguments, and it declares no semaphore. -/
theorem frame_SbinReference : Cert.quiescent_SbinReferenceIdeal := fun m ρ _ =>
  (θ_run Cert.SbinReferenceIdeal.defs _ _).mono (fun r h => ⟨fun c => (h c).2, sem_eq_zero_of_no_sems (by decide) r.2⟩)
    (Cert.SbinReferenceIdeal.Value.run (F := Ideal) m ρ)

/-- The host reference's run keeps its arguments, and it declares no semaphore. -/
theorem frame_PinReference : Cert.quiescent_PinReferenceIdeal := fun m ρ _ =>
  (θ_run Cert.PinReferenceIdeal.defs _ _).mono (fun r h => ⟨fun c => (h c).2, sem_eq_zero_of_no_sems (by decide) r.2⟩)
    (Cert.PinReferenceIdeal.Value.run (F := Ideal) m ρ)

/-- The host reference's run keeps its arguments, and it declares no semaphore. -/
theorem frame_PwReference : Cert.quiescent_PwReferenceIdeal := fun m ρ _ =>
  (θ_run Cert.PwReferenceIdeal.defs _ _).mono (fun r h => ⟨fun c => (h c).2, sem_eq_zero_of_no_sems (by decide) r.2⟩)
    (Cert.PwReferenceIdeal.Value.run (F := Ideal) m ρ)

/-- The host reference's run keeps its arguments, and it declares no semaphore. -/
theorem frame_ResReference : Cert.quiescent_ResReferenceIdeal := fun m ρ _ =>
  (θ_run Cert.ResReferenceIdeal.defs _ _).mono (fun r h => ⟨fun c => (h c).2, sem_eq_zero_of_no_sems (by decide) r.2⟩)
    (Cert.ResReferenceIdeal.Value.run (F := Ideal) m ρ)

/-- The host reference's run keeps its arguments, and it declares no semaphore. -/
theorem frame_PprojReference : Cert.quiescent_PprojReferenceIdeal := fun m ρ _ =>
  (θ_run Cert.PprojReferenceIdeal.defs _ _).mono (fun r h => ⟨fun c => (h c).2.2, sem_eq_zero_of_no_sems (by decide) r.2⟩)
    (Cert.PprojReferenceIdeal.Value.run (F := Ideal) m ρ)

/-- The host reference's run keeps its arguments, and it declares no semaphore. -/
theorem frame_SprojReference : Cert.quiescent_SprojReferenceIdeal := fun m ρ _ =>
  (θ_run Cert.SprojReferenceIdeal.defs _ _).mono (fun r h => ⟨fun c => (h c).2.2, sem_eq_zero_of_no_sems (by decide) r.2⟩)
    (Cert.SprojReferenceIdeal.Value.run (F := Ideal) m ρ)

/-- The host reference's run keeps its arguments, and it declares no semaphore. -/
theorem frame_RmspReference : Cert.quiescent_RmspReferenceIdeal := fun m ρ _ =>
  (θ_run Cert.RmspReferenceIdeal.defs _ _).mono (fun r h => ⟨fun c => (h c).2.2, sem_eq_zero_of_no_sems (by decide) r.2⟩)
    (Cert.RmspReferenceIdeal.Value.run (F := Ideal) m ρ)

/-- The host reference's run keeps its arguments, and it declares no semaphore. -/
theorem frame_HeadReference : Cert.quiescent_HeadReferenceIdeal := fun m ρ _ =>
  (θ_run Cert.HeadReferenceIdeal.defs _ _).mono (fun r h => ⟨fun c => (h c).2.2.2.2, sem_eq_zero_of_no_sems (by decide) r.2⟩)
    (Cert.HeadReferenceIdeal.Value.run (F := Ideal) m ρ)

/-- The host reference's run keeps its arguments, and it declares no semaphore. -/
theorem frame_PoolFwdReference : Cert.quiescent_PoolFwdReferenceIdeal := fun m ρ _ =>
  (θ_run Cert.PoolFwdReferenceIdeal.defs _ _).mono (fun r h => ⟨fun c => (h c).2.2.2, sem_eq_zero_of_no_sems (by decide) r.2⟩)
    (Cert.PoolFwdReferenceIdeal.Value.run (F := Ideal) m ρ)

theorem claim : Cert.Claim :=
  ⟨Cert.Kernel.Gen.facts,
    Cert.KernelIdeal.Gen.facts,
    Cert.ReferenceIdeal.Gen.facts,
    Cert.GateKernel.Gen.facts,
    Cert.GateKernelIdeal.Gen.facts,
    Cert.GateReferenceIdeal.Gen.facts,
    Cert.PoolGateKernel.Gen.facts,
    Cert.PoolGateKernelIdeal.Gen.facts,
    Cert.PoolGateReferenceIdeal.Gen.facts,
    Cert.RmsKernel.Gen.facts,
    Cert.RmsKernelIdeal.Gen.facts,
    Cert.RmsReferenceIdeal.Gen.facts,
    Cert.WoutKernel.Gen.facts,
    Cert.WoutKernelIdeal.Gen.facts,
    Cert.WoutReferenceIdeal.Gen.facts,
    Cert.SbinKernel.Gen.facts,
    Cert.SbinKernelIdeal.Gen.facts,
    Cert.SbinReferenceIdeal.Gen.facts,
    Cert.PinKernel.Gen.facts,
    Cert.PinKernelIdeal.Gen.facts,
    Cert.PinReferenceIdeal.Gen.facts,
    Cert.PwKernel.Gen.facts,
    Cert.PwKernelIdeal.Gen.facts,
    Cert.PwReferenceIdeal.Gen.facts,
    Cert.ResKernel.Gen.facts,
    Cert.ResKernelIdeal.Gen.facts,
    Cert.ResReferenceIdeal.Gen.facts,
    Cert.PprojKernel.Gen.facts,
    Cert.PprojKernelIdeal.Gen.facts,
    Cert.PprojReferenceIdeal.Gen.facts,
    Cert.SprojKernel.Gen.facts,
    Cert.SprojKernelIdeal.Gen.facts,
    Cert.SprojReferenceIdeal.Gen.facts,
    Cert.RmspKernel.Gen.facts,
    Cert.RmspKernelIdeal.Gen.facts,
    Cert.RmspReferenceIdeal.Gen.facts,
    Cert.HeadKernel.Gen.facts,
    Cert.HeadKernelIdeal.Gen.facts,
    Cert.HeadReferenceIdeal.Gen.facts,
    Cert.PoolFwdKernel.Gen.facts,
    Cert.PoolFwdKernelIdeal.Gen.facts,
    Cert.PoolFwdReferenceIdeal.Gen.facts,
    Cert.Pre_pool_finite.Gen.facts,
    Cert.Pre_gate_finite.Gen.facts,
    Cert.Pre_pgate_finite.Gen.facts,
    Cert.Pre_rms_finite.Gen.facts,
    Cert.Pre_rmsp_finite.Gen.facts,
    Cert.Pre_head_finite.Gen.facts,
    Cert.Pre_poolf_finite.Gen.facts,
    Cert.On_gate_columns.Gen.facts,
    Cert.On_pgate_columns.Gen.facts,
    fun m ρ _ => Cert.Kernel.Gen.frame m ρ,
    fun m ρ _ => Cert.KernelIdeal.Gen.frame m ρ,
    fun m ρ _ => Cert.KernelIdeal.Gen.frame m ρ,
    frame_Reference,
    fun m ρ _ => frame_Reference m ρ trivial,
    fun m ρ _ => Cert.GateKernel.Gen.frame m ρ,
    fun m ρ _ => Cert.GateKernelIdeal.Gen.frame m ρ,
    fun m ρ _ => Cert.GateKernelIdeal.Gen.frame m ρ,
    frame_GateReference,
    fun m ρ _ => frame_GateReference m ρ trivial,
    fun m ρ _ => Cert.PoolGateKernel.Gen.frame m ρ,
    fun m ρ _ => Cert.PoolGateKernelIdeal.Gen.frame m ρ,
    fun m ρ _ => Cert.PoolGateKernelIdeal.Gen.frame m ρ,
    frame_PoolGateReference,
    fun m ρ _ => frame_PoolGateReference m ρ trivial,
    Cert.SameFrames.rms,
    fun m ρ _ => Cert.RmsIdealFrame.frame m ρ,
    fun m ρ _ => Cert.RmsIdealFrame.frame m ρ,
    frame_RmsReference,
    fun m ρ _ => frame_RmsReference m ρ trivial,
    fun m ρ _ => Cert.WoutKernel.Gen.frame m ρ,
    fun m ρ _ => Cert.WoutKernelIdeal.Gen.frame m ρ,
    frame_WoutReference,
    fun m ρ _ => Cert.SbinKernel.Gen.frame m ρ,
    fun m ρ _ => Cert.SbinKernelIdeal.Gen.frame m ρ,
    frame_SbinReference,
    fun m ρ _ => Cert.PinKernel.Gen.frame m ρ,
    fun m ρ _ => Cert.PinKernelIdeal.Gen.frame m ρ,
    frame_PinReference,
    fun m ρ _ => Cert.PwKernel.Gen.frame m ρ,
    fun m ρ _ => Cert.PwKernelIdeal.Gen.frame m ρ,
    frame_PwReference,
    fun m ρ _ => Cert.ResKernel.Gen.frame m ρ,
    fun m ρ _ => Cert.ResKernelIdeal.Gen.frame m ρ,
    frame_ResReference,
    Cert.SameFrames.pproj,
    fun m ρ _ => Cert.PprojIdealFrame.frame m ρ,
    frame_PprojReference,
    Cert.SameFrames.sproj,
    fun m ρ _ => Cert.SprojIdealFrame.frame m ρ,
    frame_SprojReference,
    Cert.SameFrames.rmsp,
    fun m ρ _ => Cert.RmspIdealFrame.frame m ρ,
    fun m ρ _ => Cert.RmspIdealFrame.frame m ρ,
    frame_RmspReference,
    fun m ρ _ => frame_RmspReference m ρ trivial,
    fun m ρ _ => Cert.HeadKernel.Gen.frame m ρ,
    fun m ρ _ => Cert.HeadKernelIdeal.Gen.frame m ρ,
    fun m ρ _ => Cert.HeadKernelIdeal.Gen.frame m ρ,
    frame_HeadReference,
    fun m ρ _ => frame_HeadReference m ρ trivial,
    fun m ρ _ => Cert.PoolFwdKernel.Gen.frame m ρ,
    fun m ρ _ => Cert.PoolFwdKernelIdeal.Gen.frame m ρ,
    fun m ρ _ => Cert.PoolFwdKernelIdeal.Gen.frame m ρ,
    frame_PoolFwdReference,
    fun m ρ _ => frame_PoolFwdReference m ρ trivial,
    trivial,
    Cert.PoolClaim.algebraic,
    trivial,
    Cert.GateClaim.algebraic,
    trivial,
    Cert.PoolGateClaim.algebraic,
    trivial,
    Cert.RmsClaim.algebraic,
    trivial,
    Cert.WoutClaim.algebraic,
    trivial,
    Cert.SbinClaim.algebraic,
    trivial,
    Cert.PinClaim.algebraic,
    trivial,
    Cert.PwClaim.algebraic,
    trivial,
    Cert.ResClaim.algebraic,
    trivial,
    Cert.PprojClaim.algebraic,
    trivial,
    Cert.SprojClaim.algebraic,
    trivial,
    Cert.RmspClaim.algebraic,
    trivial,
    Cert.HeadClaim.algebraic,
    trivial,
    Cert.PoolFwdClaim.algebraic⟩

end Cert.Proof

end
